-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S12x8192x768 : Shape := ⟨3, ![12, 8192, 768]⟩
abbrev S12x15x31 : Shape := ⟨3, ![12, 15, 31]⟩
abbrev S_ : Shape := ⟨0, ![]⟩

class Facts : Prop where
  bcast_S_S12x8192x768 : S_.BroadcastsInDim S12x8192x768 (![] : Fin 0 → Fin S12x8192x768.rank)
  reducesTo_S12x8192x768_S_d0_1_2 : S12x8192x768.ReducesTo [0, 1, 2] S_
  h_S_ : 0 < S_.numel
  bitsLt_bf16_f32 : FTy.bits .bf16 < FTy.bits .f32
  bcast_S_S12x15x31 : S_.BroadcastsInDim S12x15x31 (![] : Fin 0 → Fin S12x15x31.rank)
  reducesTo_S12x15x31_S_d0_1_2 : S12x15x31.ReducesTo [0, 1, 2] S_

variable [Facts]

def fn {F : FTy → Type} [FloatOps F] (main_arg0 : FVec F S12x8192x768 .f32) (main_arg1 : FVec F S12x8192x768 .bf16) (main_arg2 : FVec F S12x8192x768 .bf16) (main_arg3 : FVec F S12x15x31 .f32) : IVec S_ 1 :=
  let main_v0 : FVec F S12x8192x768 .f32 := Host.absf main_arg0
  let main_cst : FVec F S_ .f32 := constant S_ .f32 0x7F800000#32
  let main_v1 : FVec F S12x8192x768 .f32 := broadcastInDim S12x8192x768 ![] bcast_S_S12x8192x768 main_cst
  let main_v2 : IVec S12x8192x768 1 := cmpf .olt main_v0 main_v1
  let main_c : IVec S_ 1 := constantI S_ 1 1#1
  let main_v3 : IVec S_ 1 := (fun x v => Host.reduce IntOp.andi x v reducesTo_S12x8192x768_S_d0_1_2 h_S_) main_v2 main_c
  let main_v4 : FVec F S12x8192x768 .f32 := (extf .f32 · bitsLt_bf16_f32) main_arg1
  let main_v5 : FVec F S12x8192x768 .f32 := Host.absf main_v4
  let main_cst_0 : FVec F S_ .f32 := constant S_ .f32 0x7F800000#32
  let main_v6 : FVec F S12x8192x768 .f32 := broadcastInDim S12x8192x768 ![] bcast_S_S12x8192x768 main_cst_0
  let main_v7 : IVec S12x8192x768 1 := cmpf .olt main_v5 main_v6
  let main_c_1 : IVec S_ 1 := constantI S_ 1 1#1
  let main_v8 : IVec S_ 1 := (fun x v => Host.reduce IntOp.andi x v reducesTo_S12x8192x768_S_d0_1_2 h_S_) main_v7 main_c_1
  let main_v9 : IVec S_ 1 := andi main_v3 main_v8
  let main_v10 : FVec F S12x15x31 .f32 := Host.absf main_arg3
  let main_cst_2 : FVec F S_ .f32 := constant S_ .f32 0x7F800000#32
  let main_v11 : FVec F S12x15x31 .f32 := broadcastInDim S12x15x31 ![] bcast_S_S12x15x31 main_cst_2
  let main_v12 : IVec S12x15x31 1 := cmpf .olt main_v10 main_v11
  let main_c_3 : IVec S_ 1 := constantI S_ 1 1#1
  let main_v13 : IVec S_ 1 := (fun x v => Host.reduce IntOp.andi x v reducesTo_S12x15x31_S_d0_1_2 h_S_) main_v12 main_c_3
  let main_v14 : IVec S_ 1 := andi main_v9 main_v13
  main_v14
-- ==== Kernel.lean ====
abbrev S12x8192x768 : Shape := ⟨3, ![12, 8192, 768]⟩
abbrev S12x15x31 : Shape := ⟨3, ![12, 15, 31]⟩
abbrev S64x64 : Shape := ⟨2, ![64, 64]⟩
abbrev S_ : Shape := ⟨0, ![]⟩
abbrev S12x15x1 : Shape := ⟨3, ![12, 15, 1]⟩
abbrev S12x15x1x48 : Shape := ⟨4, ![12, 15, 1, 48]⟩
abbrev S12x15x48 : Shape := ⟨3, ![12, 15, 48]⟩
abbrev S12x15x127 : Shape := ⟨3, ![12, 15, 127]⟩
abbrev S12x15x64 : Shape := ⟨3, ![12, 15, 64]⟩
abbrev S12x15x1x64 : Shape := ⟨4, ![12, 15, 1, 64]⟩
abbrev S12x15x16x64 : Shape := ⟨4, ![12, 15, 16, 64]⟩
abbrev S12x15x64x64 : Shape := ⟨4, ![12, 15, 64, 64]⟩
abbrev S1x1x64x64 : Shape := ⟨4, ![1, 1, 64, 64]⟩
abbrev S12x14x64x64 : Shape := ⟨4, ![12, 14, 64, 64]⟩
abbrev S12x14x64x128 : Shape := ⟨4, ![12, 14, 64, 128]⟩
abbrev S6x2x14x64x128 : Shape := ⟨5, ![6, 2, 14, 64, 128]⟩
abbrev S6x14x2x64x128 : Shape := ⟨5, ![6, 14, 2, 64, 128]⟩
abbrev S6x14x128x128 : Shape := ⟨4, ![6, 14, 128, 128]⟩
abbrev S1x8192x128 : Shape := ⟨3, ![1, 8192, 128]⟩
abbrev S1x14x128x128 : Shape := ⟨4, ![1, 14, 128, 128]⟩
abbrev S2x2x128x512 : Shape := ⟨4, ![2, 2, 128, 512]⟩
abbrev S2x2x128x128 : Shape := ⟨4, ![2, 2, 128, 128]⟩
abbrev S64x128 : Shape := ⟨2, ![64, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x128 : Shape := ⟨4, ![1, 1, 128, 128]⟩
abbrev S1x1x128x512 : Shape := ⟨4, ![1, 1, 128, 512]⟩
abbrev S128 : Shape := ⟨1, ![128]⟩
abbrev S128x1 : Shape := ⟨2, ![128, 1]⟩

abbrev nBuf : Space → Nat
  | .hbm => 173
  | .vmem => 13
  | .smem => 0
  | _ => 0

abbrev hbmTy0_0 (i : Nat) : BufTy := match i % 128 with
  | 0 => ⟨S12x8192x768, .f32⟩
  | 1 => ⟨S12x8192x768, .bf16⟩
  | 2 => ⟨S12x8192x768, .bf16⟩
  | 3 => ⟨S12x15x31, .f32⟩
  | 4 => ⟨S64x64, .i1⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S12x8192x768, .f32⟩
  | 12 => ⟨S12x8192x768, .f32⟩
  | 13 => ⟨S12x8192x768, .bf16⟩
  | 14 => ⟨S_, .f32⟩
  | 15 => ⟨S_, .f32⟩
  | 16 => ⟨S_, .f32⟩
  | 17 => ⟨S_, .f32⟩
  | 18 => ⟨S12x15x31, .f32⟩
  | 19 => ⟨S12x15x31, .f32⟩
  | 20 => ⟨S12x15x1, .f32⟩
  | 21 => ⟨S12x15x1x48, .f32⟩
  | 22 => ⟨S12x15x48, .f32⟩
  | 23 => ⟨S12x15x1, .f32⟩
  | 24 => ⟨S12x15x1x48, .f32⟩
  | 25 => ⟨S12x15x48, .f32⟩
  | 26 => ⟨S12x15x127, .f32⟩
  | 27 => ⟨S12x15x64, .f32⟩
  | 28 => ⟨S12x15x64, .f32⟩
  | 29 => ⟨S12x15x64, .f32⟩
  | 30 => ⟨S12x15x64, .f32⟩
  | 31 => ⟨S12x15x64, .f32⟩
  | 32 => ⟨S12x15x64, .f32⟩
  | 33 => ⟨S12x15x64, .f32⟩
  | 34 => ⟨S12x15x64, .f32⟩
  | 35 => ⟨S12x15x64, .f32⟩
  | 36 => ⟨S12x15x64, .f32⟩
  | 37 => ⟨S12x15x64, .f32⟩
  | 38 => ⟨S12x15x64, .f32⟩
  | 39 => ⟨S12x15x64, .f32⟩
  | 40 => ⟨S12x15x64, .f32⟩
  | 41 => ⟨S12x15x64, .f32⟩
  | 42 => ⟨S12x15x64, .f32⟩
  | 43 => ⟨S12x15x64, .f32⟩
  | 44 => ⟨S12x15x64, .f32⟩
  | 45 => ⟨S12x15x64, .f32⟩
  | 46 => ⟨S12x15x64, .f32⟩
  | 47 => ⟨S12x15x64, .f32⟩
  | 48 => ⟨S12x15x64, .f32⟩
  | 49 => ⟨S12x15x64, .f32⟩
  | 50 => ⟨S12x15x64, .f32⟩
  | 51 => ⟨S12x15x64, .f32⟩
  | 52 => ⟨S12x15x64, .f32⟩
  | 53 => ⟨S12x15x64, .f32⟩
  | 54 => ⟨S12x15x64, .f32⟩
  | 55 => ⟨S12x15x64, .f32⟩
  | 56 => ⟨S12x15x64, .f32⟩
  | 57 => ⟨S12x15x64, .f32⟩
  | 58 => ⟨S12x15x64, .f32⟩
  | 59 => ⟨S12x15x64, .f32⟩
  | 60 => ⟨S12x15x64, .f32⟩
  | 61 => ⟨S12x15x64, .f32⟩
  | 62 => ⟨S12x15x64, .f32⟩
  | 63 => ⟨S12x15x64, .f32⟩
  | 64 => ⟨S12x15x64, .f32⟩
  | 65 => ⟨S12x15x64, .f32⟩
  | 66 => ⟨S12x15x64, .f32⟩
  | 67 => ⟨S12x15x64, .f32⟩
  | 68 => ⟨S12x15x64, .f32⟩
  | 69 => ⟨S12x15x64, .f32⟩
  | 70 => ⟨S12x15x64, .f32⟩
  | 71 => ⟨S12x15x64, .f32⟩
  | 72 => ⟨S12x15x64, .f32⟩
  | 73 => ⟨S12x15x64, .f32⟩
  | 74 => ⟨S12x15x64, .f32⟩
  | 75 => ⟨S12x15x64, .f32⟩
  | 76 => ⟨S12x15x64, .f32⟩
  | 77 => ⟨S12x15x64, .f32⟩
  | 78 => ⟨S12x15x64, .f32⟩
  | 79 => ⟨S12x15x64, .f32⟩
  | 80 => ⟨S12x15x64, .f32⟩
  | 81 => ⟨S12x15x64, .f32⟩
  | 82 => ⟨S12x15x64, .f32⟩
  | 83 => ⟨S12x15x64, .f32⟩
  | 84 => ⟨S12x15x64, .f32⟩
  | 85 => ⟨S12x15x64, .f32⟩
  | 86 => ⟨S12x15x64, .f32⟩
  | 87 => ⟨S12x15x64, .f32⟩
  | 88 => ⟨S12x15x64, .f32⟩
  | 89 => ⟨S12x15x64, .f32⟩
  | 90 => ⟨S12x15x64, .f32⟩
  | 91 => ⟨S12x15x1x64, .f32⟩
  | 92 => ⟨S12x15x1x64, .f32⟩
  | 93 => ⟨S12x15x1x64, .f32⟩
  | 94 => ⟨S12x15x1x64, .f32⟩
  | 95 => ⟨S12x15x1x64, .f32⟩
  | 96 => ⟨S12x15x1x64, .f32⟩
  | 97 => ⟨S12x15x1x64, .f32⟩
  | 98 => ⟨S12x15x1x64, .f32⟩
  | 99 => ⟨S12x15x1x64, .f32⟩
  | 100 => ⟨S12x15x1x64, .f32⟩
  | 101 => ⟨S12x15x1x64, .f32⟩
  | 102 => ⟨S12x15x1x64, .f32⟩
  | 103 => ⟨S12x15x1x64, .f32⟩
  | 104 => ⟨S12x15x1x64, .f32⟩
  | 105 => ⟨S12x15x1x64, .f32⟩
  | 106 => ⟨S12x15x1x64, .f32⟩
  | 107 => ⟨S12x15x1x64, .f32⟩
  | 108 => ⟨S12x15x1x64, .f32⟩
  | 109 => ⟨S12x15x1x64, .f32⟩
  | 110 => ⟨S12x15x1x64, .f32⟩
  | 111 => ⟨S12x15x1x64, .f32⟩
  | 112 => ⟨S12x15x1x64, .f32⟩
  | 113 => ⟨S12x15x1x64, .f32⟩
  | 114 => ⟨S12x15x1x64, .f32⟩
  | 115 => ⟨S12x15x1x64, .f32⟩
  | 116 => ⟨S12x15x1x64, .f32⟩
  | 117 => ⟨S12x15x1x64, .f32⟩
  | 118 => ⟨S12x15x1x64, .f32⟩
  | 119 => ⟨S12x15x1x64, .f32⟩
  | 120 => ⟨S12x15x1x64, .f32⟩
  | 121 => ⟨S12x15x1x64, .f32⟩
  | 122 => ⟨S12x15x1x64, .f32⟩
  | 123 => ⟨S12x15x1x64, .f32⟩
  | 124 => ⟨S12x15x1x64, .f32⟩
  | 125 => ⟨S12x15x1x64, .f32⟩
  | 126 => ⟨S12x15x1x64, .f32⟩
  | 127 => ⟨S12x15x1x64, .f32⟩
  | _ => ⟨S12x8192x768, .f32⟩

abbrev hbmTy0_1 (i : Nat) : BufTy := match i % 128 with
  | 0 => ⟨S12x15x1x64, .f32⟩
  | 1 => ⟨S12x15x1x64, .f32⟩
  | 2 => ⟨S12x15x1x64, .f32⟩
  | 3 => ⟨S12x15x1x64, .f32⟩
  | 4 => ⟨S12x15x1x64, .f32⟩
  | 5 => ⟨S12x15x1x64, .f32⟩
  | 6 => ⟨S12x15x1x64, .f32⟩
  | 7 => ⟨S12x15x1x64, .f32⟩
  | 8 => ⟨S12x15x1x64, .f32⟩
  | 9 => ⟨S12x15x1x64, .f32⟩
  | 10 => ⟨S12x15x1x64, .f32⟩
  | 11 => ⟨S12x15x1x64, .f32⟩
  | 12 => ⟨S12x15x1x64, .f32⟩
  | 13 => ⟨S12x15x1x64, .f32⟩
  | 14 => ⟨S12x15x1x64, .f32⟩
  | 15 => ⟨S12x15x1x64, .f32⟩
  | 16 => ⟨S12x15x1x64, .f32⟩
  | 17 => ⟨S12x15x1x64, .f32⟩
  | 18 => ⟨S12x15x1x64, .f32⟩
  | 19 => ⟨S12x15x1x64, .f32⟩
  | 20 => ⟨S12x15x1x64, .f32⟩
  | 21 => ⟨S12x15x1x64, .f32⟩
  | 22 => ⟨S12x15x1x64, .f32⟩
  | 23 => ⟨S12x15x1x64, .f32⟩
  | 24 => ⟨S12x15x1x64, .f32⟩
  | 25 => ⟨S12x15x1x64, .f32⟩
  | 26 => ⟨S12x15x1x64, .f32⟩
  | 27 => ⟨S12x15x16x64, .f32⟩
  | 28 => ⟨S12x15x16x64, .f32⟩
  | 29 => ⟨S12x15x16x64, .f32⟩
  | 30 => ⟨S12x15x16x64, .f32⟩
  | 31 => ⟨S12x15x64x64, .f32⟩
  | 32 => ⟨S1x1x64x64, .i1⟩
  | 33 => ⟨S_, .f32⟩
  | 34 => ⟨S_, .f32⟩
  | 35 => ⟨S12x15x64x64, .i1⟩
  | 36 => ⟨S12x15x64x64, .f32⟩
  | 37 => ⟨S12x15x64x64, .f32⟩
  | 38 => ⟨S12x14x64x64, .f32⟩
  | 39 => ⟨S12x14x64x64, .f32⟩
  | 40 => ⟨S12x14x64x128, .f32⟩
  | 41 => ⟨S6x2x14x64x128, .f32⟩
  | 42 => ⟨S6x14x2x64x128, .f32⟩
  | 43 => ⟨S6x14x128x128, .f32⟩
  | 44 => ⟨S12x8192x768, .bf16⟩
  | _ => ⟨S12x8192x768, .f32⟩

abbrev hbmTy (i : Nat) : BufTy := match i / 128 with
  | 0 => hbmTy0_0 i
  | 1 => hbmTy0_1 i
  | _ => ⟨S12x8192x768, .f32⟩

abbrev bufTy : (tb : Table) → Fin (tcTables nBuf tb) → BufTy
  | .hbm, ⟨i, _⟩ => hbmTy i
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x14x128x128, .f32⟩
  | .local _ .vmem, ⟨7, _⟩ => ⟨S1x14x128x128, .f32⟩
  | .local _ .vmem, ⟨8, _⟩ => ⟨S1x8192x128, .bf16⟩
  | .local _ .vmem, ⟨9, _⟩ => ⟨S1x8192x128, .bf16⟩
  | .local _ .vmem, ⟨10, _⟩ => ⟨S2x2x128x512, .f32⟩
  | .local _ .vmem, ⟨11, _⟩ => ⟨S2x2x128x512, .bf16⟩
  | .local _ .vmem, ⟨12, _⟩ => ⟨S2x2x128x128, .f32⟩
  | _, _ => ⟨S12x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_cst_4 : Ref sig .tc := ⟨.hbm, 161, rfl⟩
abbrev main_call0_v0 : Ref sig .tc := ⟨.hbm, 162, rfl⟩
abbrev main_call0_v1 : Ref sig .tc := ⟨.hbm, 163, rfl⟩
abbrev main_call0_v2 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 6], ![false, false]⟩

def k0_mult1 : BitVec 32 :=
  let c120_i32 : BitVec 32 := 120#32
  let c0_i32_131 : BitVec 32 := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let c0_i32_127 : BitVec 32 := 0#32
  let v136 : BitVec 32 := Scalar.addi v135 c0_i32_127
  let c2_i32_128 : BitVec 32 := 2#32
  let v137 : BitVec 32 := Scalar.subi v136 c2_i32_128
  let c2_i32_129 : BitVec 32 := 2#32
  let v138 : BitVec 32 := Scalar.muli v137 c2_i32_129
  let c0_i32_130 : BitVec 32 := 0#32
  let v139 : BitVec 32 := Scalar.addi v138 c0_i32_130
  let c4_i32 : BitVec 32 := 4#32
  let v140 : BitVec 32 := Scalar.subi v139 c4_i32
  let v141 : BitVec 32 := Scalar.maxsi c0_i32_131 v140
  let v142 : BitVec 32 := Scalar.minsi c120_i32 v141
  let c64_i32_132 : BitVec 32 := 64#32
  let v143 : BitVec 32 := Scalar.muli v142 c64_i32_132
  v143
def k0_off1 (c0_i32_127 : BitVec 32) (c0_i32_130 : BitVec 32) : Fin 3 → Nat :=
  let c0_133 : Index := 0#32
  let c120_i32 : BitVec 32 := 120#32
  let c0_i32_131 : BitVec 32 := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let v136 : BitVec 32 := Scalar.addi v135 c0_i32_127
  let c2_i32_128 : BitVec 32 := 2#32
  let v137 : BitVec 32 := Scalar.subi v136 c2_i32_128
  let c2_i32_129 : BitVec 32 := 2#32
  let v138 : BitVec 32 := Scalar.muli v137 c2_i32_129
  let v139 : BitVec 32 := Scalar.addi v138 c0_i32_130
  let c4_i32 : BitVec 32 := 4#32
  let v140 : BitVec 32 := Scalar.subi v139 c4_i32
  let v141 : BitVec 32 := Scalar.maxsi c0_i32_131 v140
  let v142 : BitVec 32 := Scalar.minsi c120_i32 v141
  let c64_i32_132 : BitVec 32 := 64#32
  let v143 : BitVec 32 := Scalar.muli v142 c64_i32_132
  let v144 : BitVec 32 := v143
  let v145 : Index := Scalar.indexCast v144
  let c0_134 : Index := 0#32
  ![0, v145.toNat, 0]
def k0_mult2 : BitVec 32 :=
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let c0_i32_127 : BitVec 32 := 0#32
  let v136 : BitVec 32 := Scalar.addi v135 c0_i32_127
  let c2_i32_128 : BitVec 32 := 2#32
  let v137 : BitVec 32 := Scalar.subi v136 c2_i32_128
  let c2_i32_129 : BitVec 32 := 2#32
  let v138 : BitVec 32 := Scalar.muli v137 c2_i32_129
  let c0_i32_130 : BitVec 32 := 0#32
  let v139 : BitVec 32 := Scalar.addi v138 c0_i32_130
  let c64_i32_144 : BitVec 32 := 64#32
  let v158 : BitVec 32 := Scalar.muli v139 c64_i32_144
  v158
def k0_off2 (c0_i32_127 : BitVec 32) (c0_i32_130 : BitVec 32) : Fin 3 → Nat :=
  let c0_145 : Index := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let v136 : BitVec 32 := Scalar.addi v135 c0_i32_127
  let c2_i32_128 : BitVec 32 := 2#32
  let v137 : BitVec 32 := Scalar.subi v136 c2_i32_128
  let c2_i32_129 : BitVec 32 := 2#32
  let v138 : BitVec 32 := Scalar.muli v137 c2_i32_129
  let v139 : BitVec 32 := Scalar.addi v138 c0_i32_130
  let c64_i32_144 : BitVec 32 := 64#32
  let v158 : BitVec 32 := Scalar.muli v139 c64_i32_144
  let v159 : BitVec 32 := v158
  let v160 : Index := Scalar.indexCast v159
  let c0_146 : Index := 0#32
  ![0, v160.toNat, 0]
def k0_mult3 : BitVec 32 :=
  let c120_i32_151 : BitVec 32 := 120#32
  let c0_i32_150 : BitVec 32 := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let c0_i32_127 : BitVec 32 := 0#32
  let v136 : BitVec 32 := Scalar.addi v135 c0_i32_127
  let c2_i32_147 : BitVec 32 := 2#32
  let v164 : BitVec 32 := Scalar.muli v136 c2_i32_147
  let c0_i32_148 : BitVec 32 := 0#32
  let v165 : BitVec 32 := Scalar.addi v164 c0_i32_148
  let c4_i32_149 : BitVec 32 := 4#32
  let v166 : BitVec 32 := Scalar.subi v165 c4_i32_149
  let v167 : BitVec 32 := Scalar.maxsi c0_i32_150 v166
  let v168 : BitVec 32 := Scalar.minsi c120_i32_151 v167
  let c64_i32_152 : BitVec 32 := 64#32
  let v169 : BitVec 32 := Scalar.muli v168 c64_i32_152
  v169
def k0_mult4 : BitVec 32 :=
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let c0_i32_127 : BitVec 32 := 0#32
  let v136 : BitVec 32 := Scalar.addi v135 c0_i32_127
  let c2_i32_147 : BitVec 32 := 2#32
  let v164 : BitVec 32 := Scalar.muli v136 c2_i32_147
  let c0_i32_148 : BitVec 32 := 0#32
  let v165 : BitVec 32 := Scalar.addi v164 c0_i32_148
  let c64_i32_153 : BitVec 32 := 64#32
  let v173 : BitVec 32 := Scalar.muli v165 c64_i32_153
  v173
def k0_off3 (c0_i32_127 : BitVec 32) (c0_i32_148 : BitVec 32) : Fin 3 → Nat :=
  let c0_154 : Index := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let v136 : BitVec 32 := Scalar.addi v135 c0_i32_127
  let c2_i32_147 : BitVec 32 := 2#32
  let v164 : BitVec 32 := Scalar.muli v136 c2_i32_147
  let v165 : BitVec 32 := Scalar.addi v164 c0_i32_148
  let c64_i32_153 : BitVec 32 := 64#32
  let v173 : BitVec 32 := Scalar.muli v165 c64_i32_153
  let v174 : BitVec 32 := v173
  let v175 : Index := Scalar.indexCast v174
  let c0_155 : Index := 0#32
  ![0, v175.toNat, 0]
def k0_off4 (c0_i32_127 : BitVec 32) (c0_i32_148 : BitVec 32) : Fin 3 → Nat :=
  let c0_157 : Index := 0#32
  let c120_i32_151 : BitVec 32 := 120#32
  let c0_i32_150 : BitVec 32 := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let v136 : BitVec 32 := Scalar.addi v135 c0_i32_127
  let c2_i32_147 : BitVec 32 := 2#32
  let v164 : BitVec 32 := Scalar.muli v136 c2_i32_147
  let v165 : BitVec 32 := Scalar.addi v164 c0_i32_148
  let c4_i32_149 : BitVec 32 := 4#32
  let v166 : BitVec 32 := Scalar.subi v165 c4_i32_149
  let v167 : BitVec 32 := Scalar.maxsi c0_i32_150 v166
  let v168 : BitVec 32 := Scalar.minsi c120_i32_151 v167
  let c64_i32_152 : BitVec 32 := 64#32
  let v169 : BitVec 32 := Scalar.muli v168 c64_i32_152
  let v170 : BitVec 32 := v169
  let v182 : Index := Scalar.indexCast v170
  let c0_158 : Index := 0#32
  ![0, v182.toNat, 0]
def k0_off5 (c0_i32_127 : BitVec 32) (c0_i32_148 : BitVec 32) (c0_i32_160 : BitVec 32) : Fin 4 → Nat :=
  let c0_161 : Index := 0#32
  let c120_i32_151 : BitVec 32 := 120#32
  let c0_i32_150 : BitVec 32 := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let v136 : BitVec 32 := Scalar.addi v135 c0_i32_127
  let c2_i32_147 : BitVec 32 := 2#32
  let v164 : BitVec 32 := Scalar.muli v136 c2_i32_147
  let v165 : BitVec 32 := Scalar.addi v164 c0_i32_148
  let c4_i32_149 : BitVec 32 := 4#32
  let v166 : BitVec 32 := Scalar.subi v165 c4_i32_149
  let v167 : BitVec 32 := Scalar.maxsi c0_i32_150 v166
  let v168 : BitVec 32 := Scalar.minsi c120_i32_151 v167
  let v171 : BitVec 32 := Scalar.subi v168 v165
  let c7_i32 : BitVec 32 := 7#32
  let v172 : BitVec 32 := Scalar.addi v171 c7_i32
  let v186 : BitVec 32 := Scalar.addi v172 c0_i32_160
  let v187 : Index := Scalar.indexCast v186
  let c0_162 : Index := 0#32
  let c0_163 : Index := 0#32
  ![0, v187.toNat, 0, 0]
def k0_mult5 : BitVec 32 :=
  let c120_i32_198 : BitVec 32 := 120#32
  let c0_i32_197 : BitVec 32 := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let c0_i32_127 : BitVec 32 := 0#32
  let v136 : BitVec 32 := Scalar.addi v135 c0_i32_127
  let c2_i32_194 : BitVec 32 := 2#32
  let v227 : BitVec 32 := Scalar.subi v136 c2_i32_194
  let c2_i32_195 : BitVec 32 := 2#32
  let v228 : BitVec 32 := Scalar.muli v227 c2_i32_195
  let c1_i32 : BitVec 32 := 1#32
  let v229 : BitVec 32 := Scalar.addi v228 c1_i32
  let c4_i32_196 : BitVec 32 := 4#32
  let v230 : BitVec 32 := Scalar.subi v229 c4_i32_196
  let v231 : BitVec 32 := Scalar.maxsi c0_i32_197 v230
  let v232 : BitVec 32 := Scalar.minsi c120_i32_198 v231
  let c64_i32_199 : BitVec 32 := 64#32
  let v233 : BitVec 32 := Scalar.muli v232 c64_i32_199
  v233
def k0_mult6 : BitVec 32 :=
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let c0_i32_127 : BitVec 32 := 0#32
  let v136 : BitVec 32 := Scalar.addi v135 c0_i32_127
  let c2_i32_194 : BitVec 32 := 2#32
  let v227 : BitVec 32 := Scalar.subi v136 c2_i32_194
  let c2_i32_195 : BitVec 32 := 2#32
  let v228 : BitVec 32 := Scalar.muli v227 c2_i32_195
  let c1_i32 : BitVec 32 := 1#32
  let v229 : BitVec 32 := Scalar.addi v228 c1_i32
  let c64_i32_211 : BitVec 32 := 64#32
  let v248 : BitVec 32 := Scalar.muli v229 c64_i32_211
  v248
def k0_mult7 : BitVec 32 :=
  let c120_i32_218 : BitVec 32 := 120#32
  let c0_i32_217 : BitVec 32 := 0#32
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let c0_i32_127 : BitVec 32 := 0#32
  let v136 : BitVec 32 := Scalar.addi v135 c0_i32_127
  let c2_i32_214 : BitVec 32 := 2#32
  let v254 : BitVec 32 := Scalar.muli v136 c2_i32_214
  let c1_i32_215 : BitVec 32 := 1#32
  let v255 : BitVec 32 := Scalar.addi v254 c1_i32_215
  let c4_i32_216 : BitVec 32 := 4#32
  let v256 : BitVec 32 := Scalar.subi v255 c4_i32_216
  let v257 : BitVec 32 := Scalar.maxsi c0_i32_217 v256
  let v258 : BitVec 32 := Scalar.minsi c120_i32_218 v257
  let c64_i32_219 : BitVec 32 := 64#32
  let v259 : BitVec 32 := Scalar.muli v258 c64_i32_219
  v259
def k0_mult8 : BitVec 32 :=
  let c2_i32 : BitVec 32 := 2#32
  let c62_i32 : BitVec 32 := 62#32
  let c0_i32_126 : BitVec 32 := 0#32
  let v134 : BitVec 32 := Scalar.muli c62_i32 c0_i32_126
  let v135 : BitVec 32 := Scalar.addi c2_i32 v134
  let c0_i32_127 : BitVec 32 := 0#32
  let v136 : BitVec 32 := Scalar.addi v135 c0_i32_127
  let c2_i32_214 : BitVec 32 := 2#32
  let v254 : BitVec 32 := Scalar.muli v136 c2_i32_214
  let c1_i32_215 : BitVec 32 := 1#32
  let v255 : BitVec 32 := Scalar.addi v254 c1_i32_215
  let c64_i32_221 : BitVec 32 := 64#32
  let v263 : BitVec 32 := Scalar.muli v255 c64_i32_221
  v263
def k0_mult9 : BitVec 32 :=
  let c120_i32_271 : BitVec 32 := 120#32
  let c0_i32_270 : BitVec 32 := 0#32
  let c2_i32_264 : BitVec 32 := 2#32
  let c62_i32_263 : BitVec 32 := 62#32
  let c0_i32_126 : BitVec 32 := 0#32
  let v317 : BitVec 32 := Scalar.muli c62_i32_263 c0_i32_126
  let v318 : BitVec 32 := Scalar.addi c2_i32_264 v317
  let c1_i32_265 : BitVec 32 := 1#32
  let v319 : BitVec 32 := Scalar.addi v318 c1_i32_265
  let c2_i32_266 : BitVec 32 := 2#32
  let v320 : BitVec 32 := Scalar.subi v319 c2_i32_266
  let c2_i32_267 : BitVec 32 := 2#32
  let v321 : BitVec 32 := Scalar.muli v320 c2_i32_267
  let c0_i32_268 : BitVec 32 := 0#32
  let v322 : BitVec 32 := Scalar.addi v321 c0_i32_268
  let c4_i32_269 : BitVec 32 := 4#32
  let v323 : BitVec 32 := Scalar.subi v322 c4_i32_269
  let v324 : BitVec 32 := Scalar.maxsi c0_i32_270 v323
  let v325 : BitVec 32 := Scalar.minsi c120_i32_271 v324
  let c64_i32_272 : BitVec 32 := 64#32
  let v326 : BitVec 32 := Scalar.muli v325 c64_i32_272
  v326
def k0_mult10 : BitVec 32 :=
  let c2_i32_264 : BitVec 32 := 2#32
  let c62_i32_263 : BitVec 32 := 62#32
  let c0_i32_126 : BitVec 32 := 0#32
  let v317 : BitVec 32 := Scalar.muli c62_i32_263 c0_i32_126
  let v318 : BitVec 32 := Scalar.addi c2_i32_264 v317
  let c1_i32_265 : BitVec 32 := 1#32
  let v319 : BitVec 32 := Scalar.addi v318 c1_i32_265
  let c2_i32_266 : BitVec 32 := 2#32
  let v320 : BitVec 32 := Scalar.subi v319 c2_i32_266
  let c2_i32_267 : BitVec 32 := 2#32
  let v321 : BitVec 32 := Scalar.muli v320 c2_i32_267
  let c0_i32_268 : BitVec 32 := 0#32
  let v322 : BitVec 32 := Scalar.addi v321 c0_i32_268
  let c64_i32_284 : BitVec 32 := 64#32
  let v341 : BitVec 32 := Scalar.muli v322 c64_i32_284
  v341
def k0_mult11 : BitVec 32 :=
  let c120_i32_291 : BitVec 32 := 120#32
  let c0_i32_290 : BitVec 32 := 0#32
  let c2_i32_264 : BitVec 32 := 2#32
  let c62_i32_263 : BitVec 32 := 62#32
  let c0_i32_126 : BitVec 32 := 0#32
  let v317 : BitVec 32 := Scalar.muli c62_i32_263 c0_i32_126
  let v318 : BitVec 32 := Scalar.addi c2_i32_264 v317
  let c1_i32_265 : BitVec 32 := 1#32
  let v319 : BitVec 32 := Scalar.addi v318 c1_i32_265
  let c2_i32_287 : BitVec 32 := 2#32
  let v347 : BitVec 32 := Scalar.muli v319 c2_i32_287
  let c0_i32_288 : BitVec 32 := 0#32
  let v348 : BitVec 32 := Scalar.addi v347 c0_i32_288
  let c4_i32_289 : BitVec 32 := 4#32
  let v349 : BitVec 32 := Scalar.subi v348 c4_i32_289
  let v350 : BitVec 32 := Scalar.maxsi c0_i32_290 v349
  let v351 : BitVec 32 := Scalar.minsi c120_i32_291 v350
  let c64_i32_292 : BitVec 32 := 64#32
  let v352 : BitVec 32 := Scalar.muli v351 c64_i32_292
  v352
def k0_mult12 : BitVec 32 :=
  let c2_i32_264 : BitVec 32 := 2#32
  let c62_i32_263 : BitVec 32 := 62#32
  let c0_i32_126 : BitVec 32 := 0#32
  let v317 : BitVec 32 := Scalar.muli c62_i32_263 c0_i32_126
  let v318 : BitVec 32 := Scalar.addi c2_i32_264 v317
  let c1_i32_265 : BitVec 32 := 1#32
  let v319 : BitVec 32 := Scalar.addi v318 c1_i32_265
  let c2_i32_287 : BitVec 32 := 2#32
  let v347 : BitVec 32 := Scalar.muli v319 c2_i32_287
  let c0_i32_288 : BitVec 32 := 0#32
  let v348 : BitVec 32 := Scalar.addi v347 c0_i32_288
  let c64_i32_294 : BitVec 32 := 64#32
  let v356 : BitVec 32 := Scalar.muli v348 c64_i32_294
  v356
def k0_mult13 : BitVec 32 :=
  let c120_i32_341 : BitVec 32 := 120#32
  let c0_i32_340 : BitVec 32 := 0#32
  let c2_i32_264 : BitVec 32 := 2#32
  let c62_i32_263 : BitVec 32 := 62#32
  let c0_i32_126 : BitVec 32 := 0#32
  let v317 : BitVec 32 := Scalar.muli c62_i32_263 c0_i32_126
  let v318 : BitVec 32 := Scalar.addi c2_i32_264 v317
  let c1_i32_265 : BitVec 32 := 1#32
  let v319 : BitVec 32 := Scalar.addi v318 c1_i32_265
  let c2_i32_336 : BitVec 32 := 2#32
  let v410 : BitVec 32 := Scalar.subi v319 c2_i32_336
  let c2_i32_337 : BitVec 32 := 2#32
  let v411 : BitVec 32 := Scalar.muli v410 c2_i32_337
  let c1_i32_338 : BitVec 32 := 1#32
  let v412 : BitVec 32 := Scalar.addi v411 c1_i32_338
  let c4_i32_339 : BitVec 32 := 4#32
  let v413 : BitVec 32 := Scalar.subi v412 c4_i32_339
  let v414 : BitVec 32 := Scalar.maxsi c0_i32_340 v413
  let v415 : BitVec 32 := Scalar.minsi c120_i32_341 v414
  let c64_i32_342 : BitVec 32 := 64#32
  let v416 : BitVec 32 := Scalar.muli v415 c64_i32_342
  v416
def k0_mult14 : BitVec 32 :=
  let c2_i32_264 : BitVec 32 := 2#32
  let c62_i32_263 : BitVec 32 := 62#32
  let c0_i32_126 : BitVec 32 := 0#32
  let v317 : BitVec 32 := Scalar.muli c62_i32_263 c0_i32_126
  let v318 : BitVec 32 := Scalar.addi c2_i32_264 v317
  let c1_i32_265 : BitVec 32 := 1#32
  let v319 : BitVec 32 := Scalar.addi v318 c1_i32_265
  let c2_i32_336 : BitVec 32 := 2#32
  let v410 : BitVec 32 := Scalar.subi v319 c2_i32_336
  let c2_i32_337 : BitVec 32 := 2#32
  let v411 : BitVec 32 := Scalar.muli v410 c2_i32_337
  let c1_i32_338 : BitVec 32 := 1#32
  let v412 : BitVec 32 := Scalar.addi v411 c1_i32_338
  let c64_i32_354 : BitVec 32 := 64#32
  let v431 : BitVec 32 := Scalar.muli v412 c64_i32_354
  v431
def k0_mult15 : BitVec 32 :=
  let c120_i32_361 : BitVec 32 := 120#32
  let c0_i32_360 : BitVec 32 := 0#32
  let c2_i32_264 : BitVec 32 := 2#32
  let c62_i32_263 : BitVec 32 := 62#32
  let c0_i32_126 : BitVec 32 := 0#32
  let v317 : BitVec 32 := Scalar.muli c62_i32_263 c0_i32_126
  let v318 : BitVec 32 := Scalar.addi c2_i32_264 v317
  let c1_i32_265 : BitVec 32 := 1#32
  let v319 : BitVec 32 := Scalar.addi v318 c1_i32_265
  let c2_i32_357 : BitVec 32 := 2#32
  let v437 : BitVec 32 := Scalar.muli v319 c2_i32_357
  let c1_i32_358 : BitVec 32 := 1#32
  let v438 : BitVec 32 := Scalar.addi v437 c1_i32_358
  let c4_i32_359 : BitVec 32 := 4#32
  let v439 : BitVec 32 := Scalar.subi v438 c4_i32_359
  let v440 : BitVec 32 := Scalar.maxsi c0_i32_360 v439
  let v441 : BitVec 32 := Scalar.minsi c120_i32_361 v440
  let c64_i32_362 : BitVec 32 := 64#32
  let v442 : BitVec 32 := Scalar.muli v441 c64_i32_362
  v442
def k0_mult16 : BitVec 32 :=
  let c2_i32_264 : BitVec 32 := 2#32
  let c62_i32_263 : BitVec 32 := 62#32
  let c0_i32_126 : BitVec 32 := 0#32
  let v317 : BitVec 32 := Scalar.muli c62_i32_263 c0_i32_126
  let v318 : BitVec 32 := Scalar.addi c2_i32_264 v317
  let c1_i32_265 : BitVec 32 := 1#32
  let v319 : BitVec 32 := Scalar.addi v318 c1_i32_265
  let c2_i32_357 : BitVec 32 := 2#32
  let v437 : BitVec 32 := Scalar.muli v319 c2_i32_357
  let c1_i32_358 : BitVec 32 := 1#32
  let v438 : BitVec 32 := Scalar.addi v437 c1_i32_358
  let c64_i32_364 : BitVec 32 := 64#32
  let v446 : BitVec 32 := Scalar.muli v438 c64_i32_364
  v446
def k0_mult17 : BitVec 32 :=
  let c120_i32_414 : BitVec 32 := 120#32
  let c0_i32_413 : BitVec 32 := 0#32
  let c2_i32_407 : BitVec 32 := 2#32
  let c62_i32_406 : BitVec 32 := 62#32
  let c0_i32_126 : BitVec 32 := 0#32
  let v500 : BitVec 32 := Scalar.muli c62_i32_406 c0_i32_126
  let v501 : BitVec 32 := Scalar.addi c2_i32_407 v500
  let c2_i32_408 : BitVec 32 := 2#32
  let v502 : BitVec 32 := Scalar.addi v501 c2_i32_408
  let c2_i32_409 : BitVec 32 := 2#32
  let v503 : BitVec 32 := Scalar.subi v502 c2_i32_409
  let c2_i32_410 : BitVec 32 := 2#32
  let v504 : BitVec 32 := Scalar.muli v503 c2_i32_410
  let c0_i32_411 : BitVec 32 := 0#32
  let v505 : BitVec 32 := Scalar.addi v504 c0_i32_411
  let c4_i32_412 : BitVec 32 := 4#32
  let v506 : BitVec 32 := Scalar.subi v505 c4_i32_412
  let v507 : BitVec 32 := Scalar.maxsi c0_i32_413 v506
  let v508 : BitVec 32 := Scalar.minsi c120_i32_414 v507
  let c64_i32_415 : BitVec 32 := 64#32
  let v509 : BitVec 32 := Scalar.muli v508 c64_i32_415
  v509
def k0_mult18 : BitVec 32 :=
  let c2_i32_407 : BitVec 32 := 2#32
  let c62_i32_406 : BitVec 32 := 62#32
  let c0_i32_126 : BitVec 32 := 0#32
  let v500 : BitVec 32 := Scalar.muli c62_i32_406 c0_i32_126
  let v501 : BitVec 32 := Scalar.addi c2_i32_407 v500
  let c2_i32_408 : BitVec 32 := 2#32
  let v502 : BitVec 32 := Scalar.addi v501 c2_i32_408
  let c2_i32_409 : BitVec 32 := 2#32
  let v503 : BitVec 32 := Scalar.subi v502 c2_i32_409
  let c2_i32_410 : BitVec 32 := 2#32
  let v504 : BitVec 32 := Scalar.muli v503 c2_i32_410
  let c0_i32_411 : BitVec 32 := 0#32
  let v505 : BitVec 32 := Scalar.addi v504 c0_i32_411
  let c64_i32_427 : BitVec 32 := 64#32
  let v524 : BitVec 32 := Scalar.muli v505 c64_i32_427
  v524
def k0_mult19 : BitVec 32 :=
  let c120_i32_434 : BitVec 32 := 120#32
  let c0_i32_433 : BitVec 32 := 0#32
  let c2_i32_407 : BitVec 32 := 2#32
  let c62_i32_406 : BitVec 32 := 62#32
  let c0_i32_126 : BitVec 32 := 0#32
  let v500 : BitVec 32 := Scalar.muli c62_i32_406 c0_i32_126
  let v501 : BitVec 32 := Scalar.addi c2_i32_407 v500
  let c2_i32_408 : BitVec 32 := 2#32
  let v502 : BitVec 32 := Scalar.addi v501 c2_i32_408
  let c2_i32_430 : BitVec 32 := 2#32
  let v530 : BitVec 32 := Scalar.muli v502 c2_i32_430
  let c0_i32_431 : BitVec 32 := 0#32
  let v531 : BitVec 32 := Scalar.addi v530 c0_i32_431
  let c4_i32_432 : BitVec 32 := 4#32
  let v532 : BitVec 32 := Scalar.subi v531 c4_i32_432
  let v533 : BitVec 32 := Scalar.maxsi c0_i32_433 v532
  let v534 : BitVec 32 := Scalar.minsi c120_i32_434 v533
  let c64_i32_435 : BitVec 32 := 64#32
  let v535 : BitVec 32 := Scalar.muli v534 c64_i32_435
  v535
def k0_mult20 : BitVec 32 :=
  let c2_i32_407 : BitVec 32 := 2#32
  let c62_i32_406 : BitVec 32 := 62#32
  let c0_i32_126 : BitVec 32 := 0#32
  let v500 : BitVec 32 := Scalar.muli c62_i32_406 c0_i32_126
  let v501 : BitVec 32 := Scalar.addi c2_i32_407 v500
  let c2_i32_408 : BitVec 32 := 2#32
  let v502 : BitVec 32 := Scalar.addi v501 c2_i32_408
  let c2_i32_430 : BitVec 32 := 2#32
  let v530 : BitVec 32 := Scalar.muli v502 c2_i32_430
  let c0_i32_431 : BitVec 32 := 0#32
  let v531 : BitVec 32 := Scalar.addi v530 c0_i32_431
  let c64_i32_437 : BitVec 32 := 64#32
  let v539 : BitVec 32 := Scalar.muli v531 c64_i32_437
  v539
def k0_mult21 : BitVec 32 :=
  let c120_i32_484 : BitVec 32 := 120#32
  let c0_i32_483 : BitVec 32 := 0#32
  let c2_i32_407 : BitVec 32 := 2#32
  let c62_i32_406 : BitVec 32 := 62#32
  let c0_i32_126 : BitVec 32 := 0#32
  let v500 : BitVec 32 := Scalar.muli c62_i32_406 c0_i32_126
  let v501 : BitVec 32 := Scalar.addi c2_i32_407 v500
  let c2_i32_408 : BitVec 32 := 2#32
  let v502 : BitVec 32 := Scalar.addi v501 c2_i32_408
  let c2_i32_479 : BitVec 32 := 2#32
  let v593 : BitVec 32 := Scalar.subi v502 c2_i32_479
  let c2_i32_480 : BitVec 32 := 2#32
  let v594 : BitVec 32 := Scalar.muli v593 c2_i32_480
  let c1_i32_481 : BitVec 32 := 1#32
  let v595 : BitVec 32 := Scalar.addi v594 c1_i32_481
  let c4_i32_482 : BitVec 32 := 4#32
  let v596 : BitVec 32 := Scalar.subi v595 c4_i32_482
  let v597 : BitVec 32 := Scalar.maxsi c0_i32_483 v596
  let v598 : BitVec 32 := Scalar.minsi c120_i32_484 v597
  let c64_i32_485 : BitVec 32 := 64#32
  let v599 : BitVec 32 := Scalar.muli v598 c64_i32_485
  v599
def k0_mult22 : BitVec 32 :=
  let c2_i32_407 : BitVec 32 := 2#32
  let c62_i32_406 : BitVec 32 := 62#32
  let c0_i32_126 : BitVec 32 := 0#32
  let v500 : BitVec 32 := Scalar.muli c62_i32_406 c0_i32_126
  let v501 : BitVec 32 := Scalar.addi c2_i32_407 v500
  let c2_i32_408 : BitVec 32 := 2#32
  let v502 : BitVec 32 := Scalar.addi v501 c2_i32_408
  let c2_i32_479 : BitVec 32 := 2#32
  let v593 : BitVec 32 := Scalar.subi v502 c2_i32_479
  let c2_i32_480 : BitVec 32 := 2#32
  let v594 : BitVec 32 := Scalar.muli v593 c2_i32_480
  let c1_i32_481 : BitVec 32 := 1#32
  let v595 : BitVec 32 := Scalar.addi v594 c1_i32_481
  let c64_i32_497 : BitVec 32 := 64#32
  let v614 : BitVec 32 := Scalar.muli v595 c64_i32_497
  v614
def k0_mult23 : BitVec 32 :=
  let c120_i32_504 : BitVec 32 := 120#32
  let c0_i32_503 : BitVec 32 := 0#32
  let c2_i32_407 : BitVec 32 := 2#32
  let c62_i32_406 : BitVec 32 := 62#32
  let c0_i32_126 : BitVec 32 := 0#32
  let v500 : BitVec 32 := Scalar.muli c62_i32_406 c0_i32_126
  let v501 : BitVec 32 := Scalar.addi c2_i32_407 v500
  let c2_i32_408 : BitVec 32 := 2#32
  let v502 : BitVec 32 := Scalar.addi v501 c2_i32_408
  let c2_i32_500 : BitVec 32 := 2#32
  let v620 : BitVec 32 := Scalar.muli v502 c2_i32_500
  let c1_i32_501 : BitVec 32 := 1#32
  let v621 : BitVec 32 := Scalar.addi v620 c1_i32_501
  let c4_i32_502 : BitVec 32 := 4#32
  let v622 : BitVec 32 := Scalar.subi v621 c4_i32_502
  let v623 : BitVec 32 := Scalar.maxsi c0_i32_503 v622
  let v624 : BitVec 32 := Scalar.minsi c120_i32_504 v623
  let c64_i32_505 : BitVec 32 := 64#32
  let v625 : BitVec 32 := Scalar.muli v624 c64_i32_505
  v625
def k0_mult24 : BitVec 32 :=
  let c2_i32_407 : BitVec 32 := 2#32
  let c62_i32_406 : BitVec 32 := 62#32
  let c0_i32_126 : BitVec 32 := 0#32
  let v500 : BitVec 32 := Scalar.muli c62_i32_406 c0_i32_126
  let v501 : BitVec 32 := Scalar.addi c2_i32_407 v500
  let c2_i32_408 : BitVec 32 := 2#32
  let v502 : BitVec 32 := Scalar.addi v501 c2_i32_408
  let c2_i32_500 : BitVec 32 := 2#32
  let v620 : BitVec 32 := Scalar.muli v502 c2_i32_500
  let c1_i32_501 : BitVec 32 := 1#32
  let v621 : BitVec 32 := Scalar.addi v620 c1_i32_501
  let c64_i32_507 : BitVec 32 := 64#32
  let v629 : BitVec 32 := Scalar.muli v621 c64_i32_507
  v629
def k0_mult25 : BitVec 32 :=
  let c120_i32_556 : BitVec 32 := 120#32
  let c0_i32_555 : BitVec 32 := 0#32
  let c2_i32_550 : BitVec 32 := 2#32
  let c62_i32_549 : BitVec 32 := 62#32
  let c0_i32_126 : BitVec 32 := 0#32
  let v683 : BitVec 32 := Scalar.muli c62_i32_549 c0_i32_126
  let v684 : BitVec 32 := Scalar.addi c2_i32_550 v683
  let c3_i32 : BitVec 32 := 3#32
  let v685 : BitVec 32 := Scalar.addi v684 c3_i32
  let c2_i32_551 : BitVec 32 := 2#32
  let v686 : BitVec 32 := Scalar.subi v685 c2_i32_551
  let c2_i32_552 : BitVec 32 := 2#32
  let v687 : BitVec 32 := Scalar.muli v686 c2_i32_552
  let c0_i32_553 : BitVec 32 := 0#32
  let v688 : BitVec 32 := Scalar.addi v687 c0_i32_553
  let c4_i32_554 : BitVec 32 := 4#32
  let v689 : BitVec 32 := Scalar.subi v688 c4_i32_554
  let v690 : BitVec 32 := Scalar.maxsi c0_i32_555 v689
  let v691 : BitVec 32 := Scalar.minsi c120_i32_556 v690
  let c64_i32_557 : BitVec 32 := 64#32
  let v692 : BitVec 32 := Scalar.muli v691 c64_i32_557
  v692
def k0_mult26 : BitVec 32 :=
  let c2_i32_550 : BitVec 32 := 2#32
  let c62_i32_549 : BitVec 32 := 62#32
  let c0_i32_126 : BitVec 32 := 0#32
  let v683 : BitVec 32 := Scalar.muli c62_i32_549 c0_i32_126
  let v684 : BitVec 32 := Scalar.addi c2_i32_550 v683
  let c3_i32 : BitVec 32 := 3#32
  let v685 : BitVec 32 := Scalar.addi v684 c3_i32
  let c2_i32_551 : BitVec 32 := 2#32
  let v686 : BitVec 32 := Scalar.subi v685 c2_i32_551
  let c2_i32_552 : BitVec 32 := 2#32
  let v687 : BitVec 32 := Scalar.muli v686 c2_i32_552
  let c0_i32_553 : BitVec 32 := 0#32
  let v688 : BitVec 32 := Scalar.addi v687 c0_i32_553
  let c64_i32_569 : BitVec 32 := 64#32
  let v707 : BitVec 32 := Scalar.muli v688 c64_i32_569
  v707
def k0_mult27 : BitVec 32 :=
  let c120_i32_576 : BitVec 32 := 120#32
  let c0_i32_575 : BitVec 32 := 0#32
  let c2_i32_550 : BitVec 32 := 2#32
  let c62_i32_549 : BitVec 32 := 62#32
  let c0_i32_126 : BitVec 32 := 0#32
  let v683 : BitVec 32 := Scalar.muli c62_i32_549 c0_i32_126
  let v684 : BitVec 32 := Scalar.addi c2_i32_550 v683
  let c3_i32 : BitVec 32 := 3#32
  let v685 : BitVec 32 := Scalar.addi v684 c3_i32
  let c2_i32_572 : BitVec 32 := 2#32
  let v713 : BitVec 32 := Scalar.muli v685 c2_i32_572
  let c0_i32_573 : BitVec 32 := 0#32
  let v714 : BitVec 32 := Scalar.addi v713 c0_i32_573
  let c4_i32_574 : BitVec 32 := 4#32
  let v715 : BitVec 32 := Scalar.subi v714 c4_i32_574
  let v716 : BitVec 32 := Scalar.maxsi c0_i32_575 v715
  let v717 : BitVec 32 := Scalar.minsi c120_i32_576 v716
  let c64_i32_577 : BitVec 32 := 64#32
  let v718 : BitVec 32 := Scalar.muli v717 c64_i32_577
  v718
def k0_mult28 : BitVec 32 :=
  let c2_i32_550 : BitVec 32 := 2#32
  let c62_i32_549 : BitVec 32 := 62#32
  let c0_i32_126 : BitVec 32 := 0#32
  let v683 : BitVec 32 := Scalar.muli c62_i32_549 c0_i32_126
  let v684 : BitVec 32 := Scalar.addi c2_i32_550 v683
  let c3_i32 : BitVec 32 := 3#32
  let v685 : BitVec 32 := Scalar.addi v684 c3_i32
  let c2_i32_572 : BitVec 32 := 2#32
  let v713 : BitVec 32 := Scalar.muli v685 c2_i32_572
  let c0_i32_573 : BitVec 32 := 0#32
  let v714 : BitVec 32 := Scalar.addi v713 c0_i32_573
  let c64_i32_579 : BitVec 32 := 64#32
  let v722 : BitVec 32 := Scalar.muli v714 c64_i32_579
  v722
def k0_mult29 : BitVec 32 :=
  let c120_i32_626 : BitVec 32 := 120#32
  let c0_i32_625 : BitVec 32 := 0#32
  let c2_i32_550 : BitVec 32 := 2#32
  let c62_i32_549 : BitVec 32 := 62#32
  let c0_i32_126 : BitVec 32 := 0#32
  let v683 : BitVec 32 := Scalar.muli c62_i32_549 c0_i32_126
  let v684 : BitVec 32 := Scalar.addi c2_i32_550 v683
  let c3_i32 : BitVec 32 := 3#32
  let v685 : BitVec 32 := Scalar.addi v684 c3_i32
  let c2_i32_621 : BitVec 32 := 2#32
  let v776 : BitVec 32 := Scalar.subi v685 c2_i32_621
  let c2_i32_622 : BitVec 32 := 2#32
  let v777 : BitVec 32 := Scalar.muli v776 c2_i32_622
  let c1_i32_623 : BitVec 32 := 1#32
  let v778 : BitVec 32 := Scalar.addi v777 c1_i32_623
  let c4_i32_624 : BitVec 32 := 4#32
  let v779 : BitVec 32 := Scalar.subi v778 c4_i32_624
  let v780 : BitVec 32 := Scalar.maxsi c0_i32_625 v779
  let v781 : BitVec 32 := Scalar.minsi c120_i32_626 v780
  let c64_i32_627 : BitVec 32 := 64#32
  let v782 : BitVec 32 := Scalar.muli v781 c64_i32_627
  v782
def k0_mult30 : BitVec 32 :=
  let c2_i32_550 : BitVec 32 := 2#32
  let c62_i32_549 : BitVec 32 := 62#32
  let c0_i32_126 : BitVec 32 := 0#32
  let v683 : BitVec 32 := Scalar.muli c62_i32_549 c0_i32_126
  let v684 : BitVec 32 := Scalar.addi c2_i32_550 v683
  let c3_i32 : BitVec 32 := 3#32
  let v685 : BitVec 32 := Scalar.addi v684 c3_i32
  let c2_i32_621 : BitVec 32 := 2#32
  let v776 : BitVec 32 := Scalar.subi v685 c2_i32_621
  let c2_i32_622 : BitVec 32 := 2#32
  let v777 : BitVec 32 := Scalar.muli v776 c2_i32_622
  let c1_i32_623 : BitVec 32 := 1#32
  let v778 : BitVec 32 := Scalar.addi v777 c1_i32_623
  let c64_i32_639 : BitVec 32 := 64#32
  let v797 : BitVec 32 := Scalar.muli v778 c64_i32_639
  v797
def k0_mult31 : BitVec 32 :=
  let c120_i32_646 : BitVec 32 := 120#32
  let c0_i32_645 : BitVec 32 := 0#32
  let c2_i32_550 : BitVec 32 := 2#32
  let c62_i32_549 : BitVec 32 := 62#32
  let c0_i32_126 : BitVec 32 := 0#32
  let v683 : BitVec 32 := Scalar.muli c62_i32_549 c0_i32_126
  let v684 : BitVec 32 := Scalar.addi c2_i32_550 v683
  let c3_i32 : BitVec 32 := 3#32
  let v685 : BitVec 32 := Scalar.addi v684 c3_i32
  let c2_i32_642 : BitVec 32 := 2#32
  let v803 : BitVec 32 := Scalar.muli v685 c2_i32_642
  let c1_i32_643 : BitVec 32 := 1#32
  let v804 : BitVec 32 := Scalar.addi v803 c1_i32_643
  let c4_i32_644 : BitVec 32 := 4#32
  let v805 : BitVec 32 := Scalar.subi v804 c4_i32_644
  let v806 : BitVec 32 := Scalar.maxsi c0_i32_645 v805
  let v807 : BitVec 32 := Scalar.minsi c120_i32_646 v806
  let c64_i32_647 : BitVec 32 := 64#32
  let v808 : BitVec 32 := Scalar.muli v807 c64_i32_647
  v808
def k0_mult32 : BitVec 32 :=
  let c2_i32_550 : BitVec 32 := 2#32
  let c62_i32_549 : BitVec 32 := 62#32
  let c0_i32_126 : BitVec 32 := 0#32
  let v683 : BitVec 32 := Scalar.muli c62_i32_549 c0_i32_126
  let v684 : BitVec 32 := Scalar.addi c2_i32_550 v683
  let c3_i32 : BitVec 32 := 3#32
  let v685 : BitVec 32 := Scalar.addi v684 c3_i32
  let c2_i32_642 : BitVec 32 := 2#32
  let v803 : BitVec 32 := Scalar.muli v685 c2_i32_642
  let c1_i32_643 : BitVec 32 := 1#32
  let v804 : BitVec 32 := Scalar.addi v803 c1_i32_643
  let c64_i32_649 : BitVec 32 := 64#32
  let v812 : BitVec 32 := Scalar.muli v804 c64_i32_649
  v812
def k0_mult33 : BitVec 32 :=
  let c120_i32_699 : BitVec 32 := 120#32
  let c0_i32_698 : BitVec 32 := 0#32
  let c2_i32_692 : BitVec 32 := 2#32
  let c62_i32_691 : BitVec 32 := 62#32
  let c0_i32_126 : BitVec 32 := 0#32
  let v866 : BitVec 32 := Scalar.muli c62_i32_691 c0_i32_126
  let v867 : BitVec 32 := Scalar.addi c2_i32_692 v866
  let c4_i32_693 : BitVec 32 := 4#32
  let v868 : BitVec 32 := Scalar.addi v867 c4_i32_693
  let c2_i32_694 : BitVec 32 := 2#32
  let v869 : BitVec 32 := Scalar.subi v868 c2_i32_694
  let c2_i32_695 : BitVec 32 := 2#32
  let v870 : BitVec 32 := Scalar.muli v869 c2_i32_695
  let c0_i32_696 : BitVec 32 := 0#32
  let v871 : BitVec 32 := Scalar.addi v870 c0_i32_696
  let c4_i32_697 : BitVec 32 := 4#32
  let v872 : BitVec 32 := Scalar.subi v871 c4_i32_697
  let v873 : BitVec 32 := Scalar.maxsi c0_i32_698 v872
  let v874 : BitVec 32 := Scalar.minsi c120_i32_699 v873
  let c64_i32_700 : BitVec 32 := 64#32
  let v875 : BitVec 32 := Scalar.muli v874 c64_i32_700
  v875
def k0_mult34 : BitVec 32 :=
  let c2_i32_692 : BitVec 32 := 2#32
  let c62_i32_691 : BitVec 32 := 62#32
  let c0_i32_126 : BitVec 32 := 0#32
  let v866 : BitVec 32 := Scalar.muli c62_i32_691 c0_i32_126
  let v867 : BitVec 32 := Scalar.addi c2_i32_692 v866
  let c4_i32_693 : BitVec 32 := 4#32
  let v868 : BitVec 32 := Scalar.addi v867 c4_i32_693
  let c2_i32_694 : BitVec 32 := 2#32
  let v869 : BitVec 32 := Scalar.subi v868 c2_i32_694
  let c2_i32_695 : BitVec 32 := 2#32
  let v870 : BitVec 32 := Scalar.muli v869 c2_i32_695
  let c0_i32_696 : BitVec 32 := 0#32
  let v871 : BitVec 32 := Scalar.addi v870 c0_i32_696
  let c64_i32_712 : BitVec 32 := 64#32
  let v890 : BitVec 32 := Scalar.muli v871 c64_i32_712
  v890
def k0_mult35 : BitVec 32 :=
  let c120_i32_719 : BitVec 32 := 120#32
  let c0_i32_718 : BitVec 32 := 0#32
  let c2_i32_692 : BitVec 32 := 2#32
  let c62_i32_691 : BitVec 32 := 62#32
  let c0_i32_126 : BitVec 32 := 0#32
  let v866 : BitVec 32 := Scalar.muli c62_i32_691 c0_i32_126
  let v867 : BitVec 32 := Scalar.addi c2_i32_692 v866
  let c4_i32_693 : BitVec 32 := 4#32
  let v868 : BitVec 32 := Scalar.addi v867 c4_i32_693
  let c2_i32_715 : BitVec 32 := 2#32
  let v896 : BitVec 32 := Scalar.muli v868 c2_i32_715
  let c0_i32_716 : BitVec 32 := 0#32
  let v897 : BitVec 32 := Scalar.addi v896 c0_i32_716
  let c4_i32_717 : BitVec 32 := 4#32
  let v898 : BitVec 32 := Scalar.subi v897 c4_i32_717
  let v899 : BitVec 32 := Scalar.maxsi c0_i32_718 v898
  let v900 : BitVec 32 := Scalar.minsi c120_i32_719 v899
  let c64_i32_720 : BitVec 32 := 64#32
  let v901 : BitVec 32 := Scalar.muli v900 c64_i32_720
  v901
def k0_mult36 : BitVec 32 :=
  let c2_i32_692 : BitVec 32 := 2#32
  let c62_i32_691 : BitVec 32 := 62#32
  let c0_i32_126 : BitVec 32 := 0#32
  let v866 : BitVec 32 := Scalar.muli c62_i32_691 c0_i32_126
  let v867 : BitVec 32 := Scalar.addi c2_i32_692 v866
  let c4_i32_693 : BitVec 32 := 4#32
  let v868 : BitVec 32 := Scalar.addi v867 c4_i32_693
  let c2_i32_715 : BitVec 32 := 2#32
  let v896 : BitVec 32 := Scalar.muli v868 c2_i32_715
  let c0_i32_716 : BitVec 32 := 0#32
  let v897 : BitVec 32 := Scalar.addi v896 c0_i32_716
  let c64_i32_722 : BitVec 32 := 64#32
  let v905 : BitVec 32 := Scalar.muli v897 c64_i32_722
  v905
def k0_mult37 : BitVec 32 :=
  let c120_i32_769 : BitVec 32 := 120#32
  let c0_i32_768 : BitVec 32 := 0#32
  let c2_i32_692 : BitVec 32 := 2#32
  let c62_i32_691 : BitVec 32 := 62#32
  let c0_i32_126 : BitVec 32 := 0#32
  let v866 : BitVec 32 := Scalar.muli c62_i32_691 c0_i32_126
  let v867 : BitVec 32 := Scalar.addi c2_i32_692 v866
  let c4_i32_693 : BitVec 32 := 4#32
  let v868 : BitVec 32 := Scalar.addi v867 c4_i32_693
  let c2_i32_764 : BitVec 32 := 2#32
  let v959 : BitVec 32 := Scalar.subi v868 c2_i32_764
  let c2_i32_765 : BitVec 32 := 2#32
  let v960 : BitVec 32 := Scalar.muli v959 c2_i32_765
  let c1_i32_766 : BitVec 32 := 1#32
  let v961 : BitVec 32 := Scalar.addi v960 c1_i32_766
  let c4_i32_767 : BitVec 32 := 4#32
  let v962 : BitVec 32 := Scalar.subi v961 c4_i32_767
  let v963 : BitVec 32 := Scalar.maxsi c0_i32_768 v962
  let v964 : BitVec 32 := Scalar.minsi c120_i32_769 v963
  let c64_i32_770 : BitVec 32 := 64#32
  let v965 : BitVec 32 := Scalar.muli v964 c64_i32_770
  v965
def k0_mult38 : BitVec 32 :=
  let c2_i32_692 : BitVec 32 := 2#32
  let c62_i32_691 : BitVec 32 := 62#32
  let c0_i32_126 : BitVec 32 := 0#32
  let v866 : BitVec 32 := Scalar.muli c62_i32_691 c0_i32_126
  let v867 : BitVec 32 := Scalar.addi c2_i32_692 v866
  let c4_i32_693 : BitVec 32 := 4#32
  let v868 : BitVec 32 := Scalar.addi v867 c4_i32_693
  let c2_i32_764 : BitVec 32 := 2#32
  let v959 : BitVec 32 := Scalar.subi v868 c2_i32_764
  let c2_i32_765 : BitVec 32 := 2#32
  let v960 : BitVec 32 := Scalar.muli v959 c2_i32_765
  let c1_i32_766 : BitVec 32 := 1#32
  let v961 : BitVec 32 := Scalar.addi v960 c1_i32_766
  let c64_i32_782 : BitVec 32 := 64#32
  let v980 : BitVec 32 := Scalar.muli v961 c64_i32_782
  v980
def k0_mult39 : BitVec 32 :=
  let c120_i32_789 : BitVec 32 := 120#32
  let c0_i32_788 : BitVec 32 := 0#32
  let c2_i32_692 : BitVec 32 := 2#32
  let c62_i32_691 : BitVec 32 := 62#32
  let c0_i32_126 : BitVec 32 := 0#32
  let v866 : BitVec 32 := Scalar.muli c62_i32_691 c0_i32_126
  let v867 : BitVec 32 := Scalar.addi c2_i32_692 v866
  let c4_i32_693 : BitVec 32 := 4#32
  let v868 : BitVec 32 := Scalar.addi v867 c4_i32_693
  let c2_i32_785 : BitVec 32 := 2#32
  let v986 : BitVec 32 := Scalar.muli v868 c2_i32_785
  let c1_i32_786 : BitVec 32 := 1#32
  let v987 : BitVec 32 := Scalar.addi v986 c1_i32_786
  let c4_i32_787 : BitVec 32 := 4#32
  let v988 : BitVec 32 := Scalar.subi v987 c4_i32_787
  let v989 : BitVec 32 := Scalar.maxsi c0_i32_788 v988
  let v990 : BitVec 32 := Scalar.minsi c120_i32_789 v989
  let c64_i32_790 : BitVec 32 := 64#32
  let v991 : BitVec 32 := Scalar.muli v990 c64_i32_790
  v991
def k0_mult40 : BitVec 32 :=
  let c2_i32_692 : BitVec 32 := 2#32
  let c62_i32_691 : BitVec 32 := 62#32
  let c0_i32_126 : BitVec 32 := 0#32
  let v866 : BitVec 32 := Scalar.muli c62_i32_691 c0_i32_126
  let v867 : BitVec 32 := Scalar.addi c2_i32_692 v866
  let c4_i32_693 : BitVec 32 := 4#32
  let v868 : BitVec 32 := Scalar.addi v867 c4_i32_693
  let c2_i32_785 : BitVec 32 := 2#32
  let v986 : BitVec 32 := Scalar.muli v868 c2_i32_785
  let c1_i32_786 : BitVec 32 := 1#32
  let v987 : BitVec 32 := Scalar.addi v986 c1_i32_786
  let c64_i32_792 : BitVec 32 := 64#32
  let v995 : BitVec 32 := Scalar.muli v987 c64_i32_792
  v995
def k0_mult41 : BitVec 32 :=
  let c120_i32_841 : BitVec 32 := 120#32
  let c0_i32_840 : BitVec 32 := 0#32
  let c2_i32_835 : BitVec 32 := 2#32
  let c62_i32_834 : BitVec 32 := 62#32
  let c0_i32_126 : BitVec 32 := 0#32
  let v1049 : BitVec 32 := Scalar.muli c62_i32_834 c0_i32_126
  let v1050 : BitVec 32 := Scalar.addi c2_i32_835 v1049
  let c5_i32 : BitVec 32 := 5#32
  let v1051 : BitVec 32 := Scalar.addi v1050 c5_i32
  let c2_i32_836 : BitVec 32 := 2#32
  let v1052 : BitVec 32 := Scalar.subi v1051 c2_i32_836
  let c2_i32_837 : BitVec 32 := 2#32
  let v1053 : BitVec 32 := Scalar.muli v1052 c2_i32_837
  let c0_i32_838 : BitVec 32 := 0#32
  let v1054 : BitVec 32 := Scalar.addi v1053 c0_i32_838
  let c4_i32_839 : BitVec 32 := 4#32
  let v1055 : BitVec 32 := Scalar.subi v1054 c4_i32_839
  let v1056 : BitVec 32 := Scalar.maxsi c0_i32_840 v1055
  let v1057 : BitVec 32 := Scalar.minsi c120_i32_841 v1056
  let c64_i32_842 : BitVec 32 := 64#32
  let v1058 : BitVec 32 := Scalar.muli v1057 c64_i32_842
  v1058
def k0_mult42 : BitVec 32 :=
  let c2_i32_835 : BitVec 32 := 2#32
  let c62_i32_834 : BitVec 32 := 62#32
  let c0_i32_126 : BitVec 32 := 0#32
  let v1049 : BitVec 32 := Scalar.muli c62_i32_834 c0_i32_126
  let v1050 : BitVec 32 := Scalar.addi c2_i32_835 v1049
  let c5_i32 : BitVec 32 := 5#32
  let v1051 : BitVec 32 := Scalar.addi v1050 c5_i32
  let c2_i32_836 : BitVec 32 := 2#32
  let v1052 : BitVec 32 := Scalar.subi v1051 c2_i32_836
  let c2_i32_837 : BitVec 32 := 2#32
  let v1053 : BitVec 32 := Scalar.muli v1052 c2_i32_837
  let c0_i32_838 : BitVec 32 := 0#32
  let v1054 : BitVec 32 := Scalar.addi v1053 c0_i32_838
  let c64_i32_854 : BitVec 32 := 64#32
  let v1073 : BitVec 32 := Scalar.muli v1054 c64_i32_854
  v1073
def k0_mult43 : BitVec 32 :=
  let c120_i32_861 : BitVec 32 := 120#32
  let c0_i32_860 : BitVec 32 := 0#32
  let c2_i32_835 : BitVec 32 := 2#32
  let c62_i32_834 : BitVec 32 := 62#32
  let c0_i32_126 : BitVec 32 := 0#32
  let v1049 : BitVec 32 := Scalar.muli c62_i32_834 c0_i32_126
  let v1050 : BitVec 32 := Scalar.addi c2_i32_835 v1049
  let c5_i32 : BitVec 32 := 5#32
  let v1051 : BitVec 32 := Scalar.addi v1050 c5_i32
  let c2_i32_857 : BitVec 32 := 2#32
  let v1079 : BitVec 32 := Scalar.muli v1051 c2_i32_857
  let c0_i32_858 : BitVec 32 := 0#32
  let v1080 : BitVec 32 := Scalar.addi v1079 c0_i32_858
  let c4_i32_859 : BitVec 32 := 4#32
  let v1081 : BitVec 32 := Scalar.subi v1080 c4_i32_859
  let v1082 : BitVec 32 := Scalar.maxsi c0_i32_860 v1081
  let v1083 : BitVec 32 := Scalar.minsi c120_i32_861 v1082
  let c64_i32_862 : BitVec 32 := 64#32
  let v1084 : BitVec 32 := Scalar.muli v1083 c64_i32_862
  v1084
def k0_mult44 : BitVec 32 :=
  let c2_i32_835 : BitVec 32 := 2#32
  let c62_i32_834 : BitVec 32 := 62#32
  let c0_i32_126 : BitVec 32 := 0#32
  let v1049 : BitVec 32 := Scalar.muli c62_i32_834 c0_i32_126
  let v1050 : BitVec 32 := Scalar.addi c2_i32_835 v1049
  let c5_i32 : BitVec 32 := 5#32
  let v1051 : BitVec 32 := Scalar.addi v1050 c5_i32
  let c2_i32_857 : BitVec 32 := 2#32
  let v1079 : BitVec 32 := Scalar.muli v1051 c2_i32_857
  let c0_i32_858 : BitVec 32 := 0#32
  let v1080 : BitVec 32 := Scalar.addi v1079 c0_i32_858
  let c64_i32_864 : BitVec 32 := 64#32
  let v1088 : BitVec 32 := Scalar.muli v1080 c64_i32_864
  v1088
def k0_mult45 : BitVec 32 :=
  let c120_i32_911 : BitVec 32 := 120#32
  let c0_i32_910 : BitVec 32 := 0#32
  let c2_i32_835 : BitVec 32 := 2#32
  let c62_i32_834 : BitVec 32 := 62#32
  let c0_i32_126 : BitVec 32 := 0#32
  let v1049 : BitVec 32 := Scalar.muli c62_i32_834 c0_i32_126
  let v1050 : BitVec 32 := Scalar.addi c2_i32_835 v1049
  let c5_i32 : BitVec 32 := 5#32
  let v1051 : BitVec 32 := Scalar.addi v1050 c5_i32
  let c2_i32_906 : BitVec 32 := 2#32
  let v1142 : BitVec 32 := Scalar.subi v1051 c2_i32_906
  let c2_i32_907 : BitVec 32 := 2#32
  let v1143 : BitVec 32 := Scalar.muli v1142 c2_i32_907
  let c1_i32_908 : BitVec 32 := 1#32
  let v1144 : BitVec 32 := Scalar.addi v1143 c1_i32_908
  let c4_i32_909 : BitVec 32 := 4#32
  let v1145 : BitVec 32 := Scalar.subi v1144 c4_i32_909
  let v1146 : BitVec 32 := Scalar.maxsi c0_i32_910 v1145
  let v1147 : BitVec 32 := Scalar.minsi c120_i32_911 v1146
  let c64_i32_912 : BitVec 32 := 64#32
  let v1148 : BitVec 32 := Scalar.muli v1147 c64_i32_912
  v1148
def k0_mult46 : BitVec 32 :=
  let c2_i32_835 : BitVec 32 := 2#32
  let c62_i32_834 : BitVec 32 := 62#32
  let c0_i32_126 : BitVec 32 := 0#32
  let v1049 : BitVec 32 := Scalar.muli c62_i32_834 c0_i32_126
  let v1050 : BitVec 32 := Scalar.addi c2_i32_835 v1049
  let c5_i32 : BitVec 32 := 5#32
  let v1051 : BitVec 32 := Scalar.addi v1050 c5_i32
  let c2_i32_906 : BitVec 32 := 2#32
  let v1142 : BitVec 32 := Scalar.subi v1051 c2_i32_906
  let c2_i32_907 : BitVec 32 := 2#32
  let v1143 : BitVec 32 := Scalar.muli v1142 c2_i32_907
  let c1_i32_908 : BitVec 32 := 1#32
  let v1144 : BitVec 32 := Scalar.addi v1143 c1_i32_908
  let c64_i32_924 : BitVec 32 := 64#32
  let v1163 : BitVec 32 := Scalar.muli v1144 c64_i32_924
  v1163
def k0_mult47 : BitVec 32 :=
  let c120_i32_931 : BitVec 32 := 120#32
  let c0_i32_930 : BitVec 32 := 0#32
  let c2_i32_835 : BitVec 32 := 2#32
  let c62_i32_834 : BitVec 32 := 62#32
  let c0_i32_126 : BitVec 32 := 0#32
  let v1049 : BitVec 32 := Scalar.muli c62_i32_834 c0_i32_126
  let v1050 : BitVec 32 := Scalar.addi c2_i32_835 v1049
  let c5_i32 : BitVec 32 := 5#32
  let v1051 : BitVec 32 := Scalar.addi v1050 c5_i32
  let c2_i32_927 : BitVec 32 := 2#32
  let v1169 : BitVec 32 := Scalar.muli v1051 c2_i32_927
  let c1_i32_928 : BitVec 32 := 1#32
  let v1170 : BitVec 32 := Scalar.addi v1169 c1_i32_928
  let c4_i32_929 : BitVec 32 := 4#32
  let v1171 : BitVec 32 := Scalar.subi v1170 c4_i32_929
  let v1172 : BitVec 32 := Scalar.maxsi c0_i32_930 v1171
  let v1173 : BitVec 32 := Scalar.minsi c120_i32_931 v1172
  let c64_i32_932 : BitVec 32 := 64#32
  let v1174 : BitVec 32 := Scalar.muli v1173 c64_i32_932
  v1174
def k0_mult48 : BitVec 32 :=
  let c2_i32_835 : BitVec 32 := 2#32
  let c62_i32_834 : BitVec 32 := 62#32
  let c0_i32_126 : BitVec 32 := 0#32
  let v1049 : BitVec 32 := Scalar.muli c62_i32_834 c0_i32_126
  let v1050 : BitVec 32 := Scalar.addi c2_i32_835 v1049
  let c5_i32 : BitVec 32 := 5#32
  let v1051 : BitVec 32 := Scalar.addi v1050 c5_i32
  let c2_i32_927 : BitVec 32 := 2#32
  let v1169 : BitVec 32 := Scalar.muli v1051 c2_i32_927
  let c1_i32_928 : BitVec 32 := 1#32
  let v1170 : BitVec 32 := Scalar.addi v1169 c1_i32_928
  let c64_i32_934 : BitVec 32 := 64#32
  let v1178 : BitVec 32 := Scalar.muli v1170 c64_i32_934
  v1178
def k0_mult49 : BitVec 32 :=
  let c120_i32_984 : BitVec 32 := 120#32
  let c0_i32_983 : BitVec 32 := 0#32
  let c2_i32_977 : BitVec 32 := 2#32
  let c62_i32_976 : BitVec 32 := 62#32
  let c0_i32_126 : BitVec 32 := 0#32
  let v1232 : BitVec 32 := Scalar.muli c62_i32_976 c0_i32_126
  let v1233 : BitVec 32 := Scalar.addi c2_i32_977 v1232
  let c6_i32_978 : BitVec 32 := 6#32
  let v1234 : BitVec 32 := Scalar.addi v1233 c6_i32_978
  let c2_i32_979 : BitVec 32 := 2#32
  let v1235 : BitVec 32 := Scalar.subi v1234 c2_i32_979
  let c2_i32_980 : BitVec 32 := 2#32
  let v1236 : BitVec 32 := Scalar.muli v1235 c2_i32_980
  let c0_i32_981 : BitVec 32 := 0#32
  let v1237 : BitVec 32 := Scalar.addi v1236 c0_i32_981
  let c4_i32_982 : BitVec 32 := 4#32
  let v1238 : BitVec 32 := Scalar.subi v1237 c4_i32_982
  let v1239 : BitVec 32 := Scalar.maxsi c0_i32_983 v1238
  let v1240 : BitVec 32 := Scalar.minsi c120_i32_984 v1239
  let c64_i32_985 : BitVec 32 := 64#32
  let v1241 : BitVec 32 := Scalar.muli v1240 c64_i32_985
  v1241
def k0_mult50 : BitVec 32 :=
  let c2_i32_977 : BitVec 32 := 2#32
  let c62_i32_976 : BitVec 32 := 62#32
  let c0_i32_126 : BitVec 32 := 0#32
  let v1232 : BitVec 32 := Scalar.muli c62_i32_976 c0_i32_126
  let v1233 : BitVec 32 := Scalar.addi c2_i32_977 v1232
  let c6_i32_978 : BitVec 32 := 6#32
  let v1234 : BitVec 32 := Scalar.addi v1233 c6_i32_978
  let c2_i32_979 : BitVec 32 := 2#32
  let v1235 : BitVec 32 := Scalar.subi v1234 c2_i32_979
  let c2_i32_980 : BitVec 32 := 2#32
  let v1236 : BitVec 32 := Scalar.muli v1235 c2_i32_980
  let c0_i32_981 : BitVec 32 := 0#32
  let v1237 : BitVec 32 := Scalar.addi v1236 c0_i32_981
  let c64_i32_997 : BitVec 32 := 64#32
  let v1256 : BitVec 32 := Scalar.muli v1237 c64_i32_997
  v1256
def k0_mult51 : BitVec 32 :=
  let c120_i32_1004 : BitVec 32 := 120#32
  let c0_i32_1003 : BitVec 32 := 0#32
  let c2_i32_977 : BitVec 32 := 2#32
  let c62_i32_976 : BitVec 32 := 62#32
  let c0_i32_126 : BitVec 32 := 0#32
  let v1232 : BitVec 32 := Scalar.muli c62_i32_976 c0_i32_126
  let v1233 : BitVec 32 := Scalar.addi c2_i32_977 v1232
  let c6_i32_978 : BitVec 32 := 6#32
  let v1234 : BitVec 32 := Scalar.addi v1233 c6_i32_978
  let c2_i32_1000 : BitVec 32 := 2#32
  let v1262 : BitVec 32 := Scalar.muli v1234 c2_i32_1000
  let c0_i32_1001 : BitVec 32 := 0#32
  let v1263 : BitVec 32 := Scalar.addi v1262 c0_i32_1001
  let c4_i32_1002 : BitVec 32 := 4#32
  let v1264 : BitVec 32 := Scalar.subi v1263 c4_i32_1002
  let v1265 : BitVec 32 := Scalar.maxsi c0_i32_1003 v1264
  let v1266 : BitVec 32 := Scalar.minsi c120_i32_1004 v1265
  let c64_i32_1005 : BitVec 32 := 64#32
  let v1267 : BitVec 32 := Scalar.muli v1266 c64_i32_1005
  v1267
def k0_mult52 : BitVec 32 :=
  let c2_i32_977 : BitVec 32 := 2#32
  let c62_i32_976 : BitVec 32 := 62#32
  let c0_i32_126 : BitVec 32 := 0#32
  let v1232 : BitVec 32 := Scalar.muli c62_i32_976 c0_i32_126
  let v1233 : BitVec 32 := Scalar.addi c2_i32_977 v1232
  let c6_i32_978 : BitVec 32 := 6#32
  let v1234 : BitVec 32 := Scalar.addi v1233 c6_i32_978
  let c2_i32_1000 : BitVec 32 := 2#32
  let v1262 : BitVec 32 := Scalar.muli v1234 c2_i32_1000
  let c0_i32_1001 : BitVec 32 := 0#32
  let v1263 : BitVec 32 := Scalar.addi v1262 c0_i32_1001
  let c64_i32_1007 : BitVec 32 := 64#32
  let v1271 : BitVec 32 := Scalar.muli v1263 c64_i32_1007
  v1271
def k0_mult53 : BitVec 32 :=
  let c120_i32_1054 : BitVec 32 := 120#32
  let c0_i32_1053 : BitVec 32 := 0#32
  let c2_i32_977 : BitVec 32 := 2#32
  let c62_i32_976 : BitVec 32 := 62#32
  let c0_i32_126 : BitVec 32 := 0#32
  let v1232 : BitVec 32 := Scalar.muli c62_i32_976 c0_i32_126
  let v1233 : BitVec 32 := Scalar.addi c2_i32_977 v1232
  let c6_i32_978 : BitVec 32 := 6#32
  let v1234 : BitVec 32 := Scalar.addi v1233 c6_i32_978
  let c2_i32_1049 : BitVec 32 := 2#32
  let v1325 : BitVec 32 := Scalar.subi v1234 c2_i32_1049
  let c2_i32_1050 : BitVec 32 := 2#32
  let v1326 : BitVec 32 := Scalar.muli v1325 c2_i32_1050
  let c1_i32_1051 : BitVec 32 := 1#32
  let v1327 : BitVec 32 := Scalar.addi v1326 c1_i32_1051
  let c4_i32_1052 : BitVec 32 := 4#32
  let v1328 : BitVec 32 := Scalar.subi v1327 c4_i32_1052
  let v1329 : BitVec 32 := Scalar.maxsi c0_i32_1053 v1328
  let v1330 : BitVec 32 := Scalar.minsi c120_i32_1054 v1329
  let c64_i32_1055 : BitVec 32 := 64#32
  let v1331 : BitVec 32 := Scalar.muli v1330 c64_i32_1055
  v1331
def k0_mult54 : BitVec 32 :=
  let c2_i32_977 : BitVec 32 := 2#32
  let c62_i32_976 : BitVec 32 := 62#32
  let c0_i32_126 : BitVec 32 := 0#32
  let v1232 : BitVec 32 := Scalar.muli c62_i32_976 c0_i32_126
  let v1233 : BitVec 32 := Scalar.addi c2_i32_977 v1232
  let c6_i32_978 : BitVec 32 := 6#32
  let v1234 : BitVec 32 := Scalar.addi v1233 c6_i32_978
  let c2_i32_1049 : BitVec 32 := 2#32
  let v1325 : BitVec 32 := Scalar.subi v1234 c2_i32_1049
  let c2_i32_1050 : BitVec 32 := 2#32
  let v1326 : BitVec 32 := Scalar.muli v1325 c2_i32_1050
  let c1_i32_1051 : BitVec 32 := 1#32
  let v1327 : BitVec 32 := Scalar.addi v1326 c1_i32_1051
  let c64_i32_1067 : BitVec 32 := 64#32
  let v1346 : BitVec 32 := Scalar.muli v1327 c64_i32_1067
  v1346
def k0_mult55 : BitVec 32 :=
  let c120_i32_1074 : BitVec 32 := 120#32
  let c0_i32_1073 : BitVec 32 := 0#32
  let c2_i32_977 : BitVec 32 := 2#32
  let c62_i32_976 : BitVec 32 := 62#32
  let c0_i32_126 : BitVec 32 := 0#32
  let v1232 : BitVec 32 := Scalar.muli c62_i32_976 c0_i32_126
  let v1233 : BitVec 32 := Scalar.addi c2_i32_977 v1232
  let c6_i32_978 : BitVec 32 := 6#32
  let v1234 : BitVec 32 := Scalar.addi v1233 c6_i32_978
  let c2_i32_1070 : BitVec 32 := 2#32
  let v1352 : BitVec 32 := Scalar.muli v1234 c2_i32_1070
  let c1_i32_1071 : BitVec 32 := 1#32
  let v1353 : BitVec 32 := Scalar.addi v1352 c1_i32_1071
  let c4_i32_1072 : BitVec 32 := 4#32
  let v1354 : BitVec 32 := Scalar.subi v1353 c4_i32_1072
  let v1355 : BitVec 32 := Scalar.maxsi c0_i32_1073 v1354
  let v1356 : BitVec 32 := Scalar.minsi c120_i32_1074 v1355
  let c64_i32_1075 : BitVec 32 := 64#32
  let v1357 : BitVec 32 := Scalar.muli v1356 c64_i32_1075
  v1357
def k0_mult56 : BitVec 32 :=
  let c2_i32_977 : BitVec 32 := 2#32
  let c62_i32_976 : BitVec 32 := 62#32
  let c0_i32_126 : BitVec 32 := 0#32
  let v1232 : BitVec 32 := Scalar.muli c62_i32_976 c0_i32_126
  let v1233 : BitVec 32 := Scalar.addi c2_i32_977 v1232
  let c6_i32_978 : BitVec 32 := 6#32
  let v1234 : BitVec 32 := Scalar.addi v1233 c6_i32_978
  let c2_i32_1070 : BitVec 32 := 2#32
  let v1352 : BitVec 32 := Scalar.muli v1234 c2_i32_1070
  let c1_i32_1071 : BitVec 32 := 1#32
  let v1353 : BitVec 32 := Scalar.addi v1352 c1_i32_1071
  let c64_i32_1077 : BitVec 32 := 64#32
  let v1361 : BitVec 32 := Scalar.muli v1353 c64_i32_1077
  v1361
def k0_mult57 : BitVec 32 :=
  let c120_i32_1127 : BitVec 32 := 120#32
  let c0_i32_1126 : BitVec 32 := 0#32
  let c2_i32_1120 : BitVec 32 := 2#32
  let c62_i32_1119 : BitVec 32 := 62#32
  let c0_i32_126 : BitVec 32 := 0#32
  let v1415 : BitVec 32 := Scalar.muli c62_i32_1119 c0_i32_126
  let v1416 : BitVec 32 := Scalar.addi c2_i32_1120 v1415
  let c7_i32_1121 : BitVec 32 := 7#32
  let v1417 : BitVec 32 := Scalar.addi v1416 c7_i32_1121
  let c2_i32_1122 : BitVec 32 := 2#32
  let v1418 : BitVec 32 := Scalar.subi v1417 c2_i32_1122
  let c2_i32_1123 : BitVec 32 := 2#32
  let v1419 : BitVec 32 := Scalar.muli v1418 c2_i32_1123
  let c0_i32_1124 : BitVec 32 := 0#32
  let v1420 : BitVec 32 := Scalar.addi v1419 c0_i32_1124
  let c4_i32_1125 : BitVec 32 := 4#32
  let v1421 : BitVec 32 := Scalar.subi v1420 c4_i32_1125
  let v1422 : BitVec 32 := Scalar.maxsi c0_i32_1126 v1421
  let v1423 : BitVec 32 := Scalar.minsi c120_i32_1127 v1422
  let c64_i32_1128 : BitVec 32 := 64#32
  let v1424 : BitVec 32 := Scalar.muli v1423 c64_i32_1128
  v1424
def k0_mult58 : BitVec 32 :=
  let c2_i32_1120 : BitVec 32 := 2#32
  let c62_i32_1119 : BitVec 32 := 62#32
  let c0_i32_126 : BitVec 32 := 0#32
  let v1415 : BitVec 32 := Scalar.muli c62_i32_1119 c0_i32_126
  let v1416 : BitVec 32 := Scalar.addi c2_i32_1120 v1415
  let c7_i32_1121 : BitVec 32 := 7#32
  let v1417 : BitVec 32 := Scalar.addi v1416 c7_i32_1121
  let c2_i32_1122 : BitVec 32 := 2#32
  let v1418 : BitVec 32 := Scalar.subi v1417 c2_i32_1122
  let c2_i32_1123 : BitVec 32 := 2#32
  let v1419 : BitVec 32 := Scalar.muli v1418 c2_i32_1123
  let c0_i32_1124 : BitVec 32 := 0#32
  let v1420 : BitVec 32 := Scalar.addi v1419 c0_i32_1124
  let c64_i32_1140 : BitVec 32 := 64#32
  let v1439 : BitVec 32 := Scalar.muli v1420 c64_i32_1140
  v1439
def k0_mult59 : BitVec 32 :=
  let c120_i32_1147 : BitVec 32 := 120#32
  let c0_i32_1146 : BitVec 32 := 0#32
  let c2_i32_1120 : BitVec 32 := 2#32
  let c62_i32_1119 : BitVec 32 := 62#32
  let c0_i32_126 : BitVec 32 := 0#32
  let v1415 : BitVec 32 := Scalar.muli c62_i32_1119 c0_i32_126
  let v1416 : BitVec 32 := Scalar.addi c2_i32_1120 v1415
  let c7_i32_1121 : BitVec 32 := 7#32
  let v1417 : BitVec 32 := Scalar.addi v1416 c7_i32_1121
  let c2_i32_1143 : BitVec 32 := 2#32
  let v1445 : BitVec 32 := Scalar.muli v1417 c2_i32_1143
  let c0_i32_1144 : BitVec 32 := 0#32
  let v1446 : BitVec 32 := Scalar.addi v1445 c0_i32_1144
  let c4_i32_1145 : BitVec 32 := 4#32
  let v1447 : BitVec 32 := Scalar.subi v1446 c4_i32_1145
  let v1448 : BitVec 32 := Scalar.maxsi c0_i32_1146 v1447
  let v1449 : BitVec 32 := Scalar.minsi c120_i32_1147 v1448
  let c64_i32_1148 : BitVec 32 := 64#32
  let v1450 : BitVec 32 := Scalar.muli v1449 c64_i32_1148
  v1450
def k0_mult60 : BitVec 32 :=
  let c2_i32_1120 : BitVec 32 := 2#32
  let c62_i32_1119 : BitVec 32 := 62#32
  let c0_i32_126 : BitVec 32 := 0#32
  let v1415 : BitVec 32 := Scalar.muli c62_i32_1119 c0_i32_126
  let v1416 : BitVec 32 := Scalar.addi c2_i32_1120 v1415
  let c7_i32_1121 : BitVec 32 := 7#32
  let v1417 : BitVec 32 := Scalar.addi v1416 c7_i32_1121
  let c2_i32_1143 : BitVec 32 := 2#32
  let v1445 : BitVec 32 := Scalar.muli v1417 c2_i32_1143
  let c0_i32_1144 : BitVec 32 := 0#32
  let v1446 : BitVec 32 := Scalar.addi v1445 c0_i32_1144
  let c64_i32_1150 : BitVec 32 := 64#32
  let v1454 : BitVec 32 := Scalar.muli v1446 c64_i32_1150
  v1454
def k0_mult61 : BitVec 32 :=
  let c120_i32_1197 : BitVec 32 := 120#32
  let c0_i32_1196 : BitVec 32 := 0#32
  let c2_i32_1120 : BitVec 32 := 2#32
  let c62_i32_1119 : BitVec 32 := 62#32
  let c0_i32_126 : BitVec 32 := 0#32
  let v1415 : BitVec 32 := Scalar.muli c62_i32_1119 c0_i32_126
  let v1416 : BitVec 32 := Scalar.addi c2_i32_1120 v1415
  let c7_i32_1121 : BitVec 32 := 7#32
  let v1417 : BitVec 32 := Scalar.addi v1416 c7_i32_1121
  let c2_i32_1192 : BitVec 32 := 2#32
  let v1508 : BitVec 32 := Scalar.subi v1417 c2_i32_1192
  let c2_i32_1193 : BitVec 32 := 2#32
  let v1509 : BitVec 32 := Scalar.muli v1508 c2_i32_1193
  let c1_i32_1194 : BitVec 32 := 1#32
  let v1510 : BitVec 32 := Scalar.addi v1509 c1_i32_1194
  let c4_i32_1195 : BitVec 32 := 4#32
  let v1511 : BitVec 32 := Scalar.subi v1510 c4_i32_1195
  let v1512 : BitVec 32 := Scalar.maxsi c0_i32_1196 v1511
  let v1513 : BitVec 32 := Scalar.minsi c120_i32_1197 v1512
  let c64_i32_1198 : BitVec 32 := 64#32
  let v1514 : BitVec 32 := Scalar.muli v1513 c64_i32_1198
  v1514
def k0_mult62 : BitVec 32 :=
  let c2_i32_1120 : BitVec 32 := 2#32
  let c62_i32_1119 : BitVec 32 := 62#32
  let c0_i32_126 : BitVec 32 := 0#32
  let v1415 : BitVec 32 := Scalar.muli c62_i32_1119 c0_i32_126
  let v1416 : BitVec 32 := Scalar.addi c2_i32_1120 v1415
  let c7_i32_1121 : BitVec 32 := 7#32
  let v1417 : BitVec 32 := Scalar.addi v1416 c7_i32_1121
  let c2_i32_1192 : BitVec 32 := 2#32
  let v1508 : BitVec 32 := Scalar.subi v1417 c2_i32_1192
  let c2_i32_1193 : BitVec 32 := 2#32
  let v1509 : BitVec 32 := Scalar.muli v1508 c2_i32_1193
  let c1_i32_1194 : BitVec 32 := 1#32
  let v1510 : BitVec 32 := Scalar.addi v1509 c1_i32_1194
  let c64_i32_1210 : BitVec 32 := 64#32
  let v1529 : BitVec 32 := Scalar.muli v1510 c64_i32_1210
  v1529
def k0_mult63 : BitVec 32 :=
  let c120_i32_1217 : BitVec 32 := 120#32
  let c0_i32_1216 : BitVec 32 := 0#32
  let c2_i32_1120 : BitVec 32 := 2#32
  let c62_i32_1119 : BitVec 32 := 62#32
  let c0_i32_126 : BitVec 32 := 0#32
  let v1415 : BitVec 32 := Scalar.muli c62_i32_1119 c0_i32_126
  let v1416 : BitVec 32 := Scalar.addi c2_i32_1120 v1415
  let c7_i32_1121 : BitVec 32 := 7#32
  let v1417 : BitVec 32 := Scalar.addi v1416 c7_i32_1121
  let c2_i32_1213 : BitVec 32 := 2#32
  let v1535 : BitVec 32 := Scalar.muli v1417 c2_i32_1213
  let c1_i32_1214 : BitVec 32 := 1#32
  let v1536 : BitVec 32 := Scalar.addi v1535 c1_i32_1214
  let c4_i32_1215 : BitVec 32 := 4#32
  let v1537 : BitVec 32 := Scalar.subi v1536 c4_i32_1215
  let v1538 : BitVec 32 := Scalar.maxsi c0_i32_1216 v1537
  let v1539 : BitVec 32 := Scalar.minsi c120_i32_1217 v1538
  let c64_i32_1218 : BitVec 32 := 64#32
  let v1540 : BitVec 32 := Scalar.muli v1539 c64_i32_1218
  v1540
def k0_mult64 : BitVec 32 :=
  let c2_i32_1120 : BitVec 32 := 2#32
  let c62_i32_1119 : BitVec 32 := 62#32
  let c0_i32_126 : BitVec 32 := 0#32
  let v1415 : BitVec 32 := Scalar.muli c62_i32_1119 c0_i32_126
  let v1416 : BitVec 32 := Scalar.addi c2_i32_1120 v1415
  let c7_i32_1121 : BitVec 32 := 7#32
  let v1417 : BitVec 32 := Scalar.addi v1416 c7_i32_1121
  let c2_i32_1213 : BitVec 32 := 2#32
  let v1535 : BitVec 32 := Scalar.muli v1417 c2_i32_1213
  let c1_i32_1214 : BitVec 32 := 1#32
  let v1536 : BitVec 32 := Scalar.addi v1535 c1_i32_1214
  let c64_i32_1220 : BitVec 32 := 64#32
  let v1544 : BitVec 32 := Scalar.muli v1536 c64_i32_1220
  v1544
def k0_mult65 : BitVec 32 :=
  let c120_i32_1269 : BitVec 32 := 120#32
  let c0_i32_1268 : BitVec 32 := 0#32
  let c2_i32_1263 : BitVec 32 := 2#32
  let c62_i32_1262 : BitVec 32 := 62#32
  let c0_i32_126 : BitVec 32 := 0#32
  let v1598 : BitVec 32 := Scalar.muli c62_i32_1262 c0_i32_126
  let v1599 : BitVec 32 := Scalar.addi c2_i32_1263 v1598
  let c8_i32 : BitVec 32 := 8#32
  let v1600 : BitVec 32 := Scalar.addi v1599 c8_i32
  let c2_i32_1264 : BitVec 32 := 2#32
  let v1601 : BitVec 32 := Scalar.subi v1600 c2_i32_1264
  let c2_i32_1265 : BitVec 32 := 2#32
  let v1602 : BitVec 32 := Scalar.muli v1601 c2_i32_1265
  let c0_i32_1266 : BitVec 32 := 0#32
  let v1603 : BitVec 32 := Scalar.addi v1602 c0_i32_1266
  let c4_i32_1267 : BitVec 32 := 4#32
  let v1604 : BitVec 32 := Scalar.subi v1603 c4_i32_1267
  let v1605 : BitVec 32 := Scalar.maxsi c0_i32_1268 v1604
  let v1606 : BitVec 32 := Scalar.minsi c120_i32_1269 v1605
  let c64_i32_1270 : BitVec 32 := 64#32
  let v1607 : BitVec 32 := Scalar.muli v1606 c64_i32_1270
  v1607
def k0_mult66 : BitVec 32 :=
  let c2_i32_1263 : BitVec 32 := 2#32
  let c62_i32_1262 : BitVec 32 := 62#32
  let c0_i32_126 : BitVec 32 := 0#32
  let v1598 : BitVec 32 := Scalar.muli c62_i32_1262 c0_i32_126
  let v1599 : BitVec 32 := Scalar.addi c2_i32_1263 v1598
  let c8_i32 : BitVec 32 := 8#32
  let v1600 : BitVec 32 := Scalar.addi v1599 c8_i32
  let c2_i32_1264 : BitVec 32 := 2#32
  let v1601 : BitVec 32 := Scalar.subi v1600 c2_i32_1264
  let c2_i32_1265 : BitVec 32 := 2#32
  let v1602 : BitVec 32 := Scalar.muli v1601 c2_i32_1265
  let c0_i32_1266 : BitVec 32 := 0#32
  let v1603 : BitVec 32 := Scalar.addi v1602 c0_i32_1266
  let c64_i32_1282 : BitVec 32 := 64#32
  let v1622 : BitVec 32 := Scalar.muli v1603 c64_i32_1282
  v1622
def k0_mult67 : BitVec 32 :=
  let c120_i32_1289 : BitVec 32 := 120#32
  let c0_i32_1288 : BitVec 32 := 0#32
  let c2_i32_1263 : BitVec 32 := 2#32
  let c62_i32_1262 : BitVec 32 := 62#32
  let c0_i32_126 : BitVec 32 := 0#32
  let v1598 : BitVec 32 := Scalar.muli c62_i32_1262 c0_i32_126
  let v1599 : BitVec 32 := Scalar.addi c2_i32_1263 v1598
  let c8_i32 : BitVec 32 := 8#32
  let v1600 : BitVec 32 := Scalar.addi v1599 c8_i32
  let c2_i32_1285 : BitVec 32 := 2#32
  let v1628 : BitVec 32 := Scalar.muli v1600 c2_i32_1285
  let c0_i32_1286 : BitVec 32 := 0#32
  let v1629 : BitVec 32 := Scalar.addi v1628 c0_i32_1286
  let c4_i32_1287 : BitVec 32 := 4#32
  let v1630 : BitVec 32 := Scalar.subi v1629 c4_i32_1287
  let v1631 : BitVec 32 := Scalar.maxsi c0_i32_1288 v1630
  let v1632 : BitVec 32 := Scalar.minsi c120_i32_1289 v1631
  let c64_i32_1290 : BitVec 32 := 64#32
  let v1633 : BitVec 32 := Scalar.muli v1632 c64_i32_1290
  v1633
def k0_mult68 : BitVec 32 :=
  let c2_i32_1263 : BitVec 32 := 2#32
  let c62_i32_1262 : BitVec 32 := 62#32
  let c0_i32_126 : BitVec 32 := 0#32
  let v1598 : BitVec 32 := Scalar.muli c62_i32_1262 c0_i32_126
  let v1599 : BitVec 32 := Scalar.addi c2_i32_1263 v1598
  let c8_i32 : BitVec 32 := 8#32
  let v1600 : BitVec 32 := Scalar.addi v1599 c8_i32
  let c2_i32_1285 : BitVec 32 := 2#32
  let v1628 : BitVec 32 := Scalar.muli v1600 c2_i32_1285
  let c0_i32_1286 : BitVec 32 := 0#32
  let v1629 : BitVec 32 := Scalar.addi v1628 c0_i32_1286
  let c64_i32_1292 : BitVec 32 := 64#32
  let v1637 : BitVec 32 := Scalar.muli v1629 c64_i32_1292
  v1637
def k0_mult69 : BitVec 32 :=
  let c120_i32_1339 : BitVec 32 := 120#32
  let c0_i32_1338 : BitVec 32 := 0#32
  let c2_i32_1263 : BitVec 32 := 2#32
  let c62_i32_1262 : BitVec 32 := 62#32
  let c0_i32_126 : BitVec 32 := 0#32
  let v1598 : BitVec 32 := Scalar.muli c62_i32_1262 c0_i32_126
  let v1599 : BitVec 32 := Scalar.addi c2_i32_1263 v1598
  let c8_i32 : BitVec 32 := 8#32
  let v1600 : BitVec 32 := Scalar.addi v1599 c8_i32
  let c2_i32_1334 : BitVec 32 := 2#32
  let v1691 : BitVec 32 := Scalar.subi v1600 c2_i32_1334
  let c2_i32_1335 : BitVec 32 := 2#32
  let v1692 : BitVec 32 := Scalar.muli v1691 c2_i32_1335
  let c1_i32_1336 : BitVec 32 := 1#32
  let v1693 : BitVec 32 := Scalar.addi v1692 c1_i32_1336
  let c4_i32_1337 : BitVec 32 := 4#32
  let v1694 : BitVec 32 := Scalar.subi v1693 c4_i32_1337
  let v1695 : BitVec 32 := Scalar.maxsi c0_i32_1338 v1694
  let v1696 : BitVec 32 := Scalar.minsi c120_i32_1339 v1695
  let c64_i32_1340 : BitVec 32 := 64#32
  let v1697 : BitVec 32 := Scalar.muli v1696 c64_i32_1340
  v1697
def k0_mult70 : BitVec 32 :=
  let c2_i32_1263 : BitVec 32 := 2#32
  let c62_i32_1262 : BitVec 32 := 62#32
  let c0_i32_126 : BitVec 32 := 0#32
  let v1598 : BitVec 32 := Scalar.muli c62_i32_1262 c0_i32_126
  let v1599 : BitVec 32 := Scalar.addi c2_i32_1263 v1598
  let c8_i32 : BitVec 32 := 8#32
  let v1600 : BitVec 32 := Scalar.addi v1599 c8_i32
  let c2_i32_1334 : BitVec 32 := 2#32
  let v1691 : BitVec 32 := Scalar.subi v1600 c2_i32_1334
  let c2_i32_1335 : BitVec 32 := 2#32
  let v1692 : BitVec 32 := Scalar.muli v1691 c2_i32_1335
  let c1_i32_1336 : BitVec 32 := 1#32
  let v1693 : BitVec 32 := Scalar.addi v1692 c1_i32_1336
  let c64_i32_1352 : BitVec 32 := 64#32
  let v1712 : BitVec 32 := Scalar.muli v1693 c64_i32_1352
  v1712
def k0_mult71 : BitVec 32 :=
  let c120_i32_1359 : BitVec 32 := 120#32
  let c0_i32_1358 : BitVec 32 := 0#32
  let c2_i32_1263 : BitVec 32 := 2#32
  let c62_i32_1262 : BitVec 32 := 62#32
  let c0_i32_126 : BitVec 32 := 0#32
  let v1598 : BitVec 32 := Scalar.muli c62_i32_1262 c0_i32_126
  let v1599 : BitVec 32 := Scalar.addi c2_i32_1263 v1598
  let c8_i32 : BitVec 32 := 8#32
  let v1600 : BitVec 32 := Scalar.addi v1599 c8_i32
  let c2_i32_1355 : BitVec 32 := 2#32
  let v1718 : BitVec 32 := Scalar.muli v1600 c2_i32_1355
  let c1_i32_1356 : BitVec 32 := 1#32
  let v1719 : BitVec 32 := Scalar.addi v1718 c1_i32_1356
  let c4_i32_1357 : BitVec 32 := 4#32
  let v1720 : BitVec 32 := Scalar.subi v1719 c4_i32_1357
  let v1721 : BitVec 32 := Scalar.maxsi c0_i32_1358 v1720
  let v1722 : BitVec 32 := Scalar.minsi c120_i32_1359 v1721
  let c64_i32_1360 : BitVec 32 := 64#32
  let v1723 : BitVec 32 := Scalar.muli v1722 c64_i32_1360
  v1723
def k0_mult72 : BitVec 32 :=
  let c2_i32_1263 : BitVec 32 := 2#32
  let c62_i32_1262 : BitVec 32 := 62#32
  let c0_i32_126 : BitVec 32 := 0#32
  let v1598 : BitVec 32 := Scalar.muli c62_i32_1262 c0_i32_126
  let v1599 : BitVec 32 := Scalar.addi c2_i32_1263 v1598
  let c8_i32 : BitVec 32 := 8#32
  let v1600 : BitVec 32 := Scalar.addi v1599 c8_i32
  let c2_i32_1355 : BitVec 32 := 2#32
  let v1718 : BitVec 32 := Scalar.muli v1600 c2_i32_1355
  let c1_i32_1356 : BitVec 32 := 1#32
  let v1719 : BitVec 32 := Scalar.addi v1718 c1_i32_1356
  let c64_i32_1362 : BitVec 32 := 64#32
  let v1727 : BitVec 32 := Scalar.muli v1719 c64_i32_1362
  v1727
def k0_mult73 : BitVec 32 :=
  let c120_i32_1411 : BitVec 32 := 120#32
  let c0_i32_1410 : BitVec 32 := 0#32
  let c2_i32_1405 : BitVec 32 := 2#32
  let c62_i32_1404 : BitVec 32 := 62#32
  let c0_i32_126 : BitVec 32 := 0#32
  let v1781 : BitVec 32 := Scalar.muli c62_i32_1404 c0_i32_126
  let v1782 : BitVec 32 := Scalar.addi c2_i32_1405 v1781
  let c9_i32 : BitVec 32 := 9#32
  let v1783 : BitVec 32 := Scalar.addi v1782 c9_i32
  let c2_i32_1406 : BitVec 32 := 2#32
  let v1784 : BitVec 32 := Scalar.subi v1783 c2_i32_1406
  let c2_i32_1407 : BitVec 32 := 2#32
  let v1785 : BitVec 32 := Scalar.muli v1784 c2_i32_1407
  let c0_i32_1408 : BitVec 32 := 0#32
  let v1786 : BitVec 32 := Scalar.addi v1785 c0_i32_1408
  let c4_i32_1409 : BitVec 32 := 4#32
  let v1787 : BitVec 32 := Scalar.subi v1786 c4_i32_1409
  let v1788 : BitVec 32 := Scalar.maxsi c0_i32_1410 v1787
  let v1789 : BitVec 32 := Scalar.minsi c120_i32_1411 v1788
  let c64_i32_1412 : BitVec 32 := 64#32
  let v1790 : BitVec 32 := Scalar.muli v1789 c64_i32_1412
  v1790
def k0_mult74 : BitVec 32 :=
  let c2_i32_1405 : BitVec 32 := 2#32
  let c62_i32_1404 : BitVec 32 := 62#32
  let c0_i32_126 : BitVec 32 := 0#32
  let v1781 : BitVec 32 := Scalar.muli c62_i32_1404 c0_i32_126
  let v1782 : BitVec 32 := Scalar.addi c2_i32_1405 v1781
  let c9_i32 : BitVec 32 := 9#32
  let v1783 : BitVec 32 := Scalar.addi v1782 c9_i32
  let c2_i32_1406 : BitVec 32 := 2#32
  let v1784 : BitVec 32 := Scalar.subi v1783 c2_i32_1406
  let c2_i32_1407 : BitVec 32 := 2#32
  let v1785 : BitVec 32 := Scalar.muli v1784 c2_i32_1407
  let c0_i32_1408 : BitVec 32 := 0#32
  let v1786 : BitVec 32 := Scalar.addi v1785 c0_i32_1408
  let c64_i32_1424 : BitVec 32 := 64#32
  let v1805 : BitVec 32 := Scalar.muli v1786 c64_i32_1424
  v1805
def k0_mult75 : BitVec 32 :=
  let c120_i32_1431 : BitVec 32 := 120#32
  let c0_i32_1430 : BitVec 32 := 0#32
  let c2_i32_1405 : BitVec 32 := 2#32
  let c62_i32_1404 : BitVec 32 := 62#32
  let c0_i32_126 : BitVec 32 := 0#32
  let v1781 : BitVec 32 := Scalar.muli c62_i32_1404 c0_i32_126
  let v1782 : BitVec 32 := Scalar.addi c2_i32_1405 v1781
  let c9_i32 : BitVec 32 := 9#32
  let v1783 : BitVec 32 := Scalar.addi v1782 c9_i32
  let c2_i32_1427 : BitVec 32 := 2#32
  let v1811 : BitVec 32 := Scalar.muli v1783 c2_i32_1427
  let c0_i32_1428 : BitVec 32 := 0#32
  let v1812 : BitVec 32 := Scalar.addi v1811 c0_i32_1428
  let c4_i32_1429 : BitVec 32 := 4#32
  let v1813 : BitVec 32 := Scalar.subi v1812 c4_i32_1429
  let v1814 : BitVec 32 := Scalar.maxsi c0_i32_1430 v1813
  let v1815 : BitVec 32 := Scalar.minsi c120_i32_1431 v1814
  let c64_i32_1432 : BitVec 32 := 64#32
  let v1816 : BitVec 32 := Scalar.muli v1815 c64_i32_1432
  v1816
def k0_mult76 : BitVec 32 :=
  let c2_i32_1405 : BitVec 32 := 2#32
  let c62_i32_1404 : BitVec 32 := 62#32
  let c0_i32_126 : BitVec 32 := 0#32
  let v1781 : BitVec 32 := Scalar.muli c62_i32_1404 c0_i32_126
  let v1782 : BitVec 32 := Scalar.addi c2_i32_1405 v1781
  let c9_i32 : BitVec 32 := 9#32
  let v1783 : BitVec 32 := Scalar.addi v1782 c9_i32
  let c2_i32_1427 : BitVec 32 := 2#32
  let v1811 : BitVec 32 := Scalar.muli v1783 c2_i32_1427
  let c0_i32_1428 : BitVec 32 := 0#32
  let v1812 : BitVec 32 := Scalar.addi v1811 c0_i32_1428
  let c64_i32_1434 : BitVec 32 := 64#32
  let v1820 : BitVec 32 := Scalar.muli v1812 c64_i32_1434
  v1820
def k0_mult77 : BitVec 32 :=
  let c120_i32_1481 : BitVec 32 := 120#32
  let c0_i32_1480 : BitVec 32 := 0#32
  let c2_i32_1405 : BitVec 32 := 2#32
  let c62_i32_1404 : BitVec 32 := 62#32
  let c0_i32_126 : BitVec 32 := 0#32
  let v1781 : BitVec 32 := Scalar.muli c62_i32_1404 c0_i32_126
  let v1782 : BitVec 32 := Scalar.addi c2_i32_1405 v1781
  let c9_i32 : BitVec 32 := 9#32
  let v1783 : BitVec 32 := Scalar.addi v1782 c9_i32
  let c2_i32_1476 : BitVec 32 := 2#32
  let v1874 : BitVec 32 := Scalar.subi v1783 c2_i32_1476
  let c2_i32_1477 : BitVec 32 := 2#32
  let v1875 : BitVec 32 := Scalar.muli v1874 c2_i32_1477
  let c1_i32_1478 : BitVec 32 := 1#32
  let v1876 : BitVec 32 := Scalar.addi v1875 c1_i32_1478
  let c4_i32_1479 : BitVec 32 := 4#32
  let v1877 : BitVec 32 := Scalar.subi v1876 c4_i32_1479
  let v1878 : BitVec 32 := Scalar.maxsi c0_i32_1480 v1877
  let v1879 : BitVec 32 := Scalar.minsi c120_i32_1481 v1878
  let c64_i32_1482 : BitVec 32 := 64#32
  let v1880 : BitVec 32 := Scalar.muli v1879 c64_i32_1482
  v1880
def k0_mult78 : BitVec 32 :=
  let c2_i32_1405 : BitVec 32 := 2#32
  let c62_i32_1404 : BitVec 32 := 62#32
  let c0_i32_126 : BitVec 32 := 0#32
  let v1781 : BitVec 32 := Scalar.muli c62_i32_1404 c0_i32_126
  let v1782 : BitVec 32 := Scalar.addi c2_i32_1405 v1781
  let c9_i32 : BitVec 32 := 9#32
  let v1783 : BitVec 32 := Scalar.addi v1782 c9_i32
  let c2_i32_1476 : BitVec 32 := 2#32
  let v1874 : BitVec 32 := Scalar.subi v1783 c2_i32_1476
  let c2_i32_1477 : BitVec 32 := 2#32
  let v1875 : BitVec 32 := Scalar.muli v1874 c2_i32_1477
  let c1_i32_1478 : BitVec 32 := 1#32
  let v1876 : BitVec 32 := Scalar.addi v1875 c1_i32_1478
  let c64_i32_1494 : BitVec 32 := 64#32
  let v1895 : BitVec 32 := Scalar.muli v1876 c64_i32_1494
  v1895
def k0_mult79 : BitVec 32 :=
  let c120_i32_1501 : BitVec 32 := 120#32
  let c0_i32_1500 : BitVec 32 := 0#32
  let c2_i32_1405 : BitVec 32 := 2#32
  let c62_i32_1404 : BitVec 32 := 62#32
  let c0_i32_126 : BitVec 32 := 0#32
  let v1781 : BitVec 32 := Scalar.muli c62_i32_1404 c0_i32_126
  let v1782 : BitVec 32 := Scalar.addi c2_i32_1405 v1781
  let c9_i32 : BitVec 32 := 9#32
  let v1783 : BitVec 32 := Scalar.addi v1782 c9_i32
  let c2_i32_1497 : BitVec 32 := 2#32
  let v1901 : BitVec 32 := Scalar.muli v1783 c2_i32_1497
  let c1_i32_1498 : BitVec 32 := 1#32
  let v1902 : BitVec 32 := Scalar.addi v1901 c1_i32_1498
  let c4_i32_1499 : BitVec 32 := 4#32
  let v1903 : BitVec 32 := Scalar.subi v1902 c4_i32_1499
  let v1904 : BitVec 32 := Scalar.maxsi c0_i32_1500 v1903
  let v1905 : BitVec 32 := Scalar.minsi c120_i32_1501 v1904
  let c64_i32_1502 : BitVec 32 := 64#32
  let v1906 : BitVec 32 := Scalar.muli v1905 c64_i32_1502
  v1906
def k0_mult80 : BitVec 32 :=
  let c2_i32_1405 : BitVec 32 := 2#32
  let c62_i32_1404 : BitVec 32 := 62#32
  let c0_i32_126 : BitVec 32 := 0#32
  let v1781 : BitVec 32 := Scalar.muli c62_i32_1404 c0_i32_126
  let v1782 : BitVec 32 := Scalar.addi c2_i32_1405 v1781
  let c9_i32 : BitVec 32 := 9#32
  let v1783 : BitVec 32 := Scalar.addi v1782 c9_i32
  let c2_i32_1497 : BitVec 32 := 2#32
  let v1901 : BitVec 32 := Scalar.muli v1783 c2_i32_1497
  let c1_i32_1498 : BitVec 32 := 1#32
  let v1902 : BitVec 32 := Scalar.addi v1901 c1_i32_1498
  let c64_i32_1504 : BitVec 32 := 64#32
  let v1910 : BitVec 32 := Scalar.muli v1902 c64_i32_1504
  v1910
def k0_mult81 : BitVec 32 :=
  let c120_i32_1553 : BitVec 32 := 120#32
  let c0_i32_1552 : BitVec 32 := 0#32
  let c2_i32_1547 : BitVec 32 := 2#32
  let c62_i32_1546 : BitVec 32 := 62#32
  let c0_i32_126 : BitVec 32 := 0#32
  let v1964 : BitVec 32 := Scalar.muli c62_i32_1546 c0_i32_126
  let v1965 : BitVec 32 := Scalar.addi c2_i32_1547 v1964
  let c10_i32 : BitVec 32 := 10#32
  let v1966 : BitVec 32 := Scalar.addi v1965 c10_i32
  let c2_i32_1548 : BitVec 32 := 2#32
  let v1967 : BitVec 32 := Scalar.subi v1966 c2_i32_1548
  let c2_i32_1549 : BitVec 32 := 2#32
  let v1968 : BitVec 32 := Scalar.muli v1967 c2_i32_1549
  let c0_i32_1550 : BitVec 32 := 0#32
  let v1969 : BitVec 32 := Scalar.addi v1968 c0_i32_1550
  let c4_i32_1551 : BitVec 32 := 4#32
  let v1970 : BitVec 32 := Scalar.subi v1969 c4_i32_1551
  let v1971 : BitVec 32 := Scalar.maxsi c0_i32_1552 v1970
  let v1972 : BitVec 32 := Scalar.minsi c120_i32_1553 v1971
  let c64_i32_1554 : BitVec 32 := 64#32
  let v1973 : BitVec 32 := Scalar.muli v1972 c64_i32_1554
  v1973
def k0_mult82 : BitVec 32 :=
  let c2_i32_1547 : BitVec 32 := 2#32
  let c62_i32_1546 : BitVec 32 := 62#32
  let c0_i32_126 : BitVec 32 := 0#32
  let v1964 : BitVec 32 := Scalar.muli c62_i32_1546 c0_i32_126
  let v1965 : BitVec 32 := Scalar.addi c2_i32_1547 v1964
  let c10_i32 : BitVec 32 := 10#32
  let v1966 : BitVec 32 := Scalar.addi v1965 c10_i32
  let c2_i32_1548 : BitVec 32 := 2#32
  let v1967 : BitVec 32 := Scalar.subi v1966 c2_i32_1548
  let c2_i32_1549 : BitVec 32 := 2#32
  let v1968 : BitVec 32 := Scalar.muli v1967 c2_i32_1549
  let c0_i32_1550 : BitVec 32 := 0#32
  let v1969 : BitVec 32 := Scalar.addi v1968 c0_i32_1550
  let c64_i32_1566 : BitVec 32 := 64#32
  let v1988 : BitVec 32 := Scalar.muli v1969 c64_i32_1566
  v1988
def k0_mult83 : BitVec 32 :=
  let c120_i32_1573 : BitVec 32 := 120#32
  let c0_i32_1572 : BitVec 32 := 0#32
  let c2_i32_1547 : BitVec 32 := 2#32
  let c62_i32_1546 : BitVec 32 := 62#32
  let c0_i32_126 : BitVec 32 := 0#32
  let v1964 : BitVec 32 := Scalar.muli c62_i32_1546 c0_i32_126
  let v1965 : BitVec 32 := Scalar.addi c2_i32_1547 v1964
  let c10_i32 : BitVec 32 := 10#32
  let v1966 : BitVec 32 := Scalar.addi v1965 c10_i32
  let c2_i32_1569 : BitVec 32 := 2#32
  let v1994 : BitVec 32 := Scalar.muli v1966 c2_i32_1569
  let c0_i32_1570 : BitVec 32 := 0#32
  let v1995 : BitVec 32 := Scalar.addi v1994 c0_i32_1570
  let c4_i32_1571 : BitVec 32 := 4#32
  let v1996 : BitVec 32 := Scalar.subi v1995 c4_i32_1571
  let v1997 : BitVec 32 := Scalar.maxsi c0_i32_1572 v1996
  let v1998 : BitVec 32 := Scalar.minsi c120_i32_1573 v1997
  let c64_i32_1574 : BitVec 32 := 64#32
  let v1999 : BitVec 32 := Scalar.muli v1998 c64_i32_1574
  v1999
def k0_mult84 : BitVec 32 :=
  let c2_i32_1547 : BitVec 32 := 2#32
  let c62_i32_1546 : BitVec 32 := 62#32
  let c0_i32_126 : BitVec 32 := 0#32
  let v1964 : BitVec 32 := Scalar.muli c62_i32_1546 c0_i32_126
  let v1965 : BitVec 32 := Scalar.addi c2_i32_1547 v1964
  let c10_i32 : BitVec 32 := 10#32
  let v1966 : BitVec 32 := Scalar.addi v1965 c10_i32
  let c2_i32_1569 : BitVec 32 := 2#32
  let v1994 : BitVec 32 := Scalar.muli v1966 c2_i32_1569
  let c0_i32_1570 : BitVec 32 := 0#32
  let v1995 : BitVec 32 := Scalar.addi v1994 c0_i32_1570
  let c64_i32_1576 : BitVec 32 := 64#32
  let v2003 : BitVec 32 := Scalar.muli v1995 c64_i32_1576
  v2003
def k0_mult85 : BitVec 32 :=
  let c120_i32_1623 : BitVec 32 := 120#32
  let c0_i32_1622 : BitVec 32 := 0#32
  let c2_i32_1547 : BitVec 32 := 2#32
  let c62_i32_1546 : BitVec 32 := 62#32
  let c0_i32_126 : BitVec 32 := 0#32
  let v1964 : BitVec 32 := Scalar.muli c62_i32_1546 c0_i32_126
  let v1965 : BitVec 32 := Scalar.addi c2_i32_1547 v1964
  let c10_i32 : BitVec 32 := 10#32
  let v1966 : BitVec 32 := Scalar.addi v1965 c10_i32
  let c2_i32_1618 : BitVec 32 := 2#32
  let v2057 : BitVec 32 := Scalar.subi v1966 c2_i32_1618
  let c2_i32_1619 : BitVec 32 := 2#32
  let v2058 : BitVec 32 := Scalar.muli v2057 c2_i32_1619
  let c1_i32_1620 : BitVec 32 := 1#32
  let v2059 : BitVec 32 := Scalar.addi v2058 c1_i32_1620
  let c4_i32_1621 : BitVec 32 := 4#32
  let v2060 : BitVec 32 := Scalar.subi v2059 c4_i32_1621
  let v2061 : BitVec 32 := Scalar.maxsi c0_i32_1622 v2060
  let v2062 : BitVec 32 := Scalar.minsi c120_i32_1623 v2061
  let c64_i32_1624 : BitVec 32 := 64#32
  let v2063 : BitVec 32 := Scalar.muli v2062 c64_i32_1624
  v2063
def k0_mult86 : BitVec 32 :=
  let c2_i32_1547 : BitVec 32 := 2#32
  let c62_i32_1546 : BitVec 32 := 62#32
  let c0_i32_126 : BitVec 32 := 0#32
  let v1964 : BitVec 32 := Scalar.muli c62_i32_1546 c0_i32_126
  let v1965 : BitVec 32 := Scalar.addi c2_i32_1547 v1964
  let c10_i32 : BitVec 32 := 10#32
  let v1966 : BitVec 32 := Scalar.addi v1965 c10_i32
  let c2_i32_1618 : BitVec 32 := 2#32
  let v2057 : BitVec 32 := Scalar.subi v1966 c2_i32_1618
  let c2_i32_1619 : BitVec 32 := 2#32
  let v2058 : BitVec 32 := Scalar.muli v2057 c2_i32_1619
  let c1_i32_1620 : BitVec 32 := 1#32
  let v2059 : BitVec 32 := Scalar.addi v2058 c1_i32_1620
  let c64_i32_1636 : BitVec 32 := 64#32
  let v2078 : BitVec 32 := Scalar.muli v2059 c64_i32_1636
  v2078
def k0_mult87 : BitVec 32 :=
  let c120_i32_1643 : BitVec 32 := 120#32
  let c0_i32_1642 : BitVec 32 := 0#32
  let c2_i32_1547 : BitVec 32 := 2#32
  let c62_i32_1546 : BitVec 32 := 62#32
  let c0_i32_126 : BitVec 32 := 0#32
  let v1964 : BitVec 32 := Scalar.muli c62_i32_1546 c0_i32_126
  let v1965 : BitVec 32 := Scalar.addi c2_i32_1547 v1964
  let c10_i32 : BitVec 32 := 10#32
  let v1966 : BitVec 32 := Scalar.addi v1965 c10_i32
  let c2_i32_1639 : BitVec 32 := 2#32
  let v2084 : BitVec 32 := Scalar.muli v1966 c2_i32_1639
  let c1_i32_1640 : BitVec 32 := 1#32
  let v2085 : BitVec 32 := Scalar.addi v2084 c1_i32_1640
  let c4_i32_1641 : BitVec 32 := 4#32
  let v2086 : BitVec 32 := Scalar.subi v2085 c4_i32_1641
  let v2087 : BitVec 32 := Scalar.maxsi c0_i32_1642 v2086
  let v2088 : BitVec 32 := Scalar.minsi c120_i32_1643 v2087
  let c64_i32_1644 : BitVec 32 := 64#32
  let v2089 : BitVec 32 := Scalar.muli v2088 c64_i32_1644
  v2089
def k0_mult88 : BitVec 32 :=
  let c2_i32_1547 : BitVec 32 := 2#32
  let c62_i32_1546 : BitVec 32 := 62#32
  let c0_i32_126 : BitVec 32 := 0#32
  let v1964 : BitVec 32 := Scalar.muli c62_i32_1546 c0_i32_126
  let v1965 : BitVec 32 := Scalar.addi c2_i32_1547 v1964
  let c10_i32 : BitVec 32 := 10#32
  let v1966 : BitVec 32 := Scalar.addi v1965 c10_i32
  let c2_i32_1639 : BitVec 32 := 2#32
  let v2084 : BitVec 32 := Scalar.muli v1966 c2_i32_1639
  let c1_i32_1640 : BitVec 32 := 1#32
  let v2085 : BitVec 32 := Scalar.addi v2084 c1_i32_1640
  let c64_i32_1646 : BitVec 32 := 64#32
  let v2093 : BitVec 32 := Scalar.muli v2085 c64_i32_1646
  v2093
def k0_mult89 : BitVec 32 :=
  let c120_i32_1695 : BitVec 32 := 120#32
  let c0_i32_1694 : BitVec 32 := 0#32
  let c2_i32_1689 : BitVec 32 := 2#32
  let c62_i32_1688 : BitVec 32 := 62#32
  let c0_i32_126 : BitVec 32 := 0#32
  let v2147 : BitVec 32 := Scalar.muli c62_i32_1688 c0_i32_126
  let v2148 : BitVec 32 := Scalar.addi c2_i32_1689 v2147
  let c11_i32 : BitVec 32 := 11#32
  let v2149 : BitVec 32 := Scalar.addi v2148 c11_i32
  let c2_i32_1690 : BitVec 32 := 2#32
  let v2150 : BitVec 32 := Scalar.subi v2149 c2_i32_1690
  let c2_i32_1691 : BitVec 32 := 2#32
  let v2151 : BitVec 32 := Scalar.muli v2150 c2_i32_1691
  let c0_i32_1692 : BitVec 32 := 0#32
  let v2152 : BitVec 32 := Scalar.addi v2151 c0_i32_1692
  let c4_i32_1693 : BitVec 32 := 4#32
  let v2153 : BitVec 32 := Scalar.subi v2152 c4_i32_1693
  let v2154 : BitVec 32 := Scalar.maxsi c0_i32_1694 v2153
  let v2155 : BitVec 32 := Scalar.minsi c120_i32_1695 v2154
  let c64_i32_1696 : BitVec 32 := 64#32
  let v2156 : BitVec 32 := Scalar.muli v2155 c64_i32_1696
  v2156
def k0_mult90 : BitVec 32 :=
  let c2_i32_1689 : BitVec 32 := 2#32
  let c62_i32_1688 : BitVec 32 := 62#32
  let c0_i32_126 : BitVec 32 := 0#32
  let v2147 : BitVec 32 := Scalar.muli c62_i32_1688 c0_i32_126
  let v2148 : BitVec 32 := Scalar.addi c2_i32_1689 v2147
  let c11_i32 : BitVec 32 := 11#32
  let v2149 : BitVec 32 := Scalar.addi v2148 c11_i32
  let c2_i32_1690 : BitVec 32 := 2#32
  let v2150 : BitVec 32 := Scalar.subi v2149 c2_i32_1690
  let c2_i32_1691 : BitVec 32 := 2#32
  let v2151 : BitVec 32 := Scalar.muli v2150 c2_i32_1691
  let c0_i32_1692 : BitVec 32 := 0#32
  let v2152 : BitVec 32 := Scalar.addi v2151 c0_i32_1692
  let c64_i32_1708 : BitVec 32 := 64#32
  let v2171 : BitVec 32 := Scalar.muli v2152 c64_i32_1708
  v2171
def k0_mult91 : BitVec 32 :=
  let c120_i32_1715 : BitVec 32 := 120#32
  let c0_i32_1714 : BitVec 32 := 0#32
  let c2_i32_1689 : BitVec 32 := 2#32
  let c62_i32_1688 : BitVec 32 := 62#32
  let c0_i32_126 : BitVec 32 := 0#32
  let v2147 : BitVec 32 := Scalar.muli c62_i32_1688 c0_i32_126
  let v2148 : BitVec 32 := Scalar.addi c2_i32_1689 v2147
  let c11_i32 : BitVec 32 := 11#32
  let v2149 : BitVec 32 := Scalar.addi v2148 c11_i32
  let c2_i32_1711 : BitVec 32 := 2#32
  let v2177 : BitVec 32 := Scalar.muli v2149 c2_i32_1711
  let c0_i32_1712 : BitVec 32 := 0#32
  let v2178 : BitVec 32 := Scalar.addi v2177 c0_i32_1712
  let c4_i32_1713 : BitVec 32 := 4#32
  let v2179 : BitVec 32 := Scalar.subi v2178 c4_i32_1713
  let v2180 : BitVec 32 := Scalar.maxsi c0_i32_1714 v2179
  let v2181 : BitVec 32 := Scalar.minsi c120_i32_1715 v2180
  let c64_i32_1716 : BitVec 32 := 64#32
  let v2182 : BitVec 32 := Scalar.muli v2181 c64_i32_1716
  v2182
def k0_mult92 : BitVec 32 :=
  let c2_i32_1689 : BitVec 32 := 2#32
  let c62_i32_1688 : BitVec 32 := 62#32
  let c0_i32_126 : BitVec 32 := 0#32
  let v2147 : BitVec 32 := Scalar.muli c62_i32_1688 c0_i32_126
  let v2148 : BitVec 32 := Scalar.addi c2_i32_1689 v2147
  let c11_i32 : BitVec 32 := 11#32
  let v2149 : BitVec 32 := Scalar.addi v2148 c11_i32
  let c2_i32_1711 : BitVec 32 := 2#32
  let v2177 : BitVec 32 := Scalar.muli v2149 c2_i32_1711
  let c0_i32_1712 : BitVec 32 := 0#32
  let v2178 : BitVec 32 := Scalar.addi v2177 c0_i32_1712
  let c64_i32_1718 : BitVec 32 := 64#32
  let v2186 : BitVec 32 := Scalar.muli v2178 c64_i32_1718
  v2186
def k0_mult93 : BitVec 32 :=
  let c120_i32_1765 : BitVec 32 := 120#32
  let c0_i32_1764 : BitVec 32 := 0#32
  let c2_i32_1689 : BitVec 32 := 2#32
  let c62_i32_1688 : BitVec 32 := 62#32
  let c0_i32_126 : BitVec 32 := 0#32
  let v2147 : BitVec 32 := Scalar.muli c62_i32_1688 c0_i32_126
  let v2148 : BitVec 32 := Scalar.addi c2_i32_1689 v2147
  let c11_i32 : BitVec 32 := 11#32
  let v2149 : BitVec 32 := Scalar.addi v2148 c11_i32
  let c2_i32_1760 : BitVec 32 := 2#32
  let v2240 : BitVec 32 := Scalar.subi v2149 c2_i32_1760
  let c2_i32_1761 : BitVec 32 := 2#32
  let v2241 : BitVec 32 := Scalar.muli v2240 c2_i32_1761
  let c1_i32_1762 : BitVec 32 := 1#32
  let v2242 : BitVec 32 := Scalar.addi v2241 c1_i32_1762
  let c4_i32_1763 : BitVec 32 := 4#32
  let v2243 : BitVec 32 := Scalar.subi v2242 c4_i32_1763
  let v2244 : BitVec 32 := Scalar.maxsi c0_i32_1764 v2243
  let v2245 : BitVec 32 := Scalar.minsi c120_i32_1765 v2244
  let c64_i32_1766 : BitVec 32 := 64#32
  let v2246 : BitVec 32 := Scalar.muli v2245 c64_i32_1766
  v2246
def k0_mult94 : BitVec 32 :=
  let c2_i32_1689 : BitVec 32 := 2#32
  let c62_i32_1688 : BitVec 32 := 62#32
  let c0_i32_126 : BitVec 32 := 0#32
  let v2147 : BitVec 32 := Scalar.muli c62_i32_1688 c0_i32_126
  let v2148 : BitVec 32 := Scalar.addi c2_i32_1689 v2147
  let c11_i32 : BitVec 32 := 11#32
  let v2149 : BitVec 32 := Scalar.addi v2148 c11_i32
  let c2_i32_1760 : BitVec 32 := 2#32
  let v2240 : BitVec 32 := Scalar.subi v2149 c2_i32_1760
  let c2_i32_1761 : BitVec 32 := 2#32
  let v2241 : BitVec 32 := Scalar.muli v2240 c2_i32_1761
  let c1_i32_1762 : BitVec 32 := 1#32
  let v2242 : BitVec 32 := Scalar.addi v2241 c1_i32_1762
  let c64_i32_1778 : BitVec 32 := 64#32
  let v2261 : BitVec 32 := Scalar.muli v2242 c64_i32_1778
  v2261
def k0_mult95 : BitVec 32 :=
  let c120_i32_1785 : BitVec 32 := 120#32
  let c0_i32_1784 : BitVec 32 := 0#32
  let c2_i32_1689 : BitVec 32 := 2#32
  let c62_i32_1688 : BitVec 32 := 62#32
  let c0_i32_126 : BitVec 32 := 0#32
  let v2147 : BitVec 32 := Scalar.muli c62_i32_1688 c0_i32_126
  let v2148 : BitVec 32 := Scalar.addi c2_i32_1689 v2147
  let c11_i32 : BitVec 32 := 11#32
  let v2149 : BitVec 32 := Scalar.addi v2148 c11_i32
  let c2_i32_1781 : BitVec 32 := 2#32
  let v2267 : BitVec 32 := Scalar.muli v2149 c2_i32_1781
  let c1_i32_1782 : BitVec 32 := 1#32
  let v2268 : BitVec 32 := Scalar.addi v2267 c1_i32_1782
  let c4_i32_1783 : BitVec 32 := 4#32
  let v2269 : BitVec 32 := Scalar.subi v2268 c4_i32_1783
  let v2270 : BitVec 32 := Scalar.maxsi c0_i32_1784 v2269
  let v2271 : BitVec 32 := Scalar.minsi c120_i32_1785 v2270
  let c64_i32_1786 : BitVec 32 := 64#32
  let v2272 : BitVec 32 := Scalar.muli v2271 c64_i32_1786
  v2272
def k0_mult96 : BitVec 32 :=
  let c2_i32_1689 : BitVec 32 := 2#32
  let c62_i32_1688 : BitVec 32 := 62#32
  let c0_i32_126 : BitVec 32 := 0#32
  let v2147 : BitVec 32 := Scalar.muli c62_i32_1688 c0_i32_126
  let v2148 : BitVec 32 := Scalar.addi c2_i32_1689 v2147
  let c11_i32 : BitVec 32 := 11#32
  let v2149 : BitVec 32 := Scalar.addi v2148 c11_i32
  let c2_i32_1781 : BitVec 32 := 2#32
  let v2267 : BitVec 32 := Scalar.muli v2149 c2_i32_1781
  let c1_i32_1782 : BitVec 32 := 1#32
  let v2268 : BitVec 32 := Scalar.addi v2267 c1_i32_1782
  let c64_i32_1788 : BitVec 32 := 64#32
  let v2276 : BitVec 32 := Scalar.muli v2268 c64_i32_1788
  v2276
def k0_mult97 : BitVec 32 :=
  let c120_i32_1837 : BitVec 32 := 120#32
  let c0_i32_1836 : BitVec 32 := 0#32
  let c2_i32_1831 : BitVec 32 := 2#32
  let c62_i32_1830 : BitVec 32 := 62#32
  let c0_i32_126 : BitVec 32 := 0#32
  let v2330 : BitVec 32 := Scalar.muli c62_i32_1830 c0_i32_126
  let v2331 : BitVec 32 := Scalar.addi c2_i32_1831 v2330
  let c12_i32 : BitVec 32 := 12#32
  let v2332 : BitVec 32 := Scalar.addi v2331 c12_i32
  let c2_i32_1832 : BitVec 32 := 2#32
  let v2333 : BitVec 32 := Scalar.subi v2332 c2_i32_1832
  let c2_i32_1833 : BitVec 32 := 2#32
  let v2334 : BitVec 32 := Scalar.muli v2333 c2_i32_1833
  let c0_i32_1834 : BitVec 32 := 0#32
  let v2335 : BitVec 32 := Scalar.addi v2334 c0_i32_1834
  let c4_i32_1835 : BitVec 32 := 4#32
  let v2336 : BitVec 32 := Scalar.subi v2335 c4_i32_1835
  let v2337 : BitVec 32 := Scalar.maxsi c0_i32_1836 v2336
  let v2338 : BitVec 32 := Scalar.minsi c120_i32_1837 v2337
  let c64_i32_1838 : BitVec 32 := 64#32
  let v2339 : BitVec 32 := Scalar.muli v2338 c64_i32_1838
  v2339
def k0_mult98 : BitVec 32 :=
  let c2_i32_1831 : BitVec 32 := 2#32
  let c62_i32_1830 : BitVec 32 := 62#32
  let c0_i32_126 : BitVec 32 := 0#32
  let v2330 : BitVec 32 := Scalar.muli c62_i32_1830 c0_i32_126
  let v2331 : BitVec 32 := Scalar.addi c2_i32_1831 v2330
  let c12_i32 : BitVec 32 := 12#32
  let v2332 : BitVec 32 := Scalar.addi v2331 c12_i32
  let c2_i32_1832 : BitVec 32 := 2#32
  let v2333 : BitVec 32 := Scalar.subi v2332 c2_i32_1832
  let c2_i32_1833 : BitVec 32 := 2#32
  let v2334 : BitVec 32 := Scalar.muli v2333 c2_i32_1833
  let c0_i32_1834 : BitVec 32 := 0#32
  let v2335 : BitVec 32 := Scalar.addi v2334 c0_i32_1834
  let c64_i32_1850 : BitVec 32 := 64#32
  let v2354 : BitVec 32 := Scalar.muli v2335 c64_i32_1850
  v2354
def k0_mult99 : BitVec 32 :=
  let c120_i32_1857 : BitVec 32 := 120#32
  let c0_i32_1856 : BitVec 32 := 0#32
  let c2_i32_1831 : BitVec 32 := 2#32
  let c62_i32_1830 : BitVec 32 := 62#32
  let c0_i32_126 : BitVec 32 := 0#32
  let v2330 : BitVec 32 := Scalar.muli c62_i32_1830 c0_i32_126
  let v2331 : BitVec 32 := Scalar.addi c2_i32_1831 v2330
  let c12_i32 : BitVec 32 := 12#32
  let v2332 : BitVec 32 := Scalar.addi v2331 c12_i32
  let c2_i32_1853 : BitVec 32 := 2#32
  let v2360 : BitVec 32 := Scalar.muli v2332 c2_i32_1853
  let c0_i32_1854 : BitVec 32 := 0#32
  let v2361 : BitVec 32 := Scalar.addi v2360 c0_i32_1854
  let c4_i32_1855 : BitVec 32 := 4#32
  let v2362 : BitVec 32 := Scalar.subi v2361 c4_i32_1855
  let v2363 : BitVec 32 := Scalar.maxsi c0_i32_1856 v2362
  let v2364 : BitVec 32 := Scalar.minsi c120_i32_1857 v2363
  let c64_i32_1858 : BitVec 32 := 64#32
  let v2365 : BitVec 32 := Scalar.muli v2364 c64_i32_1858
  v2365
def k0_mult100 : BitVec 32 :=
  let c2_i32_1831 : BitVec 32 := 2#32
  let c62_i32_1830 : BitVec 32 := 62#32
  let c0_i32_126 : BitVec 32 := 0#32
  let v2330 : BitVec 32 := Scalar.muli c62_i32_1830 c0_i32_126
  let v2331 : BitVec 32 := Scalar.addi c2_i32_1831 v2330
  let c12_i32 : BitVec 32 := 12#32
  let v2332 : BitVec 32 := Scalar.addi v2331 c12_i32
  let c2_i32_1853 : BitVec 32 := 2#32
  let v2360 : BitVec 32 := Scalar.muli v2332 c2_i32_1853
  let c0_i32_1854 : BitVec 32 := 0#32
  let v2361 : BitVec 32 := Scalar.addi v2360 c0_i32_1854
  let c64_i32_1860 : BitVec 32 := 64#32
  let v2369 : BitVec 32 := Scalar.muli v2361 c64_i32_1860
  v2369
def k0_mult101 : BitVec 32 :=
  let c120_i32_1907 : BitVec 32 := 120#32
  let c0_i32_1906 : BitVec 32 := 0#32
  let c2_i32_1831 : BitVec 32 := 2#32
  let c62_i32_1830 : BitVec 32 := 62#32
  let c0_i32_126 : BitVec 32 := 0#32
  let v2330 : BitVec 32 := Scalar.muli c62_i32_1830 c0_i32_126
  let v2331 : BitVec 32 := Scalar.addi c2_i32_1831 v2330
  let c12_i32 : BitVec 32 := 12#32
  let v2332 : BitVec 32 := Scalar.addi v2331 c12_i32
  let c2_i32_1902 : BitVec 32 := 2#32
  let v2423 : BitVec 32 := Scalar.subi v2332 c2_i32_1902
  let c2_i32_1903 : BitVec 32 := 2#32
  let v2424 : BitVec 32 := Scalar.muli v2423 c2_i32_1903
  let c1_i32_1904 : BitVec 32 := 1#32
  let v2425 : BitVec 32 := Scalar.addi v2424 c1_i32_1904
  let c4_i32_1905 : BitVec 32 := 4#32
  let v2426 : BitVec 32 := Scalar.subi v2425 c4_i32_1905
  let v2427 : BitVec 32 := Scalar.maxsi c0_i32_1906 v2426
  let v2428 : BitVec 32 := Scalar.minsi c120_i32_1907 v2427
  let c64_i32_1908 : BitVec 32 := 64#32
  let v2429 : BitVec 32 := Scalar.muli v2428 c64_i32_1908
  v2429
def k0_mult102 : BitVec 32 :=
  let c2_i32_1831 : BitVec 32 := 2#32
  let c62_i32_1830 : BitVec 32 := 62#32
  let c0_i32_126 : BitVec 32 := 0#32
  let v2330 : BitVec 32 := Scalar.muli c62_i32_1830 c0_i32_126
  let v2331 : BitVec 32 := Scalar.addi c2_i32_1831 v2330
  let c12_i32 : BitVec 32 := 12#32
  let v2332 : BitVec 32 := Scalar.addi v2331 c12_i32
  let c2_i32_1902 : BitVec 32 := 2#32
  let v2423 : BitVec 32 := Scalar.subi v2332 c2_i32_1902
  let c2_i32_1903 : BitVec 32 := 2#32
  let v2424 : BitVec 32 := Scalar.muli v2423 c2_i32_1903
  let c1_i32_1904 : BitVec 32 := 1#32
  let v2425 : BitVec 32 := Scalar.addi v2424 c1_i32_1904
  let c64_i32_1920 : BitVec 32 := 64#32
  let v2444 : BitVec 32 := Scalar.muli v2425 c64_i32_1920
  v2444
def k0_mult103 : BitVec 32 :=
  let c120_i32_1927 : BitVec 32 := 120#32
  let c0_i32_1926 : BitVec 32 := 0#32
  let c2_i32_1831 : BitVec 32 := 2#32
  let c62_i32_1830 : BitVec 32 := 62#32
  let c0_i32_126 : BitVec 32 := 0#32
  let v2330 : BitVec 32 := Scalar.muli c62_i32_1830 c0_i32_126
  let v2331 : BitVec 32 := Scalar.addi c2_i32_1831 v2330
  let c12_i32 : BitVec 32 := 12#32
  let v2332 : BitVec 32 := Scalar.addi v2331 c12_i32
  let c2_i32_1923 : BitVec 32 := 2#32
  let v2450 : BitVec 32 := Scalar.muli v2332 c2_i32_1923
  let c1_i32_1924 : BitVec 32 := 1#32
  let v2451 : BitVec 32 := Scalar.addi v2450 c1_i32_1924
  let c4_i32_1925 : BitVec 32 := 4#32
  let v2452 : BitVec 32 := Scalar.subi v2451 c4_i32_1925
  let v2453 : BitVec 32 := Scalar.maxsi c0_i32_1926 v2452
  let v2454 : BitVec 32 := Scalar.minsi c120_i32_1927 v2453
  let c64_i32_1928 : BitVec 32 := 64#32
  let v2455 : BitVec 32 := Scalar.muli v2454 c64_i32_1928
  v2455
def k0_mult104 : BitVec 32 :=
  let c2_i32_1831 : BitVec 32 := 2#32
  let c62_i32_1830 : BitVec 32 := 62#32
  let c0_i32_126 : BitVec 32 := 0#32
  let v2330 : BitVec 32 := Scalar.muli c62_i32_1830 c0_i32_126
  let v2331 : BitVec 32 := Scalar.addi c2_i32_1831 v2330
  let c12_i32 : BitVec 32 := 12#32
  let v2332 : BitVec 32 := Scalar.addi v2331 c12_i32
  let c2_i32_1923 : BitVec 32 := 2#32
  let v2450 : BitVec 32 := Scalar.muli v2332 c2_i32_1923
  let c1_i32_1924 : BitVec 32 := 1#32
  let v2451 : BitVec 32 := Scalar.addi v2450 c1_i32_1924
  let c64_i32_1930 : BitVec 32 := 64#32
  let v2459 : BitVec 32 := Scalar.muli v2451 c64_i32_1930
  v2459
def k0_mult105 : BitVec 32 :=
  let c120_i32_1979 : BitVec 32 := 120#32
  let c0_i32_1978 : BitVec 32 := 0#32
  let c2_i32_1973 : BitVec 32 := 2#32
  let c62_i32_1972 : BitVec 32 := 62#32
  let c0_i32_126 : BitVec 32 := 0#32
  let v2513 : BitVec 32 := Scalar.muli c62_i32_1972 c0_i32_126
  let v2514 : BitVec 32 := Scalar.addi c2_i32_1973 v2513
  let c13_i32 : BitVec 32 := 13#32
  let v2515 : BitVec 32 := Scalar.addi v2514 c13_i32
  let c2_i32_1974 : BitVec 32 := 2#32
  let v2516 : BitVec 32 := Scalar.subi v2515 c2_i32_1974
  let c2_i32_1975 : BitVec 32 := 2#32
  let v2517 : BitVec 32 := Scalar.muli v2516 c2_i32_1975
  let c0_i32_1976 : BitVec 32 := 0#32
  let v2518 : BitVec 32 := Scalar.addi v2517 c0_i32_1976
  let c4_i32_1977 : BitVec 32 := 4#32
  let v2519 : BitVec 32 := Scalar.subi v2518 c4_i32_1977
  let v2520 : BitVec 32 := Scalar.maxsi c0_i32_1978 v2519
  let v2521 : BitVec 32 := Scalar.minsi c120_i32_1979 v2520
  let c64_i32_1980 : BitVec 32 := 64#32
  let v2522 : BitVec 32 := Scalar.muli v2521 c64_i32_1980
  v2522
def k0_mult106 : BitVec 32 :=
  let c2_i32_1973 : BitVec 32 := 2#32
  let c62_i32_1972 : BitVec 32 := 62#32
  let c0_i32_126 : BitVec 32 := 0#32
  let v2513 : BitVec 32 := Scalar.muli c62_i32_1972 c0_i32_126
  let v2514 : BitVec 32 := Scalar.addi c2_i32_1973 v2513
  let c13_i32 : BitVec 32 := 13#32
  let v2515 : BitVec 32 := Scalar.addi v2514 c13_i32
  let c2_i32_1974 : BitVec 32 := 2#32
  let v2516 : BitVec 32 := Scalar.subi v2515 c2_i32_1974
  let c2_i32_1975 : BitVec 32 := 2#32
  let v2517 : BitVec 32 := Scalar.muli v2516 c2_i32_1975
  let c0_i32_1976 : BitVec 32 := 0#32
  let v2518 : BitVec 32 := Scalar.addi v2517 c0_i32_1976
  let c64_i32_1992 : BitVec 32 := 64#32
  let v2537 : BitVec 32 := Scalar.muli v2518 c64_i32_1992
  v2537
def k0_mult107 : BitVec 32 :=
  let c120_i32_1999 : BitVec 32 := 120#32
  let c0_i32_1998 : BitVec 32 := 0#32
  let c2_i32_1973 : BitVec 32 := 2#32
  let c62_i32_1972 : BitVec 32 := 62#32
  let c0_i32_126 : BitVec 32 := 0#32
  let v2513 : BitVec 32 := Scalar.muli c62_i32_1972 c0_i32_126
  let v2514 : BitVec 32 := Scalar.addi c2_i32_1973 v2513
  let c13_i32 : BitVec 32 := 13#32
  let v2515 : BitVec 32 := Scalar.addi v2514 c13_i32
  let c2_i32_1995 : BitVec 32 := 2#32
  let v2543 : BitVec 32 := Scalar.muli v2515 c2_i32_1995
  let c0_i32_1996 : BitVec 32 := 0#32
  let v2544 : BitVec 32 := Scalar.addi v2543 c0_i32_1996
  let c4_i32_1997 : BitVec 32 := 4#32
  let v2545 : BitVec 32 := Scalar.subi v2544 c4_i32_1997
  let v2546 : BitVec 32 := Scalar.maxsi c0_i32_1998 v2545
  let v2547 : BitVec 32 := Scalar.minsi c120_i32_1999 v2546
  let c64_i32_2000 : BitVec 32 := 64#32
  let v2548 : BitVec 32 := Scalar.muli v2547 c64_i32_2000
  v2548
def k0_mult108 : BitVec 32 :=
  let c2_i32_1973 : BitVec 32 := 2#32
  let c62_i32_1972 : BitVec 32 := 62#32
  let c0_i32_126 : BitVec 32 := 0#32
  let v2513 : BitVec 32 := Scalar.muli c62_i32_1972 c0_i32_126
  let v2514 : BitVec 32 := Scalar.addi c2_i32_1973 v2513
  let c13_i32 : BitVec 32 := 13#32
  let v2515 : BitVec 32 := Scalar.addi v2514 c13_i32
  let c2_i32_1995 : BitVec 32 := 2#32
  let v2543 : BitVec 32 := Scalar.muli v2515 c2_i32_1995
  let c0_i32_1996 : BitVec 32 := 0#32
  let v2544 : BitVec 32 := Scalar.addi v2543 c0_i32_1996
  let c64_i32_2002 : BitVec 32 := 64#32
  let v2552 : BitVec 32 := Scalar.muli v2544 c64_i32_2002
  v2552
def k0_mult109 : BitVec 32 :=
  let c120_i32_2049 : BitVec 32 := 120#32
  let c0_i32_2048 : BitVec 32 := 0#32
  let c2_i32_1973 : BitVec 32 := 2#32
  let c62_i32_1972 : BitVec 32 := 62#32
  let c0_i32_126 : BitVec 32 := 0#32
  let v2513 : BitVec 32 := Scalar.muli c62_i32_1972 c0_i32_126
  let v2514 : BitVec 32 := Scalar.addi c2_i32_1973 v2513
  let c13_i32 : BitVec 32 := 13#32
  let v2515 : BitVec 32 := Scalar.addi v2514 c13_i32
  let c2_i32_2044 : BitVec 32 := 2#32
  let v2606 : BitVec 32 := Scalar.subi v2515 c2_i32_2044
  let c2_i32_2045 : BitVec 32 := 2#32
  let v2607 : BitVec 32 := Scalar.muli v2606 c2_i32_2045
  let c1_i32_2046 : BitVec 32 := 1#32
  let v2608 : BitVec 32 := Scalar.addi v2607 c1_i32_2046
  let c4_i32_2047 : BitVec 32 := 4#32
  let v2609 : BitVec 32 := Scalar.subi v2608 c4_i32_2047
  let v2610 : BitVec 32 := Scalar.maxsi c0_i32_2048 v2609
  let v2611 : BitVec 32 := Scalar.minsi c120_i32_2049 v2610
  let c64_i32_2050 : BitVec 32 := 64#32
  let v2612 : BitVec 32 := Scalar.muli v2611 c64_i32_2050
  v2612
def k0_mult110 : BitVec 32 :=
  let c2_i32_1973 : BitVec 32 := 2#32
  let c62_i32_1972 : BitVec 32 := 62#32
  let c0_i32_126 : BitVec 32 := 0#32
  let v2513 : BitVec 32 := Scalar.muli c62_i32_1972 c0_i32_126
  let v2514 : BitVec 32 := Scalar.addi c2_i32_1973 v2513
  let c13_i32 : BitVec 32 := 13#32
  let v2515 : BitVec 32 := Scalar.addi v2514 c13_i32
  let c2_i32_2044 : BitVec 32 := 2#32
  let v2606 : BitVec 32 := Scalar.subi v2515 c2_i32_2044
  let c2_i32_2045 : BitVec 32 := 2#32
  let v2607 : BitVec 32 := Scalar.muli v2606 c2_i32_2045
  let c1_i32_2046 : BitVec 32 := 1#32
  let v2608 : BitVec 32 := Scalar.addi v2607 c1_i32_2046
  let c64_i32_2062 : BitVec 32 := 64#32
  let v2627 : BitVec 32 := Scalar.muli v2608 c64_i32_2062
  v2627
def k0_mult111 : BitVec 32 :=
  let c120_i32_2069 : BitVec 32 := 120#32
  let c0_i32_2068 : BitVec 32 := 0#32
  let c2_i32_1973 : BitVec 32 := 2#32
  let c62_i32_1972 : BitVec 32 := 62#32
  let c0_i32_126 : BitVec 32 := 0#32
  let v2513 : BitVec 32 := Scalar.muli c62_i32_1972 c0_i32_126
  let v2514 : BitVec 32 := Scalar.addi c2_i32_1973 v2513
  let c13_i32 : BitVec 32 := 13#32
  let v2515 : BitVec 32 := Scalar.addi v2514 c13_i32
  let c2_i32_2065 : BitVec 32 := 2#32
  let v2633 : BitVec 32 := Scalar.muli v2515 c2_i32_2065
  let c1_i32_2066 : BitVec 32 := 1#32
  let v2634 : BitVec 32 := Scalar.addi v2633 c1_i32_2066
  let c4_i32_2067 : BitVec 32 := 4#32
  let v2635 : BitVec 32 := Scalar.subi v2634 c4_i32_2067
  let v2636 : BitVec 32 := Scalar.maxsi c0_i32_2068 v2635
  let v2637 : BitVec 32 := Scalar.minsi c120_i32_2069 v2636
  let c64_i32_2070 : BitVec 32 := 64#32
  let v2638 : BitVec 32 := Scalar.muli v2637 c64_i32_2070
  v2638
def k0_mult112 : BitVec 32 :=
  let c2_i32_1973 : BitVec 32 := 2#32
  let c62_i32_1972 : BitVec 32 := 62#32
  let c0_i32_126 : BitVec 32 := 0#32
  let v2513 : BitVec 32 := Scalar.muli c62_i32_1972 c0_i32_126
  let v2514 : BitVec 32 := Scalar.addi c2_i32_1973 v2513
  let c13_i32 : BitVec 32 := 13#32
  let v2515 : BitVec 32 := Scalar.addi v2514 c13_i32
  let c2_i32_2065 : BitVec 32 := 2#32
  let v2633 : BitVec 32 := Scalar.muli v2515 c2_i32_2065
  let c1_i32_2066 : BitVec 32 := 1#32
  let v2634 : BitVec 32 := Scalar.addi v2633 c1_i32_2066
  let c64_i32_2072 : BitVec 32 := 64#32
  let v2642 : BitVec 32 := Scalar.muli v2634 c64_i32_2072
  v2642
def k0_mult113 : BitVec 32 :=
  let c120_i32_2121 : BitVec 32 := 120#32
  let c0_i32_2120 : BitVec 32 := 0#32
  let c2_i32_2115 : BitVec 32 := 2#32
  let c62_i32_2114 : BitVec 32 := 62#32
  let c0_i32_126 : BitVec 32 := 0#32
  let v2696 : BitVec 32 := Scalar.muli c62_i32_2114 c0_i32_126
  let v2697 : BitVec 32 := Scalar.addi c2_i32_2115 v2696
  let c14_i32 : BitVec 32 := 14#32
  let v2698 : BitVec 32 := Scalar.addi v2697 c14_i32
  let c2_i32_2116 : BitVec 32 := 2#32
  let v2699 : BitVec 32 := Scalar.subi v2698 c2_i32_2116
  let c2_i32_2117 : BitVec 32 := 2#32
  let v2700 : BitVec 32 := Scalar.muli v2699 c2_i32_2117
  let c0_i32_2118 : BitVec 32 := 0#32
  let v2701 : BitVec 32 := Scalar.addi v2700 c0_i32_2118
  let c4_i32_2119 : BitVec 32 := 4#32
  let v2702 : BitVec 32 := Scalar.subi v2701 c4_i32_2119
  let v2703 : BitVec 32 := Scalar.maxsi c0_i32_2120 v2702
  let v2704 : BitVec 32 := Scalar.minsi c120_i32_2121 v2703
  let c64_i32_2122 : BitVec 32 := 64#32
  let v2705 : BitVec 32 := Scalar.muli v2704 c64_i32_2122
  v2705
def k0_mult114 : BitVec 32 :=
  let c2_i32_2115 : BitVec 32 := 2#32
  let c62_i32_2114 : BitVec 32 := 62#32
  let c0_i32_126 : BitVec 32 := 0#32
  let v2696 : BitVec 32 := Scalar.muli c62_i32_2114 c0_i32_126
  let v2697 : BitVec 32 := Scalar.addi c2_i32_2115 v2696
  let c14_i32 : BitVec 32 := 14#32
  let v2698 : BitVec 32 := Scalar.addi v2697 c14_i32
  let c2_i32_2116 : BitVec 32 := 2#32
  let v2699 : BitVec 32 := Scalar.subi v2698 c2_i32_2116
  let c2_i32_2117 : BitVec 32 := 2#32
  let v2700 : BitVec 32 := Scalar.muli v2699 c2_i32_2117
  let c0_i32_2118 : BitVec 32 := 0#32
  let v2701 : BitVec 32 := Scalar.addi v2700 c0_i32_2118
  let c64_i32_2134 : BitVec 32 := 64#32
  let v2720 : BitVec 32 := Scalar.muli v2701 c64_i32_2134
  v2720
def k0_mult115 : BitVec 32 :=
  let c120_i32_2141 : BitVec 32 := 120#32
  let c0_i32_2140 : BitVec 32 := 0#32
  let c2_i32_2115 : BitVec 32 := 2#32
  let c62_i32_2114 : BitVec 32 := 62#32
  let c0_i32_126 : BitVec 32 := 0#32
  let v2696 : BitVec 32 := Scalar.muli c62_i32_2114 c0_i32_126
  let v2697 : BitVec 32 := Scalar.addi c2_i32_2115 v2696
  let c14_i32 : BitVec 32 := 14#32
  let v2698 : BitVec 32 := Scalar.addi v2697 c14_i32
  let c2_i32_2137 : BitVec 32 := 2#32
  let v2726 : BitVec 32 := Scalar.muli v2698 c2_i32_2137
  let c0_i32_2138 : BitVec 32 := 0#32
  let v2727 : BitVec 32 := Scalar.addi v2726 c0_i32_2138
  let c4_i32_2139 : BitVec 32 := 4#32
  let v2728 : BitVec 32 := Scalar.subi v2727 c4_i32_2139
  let v2729 : BitVec 32 := Scalar.maxsi c0_i32_2140 v2728
  let v2730 : BitVec 32 := Scalar.minsi c120_i32_2141 v2729
  let c64_i32_2142 : BitVec 32 := 64#32
  let v2731 : BitVec 32 := Scalar.muli v2730 c64_i32_2142
  v2731
def k0_mult116 : BitVec 32 :=
  let c2_i32_2115 : BitVec 32 := 2#32
  let c62_i32_2114 : BitVec 32 := 62#32
  let c0_i32_126 : BitVec 32 := 0#32
  let v2696 : BitVec 32 := Scalar.muli c62_i32_2114 c0_i32_126
  let v2697 : BitVec 32 := Scalar.addi c2_i32_2115 v2696
  let c14_i32 : BitVec 32 := 14#32
  let v2698 : BitVec 32 := Scalar.addi v2697 c14_i32
  let c2_i32_2137 : BitVec 32 := 2#32
  let v2726 : BitVec 32 := Scalar.muli v2698 c2_i32_2137
  let c0_i32_2138 : BitVec 32 := 0#32
  let v2727 : BitVec 32 := Scalar.addi v2726 c0_i32_2138
  let c64_i32_2144 : BitVec 32 := 64#32
  let v2735 : BitVec 32 := Scalar.muli v2727 c64_i32_2144
  v2735
def k0_mult117 : BitVec 32 :=
  let c120_i32_2191 : BitVec 32 := 120#32
  let c0_i32_2190 : BitVec 32 := 0#32
  let c2_i32_2115 : BitVec 32 := 2#32
  let c62_i32_2114 : BitVec 32 := 62#32
  let c0_i32_126 : BitVec 32 := 0#32
  let v2696 : BitVec 32 := Scalar.muli c62_i32_2114 c0_i32_126
  let v2697 : BitVec 32 := Scalar.addi c2_i32_2115 v2696
  let c14_i32 : BitVec 32 := 14#32
  let v2698 : BitVec 32 := Scalar.addi v2697 c14_i32
  let c2_i32_2186 : BitVec 32 := 2#32
  let v2789 : BitVec 32 := Scalar.subi v2698 c2_i32_2186
  let c2_i32_2187 : BitVec 32 := 2#32
  let v2790 : BitVec 32 := Scalar.muli v2789 c2_i32_2187
  let c1_i32_2188 : BitVec 32 := 1#32
  let v2791 : BitVec 32 := Scalar.addi v2790 c1_i32_2188
  let c4_i32_2189 : BitVec 32 := 4#32
  let v2792 : BitVec 32 := Scalar.subi v2791 c4_i32_2189
  let v2793 : BitVec 32 := Scalar.maxsi c0_i32_2190 v2792
  let v2794 : BitVec 32 := Scalar.minsi c120_i32_2191 v2793
  let c64_i32_2192 : BitVec 32 := 64#32
  let v2795 : BitVec 32 := Scalar.muli v2794 c64_i32_2192
  v2795
def k0_mult118 : BitVec 32 :=
  let c2_i32_2115 : BitVec 32 := 2#32
  let c62_i32_2114 : BitVec 32 := 62#32
  let c0_i32_126 : BitVec 32 := 0#32
  let v2696 : BitVec 32 := Scalar.muli c62_i32_2114 c0_i32_126
  let v2697 : BitVec 32 := Scalar.addi c2_i32_2115 v2696
  let c14_i32 : BitVec 32 := 14#32
  let v2698 : BitVec 32 := Scalar.addi v2697 c14_i32
  let c2_i32_2186 : BitVec 32 := 2#32
  let v2789 : BitVec 32 := Scalar.subi v2698 c2_i32_2186
  let c2_i32_2187 : BitVec 32 := 2#32
  let v2790 : BitVec 32 := Scalar.muli v2789 c2_i32_2187
  let c1_i32_2188 : BitVec 32 := 1#32
  let v2791 : BitVec 32 := Scalar.addi v2790 c1_i32_2188
  let c64_i32_2204 : BitVec 32 := 64#32
  let v2810 : BitVec 32 := Scalar.muli v2791 c64_i32_2204
  v2810
def k0_mult119 : BitVec 32 :=
  let c120_i32_2211 : BitVec 32 := 120#32
  let c0_i32_2210 : BitVec 32 := 0#32
  let c2_i32_2115 : BitVec 32 := 2#32
  let c62_i32_2114 : BitVec 32 := 62#32
  let c0_i32_126 : BitVec 32 := 0#32
  let v2696 : BitVec 32 := Scalar.muli c62_i32_2114 c0_i32_126
  let v2697 : BitVec 32 := Scalar.addi c2_i32_2115 v2696
  let c14_i32 : BitVec 32 := 14#32
  let v2698 : BitVec 32 := Scalar.addi v2697 c14_i32
  let c2_i32_2207 : BitVec 32 := 2#32
  let v2816 : BitVec 32 := Scalar.muli v2698 c2_i32_2207
  let c1_i32_2208 : BitVec 32 := 1#32
  let v2817 : BitVec 32 := Scalar.addi v2816 c1_i32_2208
  let c4_i32_2209 : BitVec 32 := 4#32
  let v2818 : BitVec 32 := Scalar.subi v2817 c4_i32_2209
  let v2819 : BitVec 32 := Scalar.maxsi c0_i32_2210 v2818
  let v2820 : BitVec 32 := Scalar.minsi c120_i32_2211 v2819
  let c64_i32_2212 : BitVec 32 := 64#32
  let v2821 : BitVec 32 := Scalar.muli v2820 c64_i32_2212
  v2821
def k0_mult120 : BitVec 32 :=
  let c2_i32_2115 : BitVec 32 := 2#32
  let c62_i32_2114 : BitVec 32 := 62#32
  let c0_i32_126 : BitVec 32 := 0#32
  let v2696 : BitVec 32 := Scalar.muli c62_i32_2114 c0_i32_126
  let v2697 : BitVec 32 := Scalar.addi c2_i32_2115 v2696
  let c14_i32 : BitVec 32 := 14#32
  let v2698 : BitVec 32 := Scalar.addi v2697 c14_i32
  let c2_i32_2207 : BitVec 32 := 2#32
  let v2816 : BitVec 32 := Scalar.muli v2698 c2_i32_2207
  let c1_i32_2208 : BitVec 32 := 1#32
  let v2817 : BitVec 32 := Scalar.addi v2816 c1_i32_2208
  let c64_i32_2214 : BitVec 32 := 64#32
  let v2825 : BitVec 32 := Scalar.muli v2817 c64_i32_2214
  v2825
def k0_mult121 : BitVec 32 :=
  let c120_i32_2263 : BitVec 32 := 120#32
  let c0_i32_2262 : BitVec 32 := 0#32
  let c2_i32_2257 : BitVec 32 := 2#32
  let c62_i32_2256 : BitVec 32 := 62#32
  let c0_i32_126 : BitVec 32 := 0#32
  let v2879 : BitVec 32 := Scalar.muli c62_i32_2256 c0_i32_126
  let v2880 : BitVec 32 := Scalar.addi c2_i32_2257 v2879
  let c15_i32 : BitVec 32 := 15#32
  let v2881 : BitVec 32 := Scalar.addi v2880 c15_i32
  let c2_i32_2258 : BitVec 32 := 2#32
  let v2882 : BitVec 32 := Scalar.subi v2881 c2_i32_2258
  let c2_i32_2259 : BitVec 32 := 2#32
  let v2883 : BitVec 32 := Scalar.muli v2882 c2_i32_2259
  let c0_i32_2260 : BitVec 32 := 0#32
  let v2884 : BitVec 32 := Scalar.addi v2883 c0_i32_2260
  let c4_i32_2261 : BitVec 32 := 4#32
  let v2885 : BitVec 32 := Scalar.subi v2884 c4_i32_2261
  let v2886 : BitVec 32 := Scalar.maxsi c0_i32_2262 v2885
  let v2887 : BitVec 32 := Scalar.minsi c120_i32_2263 v2886
  let c64_i32_2264 : BitVec 32 := 64#32
  let v2888 : BitVec 32 := Scalar.muli v2887 c64_i32_2264
  v2888
def k0_mult122 : BitVec 32 :=
  let c2_i32_2257 : BitVec 32 := 2#32
  let c62_i32_2256 : BitVec 32 := 62#32
  let c0_i32_126 : BitVec 32 := 0#32
  let v2879 : BitVec 32 := Scalar.muli c62_i32_2256 c0_i32_126
  let v2880 : BitVec 32 := Scalar.addi c2_i32_2257 v2879
  let c15_i32 : BitVec 32 := 15#32
  let v2881 : BitVec 32 := Scalar.addi v2880 c15_i32
  let c2_i32_2258 : BitVec 32 := 2#32
  let v2882 : BitVec 32 := Scalar.subi v2881 c2_i32_2258
  let c2_i32_2259 : BitVec 32 := 2#32
  let v2883 : BitVec 32 := Scalar.muli v2882 c2_i32_2259
  let c0_i32_2260 : BitVec 32 := 0#32
  let v2884 : BitVec 32 := Scalar.addi v2883 c0_i32_2260
  let c64_i32_2276 : BitVec 32 := 64#32
  let v2903 : BitVec 32 := Scalar.muli v2884 c64_i32_2276
  v2903
def k0_mult123 : BitVec 32 :=
  let c120_i32_2283 : BitVec 32 := 120#32
  let c0_i32_2282 : BitVec 32 := 0#32
  let c2_i32_2257 : BitVec 32 := 2#32
  let c62_i32_2256 : BitVec 32 := 62#32
  let c0_i32_126 : BitVec 32 := 0#32
  let v2879 : BitVec 32 := Scalar.muli c62_i32_2256 c0_i32_126
  let v2880 : BitVec 32 := Scalar.addi c2_i32_2257 v2879
  let c15_i32 : BitVec 32 := 15#32
  let v2881 : BitVec 32 := Scalar.addi v2880 c15_i32
  let c2_i32_2279 : BitVec 32 := 2#32
  let v2909 : BitVec 32 := Scalar.muli v2881 c2_i32_2279
  let c0_i32_2280 : BitVec 32 := 0#32
  let v2910 : BitVec 32 := Scalar.addi v2909 c0_i32_2280
  let c4_i32_2281 : BitVec 32 := 4#32
  let v2911 : BitVec 32 := Scalar.subi v2910 c4_i32_2281
  let v2912 : BitVec 32 := Scalar.maxsi c0_i32_2282 v2911
  let v2913 : BitVec 32 := Scalar.minsi c120_i32_2283 v2912
  let c64_i32_2284 : BitVec 32 := 64#32
  let v2914 : BitVec 32 := Scalar.muli v2913 c64_i32_2284
  v2914
def k0_mult124 : BitVec 32 :=
  let c2_i32_2257 : BitVec 32 := 2#32
  let c62_i32_2256 : BitVec 32 := 62#32
  let c0_i32_126 : BitVec 32 := 0#32
  let v2879 : BitVec 32 := Scalar.muli c62_i32_2256 c0_i32_126
  let v2880 : BitVec 32 := Scalar.addi c2_i32_2257 v2879
  let c15_i32 : BitVec 32 := 15#32
  let v2881 : BitVec 32 := Scalar.addi v2880 c15_i32
  let c2_i32_2279 : BitVec 32 := 2#32
  let v2909 : BitVec 32 := Scalar.muli v2881 c2_i32_2279
  let c0_i32_2280 : BitVec 32 := 0#32
  let v2910 : BitVec 32 := Scalar.addi v2909 c0_i32_2280
  let c64_i32_2286 : BitVec 32 := 64#32
  let v2918 : BitVec 32 := Scalar.muli v2910 c64_i32_2286
  v2918
def k0_mult125 : BitVec 32 :=
  let c120_i32_2333 : BitVec 32 := 120#32
  let c0_i32_2332 : BitVec 32 := 0#32
  let c2_i32_2257 : BitVec 32 := 2#32
  let c62_i32_2256 : BitVec 32 := 62#32
  let c0_i32_126 : BitVec 32 := 0#32
  let v2879 : BitVec 32 := Scalar.muli c62_i32_2256 c0_i32_126
  let v2880 : BitVec 32 := Scalar.addi c2_i32_2257 v2879
  let c15_i32 : BitVec 32 := 15#32
  let v2881 : BitVec 32 := Scalar.addi v2880 c15_i32
  let c2_i32_2328 : BitVec 32 := 2#32
  let v2972 : BitVec 32 := Scalar.subi v2881 c2_i32_2328
  let c2_i32_2329 : BitVec 32 := 2#32
  let v2973 : BitVec 32 := Scalar.muli v2972 c2_i32_2329
  let c1_i32_2330 : BitVec 32 := 1#32
  let v2974 : BitVec 32 := Scalar.addi v2973 c1_i32_2330
  let c4_i32_2331 : BitVec 32 := 4#32
  let v2975 : BitVec 32 := Scalar.subi v2974 c4_i32_2331
  let v2976 : BitVec 32 := Scalar.maxsi c0_i32_2332 v2975
  let v2977 : BitVec 32 := Scalar.minsi c120_i32_2333 v2976
  let c64_i32_2334 : BitVec 32 := 64#32
  let v2978 : BitVec 32 := Scalar.muli v2977 c64_i32_2334
  v2978
def k0_mult126 : BitVec 32 :=
  let c2_i32_2257 : BitVec 32 := 2#32
  let c62_i32_2256 : BitVec 32 := 62#32
  let c0_i32_126 : BitVec 32 := 0#32
  let v2879 : BitVec 32 := Scalar.muli c62_i32_2256 c0_i32_126
  let v2880 : BitVec 32 := Scalar.addi c2_i32_2257 v2879
  let c15_i32 : BitVec 32 := 15#32
  let v2881 : BitVec 32 := Scalar.addi v2880 c15_i32
  let c2_i32_2328 : BitVec 32 := 2#32
  let v2972 : BitVec 32 := Scalar.subi v2881 c2_i32_2328
  let c2_i32_2329 : BitVec 32 := 2#32
  let v2973 : BitVec 32 := Scalar.muli v2972 c2_i32_2329
  let c1_i32_2330 : BitVec 32 := 1#32
  let v2974 : BitVec 32 := Scalar.addi v2973 c1_i32_2330
  let c64_i32_2346 : BitVec 32 := 64#32
  let v2993 : BitVec 32 := Scalar.muli v2974 c64_i32_2346
  v2993
def k0_mult127 : BitVec 32 :=
  let c120_i32_2353 : BitVec 32 := 120#32
  let c0_i32_2352 : BitVec 32 := 0#32
  let c2_i32_2257 : BitVec 32 := 2#32
  let c62_i32_2256 : BitVec 32 := 62#32
  let c0_i32_126 : BitVec 32 := 0#32
  let v2879 : BitVec 32 := Scalar.muli c62_i32_2256 c0_i32_126
  let v2880 : BitVec 32 := Scalar.addi c2_i32_2257 v2879
  let c15_i32 : BitVec 32 := 15#32
  let v2881 : BitVec 32 := Scalar.addi v2880 c15_i32
  let c2_i32_2349 : BitVec 32 := 2#32
  let v2999 : BitVec 32 := Scalar.muli v2881 c2_i32_2349
  let c1_i32_2350 : BitVec 32 := 1#32
  let v3000 : BitVec 32 := Scalar.addi v2999 c1_i32_2350
  let c4_i32_2351 : BitVec 32 := 4#32
  let v3001 : BitVec 32 := Scalar.subi v3000 c4_i32_2351
  let v3002 : BitVec 32 := Scalar.maxsi c0_i32_2352 v3001
  let v3003 : BitVec 32 := Scalar.minsi c120_i32_2353 v3002
  let c64_i32_2354 : BitVec 32 := 64#32
  let v3004 : BitVec 32 := Scalar.muli v3003 c64_i32_2354
  v3004
def k0_mult128 : BitVec 32 :=
  let c2_i32_2257 : BitVec 32 := 2#32
  let c62_i32_2256 : BitVec 32 := 62#32
  let c0_i32_126 : BitVec 32 := 0#32
  let v2879 : BitVec 32 := Scalar.muli c62_i32_2256 c0_i32_126
  let v2880 : BitVec 32 := Scalar.addi c2_i32_2257 v2879
  let c15_i32 : BitVec 32 := 15#32
  let v2881 : BitVec 32 := Scalar.addi v2880 c15_i32
  let c2_i32_2349 : BitVec 32 := 2#32
  let v2999 : BitVec 32 := Scalar.muli v2881 c2_i32_2349
  let c1_i32_2350 : BitVec 32 := 1#32
  let v3000 : BitVec 32 := Scalar.addi v2999 c1_i32_2350
  let c64_i32_2356 : BitVec 32 := 64#32
  let v3008 : BitVec 32 := Scalar.muli v3000 c64_i32_2356
  v3008
def k0_mult129 : BitVec 32 :=
  let c120_i32_2405 : BitVec 32 := 120#32
  let c0_i32_2404 : BitVec 32 := 0#32
  let c2_i32_2399 : BitVec 32 := 2#32
  let c62_i32_2398 : BitVec 32 := 62#32
  let c0_i32_126 : BitVec 32 := 0#32
  let v3062 : BitVec 32 := Scalar.muli c62_i32_2398 c0_i32_126
  let v3063 : BitVec 32 := Scalar.addi c2_i32_2399 v3062
  let c16_i32 : BitVec 32 := 16#32
  let v3064 : BitVec 32 := Scalar.addi v3063 c16_i32
  let c2_i32_2400 : BitVec 32 := 2#32
  let v3065 : BitVec 32 := Scalar.subi v3064 c2_i32_2400
  let c2_i32_2401 : BitVec 32 := 2#32
  let v3066 : BitVec 32 := Scalar.muli v3065 c2_i32_2401
  let c0_i32_2402 : BitVec 32 := 0#32
  let v3067 : BitVec 32 := Scalar.addi v3066 c0_i32_2402
  let c4_i32_2403 : BitVec 32 := 4#32
  let v3068 : BitVec 32 := Scalar.subi v3067 c4_i32_2403
  let v3069 : BitVec 32 := Scalar.maxsi c0_i32_2404 v3068
  let v3070 : BitVec 32 := Scalar.minsi c120_i32_2405 v3069
  let c64_i32_2406 : BitVec 32 := 64#32
  let v3071 : BitVec 32 := Scalar.muli v3070 c64_i32_2406
  v3071
def k0_mult130 : BitVec 32 :=
  let c2_i32_2399 : BitVec 32 := 2#32
  let c62_i32_2398 : BitVec 32 := 62#32
  let c0_i32_126 : BitVec 32 := 0#32
  let v3062 : BitVec 32 := Scalar.muli c62_i32_2398 c0_i32_126
  let v3063 : BitVec 32 := Scalar.addi c2_i32_2399 v3062
  let c16_i32 : BitVec 32 := 16#32
  let v3064 : BitVec 32 := Scalar.addi v3063 c16_i32
  let c2_i32_2400 : BitVec 32 := 2#32
  let v3065 : BitVec 32 := Scalar.subi v3064 c2_i32_2400
  let c2_i32_2401 : BitVec 32 := 2#32
  let v3066 : BitVec 32 := Scalar.muli v3065 c2_i32_2401
  let c0_i32_2402 : BitVec 32 := 0#32
  let v3067 : BitVec 32 := Scalar.addi v3066 c0_i32_2402
  let c64_i32_2418 : BitVec 32 := 64#32
  let v3086 : BitVec 32 := Scalar.muli v3067 c64_i32_2418
  v3086
def k0_mult131 : BitVec 32 :=
  let c120_i32_2425 : BitVec 32 := 120#32
  let c0_i32_2424 : BitVec 32 := 0#32
  let c2_i32_2399 : BitVec 32 := 2#32
  let c62_i32_2398 : BitVec 32 := 62#32
  let c0_i32_126 : BitVec 32 := 0#32
  let v3062 : BitVec 32 := Scalar.muli c62_i32_2398 c0_i32_126
  let v3063 : BitVec 32 := Scalar.addi c2_i32_2399 v3062
  let c16_i32 : BitVec 32 := 16#32
  let v3064 : BitVec 32 := Scalar.addi v3063 c16_i32
  let c2_i32_2421 : BitVec 32 := 2#32
  let v3092 : BitVec 32 := Scalar.muli v3064 c2_i32_2421
  let c0_i32_2422 : BitVec 32 := 0#32
  let v3093 : BitVec 32 := Scalar.addi v3092 c0_i32_2422
  let c4_i32_2423 : BitVec 32 := 4#32
  let v3094 : BitVec 32 := Scalar.subi v3093 c4_i32_2423
  let v3095 : BitVec 32 := Scalar.maxsi c0_i32_2424 v3094
  let v3096 : BitVec 32 := Scalar.minsi c120_i32_2425 v3095
  let c64_i32_2426 : BitVec 32 := 64#32
  let v3097 : BitVec 32 := Scalar.muli v3096 c64_i32_2426
  v3097
def k0_mult132 : BitVec 32 :=
  let c2_i32_2399 : BitVec 32 := 2#32
  let c62_i32_2398 : BitVec 32 := 62#32
  let c0_i32_126 : BitVec 32 := 0#32
  let v3062 : BitVec 32 := Scalar.muli c62_i32_2398 c0_i32_126
  let v3063 : BitVec 32 := Scalar.addi c2_i32_2399 v3062
  let c16_i32 : BitVec 32 := 16#32
  let v3064 : BitVec 32 := Scalar.addi v3063 c16_i32
  let c2_i32_2421 : BitVec 32 := 2#32
  let v3092 : BitVec 32 := Scalar.muli v3064 c2_i32_2421
  let c0_i32_2422 : BitVec 32 := 0#32
  let v3093 : BitVec 32 := Scalar.addi v3092 c0_i32_2422
  let c64_i32_2428 : BitVec 32 := 64#32
  let v3101 : BitVec 32 := Scalar.muli v3093 c64_i32_2428
  v3101
def k0_mult133 : BitVec 32 :=
  let c120_i32_2475 : BitVec 32 := 120#32
  let c0_i32_2474 : BitVec 32 := 0#32
  let c2_i32_2399 : BitVec 32 := 2#32
  let c62_i32_2398 : BitVec 32 := 62#32
  let c0_i32_126 : BitVec 32 := 0#32
  let v3062 : BitVec 32 := Scalar.muli c62_i32_2398 c0_i32_126
  let v3063 : BitVec 32 := Scalar.addi c2_i32_2399 v3062
  let c16_i32 : BitVec 32 := 16#32
  let v3064 : BitVec 32 := Scalar.addi v3063 c16_i32
  let c2_i32_2470 : BitVec 32 := 2#32
  let v3155 : BitVec 32 := Scalar.subi v3064 c2_i32_2470
  let c2_i32_2471 : BitVec 32 := 2#32
  let v3156 : BitVec 32 := Scalar.muli v3155 c2_i32_2471
  let c1_i32_2472 : BitVec 32 := 1#32
  let v3157 : BitVec 32 := Scalar.addi v3156 c1_i32_2472
  let c4_i32_2473 : BitVec 32 := 4#32
  let v3158 : BitVec 32 := Scalar.subi v3157 c4_i32_2473
  let v3159 : BitVec 32 := Scalar.maxsi c0_i32_2474 v3158
  let v3160 : BitVec 32 := Scalar.minsi c120_i32_2475 v3159
  let c64_i32_2476 : BitVec 32 := 64#32
  let v3161 : BitVec 32 := Scalar.muli v3160 c64_i32_2476
  v3161
def k0_mult134 : BitVec 32 :=
  let c2_i32_2399 : BitVec 32 := 2#32
  let c62_i32_2398 : BitVec 32 := 62#32
  let c0_i32_126 : BitVec 32 := 0#32
  let v3062 : BitVec 32 := Scalar.muli c62_i32_2398 c0_i32_126
  let v3063 : BitVec 32 := Scalar.addi c2_i32_2399 v3062
  let c16_i32 : BitVec 32 := 16#32
  let v3064 : BitVec 32 := Scalar.addi v3063 c16_i32
  let c2_i32_2470 : BitVec 32 := 2#32
  let v3155 : BitVec 32 := Scalar.subi v3064 c2_i32_2470
  let c2_i32_2471 : BitVec 32 := 2#32
  let v3156 : BitVec 32 := Scalar.muli v3155 c2_i32_2471
  let c1_i32_2472 : BitVec 32 := 1#32
  let v3157 : BitVec 32 := Scalar.addi v3156 c1_i32_2472
  let c64_i32_2488 : BitVec 32 := 64#32
  let v3176 : BitVec 32 := Scalar.muli v3157 c64_i32_2488
  v3176
def k0_mult135 : BitVec 32 :=
  let c120_i32_2495 : BitVec 32 := 120#32
  let c0_i32_2494 : BitVec 32 := 0#32
  let c2_i32_2399 : BitVec 32 := 2#32
  let c62_i32_2398 : BitVec 32 := 62#32
  let c0_i32_126 : BitVec 32 := 0#32
  let v3062 : BitVec 32 := Scalar.muli c62_i32_2398 c0_i32_126
  let v3063 : BitVec 32 := Scalar.addi c2_i32_2399 v3062
  let c16_i32 : BitVec 32 := 16#32
  let v3064 : BitVec 32 := Scalar.addi v3063 c16_i32
  let c2_i32_2491 : BitVec 32 := 2#32
  let v3182 : BitVec 32 := Scalar.muli v3064 c2_i32_2491
  let c1_i32_2492 : BitVec 32 := 1#32
  let v3183 : BitVec 32 := Scalar.addi v3182 c1_i32_2492
  let c4_i32_2493 : BitVec 32 := 4#32
  let v3184 : BitVec 32 := Scalar.subi v3183 c4_i32_2493
  let v3185 : BitVec 32 := Scalar.maxsi c0_i32_2494 v3184
  let v3186 : BitVec 32 := Scalar.minsi c120_i32_2495 v3185
  let c64_i32_2496 : BitVec 32 := 64#32
  let v3187 : BitVec 32 := Scalar.muli v3186 c64_i32_2496
  v3187
def k0_mult136 : BitVec 32 :=
  let c2_i32_2399 : BitVec 32 := 2#32
  let c62_i32_2398 : BitVec 32 := 62#32
  let c0_i32_126 : BitVec 32 := 0#32
  let v3062 : BitVec 32 := Scalar.muli c62_i32_2398 c0_i32_126
  let v3063 : BitVec 32 := Scalar.addi c2_i32_2399 v3062
  let c16_i32 : BitVec 32 := 16#32
  let v3064 : BitVec 32 := Scalar.addi v3063 c16_i32
  let c2_i32_2491 : BitVec 32 := 2#32
  let v3182 : BitVec 32 := Scalar.muli v3064 c2_i32_2491
  let c1_i32_2492 : BitVec 32 := 1#32
  let v3183 : BitVec 32 := Scalar.addi v3182 c1_i32_2492
  let c64_i32_2498 : BitVec 32 := 64#32
  let v3191 : BitVec 32 := Scalar.muli v3183 c64_i32_2498
  v3191
def k0_mult137 : BitVec 32 :=
  let c120_i32_2547 : BitVec 32 := 120#32
  let c0_i32_2546 : BitVec 32 := 0#32
  let c2_i32_2541 : BitVec 32 := 2#32
  let c62_i32_2540 : BitVec 32 := 62#32
  let c0_i32_126 : BitVec 32 := 0#32
  let v3245 : BitVec 32 := Scalar.muli c62_i32_2540 c0_i32_126
  let v3246 : BitVec 32 := Scalar.addi c2_i32_2541 v3245
  let c17_i32 : BitVec 32 := 17#32
  let v3247 : BitVec 32 := Scalar.addi v3246 c17_i32
  let c2_i32_2542 : BitVec 32 := 2#32
  let v3248 : BitVec 32 := Scalar.subi v3247 c2_i32_2542
  let c2_i32_2543 : BitVec 32 := 2#32
  let v3249 : BitVec 32 := Scalar.muli v3248 c2_i32_2543
  let c0_i32_2544 : BitVec 32 := 0#32
  let v3250 : BitVec 32 := Scalar.addi v3249 c0_i32_2544
  let c4_i32_2545 : BitVec 32 := 4#32
  let v3251 : BitVec 32 := Scalar.subi v3250 c4_i32_2545
  let v3252 : BitVec 32 := Scalar.maxsi c0_i32_2546 v3251
  let v3253 : BitVec 32 := Scalar.minsi c120_i32_2547 v3252
  let c64_i32_2548 : BitVec 32 := 64#32
  let v3254 : BitVec 32 := Scalar.muli v3253 c64_i32_2548
  v3254
def k0_mult138 : BitVec 32 :=
  let c2_i32_2541 : BitVec 32 := 2#32
  let c62_i32_2540 : BitVec 32 := 62#32
  let c0_i32_126 : BitVec 32 := 0#32
  let v3245 : BitVec 32 := Scalar.muli c62_i32_2540 c0_i32_126
  let v3246 : BitVec 32 := Scalar.addi c2_i32_2541 v3245
  let c17_i32 : BitVec 32 := 17#32
  let v3247 : BitVec 32 := Scalar.addi v3246 c17_i32
  let c2_i32_2542 : BitVec 32 := 2#32
  let v3248 : BitVec 32 := Scalar.subi v3247 c2_i32_2542
  let c2_i32_2543 : BitVec 32 := 2#32
  let v3249 : BitVec 32 := Scalar.muli v3248 c2_i32_2543
  let c0_i32_2544 : BitVec 32 := 0#32
  let v3250 : BitVec 32 := Scalar.addi v3249 c0_i32_2544
  let c64_i32_2560 : BitVec 32 := 64#32
  let v3269 : BitVec 32 := Scalar.muli v3250 c64_i32_2560
  v3269
def k0_mult139 : BitVec 32 :=
  let c120_i32_2567 : BitVec 32 := 120#32
  let c0_i32_2566 : BitVec 32 := 0#32
  let c2_i32_2541 : BitVec 32 := 2#32
  let c62_i32_2540 : BitVec 32 := 62#32
  let c0_i32_126 : BitVec 32 := 0#32
  let v3245 : BitVec 32 := Scalar.muli c62_i32_2540 c0_i32_126
  let v3246 : BitVec 32 := Scalar.addi c2_i32_2541 v3245
  let c17_i32 : BitVec 32 := 17#32
  let v3247 : BitVec 32 := Scalar.addi v3246 c17_i32
  let c2_i32_2563 : BitVec 32 := 2#32
  let v3275 : BitVec 32 := Scalar.muli v3247 c2_i32_2563
  let c0_i32_2564 : BitVec 32 := 0#32
  let v3276 : BitVec 32 := Scalar.addi v3275 c0_i32_2564
  let c4_i32_2565 : BitVec 32 := 4#32
  let v3277 : BitVec 32 := Scalar.subi v3276 c4_i32_2565
  let v3278 : BitVec 32 := Scalar.maxsi c0_i32_2566 v3277
  let v3279 : BitVec 32 := Scalar.minsi c120_i32_2567 v3278
  let c64_i32_2568 : BitVec 32 := 64#32
  let v3280 : BitVec 32 := Scalar.muli v3279 c64_i32_2568
  v3280
def k0_mult140 : BitVec 32 :=
  let c2_i32_2541 : BitVec 32 := 2#32
  let c62_i32_2540 : BitVec 32 := 62#32
  let c0_i32_126 : BitVec 32 := 0#32
  let v3245 : BitVec 32 := Scalar.muli c62_i32_2540 c0_i32_126
  let v3246 : BitVec 32 := Scalar.addi c2_i32_2541 v3245
  let c17_i32 : BitVec 32 := 17#32
  let v3247 : BitVec 32 := Scalar.addi v3246 c17_i32
  let c2_i32_2563 : BitVec 32 := 2#32
  let v3275 : BitVec 32 := Scalar.muli v3247 c2_i32_2563
  let c0_i32_2564 : BitVec 32 := 0#32
  let v3276 : BitVec 32 := Scalar.addi v3275 c0_i32_2564
  let c64_i32_2570 : BitVec 32 := 64#32
  let v3284 : BitVec 32 := Scalar.muli v3276 c64_i32_2570
  v3284
def k0_mult141 : BitVec 32 :=
  let c120_i32_2617 : BitVec 32 := 120#32
  let c0_i32_2616 : BitVec 32 := 0#32
  let c2_i32_2541 : BitVec 32 := 2#32
  let c62_i32_2540 : BitVec 32 := 62#32
  let c0_i32_126 : BitVec 32 := 0#32
  let v3245 : BitVec 32 := Scalar.muli c62_i32_2540 c0_i32_126
  let v3246 : BitVec 32 := Scalar.addi c2_i32_2541 v3245
  let c17_i32 : BitVec 32 := 17#32
  let v3247 : BitVec 32 := Scalar.addi v3246 c17_i32
  let c2_i32_2612 : BitVec 32 := 2#32
  let v3338 : BitVec 32 := Scalar.subi v3247 c2_i32_2612
  let c2_i32_2613 : BitVec 32 := 2#32
  let v3339 : BitVec 32 := Scalar.muli v3338 c2_i32_2613
  let c1_i32_2614 : BitVec 32 := 1#32
  let v3340 : BitVec 32 := Scalar.addi v3339 c1_i32_2614
  let c4_i32_2615 : BitVec 32 := 4#32
  let v3341 : BitVec 32 := Scalar.subi v3340 c4_i32_2615
  let v3342 : BitVec 32 := Scalar.maxsi c0_i32_2616 v3341
  let v3343 : BitVec 32 := Scalar.minsi c120_i32_2617 v3342
  let c64_i32_2618 : BitVec 32 := 64#32
  let v3344 : BitVec 32 := Scalar.muli v3343 c64_i32_2618
  v3344
def k0_mult142 : BitVec 32 :=
  let c2_i32_2541 : BitVec 32 := 2#32
  let c62_i32_2540 : BitVec 32 := 62#32
  let c0_i32_126 : BitVec 32 := 0#32
  let v3245 : BitVec 32 := Scalar.muli c62_i32_2540 c0_i32_126
  let v3246 : BitVec 32 := Scalar.addi c2_i32_2541 v3245
  let c17_i32 : BitVec 32 := 17#32
  let v3247 : BitVec 32 := Scalar.addi v3246 c17_i32
  let c2_i32_2612 : BitVec 32 := 2#32
  let v3338 : BitVec 32 := Scalar.subi v3247 c2_i32_2612
  let c2_i32_2613 : BitVec 32 := 2#32
  let v3339 : BitVec 32 := Scalar.muli v3338 c2_i32_2613
  let c1_i32_2614 : BitVec 32 := 1#32
  let v3340 : BitVec 32 := Scalar.addi v3339 c1_i32_2614
  let c64_i32_2630 : BitVec 32 := 64#32
  let v3359 : BitVec 32 := Scalar.muli v3340 c64_i32_2630
  v3359
def k0_mult143 : BitVec 32 :=
  let c120_i32_2637 : BitVec 32 := 120#32
  let c0_i32_2636 : BitVec 32 := 0#32
  let c2_i32_2541 : BitVec 32 := 2#32
  let c62_i32_2540 : BitVec 32 := 62#32
  let c0_i32_126 : BitVec 32 := 0#32
  let v3245 : BitVec 32 := Scalar.muli c62_i32_2540 c0_i32_126
  let v3246 : BitVec 32 := Scalar.addi c2_i32_2541 v3245
  let c17_i32 : BitVec 32 := 17#32
  let v3247 : BitVec 32 := Scalar.addi v3246 c17_i32
  let c2_i32_2633 : BitVec 32 := 2#32
  let v3365 : BitVec 32 := Scalar.muli v3247 c2_i32_2633
  let c1_i32_2634 : BitVec 32 := 1#32
  let v3366 : BitVec 32 := Scalar.addi v3365 c1_i32_2634
  let c4_i32_2635 : BitVec 32 := 4#32
  let v3367 : BitVec 32 := Scalar.subi v3366 c4_i32_2635
  let v3368 : BitVec 32 := Scalar.maxsi c0_i32_2636 v3367
  let v3369 : BitVec 32 := Scalar.minsi c120_i32_2637 v3368
  let c64_i32_2638 : BitVec 32 := 64#32
  let v3370 : BitVec 32 := Scalar.muli v3369 c64_i32_2638
  v3370
def k0_mult144 : BitVec 32 :=
  let c2_i32_2541 : BitVec 32 := 2#32
  let c62_i32_2540 : BitVec 32 := 62#32
  let c0_i32_126 : BitVec 32 := 0#32
  let v3245 : BitVec 32 := Scalar.muli c62_i32_2540 c0_i32_126
  let v3246 : BitVec 32 := Scalar.addi c2_i32_2541 v3245
  let c17_i32 : BitVec 32 := 17#32
  let v3247 : BitVec 32 := Scalar.addi v3246 c17_i32
  let c2_i32_2633 : BitVec 32 := 2#32
  let v3365 : BitVec 32 := Scalar.muli v3247 c2_i32_2633
  let c1_i32_2634 : BitVec 32 := 1#32
  let v3366 : BitVec 32 := Scalar.addi v3365 c1_i32_2634
  let c64_i32_2640 : BitVec 32 := 64#32
  let v3374 : BitVec 32 := Scalar.muli v3366 c64_i32_2640
  v3374
def k0_mult145 : BitVec 32 :=
  let c120_i32_2689 : BitVec 32 := 120#32
  let c0_i32_2688 : BitVec 32 := 0#32
  let c2_i32_2683 : BitVec 32 := 2#32
  let c62_i32_2682 : BitVec 32 := 62#32
  let c0_i32_126 : BitVec 32 := 0#32
  let v3428 : BitVec 32 := Scalar.muli c62_i32_2682 c0_i32_126
  let v3429 : BitVec 32 := Scalar.addi c2_i32_2683 v3428
  let c18_i32 : BitVec 32 := 18#32
  let v3430 : BitVec 32 := Scalar.addi v3429 c18_i32
  let c2_i32_2684 : BitVec 32 := 2#32
  let v3431 : BitVec 32 := Scalar.subi v3430 c2_i32_2684
  let c2_i32_2685 : BitVec 32 := 2#32
  let v3432 : BitVec 32 := Scalar.muli v3431 c2_i32_2685
  let c0_i32_2686 : BitVec 32 := 0#32
  let v3433 : BitVec 32 := Scalar.addi v3432 c0_i32_2686
  let c4_i32_2687 : BitVec 32 := 4#32
  let v3434 : BitVec 32 := Scalar.subi v3433 c4_i32_2687
  let v3435 : BitVec 32 := Scalar.maxsi c0_i32_2688 v3434
  let v3436 : BitVec 32 := Scalar.minsi c120_i32_2689 v3435
  let c64_i32_2690 : BitVec 32 := 64#32
  let v3437 : BitVec 32 := Scalar.muli v3436 c64_i32_2690
  v3437
def k0_mult146 : BitVec 32 :=
  let c2_i32_2683 : BitVec 32 := 2#32
  let c62_i32_2682 : BitVec 32 := 62#32
  let c0_i32_126 : BitVec 32 := 0#32
  let v3428 : BitVec 32 := Scalar.muli c62_i32_2682 c0_i32_126
  let v3429 : BitVec 32 := Scalar.addi c2_i32_2683 v3428
  let c18_i32 : BitVec 32 := 18#32
  let v3430 : BitVec 32 := Scalar.addi v3429 c18_i32
  let c2_i32_2684 : BitVec 32 := 2#32
  let v3431 : BitVec 32 := Scalar.subi v3430 c2_i32_2684
  let c2_i32_2685 : BitVec 32 := 2#32
  let v3432 : BitVec 32 := Scalar.muli v3431 c2_i32_2685
  let c0_i32_2686 : BitVec 32 := 0#32
  let v3433 : BitVec 32 := Scalar.addi v3432 c0_i32_2686
  let c64_i32_2702 : BitVec 32 := 64#32
  let v3452 : BitVec 32 := Scalar.muli v3433 c64_i32_2702
  v3452
def k0_mult147 : BitVec 32 :=
  let c120_i32_2709 : BitVec 32 := 120#32
  let c0_i32_2708 : BitVec 32 := 0#32
  let c2_i32_2683 : BitVec 32 := 2#32
  let c62_i32_2682 : BitVec 32 := 62#32
  let c0_i32_126 : BitVec 32 := 0#32
  let v3428 : BitVec 32 := Scalar.muli c62_i32_2682 c0_i32_126
  let v3429 : BitVec 32 := Scalar.addi c2_i32_2683 v3428
  let c18_i32 : BitVec 32 := 18#32
  let v3430 : BitVec 32 := Scalar.addi v3429 c18_i32
  let c2_i32_2705 : BitVec 32 := 2#32
  let v3458 : BitVec 32 := Scalar.muli v3430 c2_i32_2705
  let c0_i32_2706 : BitVec 32 := 0#32
  let v3459 : BitVec 32 := Scalar.addi v3458 c0_i32_2706
  let c4_i32_2707 : BitVec 32 := 4#32
  let v3460 : BitVec 32 := Scalar.subi v3459 c4_i32_2707
  let v3461 : BitVec 32 := Scalar.maxsi c0_i32_2708 v3460
  let v3462 : BitVec 32 := Scalar.minsi c120_i32_2709 v3461
  let c64_i32_2710 : BitVec 32 := 64#32
  let v3463 : BitVec 32 := Scalar.muli v3462 c64_i32_2710
  v3463
def k0_mult148 : BitVec 32 :=
  let c2_i32_2683 : BitVec 32 := 2#32
  let c62_i32_2682 : BitVec 32 := 62#32
  let c0_i32_126 : BitVec 32 := 0#32
  let v3428 : BitVec 32 := Scalar.muli c62_i32_2682 c0_i32_126
  let v3429 : BitVec 32 := Scalar.addi c2_i32_2683 v3428
  let c18_i32 : BitVec 32 := 18#32
  let v3430 : BitVec 32 := Scalar.addi v3429 c18_i32
  let c2_i32_2705 : BitVec 32 := 2#32
  let v3458 : BitVec 32 := Scalar.muli v3430 c2_i32_2705
  let c0_i32_2706 : BitVec 32 := 0#32
  let v3459 : BitVec 32 := Scalar.addi v3458 c0_i32_2706
  let c64_i32_2712 : BitVec 32 := 64#32
  let v3467 : BitVec 32 := Scalar.muli v3459 c64_i32_2712
  v3467
def k0_mult149 : BitVec 32 :=
  let c120_i32_2759 : BitVec 32 := 120#32
  let c0_i32_2758 : BitVec 32 := 0#32
  let c2_i32_2683 : BitVec 32 := 2#32
  let c62_i32_2682 : BitVec 32 := 62#32
  let c0_i32_126 : BitVec 32 := 0#32
  let v3428 : BitVec 32 := Scalar.muli c62_i32_2682 c0_i32_126
  let v3429 : BitVec 32 := Scalar.addi c2_i32_2683 v3428
  let c18_i32 : BitVec 32 := 18#32
  let v3430 : BitVec 32 := Scalar.addi v3429 c18_i32
  let c2_i32_2754 : BitVec 32 := 2#32
  let v3521 : BitVec 32 := Scalar.subi v3430 c2_i32_2754
  let c2_i32_2755 : BitVec 32 := 2#32
  let v3522 : BitVec 32 := Scalar.muli v3521 c2_i32_2755
  let c1_i32_2756 : BitVec 32 := 1#32
  let v3523 : BitVec 32 := Scalar.addi v3522 c1_i32_2756
  let c4_i32_2757 : BitVec 32 := 4#32
  let v3524 : BitVec 32 := Scalar.subi v3523 c4_i32_2757
  let v3525 : BitVec 32 := Scalar.maxsi c0_i32_2758 v3524
  let v3526 : BitVec 32 := Scalar.minsi c120_i32_2759 v3525
  let c64_i32_2760 : BitVec 32 := 64#32
  let v3527 : BitVec 32 := Scalar.muli v3526 c64_i32_2760
  v3527
def k0_mult150 : BitVec 32 :=
  let c2_i32_2683 : BitVec 32 := 2#32
  let c62_i32_2682 : BitVec 32 := 62#32
  let c0_i32_126 : BitVec 32 := 0#32
  let v3428 : BitVec 32 := Scalar.muli c62_i32_2682 c0_i32_126
  let v3429 : BitVec 32 := Scalar.addi c2_i32_2683 v3428
  let c18_i32 : BitVec 32 := 18#32
  let v3430 : BitVec 32 := Scalar.addi v3429 c18_i32
  let c2_i32_2754 : BitVec 32 := 2#32
  let v3521 : BitVec 32 := Scalar.subi v3430 c2_i32_2754
  let c2_i32_2755 : BitVec 32 := 2#32
  let v3522 : BitVec 32 := Scalar.muli v3521 c2_i32_2755
  let c1_i32_2756 : BitVec 32 := 1#32
  let v3523 : BitVec 32 := Scalar.addi v3522 c1_i32_2756
  let c64_i32_2772 : BitVec 32 := 64#32
  let v3542 : BitVec 32 := Scalar.muli v3523 c64_i32_2772
  v3542
def k0_mult151 : BitVec 32 :=
  let c120_i32_2779 : BitVec 32 := 120#32
  let c0_i32_2778 : BitVec 32 := 0#32
  let c2_i32_2683 : BitVec 32 := 2#32
  let c62_i32_2682 : BitVec 32 := 62#32
  let c0_i32_126 : BitVec 32 := 0#32
  let v3428 : BitVec 32 := Scalar.muli c62_i32_2682 c0_i32_126
  let v3429 : BitVec 32 := Scalar.addi c2_i32_2683 v3428
  let c18_i32 : BitVec 32 := 18#32
  let v3430 : BitVec 32 := Scalar.addi v3429 c18_i32
  let c2_i32_2775 : BitVec 32 := 2#32
  let v3548 : BitVec 32 := Scalar.muli v3430 c2_i32_2775
  let c1_i32_2776 : BitVec 32 := 1#32
  let v3549 : BitVec 32 := Scalar.addi v3548 c1_i32_2776
  let c4_i32_2777 : BitVec 32 := 4#32
  let v3550 : BitVec 32 := Scalar.subi v3549 c4_i32_2777
  let v3551 : BitVec 32 := Scalar.maxsi c0_i32_2778 v3550
  let v3552 : BitVec 32 := Scalar.minsi c120_i32_2779 v3551
  let c64_i32_2780 : BitVec 32 := 64#32
  let v3553 : BitVec 32 := Scalar.muli v3552 c64_i32_2780
  v3553
def k0_mult152 : BitVec 32 :=
  let c2_i32_2683 : BitVec 32 := 2#32
  let c62_i32_2682 : BitVec 32 := 62#32
  let c0_i32_126 : BitVec 32 := 0#32
  let v3428 : BitVec 32 := Scalar.muli c62_i32_2682 c0_i32_126
  let v3429 : BitVec 32 := Scalar.addi c2_i32_2683 v3428
  let c18_i32 : BitVec 32 := 18#32
  let v3430 : BitVec 32 := Scalar.addi v3429 c18_i32
  let c2_i32_2775 : BitVec 32 := 2#32
  let v3548 : BitVec 32 := Scalar.muli v3430 c2_i32_2775
  let c1_i32_2776 : BitVec 32 := 1#32
  let v3549 : BitVec 32 := Scalar.addi v3548 c1_i32_2776
  let c64_i32_2782 : BitVec 32 := 64#32
  let v3557 : BitVec 32 := Scalar.muli v3549 c64_i32_2782
  v3557
def k0_mult153 : BitVec 32 :=
  let c120_i32_2831 : BitVec 32 := 120#32
  let c0_i32_2830 : BitVec 32 := 0#32
  let c2_i32_2825 : BitVec 32 := 2#32
  let c62_i32_2824 : BitVec 32 := 62#32
  let c0_i32_126 : BitVec 32 := 0#32
  let v3611 : BitVec 32 := Scalar.muli c62_i32_2824 c0_i32_126
  let v3612 : BitVec 32 := Scalar.addi c2_i32_2825 v3611
  let c19_i32 : BitVec 32 := 19#32
  let v3613 : BitVec 32 := Scalar.addi v3612 c19_i32
  let c2_i32_2826 : BitVec 32 := 2#32
  let v3614 : BitVec 32 := Scalar.subi v3613 c2_i32_2826
  let c2_i32_2827 : BitVec 32 := 2#32
  let v3615 : BitVec 32 := Scalar.muli v3614 c2_i32_2827
  let c0_i32_2828 : BitVec 32 := 0#32
  let v3616 : BitVec 32 := Scalar.addi v3615 c0_i32_2828
  let c4_i32_2829 : BitVec 32 := 4#32
  let v3617 : BitVec 32 := Scalar.subi v3616 c4_i32_2829
  let v3618 : BitVec 32 := Scalar.maxsi c0_i32_2830 v3617
  let v3619 : BitVec 32 := Scalar.minsi c120_i32_2831 v3618
  let c64_i32_2832 : BitVec 32 := 64#32
  let v3620 : BitVec 32 := Scalar.muli v3619 c64_i32_2832
  v3620
def k0_mult154 : BitVec 32 :=
  let c2_i32_2825 : BitVec 32 := 2#32
  let c62_i32_2824 : BitVec 32 := 62#32
  let c0_i32_126 : BitVec 32 := 0#32
  let v3611 : BitVec 32 := Scalar.muli c62_i32_2824 c0_i32_126
  let v3612 : BitVec 32 := Scalar.addi c2_i32_2825 v3611
  let c19_i32 : BitVec 32 := 19#32
  let v3613 : BitVec 32 := Scalar.addi v3612 c19_i32
  let c2_i32_2826 : BitVec 32 := 2#32
  let v3614 : BitVec 32 := Scalar.subi v3613 c2_i32_2826
  let c2_i32_2827 : BitVec 32 := 2#32
  let v3615 : BitVec 32 := Scalar.muli v3614 c2_i32_2827
  let c0_i32_2828 : BitVec 32 := 0#32
  let v3616 : BitVec 32 := Scalar.addi v3615 c0_i32_2828
  let c64_i32_2844 : BitVec 32 := 64#32
  let v3635 : BitVec 32 := Scalar.muli v3616 c64_i32_2844
  v3635
def k0_mult155 : BitVec 32 :=
  let c120_i32_2851 : BitVec 32 := 120#32
  let c0_i32_2850 : BitVec 32 := 0#32
  let c2_i32_2825 : BitVec 32 := 2#32
  let c62_i32_2824 : BitVec 32 := 62#32
  let c0_i32_126 : BitVec 32 := 0#32
  let v3611 : BitVec 32 := Scalar.muli c62_i32_2824 c0_i32_126
  let v3612 : BitVec 32 := Scalar.addi c2_i32_2825 v3611
  let c19_i32 : BitVec 32 := 19#32
  let v3613 : BitVec 32 := Scalar.addi v3612 c19_i32
  let c2_i32_2847 : BitVec 32 := 2#32
  let v3641 : BitVec 32 := Scalar.muli v3613 c2_i32_2847
  let c0_i32_2848 : BitVec 32 := 0#32
  let v3642 : BitVec 32 := Scalar.addi v3641 c0_i32_2848
  let c4_i32_2849 : BitVec 32 := 4#32
  let v3643 : BitVec 32 := Scalar.subi v3642 c4_i32_2849
  let v3644 : BitVec 32 := Scalar.maxsi c0_i32_2850 v3643
  let v3645 : BitVec 32 := Scalar.minsi c120_i32_2851 v3644
  let c64_i32_2852 : BitVec 32 := 64#32
  let v3646 : BitVec 32 := Scalar.muli v3645 c64_i32_2852
  v3646
def k0_mult156 : BitVec 32 :=
  let c2_i32_2825 : BitVec 32 := 2#32
  let c62_i32_2824 : BitVec 32 := 62#32
  let c0_i32_126 : BitVec 32 := 0#32
  let v3611 : BitVec 32 := Scalar.muli c62_i32_2824 c0_i32_126
  let v3612 : BitVec 32 := Scalar.addi c2_i32_2825 v3611
  let c19_i32 : BitVec 32 := 19#32
  let v3613 : BitVec 32 := Scalar.addi v3612 c19_i32
  let c2_i32_2847 : BitVec 32 := 2#32
  let v3641 : BitVec 32 := Scalar.muli v3613 c2_i32_2847
  let c0_i32_2848 : BitVec 32 := 0#32
  let v3642 : BitVec 32 := Scalar.addi v3641 c0_i32_2848
  let c64_i32_2854 : BitVec 32 := 64#32
  let v3650 : BitVec 32 := Scalar.muli v3642 c64_i32_2854
  v3650
def k0_mult157 : BitVec 32 :=
  let c120_i32_2901 : BitVec 32 := 120#32
  let c0_i32_2900 : BitVec 32 := 0#32
  let c2_i32_2825 : BitVec 32 := 2#32
  let c62_i32_2824 : BitVec 32 := 62#32
  let c0_i32_126 : BitVec 32 := 0#32
  let v3611 : BitVec 32 := Scalar.muli c62_i32_2824 c0_i32_126
  let v3612 : BitVec 32 := Scalar.addi c2_i32_2825 v3611
  let c19_i32 : BitVec 32 := 19#32
  let v3613 : BitVec 32 := Scalar.addi v3612 c19_i32
  let c2_i32_2896 : BitVec 32 := 2#32
  let v3704 : BitVec 32 := Scalar.subi v3613 c2_i32_2896
  let c2_i32_2897 : BitVec 32 := 2#32
  let v3705 : BitVec 32 := Scalar.muli v3704 c2_i32_2897
  let c1_i32_2898 : BitVec 32 := 1#32
  let v3706 : BitVec 32 := Scalar.addi v3705 c1_i32_2898
  let c4_i32_2899 : BitVec 32 := 4#32
  let v3707 : BitVec 32 := Scalar.subi v3706 c4_i32_2899
  let v3708 : BitVec 32 := Scalar.maxsi c0_i32_2900 v3707
  let v3709 : BitVec 32 := Scalar.minsi c120_i32_2901 v3708
  let c64_i32_2902 : BitVec 32 := 64#32
  let v3710 : BitVec 32 := Scalar.muli v3709 c64_i32_2902
  v3710
def k0_mult158 : BitVec 32 :=
  let c2_i32_2825 : BitVec 32 := 2#32
  let c62_i32_2824 : BitVec 32 := 62#32
  let c0_i32_126 : BitVec 32 := 0#32
  let v3611 : BitVec 32 := Scalar.muli c62_i32_2824 c0_i32_126
  let v3612 : BitVec 32 := Scalar.addi c2_i32_2825 v3611
  let c19_i32 : BitVec 32 := 19#32
  let v3613 : BitVec 32 := Scalar.addi v3612 c19_i32
  let c2_i32_2896 : BitVec 32 := 2#32
  let v3704 : BitVec 32 := Scalar.subi v3613 c2_i32_2896
  let c2_i32_2897 : BitVec 32 := 2#32
  let v3705 : BitVec 32 := Scalar.muli v3704 c2_i32_2897
  let c1_i32_2898 : BitVec 32 := 1#32
  let v3706 : BitVec 32 := Scalar.addi v3705 c1_i32_2898
  let c64_i32_2914 : BitVec 32 := 64#32
  let v3725 : BitVec 32 := Scalar.muli v3706 c64_i32_2914
  v3725
def k0_mult159 : BitVec 32 :=
  let c120_i32_2921 : BitVec 32 := 120#32
  let c0_i32_2920 : BitVec 32 := 0#32
  let c2_i32_2825 : BitVec 32 := 2#32
  let c62_i32_2824 : BitVec 32 := 62#32
  let c0_i32_126 : BitVec 32 := 0#32
  let v3611 : BitVec 32 := Scalar.muli c62_i32_2824 c0_i32_126
  let v3612 : BitVec 32 := Scalar.addi c2_i32_2825 v3611
  let c19_i32 : BitVec 32 := 19#32
  let v3613 : BitVec 32 := Scalar.addi v3612 c19_i32
  let c2_i32_2917 : BitVec 32 := 2#32
  let v3731 : BitVec 32 := Scalar.muli v3613 c2_i32_2917
  let c1_i32_2918 : BitVec 32 := 1#32
  let v3732 : BitVec 32 := Scalar.addi v3731 c1_i32_2918
  let c4_i32_2919 : BitVec 32 := 4#32
  let v3733 : BitVec 32 := Scalar.subi v3732 c4_i32_2919
  let v3734 : BitVec 32 := Scalar.maxsi c0_i32_2920 v3733
  let v3735 : BitVec 32 := Scalar.minsi c120_i32_2921 v3734
  let c64_i32_2922 : BitVec 32 := 64#32
  let v3736 : BitVec 32 := Scalar.muli v3735 c64_i32_2922
  v3736
def k0_mult160 : BitVec 32 :=
  let c2_i32_2825 : BitVec 32 := 2#32
  let c62_i32_2824 : BitVec 32 := 62#32
  let c0_i32_126 : BitVec 32 := 0#32
  let v3611 : BitVec 32 := Scalar.muli c62_i32_2824 c0_i32_126
  let v3612 : BitVec 32 := Scalar.addi c2_i32_2825 v3611
  let c19_i32 : BitVec 32 := 19#32
  let v3613 : BitVec 32 := Scalar.addi v3612 c19_i32
  let c2_i32_2917 : BitVec 32 := 2#32
  let v3731 : BitVec 32 := Scalar.muli v3613 c2_i32_2917
  let c1_i32_2918 : BitVec 32 := 1#32
  let v3732 : BitVec 32 := Scalar.addi v3731 c1_i32_2918
  let c64_i32_2924 : BitVec 32 := 64#32
  let v3740 : BitVec 32 := Scalar.muli v3732 c64_i32_2924
  v3740
def k0_mult161 : BitVec 32 :=
  let c120_i32_2973 : BitVec 32 := 120#32
  let c0_i32_2972 : BitVec 32 := 0#32
  let c2_i32_2967 : BitVec 32 := 2#32
  let c62_i32_2966 : BitVec 32 := 62#32
  let c0_i32_126 : BitVec 32 := 0#32
  let v3794 : BitVec 32 := Scalar.muli c62_i32_2966 c0_i32_126
  let v3795 : BitVec 32 := Scalar.addi c2_i32_2967 v3794
  let c20_i32 : BitVec 32 := 20#32
  let v3796 : BitVec 32 := Scalar.addi v3795 c20_i32
  let c2_i32_2968 : BitVec 32 := 2#32
  let v3797 : BitVec 32 := Scalar.subi v3796 c2_i32_2968
  let c2_i32_2969 : BitVec 32 := 2#32
  let v3798 : BitVec 32 := Scalar.muli v3797 c2_i32_2969
  let c0_i32_2970 : BitVec 32 := 0#32
  let v3799 : BitVec 32 := Scalar.addi v3798 c0_i32_2970
  let c4_i32_2971 : BitVec 32 := 4#32
  let v3800 : BitVec 32 := Scalar.subi v3799 c4_i32_2971
  let v3801 : BitVec 32 := Scalar.maxsi c0_i32_2972 v3800
  let v3802 : BitVec 32 := Scalar.minsi c120_i32_2973 v3801
  let c64_i32_2974 : BitVec 32 := 64#32
  let v3803 : BitVec 32 := Scalar.muli v3802 c64_i32_2974
  v3803
def k0_mult162 : BitVec 32 :=
  let c2_i32_2967 : BitVec 32 := 2#32
  let c62_i32_2966 : BitVec 32 := 62#32
  let c0_i32_126 : BitVec 32 := 0#32
  let v3794 : BitVec 32 := Scalar.muli c62_i32_2966 c0_i32_126
  let v3795 : BitVec 32 := Scalar.addi c2_i32_2967 v3794
  let c20_i32 : BitVec 32 := 20#32
  let v3796 : BitVec 32 := Scalar.addi v3795 c20_i32
  let c2_i32_2968 : BitVec 32 := 2#32
  let v3797 : BitVec 32 := Scalar.subi v3796 c2_i32_2968
  let c2_i32_2969 : BitVec 32 := 2#32
  let v3798 : BitVec 32 := Scalar.muli v3797 c2_i32_2969
  let c0_i32_2970 : BitVec 32 := 0#32
  let v3799 : BitVec 32 := Scalar.addi v3798 c0_i32_2970
  let c64_i32_2986 : BitVec 32 := 64#32
  let v3818 : BitVec 32 := Scalar.muli v3799 c64_i32_2986
  v3818
def k0_mult163 : BitVec 32 :=
  let c120_i32_2993 : BitVec 32 := 120#32
  let c0_i32_2992 : BitVec 32 := 0#32
  let c2_i32_2967 : BitVec 32 := 2#32
  let c62_i32_2966 : BitVec 32 := 62#32
  let c0_i32_126 : BitVec 32 := 0#32
  let v3794 : BitVec 32 := Scalar.muli c62_i32_2966 c0_i32_126
  let v3795 : BitVec 32 := Scalar.addi c2_i32_2967 v3794
  let c20_i32 : BitVec 32 := 20#32
  let v3796 : BitVec 32 := Scalar.addi v3795 c20_i32
  let c2_i32_2989 : BitVec 32 := 2#32
  let v3824 : BitVec 32 := Scalar.muli v3796 c2_i32_2989
  let c0_i32_2990 : BitVec 32 := 0#32
  let v3825 : BitVec 32 := Scalar.addi v3824 c0_i32_2990
  let c4_i32_2991 : BitVec 32 := 4#32
  let v3826 : BitVec 32 := Scalar.subi v3825 c4_i32_2991
  let v3827 : BitVec 32 := Scalar.maxsi c0_i32_2992 v3826
  let v3828 : BitVec 32 := Scalar.minsi c120_i32_2993 v3827
  let c64_i32_2994 : BitVec 32 := 64#32
  let v3829 : BitVec 32 := Scalar.muli v3828 c64_i32_2994
  v3829
def k0_mult164 : BitVec 32 :=
  let c2_i32_2967 : BitVec 32 := 2#32
  let c62_i32_2966 : BitVec 32 := 62#32
  let c0_i32_126 : BitVec 32 := 0#32
  let v3794 : BitVec 32 := Scalar.muli c62_i32_2966 c0_i32_126
  let v3795 : BitVec 32 := Scalar.addi c2_i32_2967 v3794
  let c20_i32 : BitVec 32 := 20#32
  let v3796 : BitVec 32 := Scalar.addi v3795 c20_i32
  let c2_i32_2989 : BitVec 32 := 2#32
  let v3824 : BitVec 32 := Scalar.muli v3796 c2_i32_2989
  let c0_i32_2990 : BitVec 32 := 0#32
  let v3825 : BitVec 32 := Scalar.addi v3824 c0_i32_2990
  let c64_i32_2996 : BitVec 32 := 64#32
  let v3833 : BitVec 32 := Scalar.muli v3825 c64_i32_2996
  v3833
def k0_mult165 : BitVec 32 :=
  let c120_i32_3043 : BitVec 32 := 120#32
  let c0_i32_3042 : BitVec 32 := 0#32
  let c2_i32_2967 : BitVec 32 := 2#32
  let c62_i32_2966 : BitVec 32 := 62#32
  let c0_i32_126 : BitVec 32 := 0#32
  let v3794 : BitVec 32 := Scalar.muli c62_i32_2966 c0_i32_126
  let v3795 : BitVec 32 := Scalar.addi c2_i32_2967 v3794
  let c20_i32 : BitVec 32 := 20#32
  let v3796 : BitVec 32 := Scalar.addi v3795 c20_i32
  let c2_i32_3038 : BitVec 32 := 2#32
  let v3887 : BitVec 32 := Scalar.subi v3796 c2_i32_3038
  let c2_i32_3039 : BitVec 32 := 2#32
  let v3888 : BitVec 32 := Scalar.muli v3887 c2_i32_3039
  let c1_i32_3040 : BitVec 32 := 1#32
  let v3889 : BitVec 32 := Scalar.addi v3888 c1_i32_3040
  let c4_i32_3041 : BitVec 32 := 4#32
  let v3890 : BitVec 32 := Scalar.subi v3889 c4_i32_3041
  let v3891 : BitVec 32 := Scalar.maxsi c0_i32_3042 v3890
  let v3892 : BitVec 32 := Scalar.minsi c120_i32_3043 v3891
  let c64_i32_3044 : BitVec 32 := 64#32
  let v3893 : BitVec 32 := Scalar.muli v3892 c64_i32_3044
  v3893
def k0_mult166 : BitVec 32 :=
  let c2_i32_2967 : BitVec 32 := 2#32
  let c62_i32_2966 : BitVec 32 := 62#32
  let c0_i32_126 : BitVec 32 := 0#32
  let v3794 : BitVec 32 := Scalar.muli c62_i32_2966 c0_i32_126
  let v3795 : BitVec 32 := Scalar.addi c2_i32_2967 v3794
  let c20_i32 : BitVec 32 := 20#32
  let v3796 : BitVec 32 := Scalar.addi v3795 c20_i32
  let c2_i32_3038 : BitVec 32 := 2#32
  let v3887 : BitVec 32 := Scalar.subi v3796 c2_i32_3038
  let c2_i32_3039 : BitVec 32 := 2#32
  let v3888 : BitVec 32 := Scalar.muli v3887 c2_i32_3039
  let c1_i32_3040 : BitVec 32 := 1#32
  let v3889 : BitVec 32 := Scalar.addi v3888 c1_i32_3040
  let c64_i32_3056 : BitVec 32 := 64#32
  let v3908 : BitVec 32 := Scalar.muli v3889 c64_i32_3056
  v3908
def k0_mult167 : BitVec 32 :=
  let c120_i32_3063 : BitVec 32 := 120#32
  let c0_i32_3062 : BitVec 32 := 0#32
  let c2_i32_2967 : BitVec 32 := 2#32
  let c62_i32_2966 : BitVec 32 := 62#32
  let c0_i32_126 : BitVec 32 := 0#32
  let v3794 : BitVec 32 := Scalar.muli c62_i32_2966 c0_i32_126
  let v3795 : BitVec 32 := Scalar.addi c2_i32_2967 v3794
  let c20_i32 : BitVec 32 := 20#32
  let v3796 : BitVec 32 := Scalar.addi v3795 c20_i32
  let c2_i32_3059 : BitVec 32 := 2#32
  let v3914 : BitVec 32 := Scalar.muli v3796 c2_i32_3059
  let c1_i32_3060 : BitVec 32 := 1#32
  let v3915 : BitVec 32 := Scalar.addi v3914 c1_i32_3060
  let c4_i32_3061 : BitVec 32 := 4#32
  let v3916 : BitVec 32 := Scalar.subi v3915 c4_i32_3061
  let v3917 : BitVec 32 := Scalar.maxsi c0_i32_3062 v3916
  let v3918 : BitVec 32 := Scalar.minsi c120_i32_3063 v3917
  let c64_i32_3064 : BitVec 32 := 64#32
  let v3919 : BitVec 32 := Scalar.muli v3918 c64_i32_3064
  v3919
def k0_mult168 : BitVec 32 :=
  let c2_i32_2967 : BitVec 32 := 2#32
  let c62_i32_2966 : BitVec 32 := 62#32
  let c0_i32_126 : BitVec 32 := 0#32
  let v3794 : BitVec 32 := Scalar.muli c62_i32_2966 c0_i32_126
  let v3795 : BitVec 32 := Scalar.addi c2_i32_2967 v3794
  let c20_i32 : BitVec 32 := 20#32
  let v3796 : BitVec 32 := Scalar.addi v3795 c20_i32
  let c2_i32_3059 : BitVec 32 := 2#32
  let v3914 : BitVec 32 := Scalar.muli v3796 c2_i32_3059
  let c1_i32_3060 : BitVec 32 := 1#32
  let v3915 : BitVec 32 := Scalar.addi v3914 c1_i32_3060
  let c64_i32_3066 : BitVec 32 := 64#32
  let v3923 : BitVec 32 := Scalar.muli v3915 c64_i32_3066
  v3923
def k0_mult169 : BitVec 32 :=
  let c120_i32_3115 : BitVec 32 := 120#32
  let c0_i32_3114 : BitVec 32 := 0#32
  let c2_i32_3109 : BitVec 32 := 2#32
  let c62_i32_3108 : BitVec 32 := 62#32
  let c0_i32_126 : BitVec 32 := 0#32
  let v3977 : BitVec 32 := Scalar.muli c62_i32_3108 c0_i32_126
  let v3978 : BitVec 32 := Scalar.addi c2_i32_3109 v3977
  let c21_i32 : BitVec 32 := 21#32
  let v3979 : BitVec 32 := Scalar.addi v3978 c21_i32
  let c2_i32_3110 : BitVec 32 := 2#32
  let v3980 : BitVec 32 := Scalar.subi v3979 c2_i32_3110
  let c2_i32_3111 : BitVec 32 := 2#32
  let v3981 : BitVec 32 := Scalar.muli v3980 c2_i32_3111
  let c0_i32_3112 : BitVec 32 := 0#32
  let v3982 : BitVec 32 := Scalar.addi v3981 c0_i32_3112
  let c4_i32_3113 : BitVec 32 := 4#32
  let v3983 : BitVec 32 := Scalar.subi v3982 c4_i32_3113
  let v3984 : BitVec 32 := Scalar.maxsi c0_i32_3114 v3983
  let v3985 : BitVec 32 := Scalar.minsi c120_i32_3115 v3984
  let c64_i32_3116 : BitVec 32 := 64#32
  let v3986 : BitVec 32 := Scalar.muli v3985 c64_i32_3116
  v3986
def k0_mult170 : BitVec 32 :=
  let c2_i32_3109 : BitVec 32 := 2#32
  let c62_i32_3108 : BitVec 32 := 62#32
  let c0_i32_126 : BitVec 32 := 0#32
  let v3977 : BitVec 32 := Scalar.muli c62_i32_3108 c0_i32_126
  let v3978 : BitVec 32 := Scalar.addi c2_i32_3109 v3977
  let c21_i32 : BitVec 32 := 21#32
  let v3979 : BitVec 32 := Scalar.addi v3978 c21_i32
  let c2_i32_3110 : BitVec 32 := 2#32
  let v3980 : BitVec 32 := Scalar.subi v3979 c2_i32_3110
  let c2_i32_3111 : BitVec 32 := 2#32
  let v3981 : BitVec 32 := Scalar.muli v3980 c2_i32_3111
  let c0_i32_3112 : BitVec 32 := 0#32
  let v3982 : BitVec 32 := Scalar.addi v3981 c0_i32_3112
  let c64_i32_3128 : BitVec 32 := 64#32
  let v4001 : BitVec 32 := Scalar.muli v3982 c64_i32_3128
  v4001
def k0_mult171 : BitVec 32 :=
  let c120_i32_3135 : BitVec 32 := 120#32
  let c0_i32_3134 : BitVec 32 := 0#32
  let c2_i32_3109 : BitVec 32 := 2#32
  let c62_i32_3108 : BitVec 32 := 62#32
  let c0_i32_126 : BitVec 32 := 0#32
  let v3977 : BitVec 32 := Scalar.muli c62_i32_3108 c0_i32_126
  let v3978 : BitVec 32 := Scalar.addi c2_i32_3109 v3977
  let c21_i32 : BitVec 32 := 21#32
  let v3979 : BitVec 32 := Scalar.addi v3978 c21_i32
  let c2_i32_3131 : BitVec 32 := 2#32
  let v4007 : BitVec 32 := Scalar.muli v3979 c2_i32_3131
  let c0_i32_3132 : BitVec 32 := 0#32
  let v4008 : BitVec 32 := Scalar.addi v4007 c0_i32_3132
  let c4_i32_3133 : BitVec 32 := 4#32
  let v4009 : BitVec 32 := Scalar.subi v4008 c4_i32_3133
  let v4010 : BitVec 32 := Scalar.maxsi c0_i32_3134 v4009
  let v4011 : BitVec 32 := Scalar.minsi c120_i32_3135 v4010
  let c64_i32_3136 : BitVec 32 := 64#32
  let v4012 : BitVec 32 := Scalar.muli v4011 c64_i32_3136
  v4012
def k0_mult172 : BitVec 32 :=
  let c2_i32_3109 : BitVec 32 := 2#32
  let c62_i32_3108 : BitVec 32 := 62#32
  let c0_i32_126 : BitVec 32 := 0#32
  let v3977 : BitVec 32 := Scalar.muli c62_i32_3108 c0_i32_126
  let v3978 : BitVec 32 := Scalar.addi c2_i32_3109 v3977
  let c21_i32 : BitVec 32 := 21#32
  let v3979 : BitVec 32 := Scalar.addi v3978 c21_i32
  let c2_i32_3131 : BitVec 32 := 2#32
  let v4007 : BitVec 32 := Scalar.muli v3979 c2_i32_3131
  let c0_i32_3132 : BitVec 32 := 0#32
  let v4008 : BitVec 32 := Scalar.addi v4007 c0_i32_3132
  let c64_i32_3138 : BitVec 32 := 64#32
  let v4016 : BitVec 32 := Scalar.muli v4008 c64_i32_3138
  v4016
def k0_mult173 : BitVec 32 :=
  let c120_i32_3185 : BitVec 32 := 120#32
  let c0_i32_3184 : BitVec 32 := 0#32
  let c2_i32_3109 : BitVec 32 := 2#32
  let c62_i32_3108 : BitVec 32 := 62#32
  let c0_i32_126 : BitVec 32 := 0#32
  let v3977 : BitVec 32 := Scalar.muli c62_i32_3108 c0_i32_126
  let v3978 : BitVec 32 := Scalar.addi c2_i32_3109 v3977
  let c21_i32 : BitVec 32 := 21#32
  let v3979 : BitVec 32 := Scalar.addi v3978 c21_i32
  let c2_i32_3180 : BitVec 32 := 2#32
  let v4070 : BitVec 32 := Scalar.subi v3979 c2_i32_3180
  let c2_i32_3181 : BitVec 32 := 2#32
  let v4071 : BitVec 32 := Scalar.muli v4070 c2_i32_3181
  let c1_i32_3182 : BitVec 32 := 1#32
  let v4072 : BitVec 32 := Scalar.addi v4071 c1_i32_3182
  let c4_i32_3183 : BitVec 32 := 4#32
  let v4073 : BitVec 32 := Scalar.subi v4072 c4_i32_3183
  let v4074 : BitVec 32 := Scalar.maxsi c0_i32_3184 v4073
  let v4075 : BitVec 32 := Scalar.minsi c120_i32_3185 v4074
  let c64_i32_3186 : BitVec 32 := 64#32
  let v4076 : BitVec 32 := Scalar.muli v4075 c64_i32_3186
  v4076
def k0_mult174 : BitVec 32 :=
  let c2_i32_3109 : BitVec 32 := 2#32
  let c62_i32_3108 : BitVec 32 := 62#32
  let c0_i32_126 : BitVec 32 := 0#32
  let v3977 : BitVec 32 := Scalar.muli c62_i32_3108 c0_i32_126
  let v3978 : BitVec 32 := Scalar.addi c2_i32_3109 v3977
  let c21_i32 : BitVec 32 := 21#32
  let v3979 : BitVec 32 := Scalar.addi v3978 c21_i32
  let c2_i32_3180 : BitVec 32 := 2#32
  let v4070 : BitVec 32 := Scalar.subi v3979 c2_i32_3180
  let c2_i32_3181 : BitVec 32 := 2#32
  let v4071 : BitVec 32 := Scalar.muli v4070 c2_i32_3181
  let c1_i32_3182 : BitVec 32 := 1#32
  let v4072 : BitVec 32 := Scalar.addi v4071 c1_i32_3182
  let c64_i32_3198 : BitVec 32 := 64#32
  let v4091 : BitVec 32 := Scalar.muli v4072 c64_i32_3198
  v4091
def k0_mult175 : BitVec 32 :=
  let c120_i32_3205 : BitVec 32 := 120#32
  let c0_i32_3204 : BitVec 32 := 0#32
  let c2_i32_3109 : BitVec 32 := 2#32
  let c62_i32_3108 : BitVec 32 := 62#32
  let c0_i32_126 : BitVec 32 := 0#32
  let v3977 : BitVec 32 := Scalar.muli c62_i32_3108 c0_i32_126
  let v3978 : BitVec 32 := Scalar.addi c2_i32_3109 v3977
  let c21_i32 : BitVec 32 := 21#32
  let v3979 : BitVec 32 := Scalar.addi v3978 c21_i32
  let c2_i32_3201 : BitVec 32 := 2#32
  let v4097 : BitVec 32 := Scalar.muli v3979 c2_i32_3201
  let c1_i32_3202 : BitVec 32 := 1#32
  let v4098 : BitVec 32 := Scalar.addi v4097 c1_i32_3202
  let c4_i32_3203 : BitVec 32 := 4#32
  let v4099 : BitVec 32 := Scalar.subi v4098 c4_i32_3203
  let v4100 : BitVec 32 := Scalar.maxsi c0_i32_3204 v4099
  let v4101 : BitVec 32 := Scalar.minsi c120_i32_3205 v4100
  let c64_i32_3206 : BitVec 32 := 64#32
  let v4102 : BitVec 32 := Scalar.muli v4101 c64_i32_3206
  v4102
def k0_mult176 : BitVec 32 :=
  let c2_i32_3109 : BitVec 32 := 2#32
  let c62_i32_3108 : BitVec 32 := 62#32
  let c0_i32_126 : BitVec 32 := 0#32
  let v3977 : BitVec 32 := Scalar.muli c62_i32_3108 c0_i32_126
  let v3978 : BitVec 32 := Scalar.addi c2_i32_3109 v3977
  let c21_i32 : BitVec 32 := 21#32
  let v3979 : BitVec 32 := Scalar.addi v3978 c21_i32
  let c2_i32_3201 : BitVec 32 := 2#32
  let v4097 : BitVec 32 := Scalar.muli v3979 c2_i32_3201
  let c1_i32_3202 : BitVec 32 := 1#32
  let v4098 : BitVec 32 := Scalar.addi v4097 c1_i32_3202
  let c64_i32_3208 : BitVec 32 := 64#32
  let v4106 : BitVec 32 := Scalar.muli v4098 c64_i32_3208
  v4106
def k0_mult177 : BitVec 32 :=
  let c120_i32_3257 : BitVec 32 := 120#32
  let c0_i32_3256 : BitVec 32 := 0#32
  let c2_i32_3251 : BitVec 32 := 2#32
  let c62_i32_3250 : BitVec 32 := 62#32
  let c0_i32_126 : BitVec 32 := 0#32
  let v4160 : BitVec 32 := Scalar.muli c62_i32_3250 c0_i32_126
  let v4161 : BitVec 32 := Scalar.addi c2_i32_3251 v4160
  let c22_i32 : BitVec 32 := 22#32
  let v4162 : BitVec 32 := Scalar.addi v4161 c22_i32
  let c2_i32_3252 : BitVec 32 := 2#32
  let v4163 : BitVec 32 := Scalar.subi v4162 c2_i32_3252
  let c2_i32_3253 : BitVec 32 := 2#32
  let v4164 : BitVec 32 := Scalar.muli v4163 c2_i32_3253
  let c0_i32_3254 : BitVec 32 := 0#32
  let v4165 : BitVec 32 := Scalar.addi v4164 c0_i32_3254
  let c4_i32_3255 : BitVec 32 := 4#32
  let v4166 : BitVec 32 := Scalar.subi v4165 c4_i32_3255
  let v4167 : BitVec 32 := Scalar.maxsi c0_i32_3256 v4166
  let v4168 : BitVec 32 := Scalar.minsi c120_i32_3257 v4167
  let c64_i32_3258 : BitVec 32 := 64#32
  let v4169 : BitVec 32 := Scalar.muli v4168 c64_i32_3258
  v4169
def k0_mult178 : BitVec 32 :=
  let c2_i32_3251 : BitVec 32 := 2#32
  let c62_i32_3250 : BitVec 32 := 62#32
  let c0_i32_126 : BitVec 32 := 0#32
  let v4160 : BitVec 32 := Scalar.muli c62_i32_3250 c0_i32_126
  let v4161 : BitVec 32 := Scalar.addi c2_i32_3251 v4160
  let c22_i32 : BitVec 32 := 22#32
  let v4162 : BitVec 32 := Scalar.addi v4161 c22_i32
  let c2_i32_3252 : BitVec 32 := 2#32
  let v4163 : BitVec 32 := Scalar.subi v4162 c2_i32_3252
  let c2_i32_3253 : BitVec 32 := 2#32
  let v4164 : BitVec 32 := Scalar.muli v4163 c2_i32_3253
  let c0_i32_3254 : BitVec 32 := 0#32
  let v4165 : BitVec 32 := Scalar.addi v4164 c0_i32_3254
  let c64_i32_3270 : BitVec 32 := 64#32
  let v4184 : BitVec 32 := Scalar.muli v4165 c64_i32_3270
  v4184
def k0_mult179 : BitVec 32 :=
  let c120_i32_3277 : BitVec 32 := 120#32
  let c0_i32_3276 : BitVec 32 := 0#32
  let c2_i32_3251 : BitVec 32 := 2#32
  let c62_i32_3250 : BitVec 32 := 62#32
  let c0_i32_126 : BitVec 32 := 0#32
  let v4160 : BitVec 32 := Scalar.muli c62_i32_3250 c0_i32_126
  let v4161 : BitVec 32 := Scalar.addi c2_i32_3251 v4160
  let c22_i32 : BitVec 32 := 22#32
  let v4162 : BitVec 32 := Scalar.addi v4161 c22_i32
  let c2_i32_3273 : BitVec 32 := 2#32
  let v4190 : BitVec 32 := Scalar.muli v4162 c2_i32_3273
  let c0_i32_3274 : BitVec 32 := 0#32
  let v4191 : BitVec 32 := Scalar.addi v4190 c0_i32_3274
  let c4_i32_3275 : BitVec 32 := 4#32
  let v4192 : BitVec 32 := Scalar.subi v4191 c4_i32_3275
  let v4193 : BitVec 32 := Scalar.maxsi c0_i32_3276 v4192
  let v4194 : BitVec 32 := Scalar.minsi c120_i32_3277 v4193
  let c64_i32_3278 : BitVec 32 := 64#32
  let v4195 : BitVec 32 := Scalar.muli v4194 c64_i32_3278
  v4195
def k0_mult180 : BitVec 32 :=
  let c2_i32_3251 : BitVec 32 := 2#32
  let c62_i32_3250 : BitVec 32 := 62#32
  let c0_i32_126 : BitVec 32 := 0#32
  let v4160 : BitVec 32 := Scalar.muli c62_i32_3250 c0_i32_126
  let v4161 : BitVec 32 := Scalar.addi c2_i32_3251 v4160
  let c22_i32 : BitVec 32 := 22#32
  let v4162 : BitVec 32 := Scalar.addi v4161 c22_i32
  let c2_i32_3273 : BitVec 32 := 2#32
  let v4190 : BitVec 32 := Scalar.muli v4162 c2_i32_3273
  let c0_i32_3274 : BitVec 32 := 0#32
  let v4191 : BitVec 32 := Scalar.addi v4190 c0_i32_3274
  let c64_i32_3280 : BitVec 32 := 64#32
  let v4199 : BitVec 32 := Scalar.muli v4191 c64_i32_3280
  v4199
def k0_mult181 : BitVec 32 :=
  let c120_i32_3327 : BitVec 32 := 120#32
  let c0_i32_3326 : BitVec 32 := 0#32
  let c2_i32_3251 : BitVec 32 := 2#32
  let c62_i32_3250 : BitVec 32 := 62#32
  let c0_i32_126 : BitVec 32 := 0#32
  let v4160 : BitVec 32 := Scalar.muli c62_i32_3250 c0_i32_126
  let v4161 : BitVec 32 := Scalar.addi c2_i32_3251 v4160
  let c22_i32 : BitVec 32 := 22#32
  let v4162 : BitVec 32 := Scalar.addi v4161 c22_i32
  let c2_i32_3322 : BitVec 32 := 2#32
  let v4253 : BitVec 32 := Scalar.subi v4162 c2_i32_3322
  let c2_i32_3323 : BitVec 32 := 2#32
  let v4254 : BitVec 32 := Scalar.muli v4253 c2_i32_3323
  let c1_i32_3324 : BitVec 32 := 1#32
  let v4255 : BitVec 32 := Scalar.addi v4254 c1_i32_3324
  let c4_i32_3325 : BitVec 32 := 4#32
  let v4256 : BitVec 32 := Scalar.subi v4255 c4_i32_3325
  let v4257 : BitVec 32 := Scalar.maxsi c0_i32_3326 v4256
  let v4258 : BitVec 32 := Scalar.minsi c120_i32_3327 v4257
  let c64_i32_3328 : BitVec 32 := 64#32
  let v4259 : BitVec 32 := Scalar.muli v4258 c64_i32_3328
  v4259
def k0_mult182 : BitVec 32 :=
  let c2_i32_3251 : BitVec 32 := 2#32
  let c62_i32_3250 : BitVec 32 := 62#32
  let c0_i32_126 : BitVec 32 := 0#32
  let v4160 : BitVec 32 := Scalar.muli c62_i32_3250 c0_i32_126
  let v4161 : BitVec 32 := Scalar.addi c2_i32_3251 v4160
  let c22_i32 : BitVec 32 := 22#32
  let v4162 : BitVec 32 := Scalar.addi v4161 c22_i32
  let c2_i32_3322 : BitVec 32 := 2#32
  let v4253 : BitVec 32 := Scalar.subi v4162 c2_i32_3322
  let c2_i32_3323 : BitVec 32 := 2#32
  let v4254 : BitVec 32 := Scalar.muli v4253 c2_i32_3323
  let c1_i32_3324 : BitVec 32 := 1#32
  let v4255 : BitVec 32 := Scalar.addi v4254 c1_i32_3324
  let c64_i32_3340 : BitVec 32 := 64#32
  let v4274 : BitVec 32 := Scalar.muli v4255 c64_i32_3340
  v4274
def k0_mult183 : BitVec 32 :=
  let c120_i32_3347 : BitVec 32 := 120#32
  let c0_i32_3346 : BitVec 32 := 0#32
  let c2_i32_3251 : BitVec 32 := 2#32
  let c62_i32_3250 : BitVec 32 := 62#32
  let c0_i32_126 : BitVec 32 := 0#32
  let v4160 : BitVec 32 := Scalar.muli c62_i32_3250 c0_i32_126
  let v4161 : BitVec 32 := Scalar.addi c2_i32_3251 v4160
  let c22_i32 : BitVec 32 := 22#32
  let v4162 : BitVec 32 := Scalar.addi v4161 c22_i32
  let c2_i32_3343 : BitVec 32 := 2#32
  let v4280 : BitVec 32 := Scalar.muli v4162 c2_i32_3343
  let c1_i32_3344 : BitVec 32 := 1#32
  let v4281 : BitVec 32 := Scalar.addi v4280 c1_i32_3344
  let c4_i32_3345 : BitVec 32 := 4#32
  let v4282 : BitVec 32 := Scalar.subi v4281 c4_i32_3345
  let v4283 : BitVec 32 := Scalar.maxsi c0_i32_3346 v4282
  let v4284 : BitVec 32 := Scalar.minsi c120_i32_3347 v4283
  let c64_i32_3348 : BitVec 32 := 64#32
  let v4285 : BitVec 32 := Scalar.muli v4284 c64_i32_3348
  v4285
def k0_mult184 : BitVec 32 :=
  let c2_i32_3251 : BitVec 32 := 2#32
  let c62_i32_3250 : BitVec 32 := 62#32
  let c0_i32_126 : BitVec 32 := 0#32
  let v4160 : BitVec 32 := Scalar.muli c62_i32_3250 c0_i32_126
  let v4161 : BitVec 32 := Scalar.addi c2_i32_3251 v4160
  let c22_i32 : BitVec 32 := 22#32
  let v4162 : BitVec 32 := Scalar.addi v4161 c22_i32
  let c2_i32_3343 : BitVec 32 := 2#32
  let v4280 : BitVec 32 := Scalar.muli v4162 c2_i32_3343
  let c1_i32_3344 : BitVec 32 := 1#32
  let v4281 : BitVec 32 := Scalar.addi v4280 c1_i32_3344
  let c64_i32_3350 : BitVec 32 := 64#32
  let v4289 : BitVec 32 := Scalar.muli v4281 c64_i32_3350
  v4289
def k0_mult185 : BitVec 32 :=
  let c120_i32_3399 : BitVec 32 := 120#32
  let c0_i32_3398 : BitVec 32 := 0#32
  let c2_i32_3393 : BitVec 32 := 2#32
  let c62_i32_3392 : BitVec 32 := 62#32
  let c0_i32_126 : BitVec 32 := 0#32
  let v4343 : BitVec 32 := Scalar.muli c62_i32_3392 c0_i32_126
  let v4344 : BitVec 32 := Scalar.addi c2_i32_3393 v4343
  let c23_i32 : BitVec 32 := 23#32
  let v4345 : BitVec 32 := Scalar.addi v4344 c23_i32
  let c2_i32_3394 : BitVec 32 := 2#32
  let v4346 : BitVec 32 := Scalar.subi v4345 c2_i32_3394
  let c2_i32_3395 : BitVec 32 := 2#32
  let v4347 : BitVec 32 := Scalar.muli v4346 c2_i32_3395
  let c0_i32_3396 : BitVec 32 := 0#32
  let v4348 : BitVec 32 := Scalar.addi v4347 c0_i32_3396
  let c4_i32_3397 : BitVec 32 := 4#32
  let v4349 : BitVec 32 := Scalar.subi v4348 c4_i32_3397
  let v4350 : BitVec 32 := Scalar.maxsi c0_i32_3398 v4349
  let v4351 : BitVec 32 := Scalar.minsi c120_i32_3399 v4350
  let c64_i32_3400 : BitVec 32 := 64#32
  let v4352 : BitVec 32 := Scalar.muli v4351 c64_i32_3400
  v4352
def k0_mult186 : BitVec 32 :=
  let c2_i32_3393 : BitVec 32 := 2#32
  let c62_i32_3392 : BitVec 32 := 62#32
  let c0_i32_126 : BitVec 32 := 0#32
  let v4343 : BitVec 32 := Scalar.muli c62_i32_3392 c0_i32_126
  let v4344 : BitVec 32 := Scalar.addi c2_i32_3393 v4343
  let c23_i32 : BitVec 32 := 23#32
  let v4345 : BitVec 32 := Scalar.addi v4344 c23_i32
  let c2_i32_3394 : BitVec 32 := 2#32
  let v4346 : BitVec 32 := Scalar.subi v4345 c2_i32_3394
  let c2_i32_3395 : BitVec 32 := 2#32
  let v4347 : BitVec 32 := Scalar.muli v4346 c2_i32_3395
  let c0_i32_3396 : BitVec 32 := 0#32
  let v4348 : BitVec 32 := Scalar.addi v4347 c0_i32_3396
  let c64_i32_3412 : BitVec 32 := 64#32
  let v4367 : BitVec 32 := Scalar.muli v4348 c64_i32_3412
  v4367
def k0_mult187 : BitVec 32 :=
  let c120_i32_3419 : BitVec 32 := 120#32
  let c0_i32_3418 : BitVec 32 := 0#32
  let c2_i32_3393 : BitVec 32 := 2#32
  let c62_i32_3392 : BitVec 32 := 62#32
  let c0_i32_126 : BitVec 32 := 0#32
  let v4343 : BitVec 32 := Scalar.muli c62_i32_3392 c0_i32_126
  let v4344 : BitVec 32 := Scalar.addi c2_i32_3393 v4343
  let c23_i32 : BitVec 32 := 23#32
  let v4345 : BitVec 32 := Scalar.addi v4344 c23_i32
  let c2_i32_3415 : BitVec 32 := 2#32
  let v4373 : BitVec 32 := Scalar.muli v4345 c2_i32_3415
  let c0_i32_3416 : BitVec 32 := 0#32
  let v4374 : BitVec 32 := Scalar.addi v4373 c0_i32_3416
  let c4_i32_3417 : BitVec 32 := 4#32
  let v4375 : BitVec 32 := Scalar.subi v4374 c4_i32_3417
  let v4376 : BitVec 32 := Scalar.maxsi c0_i32_3418 v4375
  let v4377 : BitVec 32 := Scalar.minsi c120_i32_3419 v4376
  let c64_i32_3420 : BitVec 32 := 64#32
  let v4378 : BitVec 32 := Scalar.muli v4377 c64_i32_3420
  v4378
def k0_mult188 : BitVec 32 :=
  let c2_i32_3393 : BitVec 32 := 2#32
  let c62_i32_3392 : BitVec 32 := 62#32
  let c0_i32_126 : BitVec 32 := 0#32
  let v4343 : BitVec 32 := Scalar.muli c62_i32_3392 c0_i32_126
  let v4344 : BitVec 32 := Scalar.addi c2_i32_3393 v4343
  let c23_i32 : BitVec 32 := 23#32
  let v4345 : BitVec 32 := Scalar.addi v4344 c23_i32
  let c2_i32_3415 : BitVec 32 := 2#32
  let v4373 : BitVec 32 := Scalar.muli v4345 c2_i32_3415
  let c0_i32_3416 : BitVec 32 := 0#32
  let v4374 : BitVec 32 := Scalar.addi v4373 c0_i32_3416
  let c64_i32_3422 : BitVec 32 := 64#32
  let v4382 : BitVec 32 := Scalar.muli v4374 c64_i32_3422
  v4382
def k0_mult189 : BitVec 32 :=
  let c120_i32_3469 : BitVec 32 := 120#32
  let c0_i32_3468 : BitVec 32 := 0#32
  let c2_i32_3393 : BitVec 32 := 2#32
  let c62_i32_3392 : BitVec 32 := 62#32
  let c0_i32_126 : BitVec 32 := 0#32
  let v4343 : BitVec 32 := Scalar.muli c62_i32_3392 c0_i32_126
  let v4344 : BitVec 32 := Scalar.addi c2_i32_3393 v4343
  let c23_i32 : BitVec 32 := 23#32
  let v4345 : BitVec 32 := Scalar.addi v4344 c23_i32
  let c2_i32_3464 : BitVec 32 := 2#32
  let v4436 : BitVec 32 := Scalar.subi v4345 c2_i32_3464
  let c2_i32_3465 : BitVec 32 := 2#32
  let v4437 : BitVec 32 := Scalar.muli v4436 c2_i32_3465
  let c1_i32_3466 : BitVec 32 := 1#32
  let v4438 : BitVec 32 := Scalar.addi v4437 c1_i32_3466
  let c4_i32_3467 : BitVec 32 := 4#32
  let v4439 : BitVec 32 := Scalar.subi v4438 c4_i32_3467
  let v4440 : BitVec 32 := Scalar.maxsi c0_i32_3468 v4439
  let v4441 : BitVec 32 := Scalar.minsi c120_i32_3469 v4440
  let c64_i32_3470 : BitVec 32 := 64#32
  let v4442 : BitVec 32 := Scalar.muli v4441 c64_i32_3470
  v4442
def k0_mult190 : BitVec 32 :=
  let c2_i32_3393 : BitVec 32 := 2#32
  let c62_i32_3392 : BitVec 32 := 62#32
  let c0_i32_126 : BitVec 32 := 0#32
  let v4343 : BitVec 32 := Scalar.muli c62_i32_3392 c0_i32_126
  let v4344 : BitVec 32 := Scalar.addi c2_i32_3393 v4343
  let c23_i32 : BitVec 32 := 23#32
  let v4345 : BitVec 32 := Scalar.addi v4344 c23_i32
  let c2_i32_3464 : BitVec 32 := 2#32
  let v4436 : BitVec 32 := Scalar.subi v4345 c2_i32_3464
  let c2_i32_3465 : BitVec 32 := 2#32
  let v4437 : BitVec 32 := Scalar.muli v4436 c2_i32_3465
  let c1_i32_3466 : BitVec 32 := 1#32
  let v4438 : BitVec 32 := Scalar.addi v4437 c1_i32_3466
  let c64_i32_3482 : BitVec 32 := 64#32
  let v4457 : BitVec 32 := Scalar.muli v4438 c64_i32_3482
  v4457
def k0_mult191 : BitVec 32 :=
  let c120_i32_3489 : BitVec 32 := 120#32
  let c0_i32_3488 : BitVec 32 := 0#32
  let c2_i32_3393 : BitVec 32 := 2#32
  let c62_i32_3392 : BitVec 32 := 62#32
  let c0_i32_126 : BitVec 32 := 0#32
  let v4343 : BitVec 32 := Scalar.muli c62_i32_3392 c0_i32_126
  let v4344 : BitVec 32 := Scalar.addi c2_i32_3393 v4343
  let c23_i32 : BitVec 32 := 23#32
  let v4345 : BitVec 32 := Scalar.addi v4344 c23_i32
  let c2_i32_3485 : BitVec 32 := 2#32
  let v4463 : BitVec 32 := Scalar.muli v4345 c2_i32_3485
  let c1_i32_3486 : BitVec 32 := 1#32
  let v4464 : BitVec 32 := Scalar.addi v4463 c1_i32_3486
  let c4_i32_3487 : BitVec 32 := 4#32
  let v4465 : BitVec 32 := Scalar.subi v4464 c4_i32_3487
  let v4466 : BitVec 32 := Scalar.maxsi c0_i32_3488 v4465
  let v4467 : BitVec 32 := Scalar.minsi c120_i32_3489 v4466
  let c64_i32_3490 : BitVec 32 := 64#32
  let v4468 : BitVec 32 := Scalar.muli v4467 c64_i32_3490
  v4468
def k0_mult192 : BitVec 32 :=
  let c2_i32_3393 : BitVec 32 := 2#32
  let c62_i32_3392 : BitVec 32 := 62#32
  let c0_i32_126 : BitVec 32 := 0#32
  let v4343 : BitVec 32 := Scalar.muli c62_i32_3392 c0_i32_126
  let v4344 : BitVec 32 := Scalar.addi c2_i32_3393 v4343
  let c23_i32 : BitVec 32 := 23#32
  let v4345 : BitVec 32 := Scalar.addi v4344 c23_i32
  let c2_i32_3485 : BitVec 32 := 2#32
  let v4463 : BitVec 32 := Scalar.muli v4345 c2_i32_3485
  let c1_i32_3486 : BitVec 32 := 1#32
  let v4464 : BitVec 32 := Scalar.addi v4463 c1_i32_3486
  let c64_i32_3492 : BitVec 32 := 64#32
  let v4472 : BitVec 32 := Scalar.muli v4464 c64_i32_3492
  v4472
def k0_mult193 : BitVec 32 :=
  let c120_i32_3541 : BitVec 32 := 120#32
  let c0_i32_3540 : BitVec 32 := 0#32
  let c2_i32_3535 : BitVec 32 := 2#32
  let c62_i32_3534 : BitVec 32 := 62#32
  let c0_i32_126 : BitVec 32 := 0#32
  let v4526 : BitVec 32 := Scalar.muli c62_i32_3534 c0_i32_126
  let v4527 : BitVec 32 := Scalar.addi c2_i32_3535 v4526
  let c24_i32 : BitVec 32 := 24#32
  let v4528 : BitVec 32 := Scalar.addi v4527 c24_i32
  let c2_i32_3536 : BitVec 32 := 2#32
  let v4529 : BitVec 32 := Scalar.subi v4528 c2_i32_3536
  let c2_i32_3537 : BitVec 32 := 2#32
  let v4530 : BitVec 32 := Scalar.muli v4529 c2_i32_3537
  let c0_i32_3538 : BitVec 32 := 0#32
  let v4531 : BitVec 32 := Scalar.addi v4530 c0_i32_3538
  let c4_i32_3539 : BitVec 32 := 4#32
  let v4532 : BitVec 32 := Scalar.subi v4531 c4_i32_3539
  let v4533 : BitVec 32 := Scalar.maxsi c0_i32_3540 v4532
  let v4534 : BitVec 32 := Scalar.minsi c120_i32_3541 v4533
  let c64_i32_3542 : BitVec 32 := 64#32
  let v4535 : BitVec 32 := Scalar.muli v4534 c64_i32_3542
  v4535
def k0_mult194 : BitVec 32 :=
  let c2_i32_3535 : BitVec 32 := 2#32
  let c62_i32_3534 : BitVec 32 := 62#32
  let c0_i32_126 : BitVec 32 := 0#32
  let v4526 : BitVec 32 := Scalar.muli c62_i32_3534 c0_i32_126
  let v4527 : BitVec 32 := Scalar.addi c2_i32_3535 v4526
  let c24_i32 : BitVec 32 := 24#32
  let v4528 : BitVec 32 := Scalar.addi v4527 c24_i32
  let c2_i32_3536 : BitVec 32 := 2#32
  let v4529 : BitVec 32 := Scalar.subi v4528 c2_i32_3536
  let c2_i32_3537 : BitVec 32 := 2#32
  let v4530 : BitVec 32 := Scalar.muli v4529 c2_i32_3537
  let c0_i32_3538 : BitVec 32 := 0#32
  let v4531 : BitVec 32 := Scalar.addi v4530 c0_i32_3538
  let c64_i32_3554 : BitVec 32 := 64#32
  let v4550 : BitVec 32 := Scalar.muli v4531 c64_i32_3554
  v4550
def k0_mult195 : BitVec 32 :=
  let c120_i32_3561 : BitVec 32 := 120#32
  let c0_i32_3560 : BitVec 32 := 0#32
  let c2_i32_3535 : BitVec 32 := 2#32
  let c62_i32_3534 : BitVec 32 := 62#32
  let c0_i32_126 : BitVec 32 := 0#32
  let v4526 : BitVec 32 := Scalar.muli c62_i32_3534 c0_i32_126
  let v4527 : BitVec 32 := Scalar.addi c2_i32_3535 v4526
  let c24_i32 : BitVec 32 := 24#32
  let v4528 : BitVec 32 := Scalar.addi v4527 c24_i32
  let c2_i32_3557 : BitVec 32 := 2#32
  let v4556 : BitVec 32 := Scalar.muli v4528 c2_i32_3557
  let c0_i32_3558 : BitVec 32 := 0#32
  let v4557 : BitVec 32 := Scalar.addi v4556 c0_i32_3558
  let c4_i32_3559 : BitVec 32 := 4#32
  let v4558 : BitVec 32 := Scalar.subi v4557 c4_i32_3559
  let v4559 : BitVec 32 := Scalar.maxsi c0_i32_3560 v4558
  let v4560 : BitVec 32 := Scalar.minsi c120_i32_3561 v4559
  let c64_i32_3562 : BitVec 32 := 64#32
  let v4561 : BitVec 32 := Scalar.muli v4560 c64_i32_3562
  v4561
def k0_mult196 : BitVec 32 :=
  let c2_i32_3535 : BitVec 32 := 2#32
  let c62_i32_3534 : BitVec 32 := 62#32
  let c0_i32_126 : BitVec 32 := 0#32
  let v4526 : BitVec 32 := Scalar.muli c62_i32_3534 c0_i32_126
  let v4527 : BitVec 32 := Scalar.addi c2_i32_3535 v4526
  let c24_i32 : BitVec 32 := 24#32
  let v4528 : BitVec 32 := Scalar.addi v4527 c24_i32
  let c2_i32_3557 : BitVec 32 := 2#32
  let v4556 : BitVec 32 := Scalar.muli v4528 c2_i32_3557
  let c0_i32_3558 : BitVec 32 := 0#32
  let v4557 : BitVec 32 := Scalar.addi v4556 c0_i32_3558
  let c64_i32_3564 : BitVec 32 := 64#32
  let v4565 : BitVec 32 := Scalar.muli v4557 c64_i32_3564
  v4565
def k0_mult197 : BitVec 32 :=
  let c120_i32_3611 : BitVec 32 := 120#32
  let c0_i32_3610 : BitVec 32 := 0#32
  let c2_i32_3535 : BitVec 32 := 2#32
  let c62_i32_3534 : BitVec 32 := 62#32
  let c0_i32_126 : BitVec 32 := 0#32
  let v4526 : BitVec 32 := Scalar.muli c62_i32_3534 c0_i32_126
  let v4527 : BitVec 32 := Scalar.addi c2_i32_3535 v4526
  let c24_i32 : BitVec 32 := 24#32
  let v4528 : BitVec 32 := Scalar.addi v4527 c24_i32
  let c2_i32_3606 : BitVec 32 := 2#32
  let v4619 : BitVec 32 := Scalar.subi v4528 c2_i32_3606
  let c2_i32_3607 : BitVec 32 := 2#32
  let v4620 : BitVec 32 := Scalar.muli v4619 c2_i32_3607
  let c1_i32_3608 : BitVec 32 := 1#32
  let v4621 : BitVec 32 := Scalar.addi v4620 c1_i32_3608
  let c4_i32_3609 : BitVec 32 := 4#32
  let v4622 : BitVec 32 := Scalar.subi v4621 c4_i32_3609
  let v4623 : BitVec 32 := Scalar.maxsi c0_i32_3610 v4622
  let v4624 : BitVec 32 := Scalar.minsi c120_i32_3611 v4623
  let c64_i32_3612 : BitVec 32 := 64#32
  let v4625 : BitVec 32 := Scalar.muli v4624 c64_i32_3612
  v4625
def k0_mult198 : BitVec 32 :=
  let c2_i32_3535 : BitVec 32 := 2#32
  let c62_i32_3534 : BitVec 32 := 62#32
  let c0_i32_126 : BitVec 32 := 0#32
  let v4526 : BitVec 32 := Scalar.muli c62_i32_3534 c0_i32_126
  let v4527 : BitVec 32 := Scalar.addi c2_i32_3535 v4526
  let c24_i32 : BitVec 32 := 24#32
  let v4528 : BitVec 32 := Scalar.addi v4527 c24_i32
  let c2_i32_3606 : BitVec 32 := 2#32
  let v4619 : BitVec 32 := Scalar.subi v4528 c2_i32_3606
  let c2_i32_3607 : BitVec 32 := 2#32
  let v4620 : BitVec 32 := Scalar.muli v4619 c2_i32_3607
  let c1_i32_3608 : BitVec 32 := 1#32
  let v4621 : BitVec 32 := Scalar.addi v4620 c1_i32_3608
  let c64_i32_3624 : BitVec 32 := 64#32
  let v4640 : BitVec 32 := Scalar.muli v4621 c64_i32_3624
  v4640
def k0_mult199 : BitVec 32 :=
  let c120_i32_3631 : BitVec 32 := 120#32
  let c0_i32_3630 : BitVec 32 := 0#32
  let c2_i32_3535 : BitVec 32 := 2#32
  let c62_i32_3534 : BitVec 32 := 62#32
  let c0_i32_126 : BitVec 32 := 0#32
  let v4526 : BitVec 32 := Scalar.muli c62_i32_3534 c0_i32_126
  let v4527 : BitVec 32 := Scalar.addi c2_i32_3535 v4526
  let c24_i32 : BitVec 32 := 24#32
  let v4528 : BitVec 32 := Scalar.addi v4527 c24_i32
  let c2_i32_3627 : BitVec 32 := 2#32
  let v4646 : BitVec 32 := Scalar.muli v4528 c2_i32_3627
  let c1_i32_3628 : BitVec 32 := 1#32
  let v4647 : BitVec 32 := Scalar.addi v4646 c1_i32_3628
  let c4_i32_3629 : BitVec 32 := 4#32
  let v4648 : BitVec 32 := Scalar.subi v4647 c4_i32_3629
  let v4649 : BitVec 32 := Scalar.maxsi c0_i32_3630 v4648
  let v4650 : BitVec 32 := Scalar.minsi c120_i32_3631 v4649
  let c64_i32_3632 : BitVec 32 := 64#32
  let v4651 : BitVec 32 := Scalar.muli v4650 c64_i32_3632
  v4651
def k0_mult200 : BitVec 32 :=
  let c2_i32_3535 : BitVec 32 := 2#32
  let c62_i32_3534 : BitVec 32 := 62#32
  let c0_i32_126 : BitVec 32 := 0#32
  let v4526 : BitVec 32 := Scalar.muli c62_i32_3534 c0_i32_126
  let v4527 : BitVec 32 := Scalar.addi c2_i32_3535 v4526
  let c24_i32 : BitVec 32 := 24#32
  let v4528 : BitVec 32 := Scalar.addi v4527 c24_i32
  let c2_i32_3627 : BitVec 32 := 2#32
  let v4646 : BitVec 32 := Scalar.muli v4528 c2_i32_3627
  let c1_i32_3628 : BitVec 32 := 1#32
  let v4647 : BitVec 32 := Scalar.addi v4646 c1_i32_3628
  let c64_i32_3634 : BitVec 32 := 64#32
  let v4655 : BitVec 32 := Scalar.muli v4647 c64_i32_3634
  v4655
def k0_mult201 : BitVec 32 :=
  let c120_i32_3683 : BitVec 32 := 120#32
  let c0_i32_3682 : BitVec 32 := 0#32
  let c2_i32_3677 : BitVec 32 := 2#32
  let c62_i32_3676 : BitVec 32 := 62#32
  let c0_i32_126 : BitVec 32 := 0#32
  let v4709 : BitVec 32 := Scalar.muli c62_i32_3676 c0_i32_126
  let v4710 : BitVec 32 := Scalar.addi c2_i32_3677 v4709
  let c25_i32 : BitVec 32 := 25#32
  let v4711 : BitVec 32 := Scalar.addi v4710 c25_i32
  let c2_i32_3678 : BitVec 32 := 2#32
  let v4712 : BitVec 32 := Scalar.subi v4711 c2_i32_3678
  let c2_i32_3679 : BitVec 32 := 2#32
  let v4713 : BitVec 32 := Scalar.muli v4712 c2_i32_3679
  let c0_i32_3680 : BitVec 32 := 0#32
  let v4714 : BitVec 32 := Scalar.addi v4713 c0_i32_3680
  let c4_i32_3681 : BitVec 32 := 4#32
  let v4715 : BitVec 32 := Scalar.subi v4714 c4_i32_3681
  let v4716 : BitVec 32 := Scalar.maxsi c0_i32_3682 v4715
  let v4717 : BitVec 32 := Scalar.minsi c120_i32_3683 v4716
  let c64_i32_3684 : BitVec 32 := 64#32
  let v4718 : BitVec 32 := Scalar.muli v4717 c64_i32_3684
  v4718
def k0_mult202 : BitVec 32 :=
  let c2_i32_3677 : BitVec 32 := 2#32
  let c62_i32_3676 : BitVec 32 := 62#32
  let c0_i32_126 : BitVec 32 := 0#32
  let v4709 : BitVec 32 := Scalar.muli c62_i32_3676 c0_i32_126
  let v4710 : BitVec 32 := Scalar.addi c2_i32_3677 v4709
  let c25_i32 : BitVec 32 := 25#32
  let v4711 : BitVec 32 := Scalar.addi v4710 c25_i32
  let c2_i32_3678 : BitVec 32 := 2#32
  let v4712 : BitVec 32 := Scalar.subi v4711 c2_i32_3678
  let c2_i32_3679 : BitVec 32 := 2#32
  let v4713 : BitVec 32 := Scalar.muli v4712 c2_i32_3679
  let c0_i32_3680 : BitVec 32 := 0#32
  let v4714 : BitVec 32 := Scalar.addi v4713 c0_i32_3680
  let c64_i32_3696 : BitVec 32 := 64#32
  let v4733 : BitVec 32 := Scalar.muli v4714 c64_i32_3696
  v4733
def k0_mult203 : BitVec 32 :=
  let c120_i32_3703 : BitVec 32 := 120#32
  let c0_i32_3702 : BitVec 32 := 0#32
  let c2_i32_3677 : BitVec 32 := 2#32
  let c62_i32_3676 : BitVec 32 := 62#32
  let c0_i32_126 : BitVec 32 := 0#32
  let v4709 : BitVec 32 := Scalar.muli c62_i32_3676 c0_i32_126
  let v4710 : BitVec 32 := Scalar.addi c2_i32_3677 v4709
  let c25_i32 : BitVec 32 := 25#32
  let v4711 : BitVec 32 := Scalar.addi v4710 c25_i32
  let c2_i32_3699 : BitVec 32 := 2#32
  let v4739 : BitVec 32 := Scalar.muli v4711 c2_i32_3699
  let c0_i32_3700 : BitVec 32 := 0#32
  let v4740 : BitVec 32 := Scalar.addi v4739 c0_i32_3700
  let c4_i32_3701 : BitVec 32 := 4#32
  let v4741 : BitVec 32 := Scalar.subi v4740 c4_i32_3701
  let v4742 : BitVec 32 := Scalar.maxsi c0_i32_3702 v4741
  let v4743 : BitVec 32 := Scalar.minsi c120_i32_3703 v4742
  let c64_i32_3704 : BitVec 32 := 64#32
  let v4744 : BitVec 32 := Scalar.muli v4743 c64_i32_3704
  v4744
def k0_mult204 : BitVec 32 :=
  let c2_i32_3677 : BitVec 32 := 2#32
  let c62_i32_3676 : BitVec 32 := 62#32
  let c0_i32_126 : BitVec 32 := 0#32
  let v4709 : BitVec 32 := Scalar.muli c62_i32_3676 c0_i32_126
  let v4710 : BitVec 32 := Scalar.addi c2_i32_3677 v4709
  let c25_i32 : BitVec 32 := 25#32
  let v4711 : BitVec 32 := Scalar.addi v4710 c25_i32
  let c2_i32_3699 : BitVec 32 := 2#32
  let v4739 : BitVec 32 := Scalar.muli v4711 c2_i32_3699
  let c0_i32_3700 : BitVec 32 := 0#32
  let v4740 : BitVec 32 := Scalar.addi v4739 c0_i32_3700
  let c64_i32_3706 : BitVec 32 := 64#32
  let v4748 : BitVec 32 := Scalar.muli v4740 c64_i32_3706
  v4748
def k0_mult205 : BitVec 32 :=
  let c120_i32_3753 : BitVec 32 := 120#32
  let c0_i32_3752 : BitVec 32 := 0#32
  let c2_i32_3677 : BitVec 32 := 2#32
  let c62_i32_3676 : BitVec 32 := 62#32
  let c0_i32_126 : BitVec 32 := 0#32
  let v4709 : BitVec 32 := Scalar.muli c62_i32_3676 c0_i32_126
  let v4710 : BitVec 32 := Scalar.addi c2_i32_3677 v4709
  let c25_i32 : BitVec 32 := 25#32
  let v4711 : BitVec 32 := Scalar.addi v4710 c25_i32
  let c2_i32_3748 : BitVec 32 := 2#32
  let v4802 : BitVec 32 := Scalar.subi v4711 c2_i32_3748
  let c2_i32_3749 : BitVec 32 := 2#32
  let v4803 : BitVec 32 := Scalar.muli v4802 c2_i32_3749
  let c1_i32_3750 : BitVec 32 := 1#32
  let v4804 : BitVec 32 := Scalar.addi v4803 c1_i32_3750
  let c4_i32_3751 : BitVec 32 := 4#32
  let v4805 : BitVec 32 := Scalar.subi v4804 c4_i32_3751
  let v4806 : BitVec 32 := Scalar.maxsi c0_i32_3752 v4805
  let v4807 : BitVec 32 := Scalar.minsi c120_i32_3753 v4806
  let c64_i32_3754 : BitVec 32 := 64#32
  let v4808 : BitVec 32 := Scalar.muli v4807 c64_i32_3754
  v4808
def k0_mult206 : BitVec 32 :=
  let c2_i32_3677 : BitVec 32 := 2#32
  let c62_i32_3676 : BitVec 32 := 62#32
  let c0_i32_126 : BitVec 32 := 0#32
  let v4709 : BitVec 32 := Scalar.muli c62_i32_3676 c0_i32_126
  let v4710 : BitVec 32 := Scalar.addi c2_i32_3677 v4709
  let c25_i32 : BitVec 32 := 25#32
  let v4711 : BitVec 32 := Scalar.addi v4710 c25_i32
  let c2_i32_3748 : BitVec 32 := 2#32
  let v4802 : BitVec 32 := Scalar.subi v4711 c2_i32_3748
  let c2_i32_3749 : BitVec 32 := 2#32
  let v4803 : BitVec 32 := Scalar.muli v4802 c2_i32_3749
  let c1_i32_3750 : BitVec 32 := 1#32
  let v4804 : BitVec 32 := Scalar.addi v4803 c1_i32_3750
  let c64_i32_3766 : BitVec 32 := 64#32
  let v4823 : BitVec 32 := Scalar.muli v4804 c64_i32_3766
  v4823
def k0_mult207 : BitVec 32 :=
  let c120_i32_3773 : BitVec 32 := 120#32
  let c0_i32_3772 : BitVec 32 := 0#32
  let c2_i32_3677 : BitVec 32 := 2#32
  let c62_i32_3676 : BitVec 32 := 62#32
  let c0_i32_126 : BitVec 32 := 0#32
  let v4709 : BitVec 32 := Scalar.muli c62_i32_3676 c0_i32_126
  let v4710 : BitVec 32 := Scalar.addi c2_i32_3677 v4709
  let c25_i32 : BitVec 32 := 25#32
  let v4711 : BitVec 32 := Scalar.addi v4710 c25_i32
  let c2_i32_3769 : BitVec 32 := 2#32
  let v4829 : BitVec 32 := Scalar.muli v4711 c2_i32_3769
  let c1_i32_3770 : BitVec 32 := 1#32
  let v4830 : BitVec 32 := Scalar.addi v4829 c1_i32_3770
  let c4_i32_3771 : BitVec 32 := 4#32
  let v4831 : BitVec 32 := Scalar.subi v4830 c4_i32_3771
  let v4832 : BitVec 32 := Scalar.maxsi c0_i32_3772 v4831
  let v4833 : BitVec 32 := Scalar.minsi c120_i32_3773 v4832
  let c64_i32_3774 : BitVec 32 := 64#32
  let v4834 : BitVec 32 := Scalar.muli v4833 c64_i32_3774
  v4834
def k0_mult208 : BitVec 32 :=
  let c2_i32_3677 : BitVec 32 := 2#32
  let c62_i32_3676 : BitVec 32 := 62#32
  let c0_i32_126 : BitVec 32 := 0#32
  let v4709 : BitVec 32 := Scalar.muli c62_i32_3676 c0_i32_126
  let v4710 : BitVec 32 := Scalar.addi c2_i32_3677 v4709
  let c25_i32 : BitVec 32 := 25#32
  let v4711 : BitVec 32 := Scalar.addi v4710 c25_i32
  let c2_i32_3769 : BitVec 32 := 2#32
  let v4829 : BitVec 32 := Scalar.muli v4711 c2_i32_3769
  let c1_i32_3770 : BitVec 32 := 1#32
  let v4830 : BitVec 32 := Scalar.addi v4829 c1_i32_3770
  let c64_i32_3776 : BitVec 32 := 64#32
  let v4838 : BitVec 32 := Scalar.muli v4830 c64_i32_3776
  v4838
def k0_mult209 : BitVec 32 :=
  let c120_i32_3825 : BitVec 32 := 120#32
  let c0_i32_3824 : BitVec 32 := 0#32
  let c2_i32_3819 : BitVec 32 := 2#32
  let c62_i32_3818 : BitVec 32 := 62#32
  let c0_i32_126 : BitVec 32 := 0#32
  let v4892 : BitVec 32 := Scalar.muli c62_i32_3818 c0_i32_126
  let v4893 : BitVec 32 := Scalar.addi c2_i32_3819 v4892
  let c26_i32 : BitVec 32 := 26#32
  let v4894 : BitVec 32 := Scalar.addi v4893 c26_i32
  let c2_i32_3820 : BitVec 32 := 2#32
  let v4895 : BitVec 32 := Scalar.subi v4894 c2_i32_3820
  let c2_i32_3821 : BitVec 32 := 2#32
  let v4896 : BitVec 32 := Scalar.muli v4895 c2_i32_3821
  let c0_i32_3822 : BitVec 32 := 0#32
  let v4897 : BitVec 32 := Scalar.addi v4896 c0_i32_3822
  let c4_i32_3823 : BitVec 32 := 4#32
  let v4898 : BitVec 32 := Scalar.subi v4897 c4_i32_3823
  let v4899 : BitVec 32 := Scalar.maxsi c0_i32_3824 v4898
  let v4900 : BitVec 32 := Scalar.minsi c120_i32_3825 v4899
  let c64_i32_3826 : BitVec 32 := 64#32
  let v4901 : BitVec 32 := Scalar.muli v4900 c64_i32_3826
  v4901
def k0_mult210 : BitVec 32 :=
  let c2_i32_3819 : BitVec 32 := 2#32
  let c62_i32_3818 : BitVec 32 := 62#32
  let c0_i32_126 : BitVec 32 := 0#32
  let v4892 : BitVec 32 := Scalar.muli c62_i32_3818 c0_i32_126
  let v4893 : BitVec 32 := Scalar.addi c2_i32_3819 v4892
  let c26_i32 : BitVec 32 := 26#32
  let v4894 : BitVec 32 := Scalar.addi v4893 c26_i32
  let c2_i32_3820 : BitVec 32 := 2#32
  let v4895 : BitVec 32 := Scalar.subi v4894 c2_i32_3820
  let c2_i32_3821 : BitVec 32 := 2#32
  let v4896 : BitVec 32 := Scalar.muli v4895 c2_i32_3821
  let c0_i32_3822 : BitVec 32 := 0#32
  let v4897 : BitVec 32 := Scalar.addi v4896 c0_i32_3822
  let c64_i32_3838 : BitVec 32 := 64#32
  let v4916 : BitVec 32 := Scalar.muli v4897 c64_i32_3838
  v4916
def k0_mult211 : BitVec 32 :=
  let c120_i32_3845 : BitVec 32 := 120#32
  let c0_i32_3844 : BitVec 32 := 0#32
  let c2_i32_3819 : BitVec 32 := 2#32
  let c62_i32_3818 : BitVec 32 := 62#32
  let c0_i32_126 : BitVec 32 := 0#32
  let v4892 : BitVec 32 := Scalar.muli c62_i32_3818 c0_i32_126
  let v4893 : BitVec 32 := Scalar.addi c2_i32_3819 v4892
  let c26_i32 : BitVec 32 := 26#32
  let v4894 : BitVec 32 := Scalar.addi v4893 c26_i32
  let c2_i32_3841 : BitVec 32 := 2#32
  let v4922 : BitVec 32 := Scalar.muli v4894 c2_i32_3841
  let c0_i32_3842 : BitVec 32 := 0#32
  let v4923 : BitVec 32 := Scalar.addi v4922 c0_i32_3842
  let c4_i32_3843 : BitVec 32 := 4#32
  let v4924 : BitVec 32 := Scalar.subi v4923 c4_i32_3843
  let v4925 : BitVec 32 := Scalar.maxsi c0_i32_3844 v4924
  let v4926 : BitVec 32 := Scalar.minsi c120_i32_3845 v4925
  let c64_i32_3846 : BitVec 32 := 64#32
  let v4927 : BitVec 32 := Scalar.muli v4926 c64_i32_3846
  v4927
def k0_mult212 : BitVec 32 :=
  let c2_i32_3819 : BitVec 32 := 2#32
  let c62_i32_3818 : BitVec 32 := 62#32
  let c0_i32_126 : BitVec 32 := 0#32
  let v4892 : BitVec 32 := Scalar.muli c62_i32_3818 c0_i32_126
  let v4893 : BitVec 32 := Scalar.addi c2_i32_3819 v4892
  let c26_i32 : BitVec 32 := 26#32
  let v4894 : BitVec 32 := Scalar.addi v4893 c26_i32
  let c2_i32_3841 : BitVec 32 := 2#32
  let v4922 : BitVec 32 := Scalar.muli v4894 c2_i32_3841
  let c0_i32_3842 : BitVec 32 := 0#32
  let v4923 : BitVec 32 := Scalar.addi v4922 c0_i32_3842
  let c64_i32_3848 : BitVec 32 := 64#32
  let v4931 : BitVec 32 := Scalar.muli v4923 c64_i32_3848
  v4931
def k0_mult213 : BitVec 32 :=
  let c120_i32_3895 : BitVec 32 := 120#32
  let c0_i32_3894 : BitVec 32 := 0#32
  let c2_i32_3819 : BitVec 32 := 2#32
  let c62_i32_3818 : BitVec 32 := 62#32
  let c0_i32_126 : BitVec 32 := 0#32
  let v4892 : BitVec 32 := Scalar.muli c62_i32_3818 c0_i32_126
  let v4893 : BitVec 32 := Scalar.addi c2_i32_3819 v4892
  let c26_i32 : BitVec 32 := 26#32
  let v4894 : BitVec 32 := Scalar.addi v4893 c26_i32
  let c2_i32_3890 : BitVec 32 := 2#32
  let v4985 : BitVec 32 := Scalar.subi v4894 c2_i32_3890
  let c2_i32_3891 : BitVec 32 := 2#32
  let v4986 : BitVec 32 := Scalar.muli v4985 c2_i32_3891
  let c1_i32_3892 : BitVec 32 := 1#32
  let v4987 : BitVec 32 := Scalar.addi v4986 c1_i32_3892
  let c4_i32_3893 : BitVec 32 := 4#32
  let v4988 : BitVec 32 := Scalar.subi v4987 c4_i32_3893
  let v4989 : BitVec 32 := Scalar.maxsi c0_i32_3894 v4988
  let v4990 : BitVec 32 := Scalar.minsi c120_i32_3895 v4989
  let c64_i32_3896 : BitVec 32 := 64#32
  let v4991 : BitVec 32 := Scalar.muli v4990 c64_i32_3896
  v4991
def k0_mult214 : BitVec 32 :=
  let c2_i32_3819 : BitVec 32 := 2#32
  let c62_i32_3818 : BitVec 32 := 62#32
  let c0_i32_126 : BitVec 32 := 0#32
  let v4892 : BitVec 32 := Scalar.muli c62_i32_3818 c0_i32_126
  let v4893 : BitVec 32 := Scalar.addi c2_i32_3819 v4892
  let c26_i32 : BitVec 32 := 26#32
  let v4894 : BitVec 32 := Scalar.addi v4893 c26_i32
  let c2_i32_3890 : BitVec 32 := 2#32
  let v4985 : BitVec 32 := Scalar.subi v4894 c2_i32_3890
  let c2_i32_3891 : BitVec 32 := 2#32
  let v4986 : BitVec 32 := Scalar.muli v4985 c2_i32_3891
  let c1_i32_3892 : BitVec 32 := 1#32
  let v4987 : BitVec 32 := Scalar.addi v4986 c1_i32_3892
  let c64_i32_3908 : BitVec 32 := 64#32
  let v5006 : BitVec 32 := Scalar.muli v4987 c64_i32_3908
  v5006
def k0_mult215 : BitVec 32 :=
  let c120_i32_3915 : BitVec 32 := 120#32
  let c0_i32_3914 : BitVec 32 := 0#32
  let c2_i32_3819 : BitVec 32 := 2#32
  let c62_i32_3818 : BitVec 32 := 62#32
  let c0_i32_126 : BitVec 32 := 0#32
  let v4892 : BitVec 32 := Scalar.muli c62_i32_3818 c0_i32_126
  let v4893 : BitVec 32 := Scalar.addi c2_i32_3819 v4892
  let c26_i32 : BitVec 32 := 26#32
  let v4894 : BitVec 32 := Scalar.addi v4893 c26_i32
  let c2_i32_3911 : BitVec 32 := 2#32
  let v5012 : BitVec 32 := Scalar.muli v4894 c2_i32_3911
  let c1_i32_3912 : BitVec 32 := 1#32
  let v5013 : BitVec 32 := Scalar.addi v5012 c1_i32_3912
  let c4_i32_3913 : BitVec 32 := 4#32
  let v5014 : BitVec 32 := Scalar.subi v5013 c4_i32_3913
  let v5015 : BitVec 32 := Scalar.maxsi c0_i32_3914 v5014
  let v5016 : BitVec 32 := Scalar.minsi c120_i32_3915 v5015
  let c64_i32_3916 : BitVec 32 := 64#32
  let v5017 : BitVec 32 := Scalar.muli v5016 c64_i32_3916
  v5017
def k0_mult216 : BitVec 32 :=
  let c2_i32_3819 : BitVec 32 := 2#32
  let c62_i32_3818 : BitVec 32 := 62#32
  let c0_i32_126 : BitVec 32 := 0#32
  let v4892 : BitVec 32 := Scalar.muli c62_i32_3818 c0_i32_126
  let v4893 : BitVec 32 := Scalar.addi c2_i32_3819 v4892
  let c26_i32 : BitVec 32 := 26#32
  let v4894 : BitVec 32 := Scalar.addi v4893 c26_i32
  let c2_i32_3911 : BitVec 32 := 2#32
  let v5012 : BitVec 32 := Scalar.muli v4894 c2_i32_3911
  let c1_i32_3912 : BitVec 32 := 1#32
  let v5013 : BitVec 32 := Scalar.addi v5012 c1_i32_3912
  let c64_i32_3918 : BitVec 32 := 64#32
  let v5021 : BitVec 32 := Scalar.muli v5013 c64_i32_3918
  v5021
def k0_mult217 : BitVec 32 :=
  let c120_i32_3967 : BitVec 32 := 120#32
  let c0_i32_3966 : BitVec 32 := 0#32
  let c2_i32_3961 : BitVec 32 := 2#32
  let c62_i32_3960 : BitVec 32 := 62#32
  let c0_i32_126 : BitVec 32 := 0#32
  let v5075 : BitVec 32 := Scalar.muli c62_i32_3960 c0_i32_126
  let v5076 : BitVec 32 := Scalar.addi c2_i32_3961 v5075
  let c27_i32 : BitVec 32 := 27#32
  let v5077 : BitVec 32 := Scalar.addi v5076 c27_i32
  let c2_i32_3962 : BitVec 32 := 2#32
  let v5078 : BitVec 32 := Scalar.subi v5077 c2_i32_3962
  let c2_i32_3963 : BitVec 32 := 2#32
  let v5079 : BitVec 32 := Scalar.muli v5078 c2_i32_3963
  let c0_i32_3964 : BitVec 32 := 0#32
  let v5080 : BitVec 32 := Scalar.addi v5079 c0_i32_3964
  let c4_i32_3965 : BitVec 32 := 4#32
  let v5081 : BitVec 32 := Scalar.subi v5080 c4_i32_3965
  let v5082 : BitVec 32 := Scalar.maxsi c0_i32_3966 v5081
  let v5083 : BitVec 32 := Scalar.minsi c120_i32_3967 v5082
  let c64_i32_3968 : BitVec 32 := 64#32
  let v5084 : BitVec 32 := Scalar.muli v5083 c64_i32_3968
  v5084
def k0_mult218 : BitVec 32 :=
  let c2_i32_3961 : BitVec 32 := 2#32
  let c62_i32_3960 : BitVec 32 := 62#32
  let c0_i32_126 : BitVec 32 := 0#32
  let v5075 : BitVec 32 := Scalar.muli c62_i32_3960 c0_i32_126
  let v5076 : BitVec 32 := Scalar.addi c2_i32_3961 v5075
  let c27_i32 : BitVec 32 := 27#32
  let v5077 : BitVec 32 := Scalar.addi v5076 c27_i32
  let c2_i32_3962 : BitVec 32 := 2#32
  let v5078 : BitVec 32 := Scalar.subi v5077 c2_i32_3962
  let c2_i32_3963 : BitVec 32 := 2#32
  let v5079 : BitVec 32 := Scalar.muli v5078 c2_i32_3963
  let c0_i32_3964 : BitVec 32 := 0#32
  let v5080 : BitVec 32 := Scalar.addi v5079 c0_i32_3964
  let c64_i32_3980 : BitVec 32 := 64#32
  let v5099 : BitVec 32 := Scalar.muli v5080 c64_i32_3980
  v5099
def k0_mult219 : BitVec 32 :=
  let c120_i32_3987 : BitVec 32 := 120#32
  let c0_i32_3986 : BitVec 32 := 0#32
  let c2_i32_3961 : BitVec 32 := 2#32
  let c62_i32_3960 : BitVec 32 := 62#32
  let c0_i32_126 : BitVec 32 := 0#32
  let v5075 : BitVec 32 := Scalar.muli c62_i32_3960 c0_i32_126
  let v5076 : BitVec 32 := Scalar.addi c2_i32_3961 v5075
  let c27_i32 : BitVec 32 := 27#32
  let v5077 : BitVec 32 := Scalar.addi v5076 c27_i32
  let c2_i32_3983 : BitVec 32 := 2#32
  let v5105 : BitVec 32 := Scalar.muli v5077 c2_i32_3983
  let c0_i32_3984 : BitVec 32 := 0#32
  let v5106 : BitVec 32 := Scalar.addi v5105 c0_i32_3984
  let c4_i32_3985 : BitVec 32 := 4#32
  let v5107 : BitVec 32 := Scalar.subi v5106 c4_i32_3985
  let v5108 : BitVec 32 := Scalar.maxsi c0_i32_3986 v5107
  let v5109 : BitVec 32 := Scalar.minsi c120_i32_3987 v5108
  let c64_i32_3988 : BitVec 32 := 64#32
  let v5110 : BitVec 32 := Scalar.muli v5109 c64_i32_3988
  v5110
def k0_mult220 : BitVec 32 :=
  let c2_i32_3961 : BitVec 32 := 2#32
  let c62_i32_3960 : BitVec 32 := 62#32
  let c0_i32_126 : BitVec 32 := 0#32
  let v5075 : BitVec 32 := Scalar.muli c62_i32_3960 c0_i32_126
  let v5076 : BitVec 32 := Scalar.addi c2_i32_3961 v5075
  let c27_i32 : BitVec 32 := 27#32
  let v5077 : BitVec 32 := Scalar.addi v5076 c27_i32
  let c2_i32_3983 : BitVec 32 := 2#32
  let v5105 : BitVec 32 := Scalar.muli v5077 c2_i32_3983
  let c0_i32_3984 : BitVec 32 := 0#32
  let v5106 : BitVec 32 := Scalar.addi v5105 c0_i32_3984
  let c64_i32_3990 : BitVec 32 := 64#32
  let v5114 : BitVec 32 := Scalar.muli v5106 c64_i32_3990
  v5114
def k0_mult221 : BitVec 32 :=
  let c120_i32_4037 : BitVec 32 := 120#32
  let c0_i32_4036 : BitVec 32 := 0#32
  let c2_i32_3961 : BitVec 32 := 2#32
  let c62_i32_3960 : BitVec 32 := 62#32
  let c0_i32_126 : BitVec 32 := 0#32
  let v5075 : BitVec 32 := Scalar.muli c62_i32_3960 c0_i32_126
  let v5076 : BitVec 32 := Scalar.addi c2_i32_3961 v5075
  let c27_i32 : BitVec 32 := 27#32
  let v5077 : BitVec 32 := Scalar.addi v5076 c27_i32
  let c2_i32_4032 : BitVec 32 := 2#32
  let v5168 : BitVec 32 := Scalar.subi v5077 c2_i32_4032
  let c2_i32_4033 : BitVec 32 := 2#32
  let v5169 : BitVec 32 := Scalar.muli v5168 c2_i32_4033
  let c1_i32_4034 : BitVec 32 := 1#32
  let v5170 : BitVec 32 := Scalar.addi v5169 c1_i32_4034
  let c4_i32_4035 : BitVec 32 := 4#32
  let v5171 : BitVec 32 := Scalar.subi v5170 c4_i32_4035
  let v5172 : BitVec 32 := Scalar.maxsi c0_i32_4036 v5171
  let v5173 : BitVec 32 := Scalar.minsi c120_i32_4037 v5172
  let c64_i32_4038 : BitVec 32 := 64#32
  let v5174 : BitVec 32 := Scalar.muli v5173 c64_i32_4038
  v5174
def k0_mult222 : BitVec 32 :=
  let c2_i32_3961 : BitVec 32 := 2#32
  let c62_i32_3960 : BitVec 32 := 62#32
  let c0_i32_126 : BitVec 32 := 0#32
  let v5075 : BitVec 32 := Scalar.muli c62_i32_3960 c0_i32_126
  let v5076 : BitVec 32 := Scalar.addi c2_i32_3961 v5075
  let c27_i32 : BitVec 32 := 27#32
  let v5077 : BitVec 32 := Scalar.addi v5076 c27_i32
  let c2_i32_4032 : BitVec 32 := 2#32
  let v5168 : BitVec 32 := Scalar.subi v5077 c2_i32_4032
  let c2_i32_4033 : BitVec 32 := 2#32
  let v5169 : BitVec 32 := Scalar.muli v5168 c2_i32_4033
  let c1_i32_4034 : BitVec 32 := 1#32
  let v5170 : BitVec 32 := Scalar.addi v5169 c1_i32_4034
  let c64_i32_4050 : BitVec 32 := 64#32
  let v5189 : BitVec 32 := Scalar.muli v5170 c64_i32_4050
  v5189
def k0_mult223 : BitVec 32 :=
  let c120_i32_4057 : BitVec 32 := 120#32
  let c0_i32_4056 : BitVec 32 := 0#32
  let c2_i32_3961 : BitVec 32 := 2#32
  let c62_i32_3960 : BitVec 32 := 62#32
  let c0_i32_126 : BitVec 32 := 0#32
  let v5075 : BitVec 32 := Scalar.muli c62_i32_3960 c0_i32_126
  let v5076 : BitVec 32 := Scalar.addi c2_i32_3961 v5075
  let c27_i32 : BitVec 32 := 27#32
  let v5077 : BitVec 32 := Scalar.addi v5076 c27_i32
  let c2_i32_4053 : BitVec 32 := 2#32
  let v5195 : BitVec 32 := Scalar.muli v5077 c2_i32_4053
  let c1_i32_4054 : BitVec 32 := 1#32
  let v5196 : BitVec 32 := Scalar.addi v5195 c1_i32_4054
  let c4_i32_4055 : BitVec 32 := 4#32
  let v5197 : BitVec 32 := Scalar.subi v5196 c4_i32_4055
  let v5198 : BitVec 32 := Scalar.maxsi c0_i32_4056 v5197
  let v5199 : BitVec 32 := Scalar.minsi c120_i32_4057 v5198
  let c64_i32_4058 : BitVec 32 := 64#32
  let v5200 : BitVec 32 := Scalar.muli v5199 c64_i32_4058
  v5200
def k0_mult224 : BitVec 32 :=
  let c2_i32_3961 : BitVec 32 := 2#32
  let c62_i32_3960 : BitVec 32 := 62#32
  let c0_i32_126 : BitVec 32 := 0#32
  let v5075 : BitVec 32 := Scalar.muli c62_i32_3960 c0_i32_126
  let v5076 : BitVec 32 := Scalar.addi c2_i32_3961 v5075
  let c27_i32 : BitVec 32 := 27#32
  let v5077 : BitVec 32 := Scalar.addi v5076 c27_i32
  let c2_i32_4053 : BitVec 32 := 2#32
  let v5195 : BitVec 32 := Scalar.muli v5077 c2_i32_4053
  let c1_i32_4054 : BitVec 32 := 1#32
  let v5196 : BitVec 32 := Scalar.addi v5195 c1_i32_4054
  let c64_i32_4060 : BitVec 32 := 64#32
  let v5204 : BitVec 32 := Scalar.muli v5196 c64_i32_4060
  v5204
def k0_mult225 : BitVec 32 :=
  let c120_i32_4109 : BitVec 32 := 120#32
  let c0_i32_4108 : BitVec 32 := 0#32
  let c2_i32_4103 : BitVec 32 := 2#32
  let c62_i32_4102 : BitVec 32 := 62#32
  let c0_i32_126 : BitVec 32 := 0#32
  let v5258 : BitVec 32 := Scalar.muli c62_i32_4102 c0_i32_126
  let v5259 : BitVec 32 := Scalar.addi c2_i32_4103 v5258
  let c28_i32 : BitVec 32 := 28#32
  let v5260 : BitVec 32 := Scalar.addi v5259 c28_i32
  let c2_i32_4104 : BitVec 32 := 2#32
  let v5261 : BitVec 32 := Scalar.subi v5260 c2_i32_4104
  let c2_i32_4105 : BitVec 32 := 2#32
  let v5262 : BitVec 32 := Scalar.muli v5261 c2_i32_4105
  let c0_i32_4106 : BitVec 32 := 0#32
  let v5263 : BitVec 32 := Scalar.addi v5262 c0_i32_4106
  let c4_i32_4107 : BitVec 32 := 4#32
  let v5264 : BitVec 32 := Scalar.subi v5263 c4_i32_4107
  let v5265 : BitVec 32 := Scalar.maxsi c0_i32_4108 v5264
  let v5266 : BitVec 32 := Scalar.minsi c120_i32_4109 v5265
  let c64_i32_4110 : BitVec 32 := 64#32
  let v5267 : BitVec 32 := Scalar.muli v5266 c64_i32_4110
  v5267
def k0_mult226 : BitVec 32 :=
  let c2_i32_4103 : BitVec 32 := 2#32
  let c62_i32_4102 : BitVec 32 := 62#32
  let c0_i32_126 : BitVec 32 := 0#32
  let v5258 : BitVec 32 := Scalar.muli c62_i32_4102 c0_i32_126
  let v5259 : BitVec 32 := Scalar.addi c2_i32_4103 v5258
  let c28_i32 : BitVec 32 := 28#32
  let v5260 : BitVec 32 := Scalar.addi v5259 c28_i32
  let c2_i32_4104 : BitVec 32 := 2#32
  let v5261 : BitVec 32 := Scalar.subi v5260 c2_i32_4104
  let c2_i32_4105 : BitVec 32 := 2#32
  let v5262 : BitVec 32 := Scalar.muli v5261 c2_i32_4105
  let c0_i32_4106 : BitVec 32 := 0#32
  let v5263 : BitVec 32 := Scalar.addi v5262 c0_i32_4106
  let c64_i32_4122 : BitVec 32 := 64#32
  let v5282 : BitVec 32 := Scalar.muli v5263 c64_i32_4122
  v5282
def k0_mult227 : BitVec 32 :=
  let c120_i32_4129 : BitVec 32 := 120#32
  let c0_i32_4128 : BitVec 32 := 0#32
  let c2_i32_4103 : BitVec 32 := 2#32
  let c62_i32_4102 : BitVec 32 := 62#32
  let c0_i32_126 : BitVec 32 := 0#32
  let v5258 : BitVec 32 := Scalar.muli c62_i32_4102 c0_i32_126
  let v5259 : BitVec 32 := Scalar.addi c2_i32_4103 v5258
  let c28_i32 : BitVec 32 := 28#32
  let v5260 : BitVec 32 := Scalar.addi v5259 c28_i32
  let c2_i32_4125 : BitVec 32 := 2#32
  let v5288 : BitVec 32 := Scalar.muli v5260 c2_i32_4125
  let c0_i32_4126 : BitVec 32 := 0#32
  let v5289 : BitVec 32 := Scalar.addi v5288 c0_i32_4126
  let c4_i32_4127 : BitVec 32 := 4#32
  let v5290 : BitVec 32 := Scalar.subi v5289 c4_i32_4127
  let v5291 : BitVec 32 := Scalar.maxsi c0_i32_4128 v5290
  let v5292 : BitVec 32 := Scalar.minsi c120_i32_4129 v5291
  let c64_i32_4130 : BitVec 32 := 64#32
  let v5293 : BitVec 32 := Scalar.muli v5292 c64_i32_4130
  v5293
def k0_mult228 : BitVec 32 :=
  let c2_i32_4103 : BitVec 32 := 2#32
  let c62_i32_4102 : BitVec 32 := 62#32
  let c0_i32_126 : BitVec 32 := 0#32
  let v5258 : BitVec 32 := Scalar.muli c62_i32_4102 c0_i32_126
  let v5259 : BitVec 32 := Scalar.addi c2_i32_4103 v5258
  let c28_i32 : BitVec 32 := 28#32
  let v5260 : BitVec 32 := Scalar.addi v5259 c28_i32
  let c2_i32_4125 : BitVec 32 := 2#32
  let v5288 : BitVec 32 := Scalar.muli v5260 c2_i32_4125
  let c0_i32_4126 : BitVec 32 := 0#32
  let v5289 : BitVec 32 := Scalar.addi v5288 c0_i32_4126
  let c64_i32_4132 : BitVec 32 := 64#32
  let v5297 : BitVec 32 := Scalar.muli v5289 c64_i32_4132
  v5297
def k0_mult229 : BitVec 32 :=
  let c120_i32_4179 : BitVec 32 := 120#32
  let c0_i32_4178 : BitVec 32 := 0#32
  let c2_i32_4103 : BitVec 32 := 2#32
  let c62_i32_4102 : BitVec 32 := 62#32
  let c0_i32_126 : BitVec 32 := 0#32
  let v5258 : BitVec 32 := Scalar.muli c62_i32_4102 c0_i32_126
  let v5259 : BitVec 32 := Scalar.addi c2_i32_4103 v5258
  let c28_i32 : BitVec 32 := 28#32
  let v5260 : BitVec 32 := Scalar.addi v5259 c28_i32
  let c2_i32_4174 : BitVec 32 := 2#32
  let v5351 : BitVec 32 := Scalar.subi v5260 c2_i32_4174
  let c2_i32_4175 : BitVec 32 := 2#32
  let v5352 : BitVec 32 := Scalar.muli v5351 c2_i32_4175
  let c1_i32_4176 : BitVec 32 := 1#32
  let v5353 : BitVec 32 := Scalar.addi v5352 c1_i32_4176
  let c4_i32_4177 : BitVec 32 := 4#32
  let v5354 : BitVec 32 := Scalar.subi v5353 c4_i32_4177
  let v5355 : BitVec 32 := Scalar.maxsi c0_i32_4178 v5354
  let v5356 : BitVec 32 := Scalar.minsi c120_i32_4179 v5355
  let c64_i32_4180 : BitVec 32 := 64#32
  let v5357 : BitVec 32 := Scalar.muli v5356 c64_i32_4180
  v5357
def k0_mult230 : BitVec 32 :=
  let c2_i32_4103 : BitVec 32 := 2#32
  let c62_i32_4102 : BitVec 32 := 62#32
  let c0_i32_126 : BitVec 32 := 0#32
  let v5258 : BitVec 32 := Scalar.muli c62_i32_4102 c0_i32_126
  let v5259 : BitVec 32 := Scalar.addi c2_i32_4103 v5258
  let c28_i32 : BitVec 32 := 28#32
  let v5260 : BitVec 32 := Scalar.addi v5259 c28_i32
  let c2_i32_4174 : BitVec 32 := 2#32
  let v5351 : BitVec 32 := Scalar.subi v5260 c2_i32_4174
  let c2_i32_4175 : BitVec 32 := 2#32
  let v5352 : BitVec 32 := Scalar.muli v5351 c2_i32_4175
  let c1_i32_4176 : BitVec 32 := 1#32
  let v5353 : BitVec 32 := Scalar.addi v5352 c1_i32_4176
  let c64_i32_4192 : BitVec 32 := 64#32
  let v5372 : BitVec 32 := Scalar.muli v5353 c64_i32_4192
  v5372
def k0_mult231 : BitVec 32 :=
  let c120_i32_4199 : BitVec 32 := 120#32
  let c0_i32_4198 : BitVec 32 := 0#32
  let c2_i32_4103 : BitVec 32 := 2#32
  let c62_i32_4102 : BitVec 32 := 62#32
  let c0_i32_126 : BitVec 32 := 0#32
  let v5258 : BitVec 32 := Scalar.muli c62_i32_4102 c0_i32_126
  let v5259 : BitVec 32 := Scalar.addi c2_i32_4103 v5258
  let c28_i32 : BitVec 32 := 28#32
  let v5260 : BitVec 32 := Scalar.addi v5259 c28_i32
  let c2_i32_4195 : BitVec 32 := 2#32
  let v5378 : BitVec 32 := Scalar.muli v5260 c2_i32_4195
  let c1_i32_4196 : BitVec 32 := 1#32
  let v5379 : BitVec 32 := Scalar.addi v5378 c1_i32_4196
  let c4_i32_4197 : BitVec 32 := 4#32
  let v5380 : BitVec 32 := Scalar.subi v5379 c4_i32_4197
  let v5381 : BitVec 32 := Scalar.maxsi c0_i32_4198 v5380
  let v5382 : BitVec 32 := Scalar.minsi c120_i32_4199 v5381
  let c64_i32_4200 : BitVec 32 := 64#32
  let v5383 : BitVec 32 := Scalar.muli v5382 c64_i32_4200
  v5383
def k0_mult232 : BitVec 32 :=
  let c2_i32_4103 : BitVec 32 := 2#32
  let c62_i32_4102 : BitVec 32 := 62#32
  let c0_i32_126 : BitVec 32 := 0#32
  let v5258 : BitVec 32 := Scalar.muli c62_i32_4102 c0_i32_126
  let v5259 : BitVec 32 := Scalar.addi c2_i32_4103 v5258
  let c28_i32 : BitVec 32 := 28#32
  let v5260 : BitVec 32 := Scalar.addi v5259 c28_i32
  let c2_i32_4195 : BitVec 32 := 2#32
  let v5378 : BitVec 32 := Scalar.muli v5260 c2_i32_4195
  let c1_i32_4196 : BitVec 32 := 1#32
  let v5379 : BitVec 32 := Scalar.addi v5378 c1_i32_4196
  let c64_i32_4202 : BitVec 32 := 64#32
  let v5387 : BitVec 32 := Scalar.muli v5379 c64_i32_4202
  v5387
def k0_mult233 : BitVec 32 :=
  let c120_i32_4251 : BitVec 32 := 120#32
  let c0_i32_4250 : BitVec 32 := 0#32
  let c2_i32_4245 : BitVec 32 := 2#32
  let c62_i32_4244 : BitVec 32 := 62#32
  let c0_i32_126 : BitVec 32 := 0#32
  let v5441 : BitVec 32 := Scalar.muli c62_i32_4244 c0_i32_126
  let v5442 : BitVec 32 := Scalar.addi c2_i32_4245 v5441
  let c29_i32 : BitVec 32 := 29#32
  let v5443 : BitVec 32 := Scalar.addi v5442 c29_i32
  let c2_i32_4246 : BitVec 32 := 2#32
  let v5444 : BitVec 32 := Scalar.subi v5443 c2_i32_4246
  let c2_i32_4247 : BitVec 32 := 2#32
  let v5445 : BitVec 32 := Scalar.muli v5444 c2_i32_4247
  let c0_i32_4248 : BitVec 32 := 0#32
  let v5446 : BitVec 32 := Scalar.addi v5445 c0_i32_4248
  let c4_i32_4249 : BitVec 32 := 4#32
  let v5447 : BitVec 32 := Scalar.subi v5446 c4_i32_4249
  let v5448 : BitVec 32 := Scalar.maxsi c0_i32_4250 v5447
  let v5449 : BitVec 32 := Scalar.minsi c120_i32_4251 v5448
  let c64_i32_4252 : BitVec 32 := 64#32
  let v5450 : BitVec 32 := Scalar.muli v5449 c64_i32_4252
  v5450
def k0_mult234 : BitVec 32 :=
  let c2_i32_4245 : BitVec 32 := 2#32
  let c62_i32_4244 : BitVec 32 := 62#32
  let c0_i32_126 : BitVec 32 := 0#32
  let v5441 : BitVec 32 := Scalar.muli c62_i32_4244 c0_i32_126
  let v5442 : BitVec 32 := Scalar.addi c2_i32_4245 v5441
  let c29_i32 : BitVec 32 := 29#32
  let v5443 : BitVec 32 := Scalar.addi v5442 c29_i32
  let c2_i32_4246 : BitVec 32 := 2#32
  let v5444 : BitVec 32 := Scalar.subi v5443 c2_i32_4246
  let c2_i32_4247 : BitVec 32 := 2#32
  let v5445 : BitVec 32 := Scalar.muli v5444 c2_i32_4247
  let c0_i32_4248 : BitVec 32 := 0#32
  let v5446 : BitVec 32 := Scalar.addi v5445 c0_i32_4248
  let c64_i32_4264 : BitVec 32 := 64#32
  let v5465 : BitVec 32 := Scalar.muli v5446 c64_i32_4264
  v5465
def k0_mult235 : BitVec 32 :=
  let c120_i32_4271 : BitVec 32 := 120#32
  let c0_i32_4270 : BitVec 32 := 0#32
  let c2_i32_4245 : BitVec 32 := 2#32
  let c62_i32_4244 : BitVec 32 := 62#32
  let c0_i32_126 : BitVec 32 := 0#32
  let v5441 : BitVec 32 := Scalar.muli c62_i32_4244 c0_i32_126
  let v5442 : BitVec 32 := Scalar.addi c2_i32_4245 v5441
  let c29_i32 : BitVec 32 := 29#32
  let v5443 : BitVec 32 := Scalar.addi v5442 c29_i32
  let c2_i32_4267 : BitVec 32 := 2#32
  let v5471 : BitVec 32 := Scalar.muli v5443 c2_i32_4267
  let c0_i32_4268 : BitVec 32 := 0#32
  let v5472 : BitVec 32 := Scalar.addi v5471 c0_i32_4268
  let c4_i32_4269 : BitVec 32 := 4#32
  let v5473 : BitVec 32 := Scalar.subi v5472 c4_i32_4269
  let v5474 : BitVec 32 := Scalar.maxsi c0_i32_4270 v5473
  let v5475 : BitVec 32 := Scalar.minsi c120_i32_4271 v5474
  let c64_i32_4272 : BitVec 32 := 64#32
  let v5476 : BitVec 32 := Scalar.muli v5475 c64_i32_4272
  v5476
def k0_mult236 : BitVec 32 :=
  let c2_i32_4245 : BitVec 32 := 2#32
  let c62_i32_4244 : BitVec 32 := 62#32
  let c0_i32_126 : BitVec 32 := 0#32
  let v5441 : BitVec 32 := Scalar.muli c62_i32_4244 c0_i32_126
  let v5442 : BitVec 32 := Scalar.addi c2_i32_4245 v5441
  let c29_i32 : BitVec 32 := 29#32
  let v5443 : BitVec 32 := Scalar.addi v5442 c29_i32
  let c2_i32_4267 : BitVec 32 := 2#32
  let v5471 : BitVec 32 := Scalar.muli v5443 c2_i32_4267
  let c0_i32_4268 : BitVec 32 := 0#32
  let v5472 : BitVec 32 := Scalar.addi v5471 c0_i32_4268
  let c64_i32_4274 : BitVec 32 := 64#32
  let v5480 : BitVec 32 := Scalar.muli v5472 c64_i32_4274
  v5480
def k0_mult237 : BitVec 32 :=
  let c120_i32_4321 : BitVec 32 := 120#32
  let c0_i32_4320 : BitVec 32 := 0#32
  let c2_i32_4245 : BitVec 32 := 2#32
  let c62_i32_4244 : BitVec 32 := 62#32
  let c0_i32_126 : BitVec 32 := 0#32
  let v5441 : BitVec 32 := Scalar.muli c62_i32_4244 c0_i32_126
  let v5442 : BitVec 32 := Scalar.addi c2_i32_4245 v5441
  let c29_i32 : BitVec 32 := 29#32
  let v5443 : BitVec 32 := Scalar.addi v5442 c29_i32
  let c2_i32_4316 : BitVec 32 := 2#32
  let v5534 : BitVec 32 := Scalar.subi v5443 c2_i32_4316
  let c2_i32_4317 : BitVec 32 := 2#32
  let v5535 : BitVec 32 := Scalar.muli v5534 c2_i32_4317
  let c1_i32_4318 : BitVec 32 := 1#32
  let v5536 : BitVec 32 := Scalar.addi v5535 c1_i32_4318
  let c4_i32_4319 : BitVec 32 := 4#32
  let v5537 : BitVec 32 := Scalar.subi v5536 c4_i32_4319
  let v5538 : BitVec 32 := Scalar.maxsi c0_i32_4320 v5537
  let v5539 : BitVec 32 := Scalar.minsi c120_i32_4321 v5538
  let c64_i32_4322 : BitVec 32 := 64#32
  let v5540 : BitVec 32 := Scalar.muli v5539 c64_i32_4322
  v5540
def k0_mult238 : BitVec 32 :=
  let c2_i32_4245 : BitVec 32 := 2#32
  let c62_i32_4244 : BitVec 32 := 62#32
  let c0_i32_126 : BitVec 32 := 0#32
  let v5441 : BitVec 32 := Scalar.muli c62_i32_4244 c0_i32_126
  let v5442 : BitVec 32 := Scalar.addi c2_i32_4245 v5441
  let c29_i32 : BitVec 32 := 29#32
  let v5443 : BitVec 32 := Scalar.addi v5442 c29_i32
  let c2_i32_4316 : BitVec 32 := 2#32
  let v5534 : BitVec 32 := Scalar.subi v5443 c2_i32_4316
  let c2_i32_4317 : BitVec 32 := 2#32
  let v5535 : BitVec 32 := Scalar.muli v5534 c2_i32_4317
  let c1_i32_4318 : BitVec 32 := 1#32
  let v5536 : BitVec 32 := Scalar.addi v5535 c1_i32_4318
  let c64_i32_4334 : BitVec 32 := 64#32
  let v5555 : BitVec 32 := Scalar.muli v5536 c64_i32_4334
  v5555
def k0_mult239 : BitVec 32 :=
  let c120_i32_4341 : BitVec 32 := 120#32
  let c0_i32_4340 : BitVec 32 := 0#32
  let c2_i32_4245 : BitVec 32 := 2#32
  let c62_i32_4244 : BitVec 32 := 62#32
  let c0_i32_126 : BitVec 32 := 0#32
  let v5441 : BitVec 32 := Scalar.muli c62_i32_4244 c0_i32_126
  let v5442 : BitVec 32 := Scalar.addi c2_i32_4245 v5441
  let c29_i32 : BitVec 32 := 29#32
  let v5443 : BitVec 32 := Scalar.addi v5442 c29_i32
  let c2_i32_4337 : BitVec 32 := 2#32
  let v5561 : BitVec 32 := Scalar.muli v5443 c2_i32_4337
  let c1_i32_4338 : BitVec 32 := 1#32
  let v5562 : BitVec 32 := Scalar.addi v5561 c1_i32_4338
  let c4_i32_4339 : BitVec 32 := 4#32
  let v5563 : BitVec 32 := Scalar.subi v5562 c4_i32_4339
  let v5564 : BitVec 32 := Scalar.maxsi c0_i32_4340 v5563
  let v5565 : BitVec 32 := Scalar.minsi c120_i32_4341 v5564
  let c64_i32_4342 : BitVec 32 := 64#32
  let v5566 : BitVec 32 := Scalar.muli v5565 c64_i32_4342
  v5566
def k0_mult240 : BitVec 32 :=
  let c2_i32_4245 : BitVec 32 := 2#32
  let c62_i32_4244 : BitVec 32 := 62#32
  let c0_i32_126 : BitVec 32 := 0#32
  let v5441 : BitVec 32 := Scalar.muli c62_i32_4244 c0_i32_126
  let v5442 : BitVec 32 := Scalar.addi c2_i32_4245 v5441
  let c29_i32 : BitVec 32 := 29#32
  let v5443 : BitVec 32 := Scalar.addi v5442 c29_i32
  let c2_i32_4337 : BitVec 32 := 2#32
  let v5561 : BitVec 32 := Scalar.muli v5443 c2_i32_4337
  let c1_i32_4338 : BitVec 32 := 1#32
  let v5562 : BitVec 32 := Scalar.addi v5561 c1_i32_4338
  let c64_i32_4344 : BitVec 32 := 64#32
  let v5570 : BitVec 32 := Scalar.muli v5562 c64_i32_4344
  v5570
def k0_mult241 : BitVec 32 :=
  let c120_i32_4393 : BitVec 32 := 120#32
  let c0_i32_4392 : BitVec 32 := 0#32
  let c2_i32_4387 : BitVec 32 := 2#32
  let c62_i32_4386 : BitVec 32 := 62#32
  let c0_i32_126 : BitVec 32 := 0#32
  let v5624 : BitVec 32 := Scalar.muli c62_i32_4386 c0_i32_126
  let v5625 : BitVec 32 := Scalar.addi c2_i32_4387 v5624
  let c30_i32 : BitVec 32 := 30#32
  let v5626 : BitVec 32 := Scalar.addi v5625 c30_i32
  let c2_i32_4388 : BitVec 32 := 2#32
  let v5627 : BitVec 32 := Scalar.subi v5626 c2_i32_4388
  let c2_i32_4389 : BitVec 32 := 2#32
  let v5628 : BitVec 32 := Scalar.muli v5627 c2_i32_4389
  let c0_i32_4390 : BitVec 32 := 0#32
  let v5629 : BitVec 32 := Scalar.addi v5628 c0_i32_4390
  let c4_i32_4391 : BitVec 32 := 4#32
  let v5630 : BitVec 32 := Scalar.subi v5629 c4_i32_4391
  let v5631 : BitVec 32 := Scalar.maxsi c0_i32_4392 v5630
  let v5632 : BitVec 32 := Scalar.minsi c120_i32_4393 v5631
  let c64_i32_4394 : BitVec 32 := 64#32
  let v5633 : BitVec 32 := Scalar.muli v5632 c64_i32_4394
  v5633
def k0_mult242 : BitVec 32 :=
  let c2_i32_4387 : BitVec 32 := 2#32
  let c62_i32_4386 : BitVec 32 := 62#32
  let c0_i32_126 : BitVec 32 := 0#32
  let v5624 : BitVec 32 := Scalar.muli c62_i32_4386 c0_i32_126
  let v5625 : BitVec 32 := Scalar.addi c2_i32_4387 v5624
  let c30_i32 : BitVec 32 := 30#32
  let v5626 : BitVec 32 := Scalar.addi v5625 c30_i32
  let c2_i32_4388 : BitVec 32 := 2#32
  let v5627 : BitVec 32 := Scalar.subi v5626 c2_i32_4388
  let c2_i32_4389 : BitVec 32 := 2#32
  let v5628 : BitVec 32 := Scalar.muli v5627 c2_i32_4389
  let c0_i32_4390 : BitVec 32 := 0#32
  let v5629 : BitVec 32 := Scalar.addi v5628 c0_i32_4390
  let c64_i32_4406 : BitVec 32 := 64#32
  let v5648 : BitVec 32 := Scalar.muli v5629 c64_i32_4406
  v5648
def k0_mult243 : BitVec 32 :=
  let c120_i32_4413 : BitVec 32 := 120#32
  let c0_i32_4412 : BitVec 32 := 0#32
  let c2_i32_4387 : BitVec 32 := 2#32
  let c62_i32_4386 : BitVec 32 := 62#32
  let c0_i32_126 : BitVec 32 := 0#32
  let v5624 : BitVec 32 := Scalar.muli c62_i32_4386 c0_i32_126
  let v5625 : BitVec 32 := Scalar.addi c2_i32_4387 v5624
  let c30_i32 : BitVec 32 := 30#32
  let v5626 : BitVec 32 := Scalar.addi v5625 c30_i32
  let c2_i32_4409 : BitVec 32 := 2#32
  let v5654 : BitVec 32 := Scalar.muli v5626 c2_i32_4409
  let c0_i32_4410 : BitVec 32 := 0#32
  let v5655 : BitVec 32 := Scalar.addi v5654 c0_i32_4410
  let c4_i32_4411 : BitVec 32 := 4#32
  let v5656 : BitVec 32 := Scalar.subi v5655 c4_i32_4411
  let v5657 : BitVec 32 := Scalar.maxsi c0_i32_4412 v5656
  let v5658 : BitVec 32 := Scalar.minsi c120_i32_4413 v5657
  let c64_i32_4414 : BitVec 32 := 64#32
  let v5659 : BitVec 32 := Scalar.muli v5658 c64_i32_4414
  v5659
def k0_mult244 : BitVec 32 :=
  let c2_i32_4387 : BitVec 32 := 2#32
  let c62_i32_4386 : BitVec 32 := 62#32
  let c0_i32_126 : BitVec 32 := 0#32
  let v5624 : BitVec 32 := Scalar.muli c62_i32_4386 c0_i32_126
  let v5625 : BitVec 32 := Scalar.addi c2_i32_4387 v5624
  let c30_i32 : BitVec 32 := 30#32
  let v5626 : BitVec 32 := Scalar.addi v5625 c30_i32
  let c2_i32_4409 : BitVec 32 := 2#32
  let v5654 : BitVec 32 := Scalar.muli v5626 c2_i32_4409
  let c0_i32_4410 : BitVec 32 := 0#32
  let v5655 : BitVec 32 := Scalar.addi v5654 c0_i32_4410
  let c64_i32_4416 : BitVec 32 := 64#32
  let v5663 : BitVec 32 := Scalar.muli v5655 c64_i32_4416
  v5663
def k0_mult245 : BitVec 32 :=
  let c120_i32_4463 : BitVec 32 := 120#32
  let c0_i32_4462 : BitVec 32 := 0#32
  let c2_i32_4387 : BitVec 32 := 2#32
  let c62_i32_4386 : BitVec 32 := 62#32
  let c0_i32_126 : BitVec 32 := 0#32
  let v5624 : BitVec 32 := Scalar.muli c62_i32_4386 c0_i32_126
  let v5625 : BitVec 32 := Scalar.addi c2_i32_4387 v5624
  let c30_i32 : BitVec 32 := 30#32
  let v5626 : BitVec 32 := Scalar.addi v5625 c30_i32
  let c2_i32_4458 : BitVec 32 := 2#32
  let v5717 : BitVec 32 := Scalar.subi v5626 c2_i32_4458
  let c2_i32_4459 : BitVec 32 := 2#32
  let v5718 : BitVec 32 := Scalar.muli v5717 c2_i32_4459
  let c1_i32_4460 : BitVec 32 := 1#32
  let v5719 : BitVec 32 := Scalar.addi v5718 c1_i32_4460
  let c4_i32_4461 : BitVec 32 := 4#32
  let v5720 : BitVec 32 := Scalar.subi v5719 c4_i32_4461
  let v5721 : BitVec 32 := Scalar.maxsi c0_i32_4462 v5720
  let v5722 : BitVec 32 := Scalar.minsi c120_i32_4463 v5721
  let c64_i32_4464 : BitVec 32 := 64#32
  let v5723 : BitVec 32 := Scalar.muli v5722 c64_i32_4464
  v5723
def k0_mult246 : BitVec 32 :=
  let c2_i32_4387 : BitVec 32 := 2#32
  let c62_i32_4386 : BitVec 32 := 62#32
  let c0_i32_126 : BitVec 32 := 0#32
  let v5624 : BitVec 32 := Scalar.muli c62_i32_4386 c0_i32_126
  let v5625 : BitVec 32 := Scalar.addi c2_i32_4387 v5624
  let c30_i32 : BitVec 32 := 30#32
  let v5626 : BitVec 32 := Scalar.addi v5625 c30_i32
  let c2_i32_4458 : BitVec 32 := 2#32
  let v5717 : BitVec 32 := Scalar.subi v5626 c2_i32_4458
  let c2_i32_4459 : BitVec 32 := 2#32
  let v5718 : BitVec 32 := Scalar.muli v5717 c2_i32_4459
  let c1_i32_4460 : BitVec 32 := 1#32
  let v5719 : BitVec 32 := Scalar.addi v5718 c1_i32_4460
  let c64_i32_4476 : BitVec 32 := 64#32
  let v5738 : BitVec 32 := Scalar.muli v5719 c64_i32_4476
  v5738
def k0_mult247 : BitVec 32 :=
  let c120_i32_4483 : BitVec 32 := 120#32
  let c0_i32_4482 : BitVec 32 := 0#32
  let c2_i32_4387 : BitVec 32 := 2#32
  let c62_i32_4386 : BitVec 32 := 62#32
  let c0_i32_126 : BitVec 32 := 0#32
  let v5624 : BitVec 32 := Scalar.muli c62_i32_4386 c0_i32_126
  let v5625 : BitVec 32 := Scalar.addi c2_i32_4387 v5624
  let c30_i32 : BitVec 32 := 30#32
  let v5626 : BitVec 32 := Scalar.addi v5625 c30_i32
  let c2_i32_4479 : BitVec 32 := 2#32
  let v5744 : BitVec 32 := Scalar.muli v5626 c2_i32_4479
  let c1_i32_4480 : BitVec 32 := 1#32
  let v5745 : BitVec 32 := Scalar.addi v5744 c1_i32_4480
  let c4_i32_4481 : BitVec 32 := 4#32
  let v5746 : BitVec 32 := Scalar.subi v5745 c4_i32_4481
  let v5747 : BitVec 32 := Scalar.maxsi c0_i32_4482 v5746
  let v5748 : BitVec 32 := Scalar.minsi c120_i32_4483 v5747
  let c64_i32_4484 : BitVec 32 := 64#32
  let v5749 : BitVec 32 := Scalar.muli v5748 c64_i32_4484
  v5749
def k0_mult248 : BitVec 32 :=
  let c2_i32_4387 : BitVec 32 := 2#32
  let c62_i32_4386 : BitVec 32 := 62#32
  let c0_i32_126 : BitVec 32 := 0#32
  let v5624 : BitVec 32 := Scalar.muli c62_i32_4386 c0_i32_126
  let v5625 : BitVec 32 := Scalar.addi c2_i32_4387 v5624
  let c30_i32 : BitVec 32 := 30#32
  let v5626 : BitVec 32 := Scalar.addi v5625 c30_i32
  let c2_i32_4479 : BitVec 32 := 2#32
  let v5744 : BitVec 32 := Scalar.muli v5626 c2_i32_4479
  let c1_i32_4480 : BitVec 32 := 1#32
  let v5745 : BitVec 32 := Scalar.addi v5744 c1_i32_4480
  let c64_i32_4486 : BitVec 32 := 64#32
  let v5753 : BitVec 32 := Scalar.muli v5745 c64_i32_4486
  v5753
def k0_mult249 : BitVec 32 :=
  let c120_i32_4535 : BitVec 32 := 120#32
  let c0_i32_4534 : BitVec 32 := 0#32
  let c2_i32_4529 : BitVec 32 := 2#32
  let c62_i32_4528 : BitVec 32 := 62#32
  let c0_i32_126 : BitVec 32 := 0#32
  let v5807 : BitVec 32 := Scalar.muli c62_i32_4528 c0_i32_126
  let v5808 : BitVec 32 := Scalar.addi c2_i32_4529 v5807
  let c31_i32 : BitVec 32 := 31#32
  let v5809 : BitVec 32 := Scalar.addi v5808 c31_i32
  let c2_i32_4530 : BitVec 32 := 2#32
  let v5810 : BitVec 32 := Scalar.subi v5809 c2_i32_4530
  let c2_i32_4531 : BitVec 32 := 2#32
  let v5811 : BitVec 32 := Scalar.muli v5810 c2_i32_4531
  let c0_i32_4532 : BitVec 32 := 0#32
  let v5812 : BitVec 32 := Scalar.addi v5811 c0_i32_4532
  let c4_i32_4533 : BitVec 32 := 4#32
  let v5813 : BitVec 32 := Scalar.subi v5812 c4_i32_4533
  let v5814 : BitVec 32 := Scalar.maxsi c0_i32_4534 v5813
  let v5815 : BitVec 32 := Scalar.minsi c120_i32_4535 v5814
  let c64_i32_4536 : BitVec 32 := 64#32
  let v5816 : BitVec 32 := Scalar.muli v5815 c64_i32_4536
  v5816
def k0_mult250 : BitVec 32 :=
  let c2_i32_4529 : BitVec 32 := 2#32
  let c62_i32_4528 : BitVec 32 := 62#32
  let c0_i32_126 : BitVec 32 := 0#32
  let v5807 : BitVec 32 := Scalar.muli c62_i32_4528 c0_i32_126
  let v5808 : BitVec 32 := Scalar.addi c2_i32_4529 v5807
  let c31_i32 : BitVec 32 := 31#32
  let v5809 : BitVec 32 := Scalar.addi v5808 c31_i32
  let c2_i32_4530 : BitVec 32 := 2#32
  let v5810 : BitVec 32 := Scalar.subi v5809 c2_i32_4530
  let c2_i32_4531 : BitVec 32 := 2#32
  let v5811 : BitVec 32 := Scalar.muli v5810 c2_i32_4531
  let c0_i32_4532 : BitVec 32 := 0#32
  let v5812 : BitVec 32 := Scalar.addi v5811 c0_i32_4532
  let c64_i32_4548 : BitVec 32 := 64#32
  let v5831 : BitVec 32 := Scalar.muli v5812 c64_i32_4548
  v5831
def k0_mult251 : BitVec 32 :=
  let c120_i32_4555 : BitVec 32 := 120#32
  let c0_i32_4554 : BitVec 32 := 0#32
  let c2_i32_4529 : BitVec 32 := 2#32
  let c62_i32_4528 : BitVec 32 := 62#32
  let c0_i32_126 : BitVec 32 := 0#32
  let v5807 : BitVec 32 := Scalar.muli c62_i32_4528 c0_i32_126
  let v5808 : BitVec 32 := Scalar.addi c2_i32_4529 v5807
  let c31_i32 : BitVec 32 := 31#32
  let v5809 : BitVec 32 := Scalar.addi v5808 c31_i32
  let c2_i32_4551 : BitVec 32 := 2#32
  let v5837 : BitVec 32 := Scalar.muli v5809 c2_i32_4551
  let c0_i32_4552 : BitVec 32 := 0#32
  let v5838 : BitVec 32 := Scalar.addi v5837 c0_i32_4552
  let c4_i32_4553 : BitVec 32 := 4#32
  let v5839 : BitVec 32 := Scalar.subi v5838 c4_i32_4553
  let v5840 : BitVec 32 := Scalar.maxsi c0_i32_4554 v5839
  let v5841 : BitVec 32 := Scalar.minsi c120_i32_4555 v5840
  let c64_i32_4556 : BitVec 32 := 64#32
  let v5842 : BitVec 32 := Scalar.muli v5841 c64_i32_4556
  v5842
def k0_mult252 : BitVec 32 :=
  let c2_i32_4529 : BitVec 32 := 2#32
  let c62_i32_4528 : BitVec 32 := 62#32
  let c0_i32_126 : BitVec 32 := 0#32
  let v5807 : BitVec 32 := Scalar.muli c62_i32_4528 c0_i32_126
  let v5808 : BitVec 32 := Scalar.addi c2_i32_4529 v5807
  let c31_i32 : BitVec 32 := 31#32
  let v5809 : BitVec 32 := Scalar.addi v5808 c31_i32
  let c2_i32_4551 : BitVec 32 := 2#32
  let v5837 : BitVec 32 := Scalar.muli v5809 c2_i32_4551
  let c0_i32_4552 : BitVec 32 := 0#32
  let v5838 : BitVec 32 := Scalar.addi v5837 c0_i32_4552
  let c64_i32_4558 : BitVec 32 := 64#32
  let v5846 : BitVec 32 := Scalar.muli v5838 c64_i32_4558
  v5846
def k0_mult253 : BitVec 32 :=
  let c120_i32_4605 : BitVec 32 := 120#32
  let c0_i32_4604 : BitVec 32 := 0#32
  let c2_i32_4529 : BitVec 32 := 2#32
  let c62_i32_4528 : BitVec 32 := 62#32
  let c0_i32_126 : BitVec 32 := 0#32
  let v5807 : BitVec 32 := Scalar.muli c62_i32_4528 c0_i32_126
  let v5808 : BitVec 32 := Scalar.addi c2_i32_4529 v5807
  let c31_i32 : BitVec 32 := 31#32
  let v5809 : BitVec 32 := Scalar.addi v5808 c31_i32
  let c2_i32_4600 : BitVec 32 := 2#32
  let v5900 : BitVec 32 := Scalar.subi v5809 c2_i32_4600
  let c2_i32_4601 : BitVec 32 := 2#32
  let v5901 : BitVec 32 := Scalar.muli v5900 c2_i32_4601
  let c1_i32_4602 : BitVec 32 := 1#32
  let v5902 : BitVec 32 := Scalar.addi v5901 c1_i32_4602
  let c4_i32_4603 : BitVec 32 := 4#32
  let v5903 : BitVec 32 := Scalar.subi v5902 c4_i32_4603
  let v5904 : BitVec 32 := Scalar.maxsi c0_i32_4604 v5903
  let v5905 : BitVec 32 := Scalar.minsi c120_i32_4605 v5904
  let c64_i32_4606 : BitVec 32 := 64#32
  let v5906 : BitVec 32 := Scalar.muli v5905 c64_i32_4606
  v5906
def k0_mult254 : BitVec 32 :=
  let c2_i32_4529 : BitVec 32 := 2#32
  let c62_i32_4528 : BitVec 32 := 62#32
  let c0_i32_126 : BitVec 32 := 0#32
  let v5807 : BitVec 32 := Scalar.muli c62_i32_4528 c0_i32_126
  let v5808 : BitVec 32 := Scalar.addi c2_i32_4529 v5807
  let c31_i32 : BitVec 32 := 31#32
  let v5809 : BitVec 32 := Scalar.addi v5808 c31_i32
  let c2_i32_4600 : BitVec 32 := 2#32
  let v5900 : BitVec 32 := Scalar.subi v5809 c2_i32_4600
  let c2_i32_4601 : BitVec 32 := 2#32
  let v5901 : BitVec 32 := Scalar.muli v5900 c2_i32_4601
  let c1_i32_4602 : BitVec 32 := 1#32
  let v5902 : BitVec 32 := Scalar.addi v5901 c1_i32_4602
  let c64_i32_4618 : BitVec 32 := 64#32
  let v5921 : BitVec 32 := Scalar.muli v5902 c64_i32_4618
  v5921
def k0_mult255 : BitVec 32 :=
  let c120_i32_4625 : BitVec 32 := 120#32
  let c0_i32_4624 : BitVec 32 := 0#32
  let c2_i32_4529 : BitVec 32 := 2#32
  let c62_i32_4528 : BitVec 32 := 62#32
  let c0_i32_126 : BitVec 32 := 0#32
  let v5807 : BitVec 32 := Scalar.muli c62_i32_4528 c0_i32_126
  let v5808 : BitVec 32 := Scalar.addi c2_i32_4529 v5807
  let c31_i32 : BitVec 32 := 31#32
  let v5809 : BitVec 32 := Scalar.addi v5808 c31_i32
  let c2_i32_4621 : BitVec 32 := 2#32
  let v5927 : BitVec 32 := Scalar.muli v5809 c2_i32_4621
  let c1_i32_4622 : BitVec 32 := 1#32
  let v5928 : BitVec 32 := Scalar.addi v5927 c1_i32_4622
  let c4_i32_4623 : BitVec 32 := 4#32
  let v5929 : BitVec 32 := Scalar.subi v5928 c4_i32_4623
  let v5930 : BitVec 32 := Scalar.maxsi c0_i32_4624 v5929
  let v5931 : BitVec 32 := Scalar.minsi c120_i32_4625 v5930
  let c64_i32_4626 : BitVec 32 := 64#32
  let v5932 : BitVec 32 := Scalar.muli v5931 c64_i32_4626
  v5932
def k0_mult256 : BitVec 32 :=
  let c2_i32_4529 : BitVec 32 := 2#32
  let c62_i32_4528 : BitVec 32 := 62#32
  let c0_i32_126 : BitVec 32 := 0#32
  let v5807 : BitVec 32 := Scalar.muli c62_i32_4528 c0_i32_126
  let v5808 : BitVec 32 := Scalar.addi c2_i32_4529 v5807
  let c31_i32 : BitVec 32 := 31#32
  let v5809 : BitVec 32 := Scalar.addi v5808 c31_i32
  let c2_i32_4621 : BitVec 32 := 2#32
  let v5927 : BitVec 32 := Scalar.muli v5809 c2_i32_4621
  let c1_i32_4622 : BitVec 32 := 1#32
  let v5928 : BitVec 32 := Scalar.addi v5927 c1_i32_4622
  let c64_i32_4628 : BitVec 32 := 64#32
  let v5936 : BitVec 32 := Scalar.muli v5928 c64_i32_4628
  v5936
def k0_mult257 : BitVec 32 :=
  let c120_i32_4677 : BitVec 32 := 120#32
  let c0_i32_4676 : BitVec 32 := 0#32
  let c2_i32_4671 : BitVec 32 := 2#32
  let c62_i32_4670 : BitVec 32 := 62#32
  let c0_i32_126 : BitVec 32 := 0#32
  let v5990 : BitVec 32 := Scalar.muli c62_i32_4670 c0_i32_126
  let v5991 : BitVec 32 := Scalar.addi c2_i32_4671 v5990
  let c32_i32 : BitVec 32 := 32#32
  let v5992 : BitVec 32 := Scalar.addi v5991 c32_i32
  let c2_i32_4672 : BitVec 32 := 2#32
  let v5993 : BitVec 32 := Scalar.subi v5992 c2_i32_4672
  let c2_i32_4673 : BitVec 32 := 2#32
  let v5994 : BitVec 32 := Scalar.muli v5993 c2_i32_4673
  let c0_i32_4674 : BitVec 32 := 0#32
  let v5995 : BitVec 32 := Scalar.addi v5994 c0_i32_4674
  let c4_i32_4675 : BitVec 32 := 4#32
  let v5996 : BitVec 32 := Scalar.subi v5995 c4_i32_4675
  let v5997 : BitVec 32 := Scalar.maxsi c0_i32_4676 v5996
  let v5998 : BitVec 32 := Scalar.minsi c120_i32_4677 v5997
  let c64_i32_4678 : BitVec 32 := 64#32
  let v5999 : BitVec 32 := Scalar.muli v5998 c64_i32_4678
  v5999
def k0_mult258 : BitVec 32 :=
  let c2_i32_4671 : BitVec 32 := 2#32
  let c62_i32_4670 : BitVec 32 := 62#32
  let c0_i32_126 : BitVec 32 := 0#32
  let v5990 : BitVec 32 := Scalar.muli c62_i32_4670 c0_i32_126
  let v5991 : BitVec 32 := Scalar.addi c2_i32_4671 v5990
  let c32_i32 : BitVec 32 := 32#32
  let v5992 : BitVec 32 := Scalar.addi v5991 c32_i32
  let c2_i32_4672 : BitVec 32 := 2#32
  let v5993 : BitVec 32 := Scalar.subi v5992 c2_i32_4672
  let c2_i32_4673 : BitVec 32 := 2#32
  let v5994 : BitVec 32 := Scalar.muli v5993 c2_i32_4673
  let c0_i32_4674 : BitVec 32 := 0#32
  let v5995 : BitVec 32 := Scalar.addi v5994 c0_i32_4674
  let c64_i32_4690 : BitVec 32 := 64#32
  let v6014 : BitVec 32 := Scalar.muli v5995 c64_i32_4690
  v6014
def k0_mult259 : BitVec 32 :=
  let c120_i32_4697 : BitVec 32 := 120#32
  let c0_i32_4696 : BitVec 32 := 0#32
  let c2_i32_4671 : BitVec 32 := 2#32
  let c62_i32_4670 : BitVec 32 := 62#32
  let c0_i32_126 : BitVec 32 := 0#32
  let v5990 : BitVec 32 := Scalar.muli c62_i32_4670 c0_i32_126
  let v5991 : BitVec 32 := Scalar.addi c2_i32_4671 v5990
  let c32_i32 : BitVec 32 := 32#32
  let v5992 : BitVec 32 := Scalar.addi v5991 c32_i32
  let c2_i32_4693 : BitVec 32 := 2#32
  let v6020 : BitVec 32 := Scalar.muli v5992 c2_i32_4693
  let c0_i32_4694 : BitVec 32 := 0#32
  let v6021 : BitVec 32 := Scalar.addi v6020 c0_i32_4694
  let c4_i32_4695 : BitVec 32 := 4#32
  let v6022 : BitVec 32 := Scalar.subi v6021 c4_i32_4695
  let v6023 : BitVec 32 := Scalar.maxsi c0_i32_4696 v6022
  let v6024 : BitVec 32 := Scalar.minsi c120_i32_4697 v6023
  let c64_i32_4698 : BitVec 32 := 64#32
  let v6025 : BitVec 32 := Scalar.muli v6024 c64_i32_4698
  v6025
def k0_mult260 : BitVec 32 :=
  let c2_i32_4671 : BitVec 32 := 2#32
  let c62_i32_4670 : BitVec 32 := 62#32
  let c0_i32_126 : BitVec 32 := 0#32
  let v5990 : BitVec 32 := Scalar.muli c62_i32_4670 c0_i32_126
  let v5991 : BitVec 32 := Scalar.addi c2_i32_4671 v5990
  let c32_i32 : BitVec 32 := 32#32
  let v5992 : BitVec 32 := Scalar.addi v5991 c32_i32
  let c2_i32_4693 : BitVec 32 := 2#32
  let v6020 : BitVec 32 := Scalar.muli v5992 c2_i32_4693
  let c0_i32_4694 : BitVec 32 := 0#32
  let v6021 : BitVec 32 := Scalar.addi v6020 c0_i32_4694
  let c64_i32_4700 : BitVec 32 := 64#32
  let v6029 : BitVec 32 := Scalar.muli v6021 c64_i32_4700
  v6029
def k0_mult261 : BitVec 32 :=
  let c120_i32_4747 : BitVec 32 := 120#32
  let c0_i32_4746 : BitVec 32 := 0#32
  let c2_i32_4671 : BitVec 32 := 2#32
  let c62_i32_4670 : BitVec 32 := 62#32
  let c0_i32_126 : BitVec 32 := 0#32
  let v5990 : BitVec 32 := Scalar.muli c62_i32_4670 c0_i32_126
  let v5991 : BitVec 32 := Scalar.addi c2_i32_4671 v5990
  let c32_i32 : BitVec 32 := 32#32
  let v5992 : BitVec 32 := Scalar.addi v5991 c32_i32
  let c2_i32_4742 : BitVec 32 := 2#32
  let v6083 : BitVec 32 := Scalar.subi v5992 c2_i32_4742
  let c2_i32_4743 : BitVec 32 := 2#32
  let v6084 : BitVec 32 := Scalar.muli v6083 c2_i32_4743
  let c1_i32_4744 : BitVec 32 := 1#32
  let v6085 : BitVec 32 := Scalar.addi v6084 c1_i32_4744
  let c4_i32_4745 : BitVec 32 := 4#32
  let v6086 : BitVec 32 := Scalar.subi v6085 c4_i32_4745
  let v6087 : BitVec 32 := Scalar.maxsi c0_i32_4746 v6086
  let v6088 : BitVec 32 := Scalar.minsi c120_i32_4747 v6087
  let c64_i32_4748 : BitVec 32 := 64#32
  let v6089 : BitVec 32 := Scalar.muli v6088 c64_i32_4748
  v6089
def k0_mult262 : BitVec 32 :=
  let c2_i32_4671 : BitVec 32 := 2#32
  let c62_i32_4670 : BitVec 32 := 62#32
  let c0_i32_126 : BitVec 32 := 0#32
  let v5990 : BitVec 32 := Scalar.muli c62_i32_4670 c0_i32_126
  let v5991 : BitVec 32 := Scalar.addi c2_i32_4671 v5990
  let c32_i32 : BitVec 32 := 32#32
  let v5992 : BitVec 32 := Scalar.addi v5991 c32_i32
  let c2_i32_4742 : BitVec 32 := 2#32
  let v6083 : BitVec 32 := Scalar.subi v5992 c2_i32_4742
  let c2_i32_4743 : BitVec 32 := 2#32
  let v6084 : BitVec 32 := Scalar.muli v6083 c2_i32_4743
  let c1_i32_4744 : BitVec 32 := 1#32
  let v6085 : BitVec 32 := Scalar.addi v6084 c1_i32_4744
  let c64_i32_4760 : BitVec 32 := 64#32
  let v6104 : BitVec 32 := Scalar.muli v6085 c64_i32_4760
  v6104
def k0_mult263 : BitVec 32 :=
  let c120_i32_4767 : BitVec 32 := 120#32
  let c0_i32_4766 : BitVec 32 := 0#32
  let c2_i32_4671 : BitVec 32 := 2#32
  let c62_i32_4670 : BitVec 32 := 62#32
  let c0_i32_126 : BitVec 32 := 0#32
  let v5990 : BitVec 32 := Scalar.muli c62_i32_4670 c0_i32_126
  let v5991 : BitVec 32 := Scalar.addi c2_i32_4671 v5990
  let c32_i32 : BitVec 32 := 32#32
  let v5992 : BitVec 32 := Scalar.addi v5991 c32_i32
  let c2_i32_4763 : BitVec 32 := 2#32
  let v6110 : BitVec 32 := Scalar.muli v5992 c2_i32_4763
  let c1_i32_4764 : BitVec 32 := 1#32
  let v6111 : BitVec 32 := Scalar.addi v6110 c1_i32_4764
  let c4_i32_4765 : BitVec 32 := 4#32
  let v6112 : BitVec 32 := Scalar.subi v6111 c4_i32_4765
  let v6113 : BitVec 32 := Scalar.maxsi c0_i32_4766 v6112
  let v6114 : BitVec 32 := Scalar.minsi c120_i32_4767 v6113
  let c64_i32_4768 : BitVec 32 := 64#32
  let v6115 : BitVec 32 := Scalar.muli v6114 c64_i32_4768
  v6115
def k0_mult264 : BitVec 32 :=
  let c2_i32_4671 : BitVec 32 := 2#32
  let c62_i32_4670 : BitVec 32 := 62#32
  let c0_i32_126 : BitVec 32 := 0#32
  let v5990 : BitVec 32 := Scalar.muli c62_i32_4670 c0_i32_126
  let v5991 : BitVec 32 := Scalar.addi c2_i32_4671 v5990
  let c32_i32 : BitVec 32 := 32#32
  let v5992 : BitVec 32 := Scalar.addi v5991 c32_i32
  let c2_i32_4763 : BitVec 32 := 2#32
  let v6110 : BitVec 32 := Scalar.muli v5992 c2_i32_4763
  let c1_i32_4764 : BitVec 32 := 1#32
  let v6111 : BitVec 32 := Scalar.addi v6110 c1_i32_4764
  let c64_i32_4770 : BitVec 32 := 64#32
  let v6119 : BitVec 32 := Scalar.muli v6111 c64_i32_4770
  v6119
def k0_mult265 : BitVec 32 :=
  let c120_i32_4819 : BitVec 32 := 120#32
  let c0_i32_4818 : BitVec 32 := 0#32
  let c2_i32_4813 : BitVec 32 := 2#32
  let c62_i32_4812 : BitVec 32 := 62#32
  let c0_i32_126 : BitVec 32 := 0#32
  let v6173 : BitVec 32 := Scalar.muli c62_i32_4812 c0_i32_126
  let v6174 : BitVec 32 := Scalar.addi c2_i32_4813 v6173
  let c33_i32 : BitVec 32 := 33#32
  let v6175 : BitVec 32 := Scalar.addi v6174 c33_i32
  let c2_i32_4814 : BitVec 32 := 2#32
  let v6176 : BitVec 32 := Scalar.subi v6175 c2_i32_4814
  let c2_i32_4815 : BitVec 32 := 2#32
  let v6177 : BitVec 32 := Scalar.muli v6176 c2_i32_4815
  let c0_i32_4816 : BitVec 32 := 0#32
  let v6178 : BitVec 32 := Scalar.addi v6177 c0_i32_4816
  let c4_i32_4817 : BitVec 32 := 4#32
  let v6179 : BitVec 32 := Scalar.subi v6178 c4_i32_4817
  let v6180 : BitVec 32 := Scalar.maxsi c0_i32_4818 v6179
  let v6181 : BitVec 32 := Scalar.minsi c120_i32_4819 v6180
  let c64_i32_4820 : BitVec 32 := 64#32
  let v6182 : BitVec 32 := Scalar.muli v6181 c64_i32_4820
  v6182
def k0_mult266 : BitVec 32 :=
  let c2_i32_4813 : BitVec 32 := 2#32
  let c62_i32_4812 : BitVec 32 := 62#32
  let c0_i32_126 : BitVec 32 := 0#32
  let v6173 : BitVec 32 := Scalar.muli c62_i32_4812 c0_i32_126
  let v6174 : BitVec 32 := Scalar.addi c2_i32_4813 v6173
  let c33_i32 : BitVec 32 := 33#32
  let v6175 : BitVec 32 := Scalar.addi v6174 c33_i32
  let c2_i32_4814 : BitVec 32 := 2#32
  let v6176 : BitVec 32 := Scalar.subi v6175 c2_i32_4814
  let c2_i32_4815 : BitVec 32 := 2#32
  let v6177 : BitVec 32 := Scalar.muli v6176 c2_i32_4815
  let c0_i32_4816 : BitVec 32 := 0#32
  let v6178 : BitVec 32 := Scalar.addi v6177 c0_i32_4816
  let c64_i32_4832 : BitVec 32 := 64#32
  let v6197 : BitVec 32 := Scalar.muli v6178 c64_i32_4832
  v6197
def k0_mult267 : BitVec 32 :=
  let c120_i32_4839 : BitVec 32 := 120#32
  let c0_i32_4838 : BitVec 32 := 0#32
  let c2_i32_4813 : BitVec 32 := 2#32
  let c62_i32_4812 : BitVec 32 := 62#32
  let c0_i32_126 : BitVec 32 := 0#32
  let v6173 : BitVec 32 := Scalar.muli c62_i32_4812 c0_i32_126
  let v6174 : BitVec 32 := Scalar.addi c2_i32_4813 v6173
  let c33_i32 : BitVec 32 := 33#32
  let v6175 : BitVec 32 := Scalar.addi v6174 c33_i32
  let c2_i32_4835 : BitVec 32 := 2#32
  let v6203 : BitVec 32 := Scalar.muli v6175 c2_i32_4835
  let c0_i32_4836 : BitVec 32 := 0#32
  let v6204 : BitVec 32 := Scalar.addi v6203 c0_i32_4836
  let c4_i32_4837 : BitVec 32 := 4#32
  let v6205 : BitVec 32 := Scalar.subi v6204 c4_i32_4837
  let v6206 : BitVec 32 := Scalar.maxsi c0_i32_4838 v6205
  let v6207 : BitVec 32 := Scalar.minsi c120_i32_4839 v6206
  let c64_i32_4840 : BitVec 32 := 64#32
  let v6208 : BitVec 32 := Scalar.muli v6207 c64_i32_4840
  v6208
def k0_mult268 : BitVec 32 :=
  let c2_i32_4813 : BitVec 32 := 2#32
  let c62_i32_4812 : BitVec 32 := 62#32
  let c0_i32_126 : BitVec 32 := 0#32
  let v6173 : BitVec 32 := Scalar.muli c62_i32_4812 c0_i32_126
  let v6174 : BitVec 32 := Scalar.addi c2_i32_4813 v6173
  let c33_i32 : BitVec 32 := 33#32
  let v6175 : BitVec 32 := Scalar.addi v6174 c33_i32
  let c2_i32_4835 : BitVec 32 := 2#32
  let v6203 : BitVec 32 := Scalar.muli v6175 c2_i32_4835
  let c0_i32_4836 : BitVec 32 := 0#32
  let v6204 : BitVec 32 := Scalar.addi v6203 c0_i32_4836
  let c64_i32_4842 : BitVec 32 := 64#32
  let v6212 : BitVec 32 := Scalar.muli v6204 c64_i32_4842
  v6212
def k0_mult269 : BitVec 32 :=
  let c120_i32_4889 : BitVec 32 := 120#32
  let c0_i32_4888 : BitVec 32 := 0#32
  let c2_i32_4813 : BitVec 32 := 2#32
  let c62_i32_4812 : BitVec 32 := 62#32
  let c0_i32_126 : BitVec 32 := 0#32
  let v6173 : BitVec 32 := Scalar.muli c62_i32_4812 c0_i32_126
  let v6174 : BitVec 32 := Scalar.addi c2_i32_4813 v6173
  let c33_i32 : BitVec 32 := 33#32
  let v6175 : BitVec 32 := Scalar.addi v6174 c33_i32
  let c2_i32_4884 : BitVec 32 := 2#32
  let v6266 : BitVec 32 := Scalar.subi v6175 c2_i32_4884
  let c2_i32_4885 : BitVec 32 := 2#32
  let v6267 : BitVec 32 := Scalar.muli v6266 c2_i32_4885
  let c1_i32_4886 : BitVec 32 := 1#32
  let v6268 : BitVec 32 := Scalar.addi v6267 c1_i32_4886
  let c4_i32_4887 : BitVec 32 := 4#32
  let v6269 : BitVec 32 := Scalar.subi v6268 c4_i32_4887
  let v6270 : BitVec 32 := Scalar.maxsi c0_i32_4888 v6269
  let v6271 : BitVec 32 := Scalar.minsi c120_i32_4889 v6270
  let c64_i32_4890 : BitVec 32 := 64#32
  let v6272 : BitVec 32 := Scalar.muli v6271 c64_i32_4890
  v6272
def k0_mult270 : BitVec 32 :=
  let c2_i32_4813 : BitVec 32 := 2#32
  let c62_i32_4812 : BitVec 32 := 62#32
  let c0_i32_126 : BitVec 32 := 0#32
  let v6173 : BitVec 32 := Scalar.muli c62_i32_4812 c0_i32_126
  let v6174 : BitVec 32 := Scalar.addi c2_i32_4813 v6173
  let c33_i32 : BitVec 32 := 33#32
  let v6175 : BitVec 32 := Scalar.addi v6174 c33_i32
  let c2_i32_4884 : BitVec 32 := 2#32
  let v6266 : BitVec 32 := Scalar.subi v6175 c2_i32_4884
  let c2_i32_4885 : BitVec 32 := 2#32
  let v6267 : BitVec 32 := Scalar.muli v6266 c2_i32_4885
  let c1_i32_4886 : BitVec 32 := 1#32
  let v6268 : BitVec 32 := Scalar.addi v6267 c1_i32_4886
  let c64_i32_4902 : BitVec 32 := 64#32
  let v6287 : BitVec 32 := Scalar.muli v6268 c64_i32_4902
  v6287
def k0_mult271 : BitVec 32 :=
  let c120_i32_4909 : BitVec 32 := 120#32
  let c0_i32_4908 : BitVec 32 := 0#32
  let c2_i32_4813 : BitVec 32 := 2#32
  let c62_i32_4812 : BitVec 32 := 62#32
  let c0_i32_126 : BitVec 32 := 0#32
  let v6173 : BitVec 32 := Scalar.muli c62_i32_4812 c0_i32_126
  let v6174 : BitVec 32 := Scalar.addi c2_i32_4813 v6173
  let c33_i32 : BitVec 32 := 33#32
  let v6175 : BitVec 32 := Scalar.addi v6174 c33_i32
  let c2_i32_4905 : BitVec 32 := 2#32
  let v6293 : BitVec 32 := Scalar.muli v6175 c2_i32_4905
  let c1_i32_4906 : BitVec 32 := 1#32
  let v6294 : BitVec 32 := Scalar.addi v6293 c1_i32_4906
  let c4_i32_4907 : BitVec 32 := 4#32
  let v6295 : BitVec 32 := Scalar.subi v6294 c4_i32_4907
  let v6296 : BitVec 32 := Scalar.maxsi c0_i32_4908 v6295
  let v6297 : BitVec 32 := Scalar.minsi c120_i32_4909 v6296
  let c64_i32_4910 : BitVec 32 := 64#32
  let v6298 : BitVec 32 := Scalar.muli v6297 c64_i32_4910
  v6298
def k0_mult272 : BitVec 32 :=
  let c2_i32_4813 : BitVec 32 := 2#32
  let c62_i32_4812 : BitVec 32 := 62#32
  let c0_i32_126 : BitVec 32 := 0#32
  let v6173 : BitVec 32 := Scalar.muli c62_i32_4812 c0_i32_126
  let v6174 : BitVec 32 := Scalar.addi c2_i32_4813 v6173
  let c33_i32 : BitVec 32 := 33#32
  let v6175 : BitVec 32 := Scalar.addi v6174 c33_i32
  let c2_i32_4905 : BitVec 32 := 2#32
  let v6293 : BitVec 32 := Scalar.muli v6175 c2_i32_4905
  let c1_i32_4906 : BitVec 32 := 1#32
  let v6294 : BitVec 32 := Scalar.addi v6293 c1_i32_4906
  let c64_i32_4912 : BitVec 32 := 64#32
  let v6302 : BitVec 32 := Scalar.muli v6294 c64_i32_4912
  v6302
def k0_mult273 : BitVec 32 :=
  let c120_i32_4961 : BitVec 32 := 120#32
  let c0_i32_4960 : BitVec 32 := 0#32
  let c2_i32_4955 : BitVec 32 := 2#32
  let c62_i32_4954 : BitVec 32 := 62#32
  let c0_i32_126 : BitVec 32 := 0#32
  let v6356 : BitVec 32 := Scalar.muli c62_i32_4954 c0_i32_126
  let v6357 : BitVec 32 := Scalar.addi c2_i32_4955 v6356
  let c34_i32 : BitVec 32 := 34#32
  let v6358 : BitVec 32 := Scalar.addi v6357 c34_i32
  let c2_i32_4956 : BitVec 32 := 2#32
  let v6359 : BitVec 32 := Scalar.subi v6358 c2_i32_4956
  let c2_i32_4957 : BitVec 32 := 2#32
  let v6360 : BitVec 32 := Scalar.muli v6359 c2_i32_4957
  let c0_i32_4958 : BitVec 32 := 0#32
  let v6361 : BitVec 32 := Scalar.addi v6360 c0_i32_4958
  let c4_i32_4959 : BitVec 32 := 4#32
  let v6362 : BitVec 32 := Scalar.subi v6361 c4_i32_4959
  let v6363 : BitVec 32 := Scalar.maxsi c0_i32_4960 v6362
  let v6364 : BitVec 32 := Scalar.minsi c120_i32_4961 v6363
  let c64_i32_4962 : BitVec 32 := 64#32
  let v6365 : BitVec 32 := Scalar.muli v6364 c64_i32_4962
  v6365
def k0_mult274 : BitVec 32 :=
  let c2_i32_4955 : BitVec 32 := 2#32
  let c62_i32_4954 : BitVec 32 := 62#32
  let c0_i32_126 : BitVec 32 := 0#32
  let v6356 : BitVec 32 := Scalar.muli c62_i32_4954 c0_i32_126
  let v6357 : BitVec 32 := Scalar.addi c2_i32_4955 v6356
  let c34_i32 : BitVec 32 := 34#32
  let v6358 : BitVec 32 := Scalar.addi v6357 c34_i32
  let c2_i32_4956 : BitVec 32 := 2#32
  let v6359 : BitVec 32 := Scalar.subi v6358 c2_i32_4956
  let c2_i32_4957 : BitVec 32 := 2#32
  let v6360 : BitVec 32 := Scalar.muli v6359 c2_i32_4957
  let c0_i32_4958 : BitVec 32 := 0#32
  let v6361 : BitVec 32 := Scalar.addi v6360 c0_i32_4958
  let c64_i32_4974 : BitVec 32 := 64#32
  let v6380 : BitVec 32 := Scalar.muli v6361 c64_i32_4974
  v6380
def k0_mult275 : BitVec 32 :=
  let c120_i32_4981 : BitVec 32 := 120#32
  let c0_i32_4980 : BitVec 32 := 0#32
  let c2_i32_4955 : BitVec 32 := 2#32
  let c62_i32_4954 : BitVec 32 := 62#32
  let c0_i32_126 : BitVec 32 := 0#32
  let v6356 : BitVec 32 := Scalar.muli c62_i32_4954 c0_i32_126
  let v6357 : BitVec 32 := Scalar.addi c2_i32_4955 v6356
  let c34_i32 : BitVec 32 := 34#32
  let v6358 : BitVec 32 := Scalar.addi v6357 c34_i32
  let c2_i32_4977 : BitVec 32 := 2#32
  let v6386 : BitVec 32 := Scalar.muli v6358 c2_i32_4977
  let c0_i32_4978 : BitVec 32 := 0#32
  let v6387 : BitVec 32 := Scalar.addi v6386 c0_i32_4978
  let c4_i32_4979 : BitVec 32 := 4#32
  let v6388 : BitVec 32 := Scalar.subi v6387 c4_i32_4979
  let v6389 : BitVec 32 := Scalar.maxsi c0_i32_4980 v6388
  let v6390 : BitVec 32 := Scalar.minsi c120_i32_4981 v6389
  let c64_i32_4982 : BitVec 32 := 64#32
  let v6391 : BitVec 32 := Scalar.muli v6390 c64_i32_4982
  v6391
def k0_mult276 : BitVec 32 :=
  let c2_i32_4955 : BitVec 32 := 2#32
  let c62_i32_4954 : BitVec 32 := 62#32
  let c0_i32_126 : BitVec 32 := 0#32
  let v6356 : BitVec 32 := Scalar.muli c62_i32_4954 c0_i32_126
  let v6357 : BitVec 32 := Scalar.addi c2_i32_4955 v6356
  let c34_i32 : BitVec 32 := 34#32
  let v6358 : BitVec 32 := Scalar.addi v6357 c34_i32
  let c2_i32_4977 : BitVec 32 := 2#32
  let v6386 : BitVec 32 := Scalar.muli v6358 c2_i32_4977
  let c0_i32_4978 : BitVec 32 := 0#32
  let v6387 : BitVec 32 := Scalar.addi v6386 c0_i32_4978
  let c64_i32_4984 : BitVec 32 := 64#32
  let v6395 : BitVec 32 := Scalar.muli v6387 c64_i32_4984
  v6395
def k0_mult277 : BitVec 32 :=
  let c120_i32_5031 : BitVec 32 := 120#32
  let c0_i32_5030 : BitVec 32 := 0#32
  let c2_i32_4955 : BitVec 32 := 2#32
  let c62_i32_4954 : BitVec 32 := 62#32
  let c0_i32_126 : BitVec 32 := 0#32
  let v6356 : BitVec 32 := Scalar.muli c62_i32_4954 c0_i32_126
  let v6357 : BitVec 32 := Scalar.addi c2_i32_4955 v6356
  let c34_i32 : BitVec 32 := 34#32
  let v6358 : BitVec 32 := Scalar.addi v6357 c34_i32
  let c2_i32_5026 : BitVec 32 := 2#32
  let v6449 : BitVec 32 := Scalar.subi v6358 c2_i32_5026
  let c2_i32_5027 : BitVec 32 := 2#32
  let v6450 : BitVec 32 := Scalar.muli v6449 c2_i32_5027
  let c1_i32_5028 : BitVec 32 := 1#32
  let v6451 : BitVec 32 := Scalar.addi v6450 c1_i32_5028
  let c4_i32_5029 : BitVec 32 := 4#32
  let v6452 : BitVec 32 := Scalar.subi v6451 c4_i32_5029
  let v6453 : BitVec 32 := Scalar.maxsi c0_i32_5030 v6452
  let v6454 : BitVec 32 := Scalar.minsi c120_i32_5031 v6453
  let c64_i32_5032 : BitVec 32 := 64#32
  let v6455 : BitVec 32 := Scalar.muli v6454 c64_i32_5032
  v6455
def k0_mult278 : BitVec 32 :=
  let c2_i32_4955 : BitVec 32 := 2#32
  let c62_i32_4954 : BitVec 32 := 62#32
  let c0_i32_126 : BitVec 32 := 0#32
  let v6356 : BitVec 32 := Scalar.muli c62_i32_4954 c0_i32_126
  let v6357 : BitVec 32 := Scalar.addi c2_i32_4955 v6356
  let c34_i32 : BitVec 32 := 34#32
  let v6358 : BitVec 32 := Scalar.addi v6357 c34_i32
  let c2_i32_5026 : BitVec 32 := 2#32
  let v6449 : BitVec 32 := Scalar.subi v6358 c2_i32_5026
  let c2_i32_5027 : BitVec 32 := 2#32
  let v6450 : BitVec 32 := Scalar.muli v6449 c2_i32_5027
  let c1_i32_5028 : BitVec 32 := 1#32
  let v6451 : BitVec 32 := Scalar.addi v6450 c1_i32_5028
  let c64_i32_5044 : BitVec 32 := 64#32
  let v6470 : BitVec 32 := Scalar.muli v6451 c64_i32_5044
  v6470
def k0_mult279 : BitVec 32 :=
  let c120_i32_5051 : BitVec 32 := 120#32
  let c0_i32_5050 : BitVec 32 := 0#32
  let c2_i32_4955 : BitVec 32 := 2#32
  let c62_i32_4954 : BitVec 32 := 62#32
  let c0_i32_126 : BitVec 32 := 0#32
  let v6356 : BitVec 32 := Scalar.muli c62_i32_4954 c0_i32_126
  let v6357 : BitVec 32 := Scalar.addi c2_i32_4955 v6356
  let c34_i32 : BitVec 32 := 34#32
  let v6358 : BitVec 32 := Scalar.addi v6357 c34_i32
  let c2_i32_5047 : BitVec 32 := 2#32
  let v6476 : BitVec 32 := Scalar.muli v6358 c2_i32_5047
  let c1_i32_5048 : BitVec 32 := 1#32
  let v6477 : BitVec 32 := Scalar.addi v6476 c1_i32_5048
  let c4_i32_5049 : BitVec 32 := 4#32
  let v6478 : BitVec 32 := Scalar.subi v6477 c4_i32_5049
  let v6479 : BitVec 32 := Scalar.maxsi c0_i32_5050 v6478
  let v6480 : BitVec 32 := Scalar.minsi c120_i32_5051 v6479
  let c64_i32_5052 : BitVec 32 := 64#32
  let v6481 : BitVec 32 := Scalar.muli v6480 c64_i32_5052
  v6481
def k0_mult280 : BitVec 32 :=
  let c2_i32_4955 : BitVec 32 := 2#32
  let c62_i32_4954 : BitVec 32 := 62#32
  let c0_i32_126 : BitVec 32 := 0#32
  let v6356 : BitVec 32 := Scalar.muli c62_i32_4954 c0_i32_126
  let v6357 : BitVec 32 := Scalar.addi c2_i32_4955 v6356
  let c34_i32 : BitVec 32 := 34#32
  let v6358 : BitVec 32 := Scalar.addi v6357 c34_i32
  let c2_i32_5047 : BitVec 32 := 2#32
  let v6476 : BitVec 32 := Scalar.muli v6358 c2_i32_5047
  let c1_i32_5048 : BitVec 32 := 1#32
  let v6477 : BitVec 32 := Scalar.addi v6476 c1_i32_5048
  let c64_i32_5054 : BitVec 32 := 64#32
  let v6485 : BitVec 32 := Scalar.muli v6477 c64_i32_5054
  v6485
def k0_mult281 : BitVec 32 :=
  let c120_i32_5103 : BitVec 32 := 120#32
  let c0_i32_5102 : BitVec 32 := 0#32
  let c2_i32_5097 : BitVec 32 := 2#32
  let c62_i32_5096 : BitVec 32 := 62#32
  let c0_i32_126 : BitVec 32 := 0#32
  let v6539 : BitVec 32 := Scalar.muli c62_i32_5096 c0_i32_126
  let v6540 : BitVec 32 := Scalar.addi c2_i32_5097 v6539
  let c35_i32 : BitVec 32 := 35#32
  let v6541 : BitVec 32 := Scalar.addi v6540 c35_i32
  let c2_i32_5098 : BitVec 32 := 2#32
  let v6542 : BitVec 32 := Scalar.subi v6541 c2_i32_5098
  let c2_i32_5099 : BitVec 32 := 2#32
  let v6543 : BitVec 32 := Scalar.muli v6542 c2_i32_5099
  let c0_i32_5100 : BitVec 32 := 0#32
  let v6544 : BitVec 32 := Scalar.addi v6543 c0_i32_5100
  let c4_i32_5101 : BitVec 32 := 4#32
  let v6545 : BitVec 32 := Scalar.subi v6544 c4_i32_5101
  let v6546 : BitVec 32 := Scalar.maxsi c0_i32_5102 v6545
  let v6547 : BitVec 32 := Scalar.minsi c120_i32_5103 v6546
  let c64_i32_5104 : BitVec 32 := 64#32
  let v6548 : BitVec 32 := Scalar.muli v6547 c64_i32_5104
  v6548
def k0_mult282 : BitVec 32 :=
  let c2_i32_5097 : BitVec 32 := 2#32
  let c62_i32_5096 : BitVec 32 := 62#32
  let c0_i32_126 : BitVec 32 := 0#32
  let v6539 : BitVec 32 := Scalar.muli c62_i32_5096 c0_i32_126
  let v6540 : BitVec 32 := Scalar.addi c2_i32_5097 v6539
  let c35_i32 : BitVec 32 := 35#32
  let v6541 : BitVec 32 := Scalar.addi v6540 c35_i32
  let c2_i32_5098 : BitVec 32 := 2#32
  let v6542 : BitVec 32 := Scalar.subi v6541 c2_i32_5098
  let c2_i32_5099 : BitVec 32 := 2#32
  let v6543 : BitVec 32 := Scalar.muli v6542 c2_i32_5099
  let c0_i32_5100 : BitVec 32 := 0#32
  let v6544 : BitVec 32 := Scalar.addi v6543 c0_i32_5100
  let c64_i32_5116 : BitVec 32 := 64#32
  let v6563 : BitVec 32 := Scalar.muli v6544 c64_i32_5116
  v6563
def k0_mult283 : BitVec 32 :=
  let c120_i32_5123 : BitVec 32 := 120#32
  let c0_i32_5122 : BitVec 32 := 0#32
  let c2_i32_5097 : BitVec 32 := 2#32
  let c62_i32_5096 : BitVec 32 := 62#32
  let c0_i32_126 : BitVec 32 := 0#32
  let v6539 : BitVec 32 := Scalar.muli c62_i32_5096 c0_i32_126
  let v6540 : BitVec 32 := Scalar.addi c2_i32_5097 v6539
  let c35_i32 : BitVec 32 := 35#32
  let v6541 : BitVec 32 := Scalar.addi v6540 c35_i32
  let c2_i32_5119 : BitVec 32 := 2#32
  let v6569 : BitVec 32 := Scalar.muli v6541 c2_i32_5119
  let c0_i32_5120 : BitVec 32 := 0#32
  let v6570 : BitVec 32 := Scalar.addi v6569 c0_i32_5120
  let c4_i32_5121 : BitVec 32 := 4#32
  let v6571 : BitVec 32 := Scalar.subi v6570 c4_i32_5121
  let v6572 : BitVec 32 := Scalar.maxsi c0_i32_5122 v6571
  let v6573 : BitVec 32 := Scalar.minsi c120_i32_5123 v6572
  let c64_i32_5124 : BitVec 32 := 64#32
  let v6574 : BitVec 32 := Scalar.muli v6573 c64_i32_5124
  v6574
def k0_mult284 : BitVec 32 :=
  let c2_i32_5097 : BitVec 32 := 2#32
  let c62_i32_5096 : BitVec 32 := 62#32
  let c0_i32_126 : BitVec 32 := 0#32
  let v6539 : BitVec 32 := Scalar.muli c62_i32_5096 c0_i32_126
  let v6540 : BitVec 32 := Scalar.addi c2_i32_5097 v6539
  let c35_i32 : BitVec 32 := 35#32
  let v6541 : BitVec 32 := Scalar.addi v6540 c35_i32
  let c2_i32_5119 : BitVec 32 := 2#32
  let v6569 : BitVec 32 := Scalar.muli v6541 c2_i32_5119
  let c0_i32_5120 : BitVec 32 := 0#32
  let v6570 : BitVec 32 := Scalar.addi v6569 c0_i32_5120
  let c64_i32_5126 : BitVec 32 := 64#32
  let v6578 : BitVec 32 := Scalar.muli v6570 c64_i32_5126
  v6578
def k0_mult285 : BitVec 32 :=
  let c120_i32_5173 : BitVec 32 := 120#32
  let c0_i32_5172 : BitVec 32 := 0#32
  let c2_i32_5097 : BitVec 32 := 2#32
  let c62_i32_5096 : BitVec 32 := 62#32
  let c0_i32_126 : BitVec 32 := 0#32
  let v6539 : BitVec 32 := Scalar.muli c62_i32_5096 c0_i32_126
  let v6540 : BitVec 32 := Scalar.addi c2_i32_5097 v6539
  let c35_i32 : BitVec 32 := 35#32
  let v6541 : BitVec 32 := Scalar.addi v6540 c35_i32
  let c2_i32_5168 : BitVec 32 := 2#32
  let v6632 : BitVec 32 := Scalar.subi v6541 c2_i32_5168
  let c2_i32_5169 : BitVec 32 := 2#32
  let v6633 : BitVec 32 := Scalar.muli v6632 c2_i32_5169
  let c1_i32_5170 : BitVec 32 := 1#32
  let v6634 : BitVec 32 := Scalar.addi v6633 c1_i32_5170
  let c4_i32_5171 : BitVec 32 := 4#32
  let v6635 : BitVec 32 := Scalar.subi v6634 c4_i32_5171
  let v6636 : BitVec 32 := Scalar.maxsi c0_i32_5172 v6635
  let v6637 : BitVec 32 := Scalar.minsi c120_i32_5173 v6636
  let c64_i32_5174 : BitVec 32 := 64#32
  let v6638 : BitVec 32 := Scalar.muli v6637 c64_i32_5174
  v6638
def k0_mult286 : BitVec 32 :=
  let c2_i32_5097 : BitVec 32 := 2#32
  let c62_i32_5096 : BitVec 32 := 62#32
  let c0_i32_126 : BitVec 32 := 0#32
  let v6539 : BitVec 32 := Scalar.muli c62_i32_5096 c0_i32_126
  let v6540 : BitVec 32 := Scalar.addi c2_i32_5097 v6539
  let c35_i32 : BitVec 32 := 35#32
  let v6541 : BitVec 32 := Scalar.addi v6540 c35_i32
  let c2_i32_5168 : BitVec 32 := 2#32
  let v6632 : BitVec 32 := Scalar.subi v6541 c2_i32_5168
  let c2_i32_5169 : BitVec 32 := 2#32
  let v6633 : BitVec 32 := Scalar.muli v6632 c2_i32_5169
  let c1_i32_5170 : BitVec 32 := 1#32
  let v6634 : BitVec 32 := Scalar.addi v6633 c1_i32_5170
  let c64_i32_5186 : BitVec 32 := 64#32
  let v6653 : BitVec 32 := Scalar.muli v6634 c64_i32_5186
  v6653
def k0_mult287 : BitVec 32 :=
  let c120_i32_5193 : BitVec 32 := 120#32
  let c0_i32_5192 : BitVec 32 := 0#32
  let c2_i32_5097 : BitVec 32 := 2#32
  let c62_i32_5096 : BitVec 32 := 62#32
  let c0_i32_126 : BitVec 32 := 0#32
  let v6539 : BitVec 32 := Scalar.muli c62_i32_5096 c0_i32_126
  let v6540 : BitVec 32 := Scalar.addi c2_i32_5097 v6539
  let c35_i32 : BitVec 32 := 35#32
  let v6541 : BitVec 32 := Scalar.addi v6540 c35_i32
  let c2_i32_5189 : BitVec 32 := 2#32
  let v6659 : BitVec 32 := Scalar.muli v6541 c2_i32_5189
  let c1_i32_5190 : BitVec 32 := 1#32
  let v6660 : BitVec 32 := Scalar.addi v6659 c1_i32_5190
  let c4_i32_5191 : BitVec 32 := 4#32
  let v6661 : BitVec 32 := Scalar.subi v6660 c4_i32_5191
  let v6662 : BitVec 32 := Scalar.maxsi c0_i32_5192 v6661
  let v6663 : BitVec 32 := Scalar.minsi c120_i32_5193 v6662
  let c64_i32_5194 : BitVec 32 := 64#32
  let v6664 : BitVec 32 := Scalar.muli v6663 c64_i32_5194
  v6664
def k0_mult288 : BitVec 32 :=
  let c2_i32_5097 : BitVec 32 := 2#32
  let c62_i32_5096 : BitVec 32 := 62#32
  let c0_i32_126 : BitVec 32 := 0#32
  let v6539 : BitVec 32 := Scalar.muli c62_i32_5096 c0_i32_126
  let v6540 : BitVec 32 := Scalar.addi c2_i32_5097 v6539
  let c35_i32 : BitVec 32 := 35#32
  let v6541 : BitVec 32 := Scalar.addi v6540 c35_i32
  let c2_i32_5189 : BitVec 32 := 2#32
  let v6659 : BitVec 32 := Scalar.muli v6541 c2_i32_5189
  let c1_i32_5190 : BitVec 32 := 1#32
  let v6660 : BitVec 32 := Scalar.addi v6659 c1_i32_5190
  let c64_i32_5196 : BitVec 32 := 64#32
  let v6668 : BitVec 32 := Scalar.muli v6660 c64_i32_5196
  v6668
def k0_mult289 : BitVec 32 :=
  let c120_i32_5245 : BitVec 32 := 120#32
  let c0_i32_5244 : BitVec 32 := 0#32
  let c2_i32_5239 : BitVec 32 := 2#32
  let c62_i32_5238 : BitVec 32 := 62#32
  let c0_i32_126 : BitVec 32 := 0#32
  let v6722 : BitVec 32 := Scalar.muli c62_i32_5238 c0_i32_126
  let v6723 : BitVec 32 := Scalar.addi c2_i32_5239 v6722
  let c36_i32 : BitVec 32 := 36#32
  let v6724 : BitVec 32 := Scalar.addi v6723 c36_i32
  let c2_i32_5240 : BitVec 32 := 2#32
  let v6725 : BitVec 32 := Scalar.subi v6724 c2_i32_5240
  let c2_i32_5241 : BitVec 32 := 2#32
  let v6726 : BitVec 32 := Scalar.muli v6725 c2_i32_5241
  let c0_i32_5242 : BitVec 32 := 0#32
  let v6727 : BitVec 32 := Scalar.addi v6726 c0_i32_5242
  let c4_i32_5243 : BitVec 32 := 4#32
  let v6728 : BitVec 32 := Scalar.subi v6727 c4_i32_5243
  let v6729 : BitVec 32 := Scalar.maxsi c0_i32_5244 v6728
  let v6730 : BitVec 32 := Scalar.minsi c120_i32_5245 v6729
  let c64_i32_5246 : BitVec 32 := 64#32
  let v6731 : BitVec 32 := Scalar.muli v6730 c64_i32_5246
  v6731
def k0_mult290 : BitVec 32 :=
  let c2_i32_5239 : BitVec 32 := 2#32
  let c62_i32_5238 : BitVec 32 := 62#32
  let c0_i32_126 : BitVec 32 := 0#32
  let v6722 : BitVec 32 := Scalar.muli c62_i32_5238 c0_i32_126
  let v6723 : BitVec 32 := Scalar.addi c2_i32_5239 v6722
  let c36_i32 : BitVec 32 := 36#32
  let v6724 : BitVec 32 := Scalar.addi v6723 c36_i32
  let c2_i32_5240 : BitVec 32 := 2#32
  let v6725 : BitVec 32 := Scalar.subi v6724 c2_i32_5240
  let c2_i32_5241 : BitVec 32 := 2#32
  let v6726 : BitVec 32 := Scalar.muli v6725 c2_i32_5241
  let c0_i32_5242 : BitVec 32 := 0#32
  let v6727 : BitVec 32 := Scalar.addi v6726 c0_i32_5242
  let c64_i32_5258 : BitVec 32 := 64#32
  let v6746 : BitVec 32 := Scalar.muli v6727 c64_i32_5258
  v6746
def k0_mult291 : BitVec 32 :=
  let c120_i32_5265 : BitVec 32 := 120#32
  let c0_i32_5264 : BitVec 32 := 0#32
  let c2_i32_5239 : BitVec 32 := 2#32
  let c62_i32_5238 : BitVec 32 := 62#32
  let c0_i32_126 : BitVec 32 := 0#32
  let v6722 : BitVec 32 := Scalar.muli c62_i32_5238 c0_i32_126
  let v6723 : BitVec 32 := Scalar.addi c2_i32_5239 v6722
  let c36_i32 : BitVec 32 := 36#32
  let v6724 : BitVec 32 := Scalar.addi v6723 c36_i32
  let c2_i32_5261 : BitVec 32 := 2#32
  let v6752 : BitVec 32 := Scalar.muli v6724 c2_i32_5261
  let c0_i32_5262 : BitVec 32 := 0#32
  let v6753 : BitVec 32 := Scalar.addi v6752 c0_i32_5262
  let c4_i32_5263 : BitVec 32 := 4#32
  let v6754 : BitVec 32 := Scalar.subi v6753 c4_i32_5263
  let v6755 : BitVec 32 := Scalar.maxsi c0_i32_5264 v6754
  let v6756 : BitVec 32 := Scalar.minsi c120_i32_5265 v6755
  let c64_i32_5266 : BitVec 32 := 64#32
  let v6757 : BitVec 32 := Scalar.muli v6756 c64_i32_5266
  v6757
def k0_mult292 : BitVec 32 :=
  let c2_i32_5239 : BitVec 32 := 2#32
  let c62_i32_5238 : BitVec 32 := 62#32
  let c0_i32_126 : BitVec 32 := 0#32
  let v6722 : BitVec 32 := Scalar.muli c62_i32_5238 c0_i32_126
  let v6723 : BitVec 32 := Scalar.addi c2_i32_5239 v6722
  let c36_i32 : BitVec 32 := 36#32
  let v6724 : BitVec 32 := Scalar.addi v6723 c36_i32
  let c2_i32_5261 : BitVec 32 := 2#32
  let v6752 : BitVec 32 := Scalar.muli v6724 c2_i32_5261
  let c0_i32_5262 : BitVec 32 := 0#32
  let v6753 : BitVec 32 := Scalar.addi v6752 c0_i32_5262
  let c64_i32_5268 : BitVec 32 := 64#32
  let v6761 : BitVec 32 := Scalar.muli v6753 c64_i32_5268
  v6761
def k0_mult293 : BitVec 32 :=
  let c120_i32_5315 : BitVec 32 := 120#32
  let c0_i32_5314 : BitVec 32 := 0#32
  let c2_i32_5239 : BitVec 32 := 2#32
  let c62_i32_5238 : BitVec 32 := 62#32
  let c0_i32_126 : BitVec 32 := 0#32
  let v6722 : BitVec 32 := Scalar.muli c62_i32_5238 c0_i32_126
  let v6723 : BitVec 32 := Scalar.addi c2_i32_5239 v6722
  let c36_i32 : BitVec 32 := 36#32
  let v6724 : BitVec 32 := Scalar.addi v6723 c36_i32
  let c2_i32_5310 : BitVec 32 := 2#32
  let v6815 : BitVec 32 := Scalar.subi v6724 c2_i32_5310
  let c2_i32_5311 : BitVec 32 := 2#32
  let v6816 : BitVec 32 := Scalar.muli v6815 c2_i32_5311
  let c1_i32_5312 : BitVec 32 := 1#32
  let v6817 : BitVec 32 := Scalar.addi v6816 c1_i32_5312
  let c4_i32_5313 : BitVec 32 := 4#32
  let v6818 : BitVec 32 := Scalar.subi v6817 c4_i32_5313
  let v6819 : BitVec 32 := Scalar.maxsi c0_i32_5314 v6818
  let v6820 : BitVec 32 := Scalar.minsi c120_i32_5315 v6819
  let c64_i32_5316 : BitVec 32 := 64#32
  let v6821 : BitVec 32 := Scalar.muli v6820 c64_i32_5316
  v6821
def k0_mult294 : BitVec 32 :=
  let c2_i32_5239 : BitVec 32 := 2#32
  let c62_i32_5238 : BitVec 32 := 62#32
  let c0_i32_126 : BitVec 32 := 0#32
  let v6722 : BitVec 32 := Scalar.muli c62_i32_5238 c0_i32_126
  let v6723 : BitVec 32 := Scalar.addi c2_i32_5239 v6722
  let c36_i32 : BitVec 32 := 36#32
  let v6724 : BitVec 32 := Scalar.addi v6723 c36_i32
  let c2_i32_5310 : BitVec 32 := 2#32
  let v6815 : BitVec 32 := Scalar.subi v6724 c2_i32_5310
  let c2_i32_5311 : BitVec 32 := 2#32
  let v6816 : BitVec 32 := Scalar.muli v6815 c2_i32_5311
  let c1_i32_5312 : BitVec 32 := 1#32
  let v6817 : BitVec 32 := Scalar.addi v6816 c1_i32_5312
  let c64_i32_5328 : BitVec 32 := 64#32
  let v6836 : BitVec 32 := Scalar.muli v6817 c64_i32_5328
  v6836
def k0_mult295 : BitVec 32 :=
  let c120_i32_5335 : BitVec 32 := 120#32
  let c0_i32_5334 : BitVec 32 := 0#32
  let c2_i32_5239 : BitVec 32 := 2#32
  let c62_i32_5238 : BitVec 32 := 62#32
  let c0_i32_126 : BitVec 32 := 0#32
  let v6722 : BitVec 32 := Scalar.muli c62_i32_5238 c0_i32_126
  let v6723 : BitVec 32 := Scalar.addi c2_i32_5239 v6722
  let c36_i32 : BitVec 32 := 36#32
  let v6724 : BitVec 32 := Scalar.addi v6723 c36_i32
  let c2_i32_5331 : BitVec 32 := 2#32
  let v6842 : BitVec 32 := Scalar.muli v6724 c2_i32_5331
  let c1_i32_5332 : BitVec 32 := 1#32
  let v6843 : BitVec 32 := Scalar.addi v6842 c1_i32_5332
  let c4_i32_5333 : BitVec 32 := 4#32
  let v6844 : BitVec 32 := Scalar.subi v6843 c4_i32_5333
  let v6845 : BitVec 32 := Scalar.maxsi c0_i32_5334 v6844
  let v6846 : BitVec 32 := Scalar.minsi c120_i32_5335 v6845
  let c64_i32_5336 : BitVec 32 := 64#32
  let v6847 : BitVec 32 := Scalar.muli v6846 c64_i32_5336
  v6847
def k0_mult296 : BitVec 32 :=
  let c2_i32_5239 : BitVec 32 := 2#32
  let c62_i32_5238 : BitVec 32 := 62#32
  let c0_i32_126 : BitVec 32 := 0#32
  let v6722 : BitVec 32 := Scalar.muli c62_i32_5238 c0_i32_126
  let v6723 : BitVec 32 := Scalar.addi c2_i32_5239 v6722
  let c36_i32 : BitVec 32 := 36#32
  let v6724 : BitVec 32 := Scalar.addi v6723 c36_i32
  let c2_i32_5331 : BitVec 32 := 2#32
  let v6842 : BitVec 32 := Scalar.muli v6724 c2_i32_5331
  let c1_i32_5332 : BitVec 32 := 1#32
  let v6843 : BitVec 32 := Scalar.addi v6842 c1_i32_5332
  let c64_i32_5338 : BitVec 32 := 64#32
  let v6851 : BitVec 32 := Scalar.muli v6843 c64_i32_5338
  v6851
def k0_mult297 : BitVec 32 :=
  let c120_i32_5387 : BitVec 32 := 120#32
  let c0_i32_5386 : BitVec 32 := 0#32
  let c2_i32_5381 : BitVec 32 := 2#32
  let c62_i32_5380 : BitVec 32 := 62#32
  let c0_i32_126 : BitVec 32 := 0#32
  let v6905 : BitVec 32 := Scalar.muli c62_i32_5380 c0_i32_126
  let v6906 : BitVec 32 := Scalar.addi c2_i32_5381 v6905
  let c37_i32 : BitVec 32 := 37#32
  let v6907 : BitVec 32 := Scalar.addi v6906 c37_i32
  let c2_i32_5382 : BitVec 32 := 2#32
  let v6908 : BitVec 32 := Scalar.subi v6907 c2_i32_5382
  let c2_i32_5383 : BitVec 32 := 2#32
  let v6909 : BitVec 32 := Scalar.muli v6908 c2_i32_5383
  let c0_i32_5384 : BitVec 32 := 0#32
  let v6910 : BitVec 32 := Scalar.addi v6909 c0_i32_5384
  let c4_i32_5385 : BitVec 32 := 4#32
  let v6911 : BitVec 32 := Scalar.subi v6910 c4_i32_5385
  let v6912 : BitVec 32 := Scalar.maxsi c0_i32_5386 v6911
  let v6913 : BitVec 32 := Scalar.minsi c120_i32_5387 v6912
  let c64_i32_5388 : BitVec 32 := 64#32
  let v6914 : BitVec 32 := Scalar.muli v6913 c64_i32_5388
  v6914
def k0_mult298 : BitVec 32 :=
  let c2_i32_5381 : BitVec 32 := 2#32
  let c62_i32_5380 : BitVec 32 := 62#32
  let c0_i32_126 : BitVec 32 := 0#32
  let v6905 : BitVec 32 := Scalar.muli c62_i32_5380 c0_i32_126
  let v6906 : BitVec 32 := Scalar.addi c2_i32_5381 v6905
  let c37_i32 : BitVec 32 := 37#32
  let v6907 : BitVec 32 := Scalar.addi v6906 c37_i32
  let c2_i32_5382 : BitVec 32 := 2#32
  let v6908 : BitVec 32 := Scalar.subi v6907 c2_i32_5382
  let c2_i32_5383 : BitVec 32 := 2#32
  let v6909 : BitVec 32 := Scalar.muli v6908 c2_i32_5383
  let c0_i32_5384 : BitVec 32 := 0#32
  let v6910 : BitVec 32 := Scalar.addi v6909 c0_i32_5384
  let c64_i32_5400 : BitVec 32 := 64#32
  let v6929 : BitVec 32 := Scalar.muli v6910 c64_i32_5400
  v6929
def k0_mult299 : BitVec 32 :=
  let c120_i32_5407 : BitVec 32 := 120#32
  let c0_i32_5406 : BitVec 32 := 0#32
  let c2_i32_5381 : BitVec 32 := 2#32
  let c62_i32_5380 : BitVec 32 := 62#32
  let c0_i32_126 : BitVec 32 := 0#32
  let v6905 : BitVec 32 := Scalar.muli c62_i32_5380 c0_i32_126
  let v6906 : BitVec 32 := Scalar.addi c2_i32_5381 v6905
  let c37_i32 : BitVec 32 := 37#32
  let v6907 : BitVec 32 := Scalar.addi v6906 c37_i32
  let c2_i32_5403 : BitVec 32 := 2#32
  let v6935 : BitVec 32 := Scalar.muli v6907 c2_i32_5403
  let c0_i32_5404 : BitVec 32 := 0#32
  let v6936 : BitVec 32 := Scalar.addi v6935 c0_i32_5404
  let c4_i32_5405 : BitVec 32 := 4#32
  let v6937 : BitVec 32 := Scalar.subi v6936 c4_i32_5405
  let v6938 : BitVec 32 := Scalar.maxsi c0_i32_5406 v6937
  let v6939 : BitVec 32 := Scalar.minsi c120_i32_5407 v6938
  let c64_i32_5408 : BitVec 32 := 64#32
  let v6940 : BitVec 32 := Scalar.muli v6939 c64_i32_5408
  v6940
def k0_mult300 : BitVec 32 :=
  let c2_i32_5381 : BitVec 32 := 2#32
  let c62_i32_5380 : BitVec 32 := 62#32
  let c0_i32_126 : BitVec 32 := 0#32
  let v6905 : BitVec 32 := Scalar.muli c62_i32_5380 c0_i32_126
  let v6906 : BitVec 32 := Scalar.addi c2_i32_5381 v6905
  let c37_i32 : BitVec 32 := 37#32
  let v6907 : BitVec 32 := Scalar.addi v6906 c37_i32
  let c2_i32_5403 : BitVec 32 := 2#32
  let v6935 : BitVec 32 := Scalar.muli v6907 c2_i32_5403
  let c0_i32_5404 : BitVec 32 := 0#32
  let v6936 : BitVec 32 := Scalar.addi v6935 c0_i32_5404
  let c64_i32_5410 : BitVec 32 := 64#32
  let v6944 : BitVec 32 := Scalar.muli v6936 c64_i32_5410
  v6944
def k0_mult301 : BitVec 32 :=
  let c120_i32_5457 : BitVec 32 := 120#32
  let c0_i32_5456 : BitVec 32 := 0#32
  let c2_i32_5381 : BitVec 32 := 2#32
  let c62_i32_5380 : BitVec 32 := 62#32
  let c0_i32_126 : BitVec 32 := 0#32
  let v6905 : BitVec 32 := Scalar.muli c62_i32_5380 c0_i32_126
  let v6906 : BitVec 32 := Scalar.addi c2_i32_5381 v6905
  let c37_i32 : BitVec 32 := 37#32
  let v6907 : BitVec 32 := Scalar.addi v6906 c37_i32
  let c2_i32_5452 : BitVec 32 := 2#32
  let v6998 : BitVec 32 := Scalar.subi v6907 c2_i32_5452
  let c2_i32_5453 : BitVec 32 := 2#32
  let v6999 : BitVec 32 := Scalar.muli v6998 c2_i32_5453
  let c1_i32_5454 : BitVec 32 := 1#32
  let v7000 : BitVec 32 := Scalar.addi v6999 c1_i32_5454
  let c4_i32_5455 : BitVec 32 := 4#32
  let v7001 : BitVec 32 := Scalar.subi v7000 c4_i32_5455
  let v7002 : BitVec 32 := Scalar.maxsi c0_i32_5456 v7001
  let v7003 : BitVec 32 := Scalar.minsi c120_i32_5457 v7002
  let c64_i32_5458 : BitVec 32 := 64#32
  let v7004 : BitVec 32 := Scalar.muli v7003 c64_i32_5458
  v7004
def k0_mult302 : BitVec 32 :=
  let c2_i32_5381 : BitVec 32 := 2#32
  let c62_i32_5380 : BitVec 32 := 62#32
  let c0_i32_126 : BitVec 32 := 0#32
  let v6905 : BitVec 32 := Scalar.muli c62_i32_5380 c0_i32_126
  let v6906 : BitVec 32 := Scalar.addi c2_i32_5381 v6905
  let c37_i32 : BitVec 32 := 37#32
  let v6907 : BitVec 32 := Scalar.addi v6906 c37_i32
  let c2_i32_5452 : BitVec 32 := 2#32
  let v6998 : BitVec 32 := Scalar.subi v6907 c2_i32_5452
  let c2_i32_5453 : BitVec 32 := 2#32
  let v6999 : BitVec 32 := Scalar.muli v6998 c2_i32_5453
  let c1_i32_5454 : BitVec 32 := 1#32
  let v7000 : BitVec 32 := Scalar.addi v6999 c1_i32_5454
  let c64_i32_5470 : BitVec 32 := 64#32
  let v7019 : BitVec 32 := Scalar.muli v7000 c64_i32_5470
  v7019
def k0_mult303 : BitVec 32 :=
  let c120_i32_5477 : BitVec 32 := 120#32
  let c0_i32_5476 : BitVec 32 := 0#32
  let c2_i32_5381 : BitVec 32 := 2#32
  let c62_i32_5380 : BitVec 32 := 62#32
  let c0_i32_126 : BitVec 32 := 0#32
  let v6905 : BitVec 32 := Scalar.muli c62_i32_5380 c0_i32_126
  let v6906 : BitVec 32 := Scalar.addi c2_i32_5381 v6905
  let c37_i32 : BitVec 32 := 37#32
  let v6907 : BitVec 32 := Scalar.addi v6906 c37_i32
  let c2_i32_5473 : BitVec 32 := 2#32
  let v7025 : BitVec 32 := Scalar.muli v6907 c2_i32_5473
  let c1_i32_5474 : BitVec 32 := 1#32
  let v7026 : BitVec 32 := Scalar.addi v7025 c1_i32_5474
  let c4_i32_5475 : BitVec 32 := 4#32
  let v7027 : BitVec 32 := Scalar.subi v7026 c4_i32_5475
  let v7028 : BitVec 32 := Scalar.maxsi c0_i32_5476 v7027
  let v7029 : BitVec 32 := Scalar.minsi c120_i32_5477 v7028
  let c64_i32_5478 : BitVec 32 := 64#32
  let v7030 : BitVec 32 := Scalar.muli v7029 c64_i32_5478
  v7030
def k0_mult304 : BitVec 32 :=
  let c2_i32_5381 : BitVec 32 := 2#32
  let c62_i32_5380 : BitVec 32 := 62#32
  let c0_i32_126 : BitVec 32 := 0#32
  let v6905 : BitVec 32 := Scalar.muli c62_i32_5380 c0_i32_126
  let v6906 : BitVec 32 := Scalar.addi c2_i32_5381 v6905
  let c37_i32 : BitVec 32 := 37#32
  let v6907 : BitVec 32 := Scalar.addi v6906 c37_i32
  let c2_i32_5473 : BitVec 32 := 2#32
  let v7025 : BitVec 32 := Scalar.muli v6907 c2_i32_5473
  let c1_i32_5474 : BitVec 32 := 1#32
  let v7026 : BitVec 32 := Scalar.addi v7025 c1_i32_5474
  let c64_i32_5480 : BitVec 32 := 64#32
  let v7034 : BitVec 32 := Scalar.muli v7026 c64_i32_5480
  v7034
def k0_mult305 : BitVec 32 :=
  let c120_i32_5529 : BitVec 32 := 120#32
  let c0_i32_5528 : BitVec 32 := 0#32
  let c2_i32_5523 : BitVec 32 := 2#32
  let c62_i32_5522 : BitVec 32 := 62#32
  let c0_i32_126 : BitVec 32 := 0#32
  let v7088 : BitVec 32 := Scalar.muli c62_i32_5522 c0_i32_126
  let v7089 : BitVec 32 := Scalar.addi c2_i32_5523 v7088
  let c38_i32 : BitVec 32 := 38#32
  let v7090 : BitVec 32 := Scalar.addi v7089 c38_i32
  let c2_i32_5524 : BitVec 32 := 2#32
  let v7091 : BitVec 32 := Scalar.subi v7090 c2_i32_5524
  let c2_i32_5525 : BitVec 32 := 2#32
  let v7092 : BitVec 32 := Scalar.muli v7091 c2_i32_5525
  let c0_i32_5526 : BitVec 32 := 0#32
  let v7093 : BitVec 32 := Scalar.addi v7092 c0_i32_5526
  let c4_i32_5527 : BitVec 32 := 4#32
  let v7094 : BitVec 32 := Scalar.subi v7093 c4_i32_5527
  let v7095 : BitVec 32 := Scalar.maxsi c0_i32_5528 v7094
  let v7096 : BitVec 32 := Scalar.minsi c120_i32_5529 v7095
  let c64_i32_5530 : BitVec 32 := 64#32
  let v7097 : BitVec 32 := Scalar.muli v7096 c64_i32_5530
  v7097
def k0_mult306 : BitVec 32 :=
  let c2_i32_5523 : BitVec 32 := 2#32
  let c62_i32_5522 : BitVec 32 := 62#32
  let c0_i32_126 : BitVec 32 := 0#32
  let v7088 : BitVec 32 := Scalar.muli c62_i32_5522 c0_i32_126
  let v7089 : BitVec 32 := Scalar.addi c2_i32_5523 v7088
  let c38_i32 : BitVec 32 := 38#32
  let v7090 : BitVec 32 := Scalar.addi v7089 c38_i32
  let c2_i32_5524 : BitVec 32 := 2#32
  let v7091 : BitVec 32 := Scalar.subi v7090 c2_i32_5524
  let c2_i32_5525 : BitVec 32 := 2#32
  let v7092 : BitVec 32 := Scalar.muli v7091 c2_i32_5525
  let c0_i32_5526 : BitVec 32 := 0#32
  let v7093 : BitVec 32 := Scalar.addi v7092 c0_i32_5526
  let c64_i32_5542 : BitVec 32 := 64#32
  let v7112 : BitVec 32 := Scalar.muli v7093 c64_i32_5542
  v7112
def k0_mult307 : BitVec 32 :=
  let c120_i32_5549 : BitVec 32 := 120#32
  let c0_i32_5548 : BitVec 32 := 0#32
  let c2_i32_5523 : BitVec 32 := 2#32
  let c62_i32_5522 : BitVec 32 := 62#32
  let c0_i32_126 : BitVec 32 := 0#32
  let v7088 : BitVec 32 := Scalar.muli c62_i32_5522 c0_i32_126
  let v7089 : BitVec 32 := Scalar.addi c2_i32_5523 v7088
  let c38_i32 : BitVec 32 := 38#32
  let v7090 : BitVec 32 := Scalar.addi v7089 c38_i32
  let c2_i32_5545 : BitVec 32 := 2#32
  let v7118 : BitVec 32 := Scalar.muli v7090 c2_i32_5545
  let c0_i32_5546 : BitVec 32 := 0#32
  let v7119 : BitVec 32 := Scalar.addi v7118 c0_i32_5546
  let c4_i32_5547 : BitVec 32 := 4#32
  let v7120 : BitVec 32 := Scalar.subi v7119 c4_i32_5547
  let v7121 : BitVec 32 := Scalar.maxsi c0_i32_5548 v7120
  let v7122 : BitVec 32 := Scalar.minsi c120_i32_5549 v7121
  let c64_i32_5550 : BitVec 32 := 64#32
  let v7123 : BitVec 32 := Scalar.muli v7122 c64_i32_5550
  v7123
def k0_mult308 : BitVec 32 :=
  let c2_i32_5523 : BitVec 32 := 2#32
  let c62_i32_5522 : BitVec 32 := 62#32
  let c0_i32_126 : BitVec 32 := 0#32
  let v7088 : BitVec 32 := Scalar.muli c62_i32_5522 c0_i32_126
  let v7089 : BitVec 32 := Scalar.addi c2_i32_5523 v7088
  let c38_i32 : BitVec 32 := 38#32
  let v7090 : BitVec 32 := Scalar.addi v7089 c38_i32
  let c2_i32_5545 : BitVec 32 := 2#32
  let v7118 : BitVec 32 := Scalar.muli v7090 c2_i32_5545
  let c0_i32_5546 : BitVec 32 := 0#32
  let v7119 : BitVec 32 := Scalar.addi v7118 c0_i32_5546
  let c64_i32_5552 : BitVec 32 := 64#32
  let v7127 : BitVec 32 := Scalar.muli v7119 c64_i32_5552
  v7127
def k0_mult309 : BitVec 32 :=
  let c120_i32_5599 : BitVec 32 := 120#32
  let c0_i32_5598 : BitVec 32 := 0#32
  let c2_i32_5523 : BitVec 32 := 2#32
  let c62_i32_5522 : BitVec 32 := 62#32
  let c0_i32_126 : BitVec 32 := 0#32
  let v7088 : BitVec 32 := Scalar.muli c62_i32_5522 c0_i32_126
  let v7089 : BitVec 32 := Scalar.addi c2_i32_5523 v7088
  let c38_i32 : BitVec 32 := 38#32
  let v7090 : BitVec 32 := Scalar.addi v7089 c38_i32
  let c2_i32_5594 : BitVec 32 := 2#32
  let v7181 : BitVec 32 := Scalar.subi v7090 c2_i32_5594
  let c2_i32_5595 : BitVec 32 := 2#32
  let v7182 : BitVec 32 := Scalar.muli v7181 c2_i32_5595
  let c1_i32_5596 : BitVec 32 := 1#32
  let v7183 : BitVec 32 := Scalar.addi v7182 c1_i32_5596
  let c4_i32_5597 : BitVec 32 := 4#32
  let v7184 : BitVec 32 := Scalar.subi v7183 c4_i32_5597
  let v7185 : BitVec 32 := Scalar.maxsi c0_i32_5598 v7184
  let v7186 : BitVec 32 := Scalar.minsi c120_i32_5599 v7185
  let c64_i32_5600 : BitVec 32 := 64#32
  let v7187 : BitVec 32 := Scalar.muli v7186 c64_i32_5600
  v7187
def k0_mult310 : BitVec 32 :=
  let c2_i32_5523 : BitVec 32 := 2#32
  let c62_i32_5522 : BitVec 32 := 62#32
  let c0_i32_126 : BitVec 32 := 0#32
  let v7088 : BitVec 32 := Scalar.muli c62_i32_5522 c0_i32_126
  let v7089 : BitVec 32 := Scalar.addi c2_i32_5523 v7088
  let c38_i32 : BitVec 32 := 38#32
  let v7090 : BitVec 32 := Scalar.addi v7089 c38_i32
  let c2_i32_5594 : BitVec 32 := 2#32
  let v7181 : BitVec 32 := Scalar.subi v7090 c2_i32_5594
  let c2_i32_5595 : BitVec 32 := 2#32
  let v7182 : BitVec 32 := Scalar.muli v7181 c2_i32_5595
  let c1_i32_5596 : BitVec 32 := 1#32
  let v7183 : BitVec 32 := Scalar.addi v7182 c1_i32_5596
  let c64_i32_5612 : BitVec 32 := 64#32
  let v7202 : BitVec 32 := Scalar.muli v7183 c64_i32_5612
  v7202
def k0_mult311 : BitVec 32 :=
  let c120_i32_5619 : BitVec 32 := 120#32
  let c0_i32_5618 : BitVec 32 := 0#32
  let c2_i32_5523 : BitVec 32 := 2#32
  let c62_i32_5522 : BitVec 32 := 62#32
  let c0_i32_126 : BitVec 32 := 0#32
  let v7088 : BitVec 32 := Scalar.muli c62_i32_5522 c0_i32_126
  let v7089 : BitVec 32 := Scalar.addi c2_i32_5523 v7088
  let c38_i32 : BitVec 32 := 38#32
  let v7090 : BitVec 32 := Scalar.addi v7089 c38_i32
  let c2_i32_5615 : BitVec 32 := 2#32
  let v7208 : BitVec 32 := Scalar.muli v7090 c2_i32_5615
  let c1_i32_5616 : BitVec 32 := 1#32
  let v7209 : BitVec 32 := Scalar.addi v7208 c1_i32_5616
  let c4_i32_5617 : BitVec 32 := 4#32
  let v7210 : BitVec 32 := Scalar.subi v7209 c4_i32_5617
  let v7211 : BitVec 32 := Scalar.maxsi c0_i32_5618 v7210
  let v7212 : BitVec 32 := Scalar.minsi c120_i32_5619 v7211
  let c64_i32_5620 : BitVec 32 := 64#32
  let v7213 : BitVec 32 := Scalar.muli v7212 c64_i32_5620
  v7213
def k0_mult312 : BitVec 32 :=
  let c2_i32_5523 : BitVec 32 := 2#32
  let c62_i32_5522 : BitVec 32 := 62#32
  let c0_i32_126 : BitVec 32 := 0#32
  let v7088 : BitVec 32 := Scalar.muli c62_i32_5522 c0_i32_126
  let v7089 : BitVec 32 := Scalar.addi c2_i32_5523 v7088
  let c38_i32 : BitVec 32 := 38#32
  let v7090 : BitVec 32 := Scalar.addi v7089 c38_i32
  let c2_i32_5615 : BitVec 32 := 2#32
  let v7208 : BitVec 32 := Scalar.muli v7090 c2_i32_5615
  let c1_i32_5616 : BitVec 32 := 1#32
  let v7209 : BitVec 32 := Scalar.addi v7208 c1_i32_5616
  let c64_i32_5622 : BitVec 32 := 64#32
  let v7217 : BitVec 32 := Scalar.muli v7209 c64_i32_5622
  v7217
def k0_mult313 : BitVec 32 :=
  let c120_i32_5671 : BitVec 32 := 120#32
  let c0_i32_5670 : BitVec 32 := 0#32
  let c2_i32_5665 : BitVec 32 := 2#32
  let c62_i32_5664 : BitVec 32 := 62#32
  let c0_i32_126 : BitVec 32 := 0#32
  let v7271 : BitVec 32 := Scalar.muli c62_i32_5664 c0_i32_126
  let v7272 : BitVec 32 := Scalar.addi c2_i32_5665 v7271
  let c39_i32 : BitVec 32 := 39#32
  let v7273 : BitVec 32 := Scalar.addi v7272 c39_i32
  let c2_i32_5666 : BitVec 32 := 2#32
  let v7274 : BitVec 32 := Scalar.subi v7273 c2_i32_5666
  let c2_i32_5667 : BitVec 32 := 2#32
  let v7275 : BitVec 32 := Scalar.muli v7274 c2_i32_5667
  let c0_i32_5668 : BitVec 32 := 0#32
  let v7276 : BitVec 32 := Scalar.addi v7275 c0_i32_5668
  let c4_i32_5669 : BitVec 32 := 4#32
  let v7277 : BitVec 32 := Scalar.subi v7276 c4_i32_5669
  let v7278 : BitVec 32 := Scalar.maxsi c0_i32_5670 v7277
  let v7279 : BitVec 32 := Scalar.minsi c120_i32_5671 v7278
  let c64_i32_5672 : BitVec 32 := 64#32
  let v7280 : BitVec 32 := Scalar.muli v7279 c64_i32_5672
  v7280
def k0_mult314 : BitVec 32 :=
  let c2_i32_5665 : BitVec 32 := 2#32
  let c62_i32_5664 : BitVec 32 := 62#32
  let c0_i32_126 : BitVec 32 := 0#32
  let v7271 : BitVec 32 := Scalar.muli c62_i32_5664 c0_i32_126
  let v7272 : BitVec 32 := Scalar.addi c2_i32_5665 v7271
  let c39_i32 : BitVec 32 := 39#32
  let v7273 : BitVec 32 := Scalar.addi v7272 c39_i32
  let c2_i32_5666 : BitVec 32 := 2#32
  let v7274 : BitVec 32 := Scalar.subi v7273 c2_i32_5666
  let c2_i32_5667 : BitVec 32 := 2#32
  let v7275 : BitVec 32 := Scalar.muli v7274 c2_i32_5667
  let c0_i32_5668 : BitVec 32 := 0#32
  let v7276 : BitVec 32 := Scalar.addi v7275 c0_i32_5668
  let c64_i32_5684 : BitVec 32 := 64#32
  let v7295 : BitVec 32 := Scalar.muli v7276 c64_i32_5684
  v7295
def k0_mult315 : BitVec 32 :=
  let c120_i32_5691 : BitVec 32 := 120#32
  let c0_i32_5690 : BitVec 32 := 0#32
  let c2_i32_5665 : BitVec 32 := 2#32
  let c62_i32_5664 : BitVec 32 := 62#32
  let c0_i32_126 : BitVec 32 := 0#32
  let v7271 : BitVec 32 := Scalar.muli c62_i32_5664 c0_i32_126
  let v7272 : BitVec 32 := Scalar.addi c2_i32_5665 v7271
  let c39_i32 : BitVec 32 := 39#32
  let v7273 : BitVec 32 := Scalar.addi v7272 c39_i32
  let c2_i32_5687 : BitVec 32 := 2#32
  let v7301 : BitVec 32 := Scalar.muli v7273 c2_i32_5687
  let c0_i32_5688 : BitVec 32 := 0#32
  let v7302 : BitVec 32 := Scalar.addi v7301 c0_i32_5688
  let c4_i32_5689 : BitVec 32 := 4#32
  let v7303 : BitVec 32 := Scalar.subi v7302 c4_i32_5689
  let v7304 : BitVec 32 := Scalar.maxsi c0_i32_5690 v7303
  let v7305 : BitVec 32 := Scalar.minsi c120_i32_5691 v7304
  let c64_i32_5692 : BitVec 32 := 64#32
  let v7306 : BitVec 32 := Scalar.muli v7305 c64_i32_5692
  v7306
def k0_mult316 : BitVec 32 :=
  let c2_i32_5665 : BitVec 32 := 2#32
  let c62_i32_5664 : BitVec 32 := 62#32
  let c0_i32_126 : BitVec 32 := 0#32
  let v7271 : BitVec 32 := Scalar.muli c62_i32_5664 c0_i32_126
  let v7272 : BitVec 32 := Scalar.addi c2_i32_5665 v7271
  let c39_i32 : BitVec 32 := 39#32
  let v7273 : BitVec 32 := Scalar.addi v7272 c39_i32
  let c2_i32_5687 : BitVec 32 := 2#32
  let v7301 : BitVec 32 := Scalar.muli v7273 c2_i32_5687
  let c0_i32_5688 : BitVec 32 := 0#32
  let v7302 : BitVec 32 := Scalar.addi v7301 c0_i32_5688
  let c64_i32_5694 : BitVec 32 := 64#32
  let v7310 : BitVec 32 := Scalar.muli v7302 c64_i32_5694
  v7310
def k0_mult317 : BitVec 32 :=
  let c120_i32_5741 : BitVec 32 := 120#32
  let c0_i32_5740 : BitVec 32 := 0#32
  let c2_i32_5665 : BitVec 32 := 2#32
  let c62_i32_5664 : BitVec 32 := 62#32
  let c0_i32_126 : BitVec 32 := 0#32
  let v7271 : BitVec 32 := Scalar.muli c62_i32_5664 c0_i32_126
  let v7272 : BitVec 32 := Scalar.addi c2_i32_5665 v7271
  let c39_i32 : BitVec 32 := 39#32
  let v7273 : BitVec 32 := Scalar.addi v7272 c39_i32
  let c2_i32_5736 : BitVec 32 := 2#32
  let v7364 : BitVec 32 := Scalar.subi v7273 c2_i32_5736
  let c2_i32_5737 : BitVec 32 := 2#32
  let v7365 : BitVec 32 := Scalar.muli v7364 c2_i32_5737
  let c1_i32_5738 : BitVec 32 := 1#32
  let v7366 : BitVec 32 := Scalar.addi v7365 c1_i32_5738
  let c4_i32_5739 : BitVec 32 := 4#32
  let v7367 : BitVec 32 := Scalar.subi v7366 c4_i32_5739
  let v7368 : BitVec 32 := Scalar.maxsi c0_i32_5740 v7367
  let v7369 : BitVec 32 := Scalar.minsi c120_i32_5741 v7368
  let c64_i32_5742 : BitVec 32 := 64#32
  let v7370 : BitVec 32 := Scalar.muli v7369 c64_i32_5742
  v7370
def k0_mult318 : BitVec 32 :=
  let c2_i32_5665 : BitVec 32 := 2#32
  let c62_i32_5664 : BitVec 32 := 62#32
  let c0_i32_126 : BitVec 32 := 0#32
  let v7271 : BitVec 32 := Scalar.muli c62_i32_5664 c0_i32_126
  let v7272 : BitVec 32 := Scalar.addi c2_i32_5665 v7271
  let c39_i32 : BitVec 32 := 39#32
  let v7273 : BitVec 32 := Scalar.addi v7272 c39_i32
  let c2_i32_5736 : BitVec 32 := 2#32
  let v7364 : BitVec 32 := Scalar.subi v7273 c2_i32_5736
  let c2_i32_5737 : BitVec 32 := 2#32
  let v7365 : BitVec 32 := Scalar.muli v7364 c2_i32_5737
  let c1_i32_5738 : BitVec 32 := 1#32
  let v7366 : BitVec 32 := Scalar.addi v7365 c1_i32_5738
  let c64_i32_5754 : BitVec 32 := 64#32
  let v7385 : BitVec 32 := Scalar.muli v7366 c64_i32_5754
  v7385
def k0_mult319 : BitVec 32 :=
  let c120_i32_5761 : BitVec 32 := 120#32
  let c0_i32_5760 : BitVec 32 := 0#32
  let c2_i32_5665 : BitVec 32 := 2#32
  let c62_i32_5664 : BitVec 32 := 62#32
  let c0_i32_126 : BitVec 32 := 0#32
  let v7271 : BitVec 32 := Scalar.muli c62_i32_5664 c0_i32_126
  let v7272 : BitVec 32 := Scalar.addi c2_i32_5665 v7271
  let c39_i32 : BitVec 32 := 39#32
  let v7273 : BitVec 32 := Scalar.addi v7272 c39_i32
  let c2_i32_5757 : BitVec 32 := 2#32
  let v7391 : BitVec 32 := Scalar.muli v7273 c2_i32_5757
  let c1_i32_5758 : BitVec 32 := 1#32
  let v7392 : BitVec 32 := Scalar.addi v7391 c1_i32_5758
  let c4_i32_5759 : BitVec 32 := 4#32
  let v7393 : BitVec 32 := Scalar.subi v7392 c4_i32_5759
  let v7394 : BitVec 32 := Scalar.maxsi c0_i32_5760 v7393
  let v7395 : BitVec 32 := Scalar.minsi c120_i32_5761 v7394
  let c64_i32_5762 : BitVec 32 := 64#32
  let v7396 : BitVec 32 := Scalar.muli v7395 c64_i32_5762
  v7396
def k0_mult320 : BitVec 32 :=
  let c2_i32_5665 : BitVec 32 := 2#32
  let c62_i32_5664 : BitVec 32 := 62#32
  let c0_i32_126 : BitVec 32 := 0#32
  let v7271 : BitVec 32 := Scalar.muli c62_i32_5664 c0_i32_126
  let v7272 : BitVec 32 := Scalar.addi c2_i32_5665 v7271
  let c39_i32 : BitVec 32 := 39#32
  let v7273 : BitVec 32 := Scalar.addi v7272 c39_i32
  let c2_i32_5757 : BitVec 32 := 2#32
  let v7391 : BitVec 32 := Scalar.muli v7273 c2_i32_5757
  let c1_i32_5758 : BitVec 32 := 1#32
  let v7392 : BitVec 32 := Scalar.addi v7391 c1_i32_5758
  let c64_i32_5764 : BitVec 32 := 64#32
  let v7400 : BitVec 32 := Scalar.muli v7392 c64_i32_5764
  v7400
def k0_mult321 : BitVec 32 :=
  let c120_i32_5813 : BitVec 32 := 120#32
  let c0_i32_5812 : BitVec 32 := 0#32
  let c2_i32_5807 : BitVec 32 := 2#32
  let c62_i32_5806 : BitVec 32 := 62#32
  let c0_i32_126 : BitVec 32 := 0#32
  let v7454 : BitVec 32 := Scalar.muli c62_i32_5806 c0_i32_126
  let v7455 : BitVec 32 := Scalar.addi c2_i32_5807 v7454
  let c40_i32 : BitVec 32 := 40#32
  let v7456 : BitVec 32 := Scalar.addi v7455 c40_i32
  let c2_i32_5808 : BitVec 32 := 2#32
  let v7457 : BitVec 32 := Scalar.subi v7456 c2_i32_5808
  let c2_i32_5809 : BitVec 32 := 2#32
  let v7458 : BitVec 32 := Scalar.muli v7457 c2_i32_5809
  let c0_i32_5810 : BitVec 32 := 0#32
  let v7459 : BitVec 32 := Scalar.addi v7458 c0_i32_5810
  let c4_i32_5811 : BitVec 32 := 4#32
  let v7460 : BitVec 32 := Scalar.subi v7459 c4_i32_5811
  let v7461 : BitVec 32 := Scalar.maxsi c0_i32_5812 v7460
  let v7462 : BitVec 32 := Scalar.minsi c120_i32_5813 v7461
  let c64_i32_5814 : BitVec 32 := 64#32
  let v7463 : BitVec 32 := Scalar.muli v7462 c64_i32_5814
  v7463
def k0_mult322 : BitVec 32 :=
  let c2_i32_5807 : BitVec 32 := 2#32
  let c62_i32_5806 : BitVec 32 := 62#32
  let c0_i32_126 : BitVec 32 := 0#32
  let v7454 : BitVec 32 := Scalar.muli c62_i32_5806 c0_i32_126
  let v7455 : BitVec 32 := Scalar.addi c2_i32_5807 v7454
  let c40_i32 : BitVec 32 := 40#32
  let v7456 : BitVec 32 := Scalar.addi v7455 c40_i32
  let c2_i32_5808 : BitVec 32 := 2#32
  let v7457 : BitVec 32 := Scalar.subi v7456 c2_i32_5808
  let c2_i32_5809 : BitVec 32 := 2#32
  let v7458 : BitVec 32 := Scalar.muli v7457 c2_i32_5809
  let c0_i32_5810 : BitVec 32 := 0#32
  let v7459 : BitVec 32 := Scalar.addi v7458 c0_i32_5810
  let c64_i32_5826 : BitVec 32 := 64#32
  let v7478 : BitVec 32 := Scalar.muli v7459 c64_i32_5826
  v7478
def k0_mult323 : BitVec 32 :=
  let c120_i32_5833 : BitVec 32 := 120#32
  let c0_i32_5832 : BitVec 32 := 0#32
  let c2_i32_5807 : BitVec 32 := 2#32
  let c62_i32_5806 : BitVec 32 := 62#32
  let c0_i32_126 : BitVec 32 := 0#32
  let v7454 : BitVec 32 := Scalar.muli c62_i32_5806 c0_i32_126
  let v7455 : BitVec 32 := Scalar.addi c2_i32_5807 v7454
  let c40_i32 : BitVec 32 := 40#32
  let v7456 : BitVec 32 := Scalar.addi v7455 c40_i32
  let c2_i32_5829 : BitVec 32 := 2#32
  let v7484 : BitVec 32 := Scalar.muli v7456 c2_i32_5829
  let c0_i32_5830 : BitVec 32 := 0#32
  let v7485 : BitVec 32 := Scalar.addi v7484 c0_i32_5830
  let c4_i32_5831 : BitVec 32 := 4#32
  let v7486 : BitVec 32 := Scalar.subi v7485 c4_i32_5831
  let v7487 : BitVec 32 := Scalar.maxsi c0_i32_5832 v7486
  let v7488 : BitVec 32 := Scalar.minsi c120_i32_5833 v7487
  let c64_i32_5834 : BitVec 32 := 64#32
  let v7489 : BitVec 32 := Scalar.muli v7488 c64_i32_5834
  v7489
def k0_mult324 : BitVec 32 :=
  let c2_i32_5807 : BitVec 32 := 2#32
  let c62_i32_5806 : BitVec 32 := 62#32
  let c0_i32_126 : BitVec 32 := 0#32
  let v7454 : BitVec 32 := Scalar.muli c62_i32_5806 c0_i32_126
  let v7455 : BitVec 32 := Scalar.addi c2_i32_5807 v7454
  let c40_i32 : BitVec 32 := 40#32
  let v7456 : BitVec 32 := Scalar.addi v7455 c40_i32
  let c2_i32_5829 : BitVec 32 := 2#32
  let v7484 : BitVec 32 := Scalar.muli v7456 c2_i32_5829
  let c0_i32_5830 : BitVec 32 := 0#32
  let v7485 : BitVec 32 := Scalar.addi v7484 c0_i32_5830
  let c64_i32_5836 : BitVec 32 := 64#32
  let v7493 : BitVec 32 := Scalar.muli v7485 c64_i32_5836
  v7493
def k0_mult325 : BitVec 32 :=
  let c120_i32_5883 : BitVec 32 := 120#32
  let c0_i32_5882 : BitVec 32 := 0#32
  let c2_i32_5807 : BitVec 32 := 2#32
  let c62_i32_5806 : BitVec 32 := 62#32
  let c0_i32_126 : BitVec 32 := 0#32
  let v7454 : BitVec 32 := Scalar.muli c62_i32_5806 c0_i32_126
  let v7455 : BitVec 32 := Scalar.addi c2_i32_5807 v7454
  let c40_i32 : BitVec 32 := 40#32
  let v7456 : BitVec 32 := Scalar.addi v7455 c40_i32
  let c2_i32_5878 : BitVec 32 := 2#32
  let v7547 : BitVec 32 := Scalar.subi v7456 c2_i32_5878
  let c2_i32_5879 : BitVec 32 := 2#32
  let v7548 : BitVec 32 := Scalar.muli v7547 c2_i32_5879
  let c1_i32_5880 : BitVec 32 := 1#32
  let v7549 : BitVec 32 := Scalar.addi v7548 c1_i32_5880
  let c4_i32_5881 : BitVec 32 := 4#32
  let v7550 : BitVec 32 := Scalar.subi v7549 c4_i32_5881
  let v7551 : BitVec 32 := Scalar.maxsi c0_i32_5882 v7550
  let v7552 : BitVec 32 := Scalar.minsi c120_i32_5883 v7551
  let c64_i32_5884 : BitVec 32 := 64#32
  let v7553 : BitVec 32 := Scalar.muli v7552 c64_i32_5884
  v7553
def k0_mult326 : BitVec 32 :=
  let c2_i32_5807 : BitVec 32 := 2#32
  let c62_i32_5806 : BitVec 32 := 62#32
  let c0_i32_126 : BitVec 32 := 0#32
  let v7454 : BitVec 32 := Scalar.muli c62_i32_5806 c0_i32_126
  let v7455 : BitVec 32 := Scalar.addi c2_i32_5807 v7454
  let c40_i32 : BitVec 32 := 40#32
  let v7456 : BitVec 32 := Scalar.addi v7455 c40_i32
  let c2_i32_5878 : BitVec 32 := 2#32
  let v7547 : BitVec 32 := Scalar.subi v7456 c2_i32_5878
  let c2_i32_5879 : BitVec 32 := 2#32
  let v7548 : BitVec 32 := Scalar.muli v7547 c2_i32_5879
  let c1_i32_5880 : BitVec 32 := 1#32
  let v7549 : BitVec 32 := Scalar.addi v7548 c1_i32_5880
  let c64_i32_5896 : BitVec 32 := 64#32
  let v7568 : BitVec 32 := Scalar.muli v7549 c64_i32_5896
  v7568
def k0_mult327 : BitVec 32 :=
  let c120_i32_5903 : BitVec 32 := 120#32
  let c0_i32_5902 : BitVec 32 := 0#32
  let c2_i32_5807 : BitVec 32 := 2#32
  let c62_i32_5806 : BitVec 32 := 62#32
  let c0_i32_126 : BitVec 32 := 0#32
  let v7454 : BitVec 32 := Scalar.muli c62_i32_5806 c0_i32_126
  let v7455 : BitVec 32 := Scalar.addi c2_i32_5807 v7454
  let c40_i32 : BitVec 32 := 40#32
  let v7456 : BitVec 32 := Scalar.addi v7455 c40_i32
  let c2_i32_5899 : BitVec 32 := 2#32
  let v7574 : BitVec 32 := Scalar.muli v7456 c2_i32_5899
  let c1_i32_5900 : BitVec 32 := 1#32
  let v7575 : BitVec 32 := Scalar.addi v7574 c1_i32_5900
  let c4_i32_5901 : BitVec 32 := 4#32
  let v7576 : BitVec 32 := Scalar.subi v7575 c4_i32_5901
  let v7577 : BitVec 32 := Scalar.maxsi c0_i32_5902 v7576
  let v7578 : BitVec 32 := Scalar.minsi c120_i32_5903 v7577
  let c64_i32_5904 : BitVec 32 := 64#32
  let v7579 : BitVec 32 := Scalar.muli v7578 c64_i32_5904
  v7579
def k0_mult328 : BitVec 32 :=
  let c2_i32_5807 : BitVec 32 := 2#32
  let c62_i32_5806 : BitVec 32 := 62#32
  let c0_i32_126 : BitVec 32 := 0#32
  let v7454 : BitVec 32 := Scalar.muli c62_i32_5806 c0_i32_126
  let v7455 : BitVec 32 := Scalar.addi c2_i32_5807 v7454
  let c40_i32 : BitVec 32 := 40#32
  let v7456 : BitVec 32 := Scalar.addi v7455 c40_i32
  let c2_i32_5899 : BitVec 32 := 2#32
  let v7574 : BitVec 32 := Scalar.muli v7456 c2_i32_5899
  let c1_i32_5900 : BitVec 32 := 1#32
  let v7575 : BitVec 32 := Scalar.addi v7574 c1_i32_5900
  let c64_i32_5906 : BitVec 32 := 64#32
  let v7583 : BitVec 32 := Scalar.muli v7575 c64_i32_5906
  v7583
def k0_mult329 : BitVec 32 :=
  let c120_i32_5955 : BitVec 32 := 120#32
  let c0_i32_5954 : BitVec 32 := 0#32
  let c2_i32_5949 : BitVec 32 := 2#32
  let c62_i32_5948 : BitVec 32 := 62#32
  let c0_i32_126 : BitVec 32 := 0#32
  let v7637 : BitVec 32 := Scalar.muli c62_i32_5948 c0_i32_126
  let v7638 : BitVec 32 := Scalar.addi c2_i32_5949 v7637
  let c41_i32 : BitVec 32 := 41#32
  let v7639 : BitVec 32 := Scalar.addi v7638 c41_i32
  let c2_i32_5950 : BitVec 32 := 2#32
  let v7640 : BitVec 32 := Scalar.subi v7639 c2_i32_5950
  let c2_i32_5951 : BitVec 32 := 2#32
  let v7641 : BitVec 32 := Scalar.muli v7640 c2_i32_5951
  let c0_i32_5952 : BitVec 32 := 0#32
  let v7642 : BitVec 32 := Scalar.addi v7641 c0_i32_5952
  let c4_i32_5953 : BitVec 32 := 4#32
  let v7643 : BitVec 32 := Scalar.subi v7642 c4_i32_5953
  let v7644 : BitVec 32 := Scalar.maxsi c0_i32_5954 v7643
  let v7645 : BitVec 32 := Scalar.minsi c120_i32_5955 v7644
  let c64_i32_5956 : BitVec 32 := 64#32
  let v7646 : BitVec 32 := Scalar.muli v7645 c64_i32_5956
  v7646
def k0_mult330 : BitVec 32 :=
  let c2_i32_5949 : BitVec 32 := 2#32
  let c62_i32_5948 : BitVec 32 := 62#32
  let c0_i32_126 : BitVec 32 := 0#32
  let v7637 : BitVec 32 := Scalar.muli c62_i32_5948 c0_i32_126
  let v7638 : BitVec 32 := Scalar.addi c2_i32_5949 v7637
  let c41_i32 : BitVec 32 := 41#32
  let v7639 : BitVec 32 := Scalar.addi v7638 c41_i32
  let c2_i32_5950 : BitVec 32 := 2#32
  let v7640 : BitVec 32 := Scalar.subi v7639 c2_i32_5950
  let c2_i32_5951 : BitVec 32 := 2#32
  let v7641 : BitVec 32 := Scalar.muli v7640 c2_i32_5951
  let c0_i32_5952 : BitVec 32 := 0#32
  let v7642 : BitVec 32 := Scalar.addi v7641 c0_i32_5952
  let c64_i32_5968 : BitVec 32 := 64#32
  let v7661 : BitVec 32 := Scalar.muli v7642 c64_i32_5968
  v7661
def k0_mult331 : BitVec 32 :=
  let c120_i32_5975 : BitVec 32 := 120#32
  let c0_i32_5974 : BitVec 32 := 0#32
  let c2_i32_5949 : BitVec 32 := 2#32
  let c62_i32_5948 : BitVec 32 := 62#32
  let c0_i32_126 : BitVec 32 := 0#32
  let v7637 : BitVec 32 := Scalar.muli c62_i32_5948 c0_i32_126
  let v7638 : BitVec 32 := Scalar.addi c2_i32_5949 v7637
  let c41_i32 : BitVec 32 := 41#32
  let v7639 : BitVec 32 := Scalar.addi v7638 c41_i32
  let c2_i32_5971 : BitVec 32 := 2#32
  let v7667 : BitVec 32 := Scalar.muli v7639 c2_i32_5971
  let c0_i32_5972 : BitVec 32 := 0#32
  let v7668 : BitVec 32 := Scalar.addi v7667 c0_i32_5972
  let c4_i32_5973 : BitVec 32 := 4#32
  let v7669 : BitVec 32 := Scalar.subi v7668 c4_i32_5973
  let v7670 : BitVec 32 := Scalar.maxsi c0_i32_5974 v7669
  let v7671 : BitVec 32 := Scalar.minsi c120_i32_5975 v7670
  let c64_i32_5976 : BitVec 32 := 64#32
  let v7672 : BitVec 32 := Scalar.muli v7671 c64_i32_5976
  v7672
def k0_mult332 : BitVec 32 :=
  let c2_i32_5949 : BitVec 32 := 2#32
  let c62_i32_5948 : BitVec 32 := 62#32
  let c0_i32_126 : BitVec 32 := 0#32
  let v7637 : BitVec 32 := Scalar.muli c62_i32_5948 c0_i32_126
  let v7638 : BitVec 32 := Scalar.addi c2_i32_5949 v7637
  let c41_i32 : BitVec 32 := 41#32
  let v7639 : BitVec 32 := Scalar.addi v7638 c41_i32
  let c2_i32_5971 : BitVec 32 := 2#32
  let v7667 : BitVec 32 := Scalar.muli v7639 c2_i32_5971
  let c0_i32_5972 : BitVec 32 := 0#32
  let v7668 : BitVec 32 := Scalar.addi v7667 c0_i32_5972
  let c64_i32_5978 : BitVec 32 := 64#32
  let v7676 : BitVec 32 := Scalar.muli v7668 c64_i32_5978
  v7676
def k0_mult333 : BitVec 32 :=
  let c120_i32_6025 : BitVec 32 := 120#32
  let c0_i32_6024 : BitVec 32 := 0#32
  let c2_i32_5949 : BitVec 32 := 2#32
  let c62_i32_5948 : BitVec 32 := 62#32
  let c0_i32_126 : BitVec 32 := 0#32
  let v7637 : BitVec 32 := Scalar.muli c62_i32_5948 c0_i32_126
  let v7638 : BitVec 32 := Scalar.addi c2_i32_5949 v7637
  let c41_i32 : BitVec 32 := 41#32
  let v7639 : BitVec 32 := Scalar.addi v7638 c41_i32
  let c2_i32_6020 : BitVec 32 := 2#32
  let v7730 : BitVec 32 := Scalar.subi v7639 c2_i32_6020
  let c2_i32_6021 : BitVec 32 := 2#32
  let v7731 : BitVec 32 := Scalar.muli v7730 c2_i32_6021
  let c1_i32_6022 : BitVec 32 := 1#32
  let v7732 : BitVec 32 := Scalar.addi v7731 c1_i32_6022
  let c4_i32_6023 : BitVec 32 := 4#32
  let v7733 : BitVec 32 := Scalar.subi v7732 c4_i32_6023
  let v7734 : BitVec 32 := Scalar.maxsi c0_i32_6024 v7733
  let v7735 : BitVec 32 := Scalar.minsi c120_i32_6025 v7734
  let c64_i32_6026 : BitVec 32 := 64#32
  let v7736 : BitVec 32 := Scalar.muli v7735 c64_i32_6026
  v7736
def k0_mult334 : BitVec 32 :=
  let c2_i32_5949 : BitVec 32 := 2#32
  let c62_i32_5948 : BitVec 32 := 62#32
  let c0_i32_126 : BitVec 32 := 0#32
  let v7637 : BitVec 32 := Scalar.muli c62_i32_5948 c0_i32_126
  let v7638 : BitVec 32 := Scalar.addi c2_i32_5949 v7637
  let c41_i32 : BitVec 32 := 41#32
  let v7639 : BitVec 32 := Scalar.addi v7638 c41_i32
  let c2_i32_6020 : BitVec 32 := 2#32
  let v7730 : BitVec 32 := Scalar.subi v7639 c2_i32_6020
  let c2_i32_6021 : BitVec 32 := 2#32
  let v7731 : BitVec 32 := Scalar.muli v7730 c2_i32_6021
  let c1_i32_6022 : BitVec 32 := 1#32
  let v7732 : BitVec 32 := Scalar.addi v7731 c1_i32_6022
  let c64_i32_6038 : BitVec 32 := 64#32
  let v7751 : BitVec 32 := Scalar.muli v7732 c64_i32_6038
  v7751
def k0_mult335 : BitVec 32 :=
  let c120_i32_6045 : BitVec 32 := 120#32
  let c0_i32_6044 : BitVec 32 := 0#32
  let c2_i32_5949 : BitVec 32 := 2#32
  let c62_i32_5948 : BitVec 32 := 62#32
  let c0_i32_126 : BitVec 32 := 0#32
  let v7637 : BitVec 32 := Scalar.muli c62_i32_5948 c0_i32_126
  let v7638 : BitVec 32 := Scalar.addi c2_i32_5949 v7637
  let c41_i32 : BitVec 32 := 41#32
  let v7639 : BitVec 32 := Scalar.addi v7638 c41_i32
  let c2_i32_6041 : BitVec 32 := 2#32
  let v7757 : BitVec 32 := Scalar.muli v7639 c2_i32_6041
  let c1_i32_6042 : BitVec 32 := 1#32
  let v7758 : BitVec 32 := Scalar.addi v7757 c1_i32_6042
  let c4_i32_6043 : BitVec 32 := 4#32
  let v7759 : BitVec 32 := Scalar.subi v7758 c4_i32_6043
  let v7760 : BitVec 32 := Scalar.maxsi c0_i32_6044 v7759
  let v7761 : BitVec 32 := Scalar.minsi c120_i32_6045 v7760
  let c64_i32_6046 : BitVec 32 := 64#32
  let v7762 : BitVec 32 := Scalar.muli v7761 c64_i32_6046
  v7762
def k0_mult336 : BitVec 32 :=
  let c2_i32_5949 : BitVec 32 := 2#32
  let c62_i32_5948 : BitVec 32 := 62#32
  let c0_i32_126 : BitVec 32 := 0#32
  let v7637 : BitVec 32 := Scalar.muli c62_i32_5948 c0_i32_126
  let v7638 : BitVec 32 := Scalar.addi c2_i32_5949 v7637
  let c41_i32 : BitVec 32 := 41#32
  let v7639 : BitVec 32 := Scalar.addi v7638 c41_i32
  let c2_i32_6041 : BitVec 32 := 2#32
  let v7757 : BitVec 32 := Scalar.muli v7639 c2_i32_6041
  let c1_i32_6042 : BitVec 32 := 1#32
  let v7758 : BitVec 32 := Scalar.addi v7757 c1_i32_6042
  let c64_i32_6048 : BitVec 32 := 64#32
  let v7766 : BitVec 32 := Scalar.muli v7758 c64_i32_6048
  v7766
def k0_mult337 : BitVec 32 :=
  let c120_i32_6097 : BitVec 32 := 120#32
  let c0_i32_6096 : BitVec 32 := 0#32
  let c2_i32_6091 : BitVec 32 := 2#32
  let c62_i32_6090 : BitVec 32 := 62#32
  let c0_i32_126 : BitVec 32 := 0#32
  let v7820 : BitVec 32 := Scalar.muli c62_i32_6090 c0_i32_126
  let v7821 : BitVec 32 := Scalar.addi c2_i32_6091 v7820
  let c42_i32 : BitVec 32 := 42#32
  let v7822 : BitVec 32 := Scalar.addi v7821 c42_i32
  let c2_i32_6092 : BitVec 32 := 2#32
  let v7823 : BitVec 32 := Scalar.subi v7822 c2_i32_6092
  let c2_i32_6093 : BitVec 32 := 2#32
  let v7824 : BitVec 32 := Scalar.muli v7823 c2_i32_6093
  let c0_i32_6094 : BitVec 32 := 0#32
  let v7825 : BitVec 32 := Scalar.addi v7824 c0_i32_6094
  let c4_i32_6095 : BitVec 32 := 4#32
  let v7826 : BitVec 32 := Scalar.subi v7825 c4_i32_6095
  let v7827 : BitVec 32 := Scalar.maxsi c0_i32_6096 v7826
  let v7828 : BitVec 32 := Scalar.minsi c120_i32_6097 v7827
  let c64_i32_6098 : BitVec 32 := 64#32
  let v7829 : BitVec 32 := Scalar.muli v7828 c64_i32_6098
  v7829
def k0_mult338 : BitVec 32 :=
  let c2_i32_6091 : BitVec 32 := 2#32
  let c62_i32_6090 : BitVec 32 := 62#32
  let c0_i32_126 : BitVec 32 := 0#32
  let v7820 : BitVec 32 := Scalar.muli c62_i32_6090 c0_i32_126
  let v7821 : BitVec 32 := Scalar.addi c2_i32_6091 v7820
  let c42_i32 : BitVec 32 := 42#32
  let v7822 : BitVec 32 := Scalar.addi v7821 c42_i32
  let c2_i32_6092 : BitVec 32 := 2#32
  let v7823 : BitVec 32 := Scalar.subi v7822 c2_i32_6092
  let c2_i32_6093 : BitVec 32 := 2#32
  let v7824 : BitVec 32 := Scalar.muli v7823 c2_i32_6093
  let c0_i32_6094 : BitVec 32 := 0#32
  let v7825 : BitVec 32 := Scalar.addi v7824 c0_i32_6094
  let c64_i32_6110 : BitVec 32 := 64#32
  let v7844 : BitVec 32 := Scalar.muli v7825 c64_i32_6110
  v7844
def k0_mult339 : BitVec 32 :=
  let c120_i32_6117 : BitVec 32 := 120#32
  let c0_i32_6116 : BitVec 32 := 0#32
  let c2_i32_6091 : BitVec 32 := 2#32
  let c62_i32_6090 : BitVec 32 := 62#32
  let c0_i32_126 : BitVec 32 := 0#32
  let v7820 : BitVec 32 := Scalar.muli c62_i32_6090 c0_i32_126
  let v7821 : BitVec 32 := Scalar.addi c2_i32_6091 v7820
  let c42_i32 : BitVec 32 := 42#32
  let v7822 : BitVec 32 := Scalar.addi v7821 c42_i32
  let c2_i32_6113 : BitVec 32 := 2#32
  let v7850 : BitVec 32 := Scalar.muli v7822 c2_i32_6113
  let c0_i32_6114 : BitVec 32 := 0#32
  let v7851 : BitVec 32 := Scalar.addi v7850 c0_i32_6114
  let c4_i32_6115 : BitVec 32 := 4#32
  let v7852 : BitVec 32 := Scalar.subi v7851 c4_i32_6115
  let v7853 : BitVec 32 := Scalar.maxsi c0_i32_6116 v7852
  let v7854 : BitVec 32 := Scalar.minsi c120_i32_6117 v7853
  let c64_i32_6118 : BitVec 32 := 64#32
  let v7855 : BitVec 32 := Scalar.muli v7854 c64_i32_6118
  v7855
def k0_mult340 : BitVec 32 :=
  let c2_i32_6091 : BitVec 32 := 2#32
  let c62_i32_6090 : BitVec 32 := 62#32
  let c0_i32_126 : BitVec 32 := 0#32
  let v7820 : BitVec 32 := Scalar.muli c62_i32_6090 c0_i32_126
  let v7821 : BitVec 32 := Scalar.addi c2_i32_6091 v7820
  let c42_i32 : BitVec 32 := 42#32
  let v7822 : BitVec 32 := Scalar.addi v7821 c42_i32
  let c2_i32_6113 : BitVec 32 := 2#32
  let v7850 : BitVec 32 := Scalar.muli v7822 c2_i32_6113
  let c0_i32_6114 : BitVec 32 := 0#32
  let v7851 : BitVec 32 := Scalar.addi v7850 c0_i32_6114
  let c64_i32_6120 : BitVec 32 := 64#32
  let v7859 : BitVec 32 := Scalar.muli v7851 c64_i32_6120
  v7859
def k0_mult341 : BitVec 32 :=
  let c120_i32_6167 : BitVec 32 := 120#32
  let c0_i32_6166 : BitVec 32 := 0#32
  let c2_i32_6091 : BitVec 32 := 2#32
  let c62_i32_6090 : BitVec 32 := 62#32
  let c0_i32_126 : BitVec 32 := 0#32
  let v7820 : BitVec 32 := Scalar.muli c62_i32_6090 c0_i32_126
  let v7821 : BitVec 32 := Scalar.addi c2_i32_6091 v7820
  let c42_i32 : BitVec 32 := 42#32
  let v7822 : BitVec 32 := Scalar.addi v7821 c42_i32
  let c2_i32_6162 : BitVec 32 := 2#32
  let v7913 : BitVec 32 := Scalar.subi v7822 c2_i32_6162
  let c2_i32_6163 : BitVec 32 := 2#32
  let v7914 : BitVec 32 := Scalar.muli v7913 c2_i32_6163
  let c1_i32_6164 : BitVec 32 := 1#32
  let v7915 : BitVec 32 := Scalar.addi v7914 c1_i32_6164
  let c4_i32_6165 : BitVec 32 := 4#32
  let v7916 : BitVec 32 := Scalar.subi v7915 c4_i32_6165
  let v7917 : BitVec 32 := Scalar.maxsi c0_i32_6166 v7916
  let v7918 : BitVec 32 := Scalar.minsi c120_i32_6167 v7917
  let c64_i32_6168 : BitVec 32 := 64#32
  let v7919 : BitVec 32 := Scalar.muli v7918 c64_i32_6168
  v7919
def k0_mult342 : BitVec 32 :=
  let c2_i32_6091 : BitVec 32 := 2#32
  let c62_i32_6090 : BitVec 32 := 62#32
  let c0_i32_126 : BitVec 32 := 0#32
  let v7820 : BitVec 32 := Scalar.muli c62_i32_6090 c0_i32_126
  let v7821 : BitVec 32 := Scalar.addi c2_i32_6091 v7820
  let c42_i32 : BitVec 32 := 42#32
  let v7822 : BitVec 32 := Scalar.addi v7821 c42_i32
  let c2_i32_6162 : BitVec 32 := 2#32
  let v7913 : BitVec 32 := Scalar.subi v7822 c2_i32_6162
  let c2_i32_6163 : BitVec 32 := 2#32
  let v7914 : BitVec 32 := Scalar.muli v7913 c2_i32_6163
  let c1_i32_6164 : BitVec 32 := 1#32
  let v7915 : BitVec 32 := Scalar.addi v7914 c1_i32_6164
  let c64_i32_6180 : BitVec 32 := 64#32
  let v7934 : BitVec 32 := Scalar.muli v7915 c64_i32_6180
  v7934
def k0_mult343 : BitVec 32 :=
  let c120_i32_6187 : BitVec 32 := 120#32
  let c0_i32_6186 : BitVec 32 := 0#32
  let c2_i32_6091 : BitVec 32 := 2#32
  let c62_i32_6090 : BitVec 32 := 62#32
  let c0_i32_126 : BitVec 32 := 0#32
  let v7820 : BitVec 32 := Scalar.muli c62_i32_6090 c0_i32_126
  let v7821 : BitVec 32 := Scalar.addi c2_i32_6091 v7820
  let c42_i32 : BitVec 32 := 42#32
  let v7822 : BitVec 32 := Scalar.addi v7821 c42_i32
  let c2_i32_6183 : BitVec 32 := 2#32
  let v7940 : BitVec 32 := Scalar.muli v7822 c2_i32_6183
  let c1_i32_6184 : BitVec 32 := 1#32
  let v7941 : BitVec 32 := Scalar.addi v7940 c1_i32_6184
  let c4_i32_6185 : BitVec 32 := 4#32
  let v7942 : BitVec 32 := Scalar.subi v7941 c4_i32_6185
  let v7943 : BitVec 32 := Scalar.maxsi c0_i32_6186 v7942
  let v7944 : BitVec 32 := Scalar.minsi c120_i32_6187 v7943
  let c64_i32_6188 : BitVec 32 := 64#32
  let v7945 : BitVec 32 := Scalar.muli v7944 c64_i32_6188
  v7945
def k0_mult344 : BitVec 32 :=
  let c2_i32_6091 : BitVec 32 := 2#32
  let c62_i32_6090 : BitVec 32 := 62#32
  let c0_i32_126 : BitVec 32 := 0#32
  let v7820 : BitVec 32 := Scalar.muli c62_i32_6090 c0_i32_126
  let v7821 : BitVec 32 := Scalar.addi c2_i32_6091 v7820
  let c42_i32 : BitVec 32 := 42#32
  let v7822 : BitVec 32 := Scalar.addi v7821 c42_i32
  let c2_i32_6183 : BitVec 32 := 2#32
  let v7940 : BitVec 32 := Scalar.muli v7822 c2_i32_6183
  let c1_i32_6184 : BitVec 32 := 1#32
  let v7941 : BitVec 32 := Scalar.addi v7940 c1_i32_6184
  let c64_i32_6190 : BitVec 32 := 64#32
  let v7949 : BitVec 32 := Scalar.muli v7941 c64_i32_6190
  v7949
def k0_mult345 : BitVec 32 :=
  let c120_i32_6239 : BitVec 32 := 120#32
  let c0_i32_6238 : BitVec 32 := 0#32
  let c2_i32_6233 : BitVec 32 := 2#32
  let c62_i32_6232 : BitVec 32 := 62#32
  let c0_i32_126 : BitVec 32 := 0#32
  let v8003 : BitVec 32 := Scalar.muli c62_i32_6232 c0_i32_126
  let v8004 : BitVec 32 := Scalar.addi c2_i32_6233 v8003
  let c43_i32 : BitVec 32 := 43#32
  let v8005 : BitVec 32 := Scalar.addi v8004 c43_i32
  let c2_i32_6234 : BitVec 32 := 2#32
  let v8006 : BitVec 32 := Scalar.subi v8005 c2_i32_6234
  let c2_i32_6235 : BitVec 32 := 2#32
  let v8007 : BitVec 32 := Scalar.muli v8006 c2_i32_6235
  let c0_i32_6236 : BitVec 32 := 0#32
  let v8008 : BitVec 32 := Scalar.addi v8007 c0_i32_6236
  let c4_i32_6237 : BitVec 32 := 4#32
  let v8009 : BitVec 32 := Scalar.subi v8008 c4_i32_6237
  let v8010 : BitVec 32 := Scalar.maxsi c0_i32_6238 v8009
  let v8011 : BitVec 32 := Scalar.minsi c120_i32_6239 v8010
  let c64_i32_6240 : BitVec 32 := 64#32
  let v8012 : BitVec 32 := Scalar.muli v8011 c64_i32_6240
  v8012
def k0_mult346 : BitVec 32 :=
  let c2_i32_6233 : BitVec 32 := 2#32
  let c62_i32_6232 : BitVec 32 := 62#32
  let c0_i32_126 : BitVec 32 := 0#32
  let v8003 : BitVec 32 := Scalar.muli c62_i32_6232 c0_i32_126
  let v8004 : BitVec 32 := Scalar.addi c2_i32_6233 v8003
  let c43_i32 : BitVec 32 := 43#32
  let v8005 : BitVec 32 := Scalar.addi v8004 c43_i32
  let c2_i32_6234 : BitVec 32 := 2#32
  let v8006 : BitVec 32 := Scalar.subi v8005 c2_i32_6234
  let c2_i32_6235 : BitVec 32 := 2#32
  let v8007 : BitVec 32 := Scalar.muli v8006 c2_i32_6235
  let c0_i32_6236 : BitVec 32 := 0#32
  let v8008 : BitVec 32 := Scalar.addi v8007 c0_i32_6236
  let c64_i32_6252 : BitVec 32 := 64#32
  let v8027 : BitVec 32 := Scalar.muli v8008 c64_i32_6252
  v8027
def k0_mult347 : BitVec 32 :=
  let c120_i32_6259 : BitVec 32 := 120#32
  let c0_i32_6258 : BitVec 32 := 0#32
  let c2_i32_6233 : BitVec 32 := 2#32
  let c62_i32_6232 : BitVec 32 := 62#32
  let c0_i32_126 : BitVec 32 := 0#32
  let v8003 : BitVec 32 := Scalar.muli c62_i32_6232 c0_i32_126
  let v8004 : BitVec 32 := Scalar.addi c2_i32_6233 v8003
  let c43_i32 : BitVec 32 := 43#32
  let v8005 : BitVec 32 := Scalar.addi v8004 c43_i32
  let c2_i32_6255 : BitVec 32 := 2#32
  let v8033 : BitVec 32 := Scalar.muli v8005 c2_i32_6255
  let c0_i32_6256 : BitVec 32 := 0#32
  let v8034 : BitVec 32 := Scalar.addi v8033 c0_i32_6256
  let c4_i32_6257 : BitVec 32 := 4#32
  let v8035 : BitVec 32 := Scalar.subi v8034 c4_i32_6257
  let v8036 : BitVec 32 := Scalar.maxsi c0_i32_6258 v8035
  let v8037 : BitVec 32 := Scalar.minsi c120_i32_6259 v8036
  let c64_i32_6260 : BitVec 32 := 64#32
  let v8038 : BitVec 32 := Scalar.muli v8037 c64_i32_6260
  v8038
def k0_mult348 : BitVec 32 :=
  let c2_i32_6233 : BitVec 32 := 2#32
  let c62_i32_6232 : BitVec 32 := 62#32
  let c0_i32_126 : BitVec 32 := 0#32
  let v8003 : BitVec 32 := Scalar.muli c62_i32_6232 c0_i32_126
  let v8004 : BitVec 32 := Scalar.addi c2_i32_6233 v8003
  let c43_i32 : BitVec 32 := 43#32
  let v8005 : BitVec 32 := Scalar.addi v8004 c43_i32
  let c2_i32_6255 : BitVec 32 := 2#32
  let v8033 : BitVec 32 := Scalar.muli v8005 c2_i32_6255
  let c0_i32_6256 : BitVec 32 := 0#32
  let v8034 : BitVec 32 := Scalar.addi v8033 c0_i32_6256
  let c64_i32_6262 : BitVec 32 := 64#32
  let v8042 : BitVec 32 := Scalar.muli v8034 c64_i32_6262
  v8042
def k0_mult349 : BitVec 32 :=
  let c120_i32_6309 : BitVec 32 := 120#32
  let c0_i32_6308 : BitVec 32 := 0#32
  let c2_i32_6233 : BitVec 32 := 2#32
  let c62_i32_6232 : BitVec 32 := 62#32
  let c0_i32_126 : BitVec 32 := 0#32
  let v8003 : BitVec 32 := Scalar.muli c62_i32_6232 c0_i32_126
  let v8004 : BitVec 32 := Scalar.addi c2_i32_6233 v8003
  let c43_i32 : BitVec 32 := 43#32
  let v8005 : BitVec 32 := Scalar.addi v8004 c43_i32
  let c2_i32_6304 : BitVec 32 := 2#32
  let v8096 : BitVec 32 := Scalar.subi v8005 c2_i32_6304
  let c2_i32_6305 : BitVec 32 := 2#32
  let v8097 : BitVec 32 := Scalar.muli v8096 c2_i32_6305
  let c1_i32_6306 : BitVec 32 := 1#32
  let v8098 : BitVec 32 := Scalar.addi v8097 c1_i32_6306
  let c4_i32_6307 : BitVec 32 := 4#32
  let v8099 : BitVec 32 := Scalar.subi v8098 c4_i32_6307
  let v8100 : BitVec 32 := Scalar.maxsi c0_i32_6308 v8099
  let v8101 : BitVec 32 := Scalar.minsi c120_i32_6309 v8100
  let c64_i32_6310 : BitVec 32 := 64#32
  let v8102 : BitVec 32 := Scalar.muli v8101 c64_i32_6310
  v8102
def k0_mult350 : BitVec 32 :=
  let c2_i32_6233 : BitVec 32 := 2#32
  let c62_i32_6232 : BitVec 32 := 62#32
  let c0_i32_126 : BitVec 32 := 0#32
  let v8003 : BitVec 32 := Scalar.muli c62_i32_6232 c0_i32_126
  let v8004 : BitVec 32 := Scalar.addi c2_i32_6233 v8003
  let c43_i32 : BitVec 32 := 43#32
  let v8005 : BitVec 32 := Scalar.addi v8004 c43_i32
  let c2_i32_6304 : BitVec 32 := 2#32
  let v8096 : BitVec 32 := Scalar.subi v8005 c2_i32_6304
  let c2_i32_6305 : BitVec 32 := 2#32
  let v8097 : BitVec 32 := Scalar.muli v8096 c2_i32_6305
  let c1_i32_6306 : BitVec 32 := 1#32
  let v8098 : BitVec 32 := Scalar.addi v8097 c1_i32_6306
  let c64_i32_6322 : BitVec 32 := 64#32
  let v8117 : BitVec 32 := Scalar.muli v8098 c64_i32_6322
  v8117
def k0_mult351 : BitVec 32 :=
  let c120_i32_6329 : BitVec 32 := 120#32
  let c0_i32_6328 : BitVec 32 := 0#32
  let c2_i32_6233 : BitVec 32 := 2#32
  let c62_i32_6232 : BitVec 32 := 62#32
  let c0_i32_126 : BitVec 32 := 0#32
  let v8003 : BitVec 32 := Scalar.muli c62_i32_6232 c0_i32_126
  let v8004 : BitVec 32 := Scalar.addi c2_i32_6233 v8003
  let c43_i32 : BitVec 32 := 43#32
  let v8005 : BitVec 32 := Scalar.addi v8004 c43_i32
  let c2_i32_6325 : BitVec 32 := 2#32
  let v8123 : BitVec 32 := Scalar.muli v8005 c2_i32_6325
  let c1_i32_6326 : BitVec 32 := 1#32
  let v8124 : BitVec 32 := Scalar.addi v8123 c1_i32_6326
  let c4_i32_6327 : BitVec 32 := 4#32
  let v8125 : BitVec 32 := Scalar.subi v8124 c4_i32_6327
  let v8126 : BitVec 32 := Scalar.maxsi c0_i32_6328 v8125
  let v8127 : BitVec 32 := Scalar.minsi c120_i32_6329 v8126
  let c64_i32_6330 : BitVec 32 := 64#32
  let v8128 : BitVec 32 := Scalar.muli v8127 c64_i32_6330
  v8128
def k0_mult352 : BitVec 32 :=
  let c2_i32_6233 : BitVec 32 := 2#32
  let c62_i32_6232 : BitVec 32 := 62#32
  let c0_i32_126 : BitVec 32 := 0#32
  let v8003 : BitVec 32 := Scalar.muli c62_i32_6232 c0_i32_126
  let v8004 : BitVec 32 := Scalar.addi c2_i32_6233 v8003
  let c43_i32 : BitVec 32 := 43#32
  let v8005 : BitVec 32 := Scalar.addi v8004 c43_i32
  let c2_i32_6325 : BitVec 32 := 2#32
  let v8123 : BitVec 32 := Scalar.muli v8005 c2_i32_6325
  let c1_i32_6326 : BitVec 32 := 1#32
  let v8124 : BitVec 32 := Scalar.addi v8123 c1_i32_6326
  let c64_i32_6332 : BitVec 32 := 64#32
  let v8132 : BitVec 32 := Scalar.muli v8124 c64_i32_6332
  v8132
def k0_mult353 : BitVec 32 :=
  let c120_i32_6381 : BitVec 32 := 120#32
  let c0_i32_6380 : BitVec 32 := 0#32
  let c2_i32_6375 : BitVec 32 := 2#32
  let c62_i32_6374 : BitVec 32 := 62#32
  let c0_i32_126 : BitVec 32 := 0#32
  let v8186 : BitVec 32 := Scalar.muli c62_i32_6374 c0_i32_126
  let v8187 : BitVec 32 := Scalar.addi c2_i32_6375 v8186
  let c44_i32 : BitVec 32 := 44#32
  let v8188 : BitVec 32 := Scalar.addi v8187 c44_i32
  let c2_i32_6376 : BitVec 32 := 2#32
  let v8189 : BitVec 32 := Scalar.subi v8188 c2_i32_6376
  let c2_i32_6377 : BitVec 32 := 2#32
  let v8190 : BitVec 32 := Scalar.muli v8189 c2_i32_6377
  let c0_i32_6378 : BitVec 32 := 0#32
  let v8191 : BitVec 32 := Scalar.addi v8190 c0_i32_6378
  let c4_i32_6379 : BitVec 32 := 4#32
  let v8192 : BitVec 32 := Scalar.subi v8191 c4_i32_6379
  let v8193 : BitVec 32 := Scalar.maxsi c0_i32_6380 v8192
  let v8194 : BitVec 32 := Scalar.minsi c120_i32_6381 v8193
  let c64_i32_6382 : BitVec 32 := 64#32
  let v8195 : BitVec 32 := Scalar.muli v8194 c64_i32_6382
  v8195
def k0_mult354 : BitVec 32 :=
  let c2_i32_6375 : BitVec 32 := 2#32
  let c62_i32_6374 : BitVec 32 := 62#32
  let c0_i32_126 : BitVec 32 := 0#32
  let v8186 : BitVec 32 := Scalar.muli c62_i32_6374 c0_i32_126
  let v8187 : BitVec 32 := Scalar.addi c2_i32_6375 v8186
  let c44_i32 : BitVec 32 := 44#32
  let v8188 : BitVec 32 := Scalar.addi v8187 c44_i32
  let c2_i32_6376 : BitVec 32 := 2#32
  let v8189 : BitVec 32 := Scalar.subi v8188 c2_i32_6376
  let c2_i32_6377 : BitVec 32 := 2#32
  let v8190 : BitVec 32 := Scalar.muli v8189 c2_i32_6377
  let c0_i32_6378 : BitVec 32 := 0#32
  let v8191 : BitVec 32 := Scalar.addi v8190 c0_i32_6378
  let c64_i32_6394 : BitVec 32 := 64#32
  let v8210 : BitVec 32 := Scalar.muli v8191 c64_i32_6394
  v8210
def k0_mult355 : BitVec 32 :=
  let c120_i32_6401 : BitVec 32 := 120#32
  let c0_i32_6400 : BitVec 32 := 0#32
  let c2_i32_6375 : BitVec 32 := 2#32
  let c62_i32_6374 : BitVec 32 := 62#32
  let c0_i32_126 : BitVec 32 := 0#32
  let v8186 : BitVec 32 := Scalar.muli c62_i32_6374 c0_i32_126
  let v8187 : BitVec 32 := Scalar.addi c2_i32_6375 v8186
  let c44_i32 : BitVec 32 := 44#32
  let v8188 : BitVec 32 := Scalar.addi v8187 c44_i32
  let c2_i32_6397 : BitVec 32 := 2#32
  let v8216 : BitVec 32 := Scalar.muli v8188 c2_i32_6397
  let c0_i32_6398 : BitVec 32 := 0#32
  let v8217 : BitVec 32 := Scalar.addi v8216 c0_i32_6398
  let c4_i32_6399 : BitVec 32 := 4#32
  let v8218 : BitVec 32 := Scalar.subi v8217 c4_i32_6399
  let v8219 : BitVec 32 := Scalar.maxsi c0_i32_6400 v8218
  let v8220 : BitVec 32 := Scalar.minsi c120_i32_6401 v8219
  let c64_i32_6402 : BitVec 32 := 64#32
  let v8221 : BitVec 32 := Scalar.muli v8220 c64_i32_6402
  v8221
def k0_mult356 : BitVec 32 :=
  let c2_i32_6375 : BitVec 32 := 2#32
  let c62_i32_6374 : BitVec 32 := 62#32
  let c0_i32_126 : BitVec 32 := 0#32
  let v8186 : BitVec 32 := Scalar.muli c62_i32_6374 c0_i32_126
  let v8187 : BitVec 32 := Scalar.addi c2_i32_6375 v8186
  let c44_i32 : BitVec 32 := 44#32
  let v8188 : BitVec 32 := Scalar.addi v8187 c44_i32
  let c2_i32_6397 : BitVec 32 := 2#32
  let v8216 : BitVec 32 := Scalar.muli v8188 c2_i32_6397
  let c0_i32_6398 : BitVec 32 := 0#32
  let v8217 : BitVec 32 := Scalar.addi v8216 c0_i32_6398
  let c64_i32_6404 : BitVec 32 := 64#32
  let v8225 : BitVec 32 := Scalar.muli v8217 c64_i32_6404
  v8225
def k0_mult357 : BitVec 32 :=
  let c120_i32_6451 : BitVec 32 := 120#32
  let c0_i32_6450 : BitVec 32 := 0#32
  let c2_i32_6375 : BitVec 32 := 2#32
  let c62_i32_6374 : BitVec 32 := 62#32
  let c0_i32_126 : BitVec 32 := 0#32
  let v8186 : BitVec 32 := Scalar.muli c62_i32_6374 c0_i32_126
  let v8187 : BitVec 32 := Scalar.addi c2_i32_6375 v8186
  let c44_i32 : BitVec 32 := 44#32
  let v8188 : BitVec 32 := Scalar.addi v8187 c44_i32
  let c2_i32_6446 : BitVec 32 := 2#32
  let v8279 : BitVec 32 := Scalar.subi v8188 c2_i32_6446
  let c2_i32_6447 : BitVec 32 := 2#32
  let v8280 : BitVec 32 := Scalar.muli v8279 c2_i32_6447
  let c1_i32_6448 : BitVec 32 := 1#32
  let v8281 : BitVec 32 := Scalar.addi v8280 c1_i32_6448
  let c4_i32_6449 : BitVec 32 := 4#32
  let v8282 : BitVec 32 := Scalar.subi v8281 c4_i32_6449
  let v8283 : BitVec 32 := Scalar.maxsi c0_i32_6450 v8282
  let v8284 : BitVec 32 := Scalar.minsi c120_i32_6451 v8283
  let c64_i32_6452 : BitVec 32 := 64#32
  let v8285 : BitVec 32 := Scalar.muli v8284 c64_i32_6452
  v8285
def k0_mult358 : BitVec 32 :=
  let c2_i32_6375 : BitVec 32 := 2#32
  let c62_i32_6374 : BitVec 32 := 62#32
  let c0_i32_126 : BitVec 32 := 0#32
  let v8186 : BitVec 32 := Scalar.muli c62_i32_6374 c0_i32_126
  let v8187 : BitVec 32 := Scalar.addi c2_i32_6375 v8186
  let c44_i32 : BitVec 32 := 44#32
  let v8188 : BitVec 32 := Scalar.addi v8187 c44_i32
  let c2_i32_6446 : BitVec 32 := 2#32
  let v8279 : BitVec 32 := Scalar.subi v8188 c2_i32_6446
  let c2_i32_6447 : BitVec 32 := 2#32
  let v8280 : BitVec 32 := Scalar.muli v8279 c2_i32_6447
  let c1_i32_6448 : BitVec 32 := 1#32
  let v8281 : BitVec 32 := Scalar.addi v8280 c1_i32_6448
  let c64_i32_6464 : BitVec 32 := 64#32
  let v8300 : BitVec 32 := Scalar.muli v8281 c64_i32_6464
  v8300
def k0_mult359 : BitVec 32 :=
  let c120_i32_6471 : BitVec 32 := 120#32
  let c0_i32_6470 : BitVec 32 := 0#32
  let c2_i32_6375 : BitVec 32 := 2#32
  let c62_i32_6374 : BitVec 32 := 62#32
  let c0_i32_126 : BitVec 32 := 0#32
  let v8186 : BitVec 32 := Scalar.muli c62_i32_6374 c0_i32_126
  let v8187 : BitVec 32 := Scalar.addi c2_i32_6375 v8186
  let c44_i32 : BitVec 32 := 44#32
  let v8188 : BitVec 32 := Scalar.addi v8187 c44_i32
  let c2_i32_6467 : BitVec 32 := 2#32
  let v8306 : BitVec 32 := Scalar.muli v8188 c2_i32_6467
  let c1_i32_6468 : BitVec 32 := 1#32
  let v8307 : BitVec 32 := Scalar.addi v8306 c1_i32_6468
  let c4_i32_6469 : BitVec 32 := 4#32
  let v8308 : BitVec 32 := Scalar.subi v8307 c4_i32_6469
  let v8309 : BitVec 32 := Scalar.maxsi c0_i32_6470 v8308
  let v8310 : BitVec 32 := Scalar.minsi c120_i32_6471 v8309
  let c64_i32_6472 : BitVec 32 := 64#32
  let v8311 : BitVec 32 := Scalar.muli v8310 c64_i32_6472
  v8311
def k0_mult360 : BitVec 32 :=
  let c2_i32_6375 : BitVec 32 := 2#32
  let c62_i32_6374 : BitVec 32 := 62#32
  let c0_i32_126 : BitVec 32 := 0#32
  let v8186 : BitVec 32 := Scalar.muli c62_i32_6374 c0_i32_126
  let v8187 : BitVec 32 := Scalar.addi c2_i32_6375 v8186
  let c44_i32 : BitVec 32 := 44#32
  let v8188 : BitVec 32 := Scalar.addi v8187 c44_i32
  let c2_i32_6467 : BitVec 32 := 2#32
  let v8306 : BitVec 32 := Scalar.muli v8188 c2_i32_6467
  let c1_i32_6468 : BitVec 32 := 1#32
  let v8307 : BitVec 32 := Scalar.addi v8306 c1_i32_6468
  let c64_i32_6474 : BitVec 32 := 64#32
  let v8315 : BitVec 32 := Scalar.muli v8307 c64_i32_6474
  v8315
def k0_mult361 : BitVec 32 :=
  let c120_i32_6523 : BitVec 32 := 120#32
  let c0_i32_6522 : BitVec 32 := 0#32
  let c2_i32_6517 : BitVec 32 := 2#32
  let c62_i32_6516 : BitVec 32 := 62#32
  let c0_i32_126 : BitVec 32 := 0#32
  let v8369 : BitVec 32 := Scalar.muli c62_i32_6516 c0_i32_126
  let v8370 : BitVec 32 := Scalar.addi c2_i32_6517 v8369
  let c45_i32 : BitVec 32 := 45#32
  let v8371 : BitVec 32 := Scalar.addi v8370 c45_i32
  let c2_i32_6518 : BitVec 32 := 2#32
  let v8372 : BitVec 32 := Scalar.subi v8371 c2_i32_6518
  let c2_i32_6519 : BitVec 32 := 2#32
  let v8373 : BitVec 32 := Scalar.muli v8372 c2_i32_6519
  let c0_i32_6520 : BitVec 32 := 0#32
  let v8374 : BitVec 32 := Scalar.addi v8373 c0_i32_6520
  let c4_i32_6521 : BitVec 32 := 4#32
  let v8375 : BitVec 32 := Scalar.subi v8374 c4_i32_6521
  let v8376 : BitVec 32 := Scalar.maxsi c0_i32_6522 v8375
  let v8377 : BitVec 32 := Scalar.minsi c120_i32_6523 v8376
  let c64_i32_6524 : BitVec 32 := 64#32
  let v8378 : BitVec 32 := Scalar.muli v8377 c64_i32_6524
  v8378
def k0_mult362 : BitVec 32 :=
  let c2_i32_6517 : BitVec 32 := 2#32
  let c62_i32_6516 : BitVec 32 := 62#32
  let c0_i32_126 : BitVec 32 := 0#32
  let v8369 : BitVec 32 := Scalar.muli c62_i32_6516 c0_i32_126
  let v8370 : BitVec 32 := Scalar.addi c2_i32_6517 v8369
  let c45_i32 : BitVec 32 := 45#32
  let v8371 : BitVec 32 := Scalar.addi v8370 c45_i32
  let c2_i32_6518 : BitVec 32 := 2#32
  let v8372 : BitVec 32 := Scalar.subi v8371 c2_i32_6518
  let c2_i32_6519 : BitVec 32 := 2#32
  let v8373 : BitVec 32 := Scalar.muli v8372 c2_i32_6519
  let c0_i32_6520 : BitVec 32 := 0#32
  let v8374 : BitVec 32 := Scalar.addi v8373 c0_i32_6520
  let c64_i32_6536 : BitVec 32 := 64#32
  let v8393 : BitVec 32 := Scalar.muli v8374 c64_i32_6536
  v8393
def k0_mult363 : BitVec 32 :=
  let c120_i32_6543 : BitVec 32 := 120#32
  let c0_i32_6542 : BitVec 32 := 0#32
  let c2_i32_6517 : BitVec 32 := 2#32
  let c62_i32_6516 : BitVec 32 := 62#32
  let c0_i32_126 : BitVec 32 := 0#32
  let v8369 : BitVec 32 := Scalar.muli c62_i32_6516 c0_i32_126
  let v8370 : BitVec 32 := Scalar.addi c2_i32_6517 v8369
  let c45_i32 : BitVec 32 := 45#32
  let v8371 : BitVec 32 := Scalar.addi v8370 c45_i32
  let c2_i32_6539 : BitVec 32 := 2#32
  let v8399 : BitVec 32 := Scalar.muli v8371 c2_i32_6539
  let c0_i32_6540 : BitVec 32 := 0#32
  let v8400 : BitVec 32 := Scalar.addi v8399 c0_i32_6540
  let c4_i32_6541 : BitVec 32 := 4#32
  let v8401 : BitVec 32 := Scalar.subi v8400 c4_i32_6541
  let v8402 : BitVec 32 := Scalar.maxsi c0_i32_6542 v8401
  let v8403 : BitVec 32 := Scalar.minsi c120_i32_6543 v8402
  let c64_i32_6544 : BitVec 32 := 64#32
  let v8404 : BitVec 32 := Scalar.muli v8403 c64_i32_6544
  v8404
def k0_mult364 : BitVec 32 :=
  let c2_i32_6517 : BitVec 32 := 2#32
  let c62_i32_6516 : BitVec 32 := 62#32
  let c0_i32_126 : BitVec 32 := 0#32
  let v8369 : BitVec 32 := Scalar.muli c62_i32_6516 c0_i32_126
  let v8370 : BitVec 32 := Scalar.addi c2_i32_6517 v8369
  let c45_i32 : BitVec 32 := 45#32
  let v8371 : BitVec 32 := Scalar.addi v8370 c45_i32
  let c2_i32_6539 : BitVec 32 := 2#32
  let v8399 : BitVec 32 := Scalar.muli v8371 c2_i32_6539
  let c0_i32_6540 : BitVec 32 := 0#32
  let v8400 : BitVec 32 := Scalar.addi v8399 c0_i32_6540
  let c64_i32_6546 : BitVec 32 := 64#32
  let v8408 : BitVec 32 := Scalar.muli v8400 c64_i32_6546
  v8408
def k0_mult365 : BitVec 32 :=
  let c120_i32_6593 : BitVec 32 := 120#32
  let c0_i32_6592 : BitVec 32 := 0#32
  let c2_i32_6517 : BitVec 32 := 2#32
  let c62_i32_6516 : BitVec 32 := 62#32
  let c0_i32_126 : BitVec 32 := 0#32
  let v8369 : BitVec 32 := Scalar.muli c62_i32_6516 c0_i32_126
  let v8370 : BitVec 32 := Scalar.addi c2_i32_6517 v8369
  let c45_i32 : BitVec 32 := 45#32
  let v8371 : BitVec 32 := Scalar.addi v8370 c45_i32
  let c2_i32_6588 : BitVec 32 := 2#32
  let v8462 : BitVec 32 := Scalar.subi v8371 c2_i32_6588
  let c2_i32_6589 : BitVec 32 := 2#32
  let v8463 : BitVec 32 := Scalar.muli v8462 c2_i32_6589
  let c1_i32_6590 : BitVec 32 := 1#32
  let v8464 : BitVec 32 := Scalar.addi v8463 c1_i32_6590
  let c4_i32_6591 : BitVec 32 := 4#32
  let v8465 : BitVec 32 := Scalar.subi v8464 c4_i32_6591
  let v8466 : BitVec 32 := Scalar.maxsi c0_i32_6592 v8465
  let v8467 : BitVec 32 := Scalar.minsi c120_i32_6593 v8466
  let c64_i32_6594 : BitVec 32 := 64#32
  let v8468 : BitVec 32 := Scalar.muli v8467 c64_i32_6594
  v8468
def k0_mult366 : BitVec 32 :=
  let c2_i32_6517 : BitVec 32 := 2#32
  let c62_i32_6516 : BitVec 32 := 62#32
  let c0_i32_126 : BitVec 32 := 0#32
  let v8369 : BitVec 32 := Scalar.muli c62_i32_6516 c0_i32_126
  let v8370 : BitVec 32 := Scalar.addi c2_i32_6517 v8369
  let c45_i32 : BitVec 32 := 45#32
  let v8371 : BitVec 32 := Scalar.addi v8370 c45_i32
  let c2_i32_6588 : BitVec 32 := 2#32
  let v8462 : BitVec 32 := Scalar.subi v8371 c2_i32_6588
  let c2_i32_6589 : BitVec 32 := 2#32
  let v8463 : BitVec 32 := Scalar.muli v8462 c2_i32_6589
  let c1_i32_6590 : BitVec 32 := 1#32
  let v8464 : BitVec 32 := Scalar.addi v8463 c1_i32_6590
  let c64_i32_6606 : BitVec 32 := 64#32
  let v8483 : BitVec 32 := Scalar.muli v8464 c64_i32_6606
  v8483
def k0_mult367 : BitVec 32 :=
  let c120_i32_6613 : BitVec 32 := 120#32
  let c0_i32_6612 : BitVec 32 := 0#32
  let c2_i32_6517 : BitVec 32 := 2#32
  let c62_i32_6516 : BitVec 32 := 62#32
  let c0_i32_126 : BitVec 32 := 0#32
  let v8369 : BitVec 32 := Scalar.muli c62_i32_6516 c0_i32_126
  let v8370 : BitVec 32 := Scalar.addi c2_i32_6517 v8369
  let c45_i32 : BitVec 32 := 45#32
  let v8371 : BitVec 32 := Scalar.addi v8370 c45_i32
  let c2_i32_6609 : BitVec 32 := 2#32
  let v8489 : BitVec 32 := Scalar.muli v8371 c2_i32_6609
  let c1_i32_6610 : BitVec 32 := 1#32
  let v8490 : BitVec 32 := Scalar.addi v8489 c1_i32_6610
  let c4_i32_6611 : BitVec 32 := 4#32
  let v8491 : BitVec 32 := Scalar.subi v8490 c4_i32_6611
  let v8492 : BitVec 32 := Scalar.maxsi c0_i32_6612 v8491
  let v8493 : BitVec 32 := Scalar.minsi c120_i32_6613 v8492
  let c64_i32_6614 : BitVec 32 := 64#32
  let v8494 : BitVec 32 := Scalar.muli v8493 c64_i32_6614
  v8494
def k0_mult368 : BitVec 32 :=
  let c2_i32_6517 : BitVec 32 := 2#32
  let c62_i32_6516 : BitVec 32 := 62#32
  let c0_i32_126 : BitVec 32 := 0#32
  let v8369 : BitVec 32 := Scalar.muli c62_i32_6516 c0_i32_126
  let v8370 : BitVec 32 := Scalar.addi c2_i32_6517 v8369
  let c45_i32 : BitVec 32 := 45#32
  let v8371 : BitVec 32 := Scalar.addi v8370 c45_i32
  let c2_i32_6609 : BitVec 32 := 2#32
  let v8489 : BitVec 32 := Scalar.muli v8371 c2_i32_6609
  let c1_i32_6610 : BitVec 32 := 1#32
  let v8490 : BitVec 32 := Scalar.addi v8489 c1_i32_6610
  let c64_i32_6616 : BitVec 32 := 64#32
  let v8498 : BitVec 32 := Scalar.muli v8490 c64_i32_6616
  v8498
def k0_mult369 : BitVec 32 :=
  let c120_i32_6665 : BitVec 32 := 120#32
  let c0_i32_6664 : BitVec 32 := 0#32
  let c2_i32_6659 : BitVec 32 := 2#32
  let c62_i32_6658 : BitVec 32 := 62#32
  let c0_i32_126 : BitVec 32 := 0#32
  let v8552 : BitVec 32 := Scalar.muli c62_i32_6658 c0_i32_126
  let v8553 : BitVec 32 := Scalar.addi c2_i32_6659 v8552
  let c46_i32 : BitVec 32 := 46#32
  let v8554 : BitVec 32 := Scalar.addi v8553 c46_i32
  let c2_i32_6660 : BitVec 32 := 2#32
  let v8555 : BitVec 32 := Scalar.subi v8554 c2_i32_6660
  let c2_i32_6661 : BitVec 32 := 2#32
  let v8556 : BitVec 32 := Scalar.muli v8555 c2_i32_6661
  let c0_i32_6662 : BitVec 32 := 0#32
  let v8557 : BitVec 32 := Scalar.addi v8556 c0_i32_6662
  let c4_i32_6663 : BitVec 32 := 4#32
  let v8558 : BitVec 32 := Scalar.subi v8557 c4_i32_6663
  let v8559 : BitVec 32 := Scalar.maxsi c0_i32_6664 v8558
  let v8560 : BitVec 32 := Scalar.minsi c120_i32_6665 v8559
  let c64_i32_6666 : BitVec 32 := 64#32
  let v8561 : BitVec 32 := Scalar.muli v8560 c64_i32_6666
  v8561
def k0_mult370 : BitVec 32 :=
  let c2_i32_6659 : BitVec 32 := 2#32
  let c62_i32_6658 : BitVec 32 := 62#32
  let c0_i32_126 : BitVec 32 := 0#32
  let v8552 : BitVec 32 := Scalar.muli c62_i32_6658 c0_i32_126
  let v8553 : BitVec 32 := Scalar.addi c2_i32_6659 v8552
  let c46_i32 : BitVec 32 := 46#32
  let v8554 : BitVec 32 := Scalar.addi v8553 c46_i32
  let c2_i32_6660 : BitVec 32 := 2#32
  let v8555 : BitVec 32 := Scalar.subi v8554 c2_i32_6660
  let c2_i32_6661 : BitVec 32 := 2#32
  let v8556 : BitVec 32 := Scalar.muli v8555 c2_i32_6661
  let c0_i32_6662 : BitVec 32 := 0#32
  let v8557 : BitVec 32 := Scalar.addi v8556 c0_i32_6662
  let c64_i32_6678 : BitVec 32 := 64#32
  let v8576 : BitVec 32 := Scalar.muli v8557 c64_i32_6678
  v8576
def k0_mult371 : BitVec 32 :=
  let c120_i32_6685 : BitVec 32 := 120#32
  let c0_i32_6684 : BitVec 32 := 0#32
  let c2_i32_6659 : BitVec 32 := 2#32
  let c62_i32_6658 : BitVec 32 := 62#32
  let c0_i32_126 : BitVec 32 := 0#32
  let v8552 : BitVec 32 := Scalar.muli c62_i32_6658 c0_i32_126
  let v8553 : BitVec 32 := Scalar.addi c2_i32_6659 v8552
  let c46_i32 : BitVec 32 := 46#32
  let v8554 : BitVec 32 := Scalar.addi v8553 c46_i32
  let c2_i32_6681 : BitVec 32 := 2#32
  let v8582 : BitVec 32 := Scalar.muli v8554 c2_i32_6681
  let c0_i32_6682 : BitVec 32 := 0#32
  let v8583 : BitVec 32 := Scalar.addi v8582 c0_i32_6682
  let c4_i32_6683 : BitVec 32 := 4#32
  let v8584 : BitVec 32 := Scalar.subi v8583 c4_i32_6683
  let v8585 : BitVec 32 := Scalar.maxsi c0_i32_6684 v8584
  let v8586 : BitVec 32 := Scalar.minsi c120_i32_6685 v8585
  let c64_i32_6686 : BitVec 32 := 64#32
  let v8587 : BitVec 32 := Scalar.muli v8586 c64_i32_6686
  v8587
def k0_mult372 : BitVec 32 :=
  let c2_i32_6659 : BitVec 32 := 2#32
  let c62_i32_6658 : BitVec 32 := 62#32
  let c0_i32_126 : BitVec 32 := 0#32
  let v8552 : BitVec 32 := Scalar.muli c62_i32_6658 c0_i32_126
  let v8553 : BitVec 32 := Scalar.addi c2_i32_6659 v8552
  let c46_i32 : BitVec 32 := 46#32
  let v8554 : BitVec 32 := Scalar.addi v8553 c46_i32
  let c2_i32_6681 : BitVec 32 := 2#32
  let v8582 : BitVec 32 := Scalar.muli v8554 c2_i32_6681
  let c0_i32_6682 : BitVec 32 := 0#32
  let v8583 : BitVec 32 := Scalar.addi v8582 c0_i32_6682
  let c64_i32_6688 : BitVec 32 := 64#32
  let v8591 : BitVec 32 := Scalar.muli v8583 c64_i32_6688
  v8591
def k0_mult373 : BitVec 32 :=
  let c120_i32_6735 : BitVec 32 := 120#32
  let c0_i32_6734 : BitVec 32 := 0#32
  let c2_i32_6659 : BitVec 32 := 2#32
  let c62_i32_6658 : BitVec 32 := 62#32
  let c0_i32_126 : BitVec 32 := 0#32
  let v8552 : BitVec 32 := Scalar.muli c62_i32_6658 c0_i32_126
  let v8553 : BitVec 32 := Scalar.addi c2_i32_6659 v8552
  let c46_i32 : BitVec 32 := 46#32
  let v8554 : BitVec 32 := Scalar.addi v8553 c46_i32
  let c2_i32_6730 : BitVec 32 := 2#32
  let v8645 : BitVec 32 := Scalar.subi v8554 c2_i32_6730
  let c2_i32_6731 : BitVec 32 := 2#32
  let v8646 : BitVec 32 := Scalar.muli v8645 c2_i32_6731
  let c1_i32_6732 : BitVec 32 := 1#32
  let v8647 : BitVec 32 := Scalar.addi v8646 c1_i32_6732
  let c4_i32_6733 : BitVec 32 := 4#32
  let v8648 : BitVec 32 := Scalar.subi v8647 c4_i32_6733
  let v8649 : BitVec 32 := Scalar.maxsi c0_i32_6734 v8648
  let v8650 : BitVec 32 := Scalar.minsi c120_i32_6735 v8649
  let c64_i32_6736 : BitVec 32 := 64#32
  let v8651 : BitVec 32 := Scalar.muli v8650 c64_i32_6736
  v8651
def k0_mult374 : BitVec 32 :=
  let c2_i32_6659 : BitVec 32 := 2#32
  let c62_i32_6658 : BitVec 32 := 62#32
  let c0_i32_126 : BitVec 32 := 0#32
  let v8552 : BitVec 32 := Scalar.muli c62_i32_6658 c0_i32_126
  let v8553 : BitVec 32 := Scalar.addi c2_i32_6659 v8552
  let c46_i32 : BitVec 32 := 46#32
  let v8554 : BitVec 32 := Scalar.addi v8553 c46_i32
  let c2_i32_6730 : BitVec 32 := 2#32
  let v8645 : BitVec 32 := Scalar.subi v8554 c2_i32_6730
  let c2_i32_6731 : BitVec 32 := 2#32
  let v8646 : BitVec 32 := Scalar.muli v8645 c2_i32_6731
  let c1_i32_6732 : BitVec 32 := 1#32
  let v8647 : BitVec 32 := Scalar.addi v8646 c1_i32_6732
  let c64_i32_6748 : BitVec 32 := 64#32
  let v8666 : BitVec 32 := Scalar.muli v8647 c64_i32_6748
  v8666
def k0_mult375 : BitVec 32 :=
  let c120_i32_6755 : BitVec 32 := 120#32
  let c0_i32_6754 : BitVec 32 := 0#32
  let c2_i32_6659 : BitVec 32 := 2#32
  let c62_i32_6658 : BitVec 32 := 62#32
  let c0_i32_126 : BitVec 32 := 0#32
  let v8552 : BitVec 32 := Scalar.muli c62_i32_6658 c0_i32_126
  let v8553 : BitVec 32 := Scalar.addi c2_i32_6659 v8552
  let c46_i32 : BitVec 32 := 46#32
  let v8554 : BitVec 32 := Scalar.addi v8553 c46_i32
  let c2_i32_6751 : BitVec 32 := 2#32
  let v8672 : BitVec 32 := Scalar.muli v8554 c2_i32_6751
  let c1_i32_6752 : BitVec 32 := 1#32
  let v8673 : BitVec 32 := Scalar.addi v8672 c1_i32_6752
  let c4_i32_6753 : BitVec 32 := 4#32
  let v8674 : BitVec 32 := Scalar.subi v8673 c4_i32_6753
  let v8675 : BitVec 32 := Scalar.maxsi c0_i32_6754 v8674
  let v8676 : BitVec 32 := Scalar.minsi c120_i32_6755 v8675
  let c64_i32_6756 : BitVec 32 := 64#32
  let v8677 : BitVec 32 := Scalar.muli v8676 c64_i32_6756
  v8677
def k0_mult376 : BitVec 32 :=
  let c2_i32_6659 : BitVec 32 := 2#32
  let c62_i32_6658 : BitVec 32 := 62#32
  let c0_i32_126 : BitVec 32 := 0#32
  let v8552 : BitVec 32 := Scalar.muli c62_i32_6658 c0_i32_126
  let v8553 : BitVec 32 := Scalar.addi c2_i32_6659 v8552
  let c46_i32 : BitVec 32 := 46#32
  let v8554 : BitVec 32 := Scalar.addi v8553 c46_i32
  let c2_i32_6751 : BitVec 32 := 2#32
  let v8672 : BitVec 32 := Scalar.muli v8554 c2_i32_6751
  let c1_i32_6752 : BitVec 32 := 1#32
  let v8673 : BitVec 32 := Scalar.addi v8672 c1_i32_6752
  let c64_i32_6758 : BitVec 32 := 64#32
  let v8681 : BitVec 32 := Scalar.muli v8673 c64_i32_6758
  v8681
def k0_mult377 : BitVec 32 :=
  let c120_i32_6807 : BitVec 32 := 120#32
  let c0_i32_6806 : BitVec 32 := 0#32
  let c2_i32_6801 : BitVec 32 := 2#32
  let c62_i32_6800 : BitVec 32 := 62#32
  let c0_i32_126 : BitVec 32 := 0#32
  let v8735 : BitVec 32 := Scalar.muli c62_i32_6800 c0_i32_126
  let v8736 : BitVec 32 := Scalar.addi c2_i32_6801 v8735
  let c47_i32 : BitVec 32 := 47#32
  let v8737 : BitVec 32 := Scalar.addi v8736 c47_i32
  let c2_i32_6802 : BitVec 32 := 2#32
  let v8738 : BitVec 32 := Scalar.subi v8737 c2_i32_6802
  let c2_i32_6803 : BitVec 32 := 2#32
  let v8739 : BitVec 32 := Scalar.muli v8738 c2_i32_6803
  let c0_i32_6804 : BitVec 32 := 0#32
  let v8740 : BitVec 32 := Scalar.addi v8739 c0_i32_6804
  let c4_i32_6805 : BitVec 32 := 4#32
  let v8741 : BitVec 32 := Scalar.subi v8740 c4_i32_6805
  let v8742 : BitVec 32 := Scalar.maxsi c0_i32_6806 v8741
  let v8743 : BitVec 32 := Scalar.minsi c120_i32_6807 v8742
  let c64_i32_6808 : BitVec 32 := 64#32
  let v8744 : BitVec 32 := Scalar.muli v8743 c64_i32_6808
  v8744
def k0_mult378 : BitVec 32 :=
  let c2_i32_6801 : BitVec 32 := 2#32
  let c62_i32_6800 : BitVec 32 := 62#32
  let c0_i32_126 : BitVec 32 := 0#32
  let v8735 : BitVec 32 := Scalar.muli c62_i32_6800 c0_i32_126
  let v8736 : BitVec 32 := Scalar.addi c2_i32_6801 v8735
  let c47_i32 : BitVec 32 := 47#32
  let v8737 : BitVec 32 := Scalar.addi v8736 c47_i32
  let c2_i32_6802 : BitVec 32 := 2#32
  let v8738 : BitVec 32 := Scalar.subi v8737 c2_i32_6802
  let c2_i32_6803 : BitVec 32 := 2#32
  let v8739 : BitVec 32 := Scalar.muli v8738 c2_i32_6803
  let c0_i32_6804 : BitVec 32 := 0#32
  let v8740 : BitVec 32 := Scalar.addi v8739 c0_i32_6804
  let c64_i32_6820 : BitVec 32 := 64#32
  let v8759 : BitVec 32 := Scalar.muli v8740 c64_i32_6820
  v8759
def k0_mult379 : BitVec 32 :=
  let c120_i32_6827 : BitVec 32 := 120#32
  let c0_i32_6826 : BitVec 32 := 0#32
  let c2_i32_6801 : BitVec 32 := 2#32
  let c62_i32_6800 : BitVec 32 := 62#32
  let c0_i32_126 : BitVec 32 := 0#32
  let v8735 : BitVec 32 := Scalar.muli c62_i32_6800 c0_i32_126
  let v8736 : BitVec 32 := Scalar.addi c2_i32_6801 v8735
  let c47_i32 : BitVec 32 := 47#32
  let v8737 : BitVec 32 := Scalar.addi v8736 c47_i32
  let c2_i32_6823 : BitVec 32 := 2#32
  let v8765 : BitVec 32 := Scalar.muli v8737 c2_i32_6823
  let c0_i32_6824 : BitVec 32 := 0#32
  let v8766 : BitVec 32 := Scalar.addi v8765 c0_i32_6824
  let c4_i32_6825 : BitVec 32 := 4#32
  let v8767 : BitVec 32 := Scalar.subi v8766 c4_i32_6825
  let v8768 : BitVec 32 := Scalar.maxsi c0_i32_6826 v8767
  let v8769 : BitVec 32 := Scalar.minsi c120_i32_6827 v8768
  let c64_i32_6828 : BitVec 32 := 64#32
  let v8770 : BitVec 32 := Scalar.muli v8769 c64_i32_6828
  v8770
def k0_mult380 : BitVec 32 :=
  let c2_i32_6801 : BitVec 32 := 2#32
  let c62_i32_6800 : BitVec 32 := 62#32
  let c0_i32_126 : BitVec 32 := 0#32
  let v8735 : BitVec 32 := Scalar.muli c62_i32_6800 c0_i32_126
  let v8736 : BitVec 32 := Scalar.addi c2_i32_6801 v8735
  let c47_i32 : BitVec 32 := 47#32
  let v8737 : BitVec 32 := Scalar.addi v8736 c47_i32
  let c2_i32_6823 : BitVec 32 := 2#32
  let v8765 : BitVec 32 := Scalar.muli v8737 c2_i32_6823
  let c0_i32_6824 : BitVec 32 := 0#32
  let v8766 : BitVec 32 := Scalar.addi v8765 c0_i32_6824
  let c64_i32_6830 : BitVec 32 := 64#32
  let v8774 : BitVec 32 := Scalar.muli v8766 c64_i32_6830
  v8774
def k0_mult381 : BitVec 32 :=
  let c120_i32_6877 : BitVec 32 := 120#32
  let c0_i32_6876 : BitVec 32 := 0#32
  let c2_i32_6801 : BitVec 32 := 2#32
  let c62_i32_6800 : BitVec 32 := 62#32
  let c0_i32_126 : BitVec 32 := 0#32
  let v8735 : BitVec 32 := Scalar.muli c62_i32_6800 c0_i32_126
  let v8736 : BitVec 32 := Scalar.addi c2_i32_6801 v8735
  let c47_i32 : BitVec 32 := 47#32
  let v8737 : BitVec 32 := Scalar.addi v8736 c47_i32
  let c2_i32_6872 : BitVec 32 := 2#32
  let v8828 : BitVec 32 := Scalar.subi v8737 c2_i32_6872
  let c2_i32_6873 : BitVec 32 := 2#32
  let v8829 : BitVec 32 := Scalar.muli v8828 c2_i32_6873
  let c1_i32_6874 : BitVec 32 := 1#32
  let v8830 : BitVec 32 := Scalar.addi v8829 c1_i32_6874
  let c4_i32_6875 : BitVec 32 := 4#32
  let v8831 : BitVec 32 := Scalar.subi v8830 c4_i32_6875
  let v8832 : BitVec 32 := Scalar.maxsi c0_i32_6876 v8831
  let v8833 : BitVec 32 := Scalar.minsi c120_i32_6877 v8832
  let c64_i32_6878 : BitVec 32 := 64#32
  let v8834 : BitVec 32 := Scalar.muli v8833 c64_i32_6878
  v8834
def k0_mult382 : BitVec 32 :=
  let c2_i32_6801 : BitVec 32 := 2#32
  let c62_i32_6800 : BitVec 32 := 62#32
  let c0_i32_126 : BitVec 32 := 0#32
  let v8735 : BitVec 32 := Scalar.muli c62_i32_6800 c0_i32_126
  let v8736 : BitVec 32 := Scalar.addi c2_i32_6801 v8735
  let c47_i32 : BitVec 32 := 47#32
  let v8737 : BitVec 32 := Scalar.addi v8736 c47_i32
  let c2_i32_6872 : BitVec 32 := 2#32
  let v8828 : BitVec 32 := Scalar.subi v8737 c2_i32_6872
  let c2_i32_6873 : BitVec 32 := 2#32
  let v8829 : BitVec 32 := Scalar.muli v8828 c2_i32_6873
  let c1_i32_6874 : BitVec 32 := 1#32
  let v8830 : BitVec 32 := Scalar.addi v8829 c1_i32_6874
  let c64_i32_6890 : BitVec 32 := 64#32
  let v8849 : BitVec 32 := Scalar.muli v8830 c64_i32_6890
  v8849
def k0_mult383 : BitVec 32 :=
  let c120_i32_6897 : BitVec 32 := 120#32
  let c0_i32_6896 : BitVec 32 := 0#32
  let c2_i32_6801 : BitVec 32 := 2#32
  let c62_i32_6800 : BitVec 32 := 62#32
  let c0_i32_126 : BitVec 32 := 0#32
  let v8735 : BitVec 32 := Scalar.muli c62_i32_6800 c0_i32_126
  let v8736 : BitVec 32 := Scalar.addi c2_i32_6801 v8735
  let c47_i32 : BitVec 32 := 47#32
  let v8737 : BitVec 32 := Scalar.addi v8736 c47_i32
  let c2_i32_6893 : BitVec 32 := 2#32
  let v8855 : BitVec 32 := Scalar.muli v8737 c2_i32_6893
  let c1_i32_6894 : BitVec 32 := 1#32
  let v8856 : BitVec 32 := Scalar.addi v8855 c1_i32_6894
  let c4_i32_6895 : BitVec 32 := 4#32
  let v8857 : BitVec 32 := Scalar.subi v8856 c4_i32_6895
  let v8858 : BitVec 32 := Scalar.maxsi c0_i32_6896 v8857
  let v8859 : BitVec 32 := Scalar.minsi c120_i32_6897 v8858
  let c64_i32_6898 : BitVec 32 := 64#32
  let v8860 : BitVec 32 := Scalar.muli v8859 c64_i32_6898
  v8860
def k0_mult384 : BitVec 32 :=
  let c2_i32_6801 : BitVec 32 := 2#32
  let c62_i32_6800 : BitVec 32 := 62#32
  let c0_i32_126 : BitVec 32 := 0#32
  let v8735 : BitVec 32 := Scalar.muli c62_i32_6800 c0_i32_126
  let v8736 : BitVec 32 := Scalar.addi c2_i32_6801 v8735
  let c47_i32 : BitVec 32 := 47#32
  let v8737 : BitVec 32 := Scalar.addi v8736 c47_i32
  let c2_i32_6893 : BitVec 32 := 2#32
  let v8855 : BitVec 32 := Scalar.muli v8737 c2_i32_6893
  let c1_i32_6894 : BitVec 32 := 1#32
  let v8856 : BitVec 32 := Scalar.addi v8855 c1_i32_6894
  let c64_i32_6900 : BitVec 32 := 64#32
  let v8864 : BitVec 32 := Scalar.muli v8856 c64_i32_6900
  v8864
def k0_mult385 : BitVec 32 :=
  let c120_i32_6949 : BitVec 32 := 120#32
  let c0_i32_6948 : BitVec 32 := 0#32
  let c2_i32_6943 : BitVec 32 := 2#32
  let c62_i32_6942 : BitVec 32 := 62#32
  let c0_i32_126 : BitVec 32 := 0#32
  let v8918 : BitVec 32 := Scalar.muli c62_i32_6942 c0_i32_126
  let v8919 : BitVec 32 := Scalar.addi c2_i32_6943 v8918
  let c48_i32 : BitVec 32 := 48#32
  let v8920 : BitVec 32 := Scalar.addi v8919 c48_i32
  let c2_i32_6944 : BitVec 32 := 2#32
  let v8921 : BitVec 32 := Scalar.subi v8920 c2_i32_6944
  let c2_i32_6945 : BitVec 32 := 2#32
  let v8922 : BitVec 32 := Scalar.muli v8921 c2_i32_6945
  let c0_i32_6946 : BitVec 32 := 0#32
  let v8923 : BitVec 32 := Scalar.addi v8922 c0_i32_6946
  let c4_i32_6947 : BitVec 32 := 4#32
  let v8924 : BitVec 32 := Scalar.subi v8923 c4_i32_6947
  let v8925 : BitVec 32 := Scalar.maxsi c0_i32_6948 v8924
  let v8926 : BitVec 32 := Scalar.minsi c120_i32_6949 v8925
  let c64_i32_6950 : BitVec 32 := 64#32
  let v8927 : BitVec 32 := Scalar.muli v8926 c64_i32_6950
  v8927
def k0_mult386 : BitVec 32 :=
  let c2_i32_6943 : BitVec 32 := 2#32
  let c62_i32_6942 : BitVec 32 := 62#32
  let c0_i32_126 : BitVec 32 := 0#32
  let v8918 : BitVec 32 := Scalar.muli c62_i32_6942 c0_i32_126
  let v8919 : BitVec 32 := Scalar.addi c2_i32_6943 v8918
  let c48_i32 : BitVec 32 := 48#32
  let v8920 : BitVec 32 := Scalar.addi v8919 c48_i32
  let c2_i32_6944 : BitVec 32 := 2#32
  let v8921 : BitVec 32 := Scalar.subi v8920 c2_i32_6944
  let c2_i32_6945 : BitVec 32 := 2#32
  let v8922 : BitVec 32 := Scalar.muli v8921 c2_i32_6945
  let c0_i32_6946 : BitVec 32 := 0#32
  let v8923 : BitVec 32 := Scalar.addi v8922 c0_i32_6946
  let c64_i32_6962 : BitVec 32 := 64#32
  let v8942 : BitVec 32 := Scalar.muli v8923 c64_i32_6962
  v8942
def k0_mult387 : BitVec 32 :=
  let c120_i32_6969 : BitVec 32 := 120#32
  let c0_i32_6968 : BitVec 32 := 0#32
  let c2_i32_6943 : BitVec 32 := 2#32
  let c62_i32_6942 : BitVec 32 := 62#32
  let c0_i32_126 : BitVec 32 := 0#32
  let v8918 : BitVec 32 := Scalar.muli c62_i32_6942 c0_i32_126
  let v8919 : BitVec 32 := Scalar.addi c2_i32_6943 v8918
  let c48_i32 : BitVec 32 := 48#32
  let v8920 : BitVec 32 := Scalar.addi v8919 c48_i32
  let c2_i32_6965 : BitVec 32 := 2#32
  let v8948 : BitVec 32 := Scalar.muli v8920 c2_i32_6965
  let c0_i32_6966 : BitVec 32 := 0#32
  let v8949 : BitVec 32 := Scalar.addi v8948 c0_i32_6966
  let c4_i32_6967 : BitVec 32 := 4#32
  let v8950 : BitVec 32 := Scalar.subi v8949 c4_i32_6967
  let v8951 : BitVec 32 := Scalar.maxsi c0_i32_6968 v8950
  let v8952 : BitVec 32 := Scalar.minsi c120_i32_6969 v8951
  let c64_i32_6970 : BitVec 32 := 64#32
  let v8953 : BitVec 32 := Scalar.muli v8952 c64_i32_6970
  v8953
def k0_mult388 : BitVec 32 :=
  let c2_i32_6943 : BitVec 32 := 2#32
  let c62_i32_6942 : BitVec 32 := 62#32
  let c0_i32_126 : BitVec 32 := 0#32
  let v8918 : BitVec 32 := Scalar.muli c62_i32_6942 c0_i32_126
  let v8919 : BitVec 32 := Scalar.addi c2_i32_6943 v8918
  let c48_i32 : BitVec 32 := 48#32
  let v8920 : BitVec 32 := Scalar.addi v8919 c48_i32
  let c2_i32_6965 : BitVec 32 := 2#32
  let v8948 : BitVec 32 := Scalar.muli v8920 c2_i32_6965
  let c0_i32_6966 : BitVec 32 := 0#32
  let v8949 : BitVec 32 := Scalar.addi v8948 c0_i32_6966
  let c64_i32_6972 : BitVec 32 := 64#32
  let v8957 : BitVec 32 := Scalar.muli v8949 c64_i32_6972
  v8957
def k0_mult389 : BitVec 32 :=
  let c120_i32_7019 : BitVec 32 := 120#32
  let c0_i32_7018 : BitVec 32 := 0#32
  let c2_i32_6943 : BitVec 32 := 2#32
  let c62_i32_6942 : BitVec 32 := 62#32
  let c0_i32_126 : BitVec 32 := 0#32
  let v8918 : BitVec 32 := Scalar.muli c62_i32_6942 c0_i32_126
  let v8919 : BitVec 32 := Scalar.addi c2_i32_6943 v8918
  let c48_i32 : BitVec 32 := 48#32
  let v8920 : BitVec 32 := Scalar.addi v8919 c48_i32
  let c2_i32_7014 : BitVec 32 := 2#32
  let v9011 : BitVec 32 := Scalar.subi v8920 c2_i32_7014
  let c2_i32_7015 : BitVec 32 := 2#32
  let v9012 : BitVec 32 := Scalar.muli v9011 c2_i32_7015
  let c1_i32_7016 : BitVec 32 := 1#32
  let v9013 : BitVec 32 := Scalar.addi v9012 c1_i32_7016
  let c4_i32_7017 : BitVec 32 := 4#32
  let v9014 : BitVec 32 := Scalar.subi v9013 c4_i32_7017
  let v9015 : BitVec 32 := Scalar.maxsi c0_i32_7018 v9014
  let v9016 : BitVec 32 := Scalar.minsi c120_i32_7019 v9015
  let c64_i32_7020 : BitVec 32 := 64#32
  let v9017 : BitVec 32 := Scalar.muli v9016 c64_i32_7020
  v9017
def k0_mult390 : BitVec 32 :=
  let c2_i32_6943 : BitVec 32 := 2#32
  let c62_i32_6942 : BitVec 32 := 62#32
  let c0_i32_126 : BitVec 32 := 0#32
  let v8918 : BitVec 32 := Scalar.muli c62_i32_6942 c0_i32_126
  let v8919 : BitVec 32 := Scalar.addi c2_i32_6943 v8918
  let c48_i32 : BitVec 32 := 48#32
  let v8920 : BitVec 32 := Scalar.addi v8919 c48_i32
  let c2_i32_7014 : BitVec 32 := 2#32
  let v9011 : BitVec 32 := Scalar.subi v8920 c2_i32_7014
  let c2_i32_7015 : BitVec 32 := 2#32
  let v9012 : BitVec 32 := Scalar.muli v9011 c2_i32_7015
  let c1_i32_7016 : BitVec 32 := 1#32
  let v9013 : BitVec 32 := Scalar.addi v9012 c1_i32_7016
  let c64_i32_7032 : BitVec 32 := 64#32
  let v9032 : BitVec 32 := Scalar.muli v9013 c64_i32_7032
  v9032
def k0_mult391 : BitVec 32 :=
  let c120_i32_7039 : BitVec 32 := 120#32
  let c0_i32_7038 : BitVec 32 := 0#32
  let c2_i32_6943 : BitVec 32 := 2#32
  let c62_i32_6942 : BitVec 32 := 62#32
  let c0_i32_126 : BitVec 32 := 0#32
  let v8918 : BitVec 32 := Scalar.muli c62_i32_6942 c0_i32_126
  let v8919 : BitVec 32 := Scalar.addi c2_i32_6943 v8918
  let c48_i32 : BitVec 32 := 48#32
  let v8920 : BitVec 32 := Scalar.addi v8919 c48_i32
  let c2_i32_7035 : BitVec 32 := 2#32
  let v9038 : BitVec 32 := Scalar.muli v8920 c2_i32_7035
  let c1_i32_7036 : BitVec 32 := 1#32
  let v9039 : BitVec 32 := Scalar.addi v9038 c1_i32_7036
  let c4_i32_7037 : BitVec 32 := 4#32
  let v9040 : BitVec 32 := Scalar.subi v9039 c4_i32_7037
  let v9041 : BitVec 32 := Scalar.maxsi c0_i32_7038 v9040
  let v9042 : BitVec 32 := Scalar.minsi c120_i32_7039 v9041
  let c64_i32_7040 : BitVec 32 := 64#32
  let v9043 : BitVec 32 := Scalar.muli v9042 c64_i32_7040
  v9043
def k0_mult392 : BitVec 32 :=
  let c2_i32_6943 : BitVec 32 := 2#32
  let c62_i32_6942 : BitVec 32 := 62#32
  let c0_i32_126 : BitVec 32 := 0#32
  let v8918 : BitVec 32 := Scalar.muli c62_i32_6942 c0_i32_126
  let v8919 : BitVec 32 := Scalar.addi c2_i32_6943 v8918
  let c48_i32 : BitVec 32 := 48#32
  let v8920 : BitVec 32 := Scalar.addi v8919 c48_i32
  let c2_i32_7035 : BitVec 32 := 2#32
  let v9038 : BitVec 32 := Scalar.muli v8920 c2_i32_7035
  let c1_i32_7036 : BitVec 32 := 1#32
  let v9039 : BitVec 32 := Scalar.addi v9038 c1_i32_7036
  let c64_i32_7042 : BitVec 32 := 64#32
  let v9047 : BitVec 32 := Scalar.muli v9039 c64_i32_7042
  v9047
def k0_mult393 : BitVec 32 :=
  let c120_i32_7091 : BitVec 32 := 120#32
  let c0_i32_7090 : BitVec 32 := 0#32
  let c2_i32_7085 : BitVec 32 := 2#32
  let c62_i32_7084 : BitVec 32 := 62#32
  let c0_i32_126 : BitVec 32 := 0#32
  let v9101 : BitVec 32 := Scalar.muli c62_i32_7084 c0_i32_126
  let v9102 : BitVec 32 := Scalar.addi c2_i32_7085 v9101
  let c49_i32 : BitVec 32 := 49#32
  let v9103 : BitVec 32 := Scalar.addi v9102 c49_i32
  let c2_i32_7086 : BitVec 32 := 2#32
  let v9104 : BitVec 32 := Scalar.subi v9103 c2_i32_7086
  let c2_i32_7087 : BitVec 32 := 2#32
  let v9105 : BitVec 32 := Scalar.muli v9104 c2_i32_7087
  let c0_i32_7088 : BitVec 32 := 0#32
  let v9106 : BitVec 32 := Scalar.addi v9105 c0_i32_7088
  let c4_i32_7089 : BitVec 32 := 4#32
  let v9107 : BitVec 32 := Scalar.subi v9106 c4_i32_7089
  let v9108 : BitVec 32 := Scalar.maxsi c0_i32_7090 v9107
  let v9109 : BitVec 32 := Scalar.minsi c120_i32_7091 v9108
  let c64_i32_7092 : BitVec 32 := 64#32
  let v9110 : BitVec 32 := Scalar.muli v9109 c64_i32_7092
  v9110
def k0_mult394 : BitVec 32 :=
  let c2_i32_7085 : BitVec 32 := 2#32
  let c62_i32_7084 : BitVec 32 := 62#32
  let c0_i32_126 : BitVec 32 := 0#32
  let v9101 : BitVec 32 := Scalar.muli c62_i32_7084 c0_i32_126
  let v9102 : BitVec 32 := Scalar.addi c2_i32_7085 v9101
  let c49_i32 : BitVec 32 := 49#32
  let v9103 : BitVec 32 := Scalar.addi v9102 c49_i32
  let c2_i32_7086 : BitVec 32 := 2#32
  let v9104 : BitVec 32 := Scalar.subi v9103 c2_i32_7086
  let c2_i32_7087 : BitVec 32 := 2#32
  let v9105 : BitVec 32 := Scalar.muli v9104 c2_i32_7087
  let c0_i32_7088 : BitVec 32 := 0#32
  let v9106 : BitVec 32 := Scalar.addi v9105 c0_i32_7088
  let c64_i32_7104 : BitVec 32 := 64#32
  let v9125 : BitVec 32 := Scalar.muli v9106 c64_i32_7104
  v9125
def k0_mult395 : BitVec 32 :=
  let c120_i32_7111 : BitVec 32 := 120#32
  let c0_i32_7110 : BitVec 32 := 0#32
  let c2_i32_7085 : BitVec 32 := 2#32
  let c62_i32_7084 : BitVec 32 := 62#32
  let c0_i32_126 : BitVec 32 := 0#32
  let v9101 : BitVec 32 := Scalar.muli c62_i32_7084 c0_i32_126
  let v9102 : BitVec 32 := Scalar.addi c2_i32_7085 v9101
  let c49_i32 : BitVec 32 := 49#32
  let v9103 : BitVec 32 := Scalar.addi v9102 c49_i32
  let c2_i32_7107 : BitVec 32 := 2#32
  let v9131 : BitVec 32 := Scalar.muli v9103 c2_i32_7107
  let c0_i32_7108 : BitVec 32 := 0#32
  let v9132 : BitVec 32 := Scalar.addi v9131 c0_i32_7108
  let c4_i32_7109 : BitVec 32 := 4#32
  let v9133 : BitVec 32 := Scalar.subi v9132 c4_i32_7109
  let v9134 : BitVec 32 := Scalar.maxsi c0_i32_7110 v9133
  let v9135 : BitVec 32 := Scalar.minsi c120_i32_7111 v9134
  let c64_i32_7112 : BitVec 32 := 64#32
  let v9136 : BitVec 32 := Scalar.muli v9135 c64_i32_7112
  v9136
def k0_mult396 : BitVec 32 :=
  let c2_i32_7085 : BitVec 32 := 2#32
  let c62_i32_7084 : BitVec 32 := 62#32
  let c0_i32_126 : BitVec 32 := 0#32
  let v9101 : BitVec 32 := Scalar.muli c62_i32_7084 c0_i32_126
  let v9102 : BitVec 32 := Scalar.addi c2_i32_7085 v9101
  let c49_i32 : BitVec 32 := 49#32
  let v9103 : BitVec 32 := Scalar.addi v9102 c49_i32
  let c2_i32_7107 : BitVec 32 := 2#32
  let v9131 : BitVec 32 := Scalar.muli v9103 c2_i32_7107
  let c0_i32_7108 : BitVec 32 := 0#32
  let v9132 : BitVec 32 := Scalar.addi v9131 c0_i32_7108
  let c64_i32_7114 : BitVec 32 := 64#32
  let v9140 : BitVec 32 := Scalar.muli v9132 c64_i32_7114
  v9140
def k0_mult397 : BitVec 32 :=
  let c120_i32_7161 : BitVec 32 := 120#32
  let c0_i32_7160 : BitVec 32 := 0#32
  let c2_i32_7085 : BitVec 32 := 2#32
  let c62_i32_7084 : BitVec 32 := 62#32
  let c0_i32_126 : BitVec 32 := 0#32
  let v9101 : BitVec 32 := Scalar.muli c62_i32_7084 c0_i32_126
  let v9102 : BitVec 32 := Scalar.addi c2_i32_7085 v9101
  let c49_i32 : BitVec 32 := 49#32
  let v9103 : BitVec 32 := Scalar.addi v9102 c49_i32
  let c2_i32_7156 : BitVec 32 := 2#32
  let v9194 : BitVec 32 := Scalar.subi v9103 c2_i32_7156
  let c2_i32_7157 : BitVec 32 := 2#32
  let v9195 : BitVec 32 := Scalar.muli v9194 c2_i32_7157
  let c1_i32_7158 : BitVec 32 := 1#32
  let v9196 : BitVec 32 := Scalar.addi v9195 c1_i32_7158
  let c4_i32_7159 : BitVec 32 := 4#32
  let v9197 : BitVec 32 := Scalar.subi v9196 c4_i32_7159
  let v9198 : BitVec 32 := Scalar.maxsi c0_i32_7160 v9197
  let v9199 : BitVec 32 := Scalar.minsi c120_i32_7161 v9198
  let c64_i32_7162 : BitVec 32 := 64#32
  let v9200 : BitVec 32 := Scalar.muli v9199 c64_i32_7162
  v9200
def k0_mult398 : BitVec 32 :=
  let c2_i32_7085 : BitVec 32 := 2#32
  let c62_i32_7084 : BitVec 32 := 62#32
  let c0_i32_126 : BitVec 32 := 0#32
  let v9101 : BitVec 32 := Scalar.muli c62_i32_7084 c0_i32_126
  let v9102 : BitVec 32 := Scalar.addi c2_i32_7085 v9101
  let c49_i32 : BitVec 32 := 49#32
  let v9103 : BitVec 32 := Scalar.addi v9102 c49_i32
  let c2_i32_7156 : BitVec 32 := 2#32
  let v9194 : BitVec 32 := Scalar.subi v9103 c2_i32_7156
  let c2_i32_7157 : BitVec 32 := 2#32
  let v9195 : BitVec 32 := Scalar.muli v9194 c2_i32_7157
  let c1_i32_7158 : BitVec 32 := 1#32
  let v9196 : BitVec 32 := Scalar.addi v9195 c1_i32_7158
  let c64_i32_7174 : BitVec 32 := 64#32
  let v9215 : BitVec 32 := Scalar.muli v9196 c64_i32_7174
  v9215
def k0_mult399 : BitVec 32 :=
  let c120_i32_7181 : BitVec 32 := 120#32
  let c0_i32_7180 : BitVec 32 := 0#32
  let c2_i32_7085 : BitVec 32 := 2#32
  let c62_i32_7084 : BitVec 32 := 62#32
  let c0_i32_126 : BitVec 32 := 0#32
  let v9101 : BitVec 32 := Scalar.muli c62_i32_7084 c0_i32_126
  let v9102 : BitVec 32 := Scalar.addi c2_i32_7085 v9101
  let c49_i32 : BitVec 32 := 49#32
  let v9103 : BitVec 32 := Scalar.addi v9102 c49_i32
  let c2_i32_7177 : BitVec 32 := 2#32
  let v9221 : BitVec 32 := Scalar.muli v9103 c2_i32_7177
  let c1_i32_7178 : BitVec 32 := 1#32
  let v9222 : BitVec 32 := Scalar.addi v9221 c1_i32_7178
  let c4_i32_7179 : BitVec 32 := 4#32
  let v9223 : BitVec 32 := Scalar.subi v9222 c4_i32_7179
  let v9224 : BitVec 32 := Scalar.maxsi c0_i32_7180 v9223
  let v9225 : BitVec 32 := Scalar.minsi c120_i32_7181 v9224
  let c64_i32_7182 : BitVec 32 := 64#32
  let v9226 : BitVec 32 := Scalar.muli v9225 c64_i32_7182
  v9226
def k0_mult400 : BitVec 32 :=
  let c2_i32_7085 : BitVec 32 := 2#32
  let c62_i32_7084 : BitVec 32 := 62#32
  let c0_i32_126 : BitVec 32 := 0#32
  let v9101 : BitVec 32 := Scalar.muli c62_i32_7084 c0_i32_126
  let v9102 : BitVec 32 := Scalar.addi c2_i32_7085 v9101
  let c49_i32 : BitVec 32 := 49#32
  let v9103 : BitVec 32 := Scalar.addi v9102 c49_i32
  let c2_i32_7177 : BitVec 32 := 2#32
  let v9221 : BitVec 32 := Scalar.muli v9103 c2_i32_7177
  let c1_i32_7178 : BitVec 32 := 1#32
  let v9222 : BitVec 32 := Scalar.addi v9221 c1_i32_7178
  let c64_i32_7184 : BitVec 32 := 64#32
  let v9230 : BitVec 32 := Scalar.muli v9222 c64_i32_7184
  v9230
def k0_mult401 : BitVec 32 :=
  let c120_i32_7233 : BitVec 32 := 120#32
  let c0_i32_7232 : BitVec 32 := 0#32
  let c2_i32_7227 : BitVec 32 := 2#32
  let c62_i32_7226 : BitVec 32 := 62#32
  let c0_i32_126 : BitVec 32 := 0#32
  let v9284 : BitVec 32 := Scalar.muli c62_i32_7226 c0_i32_126
  let v9285 : BitVec 32 := Scalar.addi c2_i32_7227 v9284
  let c50_i32 : BitVec 32 := 50#32
  let v9286 : BitVec 32 := Scalar.addi v9285 c50_i32
  let c2_i32_7228 : BitVec 32 := 2#32
  let v9287 : BitVec 32 := Scalar.subi v9286 c2_i32_7228
  let c2_i32_7229 : BitVec 32 := 2#32
  let v9288 : BitVec 32 := Scalar.muli v9287 c2_i32_7229
  let c0_i32_7230 : BitVec 32 := 0#32
  let v9289 : BitVec 32 := Scalar.addi v9288 c0_i32_7230
  let c4_i32_7231 : BitVec 32 := 4#32
  let v9290 : BitVec 32 := Scalar.subi v9289 c4_i32_7231
  let v9291 : BitVec 32 := Scalar.maxsi c0_i32_7232 v9290
  let v9292 : BitVec 32 := Scalar.minsi c120_i32_7233 v9291
  let c64_i32_7234 : BitVec 32 := 64#32
  let v9293 : BitVec 32 := Scalar.muli v9292 c64_i32_7234
  v9293
def k0_mult402 : BitVec 32 :=
  let c2_i32_7227 : BitVec 32 := 2#32
  let c62_i32_7226 : BitVec 32 := 62#32
  let c0_i32_126 : BitVec 32 := 0#32
  let v9284 : BitVec 32 := Scalar.muli c62_i32_7226 c0_i32_126
  let v9285 : BitVec 32 := Scalar.addi c2_i32_7227 v9284
  let c50_i32 : BitVec 32 := 50#32
  let v9286 : BitVec 32 := Scalar.addi v9285 c50_i32
  let c2_i32_7228 : BitVec 32 := 2#32
  let v9287 : BitVec 32 := Scalar.subi v9286 c2_i32_7228
  let c2_i32_7229 : BitVec 32 := 2#32
  let v9288 : BitVec 32 := Scalar.muli v9287 c2_i32_7229
  let c0_i32_7230 : BitVec 32 := 0#32
  let v9289 : BitVec 32 := Scalar.addi v9288 c0_i32_7230
  let c64_i32_7246 : BitVec 32 := 64#32
  let v9308 : BitVec 32 := Scalar.muli v9289 c64_i32_7246
  v9308
def k0_mult403 : BitVec 32 :=
  let c120_i32_7253 : BitVec 32 := 120#32
  let c0_i32_7252 : BitVec 32 := 0#32
  let c2_i32_7227 : BitVec 32 := 2#32
  let c62_i32_7226 : BitVec 32 := 62#32
  let c0_i32_126 : BitVec 32 := 0#32
  let v9284 : BitVec 32 := Scalar.muli c62_i32_7226 c0_i32_126
  let v9285 : BitVec 32 := Scalar.addi c2_i32_7227 v9284
  let c50_i32 : BitVec 32 := 50#32
  let v9286 : BitVec 32 := Scalar.addi v9285 c50_i32
  let c2_i32_7249 : BitVec 32 := 2#32
  let v9314 : BitVec 32 := Scalar.muli v9286 c2_i32_7249
  let c0_i32_7250 : BitVec 32 := 0#32
  let v9315 : BitVec 32 := Scalar.addi v9314 c0_i32_7250
  let c4_i32_7251 : BitVec 32 := 4#32
  let v9316 : BitVec 32 := Scalar.subi v9315 c4_i32_7251
  let v9317 : BitVec 32 := Scalar.maxsi c0_i32_7252 v9316
  let v9318 : BitVec 32 := Scalar.minsi c120_i32_7253 v9317
  let c64_i32_7254 : BitVec 32 := 64#32
  let v9319 : BitVec 32 := Scalar.muli v9318 c64_i32_7254
  v9319
def k0_mult404 : BitVec 32 :=
  let c2_i32_7227 : BitVec 32 := 2#32
  let c62_i32_7226 : BitVec 32 := 62#32
  let c0_i32_126 : BitVec 32 := 0#32
  let v9284 : BitVec 32 := Scalar.muli c62_i32_7226 c0_i32_126
  let v9285 : BitVec 32 := Scalar.addi c2_i32_7227 v9284
  let c50_i32 : BitVec 32 := 50#32
  let v9286 : BitVec 32 := Scalar.addi v9285 c50_i32
  let c2_i32_7249 : BitVec 32 := 2#32
  let v9314 : BitVec 32 := Scalar.muli v9286 c2_i32_7249
  let c0_i32_7250 : BitVec 32 := 0#32
  let v9315 : BitVec 32 := Scalar.addi v9314 c0_i32_7250
  let c64_i32_7256 : BitVec 32 := 64#32
  let v9323 : BitVec 32 := Scalar.muli v9315 c64_i32_7256
  v9323
def k0_mult405 : BitVec 32 :=
  let c120_i32_7303 : BitVec 32 := 120#32
  let c0_i32_7302 : BitVec 32 := 0#32
  let c2_i32_7227 : BitVec 32 := 2#32
  let c62_i32_7226 : BitVec 32 := 62#32
  let c0_i32_126 : BitVec 32 := 0#32
  let v9284 : BitVec 32 := Scalar.muli c62_i32_7226 c0_i32_126
  let v9285 : BitVec 32 := Scalar.addi c2_i32_7227 v9284
  let c50_i32 : BitVec 32 := 50#32
  let v9286 : BitVec 32 := Scalar.addi v9285 c50_i32
  let c2_i32_7298 : BitVec 32 := 2#32
  let v9377 : BitVec 32 := Scalar.subi v9286 c2_i32_7298
  let c2_i32_7299 : BitVec 32 := 2#32
  let v9378 : BitVec 32 := Scalar.muli v9377 c2_i32_7299
  let c1_i32_7300 : BitVec 32 := 1#32
  let v9379 : BitVec 32 := Scalar.addi v9378 c1_i32_7300
  let c4_i32_7301 : BitVec 32 := 4#32
  let v9380 : BitVec 32 := Scalar.subi v9379 c4_i32_7301
  let v9381 : BitVec 32 := Scalar.maxsi c0_i32_7302 v9380
  let v9382 : BitVec 32 := Scalar.minsi c120_i32_7303 v9381
  let c64_i32_7304 : BitVec 32 := 64#32
  let v9383 : BitVec 32 := Scalar.muli v9382 c64_i32_7304
  v9383
def k0_mult406 : BitVec 32 :=
  let c2_i32_7227 : BitVec 32 := 2#32
  let c62_i32_7226 : BitVec 32 := 62#32
  let c0_i32_126 : BitVec 32 := 0#32
  let v9284 : BitVec 32 := Scalar.muli c62_i32_7226 c0_i32_126
  let v9285 : BitVec 32 := Scalar.addi c2_i32_7227 v9284
  let c50_i32 : BitVec 32 := 50#32
  let v9286 : BitVec 32 := Scalar.addi v9285 c50_i32
  let c2_i32_7298 : BitVec 32 := 2#32
  let v9377 : BitVec 32 := Scalar.subi v9286 c2_i32_7298
  let c2_i32_7299 : BitVec 32 := 2#32
  let v9378 : BitVec 32 := Scalar.muli v9377 c2_i32_7299
  let c1_i32_7300 : BitVec 32 := 1#32
  let v9379 : BitVec 32 := Scalar.addi v9378 c1_i32_7300
  let c64_i32_7316 : BitVec 32 := 64#32
  let v9398 : BitVec 32 := Scalar.muli v9379 c64_i32_7316
  v9398
def k0_mult407 : BitVec 32 :=
  let c120_i32_7323 : BitVec 32 := 120#32
  let c0_i32_7322 : BitVec 32 := 0#32
  let c2_i32_7227 : BitVec 32 := 2#32
  let c62_i32_7226 : BitVec 32 := 62#32
  let c0_i32_126 : BitVec 32 := 0#32
  let v9284 : BitVec 32 := Scalar.muli c62_i32_7226 c0_i32_126
  let v9285 : BitVec 32 := Scalar.addi c2_i32_7227 v9284
  let c50_i32 : BitVec 32 := 50#32
  let v9286 : BitVec 32 := Scalar.addi v9285 c50_i32
  let c2_i32_7319 : BitVec 32 := 2#32
  let v9404 : BitVec 32 := Scalar.muli v9286 c2_i32_7319
  let c1_i32_7320 : BitVec 32 := 1#32
  let v9405 : BitVec 32 := Scalar.addi v9404 c1_i32_7320
  let c4_i32_7321 : BitVec 32 := 4#32
  let v9406 : BitVec 32 := Scalar.subi v9405 c4_i32_7321
  let v9407 : BitVec 32 := Scalar.maxsi c0_i32_7322 v9406
  let v9408 : BitVec 32 := Scalar.minsi c120_i32_7323 v9407
  let c64_i32_7324 : BitVec 32 := 64#32
  let v9409 : BitVec 32 := Scalar.muli v9408 c64_i32_7324
  v9409
def k0_mult408 : BitVec 32 :=
  let c2_i32_7227 : BitVec 32 := 2#32
  let c62_i32_7226 : BitVec 32 := 62#32
  let c0_i32_126 : BitVec 32 := 0#32
  let v9284 : BitVec 32 := Scalar.muli c62_i32_7226 c0_i32_126
  let v9285 : BitVec 32 := Scalar.addi c2_i32_7227 v9284
  let c50_i32 : BitVec 32 := 50#32
  let v9286 : BitVec 32 := Scalar.addi v9285 c50_i32
  let c2_i32_7319 : BitVec 32 := 2#32
  let v9404 : BitVec 32 := Scalar.muli v9286 c2_i32_7319
  let c1_i32_7320 : BitVec 32 := 1#32
  let v9405 : BitVec 32 := Scalar.addi v9404 c1_i32_7320
  let c64_i32_7326 : BitVec 32 := 64#32
  let v9413 : BitVec 32 := Scalar.muli v9405 c64_i32_7326
  v9413
def k0_mult409 : BitVec 32 :=
  let c120_i32_7375 : BitVec 32 := 120#32
  let c0_i32_7374 : BitVec 32 := 0#32
  let c2_i32_7369 : BitVec 32 := 2#32
  let c62_i32_7368 : BitVec 32 := 62#32
  let c0_i32_126 : BitVec 32 := 0#32
  let v9467 : BitVec 32 := Scalar.muli c62_i32_7368 c0_i32_126
  let v9468 : BitVec 32 := Scalar.addi c2_i32_7369 v9467
  let c51_i32 : BitVec 32 := 51#32
  let v9469 : BitVec 32 := Scalar.addi v9468 c51_i32
  let c2_i32_7370 : BitVec 32 := 2#32
  let v9470 : BitVec 32 := Scalar.subi v9469 c2_i32_7370
  let c2_i32_7371 : BitVec 32 := 2#32
  let v9471 : BitVec 32 := Scalar.muli v9470 c2_i32_7371
  let c0_i32_7372 : BitVec 32 := 0#32
  let v9472 : BitVec 32 := Scalar.addi v9471 c0_i32_7372
  let c4_i32_7373 : BitVec 32 := 4#32
  let v9473 : BitVec 32 := Scalar.subi v9472 c4_i32_7373
  let v9474 : BitVec 32 := Scalar.maxsi c0_i32_7374 v9473
  let v9475 : BitVec 32 := Scalar.minsi c120_i32_7375 v9474
  let c64_i32_7376 : BitVec 32 := 64#32
  let v9476 : BitVec 32 := Scalar.muli v9475 c64_i32_7376
  v9476
def k0_mult410 : BitVec 32 :=
  let c2_i32_7369 : BitVec 32 := 2#32
  let c62_i32_7368 : BitVec 32 := 62#32
  let c0_i32_126 : BitVec 32 := 0#32
  let v9467 : BitVec 32 := Scalar.muli c62_i32_7368 c0_i32_126
  let v9468 : BitVec 32 := Scalar.addi c2_i32_7369 v9467
  let c51_i32 : BitVec 32 := 51#32
  let v9469 : BitVec 32 := Scalar.addi v9468 c51_i32
  let c2_i32_7370 : BitVec 32 := 2#32
  let v9470 : BitVec 32 := Scalar.subi v9469 c2_i32_7370
  let c2_i32_7371 : BitVec 32 := 2#32
  let v9471 : BitVec 32 := Scalar.muli v9470 c2_i32_7371
  let c0_i32_7372 : BitVec 32 := 0#32
  let v9472 : BitVec 32 := Scalar.addi v9471 c0_i32_7372
  let c64_i32_7388 : BitVec 32 := 64#32
  let v9491 : BitVec 32 := Scalar.muli v9472 c64_i32_7388
  v9491
def k0_mult411 : BitVec 32 :=
  let c120_i32_7395 : BitVec 32 := 120#32
  let c0_i32_7394 : BitVec 32 := 0#32
  let c2_i32_7369 : BitVec 32 := 2#32
  let c62_i32_7368 : BitVec 32 := 62#32
  let c0_i32_126 : BitVec 32 := 0#32
  let v9467 : BitVec 32 := Scalar.muli c62_i32_7368 c0_i32_126
  let v9468 : BitVec 32 := Scalar.addi c2_i32_7369 v9467
  let c51_i32 : BitVec 32 := 51#32
  let v9469 : BitVec 32 := Scalar.addi v9468 c51_i32
  let c2_i32_7391 : BitVec 32 := 2#32
  let v9497 : BitVec 32 := Scalar.muli v9469 c2_i32_7391
  let c0_i32_7392 : BitVec 32 := 0#32
  let v9498 : BitVec 32 := Scalar.addi v9497 c0_i32_7392
  let c4_i32_7393 : BitVec 32 := 4#32
  let v9499 : BitVec 32 := Scalar.subi v9498 c4_i32_7393
  let v9500 : BitVec 32 := Scalar.maxsi c0_i32_7394 v9499
  let v9501 : BitVec 32 := Scalar.minsi c120_i32_7395 v9500
  let c64_i32_7396 : BitVec 32 := 64#32
  let v9502 : BitVec 32 := Scalar.muli v9501 c64_i32_7396
  v9502
def k0_mult412 : BitVec 32 :=
  let c2_i32_7369 : BitVec 32 := 2#32
  let c62_i32_7368 : BitVec 32 := 62#32
  let c0_i32_126 : BitVec 32 := 0#32
  let v9467 : BitVec 32 := Scalar.muli c62_i32_7368 c0_i32_126
  let v9468 : BitVec 32 := Scalar.addi c2_i32_7369 v9467
  let c51_i32 : BitVec 32 := 51#32
  let v9469 : BitVec 32 := Scalar.addi v9468 c51_i32
  let c2_i32_7391 : BitVec 32 := 2#32
  let v9497 : BitVec 32 := Scalar.muli v9469 c2_i32_7391
  let c0_i32_7392 : BitVec 32 := 0#32
  let v9498 : BitVec 32 := Scalar.addi v9497 c0_i32_7392
  let c64_i32_7398 : BitVec 32 := 64#32
  let v9506 : BitVec 32 := Scalar.muli v9498 c64_i32_7398
  v9506
def k0_mult413 : BitVec 32 :=
  let c120_i32_7445 : BitVec 32 := 120#32
  let c0_i32_7444 : BitVec 32 := 0#32
  let c2_i32_7369 : BitVec 32 := 2#32
  let c62_i32_7368 : BitVec 32 := 62#32
  let c0_i32_126 : BitVec 32 := 0#32
  let v9467 : BitVec 32 := Scalar.muli c62_i32_7368 c0_i32_126
  let v9468 : BitVec 32 := Scalar.addi c2_i32_7369 v9467
  let c51_i32 : BitVec 32 := 51#32
  let v9469 : BitVec 32 := Scalar.addi v9468 c51_i32
  let c2_i32_7440 : BitVec 32 := 2#32
  let v9560 : BitVec 32 := Scalar.subi v9469 c2_i32_7440
  let c2_i32_7441 : BitVec 32 := 2#32
  let v9561 : BitVec 32 := Scalar.muli v9560 c2_i32_7441
  let c1_i32_7442 : BitVec 32 := 1#32
  let v9562 : BitVec 32 := Scalar.addi v9561 c1_i32_7442
  let c4_i32_7443 : BitVec 32 := 4#32
  let v9563 : BitVec 32 := Scalar.subi v9562 c4_i32_7443
  let v9564 : BitVec 32 := Scalar.maxsi c0_i32_7444 v9563
  let v9565 : BitVec 32 := Scalar.minsi c120_i32_7445 v9564
  let c64_i32_7446 : BitVec 32 := 64#32
  let v9566 : BitVec 32 := Scalar.muli v9565 c64_i32_7446
  v9566
def k0_mult414 : BitVec 32 :=
  let c2_i32_7369 : BitVec 32 := 2#32
  let c62_i32_7368 : BitVec 32 := 62#32
  let c0_i32_126 : BitVec 32 := 0#32
  let v9467 : BitVec 32 := Scalar.muli c62_i32_7368 c0_i32_126
  let v9468 : BitVec 32 := Scalar.addi c2_i32_7369 v9467
  let c51_i32 : BitVec 32 := 51#32
  let v9469 : BitVec 32 := Scalar.addi v9468 c51_i32
  let c2_i32_7440 : BitVec 32 := 2#32
  let v9560 : BitVec 32 := Scalar.subi v9469 c2_i32_7440
  let c2_i32_7441 : BitVec 32 := 2#32
  let v9561 : BitVec 32 := Scalar.muli v9560 c2_i32_7441
  let c1_i32_7442 : BitVec 32 := 1#32
  let v9562 : BitVec 32 := Scalar.addi v9561 c1_i32_7442
  let c64_i32_7458 : BitVec 32 := 64#32
  let v9581 : BitVec 32 := Scalar.muli v9562 c64_i32_7458
  v9581
def k0_mult415 : BitVec 32 :=
  let c120_i32_7465 : BitVec 32 := 120#32
  let c0_i32_7464 : BitVec 32 := 0#32
  let c2_i32_7369 : BitVec 32 := 2#32
  let c62_i32_7368 : BitVec 32 := 62#32
  let c0_i32_126 : BitVec 32 := 0#32
  let v9467 : BitVec 32 := Scalar.muli c62_i32_7368 c0_i32_126
  let v9468 : BitVec 32 := Scalar.addi c2_i32_7369 v9467
  let c51_i32 : BitVec 32 := 51#32
  let v9469 : BitVec 32 := Scalar.addi v9468 c51_i32
  let c2_i32_7461 : BitVec 32 := 2#32
  let v9587 : BitVec 32 := Scalar.muli v9469 c2_i32_7461
  let c1_i32_7462 : BitVec 32 := 1#32
  let v9588 : BitVec 32 := Scalar.addi v9587 c1_i32_7462
  let c4_i32_7463 : BitVec 32 := 4#32
  let v9589 : BitVec 32 := Scalar.subi v9588 c4_i32_7463
  let v9590 : BitVec 32 := Scalar.maxsi c0_i32_7464 v9589
  let v9591 : BitVec 32 := Scalar.minsi c120_i32_7465 v9590
  let c64_i32_7466 : BitVec 32 := 64#32
  let v9592 : BitVec 32 := Scalar.muli v9591 c64_i32_7466
  v9592
def k0_mult416 : BitVec 32 :=
  let c2_i32_7369 : BitVec 32 := 2#32
  let c62_i32_7368 : BitVec 32 := 62#32
  let c0_i32_126 : BitVec 32 := 0#32
  let v9467 : BitVec 32 := Scalar.muli c62_i32_7368 c0_i32_126
  let v9468 : BitVec 32 := Scalar.addi c2_i32_7369 v9467
  let c51_i32 : BitVec 32 := 51#32
  let v9469 : BitVec 32 := Scalar.addi v9468 c51_i32
  let c2_i32_7461 : BitVec 32 := 2#32
  let v9587 : BitVec 32 := Scalar.muli v9469 c2_i32_7461
  let c1_i32_7462 : BitVec 32 := 1#32
  let v9588 : BitVec 32 := Scalar.addi v9587 c1_i32_7462
  let c64_i32_7468 : BitVec 32 := 64#32
  let v9596 : BitVec 32 := Scalar.muli v9588 c64_i32_7468
  v9596
def k0_mult417 : BitVec 32 :=
  let c120_i32_7517 : BitVec 32 := 120#32
  let c0_i32_7516 : BitVec 32 := 0#32
  let c2_i32_7511 : BitVec 32 := 2#32
  let c62_i32_7510 : BitVec 32 := 62#32
  let c0_i32_126 : BitVec 32 := 0#32
  let v9650 : BitVec 32 := Scalar.muli c62_i32_7510 c0_i32_126
  let v9651 : BitVec 32 := Scalar.addi c2_i32_7511 v9650
  let c52_i32 : BitVec 32 := 52#32
  let v9652 : BitVec 32 := Scalar.addi v9651 c52_i32
  let c2_i32_7512 : BitVec 32 := 2#32
  let v9653 : BitVec 32 := Scalar.subi v9652 c2_i32_7512
  let c2_i32_7513 : BitVec 32 := 2#32
  let v9654 : BitVec 32 := Scalar.muli v9653 c2_i32_7513
  let c0_i32_7514 : BitVec 32 := 0#32
  let v9655 : BitVec 32 := Scalar.addi v9654 c0_i32_7514
  let c4_i32_7515 : BitVec 32 := 4#32
  let v9656 : BitVec 32 := Scalar.subi v9655 c4_i32_7515
  let v9657 : BitVec 32 := Scalar.maxsi c0_i32_7516 v9656
  let v9658 : BitVec 32 := Scalar.minsi c120_i32_7517 v9657
  let c64_i32_7518 : BitVec 32 := 64#32
  let v9659 : BitVec 32 := Scalar.muli v9658 c64_i32_7518
  v9659
def k0_mult418 : BitVec 32 :=
  let c2_i32_7511 : BitVec 32 := 2#32
  let c62_i32_7510 : BitVec 32 := 62#32
  let c0_i32_126 : BitVec 32 := 0#32
  let v9650 : BitVec 32 := Scalar.muli c62_i32_7510 c0_i32_126
  let v9651 : BitVec 32 := Scalar.addi c2_i32_7511 v9650
  let c52_i32 : BitVec 32 := 52#32
  let v9652 : BitVec 32 := Scalar.addi v9651 c52_i32
  let c2_i32_7512 : BitVec 32 := 2#32
  let v9653 : BitVec 32 := Scalar.subi v9652 c2_i32_7512
  let c2_i32_7513 : BitVec 32 := 2#32
  let v9654 : BitVec 32 := Scalar.muli v9653 c2_i32_7513
  let c0_i32_7514 : BitVec 32 := 0#32
  let v9655 : BitVec 32 := Scalar.addi v9654 c0_i32_7514
  let c64_i32_7530 : BitVec 32 := 64#32
  let v9674 : BitVec 32 := Scalar.muli v9655 c64_i32_7530
  v9674
def k0_mult419 : BitVec 32 :=
  let c120_i32_7537 : BitVec 32 := 120#32
  let c0_i32_7536 : BitVec 32 := 0#32
  let c2_i32_7511 : BitVec 32 := 2#32
  let c62_i32_7510 : BitVec 32 := 62#32
  let c0_i32_126 : BitVec 32 := 0#32
  let v9650 : BitVec 32 := Scalar.muli c62_i32_7510 c0_i32_126
  let v9651 : BitVec 32 := Scalar.addi c2_i32_7511 v9650
  let c52_i32 : BitVec 32 := 52#32
  let v9652 : BitVec 32 := Scalar.addi v9651 c52_i32
  let c2_i32_7533 : BitVec 32 := 2#32
  let v9680 : BitVec 32 := Scalar.muli v9652 c2_i32_7533
  let c0_i32_7534 : BitVec 32 := 0#32
  let v9681 : BitVec 32 := Scalar.addi v9680 c0_i32_7534
  let c4_i32_7535 : BitVec 32 := 4#32
  let v9682 : BitVec 32 := Scalar.subi v9681 c4_i32_7535
  let v9683 : BitVec 32 := Scalar.maxsi c0_i32_7536 v9682
  let v9684 : BitVec 32 := Scalar.minsi c120_i32_7537 v9683
  let c64_i32_7538 : BitVec 32 := 64#32
  let v9685 : BitVec 32 := Scalar.muli v9684 c64_i32_7538
  v9685
def k0_mult420 : BitVec 32 :=
  let c2_i32_7511 : BitVec 32 := 2#32
  let c62_i32_7510 : BitVec 32 := 62#32
  let c0_i32_126 : BitVec 32 := 0#32
  let v9650 : BitVec 32 := Scalar.muli c62_i32_7510 c0_i32_126
  let v9651 : BitVec 32 := Scalar.addi c2_i32_7511 v9650
  let c52_i32 : BitVec 32 := 52#32
  let v9652 : BitVec 32 := Scalar.addi v9651 c52_i32
  let c2_i32_7533 : BitVec 32 := 2#32
  let v9680 : BitVec 32 := Scalar.muli v9652 c2_i32_7533
  let c0_i32_7534 : BitVec 32 := 0#32
  let v9681 : BitVec 32 := Scalar.addi v9680 c0_i32_7534
  let c64_i32_7540 : BitVec 32 := 64#32
  let v9689 : BitVec 32 := Scalar.muli v9681 c64_i32_7540
  v9689
def k0_mult421 : BitVec 32 :=
  let c120_i32_7587 : BitVec 32 := 120#32
  let c0_i32_7586 : BitVec 32 := 0#32
  let c2_i32_7511 : BitVec 32 := 2#32
  let c62_i32_7510 : BitVec 32 := 62#32
  let c0_i32_126 : BitVec 32 := 0#32
  let v9650 : BitVec 32 := Scalar.muli c62_i32_7510 c0_i32_126
  let v9651 : BitVec 32 := Scalar.addi c2_i32_7511 v9650
  let c52_i32 : BitVec 32 := 52#32
  let v9652 : BitVec 32 := Scalar.addi v9651 c52_i32
  let c2_i32_7582 : BitVec 32 := 2#32
  let v9743 : BitVec 32 := Scalar.subi v9652 c2_i32_7582
  let c2_i32_7583 : BitVec 32 := 2#32
  let v9744 : BitVec 32 := Scalar.muli v9743 c2_i32_7583
  let c1_i32_7584 : BitVec 32 := 1#32
  let v9745 : BitVec 32 := Scalar.addi v9744 c1_i32_7584
  let c4_i32_7585 : BitVec 32 := 4#32
  let v9746 : BitVec 32 := Scalar.subi v9745 c4_i32_7585
  let v9747 : BitVec 32 := Scalar.maxsi c0_i32_7586 v9746
  let v9748 : BitVec 32 := Scalar.minsi c120_i32_7587 v9747
  let c64_i32_7588 : BitVec 32 := 64#32
  let v9749 : BitVec 32 := Scalar.muli v9748 c64_i32_7588
  v9749
def k0_mult422 : BitVec 32 :=
  let c2_i32_7511 : BitVec 32 := 2#32
  let c62_i32_7510 : BitVec 32 := 62#32
  let c0_i32_126 : BitVec 32 := 0#32
  let v9650 : BitVec 32 := Scalar.muli c62_i32_7510 c0_i32_126
  let v9651 : BitVec 32 := Scalar.addi c2_i32_7511 v9650
  let c52_i32 : BitVec 32 := 52#32
  let v9652 : BitVec 32 := Scalar.addi v9651 c52_i32
  let c2_i32_7582 : BitVec 32 := 2#32
  let v9743 : BitVec 32 := Scalar.subi v9652 c2_i32_7582
  let c2_i32_7583 : BitVec 32 := 2#32
  let v9744 : BitVec 32 := Scalar.muli v9743 c2_i32_7583
  let c1_i32_7584 : BitVec 32 := 1#32
  let v9745 : BitVec 32 := Scalar.addi v9744 c1_i32_7584
  let c64_i32_7600 : BitVec 32 := 64#32
  let v9764 : BitVec 32 := Scalar.muli v9745 c64_i32_7600
  v9764
def k0_mult423 : BitVec 32 :=
  let c120_i32_7607 : BitVec 32 := 120#32
  let c0_i32_7606 : BitVec 32 := 0#32
  let c2_i32_7511 : BitVec 32 := 2#32
  let c62_i32_7510 : BitVec 32 := 62#32
  let c0_i32_126 : BitVec 32 := 0#32
  let v9650 : BitVec 32 := Scalar.muli c62_i32_7510 c0_i32_126
  let v9651 : BitVec 32 := Scalar.addi c2_i32_7511 v9650
  let c52_i32 : BitVec 32 := 52#32
  let v9652 : BitVec 32 := Scalar.addi v9651 c52_i32
  let c2_i32_7603 : BitVec 32 := 2#32
  let v9770 : BitVec 32 := Scalar.muli v9652 c2_i32_7603
  let c1_i32_7604 : BitVec 32 := 1#32
  let v9771 : BitVec 32 := Scalar.addi v9770 c1_i32_7604
  let c4_i32_7605 : BitVec 32 := 4#32
  let v9772 : BitVec 32 := Scalar.subi v9771 c4_i32_7605
  let v9773 : BitVec 32 := Scalar.maxsi c0_i32_7606 v9772
  let v9774 : BitVec 32 := Scalar.minsi c120_i32_7607 v9773
  let c64_i32_7608 : BitVec 32 := 64#32
  let v9775 : BitVec 32 := Scalar.muli v9774 c64_i32_7608
  v9775
def k0_mult424 : BitVec 32 :=
  let c2_i32_7511 : BitVec 32 := 2#32
  let c62_i32_7510 : BitVec 32 := 62#32
  let c0_i32_126 : BitVec 32 := 0#32
  let v9650 : BitVec 32 := Scalar.muli c62_i32_7510 c0_i32_126
  let v9651 : BitVec 32 := Scalar.addi c2_i32_7511 v9650
  let c52_i32 : BitVec 32 := 52#32
  let v9652 : BitVec 32 := Scalar.addi v9651 c52_i32
  let c2_i32_7603 : BitVec 32 := 2#32
  let v9770 : BitVec 32 := Scalar.muli v9652 c2_i32_7603
  let c1_i32_7604 : BitVec 32 := 1#32
  let v9771 : BitVec 32 := Scalar.addi v9770 c1_i32_7604
  let c64_i32_7610 : BitVec 32 := 64#32
  let v9779 : BitVec 32 := Scalar.muli v9771 c64_i32_7610
  v9779
def k0_mult425 : BitVec 32 :=
  let c120_i32_7659 : BitVec 32 := 120#32
  let c0_i32_7658 : BitVec 32 := 0#32
  let c2_i32_7653 : BitVec 32 := 2#32
  let c62_i32_7652 : BitVec 32 := 62#32
  let c0_i32_126 : BitVec 32 := 0#32
  let v9833 : BitVec 32 := Scalar.muli c62_i32_7652 c0_i32_126
  let v9834 : BitVec 32 := Scalar.addi c2_i32_7653 v9833
  let c53_i32 : BitVec 32 := 53#32
  let v9835 : BitVec 32 := Scalar.addi v9834 c53_i32
  let c2_i32_7654 : BitVec 32 := 2#32
  let v9836 : BitVec 32 := Scalar.subi v9835 c2_i32_7654
  let c2_i32_7655 : BitVec 32 := 2#32
  let v9837 : BitVec 32 := Scalar.muli v9836 c2_i32_7655
  let c0_i32_7656 : BitVec 32 := 0#32
  let v9838 : BitVec 32 := Scalar.addi v9837 c0_i32_7656
  let c4_i32_7657 : BitVec 32 := 4#32
  let v9839 : BitVec 32 := Scalar.subi v9838 c4_i32_7657
  let v9840 : BitVec 32 := Scalar.maxsi c0_i32_7658 v9839
  let v9841 : BitVec 32 := Scalar.minsi c120_i32_7659 v9840
  let c64_i32_7660 : BitVec 32 := 64#32
  let v9842 : BitVec 32 := Scalar.muli v9841 c64_i32_7660
  v9842
def k0_mult426 : BitVec 32 :=
  let c2_i32_7653 : BitVec 32 := 2#32
  let c62_i32_7652 : BitVec 32 := 62#32
  let c0_i32_126 : BitVec 32 := 0#32
  let v9833 : BitVec 32 := Scalar.muli c62_i32_7652 c0_i32_126
  let v9834 : BitVec 32 := Scalar.addi c2_i32_7653 v9833
  let c53_i32 : BitVec 32 := 53#32
  let v9835 : BitVec 32 := Scalar.addi v9834 c53_i32
  let c2_i32_7654 : BitVec 32 := 2#32
  let v9836 : BitVec 32 := Scalar.subi v9835 c2_i32_7654
  let c2_i32_7655 : BitVec 32 := 2#32
  let v9837 : BitVec 32 := Scalar.muli v9836 c2_i32_7655
  let c0_i32_7656 : BitVec 32 := 0#32
  let v9838 : BitVec 32 := Scalar.addi v9837 c0_i32_7656
  let c64_i32_7672 : BitVec 32 := 64#32
  let v9857 : BitVec 32 := Scalar.muli v9838 c64_i32_7672
  v9857
def k0_mult427 : BitVec 32 :=
  let c120_i32_7679 : BitVec 32 := 120#32
  let c0_i32_7678 : BitVec 32 := 0#32
  let c2_i32_7653 : BitVec 32 := 2#32
  let c62_i32_7652 : BitVec 32 := 62#32
  let c0_i32_126 : BitVec 32 := 0#32
  let v9833 : BitVec 32 := Scalar.muli c62_i32_7652 c0_i32_126
  let v9834 : BitVec 32 := Scalar.addi c2_i32_7653 v9833
  let c53_i32 : BitVec 32 := 53#32
  let v9835 : BitVec 32 := Scalar.addi v9834 c53_i32
  let c2_i32_7675 : BitVec 32 := 2#32
  let v9863 : BitVec 32 := Scalar.muli v9835 c2_i32_7675
  let c0_i32_7676 : BitVec 32 := 0#32
  let v9864 : BitVec 32 := Scalar.addi v9863 c0_i32_7676
  let c4_i32_7677 : BitVec 32 := 4#32
  let v9865 : BitVec 32 := Scalar.subi v9864 c4_i32_7677
  let v9866 : BitVec 32 := Scalar.maxsi c0_i32_7678 v9865
  let v9867 : BitVec 32 := Scalar.minsi c120_i32_7679 v9866
  let c64_i32_7680 : BitVec 32 := 64#32
  let v9868 : BitVec 32 := Scalar.muli v9867 c64_i32_7680
  v9868
def k0_mult428 : BitVec 32 :=
  let c2_i32_7653 : BitVec 32 := 2#32
  let c62_i32_7652 : BitVec 32 := 62#32
  let c0_i32_126 : BitVec 32 := 0#32
  let v9833 : BitVec 32 := Scalar.muli c62_i32_7652 c0_i32_126
  let v9834 : BitVec 32 := Scalar.addi c2_i32_7653 v9833
  let c53_i32 : BitVec 32 := 53#32
  let v9835 : BitVec 32 := Scalar.addi v9834 c53_i32
  let c2_i32_7675 : BitVec 32 := 2#32
  let v9863 : BitVec 32 := Scalar.muli v9835 c2_i32_7675
  let c0_i32_7676 : BitVec 32 := 0#32
  let v9864 : BitVec 32 := Scalar.addi v9863 c0_i32_7676
  let c64_i32_7682 : BitVec 32 := 64#32
  let v9872 : BitVec 32 := Scalar.muli v9864 c64_i32_7682
  v9872
def k0_mult429 : BitVec 32 :=
  let c120_i32_7729 : BitVec 32 := 120#32
  let c0_i32_7728 : BitVec 32 := 0#32
  let c2_i32_7653 : BitVec 32 := 2#32
  let c62_i32_7652 : BitVec 32 := 62#32
  let c0_i32_126 : BitVec 32 := 0#32
  let v9833 : BitVec 32 := Scalar.muli c62_i32_7652 c0_i32_126
  let v9834 : BitVec 32 := Scalar.addi c2_i32_7653 v9833
  let c53_i32 : BitVec 32 := 53#32
  let v9835 : BitVec 32 := Scalar.addi v9834 c53_i32
  let c2_i32_7724 : BitVec 32 := 2#32
  let v9926 : BitVec 32 := Scalar.subi v9835 c2_i32_7724
  let c2_i32_7725 : BitVec 32 := 2#32
  let v9927 : BitVec 32 := Scalar.muli v9926 c2_i32_7725
  let c1_i32_7726 : BitVec 32 := 1#32
  let v9928 : BitVec 32 := Scalar.addi v9927 c1_i32_7726
  let c4_i32_7727 : BitVec 32 := 4#32
  let v9929 : BitVec 32 := Scalar.subi v9928 c4_i32_7727
  let v9930 : BitVec 32 := Scalar.maxsi c0_i32_7728 v9929
  let v9931 : BitVec 32 := Scalar.minsi c120_i32_7729 v9930
  let c64_i32_7730 : BitVec 32 := 64#32
  let v9932 : BitVec 32 := Scalar.muli v9931 c64_i32_7730
  v9932
def k0_mult430 : BitVec 32 :=
  let c2_i32_7653 : BitVec 32 := 2#32
  let c62_i32_7652 : BitVec 32 := 62#32
  let c0_i32_126 : BitVec 32 := 0#32
  let v9833 : BitVec 32 := Scalar.muli c62_i32_7652 c0_i32_126
  let v9834 : BitVec 32 := Scalar.addi c2_i32_7653 v9833
  let c53_i32 : BitVec 32 := 53#32
  let v9835 : BitVec 32 := Scalar.addi v9834 c53_i32
  let c2_i32_7724 : BitVec 32 := 2#32
  let v9926 : BitVec 32 := Scalar.subi v9835 c2_i32_7724
  let c2_i32_7725 : BitVec 32 := 2#32
  let v9927 : BitVec 32 := Scalar.muli v9926 c2_i32_7725
  let c1_i32_7726 : BitVec 32 := 1#32
  let v9928 : BitVec 32 := Scalar.addi v9927 c1_i32_7726
  let c64_i32_7742 : BitVec 32 := 64#32
  let v9947 : BitVec 32 := Scalar.muli v9928 c64_i32_7742
  v9947
def k0_mult431 : BitVec 32 :=
  let c120_i32_7749 : BitVec 32 := 120#32
  let c0_i32_7748 : BitVec 32 := 0#32
  let c2_i32_7653 : BitVec 32 := 2#32
  let c62_i32_7652 : BitVec 32 := 62#32
  let c0_i32_126 : BitVec 32 := 0#32
  let v9833 : BitVec 32 := Scalar.muli c62_i32_7652 c0_i32_126
  let v9834 : BitVec 32 := Scalar.addi c2_i32_7653 v9833
  let c53_i32 : BitVec 32 := 53#32
  let v9835 : BitVec 32 := Scalar.addi v9834 c53_i32
  let c2_i32_7745 : BitVec 32 := 2#32
  let v9953 : BitVec 32 := Scalar.muli v9835 c2_i32_7745
  let c1_i32_7746 : BitVec 32 := 1#32
  let v9954 : BitVec 32 := Scalar.addi v9953 c1_i32_7746
  let c4_i32_7747 : BitVec 32 := 4#32
  let v9955 : BitVec 32 := Scalar.subi v9954 c4_i32_7747
  let v9956 : BitVec 32 := Scalar.maxsi c0_i32_7748 v9955
  let v9957 : BitVec 32 := Scalar.minsi c120_i32_7749 v9956
  let c64_i32_7750 : BitVec 32 := 64#32
  let v9958 : BitVec 32 := Scalar.muli v9957 c64_i32_7750
  v9958
def k0_mult432 : BitVec 32 :=
  let c2_i32_7653 : BitVec 32 := 2#32
  let c62_i32_7652 : BitVec 32 := 62#32
  let c0_i32_126 : BitVec 32 := 0#32
  let v9833 : BitVec 32 := Scalar.muli c62_i32_7652 c0_i32_126
  let v9834 : BitVec 32 := Scalar.addi c2_i32_7653 v9833
  let c53_i32 : BitVec 32 := 53#32
  let v9835 : BitVec 32 := Scalar.addi v9834 c53_i32
  let c2_i32_7745 : BitVec 32 := 2#32
  let v9953 : BitVec 32 := Scalar.muli v9835 c2_i32_7745
  let c1_i32_7746 : BitVec 32 := 1#32
  let v9954 : BitVec 32 := Scalar.addi v9953 c1_i32_7746
  let c64_i32_7752 : BitVec 32 := 64#32
  let v9962 : BitVec 32 := Scalar.muli v9954 c64_i32_7752
  v9962
def k0_mult433 : BitVec 32 :=
  let c120_i32_7801 : BitVec 32 := 120#32
  let c0_i32_7800 : BitVec 32 := 0#32
  let c2_i32_7795 : BitVec 32 := 2#32
  let c62_i32_7794 : BitVec 32 := 62#32
  let c0_i32_126 : BitVec 32 := 0#32
  let v10016 : BitVec 32 := Scalar.muli c62_i32_7794 c0_i32_126
  let v10017 : BitVec 32 := Scalar.addi c2_i32_7795 v10016
  let c54_i32 : BitVec 32 := 54#32
  let v10018 : BitVec 32 := Scalar.addi v10017 c54_i32
  let c2_i32_7796 : BitVec 32 := 2#32
  let v10019 : BitVec 32 := Scalar.subi v10018 c2_i32_7796
  let c2_i32_7797 : BitVec 32 := 2#32
  let v10020 : BitVec 32 := Scalar.muli v10019 c2_i32_7797
  let c0_i32_7798 : BitVec 32 := 0#32
  let v10021 : BitVec 32 := Scalar.addi v10020 c0_i32_7798
  let c4_i32_7799 : BitVec 32 := 4#32
  let v10022 : BitVec 32 := Scalar.subi v10021 c4_i32_7799
  let v10023 : BitVec 32 := Scalar.maxsi c0_i32_7800 v10022
  let v10024 : BitVec 32 := Scalar.minsi c120_i32_7801 v10023
  let c64_i32_7802 : BitVec 32 := 64#32
  let v10025 : BitVec 32 := Scalar.muli v10024 c64_i32_7802
  v10025
def k0_mult434 : BitVec 32 :=
  let c2_i32_7795 : BitVec 32 := 2#32
  let c62_i32_7794 : BitVec 32 := 62#32
  let c0_i32_126 : BitVec 32 := 0#32
  let v10016 : BitVec 32 := Scalar.muli c62_i32_7794 c0_i32_126
  let v10017 : BitVec 32 := Scalar.addi c2_i32_7795 v10016
  let c54_i32 : BitVec 32 := 54#32
  let v10018 : BitVec 32 := Scalar.addi v10017 c54_i32
  let c2_i32_7796 : BitVec 32 := 2#32
  let v10019 : BitVec 32 := Scalar.subi v10018 c2_i32_7796
  let c2_i32_7797 : BitVec 32 := 2#32
  let v10020 : BitVec 32 := Scalar.muli v10019 c2_i32_7797
  let c0_i32_7798 : BitVec 32 := 0#32
  let v10021 : BitVec 32 := Scalar.addi v10020 c0_i32_7798
  let c64_i32_7814 : BitVec 32 := 64#32
  let v10040 : BitVec 32 := Scalar.muli v10021 c64_i32_7814
  v10040
def k0_mult435 : BitVec 32 :=
  let c120_i32_7821 : BitVec 32 := 120#32
  let c0_i32_7820 : BitVec 32 := 0#32
  let c2_i32_7795 : BitVec 32 := 2#32
  let c62_i32_7794 : BitVec 32 := 62#32
  let c0_i32_126 : BitVec 32 := 0#32
  let v10016 : BitVec 32 := Scalar.muli c62_i32_7794 c0_i32_126
  let v10017 : BitVec 32 := Scalar.addi c2_i32_7795 v10016
  let c54_i32 : BitVec 32 := 54#32
  let v10018 : BitVec 32 := Scalar.addi v10017 c54_i32
  let c2_i32_7817 : BitVec 32 := 2#32
  let v10046 : BitVec 32 := Scalar.muli v10018 c2_i32_7817
  let c0_i32_7818 : BitVec 32 := 0#32
  let v10047 : BitVec 32 := Scalar.addi v10046 c0_i32_7818
  let c4_i32_7819 : BitVec 32 := 4#32
  let v10048 : BitVec 32 := Scalar.subi v10047 c4_i32_7819
  let v10049 : BitVec 32 := Scalar.maxsi c0_i32_7820 v10048
  let v10050 : BitVec 32 := Scalar.minsi c120_i32_7821 v10049
  let c64_i32_7822 : BitVec 32 := 64#32
  let v10051 : BitVec 32 := Scalar.muli v10050 c64_i32_7822
  v10051
def k0_mult436 : BitVec 32 :=
  let c2_i32_7795 : BitVec 32 := 2#32
  let c62_i32_7794 : BitVec 32 := 62#32
  let c0_i32_126 : BitVec 32 := 0#32
  let v10016 : BitVec 32 := Scalar.muli c62_i32_7794 c0_i32_126
  let v10017 : BitVec 32 := Scalar.addi c2_i32_7795 v10016
  let c54_i32 : BitVec 32 := 54#32
  let v10018 : BitVec 32 := Scalar.addi v10017 c54_i32
  let c2_i32_7817 : BitVec 32 := 2#32
  let v10046 : BitVec 32 := Scalar.muli v10018 c2_i32_7817
  let c0_i32_7818 : BitVec 32 := 0#32
  let v10047 : BitVec 32 := Scalar.addi v10046 c0_i32_7818
  let c64_i32_7824 : BitVec 32 := 64#32
  let v10055 : BitVec 32 := Scalar.muli v10047 c64_i32_7824
  v10055
def k0_mult437 : BitVec 32 :=
  let c120_i32_7871 : BitVec 32 := 120#32
  let c0_i32_7870 : BitVec 32 := 0#32
  let c2_i32_7795 : BitVec 32 := 2#32
  let c62_i32_7794 : BitVec 32 := 62#32
  let c0_i32_126 : BitVec 32 := 0#32
  let v10016 : BitVec 32 := Scalar.muli c62_i32_7794 c0_i32_126
  let v10017 : BitVec 32 := Scalar.addi c2_i32_7795 v10016
  let c54_i32 : BitVec 32 := 54#32
  let v10018 : BitVec 32 := Scalar.addi v10017 c54_i32
  let c2_i32_7866 : BitVec 32 := 2#32
  let v10109 : BitVec 32 := Scalar.subi v10018 c2_i32_7866
  let c2_i32_7867 : BitVec 32 := 2#32
  let v10110 : BitVec 32 := Scalar.muli v10109 c2_i32_7867
  let c1_i32_7868 : BitVec 32 := 1#32
  let v10111 : BitVec 32 := Scalar.addi v10110 c1_i32_7868
  let c4_i32_7869 : BitVec 32 := 4#32
  let v10112 : BitVec 32 := Scalar.subi v10111 c4_i32_7869
  let v10113 : BitVec 32 := Scalar.maxsi c0_i32_7870 v10112
  let v10114 : BitVec 32 := Scalar.minsi c120_i32_7871 v10113
  let c64_i32_7872 : BitVec 32 := 64#32
  let v10115 : BitVec 32 := Scalar.muli v10114 c64_i32_7872
  v10115
def k0_mult438 : BitVec 32 :=
  let c2_i32_7795 : BitVec 32 := 2#32
  let c62_i32_7794 : BitVec 32 := 62#32
  let c0_i32_126 : BitVec 32 := 0#32
  let v10016 : BitVec 32 := Scalar.muli c62_i32_7794 c0_i32_126
  let v10017 : BitVec 32 := Scalar.addi c2_i32_7795 v10016
  let c54_i32 : BitVec 32 := 54#32
  let v10018 : BitVec 32 := Scalar.addi v10017 c54_i32
  let c2_i32_7866 : BitVec 32 := 2#32
  let v10109 : BitVec 32 := Scalar.subi v10018 c2_i32_7866
  let c2_i32_7867 : BitVec 32 := 2#32
  let v10110 : BitVec 32 := Scalar.muli v10109 c2_i32_7867
  let c1_i32_7868 : BitVec 32 := 1#32
  let v10111 : BitVec 32 := Scalar.addi v10110 c1_i32_7868
  let c64_i32_7884 : BitVec 32 := 64#32
  let v10130 : BitVec 32 := Scalar.muli v10111 c64_i32_7884
  v10130
def k0_mult439 : BitVec 32 :=
  let c120_i32_7891 : BitVec 32 := 120#32
  let c0_i32_7890 : BitVec 32 := 0#32
  let c2_i32_7795 : BitVec 32 := 2#32
  let c62_i32_7794 : BitVec 32 := 62#32
  let c0_i32_126 : BitVec 32 := 0#32
  let v10016 : BitVec 32 := Scalar.muli c62_i32_7794 c0_i32_126
  let v10017 : BitVec 32 := Scalar.addi c2_i32_7795 v10016
  let c54_i32 : BitVec 32 := 54#32
  let v10018 : BitVec 32 := Scalar.addi v10017 c54_i32
  let c2_i32_7887 : BitVec 32 := 2#32
  let v10136 : BitVec 32 := Scalar.muli v10018 c2_i32_7887
  let c1_i32_7888 : BitVec 32 := 1#32
  let v10137 : BitVec 32 := Scalar.addi v10136 c1_i32_7888
  let c4_i32_7889 : BitVec 32 := 4#32
  let v10138 : BitVec 32 := Scalar.subi v10137 c4_i32_7889
  let v10139 : BitVec 32 := Scalar.maxsi c0_i32_7890 v10138
  let v10140 : BitVec 32 := Scalar.minsi c120_i32_7891 v10139
  let c64_i32_7892 : BitVec 32 := 64#32
  let v10141 : BitVec 32 := Scalar.muli v10140 c64_i32_7892
  v10141
def k0_mult440 : BitVec 32 :=
  let c2_i32_7795 : BitVec 32 := 2#32
  let c62_i32_7794 : BitVec 32 := 62#32
  let c0_i32_126 : BitVec 32 := 0#32
  let v10016 : BitVec 32 := Scalar.muli c62_i32_7794 c0_i32_126
  let v10017 : BitVec 32 := Scalar.addi c2_i32_7795 v10016
  let c54_i32 : BitVec 32 := 54#32
  let v10018 : BitVec 32 := Scalar.addi v10017 c54_i32
  let c2_i32_7887 : BitVec 32 := 2#32
  let v10136 : BitVec 32 := Scalar.muli v10018 c2_i32_7887
  let c1_i32_7888 : BitVec 32 := 1#32
  let v10137 : BitVec 32 := Scalar.addi v10136 c1_i32_7888
  let c64_i32_7894 : BitVec 32 := 64#32
  let v10145 : BitVec 32 := Scalar.muli v10137 c64_i32_7894
  v10145
def k0_mult441 : BitVec 32 :=
  let c120_i32_7943 : BitVec 32 := 120#32
  let c0_i32_7942 : BitVec 32 := 0#32
  let c2_i32_7937 : BitVec 32 := 2#32
  let c62_i32_7936 : BitVec 32 := 62#32
  let c0_i32_126 : BitVec 32 := 0#32
  let v10199 : BitVec 32 := Scalar.muli c62_i32_7936 c0_i32_126
  let v10200 : BitVec 32 := Scalar.addi c2_i32_7937 v10199
  let c55_i32 : BitVec 32 := 55#32
  let v10201 : BitVec 32 := Scalar.addi v10200 c55_i32
  let c2_i32_7938 : BitVec 32 := 2#32
  let v10202 : BitVec 32 := Scalar.subi v10201 c2_i32_7938
  let c2_i32_7939 : BitVec 32 := 2#32
  let v10203 : BitVec 32 := Scalar.muli v10202 c2_i32_7939
  let c0_i32_7940 : BitVec 32 := 0#32
  let v10204 : BitVec 32 := Scalar.addi v10203 c0_i32_7940
  let c4_i32_7941 : BitVec 32 := 4#32
  let v10205 : BitVec 32 := Scalar.subi v10204 c4_i32_7941
  let v10206 : BitVec 32 := Scalar.maxsi c0_i32_7942 v10205
  let v10207 : BitVec 32 := Scalar.minsi c120_i32_7943 v10206
  let c64_i32_7944 : BitVec 32 := 64#32
  let v10208 : BitVec 32 := Scalar.muli v10207 c64_i32_7944
  v10208
def k0_mult442 : BitVec 32 :=
  let c2_i32_7937 : BitVec 32 := 2#32
  let c62_i32_7936 : BitVec 32 := 62#32
  let c0_i32_126 : BitVec 32 := 0#32
  let v10199 : BitVec 32 := Scalar.muli c62_i32_7936 c0_i32_126
  let v10200 : BitVec 32 := Scalar.addi c2_i32_7937 v10199
  let c55_i32 : BitVec 32 := 55#32
  let v10201 : BitVec 32 := Scalar.addi v10200 c55_i32
  let c2_i32_7938 : BitVec 32 := 2#32
  let v10202 : BitVec 32 := Scalar.subi v10201 c2_i32_7938
  let c2_i32_7939 : BitVec 32 := 2#32
  let v10203 : BitVec 32 := Scalar.muli v10202 c2_i32_7939
  let c0_i32_7940 : BitVec 32 := 0#32
  let v10204 : BitVec 32 := Scalar.addi v10203 c0_i32_7940
  let c64_i32_7956 : BitVec 32 := 64#32
  let v10223 : BitVec 32 := Scalar.muli v10204 c64_i32_7956
  v10223
def k0_mult443 : BitVec 32 :=
  let c120_i32_7963 : BitVec 32 := 120#32
  let c0_i32_7962 : BitVec 32 := 0#32
  let c2_i32_7937 : BitVec 32 := 2#32
  let c62_i32_7936 : BitVec 32 := 62#32
  let c0_i32_126 : BitVec 32 := 0#32
  let v10199 : BitVec 32 := Scalar.muli c62_i32_7936 c0_i32_126
  let v10200 : BitVec 32 := Scalar.addi c2_i32_7937 v10199
  let c55_i32 : BitVec 32 := 55#32
  let v10201 : BitVec 32 := Scalar.addi v10200 c55_i32
  let c2_i32_7959 : BitVec 32 := 2#32
  let v10229 : BitVec 32 := Scalar.muli v10201 c2_i32_7959
  let c0_i32_7960 : BitVec 32 := 0#32
  let v10230 : BitVec 32 := Scalar.addi v10229 c0_i32_7960
  let c4_i32_7961 : BitVec 32 := 4#32
  let v10231 : BitVec 32 := Scalar.subi v10230 c4_i32_7961
  let v10232 : BitVec 32 := Scalar.maxsi c0_i32_7962 v10231
  let v10233 : BitVec 32 := Scalar.minsi c120_i32_7963 v10232
  let c64_i32_7964 : BitVec 32 := 64#32
  let v10234 : BitVec 32 := Scalar.muli v10233 c64_i32_7964
  v10234
def k0_mult444 : BitVec 32 :=
  let c2_i32_7937 : BitVec 32 := 2#32
  let c62_i32_7936 : BitVec 32 := 62#32
  let c0_i32_126 : BitVec 32 := 0#32
  let v10199 : BitVec 32 := Scalar.muli c62_i32_7936 c0_i32_126
  let v10200 : BitVec 32 := Scalar.addi c2_i32_7937 v10199
  let c55_i32 : BitVec 32 := 55#32
  let v10201 : BitVec 32 := Scalar.addi v10200 c55_i32
  let c2_i32_7959 : BitVec 32 := 2#32
  let v10229 : BitVec 32 := Scalar.muli v10201 c2_i32_7959
  let c0_i32_7960 : BitVec 32 := 0#32
  let v10230 : BitVec 32 := Scalar.addi v10229 c0_i32_7960
  let c64_i32_7966 : BitVec 32 := 64#32
  let v10238 : BitVec 32 := Scalar.muli v10230 c64_i32_7966
  v10238
def k0_mult445 : BitVec 32 :=
  let c120_i32_8013 : BitVec 32 := 120#32
  let c0_i32_8012 : BitVec 32 := 0#32
  let c2_i32_7937 : BitVec 32 := 2#32
  let c62_i32_7936 : BitVec 32 := 62#32
  let c0_i32_126 : BitVec 32 := 0#32
  let v10199 : BitVec 32 := Scalar.muli c62_i32_7936 c0_i32_126
  let v10200 : BitVec 32 := Scalar.addi c2_i32_7937 v10199
  let c55_i32 : BitVec 32 := 55#32
  let v10201 : BitVec 32 := Scalar.addi v10200 c55_i32
  let c2_i32_8008 : BitVec 32 := 2#32
  let v10292 : BitVec 32 := Scalar.subi v10201 c2_i32_8008
  let c2_i32_8009 : BitVec 32 := 2#32
  let v10293 : BitVec 32 := Scalar.muli v10292 c2_i32_8009
  let c1_i32_8010 : BitVec 32 := 1#32
  let v10294 : BitVec 32 := Scalar.addi v10293 c1_i32_8010
  let c4_i32_8011 : BitVec 32 := 4#32
  let v10295 : BitVec 32 := Scalar.subi v10294 c4_i32_8011
  let v10296 : BitVec 32 := Scalar.maxsi c0_i32_8012 v10295
  let v10297 : BitVec 32 := Scalar.minsi c120_i32_8013 v10296
  let c64_i32_8014 : BitVec 32 := 64#32
  let v10298 : BitVec 32 := Scalar.muli v10297 c64_i32_8014
  v10298
def k0_mult446 : BitVec 32 :=
  let c2_i32_7937 : BitVec 32 := 2#32
  let c62_i32_7936 : BitVec 32 := 62#32
  let c0_i32_126 : BitVec 32 := 0#32
  let v10199 : BitVec 32 := Scalar.muli c62_i32_7936 c0_i32_126
  let v10200 : BitVec 32 := Scalar.addi c2_i32_7937 v10199
  let c55_i32 : BitVec 32 := 55#32
  let v10201 : BitVec 32 := Scalar.addi v10200 c55_i32
  let c2_i32_8008 : BitVec 32 := 2#32
  let v10292 : BitVec 32 := Scalar.subi v10201 c2_i32_8008
  let c2_i32_8009 : BitVec 32 := 2#32
  let v10293 : BitVec 32 := Scalar.muli v10292 c2_i32_8009
  let c1_i32_8010 : BitVec 32 := 1#32
  let v10294 : BitVec 32 := Scalar.addi v10293 c1_i32_8010
  let c64_i32_8026 : BitVec 32 := 64#32
  let v10313 : BitVec 32 := Scalar.muli v10294 c64_i32_8026
  v10313
def k0_mult447 : BitVec 32 :=
  let c120_i32_8033 : BitVec 32 := 120#32
  let c0_i32_8032 : BitVec 32 := 0#32
  let c2_i32_7937 : BitVec 32 := 2#32
  let c62_i32_7936 : BitVec 32 := 62#32
  let c0_i32_126 : BitVec 32 := 0#32
  let v10199 : BitVec 32 := Scalar.muli c62_i32_7936 c0_i32_126
  let v10200 : BitVec 32 := Scalar.addi c2_i32_7937 v10199
  let c55_i32 : BitVec 32 := 55#32
  let v10201 : BitVec 32 := Scalar.addi v10200 c55_i32
  let c2_i32_8029 : BitVec 32 := 2#32
  let v10319 : BitVec 32 := Scalar.muli v10201 c2_i32_8029
  let c1_i32_8030 : BitVec 32 := 1#32
  let v10320 : BitVec 32 := Scalar.addi v10319 c1_i32_8030
  let c4_i32_8031 : BitVec 32 := 4#32
  let v10321 : BitVec 32 := Scalar.subi v10320 c4_i32_8031
  let v10322 : BitVec 32 := Scalar.maxsi c0_i32_8032 v10321
  let v10323 : BitVec 32 := Scalar.minsi c120_i32_8033 v10322
  let c64_i32_8034 : BitVec 32 := 64#32
  let v10324 : BitVec 32 := Scalar.muli v10323 c64_i32_8034
  v10324
def k0_mult448 : BitVec 32 :=
  let c2_i32_7937 : BitVec 32 := 2#32
  let c62_i32_7936 : BitVec 32 := 62#32
  let c0_i32_126 : BitVec 32 := 0#32
  let v10199 : BitVec 32 := Scalar.muli c62_i32_7936 c0_i32_126
  let v10200 : BitVec 32 := Scalar.addi c2_i32_7937 v10199
  let c55_i32 : BitVec 32 := 55#32
  let v10201 : BitVec 32 := Scalar.addi v10200 c55_i32
  let c2_i32_8029 : BitVec 32 := 2#32
  let v10319 : BitVec 32 := Scalar.muli v10201 c2_i32_8029
  let c1_i32_8030 : BitVec 32 := 1#32
  let v10320 : BitVec 32 := Scalar.addi v10319 c1_i32_8030
  let c64_i32_8036 : BitVec 32 := 64#32
  let v10328 : BitVec 32 := Scalar.muli v10320 c64_i32_8036
  v10328
def k0_mult449 : BitVec 32 :=
  let c120_i32_8085 : BitVec 32 := 120#32
  let c0_i32_8084 : BitVec 32 := 0#32
  let c2_i32_8079 : BitVec 32 := 2#32
  let c62_i32_8078 : BitVec 32 := 62#32
  let c0_i32_126 : BitVec 32 := 0#32
  let v10382 : BitVec 32 := Scalar.muli c62_i32_8078 c0_i32_126
  let v10383 : BitVec 32 := Scalar.addi c2_i32_8079 v10382
  let c56_i32 : BitVec 32 := 56#32
  let v10384 : BitVec 32 := Scalar.addi v10383 c56_i32
  let c2_i32_8080 : BitVec 32 := 2#32
  let v10385 : BitVec 32 := Scalar.subi v10384 c2_i32_8080
  let c2_i32_8081 : BitVec 32 := 2#32
  let v10386 : BitVec 32 := Scalar.muli v10385 c2_i32_8081
  let c0_i32_8082 : BitVec 32 := 0#32
  let v10387 : BitVec 32 := Scalar.addi v10386 c0_i32_8082
  let c4_i32_8083 : BitVec 32 := 4#32
  let v10388 : BitVec 32 := Scalar.subi v10387 c4_i32_8083
  let v10389 : BitVec 32 := Scalar.maxsi c0_i32_8084 v10388
  let v10390 : BitVec 32 := Scalar.minsi c120_i32_8085 v10389
  let c64_i32_8086 : BitVec 32 := 64#32
  let v10391 : BitVec 32 := Scalar.muli v10390 c64_i32_8086
  v10391
def k0_mult450 : BitVec 32 :=
  let c2_i32_8079 : BitVec 32 := 2#32
  let c62_i32_8078 : BitVec 32 := 62#32
  let c0_i32_126 : BitVec 32 := 0#32
  let v10382 : BitVec 32 := Scalar.muli c62_i32_8078 c0_i32_126
  let v10383 : BitVec 32 := Scalar.addi c2_i32_8079 v10382
  let c56_i32 : BitVec 32 := 56#32
  let v10384 : BitVec 32 := Scalar.addi v10383 c56_i32
  let c2_i32_8080 : BitVec 32 := 2#32
  let v10385 : BitVec 32 := Scalar.subi v10384 c2_i32_8080
  let c2_i32_8081 : BitVec 32 := 2#32
  let v10386 : BitVec 32 := Scalar.muli v10385 c2_i32_8081
  let c0_i32_8082 : BitVec 32 := 0#32
  let v10387 : BitVec 32 := Scalar.addi v10386 c0_i32_8082
  let c64_i32_8098 : BitVec 32 := 64#32
  let v10406 : BitVec 32 := Scalar.muli v10387 c64_i32_8098
  v10406
def k0_mult451 : BitVec 32 :=
  let c120_i32_8105 : BitVec 32 := 120#32
  let c0_i32_8104 : BitVec 32 := 0#32
  let c2_i32_8079 : BitVec 32 := 2#32
  let c62_i32_8078 : BitVec 32 := 62#32
  let c0_i32_126 : BitVec 32 := 0#32
  let v10382 : BitVec 32 := Scalar.muli c62_i32_8078 c0_i32_126
  let v10383 : BitVec 32 := Scalar.addi c2_i32_8079 v10382
  let c56_i32 : BitVec 32 := 56#32
  let v10384 : BitVec 32 := Scalar.addi v10383 c56_i32
  let c2_i32_8101 : BitVec 32 := 2#32
  let v10412 : BitVec 32 := Scalar.muli v10384 c2_i32_8101
  let c0_i32_8102 : BitVec 32 := 0#32
  let v10413 : BitVec 32 := Scalar.addi v10412 c0_i32_8102
  let c4_i32_8103 : BitVec 32 := 4#32
  let v10414 : BitVec 32 := Scalar.subi v10413 c4_i32_8103
  let v10415 : BitVec 32 := Scalar.maxsi c0_i32_8104 v10414
  let v10416 : BitVec 32 := Scalar.minsi c120_i32_8105 v10415
  let c64_i32_8106 : BitVec 32 := 64#32
  let v10417 : BitVec 32 := Scalar.muli v10416 c64_i32_8106
  v10417
def k0_mult452 : BitVec 32 :=
  let c2_i32_8079 : BitVec 32 := 2#32
  let c62_i32_8078 : BitVec 32 := 62#32
  let c0_i32_126 : BitVec 32 := 0#32
  let v10382 : BitVec 32 := Scalar.muli c62_i32_8078 c0_i32_126
  let v10383 : BitVec 32 := Scalar.addi c2_i32_8079 v10382
  let c56_i32 : BitVec 32 := 56#32
  let v10384 : BitVec 32 := Scalar.addi v10383 c56_i32
  let c2_i32_8101 : BitVec 32 := 2#32
  let v10412 : BitVec 32 := Scalar.muli v10384 c2_i32_8101
  let c0_i32_8102 : BitVec 32 := 0#32
  let v10413 : BitVec 32 := Scalar.addi v10412 c0_i32_8102
  let c64_i32_8108 : BitVec 32 := 64#32
  let v10421 : BitVec 32 := Scalar.muli v10413 c64_i32_8108
  v10421
def k0_mult453 : BitVec 32 :=
  let c120_i32_8155 : BitVec 32 := 120#32
  let c0_i32_8154 : BitVec 32 := 0#32
  let c2_i32_8079 : BitVec 32 := 2#32
  let c62_i32_8078 : BitVec 32 := 62#32
  let c0_i32_126 : BitVec 32 := 0#32
  let v10382 : BitVec 32 := Scalar.muli c62_i32_8078 c0_i32_126
  let v10383 : BitVec 32 := Scalar.addi c2_i32_8079 v10382
  let c56_i32 : BitVec 32 := 56#32
  let v10384 : BitVec 32 := Scalar.addi v10383 c56_i32
  let c2_i32_8150 : BitVec 32 := 2#32
  let v10475 : BitVec 32 := Scalar.subi v10384 c2_i32_8150
  let c2_i32_8151 : BitVec 32 := 2#32
  let v10476 : BitVec 32 := Scalar.muli v10475 c2_i32_8151
  let c1_i32_8152 : BitVec 32 := 1#32
  let v10477 : BitVec 32 := Scalar.addi v10476 c1_i32_8152
  let c4_i32_8153 : BitVec 32 := 4#32
  let v10478 : BitVec 32 := Scalar.subi v10477 c4_i32_8153
  let v10479 : BitVec 32 := Scalar.maxsi c0_i32_8154 v10478
  let v10480 : BitVec 32 := Scalar.minsi c120_i32_8155 v10479
  let c64_i32_8156 : BitVec 32 := 64#32
  let v10481 : BitVec 32 := Scalar.muli v10480 c64_i32_8156
  v10481
def k0_mult454 : BitVec 32 :=
  let c2_i32_8079 : BitVec 32 := 2#32
  let c62_i32_8078 : BitVec 32 := 62#32
  let c0_i32_126 : BitVec 32 := 0#32
  let v10382 : BitVec 32 := Scalar.muli c62_i32_8078 c0_i32_126
  let v10383 : BitVec 32 := Scalar.addi c2_i32_8079 v10382
  let c56_i32 : BitVec 32 := 56#32
  let v10384 : BitVec 32 := Scalar.addi v10383 c56_i32
  let c2_i32_8150 : BitVec 32 := 2#32
  let v10475 : BitVec 32 := Scalar.subi v10384 c2_i32_8150
  let c2_i32_8151 : BitVec 32 := 2#32
  let v10476 : BitVec 32 := Scalar.muli v10475 c2_i32_8151
  let c1_i32_8152 : BitVec 32 := 1#32
  let v10477 : BitVec 32 := Scalar.addi v10476 c1_i32_8152
  let c64_i32_8168 : BitVec 32 := 64#32
  let v10496 : BitVec 32 := Scalar.muli v10477 c64_i32_8168
  v10496
def k0_mult455 : BitVec 32 :=
  let c120_i32_8175 : BitVec 32 := 120#32
  let c0_i32_8174 : BitVec 32 := 0#32
  let c2_i32_8079 : BitVec 32 := 2#32
  let c62_i32_8078 : BitVec 32 := 62#32
  let c0_i32_126 : BitVec 32 := 0#32
  let v10382 : BitVec 32 := Scalar.muli c62_i32_8078 c0_i32_126
  let v10383 : BitVec 32 := Scalar.addi c2_i32_8079 v10382
  let c56_i32 : BitVec 32 := 56#32
  let v10384 : BitVec 32 := Scalar.addi v10383 c56_i32
  let c2_i32_8171 : BitVec 32 := 2#32
  let v10502 : BitVec 32 := Scalar.muli v10384 c2_i32_8171
  let c1_i32_8172 : BitVec 32 := 1#32
  let v10503 : BitVec 32 := Scalar.addi v10502 c1_i32_8172
  let c4_i32_8173 : BitVec 32 := 4#32
  let v10504 : BitVec 32 := Scalar.subi v10503 c4_i32_8173
  let v10505 : BitVec 32 := Scalar.maxsi c0_i32_8174 v10504
  let v10506 : BitVec 32 := Scalar.minsi c120_i32_8175 v10505
  let c64_i32_8176 : BitVec 32 := 64#32
  let v10507 : BitVec 32 := Scalar.muli v10506 c64_i32_8176
  v10507
def k0_mult456 : BitVec 32 :=
  let c2_i32_8079 : BitVec 32 := 2#32
  let c62_i32_8078 : BitVec 32 := 62#32
  let c0_i32_126 : BitVec 32 := 0#32
  let v10382 : BitVec 32 := Scalar.muli c62_i32_8078 c0_i32_126
  let v10383 : BitVec 32 := Scalar.addi c2_i32_8079 v10382
  let c56_i32 : BitVec 32 := 56#32
  let v10384 : BitVec 32 := Scalar.addi v10383 c56_i32
  let c2_i32_8171 : BitVec 32 := 2#32
  let v10502 : BitVec 32 := Scalar.muli v10384 c2_i32_8171
  let c1_i32_8172 : BitVec 32 := 1#32
  let v10503 : BitVec 32 := Scalar.addi v10502 c1_i32_8172
  let c64_i32_8178 : BitVec 32 := 64#32
  let v10511 : BitVec 32 := Scalar.muli v10503 c64_i32_8178
  v10511
def k0_mult457 : BitVec 32 :=
  let c120_i32_8227 : BitVec 32 := 120#32
  let c0_i32_8226 : BitVec 32 := 0#32
  let c2_i32_8221 : BitVec 32 := 2#32
  let c62_i32_8220 : BitVec 32 := 62#32
  let c0_i32_126 : BitVec 32 := 0#32
  let v10565 : BitVec 32 := Scalar.muli c62_i32_8220 c0_i32_126
  let v10566 : BitVec 32 := Scalar.addi c2_i32_8221 v10565
  let c57_i32 : BitVec 32 := 57#32
  let v10567 : BitVec 32 := Scalar.addi v10566 c57_i32
  let c2_i32_8222 : BitVec 32 := 2#32
  let v10568 : BitVec 32 := Scalar.subi v10567 c2_i32_8222
  let c2_i32_8223 : BitVec 32 := 2#32
  let v10569 : BitVec 32 := Scalar.muli v10568 c2_i32_8223
  let c0_i32_8224 : BitVec 32 := 0#32
  let v10570 : BitVec 32 := Scalar.addi v10569 c0_i32_8224
  let c4_i32_8225 : BitVec 32 := 4#32
  let v10571 : BitVec 32 := Scalar.subi v10570 c4_i32_8225
  let v10572 : BitVec 32 := Scalar.maxsi c0_i32_8226 v10571
  let v10573 : BitVec 32 := Scalar.minsi c120_i32_8227 v10572
  let c64_i32_8228 : BitVec 32 := 64#32
  let v10574 : BitVec 32 := Scalar.muli v10573 c64_i32_8228
  v10574
def k0_mult458 : BitVec 32 :=
  let c2_i32_8221 : BitVec 32 := 2#32
  let c62_i32_8220 : BitVec 32 := 62#32
  let c0_i32_126 : BitVec 32 := 0#32
  let v10565 : BitVec 32 := Scalar.muli c62_i32_8220 c0_i32_126
  let v10566 : BitVec 32 := Scalar.addi c2_i32_8221 v10565
  let c57_i32 : BitVec 32 := 57#32
  let v10567 : BitVec 32 := Scalar.addi v10566 c57_i32
  let c2_i32_8222 : BitVec 32 := 2#32
  let v10568 : BitVec 32 := Scalar.subi v10567 c2_i32_8222
  let c2_i32_8223 : BitVec 32 := 2#32
  let v10569 : BitVec 32 := Scalar.muli v10568 c2_i32_8223
  let c0_i32_8224 : BitVec 32 := 0#32
  let v10570 : BitVec 32 := Scalar.addi v10569 c0_i32_8224
  let c64_i32_8240 : BitVec 32 := 64#32
  let v10589 : BitVec 32 := Scalar.muli v10570 c64_i32_8240
  v10589
def k0_mult459 : BitVec 32 :=
  let c120_i32_8247 : BitVec 32 := 120#32
  let c0_i32_8246 : BitVec 32 := 0#32
  let c2_i32_8221 : BitVec 32 := 2#32
  let c62_i32_8220 : BitVec 32 := 62#32
  let c0_i32_126 : BitVec 32 := 0#32
  let v10565 : BitVec 32 := Scalar.muli c62_i32_8220 c0_i32_126
  let v10566 : BitVec 32 := Scalar.addi c2_i32_8221 v10565
  let c57_i32 : BitVec 32 := 57#32
  let v10567 : BitVec 32 := Scalar.addi v10566 c57_i32
  let c2_i32_8243 : BitVec 32 := 2#32
  let v10595 : BitVec 32 := Scalar.muli v10567 c2_i32_8243
  let c0_i32_8244 : BitVec 32 := 0#32
  let v10596 : BitVec 32 := Scalar.addi v10595 c0_i32_8244
  let c4_i32_8245 : BitVec 32 := 4#32
  let v10597 : BitVec 32 := Scalar.subi v10596 c4_i32_8245
  let v10598 : BitVec 32 := Scalar.maxsi c0_i32_8246 v10597
  let v10599 : BitVec 32 := Scalar.minsi c120_i32_8247 v10598
  let c64_i32_8248 : BitVec 32 := 64#32
  let v10600 : BitVec 32 := Scalar.muli v10599 c64_i32_8248
  v10600
def k0_mult460 : BitVec 32 :=
  let c2_i32_8221 : BitVec 32 := 2#32
  let c62_i32_8220 : BitVec 32 := 62#32
  let c0_i32_126 : BitVec 32 := 0#32
  let v10565 : BitVec 32 := Scalar.muli c62_i32_8220 c0_i32_126
  let v10566 : BitVec 32 := Scalar.addi c2_i32_8221 v10565
  let c57_i32 : BitVec 32 := 57#32
  let v10567 : BitVec 32 := Scalar.addi v10566 c57_i32
  let c2_i32_8243 : BitVec 32 := 2#32
  let v10595 : BitVec 32 := Scalar.muli v10567 c2_i32_8243
  let c0_i32_8244 : BitVec 32 := 0#32
  let v10596 : BitVec 32 := Scalar.addi v10595 c0_i32_8244
  let c64_i32_8250 : BitVec 32 := 64#32
  let v10604 : BitVec 32 := Scalar.muli v10596 c64_i32_8250
  v10604
def k0_mult461 : BitVec 32 :=
  let c120_i32_8297 : BitVec 32 := 120#32
  let c0_i32_8296 : BitVec 32 := 0#32
  let c2_i32_8221 : BitVec 32 := 2#32
  let c62_i32_8220 : BitVec 32 := 62#32
  let c0_i32_126 : BitVec 32 := 0#32
  let v10565 : BitVec 32 := Scalar.muli c62_i32_8220 c0_i32_126
  let v10566 : BitVec 32 := Scalar.addi c2_i32_8221 v10565
  let c57_i32 : BitVec 32 := 57#32
  let v10567 : BitVec 32 := Scalar.addi v10566 c57_i32
  let c2_i32_8292 : BitVec 32 := 2#32
  let v10658 : BitVec 32 := Scalar.subi v10567 c2_i32_8292
  let c2_i32_8293 : BitVec 32 := 2#32
  let v10659 : BitVec 32 := Scalar.muli v10658 c2_i32_8293
  let c1_i32_8294 : BitVec 32 := 1#32
  let v10660 : BitVec 32 := Scalar.addi v10659 c1_i32_8294
  let c4_i32_8295 : BitVec 32 := 4#32
  let v10661 : BitVec 32 := Scalar.subi v10660 c4_i32_8295
  let v10662 : BitVec 32 := Scalar.maxsi c0_i32_8296 v10661
  let v10663 : BitVec 32 := Scalar.minsi c120_i32_8297 v10662
  let c64_i32_8298 : BitVec 32 := 64#32
  let v10664 : BitVec 32 := Scalar.muli v10663 c64_i32_8298
  v10664
def k0_mult462 : BitVec 32 :=
  let c2_i32_8221 : BitVec 32 := 2#32
  let c62_i32_8220 : BitVec 32 := 62#32
  let c0_i32_126 : BitVec 32 := 0#32
  let v10565 : BitVec 32 := Scalar.muli c62_i32_8220 c0_i32_126
  let v10566 : BitVec 32 := Scalar.addi c2_i32_8221 v10565
  let c57_i32 : BitVec 32 := 57#32
  let v10567 : BitVec 32 := Scalar.addi v10566 c57_i32
  let c2_i32_8292 : BitVec 32 := 2#32
  let v10658 : BitVec 32 := Scalar.subi v10567 c2_i32_8292
  let c2_i32_8293 : BitVec 32 := 2#32
  let v10659 : BitVec 32 := Scalar.muli v10658 c2_i32_8293
  let c1_i32_8294 : BitVec 32 := 1#32
  let v10660 : BitVec 32 := Scalar.addi v10659 c1_i32_8294
  let c64_i32_8310 : BitVec 32 := 64#32
  let v10679 : BitVec 32 := Scalar.muli v10660 c64_i32_8310
  v10679
def k0_mult463 : BitVec 32 :=
  let c120_i32_8317 : BitVec 32 := 120#32
  let c0_i32_8316 : BitVec 32 := 0#32
  let c2_i32_8221 : BitVec 32 := 2#32
  let c62_i32_8220 : BitVec 32 := 62#32
  let c0_i32_126 : BitVec 32 := 0#32
  let v10565 : BitVec 32 := Scalar.muli c62_i32_8220 c0_i32_126
  let v10566 : BitVec 32 := Scalar.addi c2_i32_8221 v10565
  let c57_i32 : BitVec 32 := 57#32
  let v10567 : BitVec 32 := Scalar.addi v10566 c57_i32
  let c2_i32_8313 : BitVec 32 := 2#32
  let v10685 : BitVec 32 := Scalar.muli v10567 c2_i32_8313
  let c1_i32_8314 : BitVec 32 := 1#32
  let v10686 : BitVec 32 := Scalar.addi v10685 c1_i32_8314
  let c4_i32_8315 : BitVec 32 := 4#32
  let v10687 : BitVec 32 := Scalar.subi v10686 c4_i32_8315
  let v10688 : BitVec 32 := Scalar.maxsi c0_i32_8316 v10687
  let v10689 : BitVec 32 := Scalar.minsi c120_i32_8317 v10688
  let c64_i32_8318 : BitVec 32 := 64#32
  let v10690 : BitVec 32 := Scalar.muli v10689 c64_i32_8318
  v10690
def k0_mult464 : BitVec 32 :=
  let c2_i32_8221 : BitVec 32 := 2#32
  let c62_i32_8220 : BitVec 32 := 62#32
  let c0_i32_126 : BitVec 32 := 0#32
  let v10565 : BitVec 32 := Scalar.muli c62_i32_8220 c0_i32_126
  let v10566 : BitVec 32 := Scalar.addi c2_i32_8221 v10565
  let c57_i32 : BitVec 32 := 57#32
  let v10567 : BitVec 32 := Scalar.addi v10566 c57_i32
  let c2_i32_8313 : BitVec 32 := 2#32
  let v10685 : BitVec 32 := Scalar.muli v10567 c2_i32_8313
  let c1_i32_8314 : BitVec 32 := 1#32
  let v10686 : BitVec 32 := Scalar.addi v10685 c1_i32_8314
  let c64_i32_8320 : BitVec 32 := 64#32
  let v10694 : BitVec 32 := Scalar.muli v10686 c64_i32_8320
  v10694
def k0_mult465 : BitVec 32 :=
  let c120_i32_8369 : BitVec 32 := 120#32
  let c0_i32_8368 : BitVec 32 := 0#32
  let c2_i32_8363 : BitVec 32 := 2#32
  let c62_i32_8362 : BitVec 32 := 62#32
  let c0_i32_126 : BitVec 32 := 0#32
  let v10748 : BitVec 32 := Scalar.muli c62_i32_8362 c0_i32_126
  let v10749 : BitVec 32 := Scalar.addi c2_i32_8363 v10748
  let c58_i32 : BitVec 32 := 58#32
  let v10750 : BitVec 32 := Scalar.addi v10749 c58_i32
  let c2_i32_8364 : BitVec 32 := 2#32
  let v10751 : BitVec 32 := Scalar.subi v10750 c2_i32_8364
  let c2_i32_8365 : BitVec 32 := 2#32
  let v10752 : BitVec 32 := Scalar.muli v10751 c2_i32_8365
  let c0_i32_8366 : BitVec 32 := 0#32
  let v10753 : BitVec 32 := Scalar.addi v10752 c0_i32_8366
  let c4_i32_8367 : BitVec 32 := 4#32
  let v10754 : BitVec 32 := Scalar.subi v10753 c4_i32_8367
  let v10755 : BitVec 32 := Scalar.maxsi c0_i32_8368 v10754
  let v10756 : BitVec 32 := Scalar.minsi c120_i32_8369 v10755
  let c64_i32_8370 : BitVec 32 := 64#32
  let v10757 : BitVec 32 := Scalar.muli v10756 c64_i32_8370
  v10757
def k0_mult466 : BitVec 32 :=
  let c2_i32_8363 : BitVec 32 := 2#32
  let c62_i32_8362 : BitVec 32 := 62#32
  let c0_i32_126 : BitVec 32 := 0#32
  let v10748 : BitVec 32 := Scalar.muli c62_i32_8362 c0_i32_126
  let v10749 : BitVec 32 := Scalar.addi c2_i32_8363 v10748
  let c58_i32 : BitVec 32 := 58#32
  let v10750 : BitVec 32 := Scalar.addi v10749 c58_i32
  let c2_i32_8364 : BitVec 32 := 2#32
  let v10751 : BitVec 32 := Scalar.subi v10750 c2_i32_8364
  let c2_i32_8365 : BitVec 32 := 2#32
  let v10752 : BitVec 32 := Scalar.muli v10751 c2_i32_8365
  let c0_i32_8366 : BitVec 32 := 0#32
  let v10753 : BitVec 32 := Scalar.addi v10752 c0_i32_8366
  let c64_i32_8382 : BitVec 32 := 64#32
  let v10772 : BitVec 32 := Scalar.muli v10753 c64_i32_8382
  v10772
def k0_mult467 : BitVec 32 :=
  let c120_i32_8389 : BitVec 32 := 120#32
  let c0_i32_8388 : BitVec 32 := 0#32
  let c2_i32_8363 : BitVec 32 := 2#32
  let c62_i32_8362 : BitVec 32 := 62#32
  let c0_i32_126 : BitVec 32 := 0#32
  let v10748 : BitVec 32 := Scalar.muli c62_i32_8362 c0_i32_126
  let v10749 : BitVec 32 := Scalar.addi c2_i32_8363 v10748
  let c58_i32 : BitVec 32 := 58#32
  let v10750 : BitVec 32 := Scalar.addi v10749 c58_i32
  let c2_i32_8385 : BitVec 32 := 2#32
  let v10778 : BitVec 32 := Scalar.muli v10750 c2_i32_8385
  let c0_i32_8386 : BitVec 32 := 0#32
  let v10779 : BitVec 32 := Scalar.addi v10778 c0_i32_8386
  let c4_i32_8387 : BitVec 32 := 4#32
  let v10780 : BitVec 32 := Scalar.subi v10779 c4_i32_8387
  let v10781 : BitVec 32 := Scalar.maxsi c0_i32_8388 v10780
  let v10782 : BitVec 32 := Scalar.minsi c120_i32_8389 v10781
  let c64_i32_8390 : BitVec 32 := 64#32
  let v10783 : BitVec 32 := Scalar.muli v10782 c64_i32_8390
  v10783
def k0_mult468 : BitVec 32 :=
  let c2_i32_8363 : BitVec 32 := 2#32
  let c62_i32_8362 : BitVec 32 := 62#32
  let c0_i32_126 : BitVec 32 := 0#32
  let v10748 : BitVec 32 := Scalar.muli c62_i32_8362 c0_i32_126
  let v10749 : BitVec 32 := Scalar.addi c2_i32_8363 v10748
  let c58_i32 : BitVec 32 := 58#32
  let v10750 : BitVec 32 := Scalar.addi v10749 c58_i32
  let c2_i32_8385 : BitVec 32 := 2#32
  let v10778 : BitVec 32 := Scalar.muli v10750 c2_i32_8385
  let c0_i32_8386 : BitVec 32 := 0#32
  let v10779 : BitVec 32 := Scalar.addi v10778 c0_i32_8386
  let c64_i32_8392 : BitVec 32 := 64#32
  let v10787 : BitVec 32 := Scalar.muli v10779 c64_i32_8392
  v10787
def k0_mult469 : BitVec 32 :=
  let c120_i32_8439 : BitVec 32 := 120#32
  let c0_i32_8438 : BitVec 32 := 0#32
  let c2_i32_8363 : BitVec 32 := 2#32
  let c62_i32_8362 : BitVec 32 := 62#32
  let c0_i32_126 : BitVec 32 := 0#32
  let v10748 : BitVec 32 := Scalar.muli c62_i32_8362 c0_i32_126
  let v10749 : BitVec 32 := Scalar.addi c2_i32_8363 v10748
  let c58_i32 : BitVec 32 := 58#32
  let v10750 : BitVec 32 := Scalar.addi v10749 c58_i32
  let c2_i32_8434 : BitVec 32 := 2#32
  let v10841 : BitVec 32 := Scalar.subi v10750 c2_i32_8434
  let c2_i32_8435 : BitVec 32 := 2#32
  let v10842 : BitVec 32 := Scalar.muli v10841 c2_i32_8435
  let c1_i32_8436 : BitVec 32 := 1#32
  let v10843 : BitVec 32 := Scalar.addi v10842 c1_i32_8436
  let c4_i32_8437 : BitVec 32 := 4#32
  let v10844 : BitVec 32 := Scalar.subi v10843 c4_i32_8437
  let v10845 : BitVec 32 := Scalar.maxsi c0_i32_8438 v10844
  let v10846 : BitVec 32 := Scalar.minsi c120_i32_8439 v10845
  let c64_i32_8440 : BitVec 32 := 64#32
  let v10847 : BitVec 32 := Scalar.muli v10846 c64_i32_8440
  v10847
def k0_mult470 : BitVec 32 :=
  let c2_i32_8363 : BitVec 32 := 2#32
  let c62_i32_8362 : BitVec 32 := 62#32
  let c0_i32_126 : BitVec 32 := 0#32
  let v10748 : BitVec 32 := Scalar.muli c62_i32_8362 c0_i32_126
  let v10749 : BitVec 32 := Scalar.addi c2_i32_8363 v10748
  let c58_i32 : BitVec 32 := 58#32
  let v10750 : BitVec 32 := Scalar.addi v10749 c58_i32
  let c2_i32_8434 : BitVec 32 := 2#32
  let v10841 : BitVec 32 := Scalar.subi v10750 c2_i32_8434
  let c2_i32_8435 : BitVec 32 := 2#32
  let v10842 : BitVec 32 := Scalar.muli v10841 c2_i32_8435
  let c1_i32_8436 : BitVec 32 := 1#32
  let v10843 : BitVec 32 := Scalar.addi v10842 c1_i32_8436
  let c64_i32_8452 : BitVec 32 := 64#32
  let v10862 : BitVec 32 := Scalar.muli v10843 c64_i32_8452
  v10862
def k0_mult471 : BitVec 32 :=
  let c120_i32_8459 : BitVec 32 := 120#32
  let c0_i32_8458 : BitVec 32 := 0#32
  let c2_i32_8363 : BitVec 32 := 2#32
  let c62_i32_8362 : BitVec 32 := 62#32
  let c0_i32_126 : BitVec 32 := 0#32
  let v10748 : BitVec 32 := Scalar.muli c62_i32_8362 c0_i32_126
  let v10749 : BitVec 32 := Scalar.addi c2_i32_8363 v10748
  let c58_i32 : BitVec 32 := 58#32
  let v10750 : BitVec 32 := Scalar.addi v10749 c58_i32
  let c2_i32_8455 : BitVec 32 := 2#32
  let v10868 : BitVec 32 := Scalar.muli v10750 c2_i32_8455
  let c1_i32_8456 : BitVec 32 := 1#32
  let v10869 : BitVec 32 := Scalar.addi v10868 c1_i32_8456
  let c4_i32_8457 : BitVec 32 := 4#32
  let v10870 : BitVec 32 := Scalar.subi v10869 c4_i32_8457
  let v10871 : BitVec 32 := Scalar.maxsi c0_i32_8458 v10870
  let v10872 : BitVec 32 := Scalar.minsi c120_i32_8459 v10871
  let c64_i32_8460 : BitVec 32 := 64#32
  let v10873 : BitVec 32 := Scalar.muli v10872 c64_i32_8460
  v10873
def k0_mult472 : BitVec 32 :=
  let c2_i32_8363 : BitVec 32 := 2#32
  let c62_i32_8362 : BitVec 32 := 62#32
  let c0_i32_126 : BitVec 32 := 0#32
  let v10748 : BitVec 32 := Scalar.muli c62_i32_8362 c0_i32_126
  let v10749 : BitVec 32 := Scalar.addi c2_i32_8363 v10748
  let c58_i32 : BitVec 32 := 58#32
  let v10750 : BitVec 32 := Scalar.addi v10749 c58_i32
  let c2_i32_8455 : BitVec 32 := 2#32
  let v10868 : BitVec 32 := Scalar.muli v10750 c2_i32_8455
  let c1_i32_8456 : BitVec 32 := 1#32
  let v10869 : BitVec 32 := Scalar.addi v10868 c1_i32_8456
  let c64_i32_8462 : BitVec 32 := 64#32
  let v10877 : BitVec 32 := Scalar.muli v10869 c64_i32_8462
  v10877
def k0_mult473 : BitVec 32 :=
  let c120_i32_8511 : BitVec 32 := 120#32
  let c0_i32_8510 : BitVec 32 := 0#32
  let c2_i32_8505 : BitVec 32 := 2#32
  let c62_i32_8504 : BitVec 32 := 62#32
  let c0_i32_126 : BitVec 32 := 0#32
  let v10931 : BitVec 32 := Scalar.muli c62_i32_8504 c0_i32_126
  let v10932 : BitVec 32 := Scalar.addi c2_i32_8505 v10931
  let c59_i32 : BitVec 32 := 59#32
  let v10933 : BitVec 32 := Scalar.addi v10932 c59_i32
  let c2_i32_8506 : BitVec 32 := 2#32
  let v10934 : BitVec 32 := Scalar.subi v10933 c2_i32_8506
  let c2_i32_8507 : BitVec 32 := 2#32
  let v10935 : BitVec 32 := Scalar.muli v10934 c2_i32_8507
  let c0_i32_8508 : BitVec 32 := 0#32
  let v10936 : BitVec 32 := Scalar.addi v10935 c0_i32_8508
  let c4_i32_8509 : BitVec 32 := 4#32
  let v10937 : BitVec 32 := Scalar.subi v10936 c4_i32_8509
  let v10938 : BitVec 32 := Scalar.maxsi c0_i32_8510 v10937
  let v10939 : BitVec 32 := Scalar.minsi c120_i32_8511 v10938
  let c64_i32_8512 : BitVec 32 := 64#32
  let v10940 : BitVec 32 := Scalar.muli v10939 c64_i32_8512
  v10940
def k0_mult474 : BitVec 32 :=
  let c2_i32_8505 : BitVec 32 := 2#32
  let c62_i32_8504 : BitVec 32 := 62#32
  let c0_i32_126 : BitVec 32 := 0#32
  let v10931 : BitVec 32 := Scalar.muli c62_i32_8504 c0_i32_126
  let v10932 : BitVec 32 := Scalar.addi c2_i32_8505 v10931
  let c59_i32 : BitVec 32 := 59#32
  let v10933 : BitVec 32 := Scalar.addi v10932 c59_i32
  let c2_i32_8506 : BitVec 32 := 2#32
  let v10934 : BitVec 32 := Scalar.subi v10933 c2_i32_8506
  let c2_i32_8507 : BitVec 32 := 2#32
  let v10935 : BitVec 32 := Scalar.muli v10934 c2_i32_8507
  let c0_i32_8508 : BitVec 32 := 0#32
  let v10936 : BitVec 32 := Scalar.addi v10935 c0_i32_8508
  let c64_i32_8524 : BitVec 32 := 64#32
  let v10955 : BitVec 32 := Scalar.muli v10936 c64_i32_8524
  v10955
def k0_mult475 : BitVec 32 :=
  let c120_i32_8531 : BitVec 32 := 120#32
  let c0_i32_8530 : BitVec 32 := 0#32
  let c2_i32_8505 : BitVec 32 := 2#32
  let c62_i32_8504 : BitVec 32 := 62#32
  let c0_i32_126 : BitVec 32 := 0#32
  let v10931 : BitVec 32 := Scalar.muli c62_i32_8504 c0_i32_126
  let v10932 : BitVec 32 := Scalar.addi c2_i32_8505 v10931
  let c59_i32 : BitVec 32 := 59#32
  let v10933 : BitVec 32 := Scalar.addi v10932 c59_i32
  let c2_i32_8527 : BitVec 32 := 2#32
  let v10961 : BitVec 32 := Scalar.muli v10933 c2_i32_8527
  let c0_i32_8528 : BitVec 32 := 0#32
  let v10962 : BitVec 32 := Scalar.addi v10961 c0_i32_8528
  let c4_i32_8529 : BitVec 32 := 4#32
  let v10963 : BitVec 32 := Scalar.subi v10962 c4_i32_8529
  let v10964 : BitVec 32 := Scalar.maxsi c0_i32_8530 v10963
  let v10965 : BitVec 32 := Scalar.minsi c120_i32_8531 v10964
  let c64_i32_8532 : BitVec 32 := 64#32
  let v10966 : BitVec 32 := Scalar.muli v10965 c64_i32_8532
  v10966
def k0_mult476 : BitVec 32 :=
  let c2_i32_8505 : BitVec 32 := 2#32
  let c62_i32_8504 : BitVec 32 := 62#32
  let c0_i32_126 : BitVec 32 := 0#32
  let v10931 : BitVec 32 := Scalar.muli c62_i32_8504 c0_i32_126
  let v10932 : BitVec 32 := Scalar.addi c2_i32_8505 v10931
  let c59_i32 : BitVec 32 := 59#32
  let v10933 : BitVec 32 := Scalar.addi v10932 c59_i32
  let c2_i32_8527 : BitVec 32 := 2#32
  let v10961 : BitVec 32 := Scalar.muli v10933 c2_i32_8527
  let c0_i32_8528 : BitVec 32 := 0#32
  let v10962 : BitVec 32 := Scalar.addi v10961 c0_i32_8528
  let c64_i32_8534 : BitVec 32 := 64#32
  let v10970 : BitVec 32 := Scalar.muli v10962 c64_i32_8534
  v10970
def k0_mult477 : BitVec 32 :=
  let c120_i32_8581 : BitVec 32 := 120#32
  let c0_i32_8580 : BitVec 32 := 0#32
  let c2_i32_8505 : BitVec 32 := 2#32
  let c62_i32_8504 : BitVec 32 := 62#32
  let c0_i32_126 : BitVec 32 := 0#32
  let v10931 : BitVec 32 := Scalar.muli c62_i32_8504 c0_i32_126
  let v10932 : BitVec 32 := Scalar.addi c2_i32_8505 v10931
  let c59_i32 : BitVec 32 := 59#32
  let v10933 : BitVec 32 := Scalar.addi v10932 c59_i32
  let c2_i32_8576 : BitVec 32 := 2#32
  let v11024 : BitVec 32 := Scalar.subi v10933 c2_i32_8576
  let c2_i32_8577 : BitVec 32 := 2#32
  let v11025 : BitVec 32 := Scalar.muli v11024 c2_i32_8577
  let c1_i32_8578 : BitVec 32 := 1#32
  let v11026 : BitVec 32 := Scalar.addi v11025 c1_i32_8578
  let c4_i32_8579 : BitVec 32 := 4#32
  let v11027 : BitVec 32 := Scalar.subi v11026 c4_i32_8579
  let v11028 : BitVec 32 := Scalar.maxsi c0_i32_8580 v11027
  let v11029 : BitVec 32 := Scalar.minsi c120_i32_8581 v11028
  let c64_i32_8582 : BitVec 32 := 64#32
  let v11030 : BitVec 32 := Scalar.muli v11029 c64_i32_8582
  v11030
def k0_mult478 : BitVec 32 :=
  let c2_i32_8505 : BitVec 32 := 2#32
  let c62_i32_8504 : BitVec 32 := 62#32
  let c0_i32_126 : BitVec 32 := 0#32
  let v10931 : BitVec 32 := Scalar.muli c62_i32_8504 c0_i32_126
  let v10932 : BitVec 32 := Scalar.addi c2_i32_8505 v10931
  let c59_i32 : BitVec 32 := 59#32
  let v10933 : BitVec 32 := Scalar.addi v10932 c59_i32
  let c2_i32_8576 : BitVec 32 := 2#32
  let v11024 : BitVec 32 := Scalar.subi v10933 c2_i32_8576
  let c2_i32_8577 : BitVec 32 := 2#32
  let v11025 : BitVec 32 := Scalar.muli v11024 c2_i32_8577
  let c1_i32_8578 : BitVec 32 := 1#32
  let v11026 : BitVec 32 := Scalar.addi v11025 c1_i32_8578
  let c64_i32_8594 : BitVec 32 := 64#32
  let v11045 : BitVec 32 := Scalar.muli v11026 c64_i32_8594
  v11045
def k0_mult479 : BitVec 32 :=
  let c120_i32_8601 : BitVec 32 := 120#32
  let c0_i32_8600 : BitVec 32 := 0#32
  let c2_i32_8505 : BitVec 32 := 2#32
  let c62_i32_8504 : BitVec 32 := 62#32
  let c0_i32_126 : BitVec 32 := 0#32
  let v10931 : BitVec 32 := Scalar.muli c62_i32_8504 c0_i32_126
  let v10932 : BitVec 32 := Scalar.addi c2_i32_8505 v10931
  let c59_i32 : BitVec 32 := 59#32
  let v10933 : BitVec 32 := Scalar.addi v10932 c59_i32
  let c2_i32_8597 : BitVec 32 := 2#32
  let v11051 : BitVec 32 := Scalar.muli v10933 c2_i32_8597
  let c1_i32_8598 : BitVec 32 := 1#32
  let v11052 : BitVec 32 := Scalar.addi v11051 c1_i32_8598
  let c4_i32_8599 : BitVec 32 := 4#32
  let v11053 : BitVec 32 := Scalar.subi v11052 c4_i32_8599
  let v11054 : BitVec 32 := Scalar.maxsi c0_i32_8600 v11053
  let v11055 : BitVec 32 := Scalar.minsi c120_i32_8601 v11054
  let c64_i32_8602 : BitVec 32 := 64#32
  let v11056 : BitVec 32 := Scalar.muli v11055 c64_i32_8602
  v11056
def k0_mult480 : BitVec 32 :=
  let c2_i32_8505 : BitVec 32 := 2#32
  let c62_i32_8504 : BitVec 32 := 62#32
  let c0_i32_126 : BitVec 32 := 0#32
  let v10931 : BitVec 32 := Scalar.muli c62_i32_8504 c0_i32_126
  let v10932 : BitVec 32 := Scalar.addi c2_i32_8505 v10931
  let c59_i32 : BitVec 32 := 59#32
  let v10933 : BitVec 32 := Scalar.addi v10932 c59_i32
  let c2_i32_8597 : BitVec 32 := 2#32
  let v11051 : BitVec 32 := Scalar.muli v10933 c2_i32_8597
  let c1_i32_8598 : BitVec 32 := 1#32
  let v11052 : BitVec 32 := Scalar.addi v11051 c1_i32_8598
  let c64_i32_8604 : BitVec 32 := 64#32
  let v11060 : BitVec 32 := Scalar.muli v11052 c64_i32_8604
  v11060
def k0_mult481 : BitVec 32 :=
  let c120_i32_8653 : BitVec 32 := 120#32
  let c0_i32_8652 : BitVec 32 := 0#32
  let c2_i32_8647 : BitVec 32 := 2#32
  let c62_i32_8646 : BitVec 32 := 62#32
  let c0_i32_126 : BitVec 32 := 0#32
  let v11114 : BitVec 32 := Scalar.muli c62_i32_8646 c0_i32_126
  let v11115 : BitVec 32 := Scalar.addi c2_i32_8647 v11114
  let c60_i32 : BitVec 32 := 60#32
  let v11116 : BitVec 32 := Scalar.addi v11115 c60_i32
  let c2_i32_8648 : BitVec 32 := 2#32
  let v11117 : BitVec 32 := Scalar.subi v11116 c2_i32_8648
  let c2_i32_8649 : BitVec 32 := 2#32
  let v11118 : BitVec 32 := Scalar.muli v11117 c2_i32_8649
  let c0_i32_8650 : BitVec 32 := 0#32
  let v11119 : BitVec 32 := Scalar.addi v11118 c0_i32_8650
  let c4_i32_8651 : BitVec 32 := 4#32
  let v11120 : BitVec 32 := Scalar.subi v11119 c4_i32_8651
  let v11121 : BitVec 32 := Scalar.maxsi c0_i32_8652 v11120
  let v11122 : BitVec 32 := Scalar.minsi c120_i32_8653 v11121
  let c64_i32_8654 : BitVec 32 := 64#32
  let v11123 : BitVec 32 := Scalar.muli v11122 c64_i32_8654
  v11123
def k0_mult482 : BitVec 32 :=
  let c2_i32_8647 : BitVec 32 := 2#32
  let c62_i32_8646 : BitVec 32 := 62#32
  let c0_i32_126 : BitVec 32 := 0#32
  let v11114 : BitVec 32 := Scalar.muli c62_i32_8646 c0_i32_126
  let v11115 : BitVec 32 := Scalar.addi c2_i32_8647 v11114
  let c60_i32 : BitVec 32 := 60#32
  let v11116 : BitVec 32 := Scalar.addi v11115 c60_i32
  let c2_i32_8648 : BitVec 32 := 2#32
  let v11117 : BitVec 32 := Scalar.subi v11116 c2_i32_8648
  let c2_i32_8649 : BitVec 32 := 2#32
  let v11118 : BitVec 32 := Scalar.muli v11117 c2_i32_8649
  let c0_i32_8650 : BitVec 32 := 0#32
  let v11119 : BitVec 32 := Scalar.addi v11118 c0_i32_8650
  let c64_i32_8666 : BitVec 32 := 64#32
  let v11138 : BitVec 32 := Scalar.muli v11119 c64_i32_8666
  v11138
def k0_mult483 : BitVec 32 :=
  let c120_i32_8673 : BitVec 32 := 120#32
  let c0_i32_8672 : BitVec 32 := 0#32
  let c2_i32_8647 : BitVec 32 := 2#32
  let c62_i32_8646 : BitVec 32 := 62#32
  let c0_i32_126 : BitVec 32 := 0#32
  let v11114 : BitVec 32 := Scalar.muli c62_i32_8646 c0_i32_126
  let v11115 : BitVec 32 := Scalar.addi c2_i32_8647 v11114
  let c60_i32 : BitVec 32 := 60#32
  let v11116 : BitVec 32 := Scalar.addi v11115 c60_i32
  let c2_i32_8669 : BitVec 32 := 2#32
  let v11144 : BitVec 32 := Scalar.muli v11116 c2_i32_8669
  let c0_i32_8670 : BitVec 32 := 0#32
  let v11145 : BitVec 32 := Scalar.addi v11144 c0_i32_8670
  let c4_i32_8671 : BitVec 32 := 4#32
  let v11146 : BitVec 32 := Scalar.subi v11145 c4_i32_8671
  let v11147 : BitVec 32 := Scalar.maxsi c0_i32_8672 v11146
  let v11148 : BitVec 32 := Scalar.minsi c120_i32_8673 v11147
  let c64_i32_8674 : BitVec 32 := 64#32
  let v11149 : BitVec 32 := Scalar.muli v11148 c64_i32_8674
  v11149
def k0_mult484 : BitVec 32 :=
  let c2_i32_8647 : BitVec 32 := 2#32
  let c62_i32_8646 : BitVec 32 := 62#32
  let c0_i32_126 : BitVec 32 := 0#32
  let v11114 : BitVec 32 := Scalar.muli c62_i32_8646 c0_i32_126
  let v11115 : BitVec 32 := Scalar.addi c2_i32_8647 v11114
  let c60_i32 : BitVec 32 := 60#32
  let v11116 : BitVec 32 := Scalar.addi v11115 c60_i32
  let c2_i32_8669 : BitVec 32 := 2#32
  let v11144 : BitVec 32 := Scalar.muli v11116 c2_i32_8669
  let c0_i32_8670 : BitVec 32 := 0#32
  let v11145 : BitVec 32 := Scalar.addi v11144 c0_i32_8670
  let c64_i32_8676 : BitVec 32 := 64#32
  let v11153 : BitVec 32 := Scalar.muli v11145 c64_i32_8676
  v11153
def k0_mult485 : BitVec 32 :=
  let c120_i32_8723 : BitVec 32 := 120#32
  let c0_i32_8722 : BitVec 32 := 0#32
  let c2_i32_8647 : BitVec 32 := 2#32
  let c62_i32_8646 : BitVec 32 := 62#32
  let c0_i32_126 : BitVec 32 := 0#32
  let v11114 : BitVec 32 := Scalar.muli c62_i32_8646 c0_i32_126
  let v11115 : BitVec 32 := Scalar.addi c2_i32_8647 v11114
  let c60_i32 : BitVec 32 := 60#32
  let v11116 : BitVec 32 := Scalar.addi v11115 c60_i32
  let c2_i32_8718 : BitVec 32 := 2#32
  let v11207 : BitVec 32 := Scalar.subi v11116 c2_i32_8718
  let c2_i32_8719 : BitVec 32 := 2#32
  let v11208 : BitVec 32 := Scalar.muli v11207 c2_i32_8719
  let c1_i32_8720 : BitVec 32 := 1#32
  let v11209 : BitVec 32 := Scalar.addi v11208 c1_i32_8720
  let c4_i32_8721 : BitVec 32 := 4#32
  let v11210 : BitVec 32 := Scalar.subi v11209 c4_i32_8721
  let v11211 : BitVec 32 := Scalar.maxsi c0_i32_8722 v11210
  let v11212 : BitVec 32 := Scalar.minsi c120_i32_8723 v11211
  let c64_i32_8724 : BitVec 32 := 64#32
  let v11213 : BitVec 32 := Scalar.muli v11212 c64_i32_8724
  v11213
def k0_mult486 : BitVec 32 :=
  let c2_i32_8647 : BitVec 32 := 2#32
  let c62_i32_8646 : BitVec 32 := 62#32
  let c0_i32_126 : BitVec 32 := 0#32
  let v11114 : BitVec 32 := Scalar.muli c62_i32_8646 c0_i32_126
  let v11115 : BitVec 32 := Scalar.addi c2_i32_8647 v11114
  let c60_i32 : BitVec 32 := 60#32
  let v11116 : BitVec 32 := Scalar.addi v11115 c60_i32
  let c2_i32_8718 : BitVec 32 := 2#32
  let v11207 : BitVec 32 := Scalar.subi v11116 c2_i32_8718
  let c2_i32_8719 : BitVec 32 := 2#32
  let v11208 : BitVec 32 := Scalar.muli v11207 c2_i32_8719
  let c1_i32_8720 : BitVec 32 := 1#32
  let v11209 : BitVec 32 := Scalar.addi v11208 c1_i32_8720
  let c64_i32_8736 : BitVec 32 := 64#32
  let v11228 : BitVec 32 := Scalar.muli v11209 c64_i32_8736
  v11228
def k0_mult487 : BitVec 32 :=
  let c120_i32_8743 : BitVec 32 := 120#32
  let c0_i32_8742 : BitVec 32 := 0#32
  let c2_i32_8647 : BitVec 32 := 2#32
  let c62_i32_8646 : BitVec 32 := 62#32
  let c0_i32_126 : BitVec 32 := 0#32
  let v11114 : BitVec 32 := Scalar.muli c62_i32_8646 c0_i32_126
  let v11115 : BitVec 32 := Scalar.addi c2_i32_8647 v11114
  let c60_i32 : BitVec 32 := 60#32
  let v11116 : BitVec 32 := Scalar.addi v11115 c60_i32
  let c2_i32_8739 : BitVec 32 := 2#32
  let v11234 : BitVec 32 := Scalar.muli v11116 c2_i32_8739
  let c1_i32_8740 : BitVec 32 := 1#32
  let v11235 : BitVec 32 := Scalar.addi v11234 c1_i32_8740
  let c4_i32_8741 : BitVec 32 := 4#32
  let v11236 : BitVec 32 := Scalar.subi v11235 c4_i32_8741
  let v11237 : BitVec 32 := Scalar.maxsi c0_i32_8742 v11236
  let v11238 : BitVec 32 := Scalar.minsi c120_i32_8743 v11237
  let c64_i32_8744 : BitVec 32 := 64#32
  let v11239 : BitVec 32 := Scalar.muli v11238 c64_i32_8744
  v11239
def k0_mult488 : BitVec 32 :=
  let c2_i32_8647 : BitVec 32 := 2#32
  let c62_i32_8646 : BitVec 32 := 62#32
  let c0_i32_126 : BitVec 32 := 0#32
  let v11114 : BitVec 32 := Scalar.muli c62_i32_8646 c0_i32_126
  let v11115 : BitVec 32 := Scalar.addi c2_i32_8647 v11114
  let c60_i32 : BitVec 32 := 60#32
  let v11116 : BitVec 32 := Scalar.addi v11115 c60_i32
  let c2_i32_8739 : BitVec 32 := 2#32
  let v11234 : BitVec 32 := Scalar.muli v11116 c2_i32_8739
  let c1_i32_8740 : BitVec 32 := 1#32
  let v11235 : BitVec 32 := Scalar.addi v11234 c1_i32_8740
  let c64_i32_8746 : BitVec 32 := 64#32
  let v11243 : BitVec 32 := Scalar.muli v11235 c64_i32_8746
  v11243
def k0_mult489 : BitVec 32 :=
  let c120_i32_8795 : BitVec 32 := 120#32
  let c0_i32_8794 : BitVec 32 := 0#32
  let c2_i32_8789 : BitVec 32 := 2#32
  let c62_i32_8788 : BitVec 32 := 62#32
  let c0_i32_126 : BitVec 32 := 0#32
  let v11297 : BitVec 32 := Scalar.muli c62_i32_8788 c0_i32_126
  let v11298 : BitVec 32 := Scalar.addi c2_i32_8789 v11297
  let c61_i32 : BitVec 32 := 61#32
  let v11299 : BitVec 32 := Scalar.addi v11298 c61_i32
  let c2_i32_8790 : BitVec 32 := 2#32
  let v11300 : BitVec 32 := Scalar.subi v11299 c2_i32_8790
  let c2_i32_8791 : BitVec 32 := 2#32
  let v11301 : BitVec 32 := Scalar.muli v11300 c2_i32_8791
  let c0_i32_8792 : BitVec 32 := 0#32
  let v11302 : BitVec 32 := Scalar.addi v11301 c0_i32_8792
  let c4_i32_8793 : BitVec 32 := 4#32
  let v11303 : BitVec 32 := Scalar.subi v11302 c4_i32_8793
  let v11304 : BitVec 32 := Scalar.maxsi c0_i32_8794 v11303
  let v11305 : BitVec 32 := Scalar.minsi c120_i32_8795 v11304
  let c64_i32_8796 : BitVec 32 := 64#32
  let v11306 : BitVec 32 := Scalar.muli v11305 c64_i32_8796
  v11306
def k0_mult490 : BitVec 32 :=
  let c2_i32_8789 : BitVec 32 := 2#32
  let c62_i32_8788 : BitVec 32 := 62#32
  let c0_i32_126 : BitVec 32 := 0#32
  let v11297 : BitVec 32 := Scalar.muli c62_i32_8788 c0_i32_126
  let v11298 : BitVec 32 := Scalar.addi c2_i32_8789 v11297
  let c61_i32 : BitVec 32 := 61#32
  let v11299 : BitVec 32 := Scalar.addi v11298 c61_i32
  let c2_i32_8790 : BitVec 32 := 2#32
  let v11300 : BitVec 32 := Scalar.subi v11299 c2_i32_8790
  let c2_i32_8791 : BitVec 32 := 2#32
  let v11301 : BitVec 32 := Scalar.muli v11300 c2_i32_8791
  let c0_i32_8792 : BitVec 32 := 0#32
  let v11302 : BitVec 32 := Scalar.addi v11301 c0_i32_8792
  let c64_i32_8808 : BitVec 32 := 64#32
  let v11321 : BitVec 32 := Scalar.muli v11302 c64_i32_8808
  v11321
def k0_mult491 : BitVec 32 :=
  let c120_i32_8815 : BitVec 32 := 120#32
  let c0_i32_8814 : BitVec 32 := 0#32
  let c2_i32_8789 : BitVec 32 := 2#32
  let c62_i32_8788 : BitVec 32 := 62#32
  let c0_i32_126 : BitVec 32 := 0#32
  let v11297 : BitVec 32 := Scalar.muli c62_i32_8788 c0_i32_126
  let v11298 : BitVec 32 := Scalar.addi c2_i32_8789 v11297
  let c61_i32 : BitVec 32 := 61#32
  let v11299 : BitVec 32 := Scalar.addi v11298 c61_i32
  let c2_i32_8811 : BitVec 32 := 2#32
  let v11327 : BitVec 32 := Scalar.muli v11299 c2_i32_8811
  let c0_i32_8812 : BitVec 32 := 0#32
  let v11328 : BitVec 32 := Scalar.addi v11327 c0_i32_8812
  let c4_i32_8813 : BitVec 32 := 4#32
  let v11329 : BitVec 32 := Scalar.subi v11328 c4_i32_8813
  let v11330 : BitVec 32 := Scalar.maxsi c0_i32_8814 v11329
  let v11331 : BitVec 32 := Scalar.minsi c120_i32_8815 v11330
  let c64_i32_8816 : BitVec 32 := 64#32
  let v11332 : BitVec 32 := Scalar.muli v11331 c64_i32_8816
  v11332
def k0_mult492 : BitVec 32 :=
  let c2_i32_8789 : BitVec 32 := 2#32
  let c62_i32_8788 : BitVec 32 := 62#32
  let c0_i32_126 : BitVec 32 := 0#32
  let v11297 : BitVec 32 := Scalar.muli c62_i32_8788 c0_i32_126
  let v11298 : BitVec 32 := Scalar.addi c2_i32_8789 v11297
  let c61_i32 : BitVec 32 := 61#32
  let v11299 : BitVec 32 := Scalar.addi v11298 c61_i32
  let c2_i32_8811 : BitVec 32 := 2#32
  let v11327 : BitVec 32 := Scalar.muli v11299 c2_i32_8811
  let c0_i32_8812 : BitVec 32 := 0#32
  let v11328 : BitVec 32 := Scalar.addi v11327 c0_i32_8812
  let c64_i32_8818 : BitVec 32 := 64#32
  let v11336 : BitVec 32 := Scalar.muli v11328 c64_i32_8818
  v11336
def k0_mult493 : BitVec 32 :=
  let c120_i32_8865 : BitVec 32 := 120#32
  let c0_i32_8864 : BitVec 32 := 0#32
  let c2_i32_8789 : BitVec 32 := 2#32
  let c62_i32_8788 : BitVec 32 := 62#32
  let c0_i32_126 : BitVec 32 := 0#32
  let v11297 : BitVec 32 := Scalar.muli c62_i32_8788 c0_i32_126
  let v11298 : BitVec 32 := Scalar.addi c2_i32_8789 v11297
  let c61_i32 : BitVec 32 := 61#32
  let v11299 : BitVec 32 := Scalar.addi v11298 c61_i32
  let c2_i32_8860 : BitVec 32 := 2#32
  let v11390 : BitVec 32 := Scalar.subi v11299 c2_i32_8860
  let c2_i32_8861 : BitVec 32 := 2#32
  let v11391 : BitVec 32 := Scalar.muli v11390 c2_i32_8861
  let c1_i32_8862 : BitVec 32 := 1#32
  let v11392 : BitVec 32 := Scalar.addi v11391 c1_i32_8862
  let c4_i32_8863 : BitVec 32 := 4#32
  let v11393 : BitVec 32 := Scalar.subi v11392 c4_i32_8863
  let v11394 : BitVec 32 := Scalar.maxsi c0_i32_8864 v11393
  let v11395 : BitVec 32 := Scalar.minsi c120_i32_8865 v11394
  let c64_i32_8866 : BitVec 32 := 64#32
  let v11396 : BitVec 32 := Scalar.muli v11395 c64_i32_8866
  v11396
def k0_mult494 : BitVec 32 :=
  let c2_i32_8789 : BitVec 32 := 2#32
  let c62_i32_8788 : BitVec 32 := 62#32
  let c0_i32_126 : BitVec 32 := 0#32
  let v11297 : BitVec 32 := Scalar.muli c62_i32_8788 c0_i32_126
  let v11298 : BitVec 32 := Scalar.addi c2_i32_8789 v11297
  let c61_i32 : BitVec 32 := 61#32
  let v11299 : BitVec 32 := Scalar.addi v11298 c61_i32
  let c2_i32_8860 : BitVec 32 := 2#32
  let v11390 : BitVec 32 := Scalar.subi v11299 c2_i32_8860
  let c2_i32_8861 : BitVec 32 := 2#32
  let v11391 : BitVec 32 := Scalar.muli v11390 c2_i32_8861
  let c1_i32_8862 : BitVec 32 := 1#32
  let v11392 : BitVec 32 := Scalar.addi v11391 c1_i32_8862
  let c64_i32_8878 : BitVec 32 := 64#32
  let v11411 : BitVec 32 := Scalar.muli v11392 c64_i32_8878
  v11411
def k0_mult495 : BitVec 32 :=
  let c120_i32_8885 : BitVec 32 := 120#32
  let c0_i32_8884 : BitVec 32 := 0#32
  let c2_i32_8789 : BitVec 32 := 2#32
  let c62_i32_8788 : BitVec 32 := 62#32
  let c0_i32_126 : BitVec 32 := 0#32
  let v11297 : BitVec 32 := Scalar.muli c62_i32_8788 c0_i32_126
  let v11298 : BitVec 32 := Scalar.addi c2_i32_8789 v11297
  let c61_i32 : BitVec 32 := 61#32
  let v11299 : BitVec 32 := Scalar.addi v11298 c61_i32
  let c2_i32_8881 : BitVec 32 := 2#32
  let v11417 : BitVec 32 := Scalar.muli v11299 c2_i32_8881
  let c1_i32_8882 : BitVec 32 := 1#32
  let v11418 : BitVec 32 := Scalar.addi v11417 c1_i32_8882
  let c4_i32_8883 : BitVec 32 := 4#32
  let v11419 : BitVec 32 := Scalar.subi v11418 c4_i32_8883
  let v11420 : BitVec 32 := Scalar.maxsi c0_i32_8884 v11419
  let v11421 : BitVec 32 := Scalar.minsi c120_i32_8885 v11420
  let c64_i32_8886 : BitVec 32 := 64#32
  let v11422 : BitVec 32 := Scalar.muli v11421 c64_i32_8886
  v11422
def k0_mult496 : BitVec 32 :=
  let c2_i32_8789 : BitVec 32 := 2#32
  let c62_i32_8788 : BitVec 32 := 62#32
  let c0_i32_126 : BitVec 32 := 0#32
  let v11297 : BitVec 32 := Scalar.muli c62_i32_8788 c0_i32_126
  let v11298 : BitVec 32 := Scalar.addi c2_i32_8789 v11297
  let c61_i32 : BitVec 32 := 61#32
  let v11299 : BitVec 32 := Scalar.addi v11298 c61_i32
  let c2_i32_8881 : BitVec 32 := 2#32
  let v11417 : BitVec 32 := Scalar.muli v11299 c2_i32_8881
  let c1_i32_8882 : BitVec 32 := 1#32
  let v11418 : BitVec 32 := Scalar.addi v11417 c1_i32_8882
  let c64_i32_8888 : BitVec 32 := 64#32
  let v11426 : BitVec 32 := Scalar.muli v11418 c64_i32_8888
  v11426
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x14x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S12x8192x768 : Shape := ⟨3, ![12, 8192, 768]⟩
abbrev S12x15x31 : Shape := ⟨3, ![12, 15, 31]⟩
abbrev S12x128x64x12x64 : Shape := ⟨5, ![12, 128, 64, 12, 64]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S12x128x8x64x12x64 : Shape := ⟨6, ![12, 128, 8, 64, 12, 64]⟩
abbrev S12x128x12x64x8x64 : Shape := ⟨6, ![12, 128, 12, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S12x128x8x31 : Shape := ⟨4, ![12, 128, 8, 31]⟩
abbrev S64x64x1 : Shape := ⟨3, ![64, 64, 1]⟩
abbrev S1 : Shape := ⟨1, ![1]⟩
abbrev S1x1x1 : Shape := ⟨3, ![1, 1, 1]⟩
abbrev S12x128x8x64x64 : Shape := ⟨5, ![12, 128, 8, 64, 64]⟩
abbrev S128x12x64x8x64 : Shape := ⟨5, ![128, 12, 64, 8, 64]⟩
abbrev S1x1x1x64x1x64 : Shape := ⟨6, ![1, 1, 1, 64, 1, 64]⟩
abbrev S1x128x12x64x8x64 : Shape := ⟨6, ![1, 128, 12, 64, 8, 64]⟩
abbrev S12x128x12x64x512 : Shape := ⟨5, ![12, 128, 12, 64, 512]⟩
abbrev S12x128x12x64 : Shape := ⟨4, ![12, 128, 12, 64]⟩
abbrev S12x128x12x64x1 : Shape := ⟨5, ![12, 128, 12, 64, 1]⟩
abbrev S12x128x12x64x64 : Shape := ⟨5, ![12, 128, 12, 64, 64]⟩

abbrev nBuf : Space → Nat
  | .hbm => 159
  | .vmem => 0
  | .smem => 0
  | _ => 0

abbrev hbmTy0_0 (i : Nat) : BufTy := match i % 128 with
  | 0 => ⟨S12x8192x768, .f32⟩
  | 1 => ⟨S12x8192x768, .bf16⟩
  | 2 => ⟨S12x8192x768, .bf16⟩
  | 3 => ⟨S12x15x31, .f32⟩
  | 4 => ⟨S12x128x64x12x64, .f32⟩
  | 5 => ⟨S12x8192x768, .f32⟩
  | 6 => ⟨S12x128x64x12x64, .f32⟩
  | 7 => ⟨S12x8192x768, .f32⟩
  | 8 => ⟨S12x128x64x12x64, .f32⟩
  | 9 => ⟨S128, .i32⟩
  | 10 => ⟨S_, .i32⟩
  | 11 => ⟨S128, .i32⟩
  | 12 => ⟨S128, .i32⟩
  | 13 => ⟨S_, .i32⟩
  | 14 => ⟨S_, .i32⟩
  | 15 => ⟨S_, .i32⟩
  | 16 => ⟨S128, .i32⟩
  | 17 => ⟨S128, .i32⟩
  | 18 => ⟨S_, .i32⟩
  | 19 => ⟨S128, .i32⟩
  | 20 => ⟨S128, .i32⟩
  | 21 => ⟨S128x1, .i32⟩
  | 22 => ⟨S8, .i32⟩
  | 23 => ⟨S1x8, .i32⟩
  | 24 => ⟨S128x8, .i32⟩
  | 25 => ⟨S128x8, .i32⟩
  | 26 => ⟨S128x8, .i32⟩
  | 27 => ⟨S_, .i32⟩
  | 28 => ⟨S128x8, .i32⟩
  | 29 => ⟨S128x8, .i1⟩
  | 30 => ⟨S_, .i32⟩
  | 31 => ⟨S128x8, .i32⟩
  | 32 => ⟨S128x8, .i32⟩
  | 33 => ⟨S128x8, .i32⟩
  | 34 => ⟨S128x8x1, .i32⟩
  | 35 => ⟨S12x128x8x64x12x64, .f32⟩
  | 36 => ⟨S_, .i32⟩
  | 37 => ⟨S128x8, .i32⟩
  | 38 => ⟨S128x8, .i1⟩
  | 39 => ⟨S_, .i32⟩
  | 40 => ⟨S128x8, .i32⟩
  | 41 => ⟨S128x8, .i32⟩
  | 42 => ⟨S128x8, .i32⟩
  | 43 => ⟨S128x8x1, .i32⟩
  | 44 => ⟨S12x128x8x64x12x64, .f32⟩
  | 45 => ⟨S12x128x12x64x8x64, .f32⟩
  | 46 => ⟨S_, .f32⟩
  | 47 => ⟨S12x128x12x64x8x64, .f32⟩
  | 48 => ⟨S12x128x12x64x8x64, .f32⟩
  | 49 => ⟨S64, .i32⟩
  | 50 => ⟨S_, .i32⟩
  | 51 => ⟨S64, .i32⟩
  | 52 => ⟨S64, .i32⟩
  | 53 => ⟨S_, .i32⟩
  | 54 => ⟨S_, .i32⟩
  | 55 => ⟨S_, .i32⟩
  | 56 => ⟨S64, .i32⟩
  | 57 => ⟨S64, .i32⟩
  | 58 => ⟨S_, .i32⟩
  | 59 => ⟨S64, .i32⟩
  | 60 => ⟨S64, .i32⟩
  | 61 => ⟨S1x64, .i32⟩
  | 62 => ⟨S64x1, .i32⟩
  | 63 => ⟨S64x64, .i32⟩
  | 64 => ⟨S64x64, .i32⟩
  | 65 => ⟨S64x64, .i1⟩
  | 66 => ⟨S1x64, .i32⟩
  | 67 => ⟨S64x1, .i32⟩
  | 68 => ⟨S_, .i32⟩
  | 69 => ⟨S64x1, .i32⟩
  | 70 => ⟨S64x1, .i32⟩
  | 71 => ⟨S64x64, .i32⟩
  | 72 => ⟨S64x64, .i32⟩
  | 73 => ⟨S64x64, .i1⟩
  | 74 => ⟨S64x64, .i1⟩
  | 75 => ⟨S128x1, .i32⟩
  | 76 => ⟨S128x8, .i32⟩
  | 77 => ⟨S128x8, .i32⟩
  | 78 => ⟨S_, .i32⟩
  | 79 => ⟨S128x8, .i32⟩
  | 80 => ⟨S128x8, .i32⟩
  | 81 => ⟨S1x64, .i32⟩
  | 82 => ⟨S64x1, .i32⟩
  | 83 => ⟨S64x64, .i32⟩
  | 84 => ⟨S64x64, .i32⟩
  | 85 => ⟨S64x64, .i32⟩
  | 86 => ⟨S_, .i32⟩
  | 87 => ⟨S_, .i32⟩
  | 88 => ⟨S_, .i32⟩
  | 89 => ⟨S64x64, .i32⟩
  | 90 => ⟨S64x64, .i32⟩
  | 91 => ⟨S_, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S128x8, .i32⟩
  | 99 => ⟨S128x8, .i1⟩
  | 100 => ⟨S_, .i32⟩
  | 101 => ⟨S128x8, .i32⟩
  | 102 => ⟨S128x8, .i32⟩
  | 103 => ⟨S128x8, .i32⟩
  | 104 => ⟨S128x8x1, .i32⟩
  | 105 => ⟨S12x128x8x31, .f32⟩
  | 106 => ⟨S_, .i32⟩
  | 107 => ⟨S64x64, .i32⟩
  | 108 => ⟨S64x64, .i1⟩
  | 109 => ⟨S_, .i32⟩
  | 110 => ⟨S64x64, .i32⟩
  | 111 => ⟨S64x64, .i32⟩
  | 112 => ⟨S64x64, .i32⟩
  | 113 => ⟨S64x64x1, .i32⟩
  | 114 => ⟨S1, .i32⟩
  | 115 => ⟨S_, .i32⟩
  | 116 => ⟨S64x64x1, .i32⟩
  | 117 => ⟨S64x64x1, .i1⟩
  | 118 => ⟨S1x1x1, .i32⟩
  | 119 => ⟨S64x64x1, .i32⟩
  | 120 => ⟨S64x64x1, .i1⟩
  | 121 => ⟨S64x64x1, .i1⟩
  | 122 => ⟨S_, .i1⟩
  | 123 => ⟨S64x64, .i1⟩
  | 124 => ⟨S12x128x8x64x64, .f32⟩
  | 125 => ⟨S12x128x8x64x64, .i1⟩
  | 126 => ⟨S_, .f32⟩
  | 127 => ⟨S12x128x8x64x64, .f32⟩
  | _ => ⟨S12x8192x768, .f32⟩

abbrev hbmTy0_1 (i : Nat) : BufTy := match i % 128 with
  | 0 => ⟨S12x128x8x64x64, .f32⟩
  | 1 => ⟨S128x12x64x8x64, .f32⟩
  | 2 => ⟨S1x1x1x64x1x64, .i1⟩
  | 3 => ⟨S1x128x12x64x8x64, .f32⟩
  | 4 => ⟨S12x128x12x64x8x64, .f32⟩
  | 5 => ⟨S12x128x12x64x8x64, .f32⟩
  | 6 => ⟨S_, .f32⟩
  | 7 => ⟨S_, .f32⟩
  | 8 => ⟨S12x128x12x64x8x64, .i1⟩
  | 9 => ⟨S12x128x12x64x8x64, .f32⟩
  | 10 => ⟨S12x128x12x64x8x64, .f32⟩
  | 11 => ⟨S12x128x12x64x512, .f32⟩
  | 12 => ⟨S_, .f32⟩
  | 13 => ⟨S12x128x12x64, .f32⟩
  | 14 => ⟨S_, .f32⟩
  | 15 => ⟨S12x128x12x64, .f32⟩
  | 16 => ⟨S12x128x12x64, .f32⟩
  | 17 => ⟨S12x128x12x64x1, .f32⟩
  | 18 => ⟨S12x128x12x64x512, .f32⟩
  | 19 => ⟨S12x128x12x64x512, .f32⟩
  | 20 => ⟨S12x128x12x64x512, .f32⟩
  | 21 => ⟨S_, .f32⟩
  | 22 => ⟨S12x128x12x64, .f32⟩
  | 23 => ⟨S12x128x12x64x1, .f32⟩
  | 24 => ⟨S12x128x12x64x512, .f32⟩
  | 25 => ⟨S12x128x12x64x512, .f32⟩
  | 26 => ⟨S12x128x12x64x8x64, .f32⟩
  | 27 => ⟨S12x128x12x64x64, .f32⟩
  | 28 => ⟨S12x128x64x12x64, .f32⟩
  | 29 => ⟨S12x8192x768, .f32⟩
  | 30 => ⟨S12x8192x768, .bf16⟩
  | _ => ⟨S12x8192x768, .f32⟩

abbrev hbmTy (i : Nat) : BufTy := match i / 128 with
  | 0 => hbmTy0_0 i
  | 1 => hbmTy0_1 i
  | _ => ⟨S12x8192x768, .f32⟩

abbrev bufTy : (tb : Table) → Fin (tcTables nBuf tb) → BufTy
  | .hbm, ⟨i, _⟩ => hbmTy i
  | _, _ => ⟨S12x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_c_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_c_12 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_c_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_call3_cst : Ref sig .tc := ⟨.hbm, 126, rfl⟩
abbrev main_call3_v15 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_16 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v75 : Ref sig .tc := ⟨.hbm, 138, rfl⟩
abbrev main_v76 : Ref sig .tc := ⟨.hbm, 139, rfl⟩
abbrev main_cst_17 : Ref sig .tc := ⟨.hbm, 140, rfl⟩
abbrev main_v77 : Ref sig .tc := ⟨.hbm, 141, rfl⟩
abbrev main_cst_18 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_cst_19 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩

abbrev nD : Nat := 1
abbrev τ : Topo := Topo.v7x

variable {F : FTy → Type} [FloatOps F]
-- ==== Kernel2.lean ====
abbrev S98304x1024 : Shape := ⟨2, ![98304, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S32768x1024 : Shape := ⟨2, ![32768, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 14
  | .vmem => 10
  | .smem => 0
  | _ => 0

abbrev bufTy : (tb : Table) → Fin (tcTables nBuf tb) → BufTy
  | .hbm, ⟨0, _⟩ => ⟨S98304x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2x1024x5632, .bf16⟩
  | .hbm, ⟨9, _⟩ => ⟨S2x2816x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S98304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S98304x1024 : Shape := ⟨2, ![98304, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 64
  | .vmem => 0
  | .smem => 0
  | _ => 0

abbrev bufTy : (tb : Table) → Fin (tcTables nBuf tb) → BufTy
  | .hbm, ⟨0, _⟩ => ⟨S98304x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x5632, .f32⟩
  | .hbm, ⟨25, _⟩ => ⟨S1024x5632, .f32⟩
  | .hbm, ⟨26, _⟩ => ⟨S1x2816x1024, .f32⟩
  | .hbm, ⟨27, _⟩ => ⟨S2816x1024, .f32⟩
  | .hbm, ⟨28, _⟩ => ⟨S32768x5632, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S1x1024, .f32⟩
  | .hbm, ⟨62, _⟩ => ⟨S32768x1024, .f32⟩
  | .hbm, ⟨63, _⟩ => ⟨S32768x1024, .f32⟩
  | _, _ => ⟨S98304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel3.lean ====
abbrev S98304x1024 : Shape := ⟨2, ![98304, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 14
  | .vmem => 10
  | .smem => 0
  | _ => 0

abbrev bufTy : (tb : Table) → Fin (tcTables nBuf tb) → BufTy
  | .hbm, ⟨0, _⟩ => ⟨S98304x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2x1024x5632, .bf16⟩
  | .hbm, ⟨9, _⟩ => ⟨S2x2816x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S98304x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S98304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S98304x1024 : Shape := ⟨2, ![98304, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S98304 : Shape := ⟨1, ![98304]⟩
abbrev S98304x1 : Shape := ⟨2, ![98304, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S98304x5632 : Shape := ⟨2, ![98304, 5632]⟩
abbrev S98304x2816 : Shape := ⟨2, ![98304, 2816]⟩

abbrev nBuf : Space → Nat
  | .hbm => 45
  | .vmem => 0
  | .smem => 0
  | _ => 0

abbrev bufTy : (tb : Table) → Fin (tcTables nBuf tb) → BufTy
  | .hbm, ⟨0, _⟩ => ⟨S98304x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S98304x1024, .f32⟩
  | .hbm, ⟨8, _⟩ => ⟨S_, .f32⟩
  | .hbm, ⟨9, _⟩ => ⟨S98304, .f32⟩
  | .hbm, ⟨10, _⟩ => ⟨S98304x1, .f32⟩
  | .hbm, ⟨11, _⟩ => ⟨S_, .f32⟩
  | .hbm, ⟨12, _⟩ => ⟨S98304x1, .f32⟩
  | .hbm, ⟨13, _⟩ => ⟨S98304x1, .f32⟩
  | .hbm, ⟨14, _⟩ => ⟨S_, .f32⟩
  | .hbm, ⟨15, _⟩ => ⟨S98304x1, .f32⟩
  | .hbm, ⟨16, _⟩ => ⟨S98304x1, .f32⟩
  | .hbm, ⟨17, _⟩ => ⟨S98304x1, .f32⟩
  | .hbm, ⟨18, _⟩ => ⟨S98304x1024, .f32⟩
  | .hbm, ⟨19, _⟩ => ⟨S98304x1024, .f32⟩
  | .hbm, ⟨20, _⟩ => ⟨S1x1024, .f32⟩
  | .hbm, ⟨21, _⟩ => ⟨S98304x1024, .f32⟩
  | .hbm, ⟨22, _⟩ => ⟨S98304x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S98304x5632, .f32⟩
  | .hbm, ⟨28, _⟩ => ⟨S98304x2816, .f32⟩
  | .hbm, ⟨29, _⟩ => ⟨S98304x2816, .f32⟩
  | .hbm, ⟨30, _⟩ => ⟨S98304x2816, .f32⟩
  | .hbm, ⟨31, _⟩ => ⟨S98304x2816, .f32⟩
  | .hbm, ⟨32, _⟩ => ⟨S_, .f32⟩
  | .hbm, ⟨33, _⟩ => ⟨S98304x2816, .f32⟩
  | .hbm, ⟨34, _⟩ => ⟨S98304x2816, .f32⟩
  | .hbm, ⟨35, _⟩ => ⟨S_, .f32⟩
  | .hbm, ⟨36, _⟩ => ⟨S98304x2816, .f32⟩
  | .hbm, ⟨37, _⟩ => ⟨S98304x2816, .f32⟩
  | .hbm, ⟨38, _⟩ => ⟨S98304x2816, .f32⟩
  | .hbm, ⟨39, _⟩ => ⟨S98304x2816, .f32⟩
  | .hbm, ⟨40, _⟩ => ⟨S98304x1024, .f32⟩
  | .hbm, ⟨41, _⟩ => ⟨S_, .f32⟩
  | .hbm, ⟨42, _⟩ => ⟨S98304x1024, .f32⟩
  | .hbm, ⟨43, _⟩ => ⟨S98304x1024, .f32⟩
  | .hbm, ⟨44, _⟩ => ⟨S98304x1024, .f32⟩
  | _, _ => ⟨S98304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel4.lean ====
abbrev S98304x1024 : Shape := ⟨2, ![98304, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S65536x1024 : Shape := ⟨2, ![65536, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 14
  | .vmem => 10
  | .smem => 0
  | _ => 0

abbrev bufTy : (tb : Table) → Fin (tcTables nBuf tb) → BufTy
  | .hbm, ⟨0, _⟩ => ⟨S98304x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2x1024x5632, .bf16⟩
  | .hbm, ⟨9, _⟩ => ⟨S2x2816x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S98304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S98304x1024 : Shape := ⟨2, ![98304, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S65536x1024 : Shape := ⟨2, ![65536, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S65536x5632 : Shape := ⟨2, ![65536, 5632]⟩
abbrev S65536x2816 : Shape := ⟨2, ![65536, 2816]⟩

abbrev nBuf : Space → Nat
  | .hbm => 64
  | .vmem => 0
  | .smem => 0
  | _ => 0

abbrev bufTy : (tb : Table) → Fin (tcTables nBuf tb) → BufTy
  | .hbm, ⟨0, _⟩ => ⟨S98304x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S65536x1024, .f32⟩
  | .hbm, ⟨6, _⟩ => ⟨S1x1024, .f32⟩
  | .hbm, ⟨7, _⟩ => ⟨S1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S1x1024x5632, .f32⟩
  | .hbm, ⟨25, _⟩ => ⟨S1024x5632, .f32⟩
  | .hbm, ⟨26, _⟩ => ⟨S1x2816x1024, .f32⟩
  | .hbm, ⟨27, _⟩ => ⟨S2816x1024, .f32⟩
  | .hbm, ⟨28, _⟩ => ⟨S65536x5632, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S_, .f32⟩
  | .hbm, ⟨34, _⟩ => ⟨S65536x2816, .f32⟩
  | .hbm, ⟨35, _⟩ => ⟨S65536x2816, .f32⟩
  | .hbm, ⟨36, _⟩ => ⟨S_, .f32⟩
  | .hbm, ⟨37, _⟩ => ⟨S65536x2816, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S65536x1024, .f32⟩
  | .hbm, ⟨42, _⟩ => ⟨S_, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S1024, .f32⟩
  | .hbm, ⟨48, _⟩ => ⟨S65536x1024, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1, .f32⟩
  | .hbm, ⟨59, _⟩ => ⟨S65536x1024, .f32⟩
  | .hbm, ⟨60, _⟩ => ⟨S65536x1024, .f32⟩
  | .hbm, ⟨61, _⟩ => ⟨S1x1024, .f32⟩
  | .hbm, ⟨62, _⟩ => ⟨S65536x1024, .f32⟩
  | .hbm, ⟨63, _⟩ => ⟨S65536x1024, .f32⟩
  | _, _ => ⟨S98304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel5.lean ====
abbrev S4x8192x1024 : Shape := ⟨3, ![4, 8192, 1024]⟩
abbrev S8x8192x1024 : Shape := ⟨3, ![8, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S1x1024 : Shape := ⟨2, ![1, 1024]⟩
abbrev S1024 : Shape := ⟨1, ![1024]⟩
abbrev S65536x1024 : Shape := ⟨2, ![65536, 1024]⟩
abbrev S98304x1024 : Shape := ⟨2, ![98304, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 17
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S8x8192x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S2x1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2x1024x5632, .bf16⟩
  | .hbm, ⟨11, _⟩ => ⟨S2x2816x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S65536x1024, .f32⟩
  | .hbm, ⟨16, _⟩ => ⟨S98304x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4x8192x1024 : Shape := ⟨3, ![4, 8192, 1024]⟩
abbrev S8x8192x1024 : Shape := ⟨3, ![8, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S65536x1024 : Shape := ⟨2, ![65536, 1024]⟩
abbrev S98304x1024 : Shape := ⟨2, ![98304, 1024]⟩
abbrev S1x1024 : Shape := ⟨2, ![1, 1024]⟩
abbrev S1024 : Shape := ⟨1, ![1024]⟩
abbrev S_ : Shape := ⟨0, ![]⟩
abbrev S98304 : Shape := ⟨1, ![98304]⟩
abbrev S98304x1 : Shape := ⟨2, ![98304, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S98304x5632 : Shape := ⟨2, ![98304, 5632]⟩
abbrev S98304x2816 : Shape := ⟨2, ![98304, 2816]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8x8192x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S2x1024, .f32⟩
  | .hbm, ⟨6, _⟩ => ⟨S32768x1024, .f32⟩
  | .hbm, ⟨7, _⟩ => ⟨S65536x1024, .f32⟩
  | .hbm, ⟨8, _⟩ => ⟨S98304x1024, .f32⟩
  | .hbm, ⟨9, _⟩ => ⟨S1x1024, .f32⟩
  | .hbm, ⟨10, _⟩ => ⟨S1024, .f32⟩
  | .hbm, ⟨11, _⟩ => ⟨S98304x1024, .f32⟩
  | .hbm, ⟨12, _⟩ => ⟨S_, .f32⟩
  | .hbm, ⟨13, _⟩ => ⟨S98304, .f32⟩
  | .hbm, ⟨14, _⟩ => ⟨S98304x1, .f32⟩
  | .hbm, ⟨15, _⟩ => ⟨S_, .f32⟩
  | .hbm, ⟨16, _⟩ => ⟨S98304x1, .f32⟩
  | .hbm, ⟨17, _⟩ => ⟨S98304x1, .f32⟩
  | .hbm, ⟨18, _⟩ => ⟨S_, .f32⟩
  | .hbm, ⟨19, _⟩ => ⟨S98304x1, .f32⟩
  | .hbm, ⟨20, _⟩ => ⟨S98304x1, .f32⟩
  | .hbm, ⟨21, _⟩ => ⟨S98304x1, .f32⟩
  | .hbm, ⟨22, _⟩ => ⟨S98304x1024, .f32⟩
  | .hbm, ⟨23, _⟩ => ⟨S98304x1024, .f32⟩
  | .hbm, ⟨24, _⟩ => ⟨S1x1024, .f32⟩
  | .hbm, ⟨25, _⟩ => ⟨S98304x1024, .f32⟩
  | .hbm, ⟨26, _⟩ => ⟨S98304x1024, .f32⟩
  | .hbm, ⟨27, _⟩ => ⟨S1x1024x5632, .f32⟩
  | .hbm, ⟨28, _⟩ => ⟨S1024x5632, .f32⟩
  | .hbm, ⟨29, _⟩ => ⟨S1x2816x1024, .f32⟩
  | .hbm, ⟨30, _⟩ => ⟨S2816x1024, .f32⟩
  | .hbm, ⟨31, _⟩ => ⟨S98304x5632, .f32⟩
  | .hbm, ⟨32, _⟩ => ⟨S98304x2816, .f32⟩
  | .hbm, ⟨33, _⟩ => ⟨S98304x2816, .f32⟩
  | .hbm, ⟨34, _⟩ => ⟨S98304x2816, .f32⟩
  | .hbm, ⟨35, _⟩ => ⟨S98304x2816, .f32⟩
  | .hbm, ⟨36, _⟩ => ⟨S_, .f32⟩
  | .hbm, ⟨37, _⟩ => ⟨S98304x2816, .f32⟩
  | .hbm, ⟨38, _⟩ => ⟨S98304x2816, .f32⟩
  | .hbm, ⟨39, _⟩ => ⟨S_, .f32⟩
  | .hbm, ⟨40, _⟩ => ⟨S98304x2816, .f32⟩
  | .hbm, ⟨41, _⟩ => ⟨S98304x2816, .f32⟩
  | .hbm, ⟨42, _⟩ => ⟨S98304x2816, .f32⟩
  | .hbm, ⟨43, _⟩ => ⟨S98304x2816, .f32⟩
  | .hbm, ⟨44, _⟩ => ⟨S98304x1024, .f32⟩
  | .hbm, ⟨45, _⟩ => ⟨S_, .f32⟩
  | .hbm, ⟨46, _⟩ => ⟨S98304x1024, .f32⟩
  | .hbm, ⟨47, _⟩ => ⟨S98304x1024, .f32⟩
  | .hbm, ⟨48, _⟩ => ⟨S98304x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Proof.Na.Phases.lean ====
module

public import proofs.«01_k».proof.KernelIdeal
public import Idealize.ShloMosaic.Lib.Pipeline.Regions

/-!
# The phases of one program of the attention

One program of the grid treats one batch and one pair of heads, its 8192 tokens
being a picture of 128 rows of 64.  A row takes three phases: its SCORES against the 512 keys of the eight
rows around it, the SOFTMAX of these (the exponentials, unnormalised, and the reciprocals of their sums), and its
VALUES (the exponentials times the values, scaled).  The kernel treats two rows per tick and runs the three phases of
three consecutive ticks side by side, on slots `(parity of the tick, row within the tick)` of three scratch buffers.

Here each phase is written once, over the offsets it reads and writes at, and the body is the list of them
(`body_eq`).
-/

@[expose] public section

set_option maxRecDepth 16384
set_option synthInstance.maxSize 4096

noncomputable section

namespace Cert.KernelIdeal

open Idealize.ShloMosaic Idealize.SL.Sem
open Idealize.ShloMosaic.RefSig (ofTc tcTables tileCredit tileCredit_eq_zero tileCredit_pos)

variable {F : FTy → Type} [FloatOps F]
variable [Facts]
open Facts₀ Facts

/-! ## What a phase computes -/

/-- The lanes of the first head of the pair. -/
def headMask : IVec S64x128 1 :=
  andi (cmpi .sge (iota .tc S64x128 32 [1] iota_S64x128_d1_w32) (broadcast S64x128 0#32))
    (cmpi .slt (iota .tc S64x128 32 [1] iota_S64x128_d1_w32) (broadcast S64x128 64#32))

/-- The queries of the two heads one under the other, each with the other head's lanes at zero. -/
def stack (q : Vec F S1x64x128 .bf16) : FVec F S128x128 .bf16 :=
  concatenate S128x128 0
    [⟨S64x128, select headMask (shapeCast S64x128 q shapeCasts_S1x64x128_S64x128 : FVec F S64x128 .bf16) (broadcast S64x128 (Scalar.ofBits .bf16 0x0000#16))⟩,
     ⟨S64x128, select headMask (broadcast S64x128 (Scalar.ofBits .bf16 0x0000#16)) (shapeCast S64x128 q shapeCasts_S1x64x128_S64x128 : FVec F S64x128 .bf16)⟩]
    concatenates_S64x128_S64x128_S128x128_d0

/-- The four strips of the bias side by side. -/
def biasRow (b : Fin 4 → Vec F S1x1x128x128 .f32) : FVec F S128x512 .f32 :=
  concatenate S128x512 1
    [⟨S128x128, shapeCast S128x128 (b 0) shapeCasts_S1x1x128x128_S128x128⟩,
     ⟨S128x128, shapeCast S128x128 (b 1) shapeCasts_S1x1x128x128_S128x128⟩,
     ⟨S128x128, shapeCast S128x128 (b 2) shapeCasts_S1x1x128x128_S128x128⟩,
     ⟨S128x128, shapeCast S128x128 (b 3) shapeCasts_S1x1x128x128_S128x128⟩]
    concatenates_S128x128_S128x128_S128x128_S128x128_S128x512_d1

/-- The scores of a row: the stacked queries against the keys, plus the bias. -/
def scoresV (q : Vec F S1x64x128 .bf16) (k : Vec F S1x512x128 .bf16) (b : Fin 4 → Vec F S1x1x128x128 .f32) : FVec F S1x1x128x512 .f32 :=
  shapeCast S1x1x128x512
    (addf (matmul dot_S128x128_S512x128_S128x512_1_1_0_0_n_n none (stack q) (shapeCast S512x128 k shapeCasts_S1x512x128_S512x128 : FVec F S512x128 .bf16)
      (constant S128x512 .f32 0x00000000#32)) (biasRow b))
    shapeCasts_S128x512_S1x1x128x512

/-- The exponentials of a row's scores less their maximum. -/
def expV (s : Vec F S1x1x128x512 .f32) : FVec F S128x512 .f32 :=
  exp2 (subf (shapeCast S128x512 s shapeCasts_S1x1x128x512_S128x512 : FVec F S128x512 .f32)
    (broadcastTo S128x512 (shapeCast S128x1
      (multiReduction .maximumf [1] S128 (shapeCast S128x512 s shapeCasts_S1x1x128x512_S128x512 : FVec F S128x512 .f32) 0xFF800000#32 reduces_S128x512_S128 (.inl rfl) rfl)
      shapeCasts_S128_S128x1 : FVec F S128x1 .f32) broadcasts_S128x1_S128x512))

/-- The exponentials as they are stored. -/
def expOut (s : Vec F S1x1x128x512 .f32) : FVec F S1x1x128x512 .bf16 :=
  shapeCast S1x1x128x512 (truncf .bf16 (expV s) bitsLt_bf16_f32) shapeCasts_S128x512_S1x1x128x512

/-- The reciprocals of the sums of the exponentials, as they are stored: one copy per lane. -/
def recOut (s : Vec F S1x1x128x512 .f32) : FVec F S1x1x128x128 .f32 :=
  shapeCast S1x1x128x128
    (broadcastTo S128x128 (shapeCast S128x1
      (divf (broadcast S128x1 (Scalar.ofBits .f32 0x3F800000#32))
        (shapeCast S128x1 (multiReduction .add [1] S128 (expV s) 0x00000000#32 reduces_S128x512_S128 (.inl rfl) rfl) shapeCasts_S128_S128x1 : FVec F S128x1 .f32))
      shapeCasts_S128x1_S128x1 : FVec F S128x1 .f32) broadcasts_S128x1_S128x128)
    shapeCasts_S128x128_S1x1x128x128

/-- The products with the values, scaled by the reciprocals. -/
def mixV (v : Vec F S1x512x128 .bf16) (e : Vec F S1x1x128x512 .bf16) (l : Vec F S1x1x128x128 .f32) : FVec F S128x128 .f32 :=
  mulf (matmul dot_S128x512_S512x128_S128x128_1_0_0_1_n_n none (shapeCast S128x512 e shapeCasts_S1x1x128x512_S128x512 : FVec F S128x512 .bf16)
      (shapeCast S512x128 v shapeCasts_S1x512x128_S512x128 : FVec F S512x128 .bf16) (constant S128x128 .f32 0x00000000#32))
    (shapeCast S128x128 l shapeCasts_S1x1x128x128_S128x128 : FVec F S128x128 .f32)

/-- A row of the result: each head's lanes from that head's half. -/
def valuesV (v : Vec F S1x512x128 .bf16) (e : Vec F S1x1x128x512 .bf16) (l : Vec F S1x1x128x128 .f32) : FVec F S1x64x128 .bf16 :=
  shapeCast S1x64x128
    (truncf .bf16 (select headMask (extractStridedSlice S64x128 ![0, 0] (mixV v e l) slices_S128x128_o0_0_S64x128)
      (extractStridedSlice S64x128 ![64, 0] (mixV v e l) slices_S128x128_o64_0_S64x128)) bitsLt_bf16_f32)
    shapeCasts_S64x128_S1x64x128

/-! ## The phases as programs -/

/-- The slot of a scratch buffer: the parity of the tick and the row within it. -/
def slot (p j : Fin 2) : Fin 4 → ℕ := ![p.val, j.val, 0, 0]

theorem slot_inb512 (p j : Fin 2) : ∀ a, slot p j a + S1x1x128x512.size a ≤ S2x2x128x512.size a := by revert p j; decide
theorem slot_inb128 (p j : Fin 2) : ∀ a, slot p j a + S1x1x128x128.size a ≤ S2x2x128x128.size a := by revert p j; decide
theorem slot_packed (p j : Fin 2) : (Rect.unit (s := S2x2x128x512) (slot p j) S1x1x128x512.size (slot_inb512 p j)).PackedRows (EltTy.packing .bf16) := by
  fin_cases p <;> fin_cases j
  · exact packedbf16_S2x2x128x512_S1x1x128x512_0_0_0_0
  · exact packedbf16_S2x2x128x512_S1x1x128x512_0_1_0_0
  · exact packedbf16_S2x2x128x512_S1x1x128x512_1_0_0_0
  · exact packedbf16_S2x2x128x512_S1x1x128x512_1_1_0_0

variable (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x14x128x128 .f32) (harg5 : arg5.IsWhole) (arg6 : Memref sig .tc .vmem S1x8192x128 .bf16) (harg6 : arg6.IsWhole) (arg7 : Memref sig .tc .vmem S2x2x128x512 .f32) (harg7 : arg7.IsWhole) (arg8 : Memref sig .tc .vmem S2x2x128x512 .bf16) (harg8 : arg8.IsWhole) (arg9 : Memref sig .tc .vmem S2x2x128x128 .f32) (harg9 : arg9.IsWhole)

/-- The scores of a row into a slot. -/
def scoresP (p j : Fin 2) (oq ok : Fin 3 → ℕ) (ob : Fin 4 → Fin 4 → ℕ)
    (hq : ∀ a, oq a + S1x64x128.size a ≤ S1x8192x128.size a) (hk : ∀ a, ok a + S1x512x128.size a ≤ S1x8192x128.size a)
    (hb : ∀ r a, ob r a + S1x1x128x128.size a ≤ S1x14x128x128.size a) : Prog (TpuEff nD τ sig (Elt F) Λ₀ .tc) PUnit := do
  let q : Vec F S1x64x128 .bf16 ← Prog.lift (.load arg2 (Rect.unit (s := S1x8192x128) oq S1x64x128.size hq).toLoadRect (View.loadsAt_vmem h_S1x64x128))
  let k : Vec F S1x512x128 .bf16 ← Prog.lift (.load arg3 (Rect.unit (s := S1x8192x128) ok S1x512x128.size hk).toLoadRect (View.loadsAt_vmem h_S1x512x128))
  let b0 : Vec F S1x1x128x128 .f32 ← Prog.lift (.load arg5 (Rect.unit (s := S1x14x128x128) (ob 0) S1x1x128x128.size (hb 0)).toLoadRect (View.loadsAt_vmem h_S1x1x128x128))
  let b1 : Vec F S1x1x128x128 .f32 ← Prog.lift (.load arg5 (Rect.unit (s := S1x14x128x128) (ob 1) S1x1x128x128.size (hb 1)).toLoadRect (View.loadsAt_vmem h_S1x1x128x128))
  let b2 : Vec F S1x1x128x128 .f32 ← Prog.lift (.load arg5 (Rect.unit (s := S1x14x128x128) (ob 2) S1x1x128x128.size (hb 2)).toLoadRect (View.loadsAt_vmem h_S1x1x128x128))
  let b3 : Vec F S1x1x128x128 .f32 ← Prog.lift (.load arg5 (Rect.unit (s := S1x14x128x128) (ob 3) S1x1x128x128.size (hb 3)).toLoadRect (View.loadsAt_vmem h_S1x1x128x128))
  let _x : Vec F S1x1x128x512 .f32 ← Prog.lift (.load arg7 (Rect.unit (s := S2x2x128x512) (slot p j) S1x1x128x512.size (slot_inb512 p j)).toLoadRect (View.loadsAt_vmem h_S1x1x128x512))
  Prog.lift (.store arg7 (Rect.unit (s := S2x2x128x512) (slot p j) S1x1x128x512.size (slot_inb512 p j)) (scoresV q k ![b0, b1, b2, b3]) Finset.univ
    (View.stores_vmem_bits_univ h_S1x1x128x512 rfl) (.inl rfl))

/-- The softmax of a slot. -/
def softmaxP (p j : Fin 2) : Prog (TpuEff nD τ sig (Elt F) Λ₀ .tc) PUnit := do
  let s : Vec F S1x1x128x512 .f32 ← Prog.lift (.load arg7 (Rect.unit (s := S2x2x128x512) (slot p j) S1x1x128x512.size (slot_inb512 p j)).toLoadRect (View.loadsAt_vmem h_S1x1x128x512))
  let _x : Vec F S1x1x128x512 .bf16 ← Prog.lift (.load arg8 (Rect.unit (s := S2x2x128x512) (slot p j) S1x1x128x512.size (slot_inb512 p j)).toLoadRect (View.loadsAt_vmem h_S1x1x128x512))
  Prog.lift (.store arg8 (Rect.unit (s := S2x2x128x512) (slot p j) S1x1x128x512.size (slot_inb512 p j)) (expOut s) Finset.univ
    (View.stores_vmem h_S1x1x128x512 (harg8.storeExact_slice rfl _ (slot_packed p j)) (fun _ => rfl)) (.inl rfl))
  let _y : Vec F S1x1x128x128 .f32 ← Prog.lift (.load arg9 (Rect.unit (s := S2x2x128x128) (slot p j) S1x1x128x128.size (slot_inb128 p j)).toLoadRect (View.loadsAt_vmem h_S1x1x128x128))
  Prog.lift (.store arg9 (Rect.unit (s := S2x2x128x128) (slot p j) S1x1x128x128.size (slot_inb128 p j)) (recOut s) Finset.univ
    (View.stores_vmem_bits_univ h_S1x1x128x128 rfl) (.inl rfl))

/-- A row of the result, from a slot. -/
def valuesP (p j : Fin 2) (ok oo : Fin 3 → ℕ) (hk : ∀ a, ok a + S1x512x128.size a ≤ S1x8192x128.size a)
    (ho : ∀ a, oo a + S1x64x128.size a ≤ S1x8192x128.size a)
    (hp : (Rect.unit (s := S1x8192x128) oo S1x64x128.size ho).PackedRows (EltTy.packing .bf16)) : Prog (TpuEff nD τ sig (Elt F) Λ₀ .tc) PUnit := do
  let v : Vec F S1x512x128 .bf16 ← Prog.lift (.load arg4 (Rect.unit (s := S1x8192x128) ok S1x512x128.size hk).toLoadRect (View.loadsAt_vmem h_S1x512x128))
  let e : Vec F S1x1x128x512 .bf16 ← Prog.lift (.load arg8 (Rect.unit (s := S2x2x128x512) (slot p j) S1x1x128x512.size (slot_inb512 p j)).toLoadRect (View.loadsAt_vmem h_S1x1x128x512))
  let l : Vec F S1x1x128x128 .f32 ← Prog.lift (.load arg9 (Rect.unit (s := S2x2x128x128) (slot p j) S1x1x128x128.size (slot_inb128 p j)).toLoadRect (View.loadsAt_vmem h_S1x1x128x128))
  let _x : Vec F S1x64x128 .bf16 ← Prog.lift (.load arg6 (Rect.unit (s := S1x8192x128) oo S1x64x128.size ho).toLoadRect (View.loadsAt_vmem h_S1x64x128))
  Prog.lift (.store arg6 (Rect.unit (s := S1x8192x128) oo S1x64x128.size ho) (valuesV v e l) Finset.univ
    (View.stores_vmem h_S1x64x128 (harg6.storeExact_slice rfl _ hp) (fun _ => rfl)) (.inl rfl))

/-! ## The body as the list of its phases -/

/-- Offsets of a row in the queries and the result. -/
def rowOff (r : ℕ) : Fin 3 → ℕ := ![0, 64 * r, 0]

theorem rowOff_inb (r : Fin 128) : ∀ a, rowOff r.val a + S1x64x128.size a ≤ S1x8192x128.size a := by
  have := r.isLt
  intro a; fin_cases a <;> simp [rowOff] <;> omega

/-- The offsets of the keys (and values) of a row: eight rows, shifted so that they stay in the picture. -/
def keyOff (r : ℕ) : Fin 3 → ℕ := ![0, 64 * (min (r - 4) 120), 0]

/-- The offsets of the four strips of a row's bias. -/
def biasOff (b : ℕ) (r : Fin 4) : Fin 4 → ℕ := ![0, b + 2 * r.val, 0, 0]

theorem biasOff_inb (b : ℕ) (hb : b ≤ 7) : ∀ r a, biasOff b r a + S1x1x128x128.size a ≤ S1x14x128x128.size a := by
  intro r a; fin_cases r <;> fin_cases a <;> simp [biasOff] <;> omega

/-- The scores of one of the first four rows. -/
abbrev scores0 (r : Fin 128) (p j : Fin 2) (b : ℕ) (hb : b ≤ 7) (hk : ∀ a, (![0, 0, 0] : Fin 3 → ℕ) a + S1x512x128.size a ≤ S1x8192x128.size a) : Prog (TpuEff nD τ sig (Elt F) Λ₀ .tc) PUnit :=
  scoresP arg2 arg3 arg5 arg7 p j (rowOff r.val) ![0, 0, 0] (biasOff b) (rowOff_inb r) hk (biasOff_inb b hb)

/-- One tick of the steady state. -/
def tick (i : Fin 62) : List (Prog (TpuEff nD τ sig (Elt F) Λ₀ .tc) PUnit) :=
  let half (j : Fin 2) : List (Prog (TpuEff nD τ sig (Elt F) Λ₀ .tc) PUnit) :=
    [valuesP arg4 arg6 harg6 arg8 arg9 ⟨i.val % 2, Nat.mod_lt _ (by decide)⟩ j (k0_off1 (BitVec.ofNat 32 i.val) (BitVec.ofNat 32 j.val)) (k0_off2 (BitVec.ofNat 32 i.val) (BitVec.ofNat 32 j.val))
       (k0_off1_inb i j) (k0_off2_inb i j) (k0_off2_packedbf16 i j),
     scoresP arg2 arg3 arg5 arg7 ⟨i.val % 2, Nat.mod_lt _ (by decide)⟩ j (k0_off3 (BitVec.ofNat 32 i.val) (BitVec.ofNat 32 j.val)) (k0_off4 (BitVec.ofNat 32 i.val) (BitVec.ofNat 32 j.val))
       (fun r => k0_off5 (BitVec.ofNat 32 i.val) (BitVec.ofNat 32 j.val) (BitVec.ofNat 32 (2 * r.val))) (k0_off3_inb i j) (k0_off4_inb i j) (k0_off5_inb i j),
     softmaxP arg7 arg8 harg8 arg9 ⟨(i.val + 1) % 2, Nat.mod_lt _ (by decide)⟩ j]
  half 0 ++ half 1

/-- The last `n` ticks of the steady state. -/
def ticks : ℕ → List (Prog (TpuEff nD τ sig (Elt F) Λ₀ .tc) PUnit)
  | 0 => []
  | n + 1 => tick arg2 arg3 arg4 arg5 arg6 harg6 arg7 arg8 harg8 arg9 ⟨61 - n, by omega⟩ ++ ticks n

end Cert.KernelIdeal
end
-- ==== Proof.Na.Body.lean ====
module

public import proofs.«01_k».proof.Proof.Na.Phases

/-! # The body is the list of its phases -/

@[expose] public section

set_option maxRecDepth 16384
set_option synthInstance.maxSize 4096

noncomputable section

namespace Cert.KernelIdeal

open Idealize.ShloMosaic Idealize.SL.Sem
open Idealize.ShloMosaic.RefSig (ofTc tcTables tileCredit tileCredit_eq_zero tileCredit_pos)

variable {F : FTy → Type} [FloatOps F]
variable [Facts]
open Facts₀ Facts

variable (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x14x128x128 .f32) (harg5 : arg5.IsWhole) (arg6 : Memref sig .tc .vmem S1x8192x128 .bf16) (harg6 : arg6.IsWhole) (arg7 : Memref sig .tc .vmem S2x2x128x512 .f32) (harg7 : arg7.IsWhole) (arg8 : Memref sig .tc .vmem S2x2x128x512 .bf16) (harg8 : arg8.IsWhole) (arg9 : Memref sig .tc .vmem S2x2x128x128 .f32) (harg9 : arg9.IsWhole)

/-- The first two ticks: the scores of rows 0 to 3 and the softmax of rows 0 and 1. -/
def prologue : List (Prog (TpuEff nD τ sig (Elt F) Λ₀ .tc) PUnit) :=
  [scores0 arg2 arg3 arg5 arg7 0 0 0 7 (by decide) inb_S1x8192x128_S1x512x128_0_0_0,
   scores0 arg2 arg3 arg5 arg7 1 0 1 6 (by decide) inb_S1x8192x128_S1x512x128_0_0_0,
   scores0 arg2 arg3 arg5 arg7 2 1 0 5 (by decide) inb_S1x8192x128_S1x512x128_0_0_0,
   softmaxP arg7 arg8 harg8 arg9 0 0,
   scores0 arg2 arg3 arg5 arg7 3 1 1 4 (by decide) inb_S1x8192x128_S1x512x128_0_0_0,
   softmaxP arg7 arg8 harg8 arg9 0 1]

/-- The last two ticks: the softmax of rows 126 and 127 and the values of rows 124 to 127. -/
def epilogue : List (Prog (TpuEff nD τ sig (Elt F) Λ₀ .tc) PUnit) :=
  [valuesP arg4 arg6 harg6 arg8 arg9 0 0 ![0, 7680, 0] ![0, 7936, 0] inb_S1x8192x128_S1x512x128_0_7680_0 inb_S1x8192x128_S1x64x128_0_7936_0 packedbf16_S1x8192x128_S1x64x128_0_7936_0,
   softmaxP arg7 arg8 harg8 arg9 1 0,
   valuesP arg4 arg6 harg6 arg8 arg9 0 1 ![0, 7680, 0] ![0, 8000, 0] inb_S1x8192x128_S1x512x128_0_7680_0 inb_S1x8192x128_S1x64x128_0_8000_0 packedbf16_S1x8192x128_S1x64x128_0_8000_0,
   softmaxP arg7 arg8 harg8 arg9 1 1,
   valuesP arg4 arg6 harg6 arg8 arg9 1 0 ![0, 7680, 0] ![0, 8064, 0] inb_S1x8192x128_S1x512x128_0_7680_0 inb_S1x8192x128_S1x64x128_0_8064_0 packedbf16_S1x8192x128_S1x64x128_0_8064_0,
   valuesP arg4 arg6 harg6 arg8 arg9 1 1 ![0, 7680, 0] ![0, 8128, 0] inb_S1x8192x128_S1x512x128_0_7680_0 inb_S1x8192x128_S1x64x128_0_8128_0 packedbf16_S1x8192x128_S1x64x128_0_8128_0]

set_option maxHeartbeats 4000000 in
/-- The body is the chain of its phases, in the kernel's order. -/
theorem body_eq (i : grid0.Coords) :
    cc0_na_attention (F := F) i arg2 harg2 arg3 harg3 arg4 harg4 arg5 harg5 arg6 harg6 arg7 harg7 arg8 harg8 arg9 harg9
      = Pipeline.chain (prologue arg2 arg3 arg5 arg7 arg8 harg8 arg9
          ++ (ticks arg2 arg3 arg4 arg5 arg6 harg6 arg7 arg8 harg8 arg9 62 ++ epilogue arg4 arg6 harg6 arg7 arg8 harg8 arg9)) := by
  chain_rfl

end Cert.KernelIdeal
end
-- ==== Proof.Na.Triples.lean ====
module

public import proofs.«01_k».proof.Proof.Na.Body
public import proofs.«01_k».proof.Proof.Gen.KernelIdeal.Frame
public import Idealize.ShloMosaic.Lib.VecWindow

/-!
# What each phase does

The four buffers the body writes (the result and the three scratch buffers) are followed as one state; each phase is
a function on it.
-/

@[expose] public section

set_option maxRecDepth 16384

noncomputable section

namespace Cert.KernelIdeal.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body has read only: queries, keys, values and bias. -/
structure Ins (F : FTy → Type) where
  q : Vec F S1x8192x128 .bf16
  k : Vec F S1x8192x128 .bf16
  v : Vec F S1x8192x128 .bf16
  b : Vec F S1x14x128x128 .f32

/-- What the body writes: the result, the scores, the exponentials and the reciprocals. -/
structure St (F : FTy → Type) where
  o : Vec F S1x8192x128 .bf16
  s : Vec F S2x2x128x512 .f32
  e : Vec F S2x2x128x512 .bf16
  l : Vec F S2x2x128x128 .f32

/-- The memrefs of one program. -/
structure Refs where
  arg2 : Memref sig .tc .vmem S1x8192x128 .bf16
  harg2 : arg2.IsWhole
  arg3 : Memref sig .tc .vmem S1x8192x128 .bf16
  harg3 : arg3.IsWhole
  arg4 : Memref sig .tc .vmem S1x8192x128 .bf16
  harg4 : arg4.IsWhole
  arg5 : Memref sig .tc .vmem S1x14x128x128 .f32
  harg5 : arg5.IsWhole
  arg6 : Memref sig .tc .vmem S1x8192x128 .bf16
  harg6 : arg6.IsWhole
  arg7 : Memref sig .tc .vmem S2x2x128x512 .f32
  harg7 : arg7.IsWhole
  arg8 : Memref sig .tc .vmem S2x2x128x512 .bf16
  harg8 : arg8.IsWhole
  arg9 : Memref sig .tc .vmem S2x2x128x128 .f32
  harg9 : arg9.IsWhole

/-- The program's buffers at given contents. -/
def held (c : Dev nD) (A : Refs) (x : Ins F) (st : St F) : sProp 𝕄 :=
  iprop(owns (c : Thread nD τ) A.arg2 fullShare x.q ∗ owns (c : Thread nD τ) A.arg3 fullShare x.k ∗ owns (c : Thread nD τ) A.arg4 fullShare x.v
    ∗ owns (c : Thread nD τ) A.arg5 fullShare x.b ∗ owns (c : Thread nD τ) A.arg6 fullShare st.o ∗ owns (c : Thread nD τ) A.arg7 fullShare st.s
    ∗ owns (c : Thread nD τ) A.arg8 fullShare st.e ∗ owns (c : Thread nD τ) A.arg9 fullShare st.l)

/-- The program `P` takes the state `st` to `f st`, whatever it is. -/
def Does (c : Dev nD) (A : Refs) (x : Ins F) (P : Prog (TpuEff nD τ sig (Elt F) Λ₀ .tc) PUnit) (f : St F → St F) : Prop :=
  ∀ (st : St F) (E : Set ℕ) (K : PUnit → sProp 𝕄),
    iprop(held c A x st ∗ (held c A x (f st) -∗ K ⟨⟩)) ⊢ wp frame (wpE (defs₀ (F := F)) Variants.none c none) E P K

/-! ## The phases on the state -/

/-- Scores into a slot. -/
def scoresF (x : Ins F) (p j : Fin 2) (oq ok : Fin 3 → ℕ) (ob : Fin 4 → Fin 4 → ℕ)
    (hq : ∀ a, oq a + S1x64x128.size a ≤ S1x8192x128.size a) (hk : ∀ a, ok a + S1x512x128.size a ≤ S1x8192x128.size a)
    (hb : ∀ r a, ob r a + S1x1x128x128.size a ≤ S1x14x128x128.size a) (st : St F) : St F :=
  { st with
    s := VecWindow.put st.s (slot p j) S1x1x128x512.size
      (scoresV (VecWindow.window x.q oq S1x64x128.size hq) (VecWindow.window x.k ok S1x512x128.size hk)
        (fun r => VecWindow.window x.b (ob r) S1x1x128x128.size (hb r))) }

/-- The softmax of a slot. -/
def softmaxF (p j : Fin 2) (st : St F) : St F :=
  { st with
    e := VecWindow.put st.e (slot p j) S1x1x128x512.size (expOut (VecWindow.window st.s (slot p j) S1x1x128x512.size (slot_inb512 p j)))
    l := VecWindow.put st.l (slot p j) S1x1x128x128.size (recOut (VecWindow.window st.s (slot p j) S1x1x128x512.size (slot_inb512 p j))) }

/-- A row of the result from a slot. -/
def valuesF (x : Ins F) (p j : Fin 2) (ok oo : Fin 3 → ℕ) (hk : ∀ a, ok a + S1x512x128.size a ≤ S1x8192x128.size a) (st : St F) : St F :=
  { st with
    o := VecWindow.put st.o oo S1x64x128.size
      (valuesV (VecWindow.window x.v ok S1x512x128.size hk) (VecWindow.window st.e (slot p j) S1x1x128x512.size (slot_inb512 p j))
        (VecWindow.window st.l (slot p j) S1x1x128x128.size (slot_inb128 p j))) }

/-- What is read after one unmasked store is the payload put over what was read before. -/
theorem read_writes_put {s : Shape} {e : EltTy} {sp : Space} (m : Memref sig .tc sp s e) (f : m.view.ty.Contents (Elt F)) (y : s.Idx → Elt F e)
    (hf : m.view.read (Elt F) f = y) {off size : Fin s.rank → ℕ} (inb : ∀ a, off a + size a ≤ s.size a) (w : (Rect.unit off size inb).shape.Idx → Elt F e) :
    m.view.read (Elt F) (m.view.writes (Elt F) f [⟨Rect.unit off size inb, w⟩]) = VecWindow.put y off size w := by
  subst hf
  exact View.read_writes_cons_put m.view f inb w [] rfl

/-- A family over four indices is the list of its members. -/
theorem eta4 {α : Type} (b : Fin 4 → α) : ![b 0, b 1, b 2, b 3] = b := by funext r; fin_cases r <;> rfl

/-- The scores phase does what it says. -/
theorem scores_does (c : Dev nD) (A : Refs) (x : Ins F) (p j : Fin 2) (oq ok : Fin 3 → ℕ) (ob : Fin 4 → Fin 4 → ℕ)
    (hq : ∀ a, oq a + S1x64x128.size a ≤ S1x8192x128.size a) (hk : ∀ a, ok a + S1x512x128.size a ≤ S1x8192x128.size a)
    (hb : ∀ r a, ob r a + S1x1x128x128.size a ≤ S1x14x128x128.size a) :
    Does c A x (scoresP A.arg2 A.arg3 A.arg5 A.arg7 p j oq ok ob hq hk hb) (scoresF x p j oq ok ob hq hk hb) := by
  intro st E K
  unfold scoresP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    rw [read_writes_put A.arg7 f5 st.s h5]
    show _ = (scoresF x p j oq ok ob hq hk hb st).s
    unfold scoresF
    rw [← h0, ← h1, ← h3]
    exact congrArg (fun b => VecWindow.put st.s (slot p j) S1x1x128x512.size (scoresV _ _ b))
      (eta4 (α := Vec F S1x1x128x128 .f32) fun r => VecWindow.window (View.read (Elt F) A.arg5.view f3) (ob r) S1x1x128x128.size (hb r))
  isplitl [H6]
  · iexists _; isplitr; swap; · iexact H6
    ipureintro
    exact h6
  iexists _; isplitr; swap; · iexact H7
  ipureintro
  exact h7

/-- The softmax phase does what it says. -/
theorem softmax_does (c : Dev nD) (A : Refs) (x : Ins F) (p j : Fin 2) :
    Does c A x (softmaxP A.arg7 A.arg8 A.harg8 A.arg9 p j) (softmaxF p j) := by
  intro st E K
  unfold softmaxP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    rw [read_writes_put A.arg8 f6 st.e h6]
    unfold softmaxF
    rw [← h5]
    rfl
  iexists _; isplitr; swap; · iexact H7
  ipureintro
  rw [read_writes_put A.arg9 f7 st.l h7]
  unfold softmaxF
  rw [← h5]
  rfl

/-- The values phase does what it says. -/
theorem values_does (c : Dev nD) (A : Refs) (x : Ins F) (p j : Fin 2) (ok oo : Fin 3 → ℕ) (hk : ∀ a, ok a + S1x512x128.size a ≤ S1x8192x128.size a)
    (ho : ∀ a, oo a + S1x64x128.size a ≤ S1x8192x128.size a)
    (hp : (Rect.unit (s := S1x8192x128) oo S1x64x128.size ho).PackedRows (EltTy.packing .bf16)) :
    Does c A x (valuesP A.arg4 A.arg6 A.harg6 A.arg8 A.arg9 p j ok oo hk ho hp) (valuesF x p j ok oo hk) := by
  intro st E K
  unfold valuesP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    rw [read_writes_put A.arg6 f4 st.o h4]
    unfold valuesF
    rw [← h2, ← h6, ← h7]
    rfl
  isplitl [H5]
  · iexists _; isplitr; swap; · iexact H5
    ipureintro
    exact h5
  isplitl [H6]
  · iexists _; isplitr; swap; · iexact H6
    ipureintro
    exact h6
  iexists _; isplitr; swap; · iexact H7
  ipureintro
  exact h7

/-- A list of programs, each with what it does, does these one after the other. -/
theorem chain_does (c : Dev nD) (A : Refs) (x : Ins F) {Ps : List (Prog (TpuEff nD τ sig (Elt F) Λ₀ .tc) PUnit)} {fs : List (St F → St F)}
    (h : List.Forall₂ (Does c A x) Ps fs) : Does c A x (Pipeline.chain Ps) (fun st => fs.foldl (fun st f => f st) st) := by
  induction h with
  | nil =>
    intro st E K
    rw [Pipeline.chain_nil]
    iintro ⟨H, Hk⟩
    sl_step
    iapply Hk
    iexact H
  | cons hd _ ih =>
    intro st E K
    rw [Pipeline.chain_cons, wp_bind]
    iintro ⟨H, Hk⟩
    iapply (hd st E _)
    isplitl [H]; · iexact H
    iintro H
    iapply (ih _ E K)
    isplitl [H]; · iexact H
    iexact Hk

end Cert.KernelIdeal.Na
end
-- ==== Proof.Na.Rows.lean ====
module

public import proofs.«01_k».proof.Proof.Na.Triples
public import Idealize.ShloMosaic.Lib.ValueIdxCore

/-!
# Row by row

The phases named by the row they treat (the offsets are computed by the program; `off1_eq` to `off5_eq` give their
closed forms), and what the body leaves in the result: row `r` is `rowVal x r`, a function of the inputs alone.
-/

@[expose] public section

set_option maxRecDepth 16384

noncomputable section

namespace Cert.KernelIdeal.Na

open Cert.KernelIdeal Cert.KernelIdeal.Gen
open Idealize.ShloMosaic Idealize.ShloMosaic.TcCoe Idealize.SL.Sem Idealize.ShloMosaic.ValueIdx

variable {F : FTy → Type} [FloatOps F]

/-! ## The offsets -/

/-- Of the fifteen displacements of the bias table, where the strips of a row start. -/
def shift (r : ℕ) : ℕ := 7 + min (r - 4) 120 - r

theorem shift_le (r : ℕ) : shift r ≤ 7 := by unfold shift; omega

theorem keyOff_inb (r : ℕ) : ∀ a, keyOff r a + S1x512x128.size a ≤ S1x8192x128.size a := by
  intro a; fin_cases a <;> simp [keyOff]; omega

theorem off1_eq : ∀ (i : Fin 62) (j : Fin 2), k0_off1 (BitVec.ofNat 32 i.val) (BitVec.ofNat 32 j.val) = keyOff (2 * i.val + j.val) := by decide +kernel
theorem off2_eq : ∀ (i : Fin 62) (j : Fin 2), k0_off2 (BitVec.ofNat 32 i.val) (BitVec.ofNat 32 j.val) = rowOff (2 * i.val + j.val) := by decide +kernel
theorem off3_eq : ∀ (i : Fin 62) (j : Fin 2), k0_off3 (BitVec.ofNat 32 i.val) (BitVec.ofNat 32 j.val) = rowOff (2 * i.val + 4 + j.val) := by decide +kernel
theorem off4_eq : ∀ (i : Fin 62) (j : Fin 2), k0_off4 (BitVec.ofNat 32 i.val) (BitVec.ofNat 32 j.val) = keyOff (2 * i.val + 4 + j.val) := by decide +kernel
theorem off5_eq : ∀ (i : Fin 62) (j : Fin 2) (r : Fin 4), k0_off5 (BitVec.ofNat 32 i.val) (BitVec.ofNat 32 j.val) (BitVec.ofNat 32 (2 * r.val))
    = biasOff (shift (2 * i.val + 4 + j.val)) r := by decide +kernel

/-! ## The phases of a row -/

/-- The parity of a row's tick. -/
def par (r : ℕ) : Fin 2 := ⟨r / 2 % 2, Nat.mod_lt _ (by decide)⟩
/-- The row within its tick. -/
def side (r : ℕ) : Fin 2 := ⟨r % 2, Nat.mod_lt _ (by decide)⟩

/-- The scores of row `r`. -/
def rowScores (x : Ins F) (r : Fin 128) : Vec F S1x1x128x512 .f32 :=
  scoresV (VecWindow.window x.q (rowOff r.val) S1x64x128.size (rowOff_inb r)) (VecWindow.window x.k (keyOff r.val) S1x512x128.size (keyOff_inb r.val))
    (fun n => VecWindow.window x.b (biasOff (shift r.val) n) S1x1x128x128.size (biasOff_inb (shift r.val) (shift_le r.val) n))

/-- Row `r` of the result. -/
def rowVal (x : Ins F) (r : Fin 128) : Vec F S1x64x128 .bf16 :=
  valuesV (VecWindow.window x.v (keyOff r.val) S1x512x128.size (keyOff_inb r.val)) (expOut (rowScores x r)) (recOut (rowScores x r))

/-- The scores phase of row `r` on the state, -/
def sF (x : Ins F) (r : Fin 128) : St F → St F :=
  scoresF x (par r.val) (side r.val) (rowOff r.val) (keyOff r.val) (biasOff (shift r.val)) (rowOff_inb r) (keyOff_inb r.val) (biasOff_inb (shift r.val) (shift_le r.val))
/-- its softmax phase, -/
def mF (r : Fin 128) : St F → St F := softmaxF (par r.val) (side r.val)
/-- and its values phase. -/
def vF (x : Ins F) (r : Fin 128) : St F → St F := valuesF x (par r.val) (side r.val) (keyOff r.val) (rowOff r.val) (keyOff_inb r.val)

theorem s_does (c : Dev nD) (A : Refs) (x : Ins F) (r : Fin 128) (p j : Fin 2) (oq ok : Fin 3 → ℕ) (ob : Fin 4 → Fin 4 → ℕ)
    (hq : ∀ a, oq a + S1x64x128.size a ≤ S1x8192x128.size a) (hk : ∀ a, ok a + S1x512x128.size a ≤ S1x8192x128.size a)
    (hb : ∀ r a, ob r a + S1x1x128x128.size a ≤ S1x14x128x128.size a)
    (ep : p = par r.val) (ej : j = side r.val) (eq : oq = rowOff r.val) (ek : ok = keyOff r.val) (eb : ob = biasOff (shift r.val)) :
    Does c A x (scoresP A.arg2 A.arg3 A.arg5 A.arg7 p j oq ok ob hq hk hb) (sF x r) := by
  subst ep ej eq ek eb; exact scores_does c A x _ _ _ _ _ _ _ _

theorem m_does (c : Dev nD) (A : Refs) (x : Ins F) (r : Fin 128) (p j : Fin 2) (ep : p = par r.val) (ej : j = side r.val) :
    Does c A x (softmaxP A.arg7 A.arg8 A.harg8 A.arg9 p j) (mF r) := by
  subst ep ej; exact softmax_does c A x _ _

theorem v_does (c : Dev nD) (A : Refs) (x : Ins F) (r : Fin 128) (p j : Fin 2) (ok oo : Fin 3 → ℕ) (hk : ∀ a, ok a + S1x512x128.size a ≤ S1x8192x128.size a)
    (ho : ∀ a, oo a + S1x64x128.size a ≤ S1x8192x128.size a)
    (hp : (Rect.unit (s := S1x8192x128) oo S1x64x128.size ho).PackedRows (EltTy.packing .bf16))
    (ep : p = par r.val) (ej : j = side r.val) (ek : ok = keyOff r.val) (eo : oo = rowOff r.val) :
    Does c A x (valuesP A.arg4 A.arg6 A.harg6 A.arg8 A.arg9 p j ok oo hk ho hp) (vF x r) := by
  subst ep ej ek eo; exact values_does c A x _ _ _ _ _ _ _

/-- The first two ticks on the state, -/
def proF (x : Ins F) : List (St F → St F) := [sF x 0, sF x 1, sF x 2, mF 0, sF x 3, mF 1]

/-- a tick of the steady state, -/
def tickF (x : Ins F) (i : Fin 62) : List (St F → St F) :=
  [vF x ⟨2 * i.val, by omega⟩, sF x ⟨2 * i.val + 4, by omega⟩, mF ⟨2 * i.val + 2, by omega⟩,
   vF x ⟨2 * i.val + 1, by omega⟩, sF x ⟨2 * i.val + 5, by omega⟩, mF ⟨2 * i.val + 3, by omega⟩]

/-- the last `n` of these, -/
def ticksF (x : Ins F) : ℕ → List (St F → St F)
  | 0 => []
  | n + 1 => tickF x ⟨61 - n, by omega⟩ ++ ticksF x n

/-- and the last two ticks. -/
def epiF (x : Ins F) : List (St F → St F) := [vF x 124, mF 126, vF x 125, mF 127, vF x 126, vF x 127]

theorem pro_does (c : Dev nD) (A : Refs) (x : Ins F) :
    List.Forall₂ (Does c A x) (prologue A.arg2 A.arg3 A.arg5 A.arg7 A.arg8 A.harg8 A.arg9) (proF x) := by
  unfold prologue proF
  refine .cons ?_ (.cons ?_ (.cons ?_ (.cons ?_ (.cons ?_ (.cons ?_ .nil)))))
  · exact s_does c A x 0 _ _ _ _ _ _ _ _ (by decide) (by decide) rfl (by decide) (by decide)
  · exact s_does c A x 1 _ _ _ _ _ _ _ _ (by decide) (by decide) rfl (by decide) (by decide)
  · exact s_does c A x 2 _ _ _ _ _ _ _ _ (by decide) (by decide) rfl (by decide) (by decide)
  · exact m_does c A x 0 _ _ (by decide) (by decide)
  · exact s_does c A x 3 _ _ _ _ _ _ _ _ (by decide) (by decide) rfl (by decide) (by decide)
  · exact m_does c A x 1 _ _ (by decide) (by decide)

theorem tick_does (c : Dev nD) (A : Refs) (x : Ins F) (i : Fin 62) :
    List.Forall₂ (Does c A x) (tick A.arg2 A.arg3 A.arg4 A.arg5 A.arg6 A.harg6 A.arg7 A.arg8 A.harg8 A.arg9 i) (tickF x i) := by
  unfold tick tickF
  refine .cons ?_ (.cons ?_ (.cons ?_ (.cons ?_ (.cons ?_ (.cons ?_ .nil)))))
  · exact v_does c A x ⟨2 * i.val, by omega⟩ _ _ _ _ _ _ _ (Fin.ext (by simp only [par]; omega)) (Fin.ext (by simp [side])) (off1_eq i 0) (off2_eq i 0)
  · exact s_does c A x ⟨2 * i.val + 4, by omega⟩ _ _ _ _ _ _ _ _ (Fin.ext (by simp only [par]; omega)) (Fin.ext (by simp only [side]; omega)) (off3_eq i 0) (off4_eq i 0)
      (funext fun r => off5_eq i 0 r)
  · exact m_does c A x ⟨2 * i.val + 2, by omega⟩ _ _ (Fin.ext (by simp only [par]; omega)) (Fin.ext (by simp only [side]; omega))
  · exact v_does c A x ⟨2 * i.val + 1, by omega⟩ _ _ _ _ _ _ _ (Fin.ext (by simp only [par]; omega)) (Fin.ext (by simp only [side]; omega)) (off1_eq i 1) (off2_eq i 1)
  · exact s_does c A x ⟨2 * i.val + 5, by omega⟩ _ _ _ _ _ _ _ _ (Fin.ext (by simp only [par]; omega)) (Fin.ext (by simp only [side]; omega)) (off3_eq i 1) (off4_eq i 1)
      (funext fun r => off5_eq i 1 r)
  · exact m_does c A x ⟨2 * i.val + 3, by omega⟩ _ _ (Fin.ext (by simp only [par]; omega)) (Fin.ext (by simp only [side]; omega))

theorem ticks_does (c : Dev nD) (A : Refs) (x : Ins F) (n : ℕ) :
    List.Forall₂ (Does c A x) (ticks A.arg2 A.arg3 A.arg4 A.arg5 A.arg6 A.harg6 A.arg7 A.arg8 A.harg8 A.arg9 n) (ticksF x n) := by
  induction n with
  | zero => exact .nil
  | succ n ih => exact List.rel_append (tick_does c A x _) ih

theorem epi_does (c : Dev nD) (A : Refs) (x : Ins F) :
    List.Forall₂ (Does c A x) (epilogue A.arg4 A.arg6 A.harg6 A.arg7 A.arg8 A.harg8 A.arg9) (epiF x) := by
  unfold epilogue epiF
  refine .cons ?_ (.cons ?_ (.cons ?_ (.cons ?_ (.cons ?_ (.cons ?_ .nil)))))
  · exact v_does c A x 124 _ _ _ _ _ _ _ (by decide) (by decide) (by decide) (by decide)
  · exact m_does c A x 126 _ _ (by decide) (by decide)
  · exact v_does c A x 125 _ _ _ _ _ _ _ (by decide) (by decide) (by decide) (by decide)
  · exact m_does c A x 127 _ _ (by decide) (by decide)
  · exact v_does c A x 126 _ _ _ _ _ _ _ (by decide) (by decide) (by decide) (by decide)
  · exact v_does c A x 127 _ _ _ _ _ _ _ (by decide) (by decide) (by decide) (by decide)

/-- The body on the state. -/
def bodyF (x : Ins F) (st : St F) : St F := (proF x ++ (ticksF x 62 ++ epiF x)).foldl (fun st f => f st) st

theorem body_does (c : Dev nD) (A : Refs) (x : Ins F) (i : grid0.Coords) :
    Does c A x (cc0_na_attention (F := F) i A.arg2 A.harg2 A.arg3 A.harg3 A.arg4 A.harg4 A.arg5 A.harg5 A.arg6 A.harg6 A.arg7 A.harg7 A.arg8 A.harg8 A.arg9 A.harg9) (bodyF x) := by
  rw [body_eq]
  exact chain_does c A x (List.rel_append (pro_does c A x) (List.rel_append (ticks_does c A x 62) (epi_does c A x)))

/-! ## What the result holds at the end -/

/-- The slot of row `r` holds its scores, -/
def HasS (x : Ins F) (r : Fin 128) (st : St F) : Prop :=
  VecWindow.window st.s (slot (par r.val) (side r.val)) S1x1x128x512.size (slot_inb512 _ _) = rowScores x r
/-- its exponentials and reciprocals, -/
def HasE (x : Ins F) (r : Fin 128) (st : St F) : Prop :=
  VecWindow.window st.e (slot (par r.val) (side r.val)) S1x1x128x512.size (slot_inb512 _ _) = expOut (rowScores x r)
  ∧ VecWindow.window st.l (slot (par r.val) (side r.val)) S1x1x128x128.size (slot_inb128 _ _) = recOut (rowScores x r)
/-- and the result its row. -/
def HasO (x : Ins F) (r : Fin 128) (st : St F) : Prop :=
  VecWindow.window st.o (rowOff r.val) S1x64x128.size (rowOff_inb r) = rowVal x r

/-- Two rows of different slots. -/
def Apart (r r' : Fin 128) : Prop := par r.val ≠ par r'.val ∨ side r.val ≠ side r'.val

/-- A window of a slot is untouched by a put into another slot. -/
theorem window_apart {α : Type} {s : Shape} (hs : s.rank = 4) (y : s.Idx → α) (off off' size : Fin s.rank → ℕ) (inb : ∀ a, off' a + size a ≤ s.size a)
    (w : ((a : Fin s.rank) → Fin (size a)) → α) (a : Fin s.rank) (h1 : size a = 1) (h : off' a ≠ off a) :
    VecWindow.window (VecWindow.put y off size w) off' size inb = VecWindow.window y off' size inb :=
  VecWindow.window_put_of_disjoint y off size off' size inb w a (by omega)

theorem apart_window512 {e : EltTy} (y : Vec F S2x2x128x512 e) (r r' : Fin 128) (h : Apart r r') (w : Vec F S1x1x128x512 e) :
    VecWindow.window (VecWindow.put y (slot (par r.val) (side r.val)) S1x1x128x512.size w) (slot (par r'.val) (side r'.val)) S1x1x128x512.size (slot_inb512 _ _)
      = VecWindow.window y (slot (par r'.val) (side r'.val)) S1x1x128x512.size (slot_inb512 _ _) := by
  rcases h with h | h
  · exact window_apart (s := S2x2x128x512) rfl y _ _ _ (slot_inb512 _ _) w 0 rfl (fun e => h (Fin.ext e.symm))
  · exact window_apart (s := S2x2x128x512) rfl y _ _ _ (slot_inb512 _ _) w 1 rfl (fun e => h (Fin.ext e.symm))

theorem apart_window128 {e : EltTy} (y : Vec F S2x2x128x128 e) (r r' : Fin 128) (h : Apart r r') (w : Vec F S1x1x128x128 e) :
    VecWindow.window (VecWindow.put y (slot (par r.val) (side r.val)) S1x1x128x128.size w) (slot (par r'.val) (side r'.val)) S1x1x128x128.size (slot_inb128 _ _)
      = VecWindow.window y (slot (par r'.val) (side r'.val)) S1x1x128x128.size (slot_inb128 _ _) := by
  rcases h with h | h
  · exact window_apart (s := S2x2x128x128) rfl y _ _ _ (slot_inb128 _ _) w 0 rfl (fun e => h (Fin.ext e.symm))
  · exact window_apart (s := S2x2x128x128) rfl y _ _ _ (slot_inb128 _ _) w 1 rfl (fun e => h (Fin.ext e.symm))

variable {x : Ins F} {st : St F} {r r' : Fin 128}

theorem sF_same : HasS x r (sF x r st) := VecWindow.window_put_same (s := S2x2x128x512) _ _ _ _ _
theorem sF_S (h : HasS x r' st) (a : Apart r r') : HasS x r' (sF x r st) := (apart_window512 st.s r r' a _).trans h
theorem sF_E (h : HasE x r' st) : HasE x r' (sF x r st) := h
theorem sF_O (h : HasO x r' st) : HasO x r' (sF x r st) := h

theorem mF_same (h : HasS x r st) : HasE x r (mF r st) :=
  ⟨(VecWindow.window_put_same (s := S2x2x128x512) st.e (slot (par r.val) (side r.val)) S1x1x128x512.size (slot_inb512 _ _) (expOut _)).trans (congrArg expOut h),
   (VecWindow.window_put_same (s := S2x2x128x128) st.l (slot (par r.val) (side r.val)) S1x1x128x128.size (slot_inb128 _ _) (recOut _)).trans (congrArg recOut h)⟩
theorem mF_S (h : HasS x r' st) : HasS x r' (mF r st) := h
theorem mF_E (h : HasE x r' st) (a : Apart r r') : HasE x r' (mF r st) :=
  ⟨(apart_window512 st.e r r' a _).trans h.1, (apart_window128 st.l r r' a _).trans h.2⟩
theorem mF_O (h : HasO x r' st) : HasO x r' (mF r st) := h

theorem vF_same (h : HasE x r st) : HasO x r (vF x r st) := by
  refine (VecWindow.window_put_same (s := S1x8192x128) st.o (rowOff r.val) S1x64x128.size (rowOff_inb r) (valuesV _ _ _)).trans ?_
  unfold rowVal
  rw [h.1, h.2]
theorem vF_S (h : HasS x r' st) : HasS x r' (vF x r st) := h
theorem vF_E (h : HasE x r' st) : HasE x r' (vF x r st) := h
theorem vF_O (h : HasO x r' st) (e : r ≠ r') : HasO x r' (vF x r st) := by
  refine (VecWindow.window_put_of_disjoint (s := S1x8192x128) st.o (rowOff r.val) S1x64x128.size (rowOff r'.val) S1x64x128.size (rowOff_inb r') (valuesV _ _ _) 1 ?_).trans h
  show 64 * r'.val + 64 ≤ 64 * r.val ∨ 64 * r.val + 64 ≤ 64 * r'.val
  have := Fin.val_ne_of_ne e
  omega

/-- Before tick `i` of the steady state: the rows before `2 i` are in the result, the two rows of the tick have their
    exponentials, and the two rows of the next tick their scores. -/
structure Inv (x : Ins F) (i : ℕ) (hi : i ≤ 62) (st : St F) : Prop where
  o : ∀ r : Fin 128, r.val < 2 * i → HasO x r st
  e0 : HasE x ⟨2 * i, by omega⟩ st
  e1 : HasE x ⟨2 * i + 1, by omega⟩ st
  s0 : HasS x ⟨2 * i + 2, by omega⟩ st
  s1 : HasS x ⟨2 * i + 3, by omega⟩ st

theorem apart_of (r r' : Fin 128) (h : r.val / 2 % 2 ≠ r'.val / 2 % 2 ∨ r.val % 2 ≠ r'.val % 2) : Apart r r' :=
  h.imp (fun h e => h (congrArg Fin.val e)) (fun h e => h (congrArg Fin.val e))

theorem inv_zero (st : St F) : Inv x 0 (by decide) ((proF x).foldl (fun st f => f st) st) := by
  show Inv x 0 _ (mF 1 (sF x 3 (mF 0 (sF x 2 (sF x 1 (sF x 0 st))))))
  refine ⟨fun r hr => absurd hr (by omega), ?_, ?_, ?_, ?_⟩
  · exact mF_E (sF_E (mF_same (sF_S (sF_S sF_same (apart_of 1 0 (by decide))) (apart_of 2 0 (by decide))))) (apart_of 1 0 (by decide))
  · exact mF_same (sF_S (mF_S (sF_S sF_same (apart_of 2 1 (by decide)))) (apart_of 3 1 (by decide)))
  · exact mF_S (sF_S (mF_S sF_same) (apart_of 3 2 (by decide)))
  · exact mF_S sF_same

theorem inv_tick (i : Fin 62) (h : Inv x i.val (by omega) st) : Inv x (i.val + 1) (by omega) ((tickF x i).foldl (fun st f => f st) st) := by
  show Inv x (i.val + 1) _ (mF ⟨2 * i.val + 3, _⟩ (sF x ⟨2 * i.val + 5, _⟩ (vF x ⟨2 * i.val + 1, _⟩ (mF ⟨2 * i.val + 2, _⟩ (sF x ⟨2 * i.val + 4, _⟩ (vF x ⟨2 * i.val, _⟩ st))))))
  refine ⟨fun r hr => ?_, ?_, ?_, ?_, ?_⟩
  · apply mF_O; apply sF_O
    by_cases e1 : r.val = 2 * i.val + 1
    · rw [show r = ⟨2 * i.val + 1, by omega⟩ from Fin.ext e1]
      exact vF_same (mF_E (sF_E (vF_E h.e1)) (apart_of _ _ (by simp only; omega)))
    · refine vF_O (mF_O (sF_O ?_)) (fun e => e1 (congrArg Fin.val e).symm)
      by_cases e0 : r.val = 2 * i.val
      · rw [show r = ⟨2 * i.val, by omega⟩ from Fin.ext e0]
        exact vF_same h.e0
      · exact vF_O (h.o r (by omega)) (fun e => e0 (congrArg Fin.val e).symm)
  · exact mF_E (sF_E (vF_E (mF_same (sF_S (vF_S h.s0) (apart_of _ _ (by simp only; omega)))))) (apart_of _ _ (by simp only; omega))
  · exact mF_same (sF_S (vF_S (mF_S (sF_S (vF_S h.s1) (apart_of _ _ (by simp only; omega))))) (apart_of _ _ (by simp only; omega)))
  · exact mF_S (sF_S (vF_S (mF_S sF_same)) (apart_of _ _ (by simp only; omega)))
  · exact mF_S sF_same

theorem inv_ticks (n : ℕ) (hn : n ≤ 62) : ∀ st : St F, Inv x (62 - n) (by omega) st → Inv x 62 (by decide) ((ticksF x n).foldl (fun st f => f st) st) := by
  induction n with
  | zero => exact fun st h => h
  | succ n ih =>
    intro st h
    show Inv x 62 _ ((tickF x ⟨61 - n, _⟩ ++ ticksF x n).foldl (fun st f => f st) st)
    rw [List.foldl_append]
    refine ih (by omega) _ ?_
    have e : 62 - (n + 1) = 61 - n := by omega
    have e' : 62 - n = 61 - n + 1 := by omega
    have h' : Inv x (61 - n) (by omega) st := by simpa only [e] using h
    have := inv_tick (x := x) ⟨61 - n, by omega⟩ h'
    simpa only [e'] using this

/-- At the end every row is in the result. -/
theorem final_o (st : St F) (r : Fin 128) : HasO x r (bodyF x st) := by
  unfold bodyF
  rw [List.foldl_append, List.foldl_append]
  have h := inv_ticks (x := x) 62 le_rfl _ (inv_zero st)
  revert h
  generalize (ticksF x 62).foldl (fun st f => f st) ((proF x).foldl (fun st f => f st) st) = st
  intro h
  show HasO x r (vF x 127 (vF x 126 (mF 127 (vF x 125 (mF 126 (vF x 124 st))))))
  have e126 : HasE x 126 (mF 126 (vF x 124 st)) := mF_same (vF_S h.s0)
  have e127 : HasE x 127 (mF 127 (vF x 125 (mF 126 (vF x 124 st)))) := mF_same (vF_S (mF_S (vF_S h.s1)))
  have e125 : HasE x 125 (mF 126 (vF x 124 st)) := mF_E (vF_E h.e1) (apart_of 126 125 (by decide))
  by_cases r127 : r = 127
  · subst r127; exact vF_same (vF_E e127)
  refine vF_O ?_ (Ne.symm r127)
  by_cases r126 : r = 126
  · subst r126; exact vF_same (mF_E (vF_E e126) (apart_of 127 126 (by decide)))
  refine vF_O (mF_O ?_) (Ne.symm r126)
  by_cases r125 : r = 125
  · subst r125; exact vF_same e125
  refine vF_O (mF_O ?_) (Ne.symm r125)
  by_cases r124 : r = 124
  · subst r124; exact vF_same h.e0
  refine vF_O (h.o r ?_) (Ne.symm r124)
  have := r.isLt
  have : r.val ≠ 127 := fun e => r127 (Fin.ext e)
  have : r.val ≠ 126 := fun e => r126 (Fin.ext e)
  have : r.val ≠ 125 := fun e => r125 (Fin.ext e)
  have : r.val ≠ 124 := fun e => r124 (Fin.ext e)
  omega

/-- The block the body leaves: token by token, from the row the token lies in. -/
def outV (x : Ins F) : Vec F S1x8192x128 .bf16 :=
  fun y => rowVal x ⟨(y 1).val / 64, by have : (y 1).val < 8192 := (y 1).isLt; omega⟩
    (ix3 (0 : Fin 1) (⟨(y 1).val % 64, Nat.mod_lt _ (by decide)⟩ : Fin 64) (y 2 : Fin 128))

theorem final_outV (st : St F) : (bodyF x st).o = outV x := by
  funext y
  have hy1 : (y 1).val < 8192 := (y 1).isLt
  have hy0 : (y 0).val < 1 := (y 0).isLt
  have h := congrFun (final_o (x := x) st ⟨(y 1).val / 64, by omega⟩) (ix3 (0 : Fin 1) (⟨(y 1).val % 64, Nat.mod_lt _ (by decide)⟩ : Fin 64) (y 2 : Fin 128))
  refine Eq.trans (congrArg (bodyF x st).o (funext fun a => Fin.ext ?_)) h
  fin_cases a
  · show (y 0).val = 0 + 1 * 0; omega
  · show (y 1).val = 64 * ((y 1).val / 64) + 1 * ((y 1).val % 64); omega
  · show (y 2).val = 0 + 1 * (y 2).val; omega

end Cert.KernelIdeal.Na
end
-- ==== Proof.Na.Run.lean ====
module

public import proofs.«01_k».proof.Proof.Na.Rows
public import Idealize.ShloMosaic.Lib.Pipeline.Value
public import Idealize.ShloMosaic.Lib.Claim

/-!
# What the call leaves in its result

The launch of the body triple: every program of the grid leaves its block at `outV` of its own inputs, so the array
ends at `result`, a function of the four operands.
-/

@[expose] public section

set_option maxRecDepth 16384

noncomputable section

namespace Cert.KernelIdeal.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs of the program at a point. -/
def insAt (c : Dev nD) (t : Fin cfg0.N) : Ins F := ⟨iblk m c 0 t, iblk m c 1 t, iblk m c 2 t, iblk m c 3 t⟩

/-- The proof data: the arrays as the region finds them; after the body each input's buffer at its block and the
    result's at `outV`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV (insAt m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outV (insAt m c t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-- The memrefs of the program at a point. -/
def refsAt (t : Fin cfg0.N) : Refs where
  arg2 := win0_0.stage (cfg0.slots t 0)
  harg2 := hstage0_0 ((cfg0.slots t 0).cast nbuf0_0)
  arg3 := win0_1.stage (cfg0.slots t 1)
  harg3 := hstage0_1 ((cfg0.slots t 1).cast nbuf0_1)
  arg4 := win0_2.stage (cfg0.slots t 2)
  harg4 := hstage0_2 ((cfg0.slots t 2).cast nbuf0_2)
  arg5 := win0_3.stage (cfg0.slots t 3)
  harg5 := hstage0_3 ((cfg0.slots t 3).cast nbuf0_3)
  arg6 := win0_4.stage (cfg0.slots t 4)
  harg6 := hstage0_4 ((cfg0.slots t 4).cast nbuf0_4)
  arg7 := Memref.whole cc0_scratch0
  harg7 := Memref.isWhole_whole _
  arg8 := Memref.whole cc0_scratch1
  harg8 := Memref.isWhole_whole _
  arg9 := Memref.whole cc0_scratch2
  harg9 := Memref.isWhole_whole _

/-- The invariant, with the scratch buffers as memrefs at some contents. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- The body's triple at a point of the grid. -/
theorem body_at (c : Dev nD) (t : Fin cfg0.N) : Does c (refsAt t) (insAt m c t) (bodyAt0 (F := F) t) (bodyF (insAt m c t)) :=
  body_does c (refsAt t) (insAt m c t) (grid0.coords t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩⟩
  iapply (body_at m c t ⟨(dats m 0 c).before 4 t d4, s0, s1, s2⟩ Set.univ _)
  isplitl [H0 H1 H2 H3 H4 HS0 HS1 HS2]
  · unfold held
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iexact HS2
  unfold held
  rw [final_outV]
  iintro ⟨H0, H1, H2, H3, H4, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-! ## The whole array -/

/-- The inputs of batch `b` and head pair `h`, cut out of the four operands. -/
def insOf (Q K W : Vec F S12x8192x768 .bf16) (B : Vec F S6x14x128x128 .f32) (b : Fin 12) (h : Fin 6) : Ins F where
  q := fun y => Q (ix3 b (y 1 : Fin 8192) (⟨128 * h.val + (y 2).val, by have h2 : (y 2).val < 128 := (y 2).isLt; omega⟩ : Fin 768))
  k := fun y => K (ix3 b (y 1 : Fin 8192) (⟨128 * h.val + (y 2).val, by have h2 : (y 2).val < 128 := (y 2).isLt; omega⟩ : Fin 768))
  v := fun y => W (ix3 b (y 1 : Fin 8192) (⟨128 * h.val + (y 2).val, by have h2 : (y 2).val < 128 := (y 2).isLt; omega⟩ : Fin 768))
  b := fun y => B (ix4 h (y 1 : Fin 14) (y 2 : Fin 128) (y 3 : Fin 128))

/-- The result, of the four operands. -/
def naOut (Q K W : Vec F S12x8192x768 .bf16) (B : Vec F S6x14x128x128 .f32) : Vec F S12x8192x768 .bf16 :=
  fun z => outV (insOf Q K W B (z 0) ⟨(z 2).val / 128, by have h2 : (z 2).val < 768 := (z 2).isLt; omega⟩)
    (ix3 (0 : Fin 1) (z 1 : Fin 8192) (⟨(z 2).val % 128, Nat.mod_lt _ (by decide)⟩ : Fin 128))

/-- The result on the region's arrays. -/
def result (c : Dev nD) : Buf (Elt F) ((c : Thread nD τ).loc main_v158) :=
  naOut (V m c main_v5) (V m c main_arg1) (V m c main_arg2) (V m c main_v157)

theorem index0 : ∀ t : Fin grid0.N, (cc0_transform_0 (grid0.coords t) : Fin 3 → ℕ) = ![t.val / 6, 0, t.val % 6] := by decide +kernel
theorem index1 : ∀ t : Fin grid0.N, (cc0_transform_1 (grid0.coords t) : Fin 3 → ℕ) = ![t.val / 6, 0, t.val % 6] := by decide +kernel
theorem index2 : ∀ t : Fin grid0.N, (cc0_transform_2 (grid0.coords t) : Fin 3 → ℕ) = ![t.val / 6, 0, t.val % 6] := by decide +kernel
theorem index3 : ∀ t : Fin grid0.N, (cc0_transform_3 (grid0.coords t) : Fin 4 → ℕ) = ![t.val % 6, 0, 0, 0] := by decide +kernel
theorem index4 : ∀ t : Fin grid0.N, (cc0_transform_4 (grid0.coords t) : Fin 3 → ℕ) = ![t.val / 6, 0, t.val % 6] := by decide +kernel

/-- The batch of a point, -/
def batchOf (t : Fin cfg0.N) : Fin 12 := ⟨t.val / 6, by have h : t.val < grid0.N := t.isLt; rw [N_0] at h; omega⟩
/-- and its head pair. -/
def pairOf (t : Fin cfg0.N) : Fin 6 := ⟨t.val % 6, Nat.mod_lt _ (by decide)⟩

/-- Operand 0's block at a point, cut out of the operand. -/
theorem iblk0_eq (c : Dev nD) (t : Fin cfg0.N) : (iblk m c 0 t : Vec F S1x8192x128 .bf16)
    = fun y => (V m c main_v5 : Vec F S12x8192x768 .bf16) (ix3 (batchOf t) (y 1 : Fin 8192) (⟨128 * (pairOf t).val + (y 2).val, by have h2 : (y 2).val < 128 := (y 2).isLt; omega⟩ : Fin 768)) := by
  funext y
  have e := index0 t
  have h0 : (y 0).val < 1 := (y 0).isLt
  refine congrArg (V m c main_v5 : Vec F S12x8192x768 .bf16) (funext fun a => Fin.ext ?_)
  match a with
  | ⟨0, _⟩ =>
    show (cc0_transform_0 (grid0.coords t) : Fin 3 → ℕ) 0 * 1 + 1 * (y 0).val = t.val / 6
    rw [e]; show t.val / 6 * 1 + 1 * (y 0).val = t.val / 6; omega
  | ⟨1, _⟩ =>
    show (cc0_transform_0 (grid0.coords t) : Fin 3 → ℕ) 1 * 8192 + 1 * (y 1).val = (y 1).val
    rw [e]; show 0 * 8192 + 1 * (y 1).val = (y 1).val; omega
  | ⟨2, _⟩ =>
    show (cc0_transform_0 (grid0.coords t) : Fin 3 → ℕ) 2 * 128 + 1 * (y 2).val = 128 * (t.val % 6) + (y 2).val
    rw [e]; show t.val % 6 * 128 + 1 * (y 2).val = 128 * (t.val % 6) + (y 2).val; omega

/-- Operand 1's block at a point, cut out of the operand. -/
theorem iblk1_eq (c : Dev nD) (t : Fin cfg0.N) : (iblk m c 1 t : Vec F S1x8192x128 .bf16)
    = fun y => (V m c main_arg1 : Vec F S12x8192x768 .bf16) (ix3 (batchOf t) (y 1 : Fin 8192) (⟨128 * (pairOf t).val + (y 2).val, by have h2 : (y 2).val < 128 := (y 2).isLt; omega⟩ : Fin 768)) := by
  funext y
  have e := index1 t
  have h0 : (y 0).val < 1 := (y 0).isLt
  refine congrArg (V m c main_arg1 : Vec F S12x8192x768 .bf16) (funext fun a => Fin.ext ?_)
  match a with
  | ⟨0, _⟩ =>
    show (cc0_transform_1 (grid0.coords t) : Fin 3 → ℕ) 0 * 1 + 1 * (y 0).val = t.val / 6
    rw [e]; show t.val / 6 * 1 + 1 * (y 0).val = t.val / 6; omega
  | ⟨1, _⟩ =>
    show (cc0_transform_1 (grid0.coords t) : Fin 3 → ℕ) 1 * 8192 + 1 * (y 1).val = (y 1).val
    rw [e]; show 0 * 8192 + 1 * (y 1).val = (y 1).val; omega
  | ⟨2, _⟩ =>
    show (cc0_transform_1 (grid0.coords t) : Fin 3 → ℕ) 2 * 128 + 1 * (y 2).val = 128 * (t.val % 6) + (y 2).val
    rw [e]; show t.val % 6 * 128 + 1 * (y 2).val = 128 * (t.val % 6) + (y 2).val; omega

/-- Operand 2's block at a point, cut out of the operand. -/
theorem iblk2_eq (c : Dev nD) (t : Fin cfg0.N) : (iblk m c 2 t : Vec F S1x8192x128 .bf16)
    = fun y => (V m c main_arg2 : Vec F S12x8192x768 .bf16) (ix3 (batchOf t) (y 1 : Fin 8192) (⟨128 * (pairOf t).val + (y 2).val, by have h2 : (y 2).val < 128 := (y 2).isLt; omega⟩ : Fin 768)) := by
  funext y
  have e := index2 t
  have h0 : (y 0).val < 1 := (y 0).isLt
  refine congrArg (V m c main_arg2 : Vec F S12x8192x768 .bf16) (funext fun a => Fin.ext ?_)
  match a with
  | ⟨0, _⟩ =>
    show (cc0_transform_2 (grid0.coords t) : Fin 3 → ℕ) 0 * 1 + 1 * (y 0).val = t.val / 6
    rw [e]; show t.val / 6 * 1 + 1 * (y 0).val = t.val / 6; omega
  | ⟨1, _⟩ =>
    show (cc0_transform_2 (grid0.coords t) : Fin 3 → ℕ) 1 * 8192 + 1 * (y 1).val = (y 1).val
    rw [e]; show 0 * 8192 + 1 * (y 1).val = (y 1).val; omega
  | ⟨2, _⟩ =>
    show (cc0_transform_2 (grid0.coords t) : Fin 3 → ℕ) 2 * 128 + 1 * (y 2).val = 128 * (t.val % 6) + (y 2).val
    rw [e]; show t.val % 6 * 128 + 1 * (y 2).val = 128 * (t.val % 6) + (y 2).val; omega

/-- The bias block at a point, cut out of the table. -/
theorem iblk3_eq (c : Dev nD) (t : Fin cfg0.N) : (iblk m c 3 t : Vec F S1x14x128x128 .f32)
    = fun y => (V m c main_v157 : Vec F S6x14x128x128 .f32) (ix4 (pairOf t) (y 1 : Fin 14) (y 2 : Fin 128) (y 3 : Fin 128)) := by
  funext y
  have e := index3 t
  have h0 : (y 0).val < 1 := (y 0).isLt
  refine congrArg (V m c main_v157 : Vec F S6x14x128x128 .f32) (funext fun a => Fin.ext ?_)
  match a with
  | ⟨0, _⟩ =>
    show (cc0_transform_3 (grid0.coords t) : Fin 4 → ℕ) 0 * 1 + 1 * (y 0).val = t.val % 6
    rw [e]; show t.val % 6 * 1 + 1 * (y 0).val = t.val % 6; omega
  | ⟨1, _⟩ =>
    show (cc0_transform_3 (grid0.coords t) : Fin 4 → ℕ) 1 * 14 + 1 * (y 1).val = (y 1).val
    rw [e]; show 0 * 14 + 1 * (y 1).val = (y 1).val; omega
  | ⟨2, _⟩ =>
    show (cc0_transform_3 (grid0.coords t) : Fin 4 → ℕ) 2 * 128 + 1 * (y 2).val = (y 2).val
    rw [e]; show 0 * 128 + 1 * (y 2).val = (y 2).val; omega
  | ⟨3, _⟩ =>
    show (cc0_transform_3 (grid0.coords t) : Fin 4 → ℕ) 3 * 128 + 1 * (y 3).val = (y 3).val
    rw [e]; show 0 * 128 + 1 * (y 3).val = (y 3).val; omega

/-- A point's inputs are cut out of the four operands. -/
theorem insAt_eq (c : Dev nD) (t : Fin cfg0.N) :
    insAt m c t = insOf (V m c main_v5) (V m c main_arg1) (V m c main_arg2) (V m c main_v157) (batchOf t) (pairOf t) := by
  unfold insAt insOf
  rw [iblk0_eq, iblk1_eq, iblk2_eq, iblk3_eq]
  rfl

/-- What a point writes back is its block of the result. -/
theorem flushed_eq (c : Dev nD) (t : Fin cfg0.N) (hf : (cfg0.win 4).flush t = true) :
    (dats m 0 c).flushed 4 t = ((cfg0.win 4).blk t).view.read (Elt F) (result m c) := by
  show (cfg0.win 4).cut (grid0.coords t) ((dats m 0 c).after 4 t) = _
  rw [after_4, insAt_eq]
  funext y
  have e := index4 t
  have h0 : (y 0).val < 1 := (y 0).isLt
  have h1 : (y 1).val < 8192 := (y 1).isLt
  have h2 : (y 2).val < 128 := (y 2).isLt
  have hz : ((cfg0.win 4).blk t).view.read (Elt F) (result m c) y
      = result m c (ix3 (batchOf t) (y 1 : Fin 8192) (⟨128 * (pairOf t).val + (y 2).val, by omega⟩ : Fin 768)) := by
    refine congrArg (result m c) (funext fun a => Fin.ext ?_)
    match a with
    | ⟨0, _⟩ =>
      show (cc0_transform_4 (grid0.coords t) : Fin 3 → ℕ) 0 * 1 + 1 * (y 0).val = t.val / 6
      rw [e]; show t.val / 6 * 1 + 1 * (y 0).val = t.val / 6; omega
    | ⟨1, _⟩ =>
      show (cc0_transform_4 (grid0.coords t) : Fin 3 → ℕ) 1 * 8192 + 1 * (y 1).val = (y 1).val
      rw [e]; show 0 * 8192 + 1 * (y 1).val = (y 1).val; omega
    | ⟨2, _⟩ =>
      show (cc0_transform_4 (grid0.coords t) : Fin 3 → ℕ) 2 * 128 + 1 * (y 2).val = 128 * (t.val % 6) + (y 2).val
      rw [e]; show t.val % 6 * 128 + 1 * (y 2).val = 128 * (t.val % 6) + (y 2).val; omega
  rw [hz]
  unfold result naOut
  generalize V m c main_v5 = Q
  generalize V m c main_arg1 = K
  generalize V m c main_arg2 = W
  generalize V m c main_v157 = B
  have ep : (⟨(128 * (pairOf t).val + (y 2).val) / 128, by omega⟩ : Fin 6) = pairOf t := Fin.ext (by show (128 * (pairOf t).val + (y 2).val) / 128 = _; omega)
  have el : (⟨(128 * (pairOf t).val + (y 2).val) % 128, Nat.mod_lt _ (by decide)⟩ : Fin 128) = y 2 := Fin.ext (by show (128 * (pairOf t).val + (y 2).val) % 128 = _; omega)
  show outV (insOf Q K W B (batchOf t) (pairOf t)) y = outV (insOf Q K W B (batchOf t) ⟨(128 * (pairOf t).val + (y 2).val) / 128, _⟩)
    (ix3 (0 : Fin 1) (y 1 : Fin 8192) (⟨(128 * (pairOf t).val + (y 2).val) % 128, _⟩ : Fin 128))
  rw [ep, el]
  refine congrArg (outV (insOf Q K W B (batchOf t) (pairOf t))) (funext fun a => ?_)
  match a with
  | ⟨0, _⟩ => exact Fin.ext (by show (y 0).val = 0; omega)
  | ⟨1, _⟩ => rfl
  | ⟨2, _⟩ => rfl

/-- The result array at the end. -/
theorem final_result (c : Dev nD) : (dats m 0 c).arrAt 4 cfg0.N = result m c :=
  (dats m 0 c).arrAt_eq_of_cover 4 (result m c) (flushed_eq m c) fun i => by
    have h0 : (i 0 : ℕ) < 12 := (i 0).isLt
    have h1 : (i 1 : ℕ) < 8192 := (i 1).isLt
    have h2 : (i 2 : ℕ) < 768 := (i 2).isLt
    have hN : grid0.N = 72 := N_0
    let t : Fin grid0.N := ⟨6 * (i 0 : ℕ) + (i 2 : ℕ) / 128, by omega⟩
    refine ⟨t, flush0_4 t, ?_⟩
    show i ∈ ((View.whole main_v158).slice (win0_4.rect t)).set
    rw [View.set_slice_whole, Rect.mem_set_unit]
    have e := index4 t
    have ht : t.val = 6 * (i 0 : ℕ) + (i 2 : ℕ) / 128 := rfl
    intro a
    match a with
    | ⟨0, _⟩ =>
      show (cc0_transform_4 (grid0.coords t) : Fin 3 → ℕ) 0 * 1 ≤ (i 0 : ℕ) ∧ (i 0 : ℕ) < (cc0_transform_4 (grid0.coords t) : Fin 3 → ℕ) 0 * 1 + 1
      rw [e]; show t.val / 6 * 1 ≤ (i 0 : ℕ) ∧ (i 0 : ℕ) < t.val / 6 * 1 + 1; omega
    | ⟨1, _⟩ =>
      show (cc0_transform_4 (grid0.coords t) : Fin 3 → ℕ) 1 * 8192 ≤ (i 1 : ℕ) ∧ (i 1 : ℕ) < (cc0_transform_4 (grid0.coords t) : Fin 3 → ℕ) 1 * 8192 + 8192
      rw [e]; show 0 * 8192 ≤ (i 1 : ℕ) ∧ (i 1 : ℕ) < 0 * 8192 + 8192; omega
    | ⟨2, _⟩ =>
      show (cc0_transform_4 (grid0.coords t) : Fin 3 → ℕ) 2 * 128 ≤ (i 2 : ℕ) ∧ (i 2 : ℕ) < (cc0_transform_4 (grid0.coords t) : Fin 3 → ℕ) 2 * 128 + 128
      rw [e]; show t.val % 6 * 128 ≤ (i 2 : ℕ) ∧ (i 2 : ℕ) < t.val % 6 * 128 + 128; omega

/-- The run, read: the result array at `result`, the arguments unchanged. -/
theorem run : θ_run defs (onTc (τ := τ) (main (F := F))) ⟨m, fun _ => 0, ρ⟩ (fun r => ∀ c : Dev nD,
      r.2.mem ((c.tc : Thread nD τ).loc main_v158) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).1 4).trans (final_result m c), (h.2.1 c)⟩)
    (θ_run_and (run_main_quiescent m ρ) (frame m ρ))

end Cert.KernelIdeal.Na
end
-- ==== Proof.Na.KernelFrame.lean ====
module

public import proofs.«01_k».proof.Proof.Na.Run
public import proofs.«01_k».proof.Proof.Gen.Kernel.Launch
public import proofs.«01_k».proof.Proof.Gen.Kernel.Points
public import proofs.«01_k».proof.Proof.Gen.Kernel.Frame

/-!
# The frame of the program with the hardware's numbers

`Kernel` and `KernelIdeal` are the same text, but two programs: each has its own names.  The body of the one is the
same chain of phases as the body of the other, the host operations before the call are the same list, and so what is
proved of the body of `KernelIdeal`, at any reading of the numbers, holds of `Kernel`.
-/

@[expose] public section

set_option maxRecDepth 16384
set_option synthInstance.maxSize 4096

noncomputable section

namespace Cert.Kernel.Na

open Cert.Kernel Cert.Kernel.Gen
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable {F : FTy → Type} [FloatOps F]

section Body

variable (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x14x128x128 .f32) (harg5 : arg5.IsWhole) (arg6 : Memref sig .tc .vmem S1x8192x128 .bf16) (harg6 : arg6.IsWhole) (arg7 : Memref sig .tc .vmem S2x2x128x512 .f32) (harg7 : arg7.IsWhole) (arg8 : Memref sig .tc .vmem S2x2x128x512 .bf16) (harg8 : arg8.IsWhole) (arg9 : Memref sig .tc .vmem S2x2x128x128 .f32) (harg9 : arg9.IsWhole)

set_option maxHeartbeats 4000000 in
/-- The body is the chain of the phases. -/
theorem body_chain (i : grid0.Coords) :
    cc0_na_attention (F := F) i arg2 harg2 arg3 harg3 arg4 harg4 arg5 harg5 arg6 harg6 arg7 harg7 arg8 harg8 arg9 harg9
      = Pipeline.chain (Cert.KernelIdeal.prologue arg2 arg3 arg5 arg7 arg8 harg8 arg9
          ++ (Cert.KernelIdeal.ticks arg2 arg3 arg4 arg5 arg6 harg6 arg7 arg8 harg8 arg9 62
            ++ Cert.KernelIdeal.epilogue arg4 arg6 harg6 arg7 arg8 harg8 arg9)) := by
  chain_rfl

/-- So the two bodies are one. -/
theorem body_same (i : grid0.Coords) :
    cc0_na_attention (F := F) i arg2 harg2 arg3 harg3 arg4 harg4 arg5 harg5 arg6 harg6 arg7 harg7 arg8 harg8 arg9 harg9
      = Cert.KernelIdeal.cc0_na_attention (F := F) i arg2 harg2 arg3 harg3 arg4 harg4 arg5 harg5 arg6 harg6 arg7 harg7 arg8 harg8 arg9 harg9 :=
  (body_chain ..).trans (Cert.KernelIdeal.body_eq ..).symm

end Body

/-- The two tables of bodies are one. -/
theorem defs₀_same : Cert.Kernel.defs₀ (F := F) = Cert.KernelIdeal.defs₀ (F := F) := by
  unfold Cert.Kernel.defs₀ Cert.KernelIdeal.defs₀
  congr 1
  funext ℓ x
  match ℓ, x with
  | 0, (t, s) => exact body_same ..
  | ⟨n + 1, h⟩, _ => exact absurd h (Nat.not_lt.2 (Nat.le_add_left _ _))

theorem hostOps0_same : Cert.Kernel.Gen.hostOps0 (F := F) = Cert.KernelIdeal.Gen.hostOps0 (F := F) := rfl
theorem hostOps0_1_same : Cert.Kernel.Gen.hostOps0_1 (F := F) = Cert.KernelIdeal.Gen.hostOps0_1 (F := F) := rfl
theorem hostOps0_2_same : Cert.Kernel.Gen.hostOps0_2 (F := F) = Cert.KernelIdeal.Gen.hostOps0_2 (F := F) := rfl

variable (m : (ℓ : Loc nD τ sig) → Buf (Elt F) ℓ) (ρ : Dev nD → PrngReg)

/-- The region finds the same arrays in the two programs. -/
theorem V_same (c : Dev nD) (b : Ref sig .tc) : Cert.Kernel.Gen.V m c b = Cert.KernelIdeal.Gen.V m c b :=
  congrArg (fun l => StableHlo.after (List.flatten l) (fun b => m (c, b)) b)
    (congr (congrArg List.cons hostOps0_same) (congr (congrArg List.cons hostOps0_1_same) (congrArg (fun o => [o]) hostOps0_2_same)))

/-- The proof data of the one are the proof data of the other. -/
def dats (p : Fin 1) (c : Dev nD) : Dat τ (Elt F) Unit ℕ (UR sig nD τ) ℕ (cfgs p) c := Cert.KernelIdeal.Na.dats m p c

theorem A_eq (c : Dev nD) (w : Fin cfg0.W) : (dats m 0 c).A w = V m c (Pipeline.arrRef spec0 w) :=
  (Cert.KernelIdeal.Na.A_eq m c w).trans (V_same m c _).symm

theorem body_obligation (c : Dev nD) : BodyObligation (dats (F := F) m 0 c) (defs₀ (F := F)) Variants.none () Set.univ := by
  rw [defs₀_same]
  exact Cert.KernelIdeal.Na.body_obligation m c

set_option maxHeartbeats 4000000 in
set_option backward.isDefEq.respectTransparency.types false in
/-- The launch: the arrays end as the proof data says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel.Na

end
-- ==== Proof.Na.HostDefs.lean ====
module

public import proofs.«01_k».proof.Proof.Gen.KernelIdeal.Frame
public import Idealize.ShloMosaic.Lib.ValueIdx

/-!
# The host's functions

The scaled queries and the table of biases the host prepares, as functions of the arguments.  The table of one head and one row offset
is a Toeplitz matrix: row `x` is a slice of the padded bias starting at `63 - x`.
-/

@[expose] public section

set_option maxRecDepth 16384

noncomputable section

namespace Cert.KernelIdeal.Na

open Cert.KernelIdeal Cert.KernelIdeal.Gen
open Idealize.ShloMosaic Idealize.ShloMosaic.TcCoe
open Idealize.ShloMosaic.ValueIdx

variable {F : FTy → Type} [FloatOps F]

/-- The number `1 / log 2`. -/
def invLog : FVec F S_ .f32 := Host.divf (constant S_ .f32 0x3F800000#32) (Host.log (constant S_ .f32 0x40000000#32))

/-- The queries, scaled by the head's `1/8` and by `1 / log 2`. -/
def scaled (q : FVec F S12x8192x768 .f32) : FVec F S12x8192x768 .bf16 :=
  truncf .bf16 (mulf q (broadcastInDim S12x8192x768 ![] bcast_S_S12x8192x768 (mulf (constant S_ .f32 0x3E000000#32) invLog))) bitsLt_bf16_f32

/-- The biases times `1 / log 2`. -/
def biases (b : FVec F S12x15x31 .f32) : FVec F S12x15x31 .f32 := mulf b (broadcastInDim S12x15x31 ![] bcast_S_S12x15x31 invLog)

/-- The first (or last) column, 48 times. -/
def edge (off : Fin 3 → ℕ) (hs : S12x15x31.Slices off S12x15x1) (b : FVec F S12x15x31 .f32) : FVec F S12x15x48 .f32 :=
  shapeCast S12x15x48 (broadcastInDim S12x15x1x48 ![0, 1, 2] bcast_S12x15x1_S12x15x1x48_0_1_2 (extractStridedSlice S12x15x1 off b hs)) shapeCasts_S12x15x1x48_S12x15x48

/-- The biases with their edge columns repeated on both sides. -/
def padded (b : FVec F S12x15x31 .f32) : FVec F S12x15x127 .f32 :=
  concatenate S12x15x127 2
    [⟨S12x15x48, edge ![0, 0, 0] slices_S12x15x31_S12x15x1_0_0_0 b⟩, ⟨S12x15x31, b⟩, ⟨S12x15x48, edge ![0, 0, 30] slices_S12x15x31_S12x15x1_0_0_30 b⟩]
    concatenates_S12x15x48_S12x15x31_S12x15x48_S12x15x127_d2

theorem slices_row (n : Fin 64) : S12x15x127.Slices ![0, 0, 63 - n.val] S12x15x64 := by
  revert n; decide

/-- Row `n` of the matrices. -/
def matRow (p : FVec F S12x15x127 .f32) (n : Fin 64) : FVec F S12x15x1x64 .f32 :=
  broadcastInDim S12x15x1x64 ![0, 1, 3] bcast_S12x15x64_S12x15x1x64_0_1_3 (extractStridedSlice S12x15x64 ![0, 0, 63 - n.val] p (slices_row n))

/-- Sixteen rows of the matrices. -/
def matRows (p : FVec F S12x15x127 .f32) (g : Fin 4) : FVec F S12x15x16x64 .f32 :=
  concatenate S12x15x16x64 2 (List.ofFn fun n : Fin 16 => ⟨S12x15x1x64, matRow p ⟨16 * g.val + n.val, by omega⟩⟩)
    concatenates_S12x15x1x64_S12x15x1x64_S12x15x1x64_S12x15x1x64_S12x15x1x64_S12x15x1x64_S12x15x1x64_S12x15x1x64_S12x15x1x64_S12x15x1x64_S12x15x1x64_S12x15x1x64_S12x15x1x64_S12x15x1x64_S12x15x1x64_S12x15x1x64_S12x15x16x64_d2

/-- The matrices. -/
def mat (p : FVec F S12x15x127 .f32) : FVec F S12x15x64x64 .f32 :=
  concatenate S12x15x64x64 2 (List.ofFn fun g : Fin 4 => ⟨S12x15x16x64, matRows p g⟩)
    concatenates_S12x15x16x64_S12x15x16x64_S12x15x16x64_S12x15x16x64_S12x15x64x64_d2

/-- The table of the keys inside a token's window, for each row of matrices. -/
def insideTable : IVec S12x15x64x64 1 :=
  broadcastInDim S12x15x64x64 ![0, 1, 2, 3] bcast_S1x1x64x64_S12x15x64x64_0_1_2_3
    (broadcastInDim S1x1x64x64 ![2, 3] bcast_S64x64_S1x1x64x64_2_3 (fun i => lit0 (S64x64.rowMajor i)))

/-- The matrices, `-∞` at keys outside the window. -/
def masked (x : FVec F S12x15x64x64 .f32) : FVec F S12x15x64x64 .f32 :=
  select insideTable x (broadcastInDim S12x15x64x64 ![] bcast_S_S12x15x64x64 (constant S_ .f32 0xFF800000#32))

/-- Two row offsets side by side, two heads one under the other. -/
def paired (x : FVec F S12x15x64x64 .f32) : FVec F S6x14x128x128 .f32 :=
  shapeCast S6x14x128x128
    (transpose S6x14x2x64x128 [0, 2, 1, 3, 4]
      (shapeCast S6x2x14x64x128
        (concatenate S12x14x64x128 3
          [⟨S12x14x64x64, extractStridedSlice S12x14x64x64 ![0, 0, 0, 0] x slices_S12x15x64x64_S12x14x64x64_0_0_0_0⟩,
            ⟨S12x14x64x64, extractStridedSlice S12x14x64x64 ![0, 1, 0, 0] x slices_S12x15x64x64_S12x14x64x64_0_1_0_0⟩]
          concatenates_S12x14x64x64_S12x14x64x64_S12x14x64x128_d3)
        shapeCasts_S12x14x64x128_S6x2x14x64x128)
      transposes_S6x2x14x64x128_S6x14x2x64x128_0_2_1_3_4)
    shapeCasts_S6x14x2x64x128_S6x14x128x128

end Cert.KernelIdeal.Na
end
-- ==== Proof.Na.Operands.lean ====
module

public import proofs.«01_k».proof.Proof.Na.HostDefs
public import Idealize.ShloMosaic.Lib.StableHlo.RunRead

/-!
# The operands the host prepares

When the kernel starts, its first operand holds the scaled queries and its fourth the table of biases.
-/

@[expose] public section

set_option maxRecDepth 16384

noncomputable section

namespace Cert.KernelIdeal.Na

open Cert.KernelIdeal Cert.KernelIdeal.Gen
open Idealize.ShloMosaic Idealize.ShloMosaic.TcCoe
open Idealize.ShloMosaic.ValueIdx

variable {F : FTy → Type} [FloatOps F]

variable (m : (ℓ : Loc nD τ sig) → Buf (Elt F) ℓ)

/-- Equal pieces give equal concatenations. -/
theorem concatenate_congr {α : Type} {t : Shape} (a : Fin t.rank) {xs ys : List ((s : Shape) × (s.Idx → α))}
    (h : Shape.Concatenates (xs.map (·.1)) t a) (h' : Shape.Concatenates (ys.map (·.1)) t a) (e : xs = ys) :
    concatenate t a xs h = concatenate t a ys h' := by
  subst e
  rfl

/-- Equal first pieces and equal rests give equal lists of pieces. -/
theorem cons_congr {α : Type} {s : Shape} {x y : s.Idx → α} {xs ys : List ((s : Shape) × (s.Idx → α))} (h : x = y) (e : xs = ys) :
    (⟨s, x⟩ : (s : Shape) × (s.Idx → α)) :: xs = ⟨s, y⟩ :: ys := by
  rw [h, e]

set_option maxHeartbeats 8000000 in
theorem V_queries (c : Dev nD) : V m c main_v5 = scaled (m ((c : Thread nD τ).loc main_arg0)) := by
  unfold V hostOps0 hostOps0_1 hostOps0_2
  after_reads_simp
  rfl

set_option maxHeartbeats 40000000 in
/-- The matrices: four strips of sixteen rows. -/
theorem V_mat (c : Dev nD) : V m c main_v149 = mat (padded (biases (m ((c : Thread nD τ).loc main_arg3)))) := by
  unfold V hostOps0 hostOps0_1 hostOps0_2
  after_reads_simp
  refine concatenate_congr _ _ _ ?_
  iterate 4
    refine cons_congr (by
      dsimp only [Matrix.cons_val]
      after_reads_simp
      refine concatenate_congr _ _ _ ?_
      iterate 16 refine cons_congr (by dsimp only [Matrix.cons_val]; after_reads_simp; rfl) ?_
      rfl) ?_
  rfl

set_option maxHeartbeats 40000000 in
theorem V_table_of_mat (c : Dev nD) : V m c main_v157 = paired (masked (V m c main_v149)) := by
  unfold V hostOps0 hostOps0_1 hostOps0_2
  after_reads_simp
  simp only [StableHlo.TRef.unary, StableHlo.TRef.ternary, StableHlo.TRef.toBuf, StableHlo.TRef.ofBuf, cast_eq]
  rfl

theorem V_table (c : Dev nD) : V m c main_v157 = paired (masked (mat (padded (biases (m ((c : Thread nD τ).loc main_arg3)))))) := by
  rw [V_table_of_mat, V_mat]

end Cert.KernelIdeal.Na
end
-- ==== Proof.Na.Softmax.lean ====
module

public import Idealize.ShloMosaic.PureOps.Ideal
public import Mathlib.Analysis.SpecialFunctions.Pow.Real

/-!
# One row of the softmax

The kernel takes powers of two of scores that carry the factor `1 / log 2`, adds up the weighted values and divides
at the end; the reference takes exponentials and divides every weight.  Over a row of scores none of which is `+∞`
and one of which is a real number the two agree, whatever the values are.  A score `−∞` is a key left out: its weight
is zero on both sides.
-/

@[expose] public section

noncomputable section

namespace Cert.KernelIdeal.Na

open Idealize.ShloMosaic

variable {n : ℕ}

/-- The largest score of a row. -/
def top (t : Fin n → EReal) : EReal := (Finset.univ : Finset (Fin n)).fold max ⊥ t

/-- `1 / log 2`. -/
def invLog2 : ℝ := 1 / Real.log 2

theorem invLog2_pos : 0 < invLog2 := one_div_pos.mpr (Real.log_pos one_lt_two)

theorem le_top (t : Fin n → EReal) (κ : Fin n) : t κ ≤ top t := Finset.le_sup (f := t) (Finset.mem_univ κ)

theorem top_le (t : Fin n → EReal) (b : EReal) (h : ∀ κ, t κ ≤ b) : top t ≤ b := Finset.sup_le (f := t) fun κ _ => h κ

/-- The largest score is one of them. -/
theorem top_mem (t : Fin n → EReal) (κ : Fin n) : ∃ κ₀, top t = t κ₀ := by
  obtain ⟨κ₀, -, h⟩ := Finset.exists_mem_eq_sup Finset.univ ⟨κ, Finset.mem_univ κ⟩ t
  exact ⟨κ₀, h⟩

/-- The factor keeps the order, so the largest score carries it too. -/
theorem top_scaled (t s : Fin n → EReal) (hs : ∀ κ, s κ = t κ * (invLog2 : EReal)) (κ : Fin n) : top s = top t * (invLog2 : EReal) := by
  have hL : (0 : EReal) ≤ (invLog2 : EReal) := EReal.coe_nonneg.mpr invLog2_pos.le
  obtain ⟨κ₀, h⟩ := top_mem t κ
  refine le_antisymm (top_le s _ fun κ => ?_) ?_
  · rw [hs]; exact mul_le_mul_of_nonneg_right (le_top t κ) hL
  · rw [h, ← hs]; exact le_top s κ₀

/-- The power of two of a scaled difference is the exponential of the difference. -/
theorem exp2_scaled (a m : ℝ) : Ideal.exp2 ((a : EReal) * (invLog2 : EReal) - (m : EReal) * (invLog2 : EReal)) = ((Real.exp (a - m) : ℝ) : EReal) := by
  rw [← EReal.coe_mul, ← EReal.coe_mul, ← EReal.coe_sub]
  show ((Real.rpow 2 _ : ℝ) : EReal) = _
  refine congrArg _ ?_
  show (2 : ℝ) ^ (a * invLog2 - m * invLog2) = _
  rw [Real.rpow_def_of_pos two_pos]
  refine congrArg _ ?_
  have h : Real.log 2 ≠ 0 := (Real.log_pos one_lt_two).ne'
  unfold invLog2
  field_simp

/-- A nonnegative real factor goes through a sum. -/
theorem sum_mul_real {ι : Type} (s : Finset ι) (f : ι → EReal) (c : ℝ) (hc : 0 ≤ c) : (∑ κ ∈ s, f κ) * (c : EReal) = ∑ κ ∈ s, f κ * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top _) _ _

/-- The row: the kernel's way on the left, the reference's on the right. -/
theorem softmax_row (t s v : Fin n → EReal) (hs : ∀ κ, s κ = t κ * (invLog2 : EReal)) (ht : ∀ κ, t κ ≠ ⊤) (κ₁ : Fin n) (h₁ : t κ₁ ≠ ⊥) :
    (∑ κ, Ideal.exp2 (s κ - top s) * v κ) * Ideal.div 1 (∑ κ, Ideal.exp2 (s κ - top s))
      = ∑ κ, Ideal.div (Ideal.exp (t κ - top t)) (∑ κ, Ideal.exp (t κ - top t)) * v κ := by
  obtain ⟨κ₀, h₀⟩ := top_mem t κ₁
  have hb : t κ₀ ≠ ⊥ := fun h => h₁ (le_bot_iff.mp ((le_top t κ₁).trans (h₀.trans h).le))
  obtain ⟨m, hm⟩ : ∃ m : ℝ, t κ₀ = (m : EReal) := ⟨_, (EReal.coe_toReal (ht κ₀) hb).symm⟩
  have htop : top t = (m : EReal) := h₀.trans hm
  have hstop : top s = (m : EReal) * (invLog2 : EReal) := by rw [top_scaled t s hs κ₁, htop]
  let r : Fin n → ℝ := fun κ => if t κ = ⊥ then 0 else Real.exp ((t κ).toReal - m)
  have hr : ∀ κ, 0 ≤ r κ := fun κ => by
    show 0 ≤ if t κ = ⊥ then 0 else Real.exp ((t κ).toReal - m)
    split
    · exact le_rfl
    · exact (Real.exp_pos _).le
  have hk : ∀ κ, Ideal.exp (t κ - top t) = (r κ : EReal) := fun κ => by
    rw [htop]
    by_cases h : t κ = ⊥
    · rw [h, EReal.bot_sub]
      show (0 : EReal) = ((if t κ = ⊥ then 0 else Real.exp ((t κ).toReal - m) : ℝ) : EReal)
      rw [if_pos h]; rfl
    · have e : t κ = ((t κ).toReal : EReal) := (EReal.coe_toReal (ht κ) h).symm
      have er : r κ = Real.exp ((t κ).toReal - m) := if_neg h
      rw [er]
      generalize (t κ).toReal = a at e
      rw [e, ← EReal.coe_sub]
      rfl
  have hk2 : ∀ κ, Ideal.exp2 (s κ - top s) = (r κ : EReal) := fun κ => by
    rw [hs, hstop]
    by_cases h : t κ = ⊥
    · rw [h, EReal.bot_mul_coe_of_pos invLog2_pos, ← EReal.coe_mul, EReal.bot_sub]
      show (0 : EReal) = ((if t κ = ⊥ then 0 else Real.exp ((t κ).toReal - m) : ℝ) : EReal)
      rw [if_pos h]; rfl
    · have e : t κ = ((t κ).toReal : EReal) := (EReal.coe_toReal (ht κ) h).symm
      have er : r κ = Real.exp ((t κ).toReal - m) := if_neg h
      rw [er]
      generalize (t κ).toReal = a at e
      rw [e]
      exact exp2_scaled a m
  have hsum : (∑ κ, (r κ : EReal)) = ((∑ κ, r κ : ℝ) : EReal) := (map_sum (⟨⟨((↑) : ℝ → EReal), EReal.coe_zero⟩, EReal.coe_add⟩ : ℝ →+ EReal) r Finset.univ).symm
  have hpos : 0 < ∑ κ, r κ := by
    refine Finset.sum_pos' (fun κ _ => hr κ) ⟨κ₀, Finset.mem_univ _, ?_⟩
    have : r κ₀ = Real.exp ((t κ₀).toReal - m) := if_neg hb
    rw [this]; exact Real.exp_pos _
  simp only [hk, hk2, hsum]
  generalize (∑ κ, r κ) = l at hpos
  have hl : (l : EReal) ≠ 0 := fun h => hpos.ne' (EReal.coe_eq_zero.mp h)
  have hdiv : ∀ x : EReal, Ideal.div x (l : EReal) = x * ((l⁻¹ : ℝ) : EReal) := fun x => by
    unfold Ideal.div; rw [if_neg hl, EReal.coe_inv]
  rw [hdiv, one_mul, sum_mul_real _ _ _ (inv_nonneg.mpr hpos.le)]
  refine Finset.sum_congr rfl fun κ _ => ?_
  rw [hdiv, mul_right_comm]

end Cert.KernelIdeal.Na
end
-- ==== Proof.Na.RowAt.lean ====
module

public import proofs.«01_k».proof.Proof.Na.Rows
public import proofs.«01_k».proof.Proof.Na.Softmax
public import Idealize.ShloMosaic.Lib.ValueIdx
public import Idealize.ShloMosaic.Lib.Pipeline.Value
public import Idealize.ShloMosaic.PureOps.Ideal.Laws

/-!
# A row of the result, element by element

Over the extended reals: the element of a row at token `a` and lane `l` is the softmax-weighted sum of the 512 values
at lane `l`, the scores being those of the head lane `l` belongs to.  The other head's lanes of the stacked queries
are zero, so the product over 128 lanes is the product over the head's 64.
-/

@[expose] public section

set_option maxRecDepth 16384

noncomputable section

namespace Cert.KernelIdeal.Na

open Idealize.ShloMosaic Idealize.ShloMosaic.ValueIdx
variable [Facts]
open Facts₀ Facts

/-- The first head's lanes are the first 64. -/
theorem headMask_apply (a : Fin 64) (l : Fin 128) : headMask (ix2 a l) = if l.val < 64 then 1#1 else 0#1 := by
  show IntOp.andi (IntOp.cmpi .sge (iota .tc S64x128 32 [1] iota_S64x128_d1_w32 (ix2 a l)) 0#32)
    (IntOp.cmpi .slt (iota .tc S64x128 32 [1] iota_S64x128_d1_w32 (ix2 a l)) 64#32) = _
  rw [iota_single_apply]
  show IntOp.andi (IntOp.cmpi .sge (BitVec.ofNat 32 l.val) 0#32) (IntOp.cmpi .slt (BitVec.ofNat 32 l.val) 64#32) = _
  revert l
  decide

/-- Row `h · 64 + a` of two heads' rows one under the other. -/
abbrev two (h : Fin 2) (a : Fin 64) : Fin 128 := ⟨64 * h.val + a.val, by omega⟩
/-- Lane `h · 64 + d` of two heads' lanes side by side. -/
abbrev lane (h : Fin 2) (d : Fin 64) : Fin 128 := ⟨64 * h.val + d.val, by omega⟩

theorem zero_bf16 : (Scalar.ofBits .bf16 0x0000#16 : Ideal .bf16) = (0 : EReal) := by
  show Ideal.ieee 8 7 0x0000#16 = 0
  simp [Ideal.ieee]

theorem zero_f32 : (Scalar.ofBits .f32 0x00000000#32 : Ideal .f32) = (0 : EReal) := by
  show Ideal.ieee 8 23 0x00000000#32 = 0
  simp [Ideal.ieee]

/-- The stacked queries: a head's own lanes, zero on the other's. -/
theorem stack_apply (q : Vec Ideal S1x64x128 .bf16) (h : Fin 2) (a : Fin 64) (l : Fin 128) :
    stack q (ix2 (two h a) l) = if l.val / 64 = h.val then q (ix3 (0 : Fin 1) a l) else (0 : EReal) := by
  have hq : (shapeCast S64x128 q shapeCasts_S1x64x128_S64x128 : FVec Ideal S64x128 .bf16) (ix2 a l) = q (ix3 (0 : Fin 1) a l) :=
    shapeCast_apply q shapeCasts_S1x64x128_S64x128 (ix2 a l) (ix3 (0 : Fin 1) a l)
      (by rewrite [Shape.rowMajor_val_two, Shape.rowMajor_val_three]; show (0 * 64 + a.val) * 128 + l.val = a.val * 128 + l.val; omega)
  unfold stack
  have hl := l.isLt
  match h with
  | ⟨0, _⟩ =>
    refine (concatenate_pair_apply_left (s₁ := S64x128) (s₂ := S64x128) (t := S128x128) 0 _ _ concatenates_S64x128_S64x128_S128x128_d0 _ rfl (ix2 a l)
      (fun b => match b with | ⟨0, _⟩ => by show a.val = 64 * 0 + a.val; omega | ⟨1, _⟩ => rfl)).trans ?_
    show Scalar.select (headMask (ix2 a l)) ((shapeCast S64x128 q shapeCasts_S1x64x128_S64x128 : FVec Ideal S64x128 .bf16) (ix2 a l)) (Scalar.ofBits .bf16 0x0000#16) = _
    rw [headMask_apply, hq, zero_bf16]
    by_cases h1 : l.val < 64
    · rw [if_pos h1, if_pos (show l.val / 64 = 0 by omega)]; rfl
    · rw [if_neg h1, if_neg (show ¬ l.val / 64 = 0 by omega)]; rfl
  | ⟨1, _⟩ =>
    refine (concatenate_pair_apply_right (s₁ := S64x128) (s₂ := S64x128) (t := S128x128) 0 _ _ concatenates_S64x128_S64x128_S128x128_d0 _ rfl rfl (ix2 a l)
      (fun b hb => match b with | ⟨0, _⟩ => absurd rfl hb | ⟨1, _⟩ => rfl)
      (by show a.val + 64 = 64 * 1 + a.val; omega)).trans ?_
    show Scalar.select (headMask (ix2 a l)) (Scalar.ofBits .bf16 0x0000#16) ((shapeCast S64x128 q shapeCasts_S1x64x128_S64x128 : FVec Ideal S64x128 .bf16) (ix2 a l)) = _
    rw [headMask_apply, hq, zero_bf16]
    by_cases h1 : l.val < 64
    · rw [if_pos h1, if_neg (show ¬ l.val / 64 = 1 by omega)]; rfl
    · rw [if_neg h1, if_pos (show l.val / 64 = 1 by omega)]; rfl

/-- A strip of the bias, viewed with two axes. -/
theorem strip_apply (b : Vec Ideal S1x1x128x128 .f32) (i j : Fin 128) :
    (shapeCast S128x128 b shapeCasts_S1x1x128x128_S128x128 : FVec Ideal S128x128 .f32) (ix2 i j) = b (ix4 (0 : Fin 1) (0 : Fin 1) i j) :=
  shapeCast_apply b shapeCasts_S1x1x128x128_S128x128 (ix2 i j) (ix4 (0 : Fin 1) (0 : Fin 1) i j)
    (by rewrite [Shape.rowMajor_val_two, Shape.rowMajor_val_four]; show ((0 * 1 + 0) * 128 + i.val) * 128 + j.val = i.val * 128 + j.val; omega)

/-- The four strips side by side. -/
theorem biasRow_apply (b : Fin 4 → Vec Ideal S1x1x128x128 .f32) (i : Fin 128) (κ : Fin 512) :
    biasRow b (ix2 i κ) = b ⟨κ.val / 128, by omega⟩ (ix4 (0 : Fin 1) (0 : Fin 1) i (⟨κ.val % 128, Nat.mod_lt _ (by decide)⟩ : Fin 128)) := by
  refine Eq.trans ?_ (strip_apply _ _ _)
  unfold biasRow
  exact concatenate_ofFn_apply (t := S128x512) (s₁ := S128x128) 1
    (fun n : Fin 4 => (shapeCast S128x128 (b n) shapeCasts_S1x1x128x128_S128x128 : FVec Ideal S128x128 .f32))
    concatenates_S128x128_S128x128_S128x128_S128x128_S128x512_d1 rfl 128 rfl (ix2 i κ) ⟨κ.val / 128, by omega⟩ rfl
    (ix2 i (⟨κ.val % 128, Nat.mod_lt _ (by decide)⟩ : Fin 128)) rfl
    (fun b hb => match b with | ⟨0, _⟩ => rfl | ⟨1, _⟩ => absurd rfl hb)

/-- The product of the queries and the keys at an element: a sum over the lanes. -/
theorem qk_apply (q : FVec Ideal S128x128 .bf16) (k : FVec Ideal S512x128 .bf16) (i : Fin 128) (κ : Fin 512) :
    matmul dot_S128x128_S512x128_S128x512_1_1_0_0_n_n none q k (constant S128x512 .f32 0x00000000#32) (ix2 i κ)
      = ∑ l : Fin 128, q (ix2 i l) * k (ix2 κ l) := by
  show FloatOps.matmul dot_S128x128_S512x128_S128x512_1_1_0_0_n_n none q k (constant S128x512 .f32 0x00000000#32) (ix2 i κ) = _
  rw [Ideal.matmul_apply]
  refine (congrArg (· + _) (show (constant S128x512 .f32 0x00000000#32 : FVec Ideal S128x512 .f32) (ix2 i κ) = (0 : EReal) from zero_f32)).trans ?_
  rw [zero_add, ← Equiv.sum_comp (contrEquiv1 dot_S128x128_S512x128_S128x512_1_1_0_0_n_n 128 rfl rfl).symm]
  refine Finset.sum_congr rfl fun l _ => ?_
  have hk := contrEquiv1_symm_val dot_S128x128_S512x128_S128x512_1_1_0_0_n_n 128 rfl rfl l
  generalize (contrEquiv1 dot_S128x128_S512x128_S128x512_1_1_0_0_n_n 128 rfl rfl).symm l = z at hk
  have el : dot_S128x128_S512x128_S128x512_1_1_0_0_n_n.lhsIdx (ix2 i κ) z = ix2 i l := funext fun a => Fin.ext (by
    match a with
    | ⟨0, _⟩ =>
      show (dot_S128x128_S512x128_S128x512_1_1_0_0_n_n.lhsIdx (ix2 i κ) z 0).val = i.val
      unfold DotDims.lhsIdx
      rw [dif_neg (show ¬ (0 : Fin S128x128.rank) ∈ dot_S128x128_S512x128_S128x512_1_1_0_0_n_n.lhsBatch by decide), dif_pos (show (0 : Fin S128x128.rank) ∈ dot_S128x128_S512x128_S128x512_1_1_0_0_n_n.lhsNonContracting by decide)]
      rfl
    | ⟨1, _⟩ => exact (dot_S128x128_S512x128_S128x512_1_1_0_0_n_n.lhsIdx_val_of_single rfl (ix2 i κ) z).trans hk)
  have er : dot_S128x128_S512x128_S128x512_1_1_0_0_n_n.rhsIdx (ix2 i κ) z = ix2 κ l := funext fun a => Fin.ext (by
    match a with
    | ⟨0, _⟩ =>
      show (dot_S128x128_S512x128_S128x512_1_1_0_0_n_n.rhsIdx (ix2 i κ) z 0).val = κ.val
      unfold DotDims.rhsIdx
      rw [dif_neg (show ¬ (0 : Fin S512x128.rank) ∈ dot_S128x128_S512x128_S128x512_1_1_0_0_n_n.rhsBatch by decide), dif_pos (show (0 : Fin S512x128.rank) ∈ dot_S128x128_S512x128_S128x512_1_1_0_0_n_n.rhsNonContracting by decide)]
      rfl
    | ⟨1, _⟩ => exact (dot_S128x128_S512x128_S128x512_1_1_0_0_n_n.rhsIdx_val_of_single rfl (ix2 i κ) z).trans hk)
  rw [el, er]

/-- The product of the weights and the values at an element: a sum over the keys. -/
theorem ev_apply (e : FVec Ideal S128x512 .bf16) (v : FVec Ideal S512x128 .bf16) (i l : Fin 128) :
    matmul dot_S128x512_S512x128_S128x128_1_0_0_1_n_n none e v (constant S128x128 .f32 0x00000000#32) (ix2 i l)
      = ∑ κ : Fin 512, e (ix2 i κ) * v (ix2 κ l) := by
  show FloatOps.matmul dot_S128x512_S512x128_S128x128_1_0_0_1_n_n none e v (constant S128x128 .f32 0x00000000#32) (ix2 i l) = _
  rw [Ideal.matmul_apply]
  refine (congrArg (· + _) (show (constant S128x128 .f32 0x00000000#32 : FVec Ideal S128x128 .f32) (ix2 i l) = (0 : EReal) from zero_f32)).trans ?_
  rw [zero_add, ← Equiv.sum_comp (contrEquiv1 dot_S128x512_S512x128_S128x128_1_0_0_1_n_n 512 rfl rfl).symm]
  refine Finset.sum_congr rfl fun κ _ => ?_
  have hk := contrEquiv1_symm_val dot_S128x512_S512x128_S128x128_1_0_0_1_n_n 512 rfl rfl κ
  generalize (contrEquiv1 dot_S128x512_S512x128_S128x128_1_0_0_1_n_n 512 rfl rfl).symm κ = z at hk
  have el : dot_S128x512_S512x128_S128x128_1_0_0_1_n_n.lhsIdx (ix2 i l) z = ix2 i κ := funext fun a => Fin.ext (by
    match a with
    | ⟨0, _⟩ =>
      show (dot_S128x512_S512x128_S128x128_1_0_0_1_n_n.lhsIdx (ix2 i l) z 0).val = i.val
      unfold DotDims.lhsIdx
      rw [dif_neg (show ¬ (0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
      rfl
    | ⟨1, _⟩ => exact (dot_S128x512_S512x128_S128x128_1_0_0_1_n_n.lhsIdx_val_of_single rfl (ix2 i l) z).trans hk)
  have er : dot_S128x512_S512x128_S128x128_1_0_0_1_n_n.rhsIdx (ix2 i l) z = ix2 κ l := funext fun a => Fin.ext (by
    match a with
    | ⟨0, _⟩ => exact (dot_S128x512_S512x128_S128x128_1_0_0_1_n_n.rhsIdx_val_of_single rfl (ix2 i l) z).trans hk
    | ⟨1, _⟩ =>
      show (dot_S128x512_S512x128_S128x128_1_0_0_1_n_n.rhsIdx (ix2 i l) z 1).val = l.val
      unfold DotDims.rhsIdx
      rw [dif_neg (show ¬ (1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
      rfl)
  rw [el, er]

/-- The 512 keys (or values) of a row, viewed with two axes. -/
theorem keys_apply (k : Vec Ideal S1x512x128 .bf16) (κ : Fin 512) (l : Fin 128) :
    (shapeCast S512x128 k shapeCasts_S1x512x128_S512x128 : FVec Ideal S512x128 .bf16) (ix2 κ l) = k (ix3 (0 : Fin 1) κ l) :=
  shapeCast_apply k shapeCasts_S1x512x128_S512x128 (ix2 κ l) (ix3 (0 : Fin 1) κ l)
    (by rewrite [Shape.rowMajor_val_two, Shape.rowMajor_val_three]; show (0 * 512 + κ.val) * 128 + l.val = κ.val * 128 + l.val; omega)

/-- A sum over 128 lanes of which only one head's count. -/
theorem sum_head (h : Fin 2) (f : Fin 128 → EReal) : (∑ l : Fin 128, if l.val / 64 = h.val then f l else 0) = ∑ d : Fin 64, f (lane h d) := by
  rw [← Finset.sum_filter]
  refine (Finset.sum_bij (fun (d : Fin 64) _ => lane h d) (fun d _ => ?_) (fun d _ d' _ e => ?_) (fun l hl => ?_) (fun d _ => rfl)).symm
  · rw [Finset.mem_filter]; refine ⟨Finset.mem_univ _, ?_⟩
    show (64 * h.val + d.val) / 64 = h.val
    omega
  · have := congrArg Fin.val e
    refine Fin.ext ?_
    simp only at this
    omega
  · rw [Finset.mem_filter] at hl
    have hl' := l.isLt
    refine ⟨⟨l.val % 64, Nat.mod_lt _ (by decide)⟩, Finset.mem_univ _, Fin.ext ?_⟩
    show 64 * h.val + l.val % 64 = l.val
    omega

/-- The scores of a row: head `h`, token `a`, key `κ`. -/
theorem scoresV_apply (q : Vec Ideal S1x64x128 .bf16) (k : Vec Ideal S1x512x128 .bf16) (b : Fin 4 → Vec Ideal S1x1x128x128 .f32) (h : Fin 2) (a : Fin 64) (κ : Fin 512) :
    scoresV q k b (ix4 (0 : Fin 1) (0 : Fin 1) (two h a) κ)
      = (∑ d : Fin 64, q (ix3 (0 : Fin 1) a (lane h d)) * k (ix3 (0 : Fin 1) κ (lane h d)))
        + b ⟨κ.val / 128, by omega⟩ (ix4 (0 : Fin 1) (0 : Fin 1) (two h a) (⟨κ.val % 128, Nat.mod_lt _ (by decide)⟩ : Fin 128)) := by
  unfold scoresV
  rw [shapeCast_apply _ shapeCasts_S128x512_S1x1x128x512 (ix4 (0 : Fin 1) (0 : Fin 1) (two h a) κ) (ix2 (two h a) κ)
    (by rewrite [Shape.rowMajor_val_two, Shape.rowMajor_val_four]; show (two h a).val * 512 + κ.val = ((0 * 1 + 0) * 128 + (two h a).val) * 512 + κ.val; omega)]
  rw [addf_apply, qk_apply, biasRow_apply]
  refine congrArg (· + _) ?_
  refine Eq.trans ?_ (sum_head h fun l => (q (ix3 (0 : Fin 1) a l) : EReal) * k (ix3 (0 : Fin 1) κ l))
  refine Finset.sum_congr rfl fun l _ => ?_
  rw [stack_apply, keys_apply]
  split
  · rfl
  · exact zero_mul _

/-- A slot's scores viewed with two axes. -/
theorem slot_apply {e : EltTy} (s : Vec Ideal S1x1x128x512 e) (i : Fin 128) (κ : Fin 512) :
    shapeCast S128x512 s shapeCasts_S1x1x128x512_S128x512 (ix2 i κ) = s (ix4 (0 : Fin 1) (0 : Fin 1) i κ) :=
  shapeCast_apply s shapeCasts_S1x1x128x512_S128x512 (ix2 i κ) (ix4 (0 : Fin 1) (0 : Fin 1) i κ)
    (by rewrite [Shape.rowMajor_val_two, Shape.rowMajor_val_four]; show ((0 * 1 + 0) * 128 + i.val) * 512 + κ.val = i.val * 512 + κ.val; omega)

/-- A column of 128 read back as a vector. -/
theorem col_apply (x : FVec Ideal S128 .f32) (i : Fin 128) (z : Fin 1) : (shapeCast S128x1 x shapeCasts_S128_S128x1 : FVec Ideal S128x1 .f32) (ix2 i z) = x (ix1 i) :=
  shapeCast_apply x shapeCasts_S128_S128x1 (ix2 i z) (ix1 i)
    (by rewrite [Shape.rowMajor_val_two, Shape.rowMajor_val_one]; show i.val = i.val * 1 + z.val; omega)

theorem lift_key (i : Fin 128) (κ : Fin 512) : reduces_S128x512_S128.lift (ix1 i) κ = ix2 i κ := funext fun a => Fin.ext (match a with | ⟨0, _⟩ => rfl | ⟨1, _⟩ => rfl)

/-- The exponentials at an element. -/
theorem expV_apply (s : Vec Ideal S1x1x128x512 .f32) (i : Fin 128) (κ : Fin 512) :
    expV s (ix2 i κ) = Ideal.exp2 ((s (ix4 (0 : Fin 1) (0 : Fin 1) i κ) : EReal) - top fun κ => (s (ix4 (0 : Fin 1) (0 : Fin 1) i κ) : EReal)) := by
  unfold expV
  show Ideal.exp2 ((shapeCast S128x512 s shapeCasts_S1x1x128x512_S128x512 : FVec Ideal S128x512 .f32) (ix2 i κ)
    - broadcastTo S128x512 (shapeCast S128x1 _ shapeCasts_S128_S128x1 : FVec Ideal S128x1 .f32) broadcasts_S128x1_S128x512 (ix2 i κ) : EReal) = _
  rw [slot_apply, broadcastTo_apply _ broadcasts_S128x1_S128x512 (ix2 i κ) (ix2 i (0 : Fin 1))
    (fun a => match a with
      | ⟨0, _⟩ => by show i.val = if (128 : ℕ) = 1 then 0 else i.val; rw [if_neg (by decide)]
      | ⟨1, _⟩ => by show 0 = if (1 : ℕ) = 1 then 0 else κ.val; rw [if_pos rfl]), col_apply]
  refine congrArg (fun z : EReal => Ideal.exp2 ((s (ix4 (0 : Fin 1) (0 : Fin 1) i κ) : EReal) - z)) ?_
  refine (Ideal.multiReduction_maximumf_single _ _ _ _ _ _).trans ?_
  unfold top
  refine congrArg₂ (fun (b : EReal) (f : Fin 512 → EReal) => (Finset.univ : Finset (Fin 512)).fold max b f) ?_ ?_
  · show Ideal.ieee 8 23 0xFF800000#32 = ⊥
    simp [Ideal.ieee]
  · funext κ
    show (shapeCast S128x512 s shapeCasts_S1x1x128x512_S128x512 : FVec Ideal S128x512 .f32) (reduces_S128x512_S128.lift (ix1 i) κ) = _
    exact (congrArg (shapeCast S128x512 s shapeCasts_S1x1x128x512_S128x512 : FVec Ideal S128x512 .f32) (lift_key i κ)).trans (slot_apply s i κ)

/-- The stored exponentials at an element. -/
theorem expOut_apply (s : Vec Ideal S1x1x128x512 .f32) (i : Fin 128) (κ : Fin 512) :
    expOut s (ix4 (0 : Fin 1) (0 : Fin 1) i κ) = expV s (ix2 i κ) := by
  unfold expOut
  exact shapeCast_apply _ shapeCasts_S128x512_S1x1x128x512 (ix4 (0 : Fin 1) (0 : Fin 1) i κ) (ix2 i κ)
    (by rewrite [Shape.rowMajor_val_two, Shape.rowMajor_val_four]; show i.val * 512 + κ.val = ((0 * 1 + 0) * 128 + i.val) * 512 + κ.val; omega)

theorem one_f32 : (Scalar.ofBits .f32 0x3F800000#32 : Ideal .f32) = (1 : EReal) := by
  show Ideal.ieee 8 23 0x3F800000#32 = 1
  simp [Ideal.ieee]
  rw [← EReal.coe_mul]
  norm_num

/-- The stored reciprocals at an element. -/
theorem recOut_apply (s : Vec Ideal S1x1x128x512 .f32) (i l : Fin 128) :
    recOut s (ix4 (0 : Fin 1) (0 : Fin 1) i l) = Ideal.div 1 (∑ κ : Fin 512, (expV s (ix2 i κ) : EReal)) := by
  unfold recOut
  rw [shapeCast_apply _ shapeCasts_S128x128_S1x1x128x128 (ix4 (0 : Fin 1) (0 : Fin 1) i l) (ix2 i l)
    (by rewrite [Shape.rowMajor_val_two, Shape.rowMajor_val_four]; show i.val * 128 + l.val = ((0 * 1 + 0) * 128 + i.val) * 128 + l.val; omega)]
  rw [broadcastTo_apply _ broadcasts_S128x1_S128x128 (ix2 i l) (ix2 i (0 : Fin 1))
    (fun a => match a with
      | ⟨0, _⟩ => by show i.val = if (128 : ℕ) = 1 then 0 else i.val; rw [if_neg (by decide)]
      | ⟨1, _⟩ => by show 0 = if (1 : ℕ) = 1 then 0 else l.val; rw [if_pos rfl])]
  rw [shapeCast_apply _ shapeCasts_S128x1_S128x1 (ix2 i (0 : Fin 1)) (ix2 i (0 : Fin 1)) rfl]
  rw [divf_apply, col_apply]
  refine congrArg₂ Ideal.div one_f32 ((Ideal.multiReduction_add_single _ _ _ _ _ _).trans (Finset.sum_congr rfl fun κ _ => congrArg (expV s) (lift_key i κ)))

/-- An element of a row of the result, from what the phases stored. -/
theorem valuesV_apply (v : Vec Ideal S1x512x128 .bf16) (e : Vec Ideal S1x1x128x512 .bf16) (r : Vec Ideal S1x1x128x128 .f32) (a : Fin 64) (h : Fin 2) (d : Fin 64) :
    valuesV v e r (ix3 (0 : Fin 1) a (lane h d))
      = (∑ κ : Fin 512, (e (ix4 (0 : Fin 1) (0 : Fin 1) (two h a) κ) : EReal) * v (ix3 (0 : Fin 1) κ (lane h d))) * r (ix4 (0 : Fin 1) (0 : Fin 1) (two h a) (lane h d)) := by
  have hmix : ∀ i l : Fin 128, mixV v e r (ix2 i l)
      = (∑ κ : Fin 512, (e (ix4 (0 : Fin 1) (0 : Fin 1) i κ) : EReal) * v (ix3 (0 : Fin 1) κ l)) * r (ix4 (0 : Fin 1) (0 : Fin 1) i l) := fun i l => by
    unfold mixV
    rw [mulf_apply, ev_apply, strip_apply]
    refine congrArg (· * _) (Finset.sum_congr rfl fun κ _ => ?_)
    rw [slot_apply, keys_apply]
  rw [← hmix]
  unfold valuesV
  rw [shapeCast_apply _ shapeCasts_S64x128_S1x64x128 (ix3 (0 : Fin 1) a (lane h d)) (ix2 a (lane h d))
    (by rewrite [Shape.rowMajor_val_two, Shape.rowMajor_val_three]; show a.val * 128 + (lane h d).val = (0 * 64 + a.val) * 128 + (lane h d).val; omega)]
  generalize mixV v e r = x
  show Scalar.select (headMask (ix2 a (lane h d))) (extractStridedSlice S64x128 ![0, 0] x slices_S128x128_o0_0_S64x128 (ix2 a (lane h d)))
    (extractStridedSlice S64x128 ![64, 0] x slices_S128x128_o64_0_S64x128 (ix2 a (lane h d))) = _
  rw [headMask_apply,
    extractStridedSlice_apply ![0, 0] x slices_S128x128_o0_0_S64x128 (ix2 a (lane h d)) (ix2 (two 0 a) (lane h d))
      (fun b => match b with | ⟨0, _⟩ => by show 64 * 0 + a.val = 0 + a.val; omega | ⟨1, _⟩ => by show (lane h d).val = 0 + (lane h d).val; omega),
    extractStridedSlice_apply ![64, 0] x slices_S128x128_o64_0_S64x128 (ix2 a (lane h d)) (ix2 (two 1 a) (lane h d))
      (fun b => match b with | ⟨0, _⟩ => by show 64 * 1 + a.val = 64 + a.val; omega | ⟨1, _⟩ => by show (lane h d).val = 0 + (lane h d).val; omega)]
  match h with
  | ⟨0, _⟩ => rw [if_pos (show 64 * 0 + d.val < 64 by omega)]; rfl
  | ⟨1, _⟩ => rw [if_neg (show ¬ 64 * 1 + d.val < 64 by omega)]; rfl

/-- The score of token `a` of row `r`, head `h`, at key `κ`, from the blocks. -/
def scoreAt (x : Ins Ideal) (r : Fin 128) (h : Fin 2) (a : Fin 64) (κ : Fin 512) : EReal :=
  (∑ d : Fin 64, (x.q (ix3 (0 : Fin 1) (⟨64 * r.val + a.val, by omega⟩ : Fin 8192) (lane h d)) : EReal)
      * x.k (ix3 (0 : Fin 1) (⟨64 * min (r.val - 4) 120 + κ.val, by omega⟩ : Fin 8192) (lane h d)))
    + x.b (ix4 (0 : Fin 1) (⟨shift r.val + 2 * (κ.val / 128), by have := shift_le r.val; omega⟩ : Fin 14) (two h a) (⟨κ.val % 128, Nat.mod_lt _ (by decide)⟩ : Fin 128))

theorem rowScores_apply (x : Ins Ideal) (r : Fin 128) (h : Fin 2) (a : Fin 64) (κ : Fin 512) :
    rowScores x r (ix4 (0 : Fin 1) (0 : Fin 1) (two h a) κ) = scoreAt x r h a κ := by
  unfold rowScores scoreAt
  rw [scoresV_apply]
  refine congrArg₂ (fun y z : EReal => y + z) (Finset.sum_congr rfl fun d _ => congrArg₂ (fun y z : EReal => y * z) (congrArg x.q ?_) (congrArg x.k ?_)) (congrArg x.b ?_)
  · funext b; refine Fin.ext ?_
    match b with
    | ⟨0, _⟩ => rfl
    | ⟨1, _⟩ => show 64 * r.val + 1 * a.val = 64 * r.val + a.val; omega
    | ⟨2, _⟩ => show 0 + 1 * (lane h d).val = (lane h d).val; omega
  · funext b; refine Fin.ext ?_
    match b with
    | ⟨0, _⟩ => rfl
    | ⟨1, _⟩ => show 64 * min (r.val - 4) 120 + 1 * κ.val = 64 * min (r.val - 4) 120 + κ.val; omega
    | ⟨2, _⟩ => show 0 + 1 * (lane h d).val = (lane h d).val; omega
  · funext b; refine Fin.ext ?_
    match b with
    | ⟨0, _⟩ => rfl
    | ⟨1, _⟩ => show shift r.val + 2 * (κ.val / 128) + 1 * 0 = shift r.val + 2 * (κ.val / 128); omega
    | ⟨2, _⟩ => show 0 + 1 * (two h a).val = (two h a).val; omega
    | ⟨3, _⟩ => show 0 + 1 * (κ.val % 128) = κ.val % 128; omega

/-- An element of row `r` of the result: the softmax of the row's scores over its values. -/
theorem rowVal_apply (x : Ins Ideal) (r : Fin 128) (a : Fin 64) (h : Fin 2) (d : Fin 64) :
    rowVal x r (ix3 (0 : Fin 1) a (lane h d))
      = (∑ κ : Fin 512, Ideal.exp2 (scoreAt x r h a κ - top (scoreAt x r h a))
            * (x.v (ix3 (0 : Fin 1) (⟨64 * min (r.val - 4) 120 + κ.val, by omega⟩ : Fin 8192) (lane h d)) : EReal))
        * Ideal.div 1 (∑ κ : Fin 512, Ideal.exp2 (scoreAt x r h a κ - top (scoreAt x r h a))) := by
  unfold rowVal
  rw [valuesV_apply, recOut_apply]
  have he : ∀ κ, expV (rowScores x r) (ix2 (two h a) κ) = Ideal.exp2 (scoreAt x r h a κ - top (scoreAt x r h a)) := fun κ => by
    rw [expV_apply]; simp only [rowScores_apply]
  simp only [expOut_apply, he]
  refine congrArg (· * _) (Finset.sum_congr rfl fun κ _ => congrArg (fun z : EReal => _ * z) (congrArg x.v ?_))
  funext b; refine Fin.ext ?_
  match b with
  | ⟨0, _⟩ => rfl
  | ⟨1, _⟩ => show 64 * min (r.val - 4) 120 + 1 * κ.val = 64 * min (r.val - 4) 120 + κ.val; omega
  | ⟨2, _⟩ => show 0 + 1 * (lane h d).val = (lane h d).val; omega

end Cert.KernelIdeal.Na
end
-- ==== Proof.Na.RefIndex.lean ====
module

public import proofs.«01_k».proof.Proof.Gen.ReferenceIdeal.Read
public import Idealize.ShloMosaic.Lib.ValueIdxRank6

/-!
# Which elements the reference reads

The rows of keys a row of queries attends to, the columns inside a token's window, and the bias's row and column, as
natural numbers; then the gathers, read at an index.
-/

@[expose] public section

set_option maxRecDepth 65536

noncomputable section

namespace Cert.ReferenceIdeal.Na

open Cert.ReferenceIdeal Cert.ReferenceIdeal.Gen Cert.ReferenceIdeal.Read
open Idealize.ShloMosaic Idealize.ShloMosaic.ValueIdx

variable {F : FTy → Type} [FloatOps F]

/-- The first of the eight rows of keys of row `r`. -/
abbrev firstRow (r : Fin 128) : ℕ := min (r.val - 4) 120
/-- The bias row of the `i`-th row of keys. -/
abbrev biasRow (r : Fin 128) (i : Fin 8) : ℕ := 7 + firstRow r - r.val + i.val
/-- The bias column of key column `j` for token `x`. -/
abbrev biasCol (x j : Fin 64) : ℕ := min (j.val + 15 - x.val) 30
/-- Key column `j` is inside the window of token `x`. -/
abbrev inside (x j : Fin 64) : Prop := min (x.val - 8) 48 ≤ j.val ∧ j.val < min (x.val - 8) 48 + 16

theorem key_lt (r : Fin 128) (i : Fin 8) : firstRow r + i.val < 128 := by unfold firstRow; omega
theorem biasRow_lt (r : Fin 128) (i : Fin 8) : biasRow r i < 15 := by unfold biasRow firstRow; omega
theorem biasCol_lt (x j : Fin 64) : biasCol x j < 31 := by unfold biasCol; omega

theorem firstRow_word : ∀ r : Fin 128, IntOp.minsi 120#32 (IntOp.maxsi 0#32 (IntOp.subi (BitVec.ofNat 32 r.val) 4#32)) = BitVec.ofNat 32 (firstRow r) := by
  decide +kernel

theorem keyRow_word (r : Fin 128) (i : Fin 8) : val_main_v14 (F := F) (ix2 r i) = BitVec.ofNat 32 (firstRow r + i.val) := by
  have h : val_main_v14 (F := F) (ix2 r i) = IntOp.addi (IntOp.minsi 120#32 (IntOp.maxsi 0#32 (IntOp.subi (BitVec.ofNat 32 r.val) 4#32))) (BitVec.ofNat 32 i.val) := rfl
  rw [h, firstRow_word]
  exact (BitVec.ofNat_add _ _).symm

theorem wrap_pos : ∀ n : Fin 128, ∀ k : BitVec 32, Scalar.select (IntOp.cmpi .slt (BitVec.ofNat 32 n.val) 0#32) k (BitVec.ofNat 32 n.val) = BitVec.ofNat 32 n.val := by
  intro n k
  have h : ∀ n : Fin 128, IntOp.cmpi .slt (BitVec.ofNat 32 n.val) 0#32 = 0#1 := by decide +kernel
  rw [h n]
  rfl

theorem word_toNat : ∀ n : Fin 128, (BitVec.ofNat 32 n.val).toInt.toNat = n.val := by decide +kernel

theorem keyRow_v20 (r : Fin 128) (i : Fin 8) (z : Fin 1) : val_main_v20 (F := F) (ix3 r i z) = BitVec.ofNat 32 (firstRow r + i.val) := by
  have h : val_main_v20 (F := F) (ix3 r i z) = Scalar.select (IntOp.cmpi .slt (val_main_v14 (F := F) (ix2 r i)) 0#32) (IntOp.addi (val_main_v14 (F := F) (ix2 r i)) 128#32) (val_main_v14 (F := F) (ix2 r i)) := by
    rw [val_main_v20_apply]
    rw [show idx_main_v20 (ix3 r i z) = ix2 r i from funext fun a => Fin.ext (match a with | ⟨0, _⟩ => rfl | ⟨1, _⟩ => rfl)]
    rfl
  rw [h, keyRow_word]
  exact wrap_pos ⟨firstRow r + i.val, key_lt r i⟩ _

theorem keyRow_v27 (r : Fin 128) (i : Fin 8) (z : Fin 1) : val_main_v27 (F := F) (ix3 r i z) = BitVec.ofNat 32 (firstRow r + i.val) :=
  keyRow_v20 r i z

theorem biasRow_word (r : Fin 128) (i : Fin 8) (z : Fin 1) : val_main_v67 (F := F) (ix3 r i z) = BitVec.ofNat 32 (biasRow r i) := by
  have h53 : val_main_v53 (F := F) (ix2 r i) = BitVec.ofNat 32 (biasRow r i) := by
    have h : val_main_v53 (F := F) (ix2 r i) = IntOp.addi (IntOp.subi (val_main_v14 (F := F) (ix2 r i)) (BitVec.ofNat 32 r.val)) 7#32 := rfl
    rw [h, keyRow_word]
    have : ∀ (r : Fin 128) (i : Fin 8), IntOp.addi (IntOp.subi (BitVec.ofNat 32 (firstRow r + i.val)) (BitVec.ofNat 32 r.val)) 7#32 = BitVec.ofNat 32 (biasRow r i) := by decide +kernel
    exact this r i
  have h : val_main_v67 (F := F) (ix3 r i z) = Scalar.select (IntOp.cmpi .slt (val_main_v53 (F := F) (ix2 r i)) 0#32) (IntOp.addi (val_main_v53 (F := F) (ix2 r i)) 15#32) (val_main_v53 (F := F) (ix2 r i)) := by
    rw [val_main_v67_apply]
    rw [show idx_main_v67 (ix3 r i z) = ix2 r i from funext fun a => Fin.ext (match a with | ⟨0, _⟩ => rfl | ⟨1, _⟩ => rfl)]
    rfl
  rw [h, h53]
  exact wrap_pos ⟨biasRow r i, (biasRow_lt r i).trans (by decide)⟩ _

theorem biasCol_word (x j : Fin 64) (z : Fin 1) : val_main_call3_v5 (F := F) (ix3 x j z) = BitVec.ofNat 32 (biasCol x j) := by
  have h61 : val_main_v61 (F := F) (ix2 x j) = BitVec.ofNat 32 (biasCol x j) := by
    have h : val_main_v61 (F := F) (ix2 x j) = IntOp.addi (IntOp.minsi 15#32 (IntOp.maxsi 4294967281#32 (IntOp.subi (BitVec.ofNat 32 j.val) (BitVec.ofNat 32 x.val)))) 15#32 := rfl
    rw [h]
    have : ∀ x j : Fin 64, IntOp.addi (IntOp.minsi 15#32 (IntOp.maxsi 4294967281#32 (IntOp.subi (BitVec.ofNat 32 j.val) (BitVec.ofNat 32 x.val)))) 15#32 = BitVec.ofNat 32 (biasCol x j) := by decide +kernel
    exact this x j
  have h : val_main_call3_v5 (F := F) (ix3 x j z) = Scalar.select (IntOp.cmpi .slt (val_main_v61 (F := F) (ix2 x j)) 0#32) (IntOp.addi (val_main_v61 (F := F) (ix2 x j)) 31#32) (val_main_v61 (F := F) (ix2 x j)) := by
    rw [val_main_call3_v5_apply]
    rw [show idx_main_call3_v5 (ix3 x j z) = ix2 x j from funext fun a => Fin.ext (match a with | ⟨0, _⟩ => rfl | ⟨1, _⟩ => rfl)]
    rfl
  rw [h, h61]
  exact wrap_pos ⟨biasCol x j, (biasCol_lt x j).trans (by decide)⟩ _

theorem inside_word (x j : Fin 64) : val_main_v48 (F := F) (ix2 x j) = if inside x j then 1#1 else 0#1 := by
  have h : val_main_v48 (F := F) (ix2 x j) = IntOp.andi
      (IntOp.cmpi .sge (BitVec.ofNat 32 j.val) (IntOp.minsi 48#32 (IntOp.maxsi 0#32 (IntOp.subi (BitVec.ofNat 32 x.val) 8#32))))
      (IntOp.cmpi .slt (BitVec.ofNat 32 j.val) (IntOp.addi (IntOp.minsi 48#32 (IntOp.maxsi 0#32 (IntOp.subi (BitVec.ofNat 32 x.val) 8#32))) 16#32)) := rfl
  rw [h]
  have : ∀ x j : Fin 64, IntOp.andi
      (IntOp.cmpi .sge (BitVec.ofNat 32 j.val) (IntOp.minsi 48#32 (IntOp.maxsi 0#32 (IntOp.subi (BitVec.ofNat 32 x.val) 8#32))))
      (IntOp.cmpi .slt (BitVec.ofNat 32 j.val) (IntOp.addi (IntOp.minsi 48#32 (IntOp.maxsi 0#32 (IntOp.subi (BitVec.ofNat 32 x.val) 8#32))) 16#32))
      = if inside x j then 1#1 else 0#1 := by decide +kernel
  exact this x j

/-- The bias column is always in range. -/
theorem inRange_word (x j : Fin 64) : val_main_call3_v12 (F := F) (ix2 x j) = 1#1 := by
  have h11 : ∀ z : Fin 1, val_main_call3_v11 (F := F) (ix3 x j z) = 1#1 := fun z => by
    have h : val_main_call3_v11 (F := F) (ix3 x j z) = IntOp.andi (IntOp.cmpi .sge (val_main_call3_v5 (F := F) (ix3 x j z)) 0#32) (IntOp.cmpi .sle (val_main_call3_v5 (F := F) (ix3 x j z)) 30#32) := rfl
    rw [h, biasCol_word]
    have : ∀ n : Fin 31, IntOp.andi (IntOp.cmpi .sge (BitVec.ofNat 32 n.val) 0#32) (IntOp.cmpi .sle (BitVec.ofNat 32 n.val) 30#32) = 1#1 := by decide +kernel
    exact this ⟨biasCol x j, biasCol_lt x j⟩
  unfold val_main_call3_v12
  rw [Host.reduce_eq_fold_single IntOp.andi _ _ reducesTo_S64x64x1_S64x64_d2 (by decide) h_S_ (ix2 x j)]
  refine (congrArg (fun u : Finset (Fin 1) => u.fold IntOp.andi _ _) (Finset.univ_unique)).trans ?_
  refine Finset.fold_singleton.trans ?_
  refine (congrArg (fun z : BitVec 1 => IntOp.andi z 1#1) (Eq.trans (congrArg (val_main_call3_v11 (F := F)) ?_) (h11 0))).trans rfl
  exact funext fun a => Fin.ext (match a with | ⟨0, _⟩ => rfl | ⟨1, _⟩ => rfl | ⟨2, _⟩ => rfl)

/-- The rows of keys, read by their number. -/
theorem keyRows_apply (y : FVec F S12x128x64x12x64 .f32) (w : IVec S128x8x1 32)
    (hw : ∀ r i, w (ix3 r i 0) = BitVec.ofNat 32 (firstRow r + i.val))
    (b : Fin 12) (r : Fin 128) (i : Fin 8) (j : Fin 64) (n : Fin 12) (d : Fin 64) :
    Host.gather gather_S12x128x64x12x64_S128x8x1_S12x128x8x64x12x64_0345_1_n_n_1_2_121641264 y w (ix6 b r i j n d)
      = y (ix5 b (⟨firstRow r + i.val, key_lt r i⟩ : Fin 128) j n d) := by
  unfold Host.gather
  refine congrArg y (funext fun a => Fin.ext ?_)
  have hs : gather_S12x128x64x12x64_S128x8x1_S12x128x8x64x12x64_0345_1_n_n_1_2_121641264.start (ix6 b r i j n d) w 1 = firstRow r + i.val := by
    unfold GatherDims.start
    rw [dif_pos (show (1 : Fin S12x128x64x12x64.rank) ∈ gather_S12x128x64x12x64_S128x8x1_S12x128x8x64x12x64_0345_1_n_n_1_2_121641264.startIndexMap from List.mem_singleton.mpr rfl)]
    rw [show gather_S12x128x64x12x64_S128x8x1_S12x128x8x64x12x64_0345_1_n_n_1_2_121641264.siIdx (ix6 b r i j n d) ⟨List.idxOf (1 : Fin S12x128x64x12x64.rank) gather_S12x128x64x12x64_S128x8x1_S12x128x8x64x12x64_0345_1_n_n_1_2_121641264.startIndexMap,
        List.idxOf_lt_length_iff.2 (List.mem_singleton.mpr rfl)⟩ = ix3 r i 0 from funext fun b => Fin.ext (match b with | ⟨0, _⟩ => rfl | ⟨1, _⟩ => rfl | ⟨2, _⟩ => rfl), hw,
      word_toNat ⟨firstRow r + i.val, key_lt r i⟩]
    show min (firstRow r + i.val) (128 - 1) = _
    have := key_lt r i; omega
  match a with
  | ⟨0, _⟩ => show 0 + 0 + b.val = b.val; omega
  | ⟨1, _⟩ => exact hs
  | ⟨2, _⟩ => show 0 + 0 + j.val = j.val; omega
  | ⟨3, _⟩ => show 0 + 0 + n.val = n.val; omega
  | ⟨4, _⟩ => show 0 + 0 + d.val = d.val; omega

/-- The bias's rows, read by their number. -/
theorem biasRows_apply (y : FVec F S12x15x31 .f32) (w : IVec S128x8x1 32)
    (hw : ∀ r i, w (ix3 r i 0) = BitVec.ofNat 32 (biasRow r i))
    (n : Fin 12) (r : Fin 128) (i : Fin 8) (c : Fin 31) :
    Host.gather gather_S12x15x31_S128x8x1_S12x128x8x31_03_1_n_n_1_2_12131 y w (ix4 n r i c) = y (ix3 n (⟨biasRow r i, biasRow_lt r i⟩ : Fin 15) c) := by
  unfold Host.gather
  refine congrArg y (funext fun a => Fin.ext ?_)
  have hs : gather_S12x15x31_S128x8x1_S12x128x8x31_03_1_n_n_1_2_12131.start (ix4 n r i c) w 1 = biasRow r i := by
    unfold GatherDims.start
    rw [dif_pos (show (1 : Fin S12x15x31.rank) ∈ gather_S12x15x31_S128x8x1_S12x128x8x31_03_1_n_n_1_2_12131.startIndexMap from List.mem_singleton.mpr rfl)]
    rw [show gather_S12x15x31_S128x8x1_S12x128x8x31_03_1_n_n_1_2_12131.siIdx (ix4 n r i c) ⟨List.idxOf (1 : Fin S12x15x31.rank) gather_S12x15x31_S128x8x1_S12x128x8x31_03_1_n_n_1_2_12131.startIndexMap,
        List.idxOf_lt_length_iff.2 (List.mem_singleton.mpr rfl)⟩ = ix3 r i 0 from funext fun b => Fin.ext (match b with | ⟨0, _⟩ => rfl | ⟨1, _⟩ => rfl | ⟨2, _⟩ => rfl), hw,
      word_toNat ⟨biasRow r i, (biasRow_lt r i).trans (by decide)⟩]
    show min (biasRow r i) (15 - 1) = _
    have := biasRow_lt r i; omega
  match a with
  | ⟨0, _⟩ => show 0 + 0 + n.val = n.val; omega
  | ⟨1, _⟩ => exact hs
  | ⟨2, _⟩ => show 0 + 0 + c.val = c.val; omega

/-- The bias's columns, read by their number. -/
theorem biasCols_apply (y : FVec F S12x128x8x31 .f32) (w : IVec S64x64x1 32)
    (hw : ∀ x j, w (ix3 x j 0) = BitVec.ofNat 32 (biasCol x j))
    (n : Fin 12) (r : Fin 128) (i : Fin 8) (x j : Fin 64) :
    Host.gather gather_S12x128x8x31_S64x64x1_S12x128x8x64x64_012_3_n_n_3_2_1212881 y w (ix5 n r i x j) = y (ix4 n r i (⟨biasCol x j, biasCol_lt x j⟩ : Fin 31)) := by
  unfold Host.gather
  refine congrArg y (funext fun a => Fin.ext ?_)
  have hs : gather_S12x128x8x31_S64x64x1_S12x128x8x64x64_012_3_n_n_3_2_1212881.start (ix5 n r i x j) w 3 = biasCol x j := by
    unfold GatherDims.start
    rw [dif_pos (show (3 : Fin S12x128x8x31.rank) ∈ gather_S12x128x8x31_S64x64x1_S12x128x8x64x64_012_3_n_n_3_2_1212881.startIndexMap from List.mem_singleton.mpr rfl)]
    rw [show gather_S12x128x8x31_S64x64x1_S12x128x8x64x64_012_3_n_n_3_2_1212881.siIdx (ix5 n r i x j) ⟨List.idxOf (3 : Fin S12x128x8x31.rank) gather_S12x128x8x31_S64x64x1_S12x128x8x64x64_012_3_n_n_3_2_1212881.startIndexMap,
        List.idxOf_lt_length_iff.2 (List.mem_singleton.mpr rfl)⟩ = ix3 x j 0 from funext fun b => Fin.ext (match b with | ⟨0, _⟩ => rfl | ⟨1, _⟩ => rfl | ⟨2, _⟩ => rfl), hw,
      word_toNat ⟨biasCol x j, (biasCol_lt x j).trans (by decide)⟩]
    show min (biasCol x j) (31 - 1) = _
    have := biasCol_lt x j; omega
  match a with
  | ⟨0, _⟩ => show 0 + 0 + n.val = n.val; omega
  | ⟨1, _⟩ => show 0 + 0 + r.val = r.val; omega
  | ⟨2, _⟩ => show 0 + 0 + i.val = i.val; omega
  | ⟨3, _⟩ => exact hs

end Cert.ReferenceIdeal.Na
end
-- ==== Proof.Na.Table.lean ====
module

public import proofs.«01_k».proof.Proof.Na.HostDefs
public import proofs.«01_k».proof.Proof.Na.RefIndex
public import proofs.«01_k».proof.Proof.Na.Softmax
public import Idealize.ShloMosaic.PureOps.Ideal.Laws

/-!
# The table of biases, element by element

Over the extended reals: the table the host prepares holds, at a pair of heads, a pair of row offsets, a token and a
key column, the bias times `1 / log 2` inside the token's window, and `-∞` outside.
-/

@[expose] public section

set_option maxRecDepth 65536

noncomputable section

namespace Cert.KernelIdeal.Na

open Cert.KernelIdeal Cert.KernelIdeal.Gen
open Idealize.ShloMosaic Idealize.ShloMosaic.ValueIdx
open Cert.ReferenceIdeal.Na (inside biasCol biasCol_lt)

theorem one32 : (FloatOps.ofBits .f32 0x3F800000#32 : Ideal .f32) = (1 : EReal) := by
  show Ideal.ieee 8 23 0x3F800000#32 = _
  simp [Ideal.ieee]
  rw [← EReal.coe_mul]
  norm_num

theorem two32 : (FloatOps.ofBits .f32 0x40000000#32 : Ideal .f32) = ((2 : ℝ) : EReal) := by
  show Ideal.ieee 8 23 0x40000000#32 = _
  simp [Ideal.ieee]
  rw [← EReal.coe_mul]
  norm_num

theorem eighth32 : (FloatOps.ofBits .f32 0x3E000000#32 : Ideal .f32) = ((1 / 8 : ℝ) : EReal) := by
  show Ideal.ieee 8 23 0x3E000000#32 = _
  simp [Ideal.ieee]
  rw [← EReal.coe_mul]
  norm_num

theorem negInf32 : (FloatOps.ofBits .f32 0xFF800000#32 : Ideal .f32) = (⊥ : EReal) := by
  show Ideal.ieee 8 23 0xFF800000#32 = ⊥
  simp [Ideal.ieee]

theorem invLog_apply (j : S_.Idx) : (invLog (F := Ideal) j : EReal) = (invLog2 : EReal) := by
  have h : (invLog (F := Ideal) j : EReal) = Ideal.div (FloatOps.ofBits .f32 0x3F800000#32 : Ideal .f32) (Ideal.log (FloatOps.ofBits .f32 0x40000000#32 : Ideal .f32)) := rfl
  have hl : Ideal.log ((2 : ℝ) : EReal) = ((Real.log 2 : ℝ) : EReal) := if_neg (by norm_num)
  have hz : Real.log 2 ≠ 0 := (Real.log_pos one_lt_two).ne'
  rw [h, one32, two32, hl]
  unfold Ideal.div invLog2
  rw [if_neg (by exact_mod_cast hz), one_mul, ← EReal.coe_inv, one_div]

/-- A scaled query. -/
theorem scaled_apply (q : FVec Ideal S12x8192x768 .f32) (j : S12x8192x768.Idx) :
    (scaled q j : EReal) = (q j : EReal) * (((1 / 8 : ℝ) : EReal) * (invLog2 : EReal)) := by
  have h : (scaled q j : EReal) = (q j : EReal) * ((FloatOps.ofBits .f32 0x3E000000#32 : Ideal .f32) * (invLog (F := Ideal) (fun a => a.elim0) : EReal)) :=
    congrArg (fun z : EReal => (q j : EReal) * z)
      (broadcastInDim_apply ![] bcast_S_S12x8192x768 (mulf (constant S_ .f32 0x3E000000#32) (invLog (F := Ideal))) j (fun a => a.elim0) (fun a => a.elim0))
  rw [h, eighth32, invLog_apply]

/-- A scaled bias. -/
theorem biases_apply (b : FVec Ideal S12x15x31 .f32) (j : S12x15x31.Idx) : (biases b j : EReal) = (b j : EReal) * (invLog2 : EReal) := by
  have h : (biases b j : EReal) = (b j : EReal) * (invLog (F := Ideal) (fun a => a.elim0) : EReal) :=
    congrArg (fun z : EReal => (b j : EReal) * z)
      (broadcastInDim_apply ![] bcast_S_S12x15x31 (invLog (F := Ideal)) j (fun a => a.elim0) (fun a => a.elim0))
  rw [h, invLog_apply]

variable {F : FTy → Type} [FloatOps F]

/-- A repeated edge column. -/
theorem edge_apply (o : ℕ) (ho : o < 31) (hs : S12x15x31.Slices ![0, 0, o] S12x15x1) (b : FVec F S12x15x31 .f32) (n : Fin 12) (t : Fin 15) (i : Fin 48) :
    edge ![0, 0, o] hs b (ix3 n t i) = b (ix3 n t (⟨o, ho⟩ : Fin 31)) := by
  unfold edge
  rw [shapeCast_apply _ shapeCasts_S12x15x1x48_S12x15x48 (ix3 n t i) (ix4 n t (0 : Fin 1) i)
    (by
      rewrite [Shape.rowMajor_val_three, Shape.rowMajor_val_four]
      show ((n.val * 15 + t.val) * 1 + 0) * 48 + i.val = (n.val * 15 + t.val) * 48 + i.val
      omega)]
  rw [broadcastInDim_apply ![0, 1, 2] bcast_S12x15x1_S12x15x1x48_0_1_2 _ (ix4 n t (0 : Fin 1) i) (ix3 n t (0 : Fin 1))
    (fun a => match a with | ⟨0, _⟩ => rfl | ⟨1, _⟩ => rfl | ⟨2, _⟩ => rfl)]
  exact extractStridedSlice_apply _ b hs (ix3 n t (0 : Fin 1)) (ix3 n t (⟨o, ho⟩ : Fin 31))
    (fun a => match a with | ⟨0, _⟩ => (Nat.zero_add _).symm | ⟨1, _⟩ => (Nat.zero_add _).symm | ⟨2, _⟩ => (Nat.add_zero _).symm)

/-- A padded bias: the index, moved by 48, kept inside the row. -/
theorem padded_apply (b : FVec F S12x15x31 .f32) (n : Fin 12) (t : Fin 15) (i : Fin 127) :
    padded b (ix3 n t i) = b (ix3 n t (⟨min (i.val - 48) 30, by omega⟩ : Fin 31)) := by
  have hi := i.isLt
  unfold padded
  by_cases h0 : i.val < 48
  · refine Eq.trans (concatenate_apply_piece (t := S12x15x127) 2 _ _ (ix3 n t i) 0 (by simp) S12x15x48 _ rfl rfl 0 rfl
      (ix3 n t (⟨i.val, h0⟩ : Fin 48)) (fun a => match a with | ⟨0, _⟩ => fun _ => rfl | ⟨1, _⟩ => fun _ => rfl | ⟨2, _⟩ => fun h => absurd rfl h) (Nat.zero_add _)) ?_
    rw [edge_apply 0 (by decide)]
    exact congrArg (fun z => b (ix3 n t z)) (Fin.ext (by show 0 = min (i.val - 48) 30; omega))
  · by_cases h1 : i.val < 79
    · refine Eq.trans (concatenate_apply_piece (t := S12x15x127) 2 _ _ (ix3 n t i) 1 (by simp) S12x15x31 _ rfl rfl 48 rfl
        (ix3 n t (⟨i.val - 48, by omega⟩ : Fin 31)) (fun a => match a with | ⟨0, _⟩ => fun _ => rfl | ⟨1, _⟩ => fun _ => rfl | ⟨2, _⟩ => fun h => absurd rfl h)
        (by show 48 + (i.val - 48) = i.val; omega)) ?_
      exact congrArg (fun z => b (ix3 n t z)) (Fin.ext (by show i.val - 48 = min (i.val - 48) 30; omega))
    · refine Eq.trans (concatenate_apply_piece (t := S12x15x127) 2 _ _ (ix3 n t i) 2 (by simp) S12x15x48 _ rfl rfl 79 rfl
        (ix3 n t (⟨i.val - 79, by omega⟩ : Fin 48)) (fun a => match a with | ⟨0, _⟩ => fun _ => rfl | ⟨1, _⟩ => fun _ => rfl | ⟨2, _⟩ => fun h => absurd rfl h)
        (by show 79 + (i.val - 79) = i.val; omega)) ?_
      rw [edge_apply 30 (by decide)]
      exact congrArg (fun z => b (ix3 n t z)) (Fin.ext (by show 30 = min (i.val - 48) 30; omega))

/-- An element of a row of the matrices. -/
theorem matRow_apply (p : FVec F S12x15x127 .f32) (x : Fin 64) (n : Fin 12) (t : Fin 15) (j : Fin 64) :
    matRow p x (ix4 n t (0 : Fin 1) j) = p (ix3 n t (⟨63 - x.val + j.val, by omega⟩ : Fin 127)) := by
  unfold matRow
  rw [broadcastInDim_apply ![0, 1, 3] bcast_S12x15x64_S12x15x1x64_0_1_3 _ (ix4 n t (0 : Fin 1) j) (ix3 n t j)
    (fun a => match a with | ⟨0, _⟩ => rfl | ⟨1, _⟩ => rfl | ⟨2, _⟩ => rfl)]
  exact extractStridedSlice_apply _ p (slices_row x) (ix3 n t j) (ix3 n t (⟨63 - x.val + j.val, by omega⟩ : Fin 127))
    (fun a => match a with | ⟨0, _⟩ => (Nat.zero_add _).symm | ⟨1, _⟩ => (Nat.zero_add _).symm | ⟨2, _⟩ => rfl)

/-- An element of sixteen rows of the matrices. -/
theorem matRows_apply (p : FVec F S12x15x127 .f32) (g : Fin 4) (n : Fin 12) (t : Fin 15) (k : Fin 16) (j : Fin 64) :
    matRows p g (ix4 n t k j) = matRow p ⟨16 * g.val + k.val, by omega⟩ (ix4 n t (0 : Fin 1) j) := by
  unfold matRows
  exact concatenate_ofFn_apply (t := S12x15x16x64) (s₁ := S12x15x1x64) 2 (fun n : Fin 16 => matRow p ⟨16 * g.val + n.val, by omega⟩) _ rfl 1 rfl (ix4 n t k j) k
    (Nat.div_one _) (ix4 n t (0 : Fin 1) j) (Nat.mod_one _).symm
    (fun a => match a with | ⟨0, _⟩ => fun _ => rfl | ⟨1, _⟩ => fun _ => rfl | ⟨2, _⟩ => fun h => absurd rfl h | ⟨3, _⟩ => fun _ => rfl)

/-- An element of the matrices. -/
theorem mat_apply (p : FVec F S12x15x127 .f32) (n : Fin 12) (t : Fin 15) (x j : Fin 64) :
    mat p (ix4 n t x j) = p (ix3 n t (⟨63 - x.val + j.val, by omega⟩ : Fin 127)) := by
  have h : mat p (ix4 n t x j) = matRows p ⟨x.val / 16, by omega⟩ (ix4 n t (⟨x.val % 16, by omega⟩ : Fin 16) j) := by
    unfold mat
    exact concatenate_ofFn_apply (t := S12x15x64x64) (s₁ := S12x15x16x64) 2 (fun g : Fin 4 => matRows p g) _ rfl 16 rfl (ix4 n t x j) ⟨x.val / 16, by omega⟩
      rfl (ix4 n t (⟨x.val % 16, by omega⟩ : Fin 16) j) rfl
      (fun a => match a with | ⟨0, _⟩ => fun _ => rfl | ⟨1, _⟩ => fun _ => rfl | ⟨2, _⟩ => fun h => absurd rfl h | ⟨3, _⟩ => fun _ => rfl)
  rw [h, matRows_apply, matRow_apply]
  exact congrArg (fun z => p (ix3 n t z)) (Fin.ext (by show 63 - (16 * (x.val / 16) + x.val % 16) + j.val = 63 - x.val + j.val; omega))

/-- The table of windows. -/
theorem window_table : ∀ x j : Fin 64, lit0 (⟨64 * x.val + j.val, by omega⟩ : Fin 4096) = if inside x j then 1#1 else 0#1 := by
  decide +kernel

/-- An element of the table of windows, at every head and row offset. -/
theorem insideTable_apply (n : Fin 12) (t : Fin 15) (x j : Fin 64) : insideTable (ix4 n t x j) = if inside x j then 1#1 else 0#1 := by
  unfold insideTable
  rw [broadcastInDim_apply ![0, 1, 2, 3] bcast_S1x1x64x64_S12x15x64x64_0_1_2_3 _ (ix4 n t x j) (ix4 (0 : Fin 1) (0 : Fin 1) x j)
    (fun a => match a with | ⟨0, _⟩ => rfl | ⟨1, _⟩ => rfl | ⟨2, _⟩ => rfl | ⟨3, _⟩ => rfl)]
  rw [broadcastInDim_apply ![2, 3] bcast_S64x64_S1x1x64x64_2_3 _ (ix4 (0 : Fin 1) (0 : Fin 1) x j) (ix2 x j)
    (fun a => match a with | ⟨0, _⟩ => rfl | ⟨1, _⟩ => rfl)]
  rw [← window_table]
  refine congrArg lit0 (Fin.ext ?_)
  rw [Shape.rowMajor_val_two]
  show x.val * 64 + j.val = 64 * x.val + j.val
  omega

/-- An element of the masked matrices. -/
theorem masked_apply (y : FVec Ideal S12x15x64x64 .f32) (n : Fin 12) (t : Fin 15) (x j : Fin 64) :
    (masked y (ix4 n t x j) : EReal) = if inside x j then (y (ix4 n t x j) : EReal) else ⊥ := by
  have h : (masked y (ix4 n t x j) : EReal)
      = Scalar.select (insideTable (ix4 n t x j)) (y (ix4 n t x j)) (broadcastInDim S12x15x64x64 ![] bcast_S_S12x15x64x64 (constant (F := Ideal) S_ .f32 0xFF800000#32) (ix4 n t x j)) := rfl
  rw [h, insideTable_apply]
  split
  · rfl
  · exact (broadcastInDim_apply ![] bcast_S_S12x15x64x64 (constant (F := Ideal) S_ .f32 0xFF800000#32) (ix4 n t x j) (fun a => a.elim0) (fun a => a.elim0)).trans negInf32

/-- Two row offsets side by side. -/
theorem offsets_apply (y : FVec F S12x15x64x64 .f32) (n : Fin 12) (t : Fin 14) (x : Fin 64) (l : Fin 128) :
    concatenate S12x14x64x128 3
          [⟨S12x14x64x64, extractStridedSlice S12x14x64x64 ![0, 0, 0, 0] y slices_S12x15x64x64_S12x14x64x64_0_0_0_0⟩,
            ⟨S12x14x64x64, extractStridedSlice S12x14x64x64 ![0, 1, 0, 0] y slices_S12x15x64x64_S12x14x64x64_0_1_0_0⟩]
          concatenates_S12x14x64x64_S12x14x64x64_S12x14x64x128_d3 (ix4 n t x l)
      = y (ix4 n (⟨t.val + l.val / 64, by omega⟩ : Fin 15) x (⟨l.val % 64, by omega⟩ : Fin 64)) := by
  have hl := l.isLt
  by_cases h0 : l.val < 64
  · refine Eq.trans (concatenate_apply_piece (t := S12x14x64x128) 3 _ _ (ix4 n t x l) 0 (by simp) S12x14x64x64 _ rfl rfl 0 rfl
      (ix4 n t x (⟨l.val, h0⟩ : Fin 64)) (fun a => match a with | ⟨0, _⟩ => fun _ => rfl | ⟨1, _⟩ => fun _ => rfl | ⟨2, _⟩ => fun _ => rfl | ⟨3, _⟩ => fun h => absurd rfl h) (Nat.zero_add _)) ?_
    refine extractStridedSlice_apply _ y _ _ _ (fun a => ?_)
    match a with
    | ⟨0, _⟩ => exact (Nat.zero_add _).symm
    | ⟨1, _⟩ => show t.val + l.val / 64 = 0 + t.val; omega
    | ⟨2, _⟩ => exact (Nat.zero_add _).symm
    | ⟨3, _⟩ => show l.val % 64 = 0 + l.val; omega
  · refine Eq.trans (concatenate_apply_piece (t := S12x14x64x128) 3 _ _ (ix4 n t x l) 1 (by simp) S12x14x64x64 _ rfl rfl 64 rfl
      (ix4 n t x (⟨l.val - 64, by omega⟩ : Fin 64)) (fun a => match a with | ⟨0, _⟩ => fun _ => rfl | ⟨1, _⟩ => fun _ => rfl | ⟨2, _⟩ => fun _ => rfl | ⟨3, _⟩ => fun h => absurd rfl h)
      (by show 64 + (l.val - 64) = l.val; omega)) ?_
    refine extractStridedSlice_apply _ y _ _ _ (fun a => ?_)
    match a with
    | ⟨0, _⟩ => exact (Nat.zero_add _).symm
    | ⟨1, _⟩ => show t.val + l.val / 64 = 1 + t.val; omega
    | ⟨2, _⟩ => exact (Nat.zero_add _).symm
    | ⟨3, _⟩ => show l.val % 64 = 0 + (l.val - 64); omega

/-- An element of the table: pair `p`, head `h` of the pair, token `x`, pair of offsets `t`, column `l`. -/
theorem paired_apply (y : FVec F S12x15x64x64 .f32) (p : Fin 6) (t : Fin 14) (h : Fin 2) (x : Fin 64) (l : Fin 128) :
    paired y (ix4 p t (⟨64 * h.val + x.val, by omega⟩ : Fin 128) l)
      = y (ix4 (⟨2 * p.val + h.val, by omega⟩ : Fin 12) (⟨t.val + l.val / 64, by omega⟩ : Fin 15) x (⟨l.val % 64, by omega⟩ : Fin 64)) := by
  unfold paired
  rw [shapeCast_apply _ shapeCasts_S6x14x2x64x128_S6x14x128x128 _ (ix5 p t h x l)
    (by
      rewrite [Shape.rowMajor_val_five, Shape.rowMajor_val_four]
      show (((p.val * 14 + t.val) * 2 + h.val) * 64 + x.val) * 128 + l.val = ((p.val * 14 + t.val) * 128 + (64 * h.val + x.val)) * 128 + l.val
      omega)]
  rw [transpose_apply _ _ transposes_S6x2x14x64x128_S6x14x2x64x128_0_2_1_3_4 (ix5 p t h x l) (ix5 p h t x l)
    (fun a => match a with | ⟨0, _⟩ => rfl | ⟨1, _⟩ => rfl | ⟨2, _⟩ => rfl | ⟨3, _⟩ => rfl | ⟨4, _⟩ => rfl)]
  rw [shapeCast_apply _ shapeCasts_S12x14x64x128_S6x2x14x64x128 (ix5 p h t x l) (ix4 (⟨2 * p.val + h.val, by omega⟩ : Fin 12) t x l)
    (by
      rewrite [Shape.rowMajor_val_five, Shape.rowMajor_val_four]
      show (((2 * p.val + h.val) * 14 + t.val) * 64 + x.val) * 128 + l.val = (((p.val * 2 + h.val) * 14 + t.val) * 64 + x.val) * 128 + l.val
      omega)]
  exact offsets_apply y _ t x l

/-- An element of the table of biases. -/
theorem table_apply (b : FVec Ideal S12x15x31 .f32) (p : Fin 6) (t : Fin 14) (h : Fin 2) (x : Fin 64) (l : Fin 128) :
    (paired (masked (mat (padded (biases b)))) (ix4 p t (⟨64 * h.val + x.val, by omega⟩ : Fin 128) l) : EReal)
      = if inside x (⟨l.val % 64, by omega⟩ : Fin 64) then
          (b (ix3 (⟨2 * p.val + h.val, by omega⟩ : Fin 12) (⟨t.val + l.val / 64, by omega⟩ : Fin 15) (⟨biasCol x ⟨l.val % 64, by omega⟩, biasCol_lt x _⟩ : Fin 31)) : EReal) * (invLog2 : EReal)
        else ⊥ := by
  rw [paired_apply, masked_apply, mat_apply, padded_apply, biases_apply]
  refine if_congr Iff.rfl (congrArg (fun z => (b z : EReal) * (invLog2 : EReal)) (congrArg (fun z : Fin 31 => ix3 (⟨2 * p.val + h.val, by omega⟩ : Fin 12) (⟨t.val + l.val / 64, by omega⟩ : Fin 15) z) (Fin.ext ?_))) rfl
  show min (63 - x.val + l.val % 64 - 48) 30 = min (l.val % 64 + 15 - x.val) 30
  omega

end Cert.KernelIdeal.Na
end
-- ==== Proof.Na.RefValue.lean ====
module

public import proofs.«01_k».proof.Proof.Na.RefIndex
public import proofs.«01_k».proof.Proof.Na.Softmax
public import Idealize.ShloMosaic.Lib.TwoAxisContraction

/-!
# What the reference computes

An element of the reference's result: the softmax of a token's scores over the values of the 8 × 64 keys of its rows,
with `-∞` at the keys outside its window.
-/

@[expose] public section

set_option maxRecDepth 65536

noncomputable section

namespace Cert.ReferenceIdeal.Na

open Cert.ReferenceIdeal Cert.ReferenceIdeal.Gen Cert.ReferenceIdeal.Read
open Idealize.ShloMosaic Idealize.ShloMosaic.ValueIdx
open Cert.KernelIdeal.Na (top)

/-- Token `x` of row `r`. -/
abbrev tok (r : Fin 128) (x : Fin 64) : Fin 8192 := ⟨64 * r.val + x.val, by omega⟩
/-- Lane `d` of head `n`. -/
abbrev headLane (n : Fin 12) (d : Fin 64) : Fin 768 := ⟨64 * n.val + d.val, by omega⟩
/-- Key `κ` of row `r`. -/
abbrev keyTok (r : Fin 128) (κ : Fin 512) : Fin 8192 := ⟨64 * min (r.val - 4) 120 + κ.val, by omega⟩
/-- The row of a key among its eight. -/
abbrev keyRow (κ : Fin 512) : Fin 8 := ⟨κ.val / 64, by omega⟩
/-- The column of a key. -/
abbrev keyCol (κ : Fin 512) : Fin 64 := ⟨κ.val % 64, Nat.mod_lt _ (by decide)⟩

variable (Q : FVec Ideal S12x8192x768 .f32) (K V : FVec Ideal S12x8192x768 .bf16) (B : FVec Ideal S12x15x31 .f32)

/-- The score of token `x` of row `r`, head `n`, at key `κ`. -/
def score (b : Fin 12) (r : Fin 128) (n : Fin 12) (x : Fin 64) (κ : Fin 512) : EReal :=
  if inside x (keyCol κ) then
    (∑ d : Fin 64, (Q (ix3 b (tok r x) (headLane n d)) : EReal) * K (ix3 b (keyTok r κ) (headLane n d))) * ((1 / 8 : ℝ) : EReal)
      + B (ix3 n (⟨biasRow r (keyRow κ), biasRow_lt r _⟩ : Fin 15) (⟨biasCol x (keyCol κ), biasCol_lt x _⟩ : Fin 31))
  else ⊥

theorem eighth : (FloatOps.ofBits .f32 0x3E000000#32 : Ideal .f32) = ((1 / 8 : ℝ) : EReal) := by
  show Ideal.ieee 8 23 0x3E000000#32 = _
  simp [Ideal.ieee]
  rw [← EReal.coe_mul]
  norm_num

theorem negInf : (FloatOps.ofBits .f32 0xFF800000#32 : Ideal .f32) = (⊥ : EReal) := by
  show Ideal.ieee 8 23 0xFF800000#32 = ⊥
  simp [Ideal.ieee]

theorem zero32 : (FloatOps.ofBits .f32 0x00000000#32 : Ideal .f32) = (0 : EReal) := by
  show Ideal.ieee 8 23 0x00000000#32 = 0
  simp [Ideal.ieee]

/-- The tokens by row, the lanes by head. -/
theorem view_apply (y : FVec Ideal S12x8192x768 .f32) (b : Fin 12) (r : Fin 128) (x : Fin 64) (n : Fin 12) (d : Fin 64) :
    (shapeCast S12x128x64x12x64 y shapeCasts_S12x8192x768_S12x128x64x12x64 : FVec Ideal S12x128x64x12x64 .f32) (ix5 b r x n d) = y (ix3 b (tok r x) (headLane n d)) :=
  shapeCast_apply y shapeCasts_S12x8192x768_S12x128x64x12x64 (ix5 b r x n d) (ix3 b (tok r x) (headLane n d))
    (by
      rewrite [Shape.rowMajor_val_three, Shape.rowMajor_val_five]
      show (b.val * 8192 + (64 * r.val + x.val)) * 768 + (64 * n.val + d.val) = (((b.val * 128 + r.val) * 64 + x.val) * 12 + n.val) * 64 + d.val
      omega)

theorem keys_at (b : Fin 12) (r : Fin 128) (i : Fin 8) (j : Fin 64) (n : Fin 12) (d : Fin 64) :
    val_main_v21 (F := Ideal) K (ix6 b r i j n d) = K (ix3 b (tok ⟨firstRow r + i.val, key_lt r i⟩ j) (headLane n d)) :=
  (keyRows_apply _ _ (fun r i => keyRow_v20 r i 0) b r i j n d).trans (view_apply _ _ _ _ _ _)

theorem values_at (b : Fin 12) (r : Fin 128) (i : Fin 8) (j : Fin 64) (n : Fin 12) (d : Fin 64) :
    val_main_v28 (F := Ideal) V (ix6 b r i j n d) = V (ix3 b (tok ⟨firstRow r + i.val, key_lt r i⟩ j) (headLane n d)) :=
  (keyRows_apply _ _ (fun r i => keyRow_v27 r i 0) b r i j n d).trans (view_apply _ _ _ _ _ _)

/-- The products of queries and keys, scaled. -/
theorem products_at (b : Fin 12) (r : Fin 128) (n : Fin 12) (x : Fin 64) (i : Fin 8) (j : Fin 64) :
    val_main_v31 (F := Ideal) Q K (ix6 b r n x i j)
      = (∑ d : Fin 64, (Q (ix3 b (tok r x) (headLane n d)) : EReal) * K (ix3 b (tok ⟨firstRow r + i.val, key_lt r i⟩ j) (headLane n d))) * ((1 / 8 : ℝ) : EReal) := by
  have h : val_main_v31 (F := Ideal) Q K (ix6 b r n x i j) = (val_main_v29 (F := Ideal) Q K (ix6 b r n x i j) : EReal) * (FloatOps.ofBits .f32 0x3E000000#32 : Ideal .f32) := rfl
  rw [h, eighth, val_main_v29_apply]
  refine congrArg (· * _) (Finset.sum_congr rfl fun d _ => congrArg₂ (fun y z : EReal => y * z) ?_ ?_)
  · rw [show lidx_main_v29 (ix6 b r n x i j) d = ix5 b r x n d from funext fun a => Fin.ext (match a with | ⟨0, _⟩ => rfl | ⟨1, _⟩ => rfl | ⟨2, _⟩ => rfl | ⟨3, _⟩ => rfl | ⟨4, _⟩ => rfl)]
    exact view_apply _ _ _ _ _ _
  · rw [show ridx_main_v29 (ix6 b r n x i j) d = ix6 b r i j n d from funext fun a => Fin.ext (match a with | ⟨0, _⟩ => rfl | ⟨1, _⟩ => rfl | ⟨2, _⟩ => rfl | ⟨3, _⟩ => rfl | ⟨4, _⟩ => rfl | ⟨5, _⟩ => rfl)]
    exact keys_at _ _ _ _ _ _ _

/-- The bias of a token and a key. -/
theorem bias_at (b : Fin 12) (r : Fin 128) (n : Fin 12) (x : Fin 64) (i : Fin 8) (j : Fin 64) :
    val_main_v73 (F := Ideal) B (ix6 b r n x i j) = B (ix3 n (⟨biasRow r i, biasRow_lt r i⟩ : Fin 15) (⟨biasCol x j, biasCol_lt x j⟩ : Fin 31)) := by
  rw [val_main_v73_apply, val_main_v72_apply, val_main_v70_apply]
  rw [show idx_main_v70 (idx_main_v72 (idx_main_v73 (ix6 b r n x i j))) = ix5 n r i x j from funext fun a => Fin.ext (match a with | ⟨0, _⟩ => rfl | ⟨1, _⟩ => rfl | ⟨2, _⟩ => rfl | ⟨3, _⟩ => rfl | ⟨4, _⟩ => rfl)]
  rw [val_main_v69_apply, val_main_call3_v14_apply]
  rw [show idx_main_call3_v14 (ix5 n r i x j) = ix2 x j from funext fun a => Fin.ext (match a with | ⟨0, _⟩ => rfl | ⟨1, _⟩ => rfl), inRange_word]
  refine (show _ = val_main_call3_v13 (F := Ideal) B (ix5 n r i x j) from rfl).trans ?_
  refine (biasCols_apply _ _ (fun x j => biasCol_word x j 0) n r i x j).trans ?_
  exact biasRows_apply _ _ (fun r i => biasRow_word r i 0) n r i _

/-- The masked scores, keys by row and column. -/
theorem scores_at (b : Fin 12) (r : Fin 128) (n : Fin 12) (x : Fin 64) (i : Fin 8) (j : Fin 64) :
    val_main_v75 (F := Ideal) Q K B (ix6 b r n x i j)
      = if inside x j then
          (∑ d : Fin 64, (Q (ix3 b (tok r x) (headLane n d)) : EReal) * K (ix3 b (tok ⟨firstRow r + i.val, key_lt r i⟩ j) (headLane n d))) * ((1 / 8 : ℝ) : EReal)
            + B (ix3 n (⟨biasRow r i, biasRow_lt r i⟩ : Fin 15) (⟨biasCol x j, biasCol_lt x j⟩ : Fin 31))
        else (⊥ : EReal) := by
  rw [val_main_v75_apply, val_main_call4_v1_apply, val_main_v71_apply]
  rw [show idx_main_v71 (idx_main_call4_v1 (ix6 b r n x i j)) = ix2 x j from funext fun a => Fin.ext (match a with | ⟨0, _⟩ => rfl | ⟨1, _⟩ => rfl), inside_word]
  have h : val_main_v74 (F := Ideal) Q K B (ix6 b r n x i j) = (val_main_v31 (F := Ideal) Q K (ix6 b r n x i j) : EReal) + val_main_v73 (F := Ideal) B (ix6 b r n x i j) := rfl
  rw [h, products_at, bias_at]
  split
  · rfl
  · exact negInf

/-- The keys in one axis. -/
theorem flat_apply (y : FVec Ideal S12x128x12x64x8x64 .f32) (b : Fin 12) (r : Fin 128) (n : Fin 12) (x : Fin 64) (κ : Fin 512) :
    (shapeCast S12x128x12x64x512 y shapeCasts_S12x128x12x64x8x64_S12x128x12x64x512 : FVec Ideal S12x128x12x64x512 .f32) (ix5 b r n x κ) = y (ix6 b r n x (keyRow κ) (keyCol κ)) :=
  shapeCast_apply y shapeCasts_S12x128x12x64x8x64_S12x128x12x64x512 (ix5 b r n x κ) (ix6 b r n x (keyRow κ) (keyCol κ))
    (by
      rewrite [Shape.rowMajor_val_six, Shape.rowMajor_val_five]
      show ((((b.val * 128 + r.val) * 12 + n.val) * 64 + x.val) * 8 + κ.val / 64) * 64 + κ.val % 64 = (((b.val * 128 + r.val) * 12 + n.val) * 64 + x.val) * 512 + κ.val
      omega)

/-- The keys in two axes. -/
theorem unflat_apply (y : FVec Ideal S12x128x12x64x512 .f32) (b : Fin 12) (r : Fin 128) (n : Fin 12) (x : Fin 64) (κ : Fin 512) :
    (shapeCast S12x128x12x64x8x64 y shapeCasts_S12x128x12x64x512_S12x128x12x64x8x64 : FVec Ideal S12x128x12x64x8x64 .f32) (ix6 b r n x (keyRow κ) (keyCol κ)) = y (ix5 b r n x κ) :=
  shapeCast_apply y shapeCasts_S12x128x12x64x512_S12x128x12x64x8x64 (ix6 b r n x (keyRow κ) (keyCol κ)) (ix5 b r n x κ)
    (by
      rewrite [Shape.rowMajor_val_six, Shape.rowMajor_val_five]
      show (((b.val * 128 + r.val) * 12 + n.val) * 64 + x.val) * 512 + κ.val = ((((b.val * 128 + r.val) * 12 + n.val) * 64 + x.val) * 8 + κ.val / 64) * 64 + κ.val % 64
      omega)

/-- The masked scores at a key. -/
theorem score_at (b : Fin 12) (r : Fin 128) (n : Fin 12) (x : Fin 64) (κ : Fin 512) :
    val_main_v76 (F := Ideal) Q K B (ix5 b r n x κ) = score Q K B b r n x κ := by
  unfold val_main_v76
  refine (flat_apply _ b r n x κ).trans ((scores_at Q K B b r n x _ _).trans ?_)
  unfold score
  have hk : tok ⟨firstRow r + (keyRow κ).val, key_lt r _⟩ (keyCol κ) = keyTok r κ := Fin.ext (by
    show 64 * (min (r.val - 4) 120 + κ.val / 64) + κ.val % 64 = 64 * min (r.val - 4) 120 + κ.val
    omega)
  rw [hk]

/-- The largest of 512 numbers. -/
theorem fold_at (y : FVec Ideal S12x128x12x64x512 .f32) (b : Fin 12) (r : Fin 128) (n : Fin 12) (x : Fin 64) :
    Host.reduce (FloatOps.maximumf (F := Ideal) (φ := .f32)) y (val_main_cst_17 (F := Ideal)) reducesTo_S12x128x12x64x512_S12x128x12x64_d4 h_S_ (ix4 b r n x) = top fun κ => (y (ix5 b r n x κ) : EReal) := by
  rw [Host.reduce_eq_fold_single (FloatOps.maximumf (F := Ideal) (φ := .f32)) _ _ reducesTo_S12x128x12x64x512_S12x128x12x64_d4 (by decide) h_S_ (ix4 b r n x)]
  unfold top
  generalize hz : val_main_cst_17 (F := Ideal) (Shape.Idx.first h_S_) = z
  have hz' : z = (⊥ : EReal) := hz.symm.trans negInf
  rw [hz']
  refine congrArg (fun (f : Fin 512 → EReal) => (Finset.univ : Finset (Fin 512)).fold max ⊥ f) ?_
  funext κ
  exact congrArg y (funext fun a => Fin.ext (match a with | ⟨0, _⟩ => rfl | ⟨1, _⟩ => rfl | ⟨2, _⟩ => rfl | ⟨3, _⟩ => rfl | ⟨4, _⟩ => rfl))

/-- A row's largest score. -/
theorem top_at (b : Fin 12) (r : Fin 128) (n : Fin 12) (x : Fin 64) : val_main_v79 (F := Ideal) Q K B (ix4 b r n x) = top (score Q K B b r n x) := by
  have h77 : val_main_v77 (F := Ideal) Q K B (ix4 b r n x) = top (score Q K B b r n x) := by
    have hs := score_at Q K B b r n x
    unfold val_main_v77
    generalize val_main_v76 (F := Ideal) Q K B = y at hs ⊢
    exact (fold_at y b r n x).trans (congrArg top (funext hs))
  rw [val_main_v79_apply, h77, val_main_v78_apply]
  refine (congrArg (fun z : EReal => max z _) (show val_main_cst_18 (F := Ideal) _ = (⊥ : EReal) from negInf)).trans ?_
  exact bot_sup_eq _

/-- A row's exponentials. -/
theorem exp_at (b : Fin 12) (r : Fin 128) (n : Fin 12) (x : Fin 64) (κ : Fin 512) :
    val_main_v83 (F := Ideal) Q K B (ix5 b r n x κ) = Ideal.exp (score Q K B b r n x κ - top (score Q K B b r n x)) := by
  rw [val_main_v83_apply, val_main_v82_apply, score_at, val_main_v81_apply, val_main_v80_apply]
  rw [show idx_main_v80 (idx_main_v81 (ix5 b r n x κ)) = ix4 b r n x from funext fun a => Fin.ext (match a with | ⟨0, _⟩ => rfl | ⟨1, _⟩ => rfl | ⟨2, _⟩ => rfl | ⟨3, _⟩ => rfl), top_at]
  rfl

/-- A row's weights. -/
theorem weight_at (b : Fin 12) (r : Fin 128) (n : Fin 12) (x : Fin 64) (κ : Fin 512) :
    val_main_v87 (F := Ideal) Q K B (ix5 b r n x κ)
      = Ideal.div (Ideal.exp (score Q K B b r n x κ - top (score Q K B b r n x))) (∑ κ : Fin 512, Ideal.exp (score Q K B b r n x κ - top (score Q K B b r n x))) := by
  rw [val_main_v87_apply, exp_at, val_main_v86_apply, val_main_v85_apply]
  rw [show idx_main_v85 (idx_main_v86 (ix5 b r n x κ)) = ix4 b r n x from funext fun a => Fin.ext (match a with | ⟨0, _⟩ => rfl | ⟨1, _⟩ => rfl | ⟨2, _⟩ => rfl | ⟨3, _⟩ => rfl), val_main_v84_apply]
  refine congrArg (Ideal.div _) ?_
  refine (congrArg (· + _) (show val_main_cst_19 (F := Ideal) (Shape.Idx.first h_S_) = (0 : EReal) from zero32)).trans ?_
  rw [zero_add]
  refine Finset.sum_congr rfl fun κ _ => ?_
  rw [show idx_main_v84 (ix4 b r n x) κ = ix5 b r n x κ from funext fun a => Fin.ext (match a with | ⟨0, _⟩ => rfl | ⟨1, _⟩ => rfl | ⟨2, _⟩ => rfl | ⟨3, _⟩ => rfl | ⟨4, _⟩ => rfl), exp_at]

/-- A sum over rows and columns of keys is a sum over keys. -/
theorem sum_keys (f : Fin 8 → Fin 64 → EReal) : (∑ i : Fin 8, ∑ j : Fin 64, f i j) = ∑ κ : Fin 512, f (keyRow κ) (keyCol κ) := by
  rw [← Fintype.sum_prod_type']
  refine Finset.sum_bij (fun p _ => (⟨64 * p.1.val + p.2.val, by have := p.1.isLt; have := p.2.isLt; omega⟩ : Fin 512)) (fun _ _ => Finset.mem_univ _) (fun p _ p' _ e => ?_) (fun κ _ => ?_) (fun p _ => ?_)
  · have e := congrArg Fin.val e
    simp only at e
    have h1 := p.1.isLt; have h2 := p.2.isLt; have h3 := p'.1.isLt; have h4 := p'.2.isLt
    exact Prod.ext (Fin.ext (by omega)) (Fin.ext (by omega))
  · exact ⟨(keyRow κ, keyCol κ), Finset.mem_univ _, Fin.ext (by show 64 * (κ.val / 64) + κ.val % 64 = κ.val; omega)⟩
  · have h1 := p.1.isLt; have h2 := p.2.isLt
    exact congrArg₂ f (Fin.ext (by show p.1.val = (64 * p.1.val + p.2.val) / 64; omega)) (Fin.ext (by show p.2.val = (64 * p.1.val + p.2.val) % 64; omega))

/-- The weighted values of a token. -/
theorem mix_at (b : Fin 12) (r : Fin 128) (n : Fin 12) (d x : Fin 64) :
    val_main_v89 (F := Ideal) Q K V B (ix5 b r n d x)
      = ∑ i : Fin 8, ∑ j : Fin 64, (val_main_v28 (F := Ideal) V (ix6 b r i j n d) : EReal) * val_main_v88 (F := Ideal) Q K B (ix6 b r n x i j) := by
  unfold val_main_v89
  generalize val_main_v28 (F := Ideal) V = y
  generalize val_main_v88 (F := Ideal) Q K B = w
  simp only [Host.dotGeneral]
  rw [Ideal.dotGeneral_apply, sum_contr2 dot_S12x128x8x64x12x64_S12x128x12x64x8x64_S12x128x12x64x64_23_45_5_3_014_012 8 64 rfl rfl rfl]
  refine Finset.sum_congr rfl fun i _ => Finset.sum_congr rfl fun j _ => ?_
  have h0 := contrEquiv2_symm_val0 dot_S12x128x8x64x12x64_S12x128x12x64x8x64_S12x128x12x64x64_23_45_5_3_014_012 8 64 rfl rfl rfl (i, j)
  have h1 := contrEquiv2_symm_val1 dot_S12x128x8x64x12x64_S12x128x12x64x8x64_S12x128x12x64x64_23_45_5_3_014_012 8 64 rfl rfl rfl (i, j)
  generalize (contrEquiv2 dot_S12x128x8x64x12x64_S12x128x12x64x8x64_S12x128x12x64x64_23_45_5_3_014_012 8 64 rfl rfl rfl).symm (i, j) = z at h0 h1
  refine congrArg₂ (fun y z : EReal => y * z) (congrArg y ?_) (congrArg w ?_)
  · exact funext fun a => Fin.ext (match a with | ⟨0, _⟩ => rfl | ⟨1, _⟩ => rfl | ⟨2, _⟩ => h0 | ⟨3, _⟩ => h1 | ⟨4, _⟩ => rfl | ⟨5, _⟩ => rfl)
  · exact funext fun a => Fin.ext (match a with | ⟨0, _⟩ => rfl | ⟨1, _⟩ => rfl | ⟨2, _⟩ => rfl | ⟨3, _⟩ => rfl | ⟨4, _⟩ => h0 | ⟨5, _⟩ => h1)

/-- An element of the reference's result. -/
theorem result_at (b : Fin 12) (r : Fin 128) (x : Fin 64) (n : Fin 12) (d : Fin 64) :
    val_main_v92 (F := Ideal) Q K V B (ix3 b (tok r x) (headLane n d))
      = ∑ κ : Fin 512, Ideal.div (Ideal.exp (score Q K B b r n x κ - top (score Q K B b r n x))) (∑ κ : Fin 512, Ideal.exp (score Q K B b r n x κ - top (score Q K B b r n x)))
          * (V (ix3 b (keyTok r κ) (headLane n d)) : EReal) := by
  rw [val_main_v92_apply]
  refine (show ∀ z : EReal, FloatOps.truncf (F := Ideal) .bf16 bitsLt_bf16_f32 z = z from fun _ => rfl) _ |>.trans ?_
  unfold val_main_v91
  rw [shapeCast_apply _ shapeCasts_S12x128x64x12x64_S12x8192x768 (ix3 b (tok r x) (headLane n d)) (ix5 b r x n d)
    (by
      rewrite [Shape.rowMajor_val_three, Shape.rowMajor_val_five]
      show (((b.val * 128 + r.val) * 64 + x.val) * 12 + n.val) * 64 + d.val = (b.val * 8192 + (64 * r.val + x.val)) * 768 + (64 * n.val + d.val)
      omega)]
  rw [val_main_v90_apply]
  rw [show idx_main_v90 (ix5 b r x n d) = ix5 b r n d x from funext fun a => Fin.ext (match a with | ⟨0, _⟩ => rfl | ⟨1, _⟩ => rfl | ⟨2, _⟩ => rfl | ⟨3, _⟩ => rfl | ⟨4, _⟩ => rfl), mix_at]
  rw [sum_keys fun i j => (val_main_v28 (F := Ideal) V (ix6 b r i j n d) : EReal) * val_main_v88 (F := Ideal) Q K B (ix6 b r n x i j)]
  refine Finset.sum_congr rfl fun κ _ => ?_
  have h88 : val_main_v88 (F := Ideal) Q K B (ix6 b r n x (keyRow κ) (keyCol κ)) = val_main_v87 (F := Ideal) Q K B (ix5 b r n x κ) := by
    unfold val_main_v88
    exact unflat_apply _ b r n x κ
  rw [h88, weight_at, values_at, mul_comm]
  refine congrArg (fun z : EReal => _ * z) (congrArg V (congrArg (fun t => ix3 b t (headLane n d)) (Fin.ext ?_)))
  show 64 * (min (r.val - 4) 120 + κ.val / 64) + κ.val % 64 = 64 * min (r.val - 4) 120 + κ.val
  omega

end Cert.ReferenceIdeal.Na
end
-- ==== Proof.Na.Equation.lean ====
module

public import proofs.«01_k».proof.Proof.Na.RowAt
public import proofs.«01_k».proof.Proof.Na.Run
public import proofs.«01_k».proof.Proof.Na.Table
public import proofs.«01_k».proof.Proof.Na.RefValue

/-!
# The kernel computes the reference

The kernel's scores are the reference's times `1 / log 2`, so the kernel's powers of two are the reference's
exponentials, and its sum divided by their total is the reference's softmax.
-/

@[expose] public section

set_option maxRecDepth 65536

noncomputable section

namespace Cert.KernelIdeal.Na

open Cert.KernelIdeal Cert.KernelIdeal.Gen
open Idealize.ShloMosaic Idealize.ShloMosaic.ValueIdx
open Cert.ReferenceIdeal.Na (inside biasCol biasCol_lt biasRow_lt tok headLane keyTok keyRow keyCol score result_at)

/-- Head `h` of pair `p`. -/
abbrev head (p : Fin 6) (h : Fin 2) : Fin 12 := ⟨2 * p.val + h.val, by omega⟩

/-- An element of the kernel's result. -/
theorem naOut_apply (Q K W : Vec Ideal S12x8192x768 .bf16) (B : Vec Ideal S6x14x128x128 .f32) (b : Fin 12) (r : Fin 128) (x : Fin 64) (p : Fin 6) (h : Fin 2) (d : Fin 64) :
    naOut Q K W B (ix3 b (tok r x) (headLane (head p h) d)) = rowVal (insOf Q K W B b p) r (ix3 (0 : Fin 1) x (lane h d)) := by
  have e : ∀ (p' : Fin 6) (r' : Fin 128) (x' : Fin 64) (l' : Fin 128), p' = p → r' = r → x' = x → l' = lane h d →
      rowVal (insOf Q K W B b p') r' (ix3 (0 : Fin 1) x' l') = rowVal (insOf Q K W B b p) r (ix3 (0 : Fin 1) x (lane h d)) := by
    rintro _ _ _ _ rfl rfl rfl rfl
    rfl
  exact e _ _ _ _ (Fin.ext (by show (64 * (2 * p.val + h.val) + d.val) / 128 = p.val; omega)) (Fin.ext (by show (64 * r.val + x.val) / 64 = r.val; omega))
    (Fin.ext (by show (64 * r.val + x.val) % 64 = x.val; omega)) (Fin.ext (by show (64 * (2 * p.val + h.val) + d.val) % 128 = 64 * h.val + d.val; omega))

/-- A sum of real numbers is a real number. -/
theorem sum_real {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

/-- A score of the kernel, of the host's arguments. -/
theorem scoreAt_apply (Q : FVec Ideal S12x8192x768 .f32) (K W : FVec Ideal S12x8192x768 .bf16) (B : FVec Ideal S12x15x31 .f32)
    (b : Fin 12) (r : Fin 128) (x : Fin 64) (p : Fin 6) (h : Fin 2) (κ : Fin 512) :
    scoreAt (insOf (scaled Q) K W (paired (masked (mat (padded (biases B))))) b p) r h x κ
      = (∑ d : Fin 64, (Q (ix3 b (tok r x) (headLane (head p h) d)) : EReal) * (((1 / 8 : ℝ) : EReal) * (invLog2 : EReal)) * K (ix3 b (keyTok r κ) (headLane (head p h) d)))
        + if inside x (keyCol κ) then
            (B (ix3 (head p h) (⟨_, biasRow_lt r (keyRow κ)⟩ : Fin 15) (⟨biasCol x (keyCol κ), biasCol_lt x _⟩ : Fin 31)) : EReal) * (invLog2 : EReal)
          else ⊥ := by
  have hl : ∀ d : Fin 64, (⟨128 * p.val + (lane h d).val, by omega⟩ : Fin 768) = headLane (head p h) d := fun d =>
    Fin.ext (by show 128 * p.val + (64 * h.val + d.val) = 64 * (2 * p.val + h.val) + d.val; omega)
  unfold scoreAt
  refine congrArg₂ (fun y z : EReal => y + z) (Finset.sum_congr rfl fun d _ => congrArg₂ (fun y z : EReal => y * z) ?_ ?_) ?_
  · refine (scaled_apply Q _).trans ?_
    exact congrArg (fun z => (Q (ix3 b (tok r x) z) : EReal) * _) (hl d)
  · exact congrArg (fun z => K (ix3 b (keyTok r κ) z)) (hl d)
  · have hs := shift_le r.val
    refine (table_apply B p (⟨shift r.val + 2 * (κ.val / 128), by omega⟩ : Fin 14) h x (⟨κ.val % 128, Nat.mod_lt _ (by decide)⟩ : Fin 128)).trans ?_
    have hc : (⟨κ.val % 128 % 64, by omega⟩ : Fin 64) = keyCol κ := Fin.ext (by show κ.val % 128 % 64 = κ.val % 64; omega)
    have hr : (⟨shift r.val + 2 * (κ.val / 128) + κ.val % 128 / 64, by omega⟩ : Fin 15) = ⟨_, biasRow_lt r (keyRow κ)⟩ :=
      Fin.ext (by show 7 + min (r.val - 4) 120 - r.val + 2 * (κ.val / 128) + κ.val % 128 / 64 = 7 + min (r.val - 4) 120 - r.val + κ.val / 64; omega)
    have e : ∀ (c : Fin 64) (s : Fin 15), c = keyCol κ → s = ⟨_, biasRow_lt r (keyRow κ)⟩ →
        (if inside x c then (B (ix3 (head p h) s (⟨biasCol x c, biasCol_lt x _⟩ : Fin 31)) : EReal) * (invLog2 : EReal) else ⊥)
          = if inside x (keyCol κ) then
              (B (ix3 (head p h) (⟨_, biasRow_lt r (keyRow κ)⟩ : Fin 15) (⟨biasCol x (keyCol κ), biasCol_lt x _⟩ : Fin 31)) : EReal) * (invLog2 : EReal)
            else ⊥ := by
      rintro _ _ rfl rfl
      rfl
    exact e _ _ hc hr

section Real

variable (Q : FVec Ideal S12x8192x768 .f32) (K W : FVec Ideal S12x8192x768 .bf16) (B : FVec Ideal S12x15x31 .f32)
  (hQ : ∀ i, ∃ y : ℝ, (Q i : EReal) = (y : EReal)) (hK : ∀ i, ∃ y : ℝ, (K i : EReal) = (y : EReal)) (hB : ∀ i, ∃ y : ℝ, (B i : EReal) = (y : EReal))

include hQ hK hB

/-- Inside a window a score is a real number. -/
theorem score_real (b : Fin 12) (r : Fin 128) (n : Fin 12) (x : Fin 64) (κ : Fin 512) (hi : inside x (keyCol κ)) : ∃ y : ℝ, score Q K B b r n x κ = (y : EReal) := by
  choose q hq using hQ
  choose k hk using hK
  choose β hβ using hB
  unfold score
  rw [if_pos hi]
  simp only [hq, hk, hβ, ← EReal.coe_mul, sum_real, ← EReal.coe_add]
  exact ⟨_, rfl⟩

theorem score_ne_top (b : Fin 12) (r : Fin 128) (n : Fin 12) (x : Fin 64) (κ : Fin 512) : score Q K B b r n x κ ≠ ⊤ := by
  by_cases hi : inside x (keyCol κ)
  · obtain ⟨y, hy⟩ := score_real Q K B hQ hK hB b r n x κ hi
    rw [hy]
    exact EReal.coe_ne_top y
  · unfold score
    rw [if_neg hi]
    exact bot_ne_top

/-- The kernel's scores are the reference's times `1 / log 2`. -/
theorem scores_scaled (b : Fin 12) (r : Fin 128) (x : Fin 64) (p : Fin 6) (h : Fin 2) (κ : Fin 512) :
    scoreAt (insOf (scaled Q) K W (paired (masked (mat (padded (biases B))))) b p) r h x κ = score Q K B b r (head p h) x κ * (invLog2 : EReal) := by
  rw [scoreAt_apply]
  unfold score
  split
  · choose q hq using hQ
    choose k hk using hK
    choose β hβ using hB
    simp only [hq, hk, hβ, ← EReal.coe_mul, sum_real, ← EReal.coe_add]
    refine congrArg (fun y : ℝ => (y : EReal)) ?_
    rw [add_mul, Finset.sum_mul, Finset.sum_mul]
    exact congrArg (· + _) (Finset.sum_congr rfl fun d _ => by ring)
  · rw [EReal.add_bot, EReal.bot_mul_coe_of_pos invLog2_pos]

/-- The kernel's result is the reference's. -/
theorem naOut_eq : naOut (scaled Q) K W (paired (masked (mat (padded (biases B))))) = Cert.ReferenceIdeal.Read.val_main_v92 (F := Ideal) Q K W B := by
  have at_index : ∀ (b : Fin 12) (r : Fin 128) (x : Fin 64) (p : Fin 6) (h : Fin 2) (d : Fin 64),
      naOut (scaled Q) K W (paired (masked (mat (padded (biases B))))) (ix3 b (tok r x) (headLane (head p h) d))
        = Cert.ReferenceIdeal.Read.val_main_v92 (F := Ideal) Q K W B (ix3 b (tok r x) (headLane (head p h) d)) := fun b r x p h d => by
    have hv : ∀ κ : Fin 512, ((insOf (scaled Q) K W (paired (masked (mat (padded (biases B))))) b p).v (ix3 (0 : Fin 1) (⟨64 * min (r.val - 4) 120 + κ.val, by omega⟩ : Fin 8192) (lane h d)) : EReal)
        = W (ix3 b (keyTok r κ) (headLane (head p h) d)) := fun κ =>
      congrArg (fun z : Fin 768 => W (ix3 b (keyTok r κ) z)) (Fin.ext (by show 128 * p.val + (64 * h.val + d.val) = 64 * (2 * p.val + h.val) + d.val; omega))
    rw [naOut_apply, result_at, rowVal_apply]
    simp only [hv]
    have hx : min (x.val - 8) 48 < 512 := by omega
    have hin : inside x (keyCol ⟨min (x.val - 8) 48, hx⟩) := by
      show min (x.val - 8) 48 ≤ min (x.val - 8) 48 % 64 ∧ min (x.val - 8) 48 % 64 < min (x.val - 8) 48 + 16
      omega
    obtain ⟨y, hy⟩ := score_real Q K B hQ hK hB b r (head p h) x _ hin
    exact softmax_row (score Q K B b r (head p h) x) _ (fun κ => (W (ix3 b (keyTok r κ) (headLane (head p h) d)) : EReal)) (scores_scaled Q K W B hQ hK hB b r x p h)
      (score_ne_top Q K B hQ hK hB b r (head p h) x) _ (by rw [hy]; exact EReal.coe_ne_bot y)
  funext z
  have h0 : (z 0).val < 12 := (z 0).isLt
  have h1 : (z 1).val < 8192 := (z 1).isLt
  have h2 : (z 2).val < 768 := (z 2).isLt
  have hz : z = ix3 (z 0 : Fin 12) (tok ⟨(z 1).val / 64, by omega⟩ ⟨(z 1).val % 64, by omega⟩)
      (headLane (head ⟨(z 2).val / 128, by omega⟩ ⟨(z 2).val / 64 % 2, by omega⟩) ⟨(z 2).val % 64, by omega⟩) := by
    funext a
    refine Fin.ext ?_
    match a with
    | ⟨0, _⟩ => rfl
    | ⟨1, _⟩ => show (z 1).val = 64 * ((z 1).val / 64) + (z 1).val % 64; omega
    | ⟨2, _⟩ => show (z 2).val = 64 * (2 * ((z 2).val / 128) + (z 2).val / 64 % 2) + (z 2).val % 64; omega
  rw [hz]
  exact at_index _ _ _ _ _ _

end Real

end Cert.KernelIdeal.Na
end
-- ==== Proof.Na.Finite.lean ====
module

public import proofs.«01_k».proof.Defs
public import Idealize.ShloMosaic.Lib.ReduceAll
public import Idealize.ShloMosaic.PureOps.Ideal.Laws

/-!
# The precondition

The precondition says of the queries, the keys and the biases that every element is a real number.
-/

@[expose] public section

noncomputable section

namespace Cert.Pre_finite.Na

open Cert.Pre_finite
open Idealize.ShloMosaic

/-- An extended real whose absolute value is below `+∞` is a real number. -/
theorem real_of_abs_lt (x : EReal) (h : Ideal.cmp .olt (max x (-x)) ⊤ = 1#1) : ∃ y : ℝ, x = (y : EReal) := by
  induction x with
  | bot => simp [Ideal.cmp] at h
  | top => simp [Ideal.cmp] at h
  | coe y => exact ⟨y, rfl⟩

theorem posInf : (FloatOps.ofBits .f32 0x7F800000#32 : Ideal .f32) = (⊤ : EReal) := by
  show Ideal.ieee 8 23 0x7F800000#32 = ⊤
  simp [Ideal.ieee]

instance : Subsingleton S_.Idx := ⟨fun a b => funext fun i => i.elim0⟩

variable [Facts]
open Facts

/-- An array that passes the test holds real numbers. -/
theorem real_of_test {s : Shape} {axes : List (Fin s.rank)} (x : FVec Ideal s .f32) (h : S_.BroadcastsInDim s (![] : Fin 0 → Fin s.rank)) (hr : s.ReducesTo axes S_)
    (e : Host.reduce IntOp.andi (cmpf .olt (Host.absf x) (broadcastInDim s ![] h (constant S_ .f32 0x7F800000#32))) (constantI S_ 1 1#1) hr h_S_ (fun i => i.elim0) = 1#1) (i : s.Idx) :
    ∃ y : ℝ, (x i : EReal) = (y : EReal) := by
  have hi := Host.reduce_andi_all _ _ hr h_S_ _ e i
  refine real_of_abs_lt _ (Eq.trans ?_ hi)
  rw [← posInf]
  rfl

theorem and_one : ∀ a b : BitVec 1, IntOp.andi a b = 1#1 → a = 1#1 ∧ b = 1#1 := by decide

/-- The precondition's meaning. -/
theorem real_args (q : FVec Ideal S12x8192x768 .f32) (k v : FVec Ideal S12x8192x768 .bf16) (b : FVec Ideal S12x15x31 .f32)
    (h : fn (F := Ideal) q k v b = fun _ => 1#1) :
    (∀ i, ∃ y : ℝ, (q i : EReal) = (y : EReal)) ∧ (∀ i, ∃ y : ℝ, (k i : EReal) = (y : EReal)) ∧ (∀ i, ∃ y : ℝ, (b i : EReal) = (y : EReal)) := by
  have h0 := congrFun h (fun i => i.elim0)
  have h1 := and_one _ _ h0
  have h2 := and_one _ _ h1.1
  exact ⟨real_of_test q _ _ h2.1, real_of_test (extf .f32 k bitsLt_bf16_f32) _ _ h2.2, real_of_test b _ _ h1.2⟩

end Cert.Pre_finite.Na
end
-- ==== Proof.Ffn.Phases.lean ====
module

public import proofs.«01_k».proof.Kernel2Ideal
public import Idealize.ShloMosaic.Lib.Pipeline.Regions

/-!
# The phases of one program of the feed-forward

One program of the grid treats 1024 tokens in two halves of 512 rows.  A half is NORMALISED once into a scratch
buffer; then eleven chunks of 256 hidden lanes each add their PART to an accumulator: the first stores it, nine add to
it, and the last one makes the residual sum, normalises it and stores the half of the result.

Here each phase is written once, over the half and the chunk.
-/

@[expose] public section

set_option maxRecDepth 16384
set_option synthInstance.maxSize 4096

noncomputable section

namespace Cert.Kernel2Ideal

open Idealize.ShloMosaic Idealize.SL.Sem
open Idealize.ShloMosaic.RefSig (ofTc tcTables tileCredit tileCredit_eq_zero tileCredit_pos)

variable {F : FTy → Type} [FloatOps F]
variable [Facts]
open Facts₀ Facts

/-! ## What a phase computes -/

/-- The root mean square normalisation of 512 rows, times the gain. -/
def rmsV (x : FVec F S512x1024 .f32) (g : Vec F S1x1024 .f32) : FVec F S512x1024 .f32 :=
  mulf (mulf x (broadcastTo S512x1024
      (rsqrt (addf (divf (shapeCast S512x1 (multiReduction .add [1] S512 (mulf x x) 0x00000000#32 reduces_S512x1024_S512 (.inl rfl) rfl) shapeCasts_S512_S512x1 : FVec F S512x1 .f32)
          (broadcast S512x1 (Scalar.ofBits .f32 0x44800000#32))) (broadcast S512x1 (Scalar.ofBits .f32 0x358637BD#32))))
      broadcasts_S512x1_S512x1024))
    (broadcastTo S512x1024 (shapeCast S1x1024 g shapeCasts_S1x1024_S1x1024 : FVec F S1x1024 .f32) broadcasts_S1x1024_S512x1024)

/-- The normalised rows as they are stored. -/
def normV (x : Vec F S512x1024 .f32) (g : Vec F S1x1024 .f32) : FVec F S512x1024 .bf16 :=
  shapeCast S512x1024 (truncf .bf16 (rmsV x g) bitsLt_bf16_f32) shapeCasts_S512x1024_S512x1024

/-- The product of the normalised rows with 256 columns of the first weights. -/
def projV (a : Vec F S512x1024 .bf16) (w : Vec F S1x1024x256 .bf16) : FVec F S512x256 .f32 :=
  matmul dot_S512x1024_S1024x256_S512x256_1_0_0_1_n_n none a (shapeCast S1024x256 w shapeCasts_S1x1024x256_S1024x256 : FVec F S1024x256 .bf16)
    (constant S512x256 .f32 0x00000000#32)

/-- The gated activations of a chunk. -/
def actV (a b : Vec F S512x1024 .bf16) (wg wu : Vec F S1x1024x256 .bf16) : FVec F S512x256 .bf16 :=
  truncf .bf16 (mulf (mulf (projV a wg) (logistic (projV a wg))) (projV b wu)) bitsLt_bf16_f32

/-- A chunk's part of the result. -/
def partV (a b : Vec F S512x1024 .bf16) (wg wu : Vec F S1x1024x256 .bf16) (wo : Vec F S1x256x1024 .bf16) : FVec F S512x1024 .f32 :=
  matmul dot_S512x256_S256x1024_S512x1024_1_0_0_1_n_n none (actV a b wg wu) (shapeCast S256x1024 wo shapeCasts_S1x256x1024_S256x1024 : FVec F S256x1024 .bf16)
    (constant S512x1024 .f32 0x00000000#32)

/-- The first part as it is stored. -/
def firstV (p : FVec F S512x1024 .f32) : FVec F S512x1024 .f32 := shapeCast S512x1024 p shapeCasts_S512x1024_S512x1024

/-- The accumulator with one more part, as it is stored. -/
def addV (acc : Vec F S512x1024 .f32) (p : FVec F S512x1024 .f32) : FVec F S512x1024 .f32 :=
  shapeCast S512x1024 (addf acc p) shapeCasts_S512x1024_S512x1024

/-- The residual sum, normalised. -/
def lastV (x acc : Vec F S512x1024 .f32) (p : FVec F S512x1024 .f32) (g : Vec F S1x1024 .f32) : FVec F S512x1024 .f32 :=
  rmsV (addf x (mulf (broadcast S512x1024 (Scalar.ofBits .f32 0x3F000000#32)) (addf acc p))) g

/-! ## The offsets -/

/-- The first row of a half. -/
def rowOff (s : Fin 2) : Fin 2 → ℕ := ![512 * s.val, 0]
/-- The gate columns of a chunk. -/
def gateOff (c : Fin 11) : Fin 3 → ℕ := ![0, 0, 256 * c.val]
/-- The up columns of a chunk. -/
def upOff (c : Fin 11) : Fin 3 → ℕ := ![0, 0, 2816 + 256 * c.val]
/-- The rows of the second weights of a chunk. -/
def outOff (c : Fin 11) : Fin 3 → ℕ := ![0, 256 * c.val, 0]

theorem rowOff_inb (s : Fin 2) : ∀ a, rowOff s a + S512x1024.size a ≤ S1024x1024.size a := by revert s; decide
theorem gateOff_inb (c : Fin 11) : ∀ a, gateOff c a + S1x1024x256.size a ≤ S1x1024x5632.size a := by revert c; decide
theorem upOff_inb (c : Fin 11) : ∀ a, upOff c a + S1x1024x256.size a ≤ S1x1024x5632.size a := by revert c; decide
theorem outOff_inb (c : Fin 11) : ∀ a, outOff c a + S1x256x1024.size a ≤ S1x2816x1024.size a := by revert c; decide
theorem rowOff_packed (s : Fin 2) : (Rect.unit (s := S1024x1024) (rowOff s) S512x1024.size (rowOff_inb s)).PackedRows (EltTy.packing .bf16) := by
  fin_cases s
  · exact packedbf16_S1024x1024_S512x1024_0_0
  · exact packedbf16_S1024x1024_S512x1024_512_0

/-! ## The phases as programs -/

variable (arg1 : Memref sig .tc .vmem S1024x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)

/-- The normalisation of a half. -/
def normP (s : Fin 2) : Prog (TpuEff nD τ sig (Elt F) Λ₀ .tc) PUnit := do
  let x : Vec F S512x1024 .f32 ← Prog.lift (.load arg1 (Rect.unit (s := S1024x1024) (rowOff s) S512x1024.size (rowOff_inb s)).toLoadRect (View.loadsAt_vmem h_S512x1024))
  let g : Vec F S1x1024 .f32 ← Prog.lift (.load arg2 (Rect.unit (s := S1x1024) ![0, 0] S1x1024.size inb_S1x1024_S1x1024_0_0).toLoadRect (View.loadsAt_vmem h_S1x1024))
  let _x : Vec F S512x1024 .bf16 ← Prog.lift (.load arg7 (Rect.unit (s := S1024x1024) (rowOff s) S512x1024.size (rowOff_inb s)).toLoadRect (View.loadsAt_vmem h_S512x1024))
  Prog.lift (.store arg7 (Rect.unit (s := S1024x1024) (rowOff s) S512x1024.size (rowOff_inb s)) (normV x g) Finset.univ
    (View.stores_vmem h_S512x1024 (harg7.storeExact_slice rfl _ (rowOff_packed s)) (fun _ => rfl)) (.inl rfl))

/-- The first chunk of a half: its part into the accumulator. -/
def firstP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let _x : Vec F S512x1024 .f32 ← Prog.lift (.load arg8 (Rect.unit (s := S1024x1024) (rowOff s) S512x1024.size (rowOff_inb s)).toLoadRect (View.loadsAt_vmem h_S512x1024))
  Prog.lift (.store arg8 (Rect.unit (s := S1024x1024) (rowOff s) S512x1024.size (rowOff_inb s)) (firstV (partV a b wg wu wo)) Finset.univ
    (View.stores_vmem_bits_univ h_S512x1024 rfl) (.inl rfl))

/-- A middle chunk of a half: its part added to the accumulator. -/
def addP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let acc : Vec F S512x1024 .f32 ← Prog.lift (.load arg8 (Rect.unit (s := S1024x1024) (rowOff s) S512x1024.size (rowOff_inb s)).toLoadRect (View.loadsAt_vmem h_S512x1024))
  let _x : Vec F S512x1024 .f32 ← Prog.lift (.load arg8 (Rect.unit (s := S1024x1024) (rowOff s) S512x1024.size (rowOff_inb s)).toLoadRect (View.loadsAt_vmem h_S512x1024))
  Prog.lift (.store arg8 (Rect.unit (s := S1024x1024) (rowOff s) S512x1024.size (rowOff_inb s)) (addV acc (partV a b wg wu wo)) Finset.univ
    (View.stores_vmem_bits_univ h_S512x1024 rfl) (.inl rfl))

/-- The last chunk of a half: the residual sum, normalised, into the result. -/
def lastP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let x : Vec F S512x1024 .f32 ← Prog.lift (.load arg1 (Rect.unit (s := S1024x1024) (rowOff s) S512x1024.size (rowOff_inb s)).toLoadRect (View.loadsAt_vmem h_S512x1024))
  let acc : Vec F S512x1024 .f32 ← Prog.lift (.load arg8 (Rect.unit (s := S1024x1024) (rowOff s) S512x1024.size (rowOff_inb s)).toLoadRect (View.loadsAt_vmem h_S512x1024))
  let g : Vec F S1x1024 .f32 ← Prog.lift (.load arg5 (Rect.unit (s := S1x1024) ![0, 0] S1x1024.size inb_S1x1024_S1x1024_0_0).toLoadRect (View.loadsAt_vmem h_S1x1024))
  let _x : Vec F S512x1024 .f32 ← Prog.lift (.load arg6 (Rect.unit (s := S1024x1024) (rowOff s) S512x1024.size (rowOff_inb s)).toLoadRect (View.loadsAt_vmem h_S512x1024))
  Prog.lift (.store arg6 (Rect.unit (s := S1024x1024) (rowOff s) S512x1024.size (rowOff_inb s)) (lastV x acc (partV a b wg wu wo) g) Finset.univ
    (View.stores_vmem_bits_univ h_S512x1024 rfl) (.inl rfl))

/-- The phases of a half. -/
def halfP (s : Fin 2) : List (Prog (TpuEff nD τ sig (Elt F) Λ₀ .tc) PUnit) :=
  [normP arg1 arg2 arg7 harg7 s, firstP arg3 arg4 arg7 arg8 s 0, addP arg3 arg4 arg7 arg8 s 1, addP arg3 arg4 arg7 arg8 s 2,
   addP arg3 arg4 arg7 arg8 s 3, addP arg3 arg4 arg7 arg8 s 4, addP arg3 arg4 arg7 arg8 s 5, addP arg3 arg4 arg7 arg8 s 6,
   addP arg3 arg4 arg7 arg8 s 7, addP arg3 arg4 arg7 arg8 s 8, addP arg3 arg4 arg7 arg8 s 9, lastP arg1 arg3 arg4 arg5 arg6 arg7 arg8 s 10]

set_option maxHeartbeats 4000000 in
/-- The body is the chain of its phases, in the kernel's order. -/
theorem body_eq (i : grid0.Coords) :
    cc0_ffn_final (F := F) i arg1 harg1 arg2 harg2 arg3 harg3 arg4 harg4 arg5 harg5 arg6 harg6 arg7 harg7 arg8 harg8
      = Pipeline.chain (halfP arg1 arg2 arg3 arg4 arg5 arg6 arg7 harg7 arg8 0 ++ halfP arg1 arg2 arg3 arg4 arg5 arg6 arg7 harg7 arg8 1) := by
  chain_rfl

end Cert.Kernel2Ideal
end
-- ==== Proof.Ffn.Triples.lean ====
module

public import proofs.«01_k».proof.Proof.Ffn.Phases
public import proofs.«01_k».proof.Proof.Gen.Kernel2Ideal.Frame.Runs
public import Idealize.ShloMosaic.Lib.VecWindow

/-!
# What each phase of the feed-forward does

The three buffers the body writes (the result, the normalised rows and the accumulator) are followed as one state;
each phase is a function on it.
-/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body has read only: the tokens, the two gains and the two weights. -/
structure Ins (F : FTy → Type) where
  x : Vec F S1024x1024 .f32
  g : Vec F S1x1024 .f32
  wi : Vec F S1x1024x5632 .bf16
  wo : Vec F S1x2816x1024 .bf16
  go : Vec F S1x1024 .f32

/-- What the body writes: the result, the normalised rows and the accumulator. -/
structure St (F : FTy → Type) where
  o : Vec F S1024x1024 .f32
  n : Vec F S1024x1024 .bf16
  a : Vec F S1024x1024 .f32

/-- The memrefs of one program. -/
structure Refs where
  arg1 : Memref sig .tc .vmem S1024x1024 .f32
  harg1 : arg1.IsWhole
  arg2 : Memref sig .tc .vmem S1x1024 .f32
  harg2 : arg2.IsWhole
  arg3 : Memref sig .tc .vmem S1x1024x5632 .bf16
  harg3 : arg3.IsWhole
  arg4 : Memref sig .tc .vmem S1x2816x1024 .bf16
  harg4 : arg4.IsWhole
  arg5 : Memref sig .tc .vmem S1x1024 .f32
  harg5 : arg5.IsWhole
  arg6 : Memref sig .tc .vmem S1024x1024 .f32
  harg6 : arg6.IsWhole
  arg7 : Memref sig .tc .vmem S1024x1024 .bf16
  harg7 : arg7.IsWhole
  arg8 : Memref sig .tc .vmem S1024x1024 .f32
  harg8 : arg8.IsWhole

/-- The program's buffers at given contents. -/
def held (c : Dev nD) (A : Refs) (x : Ins F) (st : St F) : sProp 𝕄 :=
  iprop(owns (c : Thread nD τ) A.arg1 fullShare x.x ∗ owns (c : Thread nD τ) A.arg2 fullShare x.g ∗ owns (c : Thread nD τ) A.arg3 fullShare x.wi
    ∗ owns (c : Thread nD τ) A.arg4 fullShare x.wo ∗ owns (c : Thread nD τ) A.arg5 fullShare x.go ∗ owns (c : Thread nD τ) A.arg6 fullShare st.o
    ∗ owns (c : Thread nD τ) A.arg7 fullShare st.n ∗ owns (c : Thread nD τ) A.arg8 fullShare st.a)

/-- The program `P` takes the state `st` to `f st`, whatever it is. -/
def Does (c : Dev nD) (A : Refs) (x : Ins F) (P : Prog (TpuEff nD τ sig (Elt F) Λ₀ .tc) PUnit) (f : St F → St F) : Prop :=
  ∀ (st : St F) (E : Set ℕ) (K : PUnit → sProp 𝕄),
    iprop(held c A x st ∗ (held c A x (f st) -∗ K ⟨⟩)) ⊢ wp frame (wpE (defs₀ (F := F)) Variants.none c none) E P K

/-! ## The phases on the state -/

/-- A half of 1024 rows. -/
abbrev half {e : EltTy} (y : Vec F S1024x1024 e) (s : Fin 2) : Vec F S512x1024 e := VecWindow.window y (rowOff s) S512x1024.size (rowOff_inb s)

/-- A chunk's part from given normalised rows. -/
def partF (x : Ins F) (n : Vec F S512x1024 .bf16) (c : Fin 11) : FVec F S512x1024 .f32 :=
  partV n n (VecWindow.window x.wi (gateOff c) S1x1024x256.size (gateOff_inb c)) (VecWindow.window x.wi (upOff c) S1x1024x256.size (upOff_inb c))
    (VecWindow.window x.wo (outOff c) S1x256x1024.size (outOff_inb c))

/-- The normalisation of a half. -/
def normF (x : Ins F) (s : Fin 2) (st : St F) : St F :=
  { st with n := VecWindow.put st.n (rowOff s) S512x1024.size (normV (half x.x s) (VecWindow.window x.g ![0, 0] S1x1024.size Facts₀.inb_S1x1024_S1x1024_0_0)) }

/-- The first chunk of a half. -/
def firstF (x : Ins F) (s : Fin 2) (c : Fin 11) (st : St F) : St F :=
  { st with a := VecWindow.put st.a (rowOff s) S512x1024.size (firstV (partF x (half st.n s) c)) }

/-- A middle chunk of a half. -/
def addF (x : Ins F) (s : Fin 2) (c : Fin 11) (st : St F) : St F :=
  { st with a := VecWindow.put st.a (rowOff s) S512x1024.size (addV (half st.a s) (partF x (half st.n s) c)) }

/-- The last chunk of a half. -/
def lastF (x : Ins F) (s : Fin 2) (c : Fin 11) (st : St F) : St F :=
  { st with
    o := VecWindow.put st.o (rowOff s) S512x1024.size
      (lastV (half x.x s) (half st.a s) (partF x (half st.n s) c) (VecWindow.window x.go ![0, 0] S1x1024.size Facts₀.inb_S1x1024_S1x1024_0_0)) }

/-- What is read after one unmasked store is the payload put over what was read before. -/
theorem read_writes_put {s : Shape} {e : EltTy} {sp : Space} (m : Memref sig .tc sp s e) (f : m.view.ty.Contents (Elt F)) (y : s.Idx → Elt F e)
    (hf : m.view.read (Elt F) f = y) {off size : Fin s.rank → ℕ} (inb : ∀ a, off a + size a ≤ s.size a) (w : (Rect.unit off size inb).shape.Idx → Elt F e) :
    m.view.read (Elt F) (m.view.writes (Elt F) f [⟨Rect.unit off size inb, w⟩]) = VecWindow.put y off size w := by
  subst hf
  exact View.read_writes_cons_put m.view f inb w [] rfl

/-- The normalisation does what it says. -/
theorem norm_does (c : Dev nD) (A : Refs) (x : Ins F) (s : Fin 2) : Does c A x (normP A.arg1 A.arg2 A.arg7 A.harg7 s) (normF x s) := by
  intro st E K
  unfold normP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    rw [read_writes_put A.arg7 f6 st.n h6]
    unfold normF
    rw [← h0, ← h1]
    rfl
  iexists _; isplitr; swap; · iexact H7
  ipureintro
  exact h7

/-- The first chunk does what it says. -/
theorem first_does (c : Dev nD) (A : Refs) (x : Ins F) (s : Fin 2) (k : Fin 11) : Does c A x (firstP A.arg3 A.arg4 A.arg7 A.arg8 s k) (firstF x s k) := by
  intro st E K
  unfold firstP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  iexists _; isplitr; swap; · iexact H7
  ipureintro
  rw [read_writes_put A.arg8 f7 st.a h7]
  unfold firstF partF
  rw [← h2, ← h3, ← h6]
  rfl

/-- A middle chunk does what it says. -/
theorem add_does (c : Dev nD) (A : Refs) (x : Ins F) (s : Fin 2) (k : Fin 11) : Does c A x (addP A.arg3 A.arg4 A.arg7 A.arg8 s k) (addF x s k) := by
  intro st E K
  unfold addP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  iexists _; isplitr; swap; · iexact H7
  ipureintro
  rw [read_writes_put A.arg8 f7 st.a h7]
  unfold addF partF
  rw [← h2, ← h3, ← h6, ← h7]
  rfl

/-- The last chunk does what it says. -/
theorem last_does (c : Dev nD) (A : Refs) (x : Ins F) (s : Fin 2) (k : Fin 11) : Does c A x (lastP A.arg1 A.arg3 A.arg4 A.arg5 A.arg6 A.arg7 A.arg8 s k) (lastF x s k) := by
  intro st E K
  unfold lastP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    rw [read_writes_put A.arg6 f5 st.o h5]
    unfold lastF partF
    rw [← h0, ← h2, ← h3, ← h4, ← h6, ← h7]
    rfl
  isplitl [H6]
  · iexists _; isplitr; swap; · iexact H6
    ipureintro
    exact h6
  iexists _; isplitr; swap; · iexact H7
  ipureintro
  exact h7

/-- A list of programs, each with what it does, does these one after the other. -/
theorem chain_does (c : Dev nD) (A : Refs) (x : Ins F) {Ps : List (Prog (TpuEff nD τ sig (Elt F) Λ₀ .tc) PUnit)} {fs : List (St F → St F)}
    (h : List.Forall₂ (Does c A x) Ps fs) : Does c A x (Pipeline.chain Ps) (fun st => fs.foldl (fun st f => f st) st) := by
  induction h with
  | nil =>
    intro st E K
    rw [Pipeline.chain_nil]
    iintro ⟨H, Hk⟩
    sl_step
    iapply Hk
    iexact H
  | cons hd _ ih =>
    intro st E K
    rw [Pipeline.chain_cons, wp_bind]
    iintro ⟨H, Hk⟩
    iapply (hd st E _)
    isplitl [H]; · iexact H
    iintro H
    iapply (ih _ E K)
    isplitl [H]; · iexact H
    iexact Hk

/-- What the phases of a half do. -/
def halfF (x : Ins F) (s : Fin 2) : List (St F → St F) :=
  [normF x s, firstF x s 0, addF x s 1, addF x s 2, addF x s 3, addF x s 4, addF x s 5, addF x s 6, addF x s 7, addF x s 8, addF x s 9, lastF x s 10]

/-- What the body does. -/
def bodyF (x : Ins F) (st : St F) : St F := (halfF x 0 ++ halfF x 1).foldl (fun st f => f st) st

theorem half_does (c : Dev nD) (A : Refs) (x : Ins F) (s : Fin 2) :
    List.Forall₂ (Does c A x) (halfP A.arg1 A.arg2 A.arg3 A.arg4 A.arg5 A.arg6 A.arg7 A.harg7 A.arg8 s) (halfF x s) :=
  .cons (norm_does c A x s) (.cons (first_does c A x s 0) (.cons (add_does c A x s 1) (.cons (add_does c A x s 2) (.cons (add_does c A x s 3)
    (.cons (add_does c A x s 4) (.cons (add_does c A x s 5) (.cons (add_does c A x s 6) (.cons (add_does c A x s 7) (.cons (add_does c A x s 8)
      (.cons (add_does c A x s 9) (.cons (last_does c A x s 10) .nil)))))))))))

/-- The body does what its phases do. -/
theorem body_does (c : Dev nD) (A : Refs) (x : Ins F) (i : grid0.Coords) :
    Does c A x (cc0_ffn_final (F := F) i A.arg1 A.harg1 A.arg2 A.harg2 A.arg3 A.harg3 A.arg4 A.harg4 A.arg5 A.harg5 A.arg6 A.harg6 A.arg7 A.harg7 A.arg8 A.harg8)
      (bodyF x) := by
  rw [body_eq]
  exact chain_does c A x (List.rel_append (half_does c A x 0) (half_does c A x 1))

end Cert.Kernel2Ideal.Ffn
end
-- ==== Proof.Ffn.State.lean ====
module

public import proofs.«01_k».proof.Proof.Ffn.Triples
public import Idealize.ShloMosaic.Lib.ValueIdx

/-!
# What one program of the feed-forward leaves in its result

The two halves do not meet: each is left at a function of its own rows and the weights.
-/

@[expose] public section

set_option maxRecDepth 16384

noncomputable section

namespace Cert.Kernel2Ideal.Ffn

open Cert.Kernel2Ideal Cert.Kernel2Ideal.Gen
open Idealize.ShloMosaic Idealize.ShloMosaic.ValueIdx

variable {F : FTy → Type} [FloatOps F]

/-- The normalised rows of a half. -/
def nrm (x : Ins F) (s : Fin 2) : FVec F S512x1024 .bf16 := normV (half x.x s) (VecWindow.window x.g ![0, 0] S1x1024.size Facts₀.inb_S1x1024_S1x1024_0_0)

/-- The accumulator of a half after the chunks up to `k`. -/
def acc (x : Ins F) (s : Fin 2) : ℕ → FVec F S512x1024 .f32
  | 0 => firstV (partF x (nrm x s) 0)
  | k + 1 => addV (acc x s k) (partF x (nrm x s) (Fin.ofNat 11 (k + 1)))

/-- The half of the result. -/
def outH (x : Ins F) (s : Fin 2) : FVec F S512x1024 .f32 :=
  lastV (half x.x s) (acc x s 9) (partF x (nrm x s) 10) (VecWindow.window x.go ![0, 0] S1x1024.size Facts₀.inb_S1x1024_S1x1024_0_0)

/-- The program's block of the result. -/
def outV (x : Ins F) : Vec F S1024x1024 .f32 := fun y =>
  outH x ⟨(y 0).val / 512, by have h : (y 0).val < 1024 := (y 0).isLt; omega⟩ (ix2 (⟨(y 0).val % 512, Nat.mod_lt _ (by decide)⟩ : Fin 512) (y 1 : Fin 1024))

theorem half_put {e : EltTy} (y : Vec F S1024x1024 e) (s : Fin 2) (w : Vec F S512x1024 e) :
    half (VecWindow.put y (rowOff s) S512x1024.size w) s = w :=
  VecWindow.window_put_same (s := S1024x1024) y (rowOff s) S512x1024.size (rowOff_inb s) w

theorem put_put {e : EltTy} (y : Vec F S1024x1024 e) (s : Fin 2) (w w' : Vec F S512x1024 e) :
    VecWindow.put (VecWindow.put y (rowOff s) S512x1024.size w) (rowOff s) S512x1024.size w' = VecWindow.put y (rowOff s) S512x1024.size w' :=
  VecWindow.put_put_same (s := S1024x1024) y (rowOff s) S512x1024.size w w'

/-- A half's phases, from its first to its tenth, on the accumulator. -/
theorem adds (x : Ins F) (s : Fin 2) (st : St F) (hn : half st.n s = nrm x s) (k : Fin 11) (j : ℕ) (hk : k = Fin.ofNat 11 (j + 1)) (ha : half st.a s = acc x s j) :
    half (addF x s k st).n s = nrm x s ∧ (addF x s k st).o = st.o ∧ half (addF x s k st).a s = acc x s (j + 1) := by
  subst hk
  refine ⟨hn, rfl, ?_⟩
  unfold addF
  rw [show half (VecWindow.put st.a (rowOff s) S512x1024.size (addV (half st.a s) (partF x (half st.n s) (Fin.ofNat 11 (j + 1))))) s = _ from half_put _ _ _, ha, hn]
  rfl

/-- What a half leaves in the result. -/
theorem half_final (x : Ins F) (s : Fin 2) (st : St F) :
    ((halfF x s).foldl (fun st f => f st) st).o = VecWindow.put st.o (rowOff s) S512x1024.size (outH x s) := by
  unfold halfF
  simp only [List.foldl_cons, List.foldl_nil]
  have n0 : half (normF x s st).n s = nrm x s := half_put _ _ _
  have o0 : (normF x s st).o = st.o := rfl
  generalize normF x s st = s0 at n0 o0 ⊢
  have n1 : half (firstF x s 0 s0).n s = nrm x s := n0
  have o1 : (firstF x s 0 s0).o = st.o := o0
  have a1 : half (firstF x s 0 s0).a s = acc x s 0 := by
    refine (half_put _ _ _).trans ?_
    rw [n0]
    rfl
  generalize firstF x s 0 s0 = s1 at n1 o1 a1 ⊢
  obtain ⟨n2, o2, a2⟩ := adds x s s1 n1 1 0 rfl a1
  rw [o1] at o2
  generalize addF x s 1 s1 = s2 at n2 o2 a2 ⊢
  obtain ⟨n3, o3, a3⟩ := adds x s s2 n2 2 1 rfl a2
  rw [o2] at o3
  generalize addF x s 2 s2 = s3 at n3 o3 a3 ⊢
  obtain ⟨n4, o4, a4⟩ := adds x s s3 n3 3 2 rfl a3
  rw [o3] at o4
  generalize addF x s 3 s3 = s4 at n4 o4 a4 ⊢
  obtain ⟨n5, o5, a5⟩ := adds x s s4 n4 4 3 rfl a4
  rw [o4] at o5
  generalize addF x s 4 s4 = s5 at n5 o5 a5 ⊢
  obtain ⟨n6, o6, a6⟩ := adds x s s5 n5 5 4 rfl a5
  rw [o5] at o6
  generalize addF x s 5 s5 = s6 at n6 o6 a6 ⊢
  obtain ⟨n7, o7, a7⟩ := adds x s s6 n6 6 5 rfl a6
  rw [o6] at o7
  generalize addF x s 6 s6 = s7 at n7 o7 a7 ⊢
  obtain ⟨n8, o8, a8⟩ := adds x s s7 n7 7 6 rfl a7
  rw [o7] at o8
  generalize addF x s 7 s7 = s8 at n8 o8 a8 ⊢
  obtain ⟨n9, o9, a9⟩ := adds x s s8 n8 8 7 rfl a8
  rw [o8] at o9
  generalize addF x s 8 s8 = s9 at n9 o9 a9 ⊢
  obtain ⟨n10, o10, a10⟩ := adds x s s9 n9 9 8 rfl a9
  rw [o9] at o10
  generalize addF x s 9 s9 = s10 at n10 o10 a10 ⊢
  unfold lastF outH
  rw [n10, o10, a10]

theorem final_outV (x : Ins F) (st : St F) : (bodyF x st).o = outV x := by
  unfold bodyF
  rw [List.foldl_append, half_final, half_final]
  funext y
  have hy0 : (y 0).val < 1024 := (y 0).isLt
  have key : ∀ s : Fin 2, half (VecWindow.put (VecWindow.put st.o (rowOff 0) S512x1024.size (outH x 0)) (rowOff 1) S512x1024.size (outH x 1)) s = outH x s := by
    intro s
    fin_cases s
    · refine (VecWindow.window_put_of_disjoint (s := S1024x1024) _ (rowOff 1) S512x1024.size (rowOff 0) S512x1024.size (rowOff_inb 0) (outH x 1) 0 ?_).trans (half_put _ _ _)
      exact Or.inl (by decide)
    · exact half_put _ _ _
  have h := congrFun (key ⟨(y 0).val / 512, by omega⟩) (ix2 (⟨(y 0).val % 512, Nat.mod_lt _ (by decide)⟩ : Fin 512) (y 1 : Fin 1024))
  refine Eq.trans (congrArg (VecWindow.put (VecWindow.put st.o (rowOff 0) S512x1024.size (outH x 0)) (rowOff 1) S512x1024.size (outH x 1)) (funext fun a => Fin.ext ?_)) h
  fin_cases a
  · show (y 0).val = 512 * ((y 0).val / 512) + 1 * ((y 0).val % 512); omega
  · show (y 1).val = 0 + 1 * (y 1).val; omega

end Cert.Kernel2Ideal.Ffn
end
-- ==== Proof.Ffn.Spec.lean ====
module

public import Idealize.ShloMosaic.Lib.ValueIdx
public import Idealize.ShloMosaic.PureOps.Ideal.Laws

/-!
# The feed-forward of one token

One token's result over the extended reals: its normalised lanes through the gated two-layer product, half of it added
to the token, and the sum normalised again.  Both programs are read to this one function.
-/

@[expose] public section

noncomputable section

namespace Cert.Ffn

open Idealize.ShloMosaic

/-- The number of lanes as the programs write it, 1024. -/
def count : EReal := (FloatOps.ofBits .f32 0x44800000#32 : Ideal .f32)
/-- The small constant under the root, 10⁻⁶ rounded. -/
def small : EReal := (FloatOps.ofBits .f32 0x358637BD#32 : Ideal .f32)
/-- One half. -/
def oneHalf : EReal := (FloatOps.ofBits .f32 0x3F000000#32 : Ideal .f32)

/-- A token divided by the root of its mean square, times the gain. -/
def rms (x g : Fin 1024 → EReal) (j : Fin 1024) : EReal :=
  x j * Ideal.rsqrt (Ideal.div (∑ k : Fin 1024, x k * x k) count + small) * g j

/-- A normalised token times one column of the first weights. -/
def proj (n : Fin 1024 → EReal) (w : Fin 1024 → Fin 5632 → EReal) (f : Fin 5632) : EReal := ∑ k : Fin 1024, n k * w k f

/-- The gated activation at a hidden lane: the first 2816 columns gate the other 2816. -/
def act (n : Fin 1024 → EReal) (w : Fin 1024 → Fin 5632 → EReal) (f : Fin 2816) : EReal :=
  proj n w ⟨f.val, by omega⟩ * Ideal.logistic (proj n w ⟨f.val, by omega⟩) * proj n w ⟨2816 + f.val, by omega⟩

/-- The residual sum. -/
def res (x g : Fin 1024 → EReal) (w : Fin 1024 → Fin 5632 → EReal) (u : Fin 2816 → Fin 1024 → EReal) (j : Fin 1024) : EReal :=
  x j + oneHalf * ∑ f : Fin 2816, act (rms x g) w f * u f j

/-- The token's result. -/
def tok (x g : Fin 1024 → EReal) (w : Fin 1024 → Fin 5632 → EReal) (u : Fin 2816 → Fin 1024 → EReal) (h : Fin 1024 → EReal) : Fin 1024 → EReal :=
  rms (res x g w u) h

/-- Eleven chunks of 256 hidden lanes are the 2816. -/
theorem sum_chunks (f : Fin 2816 → EReal) :
    (∑ c : Fin 11, ∑ l : Fin 256, f ⟨256 * c.val + l.val, by omega⟩) = ∑ k : Fin 2816, f k := by
  rw [← Fintype.sum_prod_type']
  refine Finset.sum_bij (fun p _ => (⟨256 * p.1.val + p.2.val, by have := p.1.isLt; have := p.2.isLt; omega⟩ : Fin 2816)) (fun _ _ => Finset.mem_univ _) (fun p _ p' _ e => ?_) (fun k _ => ?_) (fun p _ => rfl)
  · have e := congrArg Fin.val e
    simp only at e
    have h1 := p.1.isLt; have h2 := p.2.isLt; have h3 := p'.1.isLt; have h4 := p'.2.isLt
    exact Prod.ext (Fin.ext (by omega)) (Fin.ext (by omega))
  · have hk := k.isLt
    exact ⟨(⟨k.val / 256, by omega⟩, ⟨k.val % 256, Nat.mod_lt _ (by decide)⟩), Finset.mem_univ _, Fin.ext (by show 256 * (k.val / 256) + k.val % 256 = k.val; omega)⟩

end Cert.Ffn
end
-- ==== Proof.Ffn.Operands.lean ====
module

public import proofs.«01_k».proof.Proof.Ffn.Array
public import proofs.«01_k».proof.Proof.Ffn.Spec
public import Idealize.ShloMosaic.Lib.StableHlo.RunRead

/-!
# The operands the host prepares

When the kernel starts, its operands are the rows, the second layer's gains, and the two weights.
-/

@[expose] public section

set_option maxRecDepth 16384

noncomputable section

namespace Cert.Kernel2Ideal.Ffn

open Cert.Kernel2Ideal Cert.Kernel2Ideal.Gen
open Idealize.ShloMosaic Idealize.ShloMosaic.TcCoe
open Idealize.ShloMosaic.ValueIdx

/-- The second layer's row of a pair of gains, as the host cuts it out. -/
def row1 (g : FVec Ideal S2x1024 .f32) : FVec Ideal S1x1024 .f32 :=
  shapeCast S1x1024 (shapeCast S1024 (extractStridedSlice S1x1024 ![1, 0] g slices_S2x1024_S1x1024_1_0) shapeCasts_S1x1024_S1024) shapeCasts_S1024_S1x1024

theorem row1_apply (g : FVec Ideal S2x1024 .f32) (k : Fin 1024) : row1 g (ix2 (0 : Fin 1) k) = g (ix2 (1 : Fin 2) k) := by
  unfold row1
  rw [shapeCast_apply _ shapeCasts_S1024_S1x1024 (ix2 (0 : Fin 1) k) (ix1 k)
    (by rewrite [Shape.rowMajor_val_two, Shape.rowMajor_val_one]; show k.val = 0 * 1024 + k.val; omega)]
  rw [shapeCast_apply _ shapeCasts_S1x1024_S1024 (ix1 k) (ix2 (0 : Fin 1) k)
    (by rewrite [Shape.rowMajor_val_two, Shape.rowMajor_val_one]; show 0 * 1024 + k.val = k.val; omega)]
  exact extractStridedSlice_apply ![1, 0] g slices_S2x1024_S1x1024_1_0 (ix2 (0 : Fin 1) k) (ix2 (1 : Fin 2) k) (fun a => match a with
    | ⟨0, _⟩ => rfl
    | ⟨1, _⟩ => by show k.val = 0 + k.val; omega)

variable (m : (ℓ : Loc nD τ sig) → Buf (Elt Ideal) ℓ)

theorem V_gain (c : Dev nD) : V m c main_v2 = row1 (m ((c : Thread nD τ).loc main_arg1)) := by
  unfold V hostOps0
  after_reads_simp
  rfl

theorem V_wIn (c : Dev nD) : V m c main_v3 = (m ((c : Thread nD τ).loc main_arg2) : FVec Ideal S2x1024x5632 .f32) := by
  unfold V hostOps0
  after_reads_simp
  rfl

theorem V_wOut (c : Dev nD) : V m c main_v4 = (m ((c : Thread nD τ).loc main_arg3) : FVec Ideal S2x2816x1024 .f32) := by
  unfold V hostOps0
  after_reads_simp
  rfl

theorem V_gainOut (c : Dev nD) : V m c main_v7 = row1 (m ((c : Thread nD τ).loc main_arg4)) := by
  unfold V hostOps0
  after_reads_simp
  rfl

end Cert.Kernel2Ideal.Ffn
end
-- ==== Proof.Ffn.Value.lean ====
module

public import proofs.«01_k».proof.Proof.Ffn.State
public import proofs.«01_k».proof.Proof.Ffn.Spec
public import Idealize.ShloMosaic.Lib.Pipeline.Value

/-!
# A row of the feed-forward's result, element by element

Over the extended reals each row the kernel leaves is the feed-forward of its token: the eleven parts, added one after
the other, are the product over all 2816 hidden lanes.
-/

@[expose] public section

set_option maxRecDepth 16384

noncomputable section

namespace Cert.Kernel2Ideal.Ffn

open Cert.Kernel2Ideal Cert.Kernel2Ideal.Gen
open Idealize.ShloMosaic Idealize.ShloMosaic.ValueIdx

theorem zero_f32 : (Scalar.ofBits .f32 0x00000000#32 : Ideal .f32) = (0 : EReal) := by
  show Ideal.ieee 8 23 0x00000000#32 = 0
  simp [Ideal.ieee]

/-- The product with a chunk of the first weights at an element. -/
theorem inner_apply (a : FVec Ideal S512x1024 .bf16) (b : FVec Ideal S1024x256 .bf16) (i : Fin 512) (j : Fin 256) :
    matmul dot_S512x1024_S1024x256_S512x256_1_0_0_1_n_n none a b (constant S512x256 .f32 0x00000000#32) (ix2 i j) = ∑ k : Fin 1024, (a (ix2 i k) : EReal) * b (ix2 k j) := by
  show FloatOps.matmul dot_S512x1024_S1024x256_S512x256_1_0_0_1_n_n none a b (constant S512x256 .f32 0x00000000#32) (ix2 i j) = _
  rw [Ideal.matmul_apply]
  refine (congrArg (· + _) (show (constant S512x256 .f32 0x00000000#32 : FVec Ideal S512x256 .f32) (ix2 i j) = (0 : EReal) from zero_f32)).trans ?_
  rw [zero_add, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  generalize (contrEquiv1 dot_S512x1024_S1024x256_S512x256_1_0_0_1_n_n 1024 rfl rfl).symm k = z at hk
  have el : dot_S512x1024_S1024x256_S512x256_1_0_0_1_n_n.lhsIdx (ix2 i j) z = ix2 i k := funext fun a => Fin.ext (by
    match a with
    | ⟨0, _⟩ =>
      show (dot_S512x1024_S1024x256_S512x256_1_0_0_1_n_n.lhsIdx (ix2 i j) z 0).val = i.val
      unfold DotDims.lhsIdx
      rw [dif_neg (show ¬ (0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
      rfl
    | ⟨1, _⟩ => exact (dot_S512x1024_S1024x256_S512x256_1_0_0_1_n_n.lhsIdx_val_of_single rfl (ix2 i j) z).trans hk)
  have er : dot_S512x1024_S1024x256_S512x256_1_0_0_1_n_n.rhsIdx (ix2 i j) z = ix2 k j := funext fun a => Fin.ext (by
    match a with
    | ⟨0, _⟩ => exact (dot_S512x1024_S1024x256_S512x256_1_0_0_1_n_n.rhsIdx_val_of_single rfl (ix2 i j) z).trans hk
    | ⟨1, _⟩ =>
      show (dot_S512x1024_S1024x256_S512x256_1_0_0_1_n_n.rhsIdx (ix2 i j) z 1).val = j.val
      unfold DotDims.rhsIdx
      rw [dif_neg (show ¬ (1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
      rfl)
  rw [el, er]

/-- The product with a chunk of the second weights at an element. -/
theorem outer_apply (a : FVec Ideal S512x256 .bf16) (b : FVec Ideal S256x1024 .bf16) (i : Fin 512) (j : Fin 1024) :
    matmul dot_S512x256_S256x1024_S512x1024_1_0_0_1_n_n none a b (constant S512x1024 .f32 0x00000000#32) (ix2 i j) = ∑ k : Fin 256, (a (ix2 i k) : EReal) * b (ix2 k j) := by
  show FloatOps.matmul dot_S512x256_S256x1024_S512x1024_1_0_0_1_n_n none a b (constant S512x1024 .f32 0x00000000#32) (ix2 i j) = _
  rw [Ideal.matmul_apply]
  refine (congrArg (· + _) (show (constant S512x1024 .f32 0x00000000#32 : FVec Ideal S512x1024 .f32) (ix2 i j) = (0 : EReal) from zero_f32)).trans ?_
  rw [zero_add, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  generalize (contrEquiv1 dot_S512x256_S256x1024_S512x1024_1_0_0_1_n_n 256 rfl rfl).symm k = z at hk
  have el : dot_S512x256_S256x1024_S512x1024_1_0_0_1_n_n.lhsIdx (ix2 i j) z = ix2 i k := funext fun a => Fin.ext (by
    match a with
    | ⟨0, _⟩ =>
      show (dot_S512x256_S256x1024_S512x1024_1_0_0_1_n_n.lhsIdx (ix2 i j) z 0).val = i.val
      unfold DotDims.lhsIdx
      rw [dif_neg (show ¬ (0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
      rfl
    | ⟨1, _⟩ => exact (dot_S512x256_S256x1024_S512x1024_1_0_0_1_n_n.lhsIdx_val_of_single rfl (ix2 i j) z).trans hk)
  have er : dot_S512x256_S256x1024_S512x1024_1_0_0_1_n_n.rhsIdx (ix2 i j) z = ix2 k j := funext fun a => Fin.ext (by
    match a with
    | ⟨0, _⟩ => exact (dot_S512x256_S256x1024_S512x1024_1_0_0_1_n_n.rhsIdx_val_of_single rfl (ix2 i j) z).trans hk
    | ⟨1, _⟩ =>
      show (dot_S512x256_S256x1024_S512x1024_1_0_0_1_n_n.rhsIdx (ix2 i j) z 1).val = j.val
      unfold DotDims.rhsIdx
      rw [dif_neg (show ¬ (1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
      rfl)
  rw [el, er]

/-- A column of 512 read back as a vector. -/
theorem col_apply (x : FVec Ideal S512 .f32) (i : Fin 512) (z : Fin 1) : (shapeCast S512x1 x shapeCasts_S512_S512x1 : FVec Ideal S512x1 .f32) (ix2 i z) = x (ix1 i) :=
  shapeCast_apply x shapeCasts_S512_S512x1 (ix2 i z) (ix1 i)
    (by rewrite [Shape.rowMajor_val_two, Shape.rowMajor_val_one]; show i.val = i.val * 1 + z.val; omega)

theorem lift_lane (i : Fin 512) (k : Fin 1024) : reduces_S512x1024_S512.lift (ix1 i) k = ix2 i k :=
  funext fun a => Fin.ext (match a with | ⟨0, _⟩ => rfl | ⟨1, _⟩ => rfl)

/-- A row normalised. -/
theorem rmsV_apply (x : FVec Ideal S512x1024 .f32) (g : Vec Ideal S1x1024 .f32) (i : Fin 512) (j : Fin 1024) :
    rmsV x g (ix2 i j) = Cert.Ffn.rms (fun k => x (ix2 i k)) (fun k => g (ix2 (0 : Fin 1) k)) j := by
  unfold rmsV
  rw [mulf_apply, mulf_apply]
  rw [broadcastTo_apply _ broadcasts_S512x1_S512x1024 (ix2 i j) (ix2 i (0 : Fin 1))
    (fun a => match a with
      | ⟨0, _⟩ => by show i.val = if (512 : ℕ) = 1 then 0 else i.val; rw [if_neg (by decide)]
      | ⟨1, _⟩ => by show 0 = if (1 : ℕ) = 1 then 0 else j.val; rw [if_pos rfl])]
  rw [broadcastTo_apply _ broadcasts_S1x1024_S512x1024 (ix2 i j) (ix2 (0 : Fin 1) j)
    (fun a => match a with
      | ⟨0, _⟩ => by show 0 = if (1 : ℕ) = 1 then 0 else i.val; rw [if_pos rfl]
      | ⟨1, _⟩ => by show j.val = if (1024 : ℕ) = 1 then 0 else j.val; rw [if_neg (by decide)])]
  rw [shapeCast_apply g shapeCasts_S1x1024_S1x1024 (ix2 (0 : Fin 1) j) (ix2 (0 : Fin 1) j) rfl]
  unfold Cert.Ffn.rms
  refine congrArg (fun z : EReal => (x (ix2 i j) : EReal) * Ideal.rsqrt (Ideal.div z Cert.Ffn.count + Cert.Ffn.small) * g (ix2 (0 : Fin 1) j)) ?_
  refine (col_apply _ i 0).trans ((Ideal.multiReduction_add_single _ _ _ _ _ _).trans (Finset.sum_congr rfl fun k _ => ?_))
  exact congrArg (mulf x x) (lift_lane i k)

/-- The normalised rows as they are stored. -/
theorem normV_apply (x : Vec Ideal S512x1024 .f32) (g : Vec Ideal S1x1024 .f32) (i : Fin 512) (j : Fin 1024) :
    normV x g (ix2 i j) = Cert.Ffn.rms (fun k => x (ix2 i k)) (fun k => g (ix2 (0 : Fin 1) k)) j := by
  unfold normV
  rw [shapeCast_apply _ shapeCasts_S512x1024_S512x1024 (ix2 i j) (ix2 i j) rfl]
  exact rmsV_apply x g i j

/-- A chunk's gate or up column. -/
theorem projV_apply (n : Vec Ideal S512x1024 .bf16) (w : Vec Ideal S1x1024x256 .bf16) (i : Fin 512) (l : Fin 256) :
    projV n w (ix2 i l) = ∑ k : Fin 1024, (n (ix2 i k) : EReal) * w (ix3 (0 : Fin 1) k l) := by
  unfold projV
  rw [inner_apply]
  refine Finset.sum_congr rfl fun k _ => congrArg (fun z : EReal => (n (ix2 i k) : EReal) * z) ?_
  exact shapeCast_apply w shapeCasts_S1x1024x256_S1024x256 (ix2 k l) (ix3 (0 : Fin 1) k l)
    (by rewrite [Shape.rowMajor_val_two, Shape.rowMajor_val_three]; show (0 * 1024 + k.val) * 256 + l.val = k.val * 256 + l.val; omega)

/-- A chunk's part at an element. -/
theorem partV_apply (n : Vec Ideal S512x1024 .bf16) (wg wu : Vec Ideal S1x1024x256 .bf16) (wo : Vec Ideal S1x256x1024 .bf16) (i : Fin 512) (j : Fin 1024) :
    partV n n wg wu wo (ix2 i j)
      = ∑ l : Fin 256, (projV n wg (ix2 i l) : EReal) * Ideal.logistic (projV n wg (ix2 i l)) * projV n wu (ix2 i l) * wo (ix3 (0 : Fin 1) l j) := by
  unfold partV
  rw [outer_apply]
  refine Finset.sum_congr rfl fun l _ => congrArg₂ (fun y z : EReal => y * z) rfl ?_
  exact shapeCast_apply wo shapeCasts_S1x256x1024_S256x1024 (ix2 l j) (ix3 (0 : Fin 1) l j)
    (by rewrite [Shape.rowMajor_val_two, Shape.rowMajor_val_three]; show (0 * 256 + l.val) * 1024 + j.val = l.val * 1024 + j.val; omega)

/-! ## A half of the result -/

variable (x : Ins Ideal) (s : Fin 2)

/-- Token `i` of half `s`. -/
def tokenAt (i : Fin 512) : Fin 1024 → EReal := fun k => x.x (ix2 (⟨512 * s.val + i.val, by omega⟩ : Fin 1024) k)
/-- The gain before the product. -/
def gain : Fin 1024 → EReal := fun k => x.g (ix2 (0 : Fin 1) k)
/-- The gain after it. -/
def gainOut : Fin 1024 → EReal := fun k => x.go (ix2 (0 : Fin 1) k)
/-- The first weights. -/
def wIn : Fin 1024 → Fin 5632 → EReal := fun k f => x.wi (ix3 (0 : Fin 1) k f)
/-- The second weights. -/
def wOut : Fin 2816 → Fin 1024 → EReal := fun f j => x.wo (ix3 (0 : Fin 1) f j)

theorem half_apply (i : Fin 512) (k : Fin 1024) : half x.x s (ix2 i k) = tokenAt x s i k := by
  refine congrArg x.x (funext fun a => Fin.ext ?_)
  match a with
  | ⟨0, _⟩ => show 512 * s.val + 1 * i.val = 512 * s.val + i.val; omega
  | ⟨1, _⟩ => show 0 + 1 * k.val = k.val; omega

theorem full_apply (g : Vec Ideal S1x1024 .f32) (k : Fin 1024) :
    VecWindow.window g ![0, 0] S1x1024.size inb_S1x1024_S1x1024_0_0 (ix2 (0 : Fin 1) k) = g (ix2 (0 : Fin 1) k) := by
  refine congrArg g (funext fun a => Fin.ext ?_)
  match a with
  | ⟨0, _⟩ => rfl
  | ⟨1, _⟩ => show 0 + 1 * k.val = k.val; omega

theorem nrm_apply (i : Fin 512) (k : Fin 1024) : nrm x s (ix2 i k) = Cert.Ffn.rms (tokenAt x s i) (gain x) k := by
  unfold nrm
  rw [normV_apply]
  exact congrArg₂ (fun a b => Cert.Ffn.rms a b k) (funext fun k => half_apply x s i k) (funext fun k => full_apply x.g k)

/-- A chunk's gate or up lane, the chunk starting at column `b`. -/
theorem lane_apply (off : Fin 3 → ℕ) (b : ℕ) (hoff : off = ![0, 0, b]) (inb : ∀ a, off a + S1x1024x256.size a ≤ S1x1024x5632.size a) (i : Fin 512) (l : Fin 256) (hb : b + l.val < 5632) :
    projV (nrm x s) (VecWindow.window x.wi off S1x1024x256.size inb) (ix2 i l)
      = Cert.Ffn.proj (Cert.Ffn.rms (tokenAt x s i) (gain x)) (wIn x) ⟨b + l.val, hb⟩ := by
  subst hoff
  rw [projV_apply]
  refine Finset.sum_congr rfl fun k _ => congrArg₂ (fun y z : EReal => y * z) (nrm_apply x s i k) ?_
  refine congrArg x.wi (funext fun a => Fin.ext ?_)
  match a with
  | ⟨0, _⟩ => rfl
  | ⟨1, _⟩ => show 0 + 1 * k.val = k.val; omega
  | ⟨2, _⟩ => show b + 1 * l.val = b + l.val; omega

/-- A chunk's part of a token. -/
theorem partF_apply (c : Fin 11) (i : Fin 512) (j : Fin 1024) :
    partF x (nrm x s) c (ix2 i j)
      = ∑ l : Fin 256, Cert.Ffn.act (Cert.Ffn.rms (tokenAt x s i) (gain x)) (wIn x) ⟨256 * c.val + l.val, by omega⟩ * wOut x ⟨256 * c.val + l.val, by omega⟩ j := by
  unfold partF
  rw [partV_apply]
  refine Finset.sum_congr rfl fun l _ => ?_
  rw [lane_apply x s (gateOff c) (256 * c.val) rfl (gateOff_inb c) i l (by omega),
    lane_apply x s (upOff c) (2816 + 256 * c.val) rfl (upOff_inb c) i l (by omega)]
  unfold Cert.Ffn.act
  refine congrArg₂ (fun y z : EReal => y * z) ?_ ?_
  · refine congrArg (fun z => _ * Cert.Ffn.proj _ _ z) (Fin.ext ?_)
    show 2816 + 256 * c.val + l.val = 2816 + (256 * c.val + l.val)
    omega
  · refine congrArg x.wo (funext fun a => Fin.ext ?_)
    match a with
    | ⟨0, _⟩ => rfl
    | ⟨1, _⟩ => show 256 * c.val + 1 * l.val = 256 * c.val + l.val; omega
    | ⟨2, _⟩ => show 0 + 1 * j.val = j.val; omega

/-- The accumulator after the chunks up to `k`: their parts' sum. -/
theorem acc_apply (k : ℕ) (i : Fin 512) (j : Fin 1024) :
    acc x s k (ix2 i j) = ∑ c ∈ Finset.range (k + 1), (partF x (nrm x s) (Fin.ofNat 11 c) (ix2 i j) : EReal) := by
  induction k with
  | zero =>
    rw [Finset.sum_range_one]
    exact shapeCast_apply _ shapeCasts_S512x1024_S512x1024 (ix2 i j) (ix2 i j) rfl
  | succ k ih =>
    rw [Finset.sum_range_succ, ← ih]
    exact shapeCast_apply _ shapeCasts_S512x1024_S512x1024 (ix2 i j) (ix2 i j) rfl

/-- The last sum is the product over all the hidden lanes. -/
theorem total (i : Fin 512) (j : Fin 1024) :
    (acc x s 9 (ix2 i j) : EReal) + partF x (nrm x s) 10 (ix2 i j)
      = ∑ f : Fin 2816, Cert.Ffn.act (Cert.Ffn.rms (tokenAt x s i) (gain x)) (wIn x) f * wOut x f j := by
  rw [acc_apply]
  refine (Finset.sum_range_succ (fun c => (partF x (nrm x s) (Fin.ofNat 11 c) (ix2 i j) : EReal)) 10).symm.trans ?_
  rw [← Cert.Ffn.sum_chunks fun f => Cert.Ffn.act (Cert.Ffn.rms (tokenAt x s i) (gain x)) (wIn x) f * wOut x f j]
  refine (Fin.sum_univ_eq_sum_range (fun c => (partF x (nrm x s) (Fin.ofNat 11 c) (ix2 i j) : EReal)) 11).symm.trans ?_
  refine Finset.sum_congr rfl fun c _ => ?_
  have hc : Fin.ofNat 11 c.val = c := Fin.ext (Nat.mod_eq_of_lt c.isLt)
  rw [hc]
  exact partF_apply x s c i j

/-- An element of the result. -/
theorem outH_apply (i : Fin 512) (j : Fin 1024) :
    outH x s (ix2 i j) = Cert.Ffn.tok (tokenAt x s i) (gain x) (wIn x) (wOut x) (gainOut x) j := by
  unfold outH lastV
  rw [rmsV_apply]
  unfold Cert.Ffn.tok
  refine congrArg₂ (fun a b => Cert.Ffn.rms a b j) (funext fun k => ?_) (funext fun k => full_apply x.go k)
  unfold Cert.Ffn.res
  rw [← total x s i k]
  exact congrArg (fun z : EReal => z + Cert.Ffn.oneHalf * ((acc x s 9 (ix2 i k) : EReal) + partF x (nrm x s) 10 (ix2 i k))) (half_apply x s i k)

end Cert.Kernel2Ideal.Ffn
end
-- ==== Proof.Ffn.RefValue.lean ====
module

public import proofs.«01_k».proof.Proof.Gen.Reference2Ideal.Read
public import proofs.«01_k».proof.Proof.Ffn.Spec

/-!
# What the feed-forward's reference computes

An element of the reference's result is the token's result of `Cert.Ffn.tok` at the second layer's weights.
-/

@[expose] public section

set_option maxRecDepth 16384

noncomputable section

namespace Cert.Reference2Ideal.Ffn

open Cert.Reference2Ideal Cert.Reference2Ideal.Gen Cert.Reference2Ideal.Read
open Idealize.ShloMosaic Idealize.ShloMosaic.ValueIdx

variable (X : FVec Ideal S98304x1024 .f32) (G : FVec Ideal S2x1024 .f32) (W : FVec Ideal S2x1024x5632 .f32) (U : FVec Ideal S2x2816x1024 .f32)
  (H : FVec Ideal S2x1024 .f32) (r : Fin 32768)

/-- Token `r`. -/
def token : Fin 1024 → EReal := fun k => X (ix2 (⟨r.val, by omega⟩ : Fin 98304) k)
/-- The second layer's row of a pair of gains. -/
def row : Fin 1024 → EReal := fun k => G (ix2 (1 : Fin 2) k)
/-- The second layer's first weights. -/
def wIn : Fin 1024 → Fin 5632 → EReal := fun k f => W (ix3 (1 : Fin 2) k f)
/-- The second layer's second weights. -/
def wOut : Fin 2816 → Fin 1024 → EReal := fun f j => U (ix3 (1 : Fin 2) f j)

theorem zero32 : (FloatOps.ofBits .f32 0x00000000#32 : Ideal .f32) = (0 : EReal) := by
  show Ideal.ieee 8 23 0x00000000#32 = 0
  simp [Ideal.ieee]

theorem one32 : (FloatOps.ofBits .f32 0x3F800000#32 : Ideal .f32) = (1 : EReal) := by
  show Ideal.ieee 8 23 0x3F800000#32 = 1
  simp [Ideal.ieee]
  rw [← EReal.coe_mul]
  norm_num

/-- Two indices of two axes agree when their coordinates do. -/
theorem ext2 {n0 n1 : ℕ} (p q : (⟨2, ![n0, n1]⟩ : Shape).Idx) (h0 : (p 0).val = (q 0).val) (h1 : (p 1).val = (q 1).val) : p = q := by
  funext a
  refine Fin.ext ?_
  match a with
  | ⟨0, _⟩ => exact h0
  | ⟨1, _⟩ => exact h1

/-- Two indices of three axes agree when their coordinates do. -/
theorem ext3 {n0 n1 n2 : ℕ} (p q : (⟨3, ![n0, n1, n2]⟩ : Shape).Idx) (h0 : (p 0).val = (q 0).val) (h1 : (p 1).val = (q 1).val)
    (h2 : (p 2).val = (q 2).val) : p = q := by
  funext a
  refine Fin.ext ?_
  match a with
  | ⟨0, _⟩ => exact h0
  | ⟨1, _⟩ => exact h1
  | ⟨2, _⟩ => exact h2

theorem v0_at (k : Fin 1024) : val_main_v0 (F := Ideal) X (ix2 r k) = token X r k := by
  rw [val_main_v0_apply]
  exact congrArg X (ext2 _ _ rfl rfl)

theorem v14_at (k : Fin 1024) : val_main_v14 (F := Ideal) G (ix2 r k) = row G k := by
  rw [val_main_v14_apply, val_main_v13_apply, val_main_v2_apply, val_main_v1_apply]
  exact congrArg G (ext2 _ _ rfl (Nat.mod_eq_of_lt k.isLt))

theorem v42_at (k : Fin 1024) : val_main_v42 (F := Ideal) H (ix2 r k) = row H k := by
  rw [val_main_v42_apply, val_main_v41_apply, val_main_v30_apply, val_main_v29_apply]
  exact congrArg H (ext2 _ _ rfl (Nat.mod_eq_of_lt k.isLt))

theorem v17_at (k : Fin 1024) (f : Fin 5632) : val_main_v17 (F := Ideal) W (ix2 k f) = wIn W k f := by
  rw [val_main_v17_apply, val_main_v16_apply]
  refine congrArg W (ext3 _ _ rfl ?_ ?_)
  · show (k.val * 5632 + f.val) / 5632 % 1024 = k.val
    omega
  · show (k.val * 5632 + f.val) % 5632 = f.val
    omega

theorem v19_at (f : Fin 2816) (j : Fin 1024) : val_main_v19 (F := Ideal) U (ix2 f j) = wOut U f j := by
  rw [val_main_v19_apply, val_main_v18_apply]
  refine congrArg U (ext3 _ _ rfl ?_ ?_)
  · show (f.val * 1024 + j.val) / 1024 % 2816 = f.val
    omega
  · show (f.val * 1024 + j.val) % 1024 = j.val
    omega

/-- The sum of a token's squares. -/
theorem v4_at : val_main_v4 (F := Ideal) X (ix1 r) = ∑ k : Fin 1024, token X r k * token X r k := by
  rw [val_main_v4_apply, val_main_cst_apply, zero32, zero_add]
  refine Finset.sum_congr rfl fun k _ => ?_
  have e : idx_main_v4 (ix1 r) k = ix2 r k := ext2 _ _ rfl rfl
  rw [e, val_main_v3_apply, v0_at]
  rfl

/-- The factor that normalises a token. -/
theorem v11_at (k : Fin 1024) : val_main_v11 (F := Ideal) X (ix2 r k)
    = Ideal.rsqrt (Ideal.div (∑ k : Fin 1024, token X r k * token X r k) Cert.Ffn.count + Cert.Ffn.small) := by
  rw [val_main_v11_apply, val_main_v10_apply, val_main_v9_apply, val_main_v8_apply, val_main_v7_apply, val_main_v6_apply, val_main_v5_apply]
  have e : idx_main_v5 (idx_main_v11 (ix2 r k)) = ix1 r := funext fun a => Fin.ext (match a with | ⟨0, _⟩ => rfl)
  rw [e, v4_at]
  rfl

/-- A normalised token. -/
theorem v15_at (k : Fin 1024) : val_main_v15 (F := Ideal) X G (ix2 r k) = Cert.Ffn.rms (token X r) (row G) k := by
  rw [val_main_v15_apply, val_main_v12_apply, v0_at, v11_at, v14_at]
  rfl

/-- The first product. -/
theorem v20_at (f : Fin 5632) : val_main_v20 (F := Ideal) X G W (ix2 r f) = Cert.Ffn.proj (Cert.Ffn.rms (token X r) (row G)) (wIn W) f := by
  rw [val_main_v20_apply]
  unfold Cert.Ffn.proj
  refine Finset.sum_congr rfl fun k _ => ?_
  have e : lidx_main_v20 (ix2 r f) k = ix2 r k := ext2 _ _ rfl rfl
  have e' : ridx_main_v20 (ix2 r f) k = ix2 k f := ext2 _ _ rfl rfl
  rw [e, e', v15_at, v17_at]

theorem v21_at (f : Fin 2816) : val_main_v21 (F := Ideal) X G W (ix2 r f)
    = Cert.Ffn.proj (Cert.Ffn.rms (token X r) (row G)) (wIn W) ⟨f.val, by omega⟩ := by
  rw [val_main_v21_apply]
  have e : idx_main_v21 (ix2 r f) = ix2 r (⟨f.val, by omega⟩ : Fin 5632) := ext2 _ _ rfl rfl
  rw [e, v20_at]

theorem v22_at (f : Fin 2816) : val_main_v22 (F := Ideal) X G W (ix2 r f)
    = Cert.Ffn.proj (Cert.Ffn.rms (token X r) (row G)) (wIn W) ⟨2816 + f.val, by omega⟩ := by
  rw [val_main_v22_apply]
  have e : idx_main_v22 (ix2 r f) = ix2 r (⟨2816 + f.val, by omega⟩ : Fin 5632) := ext2 _ _ rfl rfl
  rw [e, v20_at]

/-- The gate. -/
theorem gate_at (f : Fin 2816) : val_main_call0_v5 (F := Ideal) X G W (ix2 r f)
    = Ideal.logistic (Cert.Ffn.proj (Cert.Ffn.rms (token X r) (row G)) (wIn W) ⟨f.val, by omega⟩) := by
  rw [val_main_call0_v5_apply, val_main_call0_v4_apply, val_main_call0_v3_apply, val_main_call0_v2_apply, val_main_call0_v1_apply,
    val_main_call0_v0_apply, val_main_call0_cst_apply, val_main_call0_cst_0_apply, one32, v21_at]
  rfl

/-- The gated activation. -/
theorem v24_at (f : Fin 2816) : val_main_v24 (F := Ideal) X G W (ix2 r f) = Cert.Ffn.act (Cert.Ffn.rms (token X r) (row G)) (wIn W) f := by
  rw [val_main_v24_apply, val_main_v23_apply, v21_at, v22_at, gate_at]
  rfl

/-- The second product. -/
theorem v25_at (j : Fin 1024) : val_main_v25 (F := Ideal) X G W U (ix2 r j)
    = ∑ f : Fin 2816, Cert.Ffn.act (Cert.Ffn.rms (token X r) (row G)) (wIn W) f * wOut U f j := by
  rw [val_main_v25_apply]
  refine Finset.sum_congr rfl fun f _ => ?_
  have e : lidx_main_v25 (ix2 r j) f = ix2 r f := ext2 _ _ rfl rfl
  have e' : ridx_main_v25 (ix2 r j) f = ix2 f j := ext2 _ _ rfl rfl
  rw [e, e', v24_at, v19_at]

/-- The residual sum. -/
theorem v28_at (j : Fin 1024) : val_main_v28 (F := Ideal) X G W U (ix2 r j) = Cert.Ffn.res (token X r) (row G) (wIn W) (wOut U) j := by
  rw [val_main_v28_apply, val_main_v27_apply, val_main_v26_apply, v0_at, v25_at]
  rfl

/-- The sum of its squares. -/
theorem v32_at : val_main_v32 (F := Ideal) X G W U (ix1 r)
    = ∑ k : Fin 1024, Cert.Ffn.res (token X r) (row G) (wIn W) (wOut U) k * Cert.Ffn.res (token X r) (row G) (wIn W) (wOut U) k := by
  rw [val_main_v32_apply, val_main_cst_3_apply, zero32, zero_add]
  refine Finset.sum_congr rfl fun k _ => ?_
  have e : idx_main_v32 (ix1 r) k = ix2 r k := ext2 _ _ rfl rfl
  rw [e, val_main_v31_apply, v28_at]
  rfl

/-- The factor that normalises it. -/
theorem v39_at (k : Fin 1024) : val_main_v39 (F := Ideal) X G W U (ix2 r k)
    = Ideal.rsqrt (Ideal.div (∑ k : Fin 1024, Cert.Ffn.res (token X r) (row G) (wIn W) (wOut U) k * Cert.Ffn.res (token X r) (row G) (wIn W) (wOut U) k)
        Cert.Ffn.count + Cert.Ffn.small) := by
  rw [val_main_v39_apply, val_main_v38_apply, val_main_v37_apply, val_main_v36_apply, val_main_v35_apply, val_main_v34_apply, val_main_v33_apply]
  have e : idx_main_v33 (idx_main_v39 (ix2 r k)) = ix1 r := funext fun a => Fin.ext (match a with | ⟨0, _⟩ => rfl)
  rw [e, v32_at]
  rfl

/-- An element of the reference's result. -/
theorem v43_at (j : Fin 1024) : val_main_v43 (F := Ideal) X G W U H (ix2 r j)
    = Cert.Ffn.tok (token X r) (row G) (wIn W) (wOut U) (row H) j := by
  rw [val_main_v43_apply, val_main_v40_apply, v28_at, v39_at, v42_at]
  rfl

end Cert.Reference2Ideal.Ffn
end
-- ==== Proof.Ffn.Equation.lean ====
module

public import proofs.«01_k».proof.Proof.Ffn.Value
public import proofs.«01_k».proof.Proof.Ffn.Operands
public import proofs.«01_k».proof.Proof.Ffn.RefValue

/-! # The feed-forward call computes its reference -/

@[expose] public section

set_option maxRecDepth 16384

noncomputable section

namespace Cert.Kernel2Ideal.Ffn

open Cert.Kernel2Ideal Cert.Kernel2Ideal.Gen
open Idealize.ShloMosaic Idealize.ShloMosaic.ValueIdx

/-- An element of the call's result, of its operands. -/
theorem ffnOut_apply (X : FVec Ideal S98304x1024 .f32) (G H : FVec Ideal S2x1024 .f32) (W : FVec Ideal S2x1024x5632 .f32) (U : FVec Ideal S2x2816x1024 .f32)
    (r : Fin 32768) (j : Fin 1024) :
    ffnOut (F := Ideal) X (row1 G) W U (row1 H) (ix2 r j)
      = Cert.Ffn.tok (Cert.Reference2Ideal.Ffn.token X r) (Cert.Reference2Ideal.Ffn.row G) (Cert.Reference2Ideal.Ffn.wIn W)
          (Cert.Reference2Ideal.Ffn.wOut U) (Cert.Reference2Ideal.Ffn.row H) j := by
  unfold ffnOut outV
  refine (outH_apply _ _ _ _).trans ?_
  have et : tokenAt (insOf (F := Ideal) X (row1 G) W U (row1 H) ⟨r.val / 1024, by omega⟩) ⟨r.val % 1024 / 512, by omega⟩ ⟨r.val % 1024 % 512, by omega⟩
      = Cert.Reference2Ideal.Ffn.token X r := funext fun k => by
    refine congrArg X (Cert.Reference2Ideal.Ffn.ext2 _ _ ?_ rfl)
    show 1024 * (r.val / 1024) + (512 * (r.val % 1024 / 512) + r.val % 1024 % 512) = r.val
    omega
  have eg : gain (insOf (F := Ideal) X (row1 G) W U (row1 H) ⟨r.val / 1024, by omega⟩) = Cert.Reference2Ideal.Ffn.row G := funext fun k => row1_apply G k
  have eh : gainOut (insOf (F := Ideal) X (row1 G) W U (row1 H) ⟨r.val / 1024, by omega⟩) = Cert.Reference2Ideal.Ffn.row H := funext fun k => row1_apply H k
  have ew : wIn (insOf (F := Ideal) X (row1 G) W U (row1 H) ⟨r.val / 1024, by omega⟩) = Cert.Reference2Ideal.Ffn.wIn W := rfl
  have eu : wOut (insOf (F := Ideal) X (row1 G) W U (row1 H) ⟨r.val / 1024, by omega⟩) = Cert.Reference2Ideal.Ffn.wOut U := rfl
  rw [← et, ← eg, ← eh, ← ew, ← eu]

/-- The call's result is the reference's. -/
theorem ffnOut_eq (X : FVec Ideal S98304x1024 .f32) (G H : FVec Ideal S2x1024 .f32) (W : FVec Ideal S2x1024x5632 .f32) (U : FVec Ideal S2x2816x1024 .f32) :
    ffnOut (F := Ideal) X (row1 G) W U (row1 H) = Cert.Reference2Ideal.Read.val_main_v43 (F := Ideal) X G W U H := by
  funext z
  have e : z = ix2 (z 0 : Fin 32768) (z 1 : Fin 1024) := Cert.Reference2Ideal.Ffn.ext2 _ _ rfl rfl
  rw [e]
  exact (ffnOut_apply X G H W U (z 0) (z 1)).trans (Cert.Reference2Ideal.Ffn.v43_at X G W U H (z 0) (z 1)).symm

end Cert.Kernel2Ideal.Ffn
end
-- ==== Proof.FfnFirst.Phases.lean ====
module

public import proofs.«01_k».proof.Proof.Ffn.Value
public import proofs.«01_k».proof.Kernel3Ideal
public import Idealize.ShloMosaic.Lib.Pipeline.Regions

/-!
# The phases of a layer's first feed-forward call

The body is the chain of the phases of `Cert.Kernel2Ideal`, over the buffers of this call.
-/

@[expose] public section

set_option maxRecDepth 16384
set_option synthInstance.maxSize 4096

noncomputable section

namespace Cert.Kernel3Ideal

open Idealize.ShloMosaic Idealize.SL.Sem
open Idealize.ShloMosaic.RefSig (ofTc tcTables tileCredit tileCredit_eq_zero tileCredit_pos)

variable {F : FTy → Type} [FloatOps F]
variable [Facts]
open Facts₀ Facts
open Cert.Kernel2Ideal (normV partV firstV addV rowOff gateOff upOff outOff rowOff_inb gateOff_inb upOff_inb outOff_inb rowOff_packed)

/-- The residual sum. -/
def sumV (x acc : Vec F S512x1024 .f32) (p : FVec F S512x1024 .f32) : FVec F S512x1024 .f32 :=
  addf x (mulf (broadcast S512x1024 (Scalar.ofBits .f32 0x3F000000#32)) (addf acc p))

/-! ## The phases as programs -/

variable (arg1 : Memref sig .tc .vmem S1024x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)

/-- The normalisation of a half. -/
def normP (s : Fin 2) : Prog (TpuEff nD τ sig (Elt F) Λ₀ .tc) PUnit := do
  let x : Vec F S512x1024 .f32 ← Prog.lift (.load arg1 (Rect.unit (s := S1024x1024) (rowOff s) S512x1024.size (rowOff_inb s)).toLoadRect (View.loadsAt_vmem h_S512x1024))
  let g : Vec F S1x1024 .f32 ← Prog.lift (.load arg2 (Rect.unit (s := S1x1024) ![0, 0] S1x1024.size inb_S1x1024_S1x1024_0_0).toLoadRect (View.loadsAt_vmem h_S1x1024))
  let _x : Vec F S512x1024 .bf16 ← Prog.lift (.load arg7 (Rect.unit (s := S1024x1024) (rowOff s) S512x1024.size (rowOff_inb s)).toLoadRect (View.loadsAt_vmem h_S512x1024))
  Prog.lift (.store arg7 (Rect.unit (s := S1024x1024) (rowOff s) S512x1024.size (rowOff_inb s)) (normV x g) Finset.univ
    (View.stores_vmem h_S512x1024 (harg7.storeExact_slice rfl _ (rowOff_packed s)) (fun _ => rfl)) (.inl rfl))

/-- The first chunk of a half: its part into the accumulator. -/
def firstP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let _x : Vec F S512x1024 .f32 ← Prog.lift (.load arg8 (Rect.unit (s := S1024x1024) (rowOff s) S512x1024.size (rowOff_inb s)).toLoadRect (View.loadsAt_vmem h_S512x1024))
  Prog.lift (.store arg8 (Rect.unit (s := S1024x1024) (rowOff s) S512x1024.size (rowOff_inb s)) (firstV (partV a b wg wu wo)) Finset.univ
    (View.stores_vmem_bits_univ h_S512x1024 rfl) (.inl rfl))

/-- A middle chunk of a half: its part added to the accumulator. -/
def addP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let acc : Vec F S512x1024 .f32 ← Prog.lift (.load arg8 (Rect.unit (s := S1024x1024) (rowOff s) S512x1024.size (rowOff_inb s)).toLoadRect (View.loadsAt_vmem h_S512x1024))
  let _x : Vec F S512x1024 .f32 ← Prog.lift (.load arg8 (Rect.unit (s := S1024x1024) (rowOff s) S512x1024.size (rowOff_inb s)).toLoadRect (View.loadsAt_vmem h_S512x1024))
  Prog.lift (.store arg8 (Rect.unit (s := S1024x1024) (rowOff s) S512x1024.size (rowOff_inb s)) (addV acc (partV a b wg wu wo)) Finset.univ
    (View.stores_vmem_bits_univ h_S512x1024 rfl) (.inl rfl))

/-- The last chunk of a half: the residual sum into the result. -/
def lastP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let x : Vec F S512x1024 .f32 ← Prog.lift (.load arg1 (Rect.unit (s := S1024x1024) (rowOff s) S512x1024.size (rowOff_inb s)).toLoadRect (View.loadsAt_vmem h_S512x1024))
  let acc : Vec F S512x1024 .f32 ← Prog.lift (.load arg8 (Rect.unit (s := S1024x1024) (rowOff s) S512x1024.size (rowOff_inb s)).toLoadRect (View.loadsAt_vmem h_S512x1024))
  let _x : Vec F S512x1024 .f32 ← Prog.lift (.load arg6 (Rect.unit (s := S1024x1024) (rowOff s) S512x1024.size (rowOff_inb s)).toLoadRect (View.loadsAt_vmem h_S512x1024))
  Prog.lift (.store arg6 (Rect.unit (s := S1024x1024) (rowOff s) S512x1024.size (rowOff_inb s)) (sumV x acc (partV a b wg wu wo)) Finset.univ
    (View.stores_vmem_bits_univ h_S512x1024 rfl) (.inl rfl))

/-- The phases of a half. -/
def halfP (s : Fin 2) : List (Prog (TpuEff nD τ sig (Elt F) Λ₀ .tc) PUnit) :=
  [normP arg1 arg2 arg7 harg7 s, firstP arg3 arg4 arg7 arg8 s 0, addP arg3 arg4 arg7 arg8 s 1, addP arg3 arg4 arg7 arg8 s 2,
   addP arg3 arg4 arg7 arg8 s 3, addP arg3 arg4 arg7 arg8 s 4, addP arg3 arg4 arg7 arg8 s 5, addP arg3 arg4 arg7 arg8 s 6,
   addP arg3 arg4 arg7 arg8 s 7, addP arg3 arg4 arg7 arg8 s 8, addP arg3 arg4 arg7 arg8 s 9, lastP arg1 arg3 arg4 arg6 arg7 arg8 s 10]

set_option maxHeartbeats 4000000 in
/-- The body is the chain of its phases, in the kernel's order. -/
theorem body_eq (i : grid0.Coords) :
    cc0_ffn (F := F) i arg1 harg1 arg2 harg2 arg3 harg3 arg4 harg4 arg5 harg5 arg6 harg6 arg7 harg7 arg8 harg8
      = Pipeline.chain (halfP arg1 arg2 arg3 arg4 arg6 arg7 harg7 arg8 0 ++ halfP arg1 arg2 arg3 arg4 arg6 arg7 harg7 arg8 1) := by
  chain_rfl

end Cert.Kernel3Ideal
end
-- ==== Proof.FfnFirst.Triples.lean ====
module

public import proofs.«01_k».proof.Proof.FfnFirst.Phases
public import proofs.«01_k».proof.Proof.Gen.Kernel3Ideal.Frame.Runs
public import Idealize.ShloMosaic.Lib.VecWindow

/-!
# What each phase of a layer's first feed-forward call does

Each phase is its function on the state of `Cert.Kernel2Ideal.Ffn`.
-/

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel2Ideal.Ffn (Ins St half partF normF firstF addF)
open Cert.Kernel2Ideal (rowOff)

variable {F : FTy → Type} [FloatOps F]

local notation "𝕄" => MT nD τ sig Unit (Elt F) ℕ (UR sig nD τ) ℕ

/-- The memrefs of one program. -/
structure Refs where
  arg1 : Memref sig .tc .vmem S1024x1024 .f32
  harg1 : arg1.IsWhole
  arg2 : Memref sig .tc .vmem S1x1024 .f32
  harg2 : arg2.IsWhole
  arg3 : Memref sig .tc .vmem S1x1024x5632 .bf16
  harg3 : arg3.IsWhole
  arg4 : Memref sig .tc .vmem S1x2816x1024 .bf16
  harg4 : arg4.IsWhole
  arg5 : Memref sig .tc .vmem S1x1024 .f32
  harg5 : arg5.IsWhole
  arg6 : Memref sig .tc .vmem S1024x1024 .f32
  harg6 : arg6.IsWhole
  arg7 : Memref sig .tc .vmem S1024x1024 .bf16
  harg7 : arg7.IsWhole
  arg8 : Memref sig .tc .vmem S1024x1024 .f32
  harg8 : arg8.IsWhole

/-- The program's buffers at given contents. -/
def held (c : Dev nD) (A : Refs) (x : Ins F) (st : St F) : sProp 𝕄 :=
  iprop(owns (c : Thread nD τ) A.arg1 fullShare x.x ∗ owns (c : Thread nD τ) A.arg2 fullShare x.g ∗ owns (c : Thread nD τ) A.arg3 fullShare x.wi
    ∗ owns (c : Thread nD τ) A.arg4 fullShare x.wo ∗ owns (c : Thread nD τ) A.arg5 fullShare x.go ∗ owns (c : Thread nD τ) A.arg6 fullShare st.o
    ∗ owns (c : Thread nD τ) A.arg7 fullShare st.n ∗ owns (c : Thread nD τ) A.arg8 fullShare st.a)

/-- The program `P` takes the state `st` to `f st`, whatever it is. -/
def Does (c : Dev nD) (A : Refs) (x : Ins F) (P : Prog (TpuEff nD τ sig (Elt F) Λ₀ .tc) PUnit) (f : St F → St F) : Prop :=
  ∀ (st : St F) (E : Set ℕ) (K : PUnit → sProp 𝕄),
    iprop(held c A x st ∗ (held c A x (f st) -∗ K ⟨⟩)) ⊢ wp frame (wpE (defs₀ (F := F)) Variants.none c none) E P K

/-! ## The last phase on the state -/

/-- The last chunk of a half. -/
def lastF (x : Ins F) (s : Fin 2) (c : Fin 11) (st : St F) : St F :=
  { st with o := VecWindow.put st.o (rowOff s) S512x1024.size (sumV (half x.x s) (half st.a s) (partF x (half st.n s) c)) }

/-- What is read after one unmasked store is the payload put over what was read before. -/
theorem read_writes_put {s : Shape} {e : EltTy} {sp : Space} (m : Memref sig .tc sp s e) (f : m.view.ty.Contents (Elt F)) (y : s.Idx → Elt F e)
    (hf : m.view.read (Elt F) f = y) {off size : Fin s.rank → ℕ} (inb : ∀ a, off a + size a ≤ s.size a) (w : (Rect.unit off size inb).shape.Idx → Elt F e) :
    m.view.read (Elt F) (m.view.writes (Elt F) f [⟨Rect.unit off size inb, w⟩]) = VecWindow.put y off size w := by
  subst hf
  exact View.read_writes_cons_put m.view f inb w [] rfl

/-- The normalisation does what it says. -/
theorem norm_does (c : Dev nD) (A : Refs) (x : Ins F) (s : Fin 2) : Does c A x (normP A.arg1 A.arg2 A.arg7 A.harg7 s) (normF x s) := by
  intro st E K
  unfold normP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    rw [read_writes_put A.arg7 f6 st.n h6]
    unfold Cert.Kernel2Ideal.Ffn.normF
    rw [← h0, ← h1]
    rfl
  iexists _; isplitr; swap; · iexact H7
  ipureintro
  exact h7

/-- The first chunk does what it says. -/
theorem first_does (c : Dev nD) (A : Refs) (x : Ins F) (s : Fin 2) (k : Fin 11) : Does c A x (firstP A.arg3 A.arg4 A.arg7 A.arg8 s k) (firstF x s k) := by
  intro st E K
  unfold firstP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  iexists _; isplitr; swap; · iexact H7
  ipureintro
  rw [read_writes_put A.arg8 f7 st.a h7]
  unfold Cert.Kernel2Ideal.Ffn.firstF Cert.Kernel2Ideal.Ffn.partF
  rw [← h2, ← h3, ← h6]
  rfl

/-- A middle chunk does what it says. -/
theorem add_does (c : Dev nD) (A : Refs) (x : Ins F) (s : Fin 2) (k : Fin 11) : Does c A x (addP A.arg3 A.arg4 A.arg7 A.arg8 s k) (addF x s k) := by
  intro st E K
  unfold addP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  iexists _; isplitr; swap; · iexact H7
  ipureintro
  rw [read_writes_put A.arg8 f7 st.a h7]
  unfold Cert.Kernel2Ideal.Ffn.addF Cert.Kernel2Ideal.Ffn.partF
  rw [← h2, ← h3, ← h6, ← h7]
  rfl

/-- The last chunk does what it says. -/
theorem last_does (c : Dev nD) (A : Refs) (x : Ins F) (s : Fin 2) (k : Fin 11) : Does c A x (lastP A.arg1 A.arg3 A.arg4 A.arg6 A.arg7 A.arg8 s k) (lastF x s k) := by
  intro st E K
  unfold lastP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    rw [read_writes_put A.arg6 f5 st.o h5]
    unfold lastF Cert.Kernel2Ideal.Ffn.partF
    rw [← h0, ← h2, ← h3, ← h6, ← h7]
    rfl
  isplitl [H6]
  · iexists _; isplitr; swap; · iexact H6
    ipureintro
    exact h6
  iexists _; isplitr; swap; · iexact H7
  ipureintro
  exact h7

/-- A list of programs, each with what it does, does these one after the other. -/
theorem chain_does (c : Dev nD) (A : Refs) (x : Ins F) {Ps : List (Prog (TpuEff nD τ sig (Elt F) Λ₀ .tc) PUnit)} {fs : List (St F → St F)}
    (h : List.Forall₂ (Does c A x) Ps fs) : Does c A x (Pipeline.chain Ps) (fun st => fs.foldl (fun st f => f st) st) := by
  induction h with
  | nil =>
    intro st E K
    rw [Pipeline.chain_nil]
    iintro ⟨H, Hk⟩
    sl_step
    iapply Hk
    iexact H
  | cons hd _ ih =>
    intro st E K
    rw [Pipeline.chain_cons, wp_bind]
    iintro ⟨H, Hk⟩
    iapply (hd st E _)
    isplitl [H]; · iexact H
    iintro H
    iapply (ih _ E K)
    isplitl [H]; · iexact H
    iexact Hk

/-- What the phases of a half do. -/
def halfF (x : Ins F) (s : Fin 2) : List (St F → St F) :=
  [normF x s, firstF x s 0, addF x s 1, addF x s 2, addF x s 3, addF x s 4, addF x s 5, addF x s 6, addF x s 7, addF x s 8, addF x s 9, lastF x s 10]

/-- What the body does. -/
def bodyF (x : Ins F) (st : St F) : St F := (halfF x 0 ++ halfF x 1).foldl (fun st f => f st) st

theorem half_does (c : Dev nD) (A : Refs) (x : Ins F) (s : Fin 2) :
    List.Forall₂ (Does c A x) (halfP A.arg1 A.arg2 A.arg3 A.arg4 A.arg6 A.arg7 A.harg7 A.arg8 s) (halfF x s) :=
  .cons (norm_does c A x s) (.cons (first_does c A x s 0) (.cons (add_does c A x s 1) (.cons (add_does c A x s 2) (.cons (add_does c A x s 3)
    (.cons (add_does c A x s 4) (.cons (add_does c A x s 5) (.cons (add_does c A x s 6) (.cons (add_does c A x s 7) (.cons (add_does c A x s 8)
      (.cons (add_does c A x s 9) (.cons (last_does c A x s 10) .nil)))))))))))

/-- The body does what its phases do. -/
theorem body_does (c : Dev nD) (A : Refs) (x : Ins F) (i : grid0.Coords) :
    Does c A x (cc0_ffn (F := F) i A.arg1 A.harg1 A.arg2 A.harg2 A.arg3 A.harg3 A.arg4 A.harg4 A.arg5 A.harg5 A.arg6 A.harg6 A.arg7 A.harg7 A.arg8 A.harg8)
      (bodyF x) := by
  rw [body_eq]
  exact chain_does c A x (List.rel_append (half_does c A x 0) (half_does c A x 1))

end Cert.Kernel3Ideal.Ffn
end
-- ==== Proof.FfnFirst.State.lean ====
module

public import proofs.«01_k».proof.Proof.FfnFirst.Triples
public import Idealize.ShloMosaic.Lib.ValueIdx

/-! # What the body of a layer's first feed-forward call leaves -/

@[expose] public section

set_option maxRecDepth 16384

noncomputable section

namespace Cert.Kernel3Ideal.Ffn

open Cert.Kernel3Ideal Cert.Kernel3Ideal.Gen
open Idealize.ShloMosaic Idealize.ShloMosaic.ValueIdx

open Cert.Kernel2Ideal.Ffn (Ins St half partF normF firstF addF nrm acc half_put adds)
open Cert.Kernel2Ideal (rowOff rowOff_inb)

variable {F : FTy → Type} [FloatOps F]

/-- The half of the result. -/
def outH (x : Ins F) (s : Fin 2) : FVec F S512x1024 .f32 :=
  sumV (half x.x s) (acc x s 9) (partF x (nrm x s) 10)

/-- The program's block of the result. -/
def outV (x : Ins F) : Vec F S1024x1024 .f32 := fun y =>
  outH x ⟨(y 0).val / 512, by have h : (y 0).val < 1024 := (y 0).isLt; omega⟩ (ix2 (⟨(y 0).val % 512, Nat.mod_lt _ (by decide)⟩ : Fin 512) (y 1 : Fin 1024))

/-- What a half leaves in the result. -/
theorem half_final (x : Ins F) (s : Fin 2) (st : St F) :
    ((halfF x s).foldl (fun st f => f st) st).o = VecWindow.put st.o (rowOff s) S512x1024.size (outH x s) := by
  unfold halfF
  simp only [List.foldl_cons, List.foldl_nil]
  have n0 : half (normF x s st).n s = nrm x s := half_put _ _ _
  have o0 : (normF x s st).o = st.o := rfl
  generalize normF x s st = s0 at n0 o0 ⊢
  have n1 : half (firstF x s 0 s0).n s = nrm x s := n0
  have o1 : (firstF x s 0 s0).o = st.o := o0
  have a1 : half (firstF x s 0 s0).a s = acc x s 0 := by
    refine (half_put _ _ _).trans ?_
    rw [n0]
    rfl
  generalize firstF x s 0 s0 = s1 at n1 o1 a1 ⊢
  obtain ⟨n2, o2, a2⟩ := adds x s s1 n1 1 0 rfl a1
  rw [o1] at o2
  generalize addF x s 1 s1 = s2 at n2 o2 a2 ⊢
  obtain ⟨n3, o3, a3⟩ := adds x s s2 n2 2 1 rfl a2
  rw [o2] at o3
  generalize addF x s 2 s2 = s3 at n3 o3 a3 ⊢
  obtain ⟨n4, o4, a4⟩ := adds x s s3 n3 3 2 rfl a3
  rw [o3] at o4
  generalize addF x s 3 s3 = s4 at n4 o4 a4 ⊢
  obtain ⟨n5, o5, a5⟩ := adds x s s4 n4 4 3 rfl a4
  rw [o4] at o5
  generalize addF x s 4 s4 = s5 at n5 o5 a5 ⊢
  obtain ⟨n6, o6, a6⟩ := adds x s s5 n5 5 4 rfl a5
  rw [o5] at o6
  generalize addF x s 5 s5 = s6 at n6 o6 a6 ⊢
  obtain ⟨n7, o7, a7⟩ := adds x s s6 n6 6 5 rfl a6
  rw [o6] at o7
  generalize addF x s 6 s6 = s7 at n7 o7 a7 ⊢
  obtain ⟨n8, o8, a8⟩ := adds x s s7 n7 7 6 rfl a7
  rw [o7] at o8
  generalize addF x s 7 s7 = s8 at n8 o8 a8 ⊢
  obtain ⟨n9, o9, a9⟩ := adds x s s8 n8 8 7 rfl a8
  rw [o8] at o9
  generalize addF x s 8 s8 = s9 at n9 o9 a9 ⊢
  obtain ⟨n10, o10, a10⟩ := adds x s s9 n9 9 8 rfl a9
  rw [o9] at o10
  generalize addF x s 9 s9 = s10 at n10 o10 a10 ⊢
  unfold lastF outH
  rw [n10, o10, a10]

theorem final_outV (x : Ins F) (st : St F) : (bodyF x st).o = outV x := by
  unfold bodyF
  rw [List.foldl_append, half_final, half_final]
  funext y
  have hy0 : (y 0).val < 1024 := (y 0).isLt
  have key : ∀ s : Fin 2, half (VecWindow.put (VecWindow.put st.o (rowOff 0) S512x1024.size (outH x 0)) (rowOff 1) S512x1024.size (outH x 1)) s = outH x s := by
    intro s
    fin_cases s
    · refine (VecWindow.window_put_of_disjoint (s := S1024x1024) _ (rowOff 1) S512x1024.size (rowOff 0) S512x1024.size (rowOff_inb 0) (outH x 1) 0 ?_).trans (half_put _ _ _)
      exact Or.inl (by decide)
    · exact half_put _ _ _
  have h := congrFun (key ⟨(y 0).val / 512, by omega⟩) (ix2 (⟨(y 0).val % 512, Nat.mod_lt _ (by decide)⟩ : Fin 512) (y 1 : Fin 1024))
  refine Eq.trans (congrArg (VecWindow.put (VecWindow.put st.o (rowOff 0) S512x1024.size (outH x 0)) (rowOff 1) S512x1024.size (outH x 1)) (funext fun a => Fin.ext ?_)) h
  fin_cases a
  · show (y 0).val = 512 * ((y 0).val / 512) + 1 * ((y 0).val % 512); omega
  · show (y 1).val = 0 + 1 * (y 1).val; omega

end Cert.Kernel3Ideal.Ffn
end
-- ==== Proof.FfnFirst.Run.lean ====
module

public import proofs.«01_k».proof.Proof.FfnFirst.State
public import Idealize.ShloMosaic.Lib.Pipeline.Value
public import Idealize.ShloMosaic.Lib.Claim

/-! # The run of a layer's first feed-forward call -/

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

open Cert.Kernel2Ideal.Ffn (Ins St)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs of the program at a point. -/
def insAt (c : Dev nD) (t : Fin cfg0.N) : Ins F := ⟨iblk m c 0 t, iblk m c 1 t, iblk m c 2 t, iblk m c 3 t, iblk m c 4 t⟩

/-- The proof data: the arrays as the region finds them; after the body each input's buffer at its block and the
    result's at `outV`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV (insAt m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outV (insAt m c t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The memrefs of the program at a point. -/
def refsAt (t : Fin cfg0.N) : Refs where
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  harg5 := hstage0_4 ((cfg0.slots t 4).cast nbuf0_4)
  arg6 := win0_5.stage (cfg0.slots t 5)
  harg6 := hstage0_5 ((cfg0.slots t 5).cast nbuf0_5)
  arg7 := Memref.whole cc0_scratch0
  harg7 := Memref.isWhole_whole _
  arg8 := Memref.whole cc0_scratch1
  harg8 := Memref.isWhole_whole _

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

/-- The body's triple at a point of the grid. -/
theorem body_at (c : Dev nD) (t : Fin cfg0.N) : Does c (refsAt t) (insAt m c t) (bodyAt0 (F := F) t) (bodyF (insAt m c t)) :=
  body_does c (refsAt t) (insAt m c t) (grid0.coords t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, PhiA0_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩⟩
  iapply (body_at m c t ⟨(dats m 0 c).before 5 t d5, s0, s1⟩ Set.univ _)
  isplitl [H0 H1 H2 H3 H4 H5 HS0 HS1]
  · unfold held
    isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  unfold held
  rw [final_outV]
  iintro ⟨H0, H1, H2, H3, H4, H5, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
set_option backward.isDefEq.respectTransparency.types false in
/-- The launch: the arrays end as the proof data says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel3Ideal.Ffn
end
-- ==== Proof.FfnFirst.Array.lean ====
module

public import proofs.«01_k».proof.Proof.FfnFirst.Run

/-! # The whole result of a layer's first feed-forward call -/

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI Idealize.SL.Sem
open Idealize.ShloMosaic.Rounds Idealize.ShloMosaic.ValueIdx
open Idealize.ShloMosaic.Pipeline (Dat Cfg Window BodyObligation cellOf)

open Cert.Kernel2Ideal.Ffn (Ins St)

variable {F : FTy → Type} [FloatOps F]

variable (m : (ℓ : Loc nD τ sig) → Buf (Elt F) ℓ) (ρ : Dev nD → PrngReg)

/-- The inputs of tile `t`, cut out of the five operands: its 1024 rows, and the second layer of the weights. -/
def insOf (X : Vec F S98304x1024 .f32) (G : Vec F S1x1024 .f32) (W : Vec F S2x1024x5632 .bf16) (U : Vec F S2x2816x1024 .bf16) (H : Vec F S1x1024 .f32)
    (t : Fin 96) : Ins F where
  x := fun y => X (ix2 (⟨1024 * t.val + (y 0).val, by have h : (y 0).val < 1024 := (y 0).isLt; have := t.isLt; omega⟩ : Fin 98304) (y 1 : Fin 1024))
  g := G
  wi := fun y => W (ix3 (1 : Fin 2) (y 1 : Fin 1024) (y 2 : Fin 5632))
  wo := fun y => U (ix3 (1 : Fin 2) (y 1 : Fin 2816) (y 2 : Fin 1024))
  go := H

/-- The result, of the five operands. -/
def ffnOut (X : Vec F S98304x1024 .f32) (G : Vec F S1x1024 .f32) (W : Vec F S2x1024x5632 .bf16) (U : Vec F S2x2816x1024 .bf16) (H : Vec F S1x1024 .f32) :
    Vec F S98304x1024 .f32 :=
  fun z => outV (insOf X G W U H ⟨(z 0).val / 1024, by have h : (z 0).val < 98304 := (z 0).isLt; omega⟩)
    (ix2 (⟨(z 0).val % 1024, Nat.mod_lt _ (by decide)⟩ : Fin 1024) (z 1 : Fin 1024))

/-- The result on the region's arrays. -/
def result (c : Dev nD) : Buf (Elt F) ((c : Thread nD τ).loc main_v8) :=
  ffnOut (V m c main_arg0) (V m c main_v2) (V m c main_v3) (V m c main_v4) (V m c main_v7)

theorem index0 : ∀ t : Fin grid0.N, (cc0_transform_0 (grid0.coords t) : Fin 2 → ℕ) = ![t.val, 0] := by decide +kernel
theorem index1 : ∀ t : Fin grid0.N, (cc0_transform_1 (grid0.coords t) : Fin 2 → ℕ) = ![0, 0] := by decide +kernel
theorem index2 : ∀ t : Fin grid0.N, (cc0_transform_2 (grid0.coords t) : Fin 3 → ℕ) = ![1, 0, 0] := by decide +kernel
theorem index3 : ∀ t : Fin grid0.N, (cc0_transform_3 (grid0.coords t) : Fin 3 → ℕ) = ![1, 0, 0] := by decide +kernel
theorem index4 : ∀ t : Fin grid0.N, (cc0_transform_4 (grid0.coords t) : Fin 2 → ℕ) = ![0, 0] := by decide +kernel
theorem index5 : ∀ t : Fin grid0.N, (cc0_transform_5 (grid0.coords t) : Fin 2 → ℕ) = ![t.val, 0] := by decide +kernel

/-- The tile of a point. -/
def tileOf (t : Fin cfg0.N) : Fin 96 := ⟨t.val, by have h : t.val < grid0.N := t.isLt; rw [N_0] at h; omega⟩

theorem iblk0_eq (c : Dev nD) (t : Fin cfg0.N) : (iblk m c 0 t : Vec F S1024x1024 .f32)
    = fun y => (V m c main_arg0 : Vec F S98304x1024 .f32) (ix2 (⟨1024 * (tileOf t).val + (y 0).val, by have h : (y 0).val < 1024 := (y 0).isLt; have := (tileOf t).isLt; omega⟩ : Fin 98304) (y 1 : Fin 1024)) := by
  funext y
  have e := index0 t
  refine congrArg (V m c main_arg0 : Vec F S98304x1024 .f32) (funext fun a => Fin.ext ?_)
  match a with
  | ⟨0, _⟩ =>
    show (cc0_transform_0 (grid0.coords t) : Fin 2 → ℕ) 0 * 1024 + 1 * (y 0).val = 1024 * t.val + (y 0).val
    rw [e]; show t.val * 1024 + 1 * (y 0).val = 1024 * t.val + (y 0).val; omega
  | ⟨1, _⟩ =>
    show (cc0_transform_0 (grid0.coords t) : Fin 2 → ℕ) 1 * 1024 + 1 * (y 1).val = (y 1).val
    rw [e]; show 0 * 1024 + 1 * (y 1).val = (y 1).val; omega

theorem iblk1_eq (c : Dev nD) (t : Fin cfg0.N) : (iblk m c 1 t : Vec F S1x1024 .f32) = (V m c main_v2 : Vec F S1x1024 .f32) := by
  funext y
  have e := index1 t
  refine congrArg (V m c main_v2 : Vec F S1x1024 .f32) (funext fun a => Fin.ext ?_)
  match a with
  | ⟨0, _⟩ =>
    show (cc0_transform_1 (grid0.coords t) : Fin 2 → ℕ) 0 * 1 + 1 * (y 0).val = (y 0).val
    rw [e]; show 0 * 1 + 1 * (y 0).val = (y 0).val; omega
  | ⟨1, _⟩ =>
    show (cc0_transform_1 (grid0.coords t) : Fin 2 → ℕ) 1 * 1024 + 1 * (y 1).val = (y 1).val
    rw [e]; show 0 * 1024 + 1 * (y 1).val = (y 1).val; omega

theorem iblk2_eq (c : Dev nD) (t : Fin cfg0.N) : (iblk m c 2 t : Vec F S1x1024x5632 .bf16)
    = fun y => (V m c main_v3 : Vec F S2x1024x5632 .bf16) (ix3 (1 : Fin 2) (y 1 : Fin 1024) (y 2 : Fin 5632)) := by
  funext y
  have e := index2 t
  have h0 : (y 0).val < 1 := (y 0).isLt
  refine congrArg (V m c main_v3 : Vec F S2x1024x5632 .bf16) (funext fun a => Fin.ext ?_)
  match a with
  | ⟨0, _⟩ =>
    show (cc0_transform_2 (grid0.coords t) : Fin 3 → ℕ) 0 * 1 + 1 * (y 0).val = 1
    rw [e]; show 1 * 1 + 1 * (y 0).val = 1; omega
  | ⟨1, _⟩ =>
    show (cc0_transform_2 (grid0.coords t) : Fin 3 → ℕ) 1 * 1024 + 1 * (y 1).val = (y 1).val
    rw [e]; show 0 * 1024 + 1 * (y 1).val = (y 1).val; omega
  | ⟨2, _⟩ =>
    show (cc0_transform_2 (grid0.coords t) : Fin 3 → ℕ) 2 * 5632 + 1 * (y 2).val = (y 2).val
    rw [e]; show 0 * 5632 + 1 * (y 2).val = (y 2).val; omega

theorem iblk3_eq (c : Dev nD) (t : Fin cfg0.N) : (iblk m c 3 t : Vec F S1x2816x1024 .bf16)
    = fun y => (V m c main_v4 : Vec F S2x2816x1024 .bf16) (ix3 (1 : Fin 2) (y 1 : Fin 2816) (y 2 : Fin 1024)) := by
  funext y
  have e := index3 t
  have h0 : (y 0).val < 1 := (y 0).isLt
  refine congrArg (V m c main_v4 : Vec F S2x2816x1024 .bf16) (funext fun a => Fin.ext ?_)
  match a with
  | ⟨0, _⟩ =>
    show (cc0_transform_3 (grid0.coords t) : Fin 3 → ℕ) 0 * 1 + 1 * (y 0).val = 1
    rw [e]; show 1 * 1 + 1 * (y 0).val = 1; omega
  | ⟨1, _⟩ =>
    show (cc0_transform_3 (grid0.coords t) : Fin 3 → ℕ) 1 * 2816 + 1 * (y 1).val = (y 1).val
    rw [e]; show 0 * 2816 + 1 * (y 1).val = (y 1).val; omega
  | ⟨2, _⟩ =>
    show (cc0_transform_3 (grid0.coords t) : Fin 3 → ℕ) 2 * 1024 + 1 * (y 2).val = (y 2).val
    rw [e]; show 0 * 1024 + 1 * (y 2).val = (y 2).val; omega

theorem iblk4_eq (c : Dev nD) (t : Fin cfg0.N) : (iblk m c 4 t : Vec F S1x1024 .f32) = (V m c main_v7 : Vec F S1x1024 .f32) := by
  funext y
  have e := index4 t
  refine congrArg (V m c main_v7 : Vec F S1x1024 .f32) (funext fun a => Fin.ext ?_)
  match a with
  | ⟨0, _⟩ =>
    show (cc0_transform_4 (grid0.coords t) : Fin 2 → ℕ) 0 * 1 + 1 * (y 0).val = (y 0).val
    rw [e]; show 0 * 1 + 1 * (y 0).val = (y 0).val; omega
  | ⟨1, _⟩ =>
    show (cc0_transform_4 (grid0.coords t) : Fin 2 → ℕ) 1 * 1024 + 1 * (y 1).val = (y 1).val
    rw [e]; show 0 * 1024 + 1 * (y 1).val = (y 1).val; omega

/-- A point's inputs are cut out of the five operands. -/
theorem insAt_eq (c : Dev nD) (t : Fin cfg0.N) :
    insAt m c t = insOf (V m c main_arg0) (V m c main_v2) (V m c main_v3) (V m c main_v4) (V m c main_v7) (tileOf t) := by
  unfold insAt insOf
  rw [iblk0_eq, iblk1_eq, iblk2_eq, iblk3_eq, iblk4_eq]
  rfl

/-- What a point writes back is its block of the result. -/
theorem flushed_eq (c : Dev nD) (t : Fin cfg0.N) (hf : (cfg0.win 5).flush t = true) :
    (dats m 0 c).flushed 5 t = ((cfg0.win 5).blk t).view.read (Elt F) (result m c) := by
  show (cfg0.win 5).cut (grid0.coords t) ((dats m 0 c).after 5 t) = _
  rw [after_5, insAt_eq]
  funext y
  have e := index5 t
  have h0 : (y 0).val < 1024 := (y 0).isLt
  have ht := (tileOf t).isLt
  have hz : ((cfg0.win 5).blk t).view.read (Elt F) (result m c) y
      = result m c (ix2 (⟨1024 * (tileOf t).val + (y 0).val, by omega⟩ : Fin 98304) (y 1 : Fin 1024)) := by
    refine congrArg (result m c) (funext fun a => Fin.ext ?_)
    match a with
    | ⟨0, _⟩ =>
      show (cc0_transform_5 (grid0.coords t) : Fin 2 → ℕ) 0 * 1024 + 1 * (y 0).val = 1024 * t.val + (y 0).val
      rw [e]; show t.val * 1024 + 1 * (y 0).val = 1024 * t.val + (y 0).val; omega
    | ⟨1, _⟩ =>
      show (cc0_transform_5 (grid0.coords t) : Fin 2 → ℕ) 1 * 1024 + 1 * (y 1).val = (y 1).val
      rw [e]; show 0 * 1024 + 1 * (y 1).val = (y 1).val; omega
  rw [hz]
  unfold result ffnOut
  generalize V m c main_arg0 = X
  generalize V m c main_v2 = G
  generalize V m c main_v3 = W
  generalize V m c main_v4 = U
  generalize V m c main_v7 = H
  have ep : (⟨(1024 * (tileOf t).val + (y 0).val) / 1024, by omega⟩ : Fin 96) = tileOf t := Fin.ext (by show (1024 * (tileOf t).val + (y 0).val) / 1024 = _; omega)
  have el : (⟨(1024 * (tileOf t).val + (y 0).val) % 1024, Nat.mod_lt _ (by decide)⟩ : Fin 1024) = y 0 := Fin.ext (by show (1024 * (tileOf t).val + (y 0).val) % 1024 = _; omega)
  show outV (insOf X G W U H (tileOf t)) y = outV (insOf X G W U H ⟨(1024 * (tileOf t).val + (y 0).val) / 1024, _⟩)
    (ix2 (⟨(1024 * (tileOf t).val + (y 0).val) % 1024, _⟩ : Fin 1024) (y 1 : Fin 1024))
  rw [ep, el]
  refine congrArg (outV (insOf X G W U H (tileOf t))) (funext fun a => ?_)
  match a with
  | ⟨0, _⟩ => rfl
  | ⟨1, _⟩ => rfl

/-- The result array at the end. -/
theorem final_result (c : Dev nD) : (dats m 0 c).arrAt 5 cfg0.N = result m c :=
  (dats m 0 c).arrAt_eq_of_cover 5 (result m c) (flushed_eq m c) fun i => by
    have h0 : (i 0 : ℕ) < 98304 := (i 0).isLt
    have h1 : (i 1 : ℕ) < 1024 := (i 1).isLt
    have hN : grid0.N = 96 := N_0
    let t : Fin grid0.N := ⟨(i 0 : ℕ) / 1024, by omega⟩
    refine ⟨t, flush0_5 t, ?_⟩
    show i ∈ ((View.whole main_v8).slice (win0_5.rect t)).set
    rw [View.set_slice_whole, Rect.mem_set_unit]
    have e := index5 t
    have ht : t.val = (i 0 : ℕ) / 1024 := rfl
    intro a
    match a with
    | ⟨0, _⟩ =>
      show (cc0_transform_5 (grid0.coords t) : Fin 2 → ℕ) 0 * 1024 ≤ (i 0 : ℕ) ∧ (i 0 : ℕ) < (cc0_transform_5 (grid0.coords t) : Fin 2 → ℕ) 0 * 1024 + 1024
      rw [e]; show t.val * 1024 ≤ (i 0 : ℕ) ∧ (i 0 : ℕ) < t.val * 1024 + 1024; omega
    | ⟨1, _⟩ =>
      show (cc0_transform_5 (grid0.coords t) : Fin 2 → ℕ) 1 * 1024 ≤ (i 1 : ℕ) ∧ (i 1 : ℕ) < (cc0_transform_5 (grid0.coords t) : Fin 2 → ℕ) 1 * 1024 + 1024
      rw [e]; show 0 * 1024 ≤ (i 1 : ℕ) ∧ (i 1 : ℕ) < 0 * 1024 + 1024; omega

/-- The run, read: the result array at `result`, the arguments unchanged. -/
theorem run : θ_run defs (onTc (τ := τ) (main (F := F))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1.1 c).1 5).trans (final_result m c), (h.2.1 c)⟩)
    (θ_run_and (run_main_quiescent m ρ) (frame m ρ))

end Cert.Kernel3Ideal.Ffn
end
-- ==== Proof.FfnFirst.Operands.lean ====
module

public import proofs.«01_k».proof.Proof.FfnFirst.Array
public import proofs.«01_k».proof.Proof.Ffn.Operands
public import Idealize.ShloMosaic.Lib.StableHlo.RunRead

/-!
# The operands the host prepares

When the kernel starts, its operands are the rows, the second layer's gains, and the two weights.
-/

@[expose] public section

set_option maxRecDepth 16384

noncomputable section

namespace Cert.Kernel3Ideal.Ffn

open Cert.Kernel3Ideal Cert.Kernel3Ideal.Gen
open Idealize.ShloMosaic Idealize.ShloMosaic.TcCoe
open Idealize.ShloMosaic.ValueIdx

open Cert.Kernel2Ideal.Ffn (row1)

variable (m : (ℓ : Loc nD τ sig) → Buf (Elt Ideal) ℓ)

theorem V_gain (c : Dev nD) : V m c main_v2 = row1 (m ((c : Thread nD τ).loc main_arg1)) := by
  unfold V hostOps0
  after_reads_simp
  rfl

theorem V_wIn (c : Dev nD) : V m c main_v3 = (m ((c : Thread nD τ).loc main_arg2) : FVec Ideal S2x1024x5632 .f32) := by
  unfold V hostOps0
  after_reads_simp
  rfl

theorem V_wOut (c : Dev nD) : V m c main_v4 = (m ((c : Thread nD τ).loc main_arg3) : FVec Ideal S2x2816x1024 .f32) := by
  unfold V hostOps0
  after_reads_simp
  rfl

theorem V_gainOut (c : Dev nD) : V m c main_v7 = row1 (m ((c : Thread nD τ).loc main_arg4)) := by
  unfold V hostOps0
  after_reads_simp
  rfl

end Cert.Kernel3Ideal.Ffn
end
-- ==== Proof.FfnFirst.Value.lean ====
module

public import proofs.«01_k».proof.Proof.FfnFirst.State
public import proofs.«01_k».proof.Proof.Ffn.Value

/-! # The value of a layer's first feed-forward call -/

@[expose] public section

set_option maxRecDepth 16384

noncomputable section

namespace Cert.Kernel3Ideal.Ffn

open Cert.Kernel3Ideal Cert.Kernel3Ideal.Gen
open Idealize.ShloMosaic Idealize.ShloMosaic.ValueIdx
open Cert.Kernel2Ideal.Ffn (Ins tokenAt gain wIn wOut nrm acc partF half_apply total)

/-- An element of the result. -/
theorem outH_apply (x : Ins Ideal) (s : Fin 2) (i : Fin 512) (j : Fin 1024) :
    outH x s (ix2 i j) = Cert.Ffn.res (tokenAt x s i) (gain x) (wIn x) (wOut x) j := by
  unfold outH sumV Cert.Ffn.res
  rw [← total x s i j]
  exact congrArg (fun z : EReal => z + Cert.Ffn.oneHalf * ((acc x s 9 (ix2 i j) : EReal) + partF x (nrm x s) 10 (ix2 i j))) (half_apply x s i j)

end Cert.Kernel3Ideal.Ffn
end
-- ==== Proof.FfnFirst.RefValue.lean ====
module

public import proofs.«01_k».proof.Proof.Gen.Reference3Ideal.Read
public import proofs.«01_k».proof.Proof.Ffn.RefValue

/-! # What the reference of a layer's first feed-forward call computes -/

@[expose] public section

set_option maxRecDepth 16384

noncomputable section

namespace Cert.Reference3Ideal.Ffn

open Cert.Reference3Ideal Cert.Reference3Ideal.Gen Cert.Reference3Ideal.Read
open Idealize.ShloMosaic Idealize.ShloMosaic.ValueIdx

open Cert.Reference2Ideal.Ffn (row wIn wOut zero32 one32 ext2 ext3)

variable (X : FVec Ideal S98304x1024 .f32) (G : FVec Ideal S2x1024 .f32) (W : FVec Ideal S2x1024x5632 .f32) (U : FVec Ideal S2x2816x1024 .f32)
  (r : Fin 98304)

/-- Token `r`. -/
def token : Fin 1024 → EReal := fun k => X (ix2 r k)
theorem v13_at (k : Fin 1024) : val_main_v13 (F := Ideal) G (ix2 r k) = row G k := by
  rw [val_main_v13_apply, val_main_v12_apply, val_main_v1_apply, val_main_v0_apply]
  exact congrArg G (ext2 _ _ rfl (Nat.mod_eq_of_lt k.isLt))

theorem v16_at (k : Fin 1024) (f : Fin 5632) : val_main_v16 (F := Ideal) W (ix2 k f) = wIn W k f := by
  rw [val_main_v16_apply, val_main_v15_apply]
  refine congrArg W (ext3 _ _ rfl ?_ ?_)
  · show (k.val * 5632 + f.val) / 5632 % 1024 = k.val
    omega
  · show (k.val * 5632 + f.val) % 5632 = f.val
    omega

theorem v18_at (f : Fin 2816) (j : Fin 1024) : val_main_v18 (F := Ideal) U (ix2 f j) = wOut U f j := by
  rw [val_main_v18_apply, val_main_v17_apply]
  refine congrArg U (ext3 _ _ rfl ?_ ?_)
  · show (f.val * 1024 + j.val) / 1024 % 2816 = f.val
    omega
  · show (f.val * 1024 + j.val) % 1024 = j.val
    omega

/-- The sum of a token's squares. -/
theorem v3_at : val_main_v3 (F := Ideal) X (ix1 r) = ∑ k : Fin 1024, token X r k * token X r k := by
  rw [val_main_v3_apply, val_main_cst_apply, zero32, zero_add]
  refine Finset.sum_congr rfl fun k _ => ?_
  have e : idx_main_v3 (ix1 r) k = ix2 r k := ext2 _ _ rfl rfl
  rw [e, val_main_v2_apply]
  rfl

/-- The factor that normalises a token. -/
theorem v10_at (k : Fin 1024) : val_main_v10 (F := Ideal) X (ix2 r k)
    = Ideal.rsqrt (Ideal.div (∑ k : Fin 1024, token X r k * token X r k) Cert.Ffn.count + Cert.Ffn.small) := by
  rw [val_main_v10_apply, val_main_v9_apply, val_main_v8_apply, val_main_v7_apply, val_main_v6_apply, val_main_v5_apply, val_main_v4_apply]
  have e : idx_main_v4 (idx_main_v10 (ix2 r k)) = ix1 r := funext fun a => Fin.ext (match a with | ⟨0, _⟩ => rfl)
  rw [e, v3_at]
  rfl

/-- A normalised token. -/
theorem v14_at (k : Fin 1024) : val_main_v14 (F := Ideal) X G (ix2 r k) = Cert.Ffn.rms (token X r) (row G) k := by
  rw [val_main_v14_apply, val_main_v11_apply, v10_at, v13_at]
  rfl

/-- The first product. -/
theorem v19_at (f : Fin 5632) : val_main_v19 (F := Ideal) X G W (ix2 r f) = Cert.Ffn.proj (Cert.Ffn.rms (token X r) (row G)) (wIn W) f := by
  rw [val_main_v19_apply]
  unfold Cert.Ffn.proj
  refine Finset.sum_congr rfl fun k _ => ?_
  have e : lidx_main_v19 (ix2 r f) k = ix2 r k := ext2 _ _ rfl rfl
  have e' : ridx_main_v19 (ix2 r f) k = ix2 k f := ext2 _ _ rfl rfl
  rw [e, e', v14_at, v16_at]

theorem v20_at (f : Fin 2816) : val_main_v20 (F := Ideal) X G W (ix2 r f)
    = Cert.Ffn.proj (Cert.Ffn.rms (token X r) (row G)) (wIn W) ⟨f.val, by omega⟩ := by
  rw [val_main_v20_apply]
  have e : idx_main_v20 (ix2 r f) = ix2 r (⟨f.val, by omega⟩ : Fin 5632) := ext2 _ _ rfl rfl
  rw [e, v19_at]

theorem v21_at (f : Fin 2816) : val_main_v21 (F := Ideal) X G W (ix2 r f)
    = Cert.Ffn.proj (Cert.Ffn.rms (token X r) (row G)) (wIn W) ⟨2816 + f.val, by omega⟩ := by
  rw [val_main_v21_apply]
  have e : idx_main_v21 (ix2 r f) = ix2 r (⟨2816 + f.val, by omega⟩ : Fin 5632) := ext2 _ _ rfl rfl
  rw [e, v19_at]

/-- The gate. -/
theorem gate_at (f : Fin 2816) : val_main_call0_v5 (F := Ideal) X G W (ix2 r f)
    = Ideal.logistic (Cert.Ffn.proj (Cert.Ffn.rms (token X r) (row G)) (wIn W) ⟨f.val, by omega⟩) := by
  rw [val_main_call0_v5_apply, val_main_call0_v4_apply, val_main_call0_v3_apply, val_main_call0_v2_apply, val_main_call0_v1_apply,
    val_main_call0_v0_apply, val_main_call0_cst_apply, val_main_call0_cst_0_apply, one32, v20_at]
  rfl

/-- The gated activation. -/
theorem v23_at (f : Fin 2816) : val_main_v23 (F := Ideal) X G W (ix2 r f) = Cert.Ffn.act (Cert.Ffn.rms (token X r) (row G)) (wIn W) f := by
  rw [val_main_v23_apply, val_main_v22_apply, v20_at, v21_at, gate_at]
  rfl

/-- The second product. -/
theorem v24_at (j : Fin 1024) : val_main_v24 (F := Ideal) X G W U (ix2 r j)
    = ∑ f : Fin 2816, Cert.Ffn.act (Cert.Ffn.rms (token X r) (row G)) (wIn W) f * wOut U f j := by
  rw [val_main_v24_apply]
  refine Finset.sum_congr rfl fun f _ => ?_
  have e : lidx_main_v24 (ix2 r j) f = ix2 r f := ext2 _ _ rfl rfl
  have e' : ridx_main_v24 (ix2 r j) f = ix2 f j := ext2 _ _ rfl rfl
  rw [e, e', v23_at, v18_at]

/-- The residual sum. -/
theorem v27_at (j : Fin 1024) : val_main_v27 (F := Ideal) X G W U (ix2 r j) = Cert.Ffn.res (token X r) (row G) (wIn W) (wOut U) j := by
  rw [val_main_v27_apply, val_main_v26_apply, val_main_v25_apply, v24_at]
  rfl

end Cert.Reference3Ideal.Ffn
end
-- ==== Proof.FfnFirst.Equation.lean ====
module

public import proofs.«01_k».proof.Proof.FfnFirst.Value
public import proofs.«01_k».proof.Proof.FfnFirst.Operands
public import proofs.«01_k».proof.Proof.FfnFirst.RefValue

/-! # The result of a layer's first feed-forward call is its reference's -/

@[expose] public section

set_option maxRecDepth 16384

noncomputable section

namespace Cert.Kernel3Ideal.Ffn

open Cert.Kernel3Ideal Cert.Kernel3Ideal.Gen
open Idealize.ShloMosaic Idealize.ShloMosaic.ValueIdx
open Cert.Kernel2Ideal.Ffn (row1 row1_apply tokenAt gain wIn wOut)

/-- An element of the call's result, of its operands. -/
theorem ffnOut_apply (X : FVec Ideal S98304x1024 .f32) (G H : FVec Ideal S2x1024 .f32) (W : FVec Ideal S2x1024x5632 .f32) (U : FVec Ideal S2x2816x1024 .f32)
    (r : Fin 98304) (j : Fin 1024) :
    ffnOut (F := Ideal) X (row1 G) W U (row1 H) (ix2 r j)
      = Cert.Ffn.res (Cert.Reference3Ideal.Ffn.token X r) (Cert.Reference2Ideal.Ffn.row G) (Cert.Reference2Ideal.Ffn.wIn W)
          (Cert.Reference2Ideal.Ffn.wOut U) j := by
  unfold ffnOut outV
  refine (outH_apply _ _ _ _).trans ?_
  have et : tokenAt (insOf (F := Ideal) X (row1 G) W U (row1 H) ⟨r.val / 1024, by omega⟩) ⟨r.val % 1024 / 512, by omega⟩ ⟨r.val % 1024 % 512, by omega⟩
      = Cert.Reference3Ideal.Ffn.token X r := funext fun k => by
    refine congrArg X (Cert.Reference2Ideal.Ffn.ext2 _ _ ?_ rfl)
    show 1024 * (r.val / 1024) + (512 * (r.val % 1024 / 512) + r.val % 1024 % 512) = r.val
    omega
  have eg : gain (insOf (F := Ideal) X (row1 G) W U (row1 H) ⟨r.val / 1024, by omega⟩) = Cert.Reference2Ideal.Ffn.row G := funext fun k => row1_apply G k
  have ew : wIn (insOf (F := Ideal) X (row1 G) W U (row1 H) ⟨r.val / 1024, by omega⟩) = Cert.Reference2Ideal.Ffn.wIn W := rfl
  have eu : wOut (insOf (F := Ideal) X (row1 G) W U (row1 H) ⟨r.val / 1024, by omega⟩) = Cert.Reference2Ideal.Ffn.wOut U := rfl
  rw [← et, ← eg, ← ew, ← eu]

/-- The call's result is the reference's. -/
theorem ffnOut_eq (X : FVec Ideal S98304x1024 .f32) (G H : FVec Ideal S2x1024 .f32) (W : FVec Ideal S2x1024x5632 .f32) (U : FVec Ideal S2x2816x1024 .f32) :
    ffnOut (F := Ideal) X (row1 G) W U (row1 H) = Cert.Reference3Ideal.Read.val_main_v27 (F := Ideal) X G W U := by
  funext z
  have e : z = ix2 (z 0 : Fin 98304) (z 1 : Fin 1024) := Cert.Reference2Ideal.Ffn.ext2 _ _ rfl rfl
  rw [e]
  exact (ffnOut_apply X G H W U (z 0) (z 1)).trans (Cert.Reference3Ideal.Ffn.v27_at X G W U (z 0) (z 1)).symm

end Cert.Kernel3Ideal.Ffn
end
-- ==== Proof.FfnSamples.Phases.lean ====
module

public import proofs.«01_k».proof.Proof.Ffn.Value
public import proofs.«01_k».proof.Kernel4Ideal
public import Idealize.ShloMosaic.Lib.Pipeline.Regions

/-!
# The phases of the last feed-forward call for the samples

The body is the chain of the phases of `Cert.Kernel2Ideal`, over the buffers of this call.
-/

@[expose] public section

set_option maxRecDepth 16384
set_option synthInstance.maxSize 4096

noncomputable section

namespace Cert.Kernel4Ideal

open Idealize.ShloMosaic Idealize.SL.Sem
open Idealize.ShloMosaic.RefSig (ofTc tcTables tileCredit tileCredit_eq_zero tileCredit_pos)

variable {F : FTy → Type} [FloatOps F]
variable [Facts]
open Facts₀ Facts
open Cert.Kernel2Ideal (normV partV firstV addV lastV rowOff gateOff upOff outOff rowOff_inb gateOff_inb upOff_inb outOff_inb rowOff_packed)

/-! ## The phases as programs -/

variable (arg1 : Memref sig .tc .vmem S1024x1024 .f32) (harg1 : arg1.IsWhole) (arg2 : Memref sig .tc .vmem S1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)

/-- The normalisation of a half. -/
def normP (s : Fin 2) : Prog (TpuEff nD τ sig (Elt F) Λ₀ .tc) PUnit := do
  let x : Vec F S512x1024 .f32 ← Prog.lift (.load arg1 (Rect.unit (s := S1024x1024) (rowOff s) S512x1024.size (rowOff_inb s)).toLoadRect (View.loadsAt_vmem h_S512x1024))
  let g : Vec F S1x1024 .f32 ← Prog.lift (.load arg2 (Rect.unit (s := S1x1024) ![0, 0] S1x1024.size inb_S1x1024_S1x1024_0_0).toLoadRect (View.loadsAt_vmem h_S1x1024))
  let _x : Vec F S512x1024 .bf16 ← Prog.lift (.load arg7 (Rect.unit (s := S1024x1024) (rowOff s) S512x1024.size (rowOff_inb s)).toLoadRect (View.loadsAt_vmem h_S512x1024))
  Prog.lift (.store arg7 (Rect.unit (s := S1024x1024) (rowOff s) S512x1024.size (rowOff_inb s)) (normV x g) Finset.univ
    (View.stores_vmem h_S512x1024 (harg7.storeExact_slice rfl _ (rowOff_packed s)) (fun _ => rfl)) (.inl rfl))

/-- The first chunk of a half: its part into the accumulator. -/
def firstP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let _x : Vec F S512x1024 .f32 ← Prog.lift (.load arg8 (Rect.unit (s := S1024x1024) (rowOff s) S512x1024.size (rowOff_inb s)).toLoadRect (View.loadsAt_vmem h_S512x1024))
  Prog.lift (.store arg8 (Rect.unit (s := S1024x1024) (rowOff s) S512x1024.size (rowOff_inb s)) (firstV (partV a b wg wu wo)) Finset.univ
    (View.stores_vmem_bits_univ h_S512x1024 rfl) (.inl rfl))

/-- A middle chunk of a half: its part added to the accumulator. -/
def addP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let acc : Vec F S512x1024 .f32 ← Prog.lift (.load arg8 (Rect.unit (s := S1024x1024) (rowOff s) S512x1024.size (rowOff_inb s)).toLoadRect (View.loadsAt_vmem h_S512x1024))
  let _x : Vec F S512x1024 .f32 ← Prog.lift (.load arg8 (Rect.unit (s := S1024x1024) (rowOff s) S512x1024.size (rowOff_inb s)).toLoadRect (View.loadsAt_vmem h_S512x1024))
  Prog.lift (.store arg8 (Rect.unit (s := S1024x1024) (rowOff s) S512x1024.size (rowOff_inb s)) (addV acc (partV a b wg wu wo)) Finset.univ
    (View.stores_vmem_bits_univ h_S512x1024 rfl) (.inl rfl))

/-- The last chunk of a half: the residual sum, normalised, into the result. -/
def lastP (s : Fin 2) (c : Fin 11) : Prog (TpuEff nD τ sig (Elt F) Λ₀ .tc) PUnit := do
  let a : Vec F S512x1024 .bf16 ← Prog.lift (.load arg7 (Rect.unit (s := S1024x1024) (rowOff s) S512x1024.size (rowOff_inb s)).toLoadRect (View.loadsAt_vmem h_S512x1024))
  let wg : Vec F S1x1024x256 .bf16 ← Prog.lift (.load arg3 (Rect.unit (s := S1x1024x5632) (gateOff c) S1x1024x256.size (gateOff_inb c)).toLoadRect (View.loadsAt_vmem h_S1x1024x256))
  let b : Vec F S512x1024 .bf16 ← Prog.lift (.load arg7 (Rect.unit (s := S1024x1024) (rowOff s) S512x1024.size (rowOff_inb s)).toLoadRect (View.loadsAt_vmem h_S512x1024))
  let wu : Vec F S1x1024x256 .bf16 ← Prog.lift (.load arg3 (Rect.unit (s := S1x1024x5632) (upOff c) S1x1024x256.size (upOff_inb c)).toLoadRect (View.loadsAt_vmem h_S1x1024x256))
  let wo : Vec F S1x256x1024 .bf16 ← Prog.lift (.load arg4 (Rect.unit (s := S1x2816x1024) (outOff c) S1x256x1024.size (outOff_inb c)).toLoadRect (View.loadsAt_vmem h_S1x256x1024))
  let x : Vec F S512x1024 .f32 ← Prog.lift (.load arg1 (Rect.unit (s := S1024x1024) (rowOff s) S512x1024.size (rowOff_inb s)).toLoadRect (View.loadsAt_vmem h_S512x1024))
  let acc : Vec F S512x1024 .f32 ← Prog.lift (.load arg8 (Rect.unit (s := S1024x1024) (rowOff s) S512x1024.size (rowOff_inb s)).toLoadRect (View.loadsAt_vmem h_S512x1024))
  let g : Vec F S1x1024 .f32 ← Prog.lift (.load arg5 (Rect.unit (s := S1x1024) ![0, 0] S1x1024.size inb_S1x1024_S1x1024_0_0).toLoadRect (View.loadsAt_vmem h_S1x1024))
  let _x : Vec F S512x1024 .f32 ← Prog.lift (.load arg6 (Rect.unit (s := S1024x1024) (rowOff s) S512x1024.size (rowOff_inb s)).toLoadRect (View.loadsAt_vmem h_S512x1024))
  Prog.lift (.store arg6 (Rect.unit (s := S1024x1024) (rowOff s) S512x1024.size (rowOff_inb s)) (lastV x acc (partV a b wg wu wo) g) Finset.univ
    (View.stores_vmem_bits_univ h_S512x1024 rfl) (.inl rfl))

/-- The phases of a half. -/
def halfP (s : Fin 2) : List (Prog (TpuEff nD τ sig (Elt F) Λ₀ .tc) PUnit) :=
  [normP arg1 arg2 arg7 harg7 s, firstP arg3 arg4 arg7 arg8 s 0, addP arg3 arg4 arg7 arg8 s 1, addP arg3 arg4 arg7 arg8 s 2,
   addP arg3 arg4 arg7 arg8 s 3, addP arg3 arg4 arg7 arg8 s 4, addP arg3 arg4 arg7 arg8 s 5, addP arg3 arg4 arg7 arg8 s 6,
   addP arg3 arg4 arg7 arg8 s 7, addP arg3 arg4 arg7 arg8 s 8, addP arg3 arg4 arg7 arg8 s 9, lastP arg1 arg3 arg4 arg5 arg6 arg7 arg8 s 10]

set_option maxHeartbeats 4000000 in
/-- The body is the chain of its phases, in the kernel's order. -/
theorem body_eq (i : grid0.Coords) :
    cc0_ffn_final (F := F) i arg1 harg1 arg2 harg2 arg3 harg3 arg4 harg4 arg5 harg5 arg6 harg6 arg7 harg7 arg8 harg8
      = Pipeline.chain (halfP arg1 arg2 arg3 arg4 arg5 arg6 arg7 harg7 arg8 0 ++ halfP arg1 arg2 arg3 arg4 arg5 arg6 arg7 harg7 arg8 1) := by
  chain_rfl

end Cert.Kernel4Ideal
end
-- ==== Proof.FfnSamples.Triples.lean ====
module

public import proofs.«01_k».proof.Proof.FfnSamples.Phases
public import proofs.«01_k».proof.Proof.Gen.Kernel4Ideal.Frame.Runs
public import Idealize.ShloMosaic.Lib.VecWindow

/-!
# What each phase of the last feed-forward call for the samples does

Each phase is its function on the state of `Cert.Kernel2Ideal.Ffn`.
-/

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel2Ideal.Ffn (Ins St half partF normF firstF addF lastF halfF bodyF)
open Cert.Kernel2Ideal (rowOff)

variable {F : FTy → Type} [FloatOps F]

local notation "𝕄" => MT nD τ sig Unit (Elt F) ℕ (UR sig nD τ) ℕ

/-- The memrefs of one program. -/
structure Refs where
  arg1 : Memref sig .tc .vmem S1024x1024 .f32
  harg1 : arg1.IsWhole
  arg2 : Memref sig .tc .vmem S1x1024 .f32
  harg2 : arg2.IsWhole
  arg3 : Memref sig .tc .vmem S1x1024x5632 .bf16
  harg3 : arg3.IsWhole
  arg4 : Memref sig .tc .vmem S1x2816x1024 .bf16
  harg4 : arg4.IsWhole
  arg5 : Memref sig .tc .vmem S1x1024 .f32
  harg5 : arg5.IsWhole
  arg6 : Memref sig .tc .vmem S1024x1024 .f32
  harg6 : arg6.IsWhole
  arg7 : Memref sig .tc .vmem S1024x1024 .bf16
  harg7 : arg7.IsWhole
  arg8 : Memref sig .tc .vmem S1024x1024 .f32
  harg8 : arg8.IsWhole

/-- The program's buffers at given contents. -/
def held (c : Dev nD) (A : Refs) (x : Ins F) (st : St F) : sProp 𝕄 :=
  iprop(owns (c : Thread nD τ) A.arg1 fullShare x.x ∗ owns (c : Thread nD τ) A.arg2 fullShare x.g ∗ owns (c : Thread nD τ) A.arg3 fullShare x.wi
    ∗ owns (c : Thread nD τ) A.arg4 fullShare x.wo ∗ owns (c : Thread nD τ) A.arg5 fullShare x.go ∗ owns (c : Thread nD τ) A.arg6 fullShare st.o
    ∗ owns (c : Thread nD τ) A.arg7 fullShare st.n ∗ owns (c : Thread nD τ) A.arg8 fullShare st.a)

/-- The program `P` takes the state `st` to `f st`, whatever it is. -/
def Does (c : Dev nD) (A : Refs) (x : Ins F) (P : Prog (TpuEff nD τ sig (Elt F) Λ₀ .tc) PUnit) (f : St F → St F) : Prop :=
  ∀ (st : St F) (E : Set ℕ) (K : PUnit → sProp 𝕄),
    iprop(held c A x st ∗ (held c A x (f st) -∗ K ⟨⟩)) ⊢ wp frame (wpE (defs₀ (F := F)) Variants.none c none) E P K

/-- What is read after one unmasked store is the payload put over what was read before. -/
theorem read_writes_put {s : Shape} {e : EltTy} {sp : Space} (m : Memref sig .tc sp s e) (f : m.view.ty.Contents (Elt F)) (y : s.Idx → Elt F e)
    (hf : m.view.read (Elt F) f = y) {off size : Fin s.rank → ℕ} (inb : ∀ a, off a + size a ≤ s.size a) (w : (Rect.unit off size inb).shape.Idx → Elt F e) :
    m.view.read (Elt F) (m.view.writes (Elt F) f [⟨Rect.unit off size inb, w⟩]) = VecWindow.put y off size w := by
  subst hf
  exact View.read_writes_cons_put m.view f inb w [] rfl

/-- The normalisation does what it says. -/
theorem norm_does (c : Dev nD) (A : Refs) (x : Ins F) (s : Fin 2) : Does c A x (normP A.arg1 A.arg2 A.arg7 A.harg7 s) (normF x s) := by
  intro st E K
  unfold normP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    rw [read_writes_put A.arg7 f6 st.n h6]
    unfold Cert.Kernel2Ideal.Ffn.normF
    rw [← h0, ← h1]
    rfl
  iexists _; isplitr; swap; · iexact H7
  ipureintro
  exact h7

/-- The first chunk does what it says. -/
theorem first_does (c : Dev nD) (A : Refs) (x : Ins F) (s : Fin 2) (k : Fin 11) : Does c A x (firstP A.arg3 A.arg4 A.arg7 A.arg8 s k) (firstF x s k) := by
  intro st E K
  unfold firstP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  iexists _; isplitr; swap; · iexact H7
  ipureintro
  rw [read_writes_put A.arg8 f7 st.a h7]
  unfold Cert.Kernel2Ideal.Ffn.firstF Cert.Kernel2Ideal.Ffn.partF
  rw [← h2, ← h3, ← h6]
  rfl

/-- A middle chunk does what it says. -/
theorem add_does (c : Dev nD) (A : Refs) (x : Ins F) (s : Fin 2) (k : Fin 11) : Does c A x (addP A.arg3 A.arg4 A.arg7 A.arg8 s k) (addF x s k) := by
  intro st E K
  unfold addP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  iexists _; isplitr; swap; · iexact H7
  ipureintro
  rw [read_writes_put A.arg8 f7 st.a h7]
  unfold Cert.Kernel2Ideal.Ffn.addF Cert.Kernel2Ideal.Ffn.partF
  rw [← h2, ← h3, ← h6, ← h7]
  rfl

/-- The last chunk does what it says. -/
theorem last_does (c : Dev nD) (A : Refs) (x : Ins F) (s : Fin 2) (k : Fin 11) : Does c A x (lastP A.arg1 A.arg3 A.arg4 A.arg5 A.arg6 A.arg7 A.arg8 s k) (lastF x s k) := by
  intro st E K
  unfold lastP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    rw [read_writes_put A.arg6 f5 st.o h5]
    unfold Cert.Kernel2Ideal.Ffn.lastF Cert.Kernel2Ideal.Ffn.partF
    rw [← h0, ← h2, ← h3, ← h4, ← h6, ← h7]
    rfl
  isplitl [H6]
  · iexists _; isplitr; swap; · iexact H6
    ipureintro
    exact h6
  iexists _; isplitr; swap; · iexact H7
  ipureintro
  exact h7

/-- A list of programs, each with what it does, does these one after the other. -/
theorem chain_does (c : Dev nD) (A : Refs) (x : Ins F) {Ps : List (Prog (TpuEff nD τ sig (Elt F) Λ₀ .tc) PUnit)} {fs : List (St F → St F)}
    (h : List.Forall₂ (Does c A x) Ps fs) : Does c A x (Pipeline.chain Ps) (fun st => fs.foldl (fun st f => f st) st) := by
  induction h with
  | nil =>
    intro st E K
    rw [Pipeline.chain_nil]
    iintro ⟨H, Hk⟩
    sl_step
    iapply Hk
    iexact H
  | cons hd _ ih =>
    intro st E K
    rw [Pipeline.chain_cons, wp_bind]
    iintro ⟨H, Hk⟩
    iapply (hd st E _)
    isplitl [H]; · iexact H
    iintro H
    iapply (ih _ E K)
    isplitl [H]; · iexact H
    iexact Hk

theorem half_does (c : Dev nD) (A : Refs) (x : Ins F) (s : Fin 2) :
    List.Forall₂ (Does c A x) (halfP A.arg1 A.arg2 A.arg3 A.arg4 A.arg5 A.arg6 A.arg7 A.harg7 A.arg8 s) (halfF x s) :=
  .cons (norm_does c A x s) (.cons (first_does c A x s 0) (.cons (add_does c A x s 1) (.cons (add_does c A x s 2) (.cons (add_does c A x s 3)
    (.cons (add_does c A x s 4) (.cons (add_does c A x s 5) (.cons (add_does c A x s 6) (.cons (add_does c A x s 7) (.cons (add_does c A x s 8)
      (.cons (add_does c A x s 9) (.cons (last_does c A x s 10) .nil)))))))))))

/-- The body does what its phases do. -/
theorem body_does (c : Dev nD) (A : Refs) (x : Ins F) (i : grid0.Coords) :
    Does c A x (cc0_ffn_final (F := F) i A.arg1 A.harg1 A.arg2 A.harg2 A.arg3 A.harg3 A.arg4 A.harg4 A.arg5 A.harg5 A.arg6 A.harg6 A.arg7 A.harg7 A.arg8 A.harg8)
      (bodyF x) := by
  rw [body_eq]
  exact chain_does c A x (List.rel_append (half_does c A x 0) (half_does c A x 1))

end Cert.Kernel4Ideal.Ffn
end
-- ==== Proof.FfnSamples.Run.lean ====
module

public import proofs.«01_k».proof.Proof.FfnSamples.Triples
public import Idealize.ShloMosaic.Lib.Pipeline.Value
public import Idealize.ShloMosaic.Lib.Claim

/-! # The run of the last feed-forward call for the samples -/

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

open Cert.Kernel2Ideal.Ffn (Ins St bodyF outV final_outV)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs of the program at a point. -/
def insAt (c : Dev nD) (t : Fin cfg0.N) : Ins F := ⟨iblk m c 0 t, iblk m c 1 t, iblk m c 2 t, iblk m c 3 t, iblk m c 4 t⟩

/-- The proof data: the arrays as the region finds them; after the body each input's buffer at its block and the
    result's at `outV`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV (insAt m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outV (insAt m c t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The memrefs of the program at a point. -/
def refsAt (t : Fin cfg0.N) : Refs where
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  harg5 := hstage0_4 ((cfg0.slots t 4).cast nbuf0_4)
  arg6 := win0_5.stage (cfg0.slots t 5)
  harg6 := hstage0_5 ((cfg0.slots t 5).cast nbuf0_5)
  arg7 := Memref.whole cc0_scratch0
  harg7 := Memref.isWhole_whole _
  arg8 := Memref.whole cc0_scratch1
  harg8 := Memref.isWhole_whole _

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

/-- The body's triple at a point of the grid. -/
theorem body_at (c : Dev nD) (t : Fin cfg0.N) : Does c (refsAt t) (insAt m c t) (bodyAt0 (F := F) t) (bodyF (insAt m c t)) :=
  body_does c (refsAt t) (insAt m c t) (grid0.coords t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, PhiA0_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩⟩
  iapply (body_at m c t ⟨(dats m 0 c).before 5 t d5, s0, s1⟩ Set.univ _)
  isplitl [H0 H1 H2 H3 H4 H5 HS0 HS1]
  · unfold held
    isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  unfold held
  rw [final_outV]
  iintro ⟨H0, H1, H2, H3, H4, H5, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
set_option backward.isDefEq.respectTransparency.types false in
/-- The launch: the arrays end as the proof data says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel4Ideal.Ffn
end
-- ==== Proof.FfnSamples.Array.lean ====
module

public import proofs.«01_k».proof.Proof.FfnSamples.Run

/-! # The whole result of the last feed-forward call for the samples -/

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI Idealize.SL.Sem
open Idealize.ShloMosaic.Rounds Idealize.ShloMosaic.ValueIdx
open Idealize.ShloMosaic.Pipeline (Dat Cfg Window BodyObligation cellOf)

open Cert.Kernel2Ideal.Ffn (Ins St outV)

variable {F : FTy → Type} [FloatOps F]

variable (m : (ℓ : Loc nD τ sig) → Buf (Elt F) ℓ) (ρ : Dev nD → PrngReg)

/-- The inputs of tile `t`, cut out of the five operands: its 1024 rows, and the second layer of the weights. -/
def insOf (X : Vec F S98304x1024 .f32) (G : Vec F S1x1024 .f32) (W : Vec F S2x1024x5632 .bf16) (U : Vec F S2x2816x1024 .bf16) (H : Vec F S1x1024 .f32)
    (t : Fin 64) : Ins F where
  x := fun y => X (ix2 (⟨1024 * (t.val + 32) + (y 0).val, by have h : (y 0).val < 1024 := (y 0).isLt; have := t.isLt; omega⟩ : Fin 98304) (y 1 : Fin 1024))
  g := G
  wi := fun y => W (ix3 (1 : Fin 2) (y 1 : Fin 1024) (y 2 : Fin 5632))
  wo := fun y => U (ix3 (1 : Fin 2) (y 1 : Fin 2816) (y 2 : Fin 1024))
  go := H

/-- The result, of the five operands. -/
def ffnOut (X : Vec F S98304x1024 .f32) (G : Vec F S1x1024 .f32) (W : Vec F S2x1024x5632 .bf16) (U : Vec F S2x2816x1024 .bf16) (H : Vec F S1x1024 .f32) :
    Vec F S65536x1024 .f32 :=
  fun z => outV (insOf X G W U H ⟨(z 0).val / 1024, by have h : (z 0).val < 65536 := (z 0).isLt; omega⟩)
    (ix2 (⟨(z 0).val % 1024, Nat.mod_lt _ (by decide)⟩ : Fin 1024) (z 1 : Fin 1024))

/-- The result on the region's arrays. -/
def result (c : Dev nD) : Buf (Elt F) ((c : Thread nD τ).loc main_v8) :=
  ffnOut (V m c main_arg0) (V m c main_v2) (V m c main_v3) (V m c main_v4) (V m c main_v7)

theorem index0 : ∀ t : Fin grid0.N, (cc0_transform_0 (grid0.coords t) : Fin 2 → ℕ) = ![t.val + 32, 0] := by decide +kernel
theorem index1 : ∀ t : Fin grid0.N, (cc0_transform_1 (grid0.coords t) : Fin 2 → ℕ) = ![0, 0] := by decide +kernel
theorem index2 : ∀ t : Fin grid0.N, (cc0_transform_2 (grid0.coords t) : Fin 3 → ℕ) = ![1, 0, 0] := by decide +kernel
theorem index3 : ∀ t : Fin grid0.N, (cc0_transform_3 (grid0.coords t) : Fin 3 → ℕ) = ![1, 0, 0] := by decide +kernel
theorem index4 : ∀ t : Fin grid0.N, (cc0_transform_4 (grid0.coords t) : Fin 2 → ℕ) = ![0, 0] := by decide +kernel
theorem index5 : ∀ t : Fin grid0.N, (cc0_transform_5 (grid0.coords t) : Fin 2 → ℕ) = ![t.val, 0] := by decide +kernel

/-- The tile of a point. -/
def tileOf (t : Fin cfg0.N) : Fin 64 := ⟨t.val, by have h : t.val < grid0.N := t.isLt; rw [N_0] at h; omega⟩

theorem iblk0_eq (c : Dev nD) (t : Fin cfg0.N) : (iblk m c 0 t : Vec F S1024x1024 .f32)
    = fun y => (V m c main_arg0 : Vec F S98304x1024 .f32) (ix2 (⟨1024 * ((tileOf t).val + 32) + (y 0).val, by have h : (y 0).val < 1024 := (y 0).isLt; have := (tileOf t).isLt; omega⟩ : Fin 98304) (y 1 : Fin 1024)) := by
  funext y
  have e := index0 t
  refine congrArg (V m c main_arg0 : Vec F S98304x1024 .f32) (funext fun a => Fin.ext ?_)
  match a with
  | ⟨0, _⟩ =>
    show (cc0_transform_0 (grid0.coords t) : Fin 2 → ℕ) 0 * 1024 + 1 * (y 0).val = 1024 * (t.val + 32) + (y 0).val
    rw [e]; show (t.val + 32) * 1024 + 1 * (y 0).val = 1024 * (t.val + 32) + (y 0).val; omega
  | ⟨1, _⟩ =>
    show (cc0_transform_0 (grid0.coords t) : Fin 2 → ℕ) 1 * 1024 + 1 * (y 1).val = (y 1).val
    rw [e]; show 0 * 1024 + 1 * (y 1).val = (y 1).val; omega

theorem iblk1_eq (c : Dev nD) (t : Fin cfg0.N) : (iblk m c 1 t : Vec F S1x1024 .f32) = (V m c main_v2 : Vec F S1x1024 .f32) := by
  funext y
  have e := index1 t
  refine congrArg (V m c main_v2 : Vec F S1x1024 .f32) (funext fun a => Fin.ext ?_)
  match a with
  | ⟨0, _⟩ =>
    show (cc0_transform_1 (grid0.coords t) : Fin 2 → ℕ) 0 * 1 + 1 * (y 0).val = (y 0).val
    rw [e]; show 0 * 1 + 1 * (y 0).val = (y 0).val; omega
  | ⟨1, _⟩ =>
    show (cc0_transform_1 (grid0.coords t) : Fin 2 → ℕ) 1 * 1024 + 1 * (y 1).val = (y 1).val
    rw [e]; show 0 * 1024 + 1 * (y 1).val = (y 1).val; omega

theorem iblk2_eq (c : Dev nD) (t : Fin cfg0.N) : (iblk m c 2 t : Vec F S1x1024x5632 .bf16)
    = fun y => (V m c main_v3 : Vec F S2x1024x5632 .bf16) (ix3 (1 : Fin 2) (y 1 : Fin 1024) (y 2 : Fin 5632)) := by
  funext y
  have e := index2 t
  have h0 : (y 0).val < 1 := (y 0).isLt
  refine congrArg (V m c main_v3 : Vec F S2x1024x5632 .bf16) (funext fun a => Fin.ext ?_)
  match a with
  | ⟨0, _⟩ =>
    show (cc0_transform_2 (grid0.coords t) : Fin 3 → ℕ) 0 * 1 + 1 * (y 0).val = 1
    rw [e]; show 1 * 1 + 1 * (y 0).val = 1; omega
  | ⟨1, _⟩ =>
    show (cc0_transform_2 (grid0.coords t) : Fin 3 → ℕ) 1 * 1024 + 1 * (y 1).val = (y 1).val
    rw [e]; show 0 * 1024 + 1 * (y 1).val = (y 1).val; omega
  | ⟨2, _⟩ =>
    show (cc0_transform_2 (grid0.coords t) : Fin 3 → ℕ) 2 * 5632 + 1 * (y 2).val = (y 2).val
    rw [e]; show 0 * 5632 + 1 * (y 2).val = (y 2).val; omega

theorem iblk3_eq (c : Dev nD) (t : Fin cfg0.N) : (iblk m c 3 t : Vec F S1x2816x1024 .bf16)
    = fun y => (V m c main_v4 : Vec F S2x2816x1024 .bf16) (ix3 (1 : Fin 2) (y 1 : Fin 2816) (y 2 : Fin 1024)) := by
  funext y
  have e := index3 t
  have h0 : (y 0).val < 1 := (y 0).isLt
  refine congrArg (V m c main_v4 : Vec F S2x2816x1024 .bf16) (funext fun a => Fin.ext ?_)
  match a with
  | ⟨0, _⟩ =>
    show (cc0_transform_3 (grid0.coords t) : Fin 3 → ℕ) 0 * 1 + 1 * (y 0).val = 1
    rw [e]; show 1 * 1 + 1 * (y 0).val = 1; omega
  | ⟨1, _⟩ =>
    show (cc0_transform_3 (grid0.coords t) : Fin 3 → ℕ) 1 * 2816 + 1 * (y 1).val = (y 1).val
    rw [e]; show 0 * 2816 + 1 * (y 1).val = (y 1).val; omega
  | ⟨2, _⟩ =>
    show (cc0_transform_3 (grid0.coords t) : Fin 3 → ℕ) 2 * 1024 + 1 * (y 2).val = (y 2).val
    rw [e]; show 0 * 1024 + 1 * (y 2).val = (y 2).val; omega

theorem iblk4_eq (c : Dev nD) (t : Fin cfg0.N) : (iblk m c 4 t : Vec F S1x1024 .f32) = (V m c main_v7 : Vec F S1x1024 .f32) := by
  funext y
  have e := index4 t
  refine congrArg (V m c main_v7 : Vec F S1x1024 .f32) (funext fun a => Fin.ext ?_)
  match a with
  | ⟨0, _⟩ =>
    show (cc0_transform_4 (grid0.coords t) : Fin 2 → ℕ) 0 * 1 + 1 * (y 0).val = (y 0).val
    rw [e]; show 0 * 1 + 1 * (y 0).val = (y 0).val; omega
  | ⟨1, _⟩ =>
    show (cc0_transform_4 (grid0.coords t) : Fin 2 → ℕ) 1 * 1024 + 1 * (y 1).val = (y 1).val
    rw [e]; show 0 * 1024 + 1 * (y 1).val = (y 1).val; omega

/-- A point's inputs are cut out of the five operands. -/
theorem insAt_eq (c : Dev nD) (t : Fin cfg0.N) :
    insAt m c t = insOf (V m c main_arg0) (V m c main_v2) (V m c main_v3) (V m c main_v4) (V m c main_v7) (tileOf t) := by
  unfold insAt insOf
  rw [iblk0_eq, iblk1_eq, iblk2_eq, iblk3_eq, iblk4_eq]
  rfl

/-- What a point writes back is its block of the result. -/
theorem flushed_eq (c : Dev nD) (t : Fin cfg0.N) (hf : (cfg0.win 5).flush t = true) :
    (dats m 0 c).flushed 5 t = ((cfg0.win 5).blk t).view.read (Elt F) (result m c) := by
  show (cfg0.win 5).cut (grid0.coords t) ((dats m 0 c).after 5 t) = _
  rw [after_5, insAt_eq]
  funext y
  have e := index5 t
  have h0 : (y 0).val < 1024 := (y 0).isLt
  have ht := (tileOf t).isLt
  have hz : ((cfg0.win 5).blk t).view.read (Elt F) (result m c) y
      = result m c (ix2 (⟨1024 * (tileOf t).val + (y 0).val, by omega⟩ : Fin 65536) (y 1 : Fin 1024)) := by
    refine congrArg (result m c) (funext fun a => Fin.ext ?_)
    match a with
    | ⟨0, _⟩ =>
      show (cc0_transform_5 (grid0.coords t) : Fin 2 → ℕ) 0 * 1024 + 1 * (y 0).val = 1024 * t.val + (y 0).val
      rw [e]; show t.val * 1024 + 1 * (y 0).val = 1024 * t.val + (y 0).val; omega
    | ⟨1, _⟩ =>
      show (cc0_transform_5 (grid0.coords t) : Fin 2 → ℕ) 1 * 1024 + 1 * (y 1).val = (y 1).val
      rw [e]; show 0 * 1024 + 1 * (y 1).val = (y 1).val; omega
  rw [hz]
  unfold result ffnOut
  generalize V m c main_arg0 = X
  generalize V m c main_v2 = G
  generalize V m c main_v3 = W
  generalize V m c main_v4 = U
  generalize V m c main_v7 = H
  have ep : (⟨(1024 * (tileOf t).val + (y 0).val) / 1024, by omega⟩ : Fin 64) = tileOf t := Fin.ext (by show (1024 * (tileOf t).val + (y 0).val) / 1024 = _; omega)
  have el : (⟨(1024 * (tileOf t).val + (y 0).val) % 1024, Nat.mod_lt _ (by decide)⟩ : Fin 1024) = y 0 := Fin.ext (by show (1024 * (tileOf t).val + (y 0).val) % 1024 = _; omega)
  show outV (insOf X G W U H (tileOf t)) y = outV (insOf X G W U H ⟨(1024 * (tileOf t).val + (y 0).val) / 1024, _⟩)
    (ix2 (⟨(1024 * (tileOf t).val + (y 0).val) % 1024, _⟩ : Fin 1024) (y 1 : Fin 1024))
  rw [ep, el]
  refine congrArg (outV (insOf X G W U H (tileOf t))) (funext fun a => ?_)
  match a with
  | ⟨0, _⟩ => rfl
  | ⟨1, _⟩ => rfl

/-- The result array at the end. -/
theorem final_result (c : Dev nD) : (dats m 0 c).arrAt 5 cfg0.N = result m c :=
  (dats m 0 c).arrAt_eq_of_cover 5 (result m c) (flushed_eq m c) fun i => by
    have h0 : (i 0 : ℕ) < 65536 := (i 0).isLt
    have h1 : (i 1 : ℕ) < 1024 := (i 1).isLt
    have hN : grid0.N = 64 := N_0
    let t : Fin grid0.N := ⟨(i 0 : ℕ) / 1024, by omega⟩
    refine ⟨t, flush0_5 t, ?_⟩
    show i ∈ ((View.whole main_v8).slice (win0_5.rect t)).set
    rw [View.set_slice_whole, Rect.mem_set_unit]
    have e := index5 t
    have ht : t.val = (i 0 : ℕ) / 1024 := rfl
    intro a
    match a with
    | ⟨0, _⟩ =>
      show (cc0_transform_5 (grid0.coords t) : Fin 2 → ℕ) 0 * 1024 ≤ (i 0 : ℕ) ∧ (i 0 : ℕ) < (cc0_transform_5 (grid0.coords t) : Fin 2 → ℕ) 0 * 1024 + 1024
      rw [e]; show t.val * 1024 ≤ (i 0 : ℕ) ∧ (i 0 : ℕ) < t.val * 1024 + 1024; omega
    | ⟨1, _⟩ =>
      show (cc0_transform_5 (grid0.coords t) : Fin 2 → ℕ) 1 * 1024 ≤ (i 1 : ℕ) ∧ (i 1 : ℕ) < (cc0_transform_5 (grid0.coords t) : Fin 2 → ℕ) 1 * 1024 + 1024
      rw [e]; show 0 * 1024 ≤ (i 1 : ℕ) ∧ (i 1 : ℕ) < 0 * 1024 + 1024; omega

/-- The run, read: the result array at `result`, the arguments unchanged. -/
theorem run : θ_run defs (onTc (τ := τ) (main (F := F))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1.1 c).1 5).trans (final_result m c), (h.2.1 c)⟩)
    (θ_run_and (run_main_quiescent m ρ) (frame m ρ))

end Cert.Kernel4Ideal.Ffn
end
-- ==== Proof.FfnSamples.Operands.lean ====
module

public import proofs.«01_k».proof.Proof.FfnSamples.Array
public import proofs.«01_k».proof.Proof.Ffn.Operands
public import Idealize.ShloMosaic.Lib.StableHlo.RunRead

/-!
# The operands the host prepares

When the kernel starts, its operands are the rows, the second layer's gains, and the two weights.
-/

@[expose] public section

set_option maxRecDepth 16384

noncomputable section

namespace Cert.Kernel4Ideal.Ffn

open Cert.Kernel4Ideal Cert.Kernel4Ideal.Gen
open Idealize.ShloMosaic Idealize.ShloMosaic.TcCoe
open Idealize.ShloMosaic.ValueIdx

open Cert.Kernel2Ideal.Ffn (row1)

variable (m : (ℓ : Loc nD τ sig) → Buf (Elt Ideal) ℓ)

theorem V_gain (c : Dev nD) : V m c main_v2 = row1 (m ((c : Thread nD τ).loc main_arg1)) := by
  unfold V hostOps0
  after_reads_simp
  rfl

theorem V_wIn (c : Dev nD) : V m c main_v3 = (m ((c : Thread nD τ).loc main_arg2) : FVec Ideal S2x1024x5632 .f32) := by
  unfold V hostOps0
  after_reads_simp
  rfl

theorem V_wOut (c : Dev nD) : V m c main_v4 = (m ((c : Thread nD τ).loc main_arg3) : FVec Ideal S2x2816x1024 .f32) := by
  unfold V hostOps0
  after_reads_simp
  rfl

theorem V_gainOut (c : Dev nD) : V m c main_v7 = row1 (m ((c : Thread nD τ).loc main_arg4)) := by
  unfold V hostOps0
  after_reads_simp
  rfl

end Cert.Kernel4Ideal.Ffn
end
-- ==== Proof.FfnBoth.Phases.lean ====
module

public import proofs.«01_k».proof.Proof.FfnFirst.Value
public import proofs.«01_k».proof.Kernel5Ideal
public import Idealize.ShloMosaic.Lib.Pipeline.Regions

/-!
# The phases of the feed-forward call on two arrays

The body is the chain of the phases of `Cert.Kernel2Ideal`, over the buffers of this call.
-/

@[expose] public section

set_option maxRecDepth 16384
set_option synthInstance.maxSize 4096

noncomputable section

namespace Cert.Kernel5Ideal

open Idealize.ShloMosaic Idealize.SL.Sem
open Idealize.ShloMosaic.RefSig (ofTc tcTables tileCredit tileCredit_eq_zero tileCredit_pos)

variable {F : FTy → Type} [FloatOps F]
variable [Facts]
open Facts₀ Facts
open Cert.Kernel2Ideal (normV partV firstV addV rowOff gateOff upOff outOff rowOff_inb gateOff_inb upOff_inb outOff_inb rowOff_packed)
open Cert.Kernel3Ideal (sumV)

/-- The tokens taken, of two blocks. -/
def takeV (q : BitVec 1) (xa xb : Vec F S512x1024 .f32) : FVec F S512x1024 .f32 :=
  Scalar.select q (shapeCast S512x1024 xa shapeCasts_S512x1024_S512x1024 : FVec F S512x1024 .f32) (shapeCast S512x1024 xb shapeCasts_S512x1024_S512x1024)

/-! ## The phases as programs -/

variable (q : BitVec 1) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)

/-- The normalisation of a half. -/
def normP (s : Fin 2) : Prog (TpuEff nD τ sig (Elt F) Λ₀ .tc) PUnit := do
  let xa : Vec F S512x1024 .f32 ← Prog.lift (.load arg1 (Rect.unit (s := S1024x1024) (rowOff s) S512x1024.size (rowOff_inb s)).toLoadRect (View.loadsAt_vmem h_S512x1024))
  let xb : Vec F S512x1024 .f32 ← Prog.lift (.load arg2 (Rect.unit (s := S1024x1024) (rowOff s) S512x1024.size (rowOff_inb s)).toLoadRect (View.loadsAt_vmem h_S512x1024))
  let g : Vec F S1x1024 .f32 ← Prog.lift (.load arg3 (Rect.unit (s := S1x1024) ![0, 0] S1x1024.size inb_S1x1024_S1x1024_0_0).toLoadRect (View.loadsAt_vmem h_S1x1024))
  let _x : Vec F S512x1024 .bf16 ← Prog.lift (.load arg8 (Rect.unit (s := S1024x1024) (rowOff s) S512x1024.size (rowOff_inb s)).toLoadRect (View.loadsAt_vmem h_S512x1024))
  Prog.lift (.store arg8 (Rect.unit (s := S1024x1024) (rowOff s) S512x1024.size (rowOff_inb s)) (normV (takeV q xa xb) g) Finset.univ
    (View.stores_vmem h_S512x1024 (harg8.storeExact_slice rfl _ (rowOff_packed s)) (fun _ => rfl)) (.inl rfl))

/-- The first chunk of a half: its part into the accumulator. -/
def firstP (s : Fin 2) (c : Fin 11) : Prog (TpuEff nD τ sig (Elt F) Λ₀ .tc) PUnit := do
  let a : Vec F S512x1024 .bf16 ← Prog.lift (.load arg8 (Rect.unit (s := S1024x1024) (rowOff s) S512x1024.size (rowOff_inb s)).toLoadRect (View.loadsAt_vmem h_S512x1024))
  let wg : Vec F S1x1024x256 .bf16 ← Prog.lift (.load arg4 (Rect.unit (s := S1x1024x5632) (gateOff c) S1x1024x256.size (gateOff_inb c)).toLoadRect (View.loadsAt_vmem h_S1x1024x256))
  let b : Vec F S512x1024 .bf16 ← Prog.lift (.load arg8 (Rect.unit (s := S1024x1024) (rowOff s) S512x1024.size (rowOff_inb s)).toLoadRect (View.loadsAt_vmem h_S512x1024))
  let wu : Vec F S1x1024x256 .bf16 ← Prog.lift (.load arg4 (Rect.unit (s := S1x1024x5632) (upOff c) S1x1024x256.size (upOff_inb c)).toLoadRect (View.loadsAt_vmem h_S1x1024x256))
  let wo : Vec F S1x256x1024 .bf16 ← Prog.lift (.load arg5 (Rect.unit (s := S1x2816x1024) (outOff c) S1x256x1024.size (outOff_inb c)).toLoadRect (View.loadsAt_vmem h_S1x256x1024))
  let _x : Vec F S512x1024 .f32 ← Prog.lift (.load arg9 (Rect.unit (s := S1024x1024) (rowOff s) S512x1024.size (rowOff_inb s)).toLoadRect (View.loadsAt_vmem h_S512x1024))
  Prog.lift (.store arg9 (Rect.unit (s := S1024x1024) (rowOff s) S512x1024.size (rowOff_inb s)) (firstV (partV a b wg wu wo)) Finset.univ
    (View.stores_vmem_bits_univ h_S512x1024 rfl) (.inl rfl))

/-- A middle chunk of a half: its part added to the accumulator. -/
def addP (s : Fin 2) (c : Fin 11) : Prog (TpuEff nD τ sig (Elt F) Λ₀ .tc) PUnit := do
  let a : Vec F S512x1024 .bf16 ← Prog.lift (.load arg8 (Rect.unit (s := S1024x1024) (rowOff s) S512x1024.size (rowOff_inb s)).toLoadRect (View.loadsAt_vmem h_S512x1024))
  let wg : Vec F S1x1024x256 .bf16 ← Prog.lift (.load arg4 (Rect.unit (s := S1x1024x5632) (gateOff c) S1x1024x256.size (gateOff_inb c)).toLoadRect (View.loadsAt_vmem h_S1x1024x256))
  let b : Vec F S512x1024 .bf16 ← Prog.lift (.load arg8 (Rect.unit (s := S1024x1024) (rowOff s) S512x1024.size (rowOff_inb s)).toLoadRect (View.loadsAt_vmem h_S512x1024))
  let wu : Vec F S1x1024x256 .bf16 ← Prog.lift (.load arg4 (Rect.unit (s := S1x1024x5632) (upOff c) S1x1024x256.size (upOff_inb c)).toLoadRect (View.loadsAt_vmem h_S1x1024x256))
  let wo : Vec F S1x256x1024 .bf16 ← Prog.lift (.load arg5 (Rect.unit (s := S1x2816x1024) (outOff c) S1x256x1024.size (outOff_inb c)).toLoadRect (View.loadsAt_vmem h_S1x256x1024))
  let acc : Vec F S512x1024 .f32 ← Prog.lift (.load arg9 (Rect.unit (s := S1024x1024) (rowOff s) S512x1024.size (rowOff_inb s)).toLoadRect (View.loadsAt_vmem h_S512x1024))
  let _x : Vec F S512x1024 .f32 ← Prog.lift (.load arg9 (Rect.unit (s := S1024x1024) (rowOff s) S512x1024.size (rowOff_inb s)).toLoadRect (View.loadsAt_vmem h_S512x1024))
  Prog.lift (.store arg9 (Rect.unit (s := S1024x1024) (rowOff s) S512x1024.size (rowOff_inb s)) (addV acc (partV a b wg wu wo)) Finset.univ
    (View.stores_vmem_bits_univ h_S512x1024 rfl) (.inl rfl))

/-- The last chunk of a half: the residual sum into the result. -/
def lastP (s : Fin 2) (c : Fin 11) : Prog (TpuEff nD τ sig (Elt F) Λ₀ .tc) PUnit := do
  let a : Vec F S512x1024 .bf16 ← Prog.lift (.load arg8 (Rect.unit (s := S1024x1024) (rowOff s) S512x1024.size (rowOff_inb s)).toLoadRect (View.loadsAt_vmem h_S512x1024))
  let wg : Vec F S1x1024x256 .bf16 ← Prog.lift (.load arg4 (Rect.unit (s := S1x1024x5632) (gateOff c) S1x1024x256.size (gateOff_inb c)).toLoadRect (View.loadsAt_vmem h_S1x1024x256))
  let b : Vec F S512x1024 .bf16 ← Prog.lift (.load arg8 (Rect.unit (s := S1024x1024) (rowOff s) S512x1024.size (rowOff_inb s)).toLoadRect (View.loadsAt_vmem h_S512x1024))
  let wu : Vec F S1x1024x256 .bf16 ← Prog.lift (.load arg4 (Rect.unit (s := S1x1024x5632) (upOff c) S1x1024x256.size (upOff_inb c)).toLoadRect (View.loadsAt_vmem h_S1x1024x256))
  let wo : Vec F S1x256x1024 .bf16 ← Prog.lift (.load arg5 (Rect.unit (s := S1x2816x1024) (outOff c) S1x256x1024.size (outOff_inb c)).toLoadRect (View.loadsAt_vmem h_S1x256x1024))
  let xa : Vec F S512x1024 .f32 ← Prog.lift (.load arg1 (Rect.unit (s := S1024x1024) (rowOff s) S512x1024.size (rowOff_inb s)).toLoadRect (View.loadsAt_vmem h_S512x1024))
  let xb : Vec F S512x1024 .f32 ← Prog.lift (.load arg2 (Rect.unit (s := S1024x1024) (rowOff s) S512x1024.size (rowOff_inb s)).toLoadRect (View.loadsAt_vmem h_S512x1024))
  let acc : Vec F S512x1024 .f32 ← Prog.lift (.load arg9 (Rect.unit (s := S1024x1024) (rowOff s) S512x1024.size (rowOff_inb s)).toLoadRect (View.loadsAt_vmem h_S512x1024))
  let _x : Vec F S512x1024 .f32 ← Prog.lift (.load arg7 (Rect.unit (s := S1024x1024) (rowOff s) S512x1024.size (rowOff_inb s)).toLoadRect (View.loadsAt_vmem h_S512x1024))
  Prog.lift (.store arg7 (Rect.unit (s := S1024x1024) (rowOff s) S512x1024.size (rowOff_inb s)) (sumV (takeV q xa xb) acc (partV a b wg wu wo)) Finset.univ
    (View.stores_vmem_bits_univ h_S512x1024 rfl) (.inl rfl))

/-- The phases of a half. -/
def halfP (s : Fin 2) : List (Prog (TpuEff nD τ sig (Elt F) Λ₀ .tc) PUnit) :=
  [normP q arg1 arg2 arg3 arg8 harg8 s, firstP arg4 arg5 arg8 arg9 s 0, addP arg4 arg5 arg8 arg9 s 1, addP arg4 arg5 arg8 arg9 s 2,
   addP arg4 arg5 arg8 arg9 s 3, addP arg4 arg5 arg8 arg9 s 4, addP arg4 arg5 arg8 arg9 s 5, addP arg4 arg5 arg8 arg9 s 6,
   addP arg4 arg5 arg8 arg9 s 7, addP arg4 arg5 arg8 arg9 s 8, addP arg4 arg5 arg8 arg9 s 9, lastP q arg1 arg2 arg4 arg5 arg7 arg8 arg9 s 10]

/-- Whether a program's tokens are in the first array. -/
def fromFirst (i : grid0.Coords) : BitVec 1 := Scalar.cmpi .slt (BitVec.ofNat 32 (i 0).val) 32#32

set_option maxHeartbeats 4000000 in
/-- The body is the chain of its phases, in the kernel's order. -/
theorem body_eq (i : grid0.Coords) :
    cc0_ffn (F := F) i arg1 harg1 arg2 harg2 arg3 harg3 arg4 harg4 arg5 harg5 arg6 harg6 arg7 harg7 arg8 harg8 arg9 harg9
      = Pipeline.chain (halfP (fromFirst i) arg1 arg2 arg3 arg4 arg5 arg7 arg8 harg8 arg9 0 ++ halfP (fromFirst i) arg1 arg2 arg3 arg4 arg5 arg7 arg8 harg8 arg9 1) := by
  chain_rfl

end Cert.Kernel5Ideal
end
-- ==== Proof.FfnBoth.Triples.lean ====
module

public import proofs.«01_k».proof.Proof.FfnBoth.Phases
public import proofs.«01_k».proof.Proof.Gen.Kernel5Ideal.Frame.Runs
public import Idealize.ShloMosaic.Lib.VecWindow
public import Idealize.ShloMosaic.Lib.Pipeline.Value

/-!
# What each phase of the feed-forward call on two arrays does

Each phase is its function on the state of `Cert.Kernel2Ideal.Ffn`.
-/

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel2Ideal.Ffn (Ins St half partF normF firstF addF)
open Cert.Kernel2Ideal (rowOff)
open Cert.Kernel3Ideal (sumV)
open Cert.Kernel3Ideal.Ffn (lastF halfF bodyF)

variable {F : FTy → Type} [FloatOps F]

local notation "𝕄" => MT nD τ sig Unit (Elt F) ℕ (UR sig nD τ) ℕ

/-- What a program reads: its blocks of the two token arrays and which it takes, and the weights. -/
structure Two (F : FTy → Type) where
  q : BitVec 1
  xa : Vec F S1024x1024 .f32
  xb : Vec F S1024x1024 .f32
  g : Vec F S1x1024 .f32
  wi : Vec F S1x1024x5632 .bf16
  wo : Vec F S1x2816x1024 .bf16
  go : Vec F S1x1024 .f32

/-- The inputs, with the tokens taken. -/
def Two.ins (x : Two F) : Ins F := ⟨Scalar.select x.q x.xa x.xb, x.g, x.wi, x.wo, x.go⟩

theorem ins_g (x : Two F) : x.ins.g = x.g := rfl
theorem ins_wi (x : Two F) : x.ins.wi = x.wi := rfl
theorem ins_wo (x : Two F) : x.ins.wo = x.wo := rfl

/-- A half of the tokens taken is taken of the halves. -/
theorem half_ins (x : Two F) (s : Fin 2) : half x.ins.x s = takeV x.q (half x.xa s) (half x.xb s) := by
  show half (Scalar.select x.q x.xa x.xb) s = _
  unfold takeV Scalar.select
  rw [shapeCast_self, shapeCast_self]
  split <;> rfl

/-- The memrefs of one program. -/
structure Refs where
  arg1 : Memref sig .tc .vmem S1024x1024 .f32
  harg1 : arg1.IsWhole
  arg2 : Memref sig .tc .vmem S1024x1024 .f32
  harg2 : arg2.IsWhole
  arg3 : Memref sig .tc .vmem S1x1024 .f32
  harg3 : arg3.IsWhole
  arg4 : Memref sig .tc .vmem S1x1024x5632 .bf16
  harg4 : arg4.IsWhole
  arg5 : Memref sig .tc .vmem S1x2816x1024 .bf16
  harg5 : arg5.IsWhole
  arg6 : Memref sig .tc .vmem S1x1024 .f32
  harg6 : arg6.IsWhole
  arg7 : Memref sig .tc .vmem S1024x1024 .f32
  harg7 : arg7.IsWhole
  arg8 : Memref sig .tc .vmem S1024x1024 .bf16
  harg8 : arg8.IsWhole
  arg9 : Memref sig .tc .vmem S1024x1024 .f32
  harg9 : arg9.IsWhole

/-- The program's buffers at given contents. -/
def held (c : Dev nD) (A : Refs) (x : Two F) (st : St F) : sProp 𝕄 :=
  iprop(owns (c : Thread nD τ) A.arg1 fullShare x.xa ∗ owns (c : Thread nD τ) A.arg2 fullShare x.xb ∗ owns (c : Thread nD τ) A.arg3 fullShare x.g ∗ owns (c : Thread nD τ) A.arg4 fullShare x.wi
    ∗ owns (c : Thread nD τ) A.arg5 fullShare x.wo ∗ owns (c : Thread nD τ) A.arg6 fullShare x.go ∗ owns (c : Thread nD τ) A.arg7 fullShare st.o
    ∗ owns (c : Thread nD τ) A.arg8 fullShare st.n ∗ owns (c : Thread nD τ) A.arg9 fullShare st.a)

/-- The program `P` takes the state `st` to `f st`, whatever it is. -/
def Does (c : Dev nD) (A : Refs) (x : Two F) (P : Prog (TpuEff nD τ sig (Elt F) Λ₀ .tc) PUnit) (f : St F → St F) : Prop :=
  ∀ (st : St F) (E : Set ℕ) (K : PUnit → sProp 𝕄),
    iprop(held c A x st ∗ (held c A x (f st) -∗ K ⟨⟩)) ⊢ wp frame (wpE (defs₀ (F := F)) Variants.none c none) E P K

/-- What is read after one unmasked store is the payload put over what was read before. -/
theorem read_writes_put {s : Shape} {e : EltTy} {sp : Space} (m : Memref sig .tc sp s e) (f : m.view.ty.Contents (Elt F)) (y : s.Idx → Elt F e)
    (hf : m.view.read (Elt F) f = y) {off size : Fin s.rank → ℕ} (inb : ∀ a, off a + size a ≤ s.size a) (w : (Rect.unit off size inb).shape.Idx → Elt F e) :
    m.view.read (Elt F) (m.view.writes (Elt F) f [⟨Rect.unit off size inb, w⟩]) = VecWindow.put y off size w := by
  subst hf
  exact View.read_writes_cons_put m.view f inb w [] rfl

/-- The normalisation does what it says. -/
theorem norm_does (c : Dev nD) (A : Refs) (x : Two F) (s : Fin 2) : Does c A x (normP x.q A.arg1 A.arg2 A.arg3 A.arg8 A.harg8 s) (normF x.ins s) := by
  intro st E K
  unfold normP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    rw [read_writes_put A.arg8 f7 st.n h7]
    unfold Cert.Kernel2Ideal.Ffn.normF
    rw [half_ins, ins_g, ← h0, ← h1, ← h2]
    rfl
  iexists _; isplitr; swap; · iexact H8
  ipureintro
  exact h8

/-- The first chunk does what it says. -/
theorem first_does (c : Dev nD) (A : Refs) (x : Two F) (s : Fin 2) (k : Fin 11) : Does c A x (firstP A.arg4 A.arg5 A.arg8 A.arg9 s k) (firstF x.ins s k) := by
  intro st E K
  unfold firstP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  iexists _; isplitr; swap; · iexact H8
  ipureintro
  rw [read_writes_put A.arg9 f8 st.a h8]
  unfold Cert.Kernel2Ideal.Ffn.firstF Cert.Kernel2Ideal.Ffn.partF
  rw [ins_wi, ins_wo, ← h3, ← h4, ← h7]
  rfl

/-- A middle chunk does what it says. -/
theorem add_does (c : Dev nD) (A : Refs) (x : Two F) (s : Fin 2) (k : Fin 11) : Does c A x (addP A.arg4 A.arg5 A.arg8 A.arg9 s k) (addF x.ins s k) := by
  intro st E K
  unfold addP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  iexists _; isplitr; swap; · iexact H8
  ipureintro
  rw [read_writes_put A.arg9 f8 st.a h8]
  unfold Cert.Kernel2Ideal.Ffn.addF Cert.Kernel2Ideal.Ffn.partF
  rw [ins_wi, ins_wo, ← h3, ← h4, ← h7, ← h8]
  rfl

/-- The last chunk does what it says. -/
theorem last_does (c : Dev nD) (A : Refs) (x : Two F) (s : Fin 2) (k : Fin 11) : Does c A x (lastP x.q A.arg1 A.arg2 A.arg4 A.arg5 A.arg7 A.arg8 A.arg9 s k) (lastF x.ins s k) := by
  intro st E K
  unfold lastP
  conv_lhs => arg 1; unfold held owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, Hk⟩
  sl_exec
  sl_step
  iapply Hk
  unfold held owns
  isplitl [H0]
  · iexists _; isplitr; swap; · iexact H0
    ipureintro
    exact h0
  isplitl [H1]
  · iexists _; isplitr; swap; · iexact H1
    ipureintro
    exact h1
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    rw [read_writes_put A.arg7 f6 st.o h6]
    unfold Cert.Kernel3Ideal.Ffn.lastF Cert.Kernel2Ideal.Ffn.partF
    rw [half_ins, ins_wi, ins_wo, ← h0, ← h1, ← h3, ← h4, ← h7, ← h8]
    rfl
  isplitl [H7]
  · iexists _; isplitr; swap; · iexact H7
    ipureintro
    exact h7
  iexists _; isplitr; swap; · iexact H8
  ipureintro
  exact h8

/-- A list of programs, each with what it does, does these one after the other. -/
theorem chain_does (c : Dev nD) (A : Refs) (x : Two F) {Ps : List (Prog (TpuEff nD τ sig (Elt F) Λ₀ .tc) PUnit)} {fs : List (St F → St F)}
    (h : List.Forall₂ (Does c A x) Ps fs) : Does c A x (Pipeline.chain Ps) (fun st => fs.foldl (fun st f => f st) st) := by
  induction h with
  | nil =>
    intro st E K
    rw [Pipeline.chain_nil]
    iintro ⟨H, Hk⟩
    sl_step
    iapply Hk
    iexact H
  | cons hd _ ih =>
    intro st E K
    rw [Pipeline.chain_cons, wp_bind]
    iintro ⟨H, Hk⟩
    iapply (hd st E _)
    isplitl [H]; · iexact H
    iintro H
    iapply (ih _ E K)
    isplitl [H]; · iexact H
    iexact Hk

theorem half_does (c : Dev nD) (A : Refs) (x : Two F) (s : Fin 2) :
    List.Forall₂ (Does c A x) (halfP x.q A.arg1 A.arg2 A.arg3 A.arg4 A.arg5 A.arg7 A.arg8 A.harg8 A.arg9 s) (halfF x.ins s) :=
  .cons (norm_does c A x s) (.cons (first_does c A x s 0) (.cons (add_does c A x s 1) (.cons (add_does c A x s 2) (.cons (add_does c A x s 3)
    (.cons (add_does c A x s 4) (.cons (add_does c A x s 5) (.cons (add_does c A x s 6) (.cons (add_does c A x s 7) (.cons (add_does c A x s 8)
      (.cons (add_does c A x s 9) (.cons (last_does c A x s 10) .nil)))))))))))

/-- The body does what its phases do. -/
theorem body_does (c : Dev nD) (A : Refs) (x : Two F) (i : grid0.Coords) (hq : x.q = fromFirst i) :
    Does c A x (cc0_ffn (F := F) i A.arg1 A.harg1 A.arg2 A.harg2 A.arg3 A.harg3 A.arg4 A.harg4 A.arg5 A.harg5 A.arg6 A.harg6 A.arg7 A.harg7 A.arg8 A.harg8 A.arg9 A.harg9)
      (bodyF x.ins) := by
  rw [body_eq, ← hq]
  exact chain_does c A x (List.rel_append (half_does c A x 0) (half_does c A x 1))

end Cert.Kernel5Ideal.Ffn
end
-- ==== Proof.FfnBoth.Run.lean ====
module

public import proofs.«01_k».proof.Proof.FfnBoth.Triples
public import Idealize.ShloMosaic.Lib.Pipeline.Value
public import Idealize.ShloMosaic.Lib.Claim

/-! # The run of the feed-forward call on two arrays -/

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

open Cert.Kernel2Ideal.Ffn (Ins St)
open Cert.Kernel3Ideal.Ffn (bodyF outV final_outV)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs of the program at a point. -/
def insAt (c : Dev nD) (t : Fin cfg0.N) : Two F :=
  ⟨fromFirst (grid0.coords t), iblk m c 0 t, iblk m c 1 t, iblk m c 2 t, iblk m c 3 t, iblk m c 4 t, iblk m c 5 t⟩

/-- The proof data: the arrays as the region finds them; after the body each input's buffer at its block and the
    result's at `outV`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV (insAt m c t).ins
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outV (insAt m c t).ins := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- The memrefs of the program at a point. -/
def refsAt (t : Fin cfg0.N) : Refs where
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  harg5 := hstage0_4 ((cfg0.slots t 4).cast nbuf0_4)
  arg6 := win0_5.stage (cfg0.slots t 5)
  harg6 := hstage0_5 ((cfg0.slots t 5).cast nbuf0_5)
  arg7 := win0_6.stage (cfg0.slots t 6)
  harg7 := hstage0_6 ((cfg0.slots t 6).cast nbuf0_6)
  arg8 := Memref.whole cc0_scratch0
  harg8 := Memref.isWhole_whole _
  arg9 := Memref.whole cc0_scratch1
  harg9 := Memref.isWhole_whole _

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

/-- The body's triple at a point of the grid. -/
theorem body_at (c : Dev nD) (t : Fin cfg0.N) : Does c (refsAt t) (insAt m c t) (bodyAt0 (F := F) t) (bodyF (insAt m c t).ins) :=
  body_does c (refsAt t) (insAt m c t) (grid0.coords t) rfl

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (body_at m c t ⟨(dats m 0 c).before 6 t d6, s0, s1⟩ Set.univ _)
  isplitl [H0 H1 H2 H3 H4 H5 H6 HS0 HS1]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  unfold held
  rw [final_outV]
  iintro ⟨H0, H1, H2, H3, H4, H5, H6, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
set_option backward.isDefEq.respectTransparency.types false in
/-- The launch: the arrays end as the proof data says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel5Ideal.Ffn
end
-- ==== Proof.FfnBoth.Array.lean ====
module

public import proofs.«01_k».proof.Proof.FfnBoth.Run

/-! # The whole result of the feed-forward call on two arrays -/

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI Idealize.SL.Sem
open Idealize.ShloMosaic.Rounds Idealize.ShloMosaic.ValueIdx
open Idealize.ShloMosaic.Pipeline (Dat Cfg Window BodyObligation cellOf)

open Cert.Kernel2Ideal.Ffn (Ins St)
open Cert.Kernel3Ideal.Ffn (outV)

variable {F : FTy → Type} [FloatOps F]

variable (m : (ℓ : Loc nD τ sig) → Buf (Elt F) ℓ) (ρ : Dev nD → PrngReg)

/-- The rows of the first array, then those of the second. -/
def rows (X : Vec F S32768x1024 .f32) (Y : Vec F S65536x1024 .f32) (r : Fin 98304) (j : Fin 1024) : F .f32 :=
  if h : r.val < 32768 then X (ix2 (⟨r.val, h⟩ : Fin 32768) j) else Y (ix2 (⟨r.val - 32768, by have := r.isLt; omega⟩ : Fin 65536) j)

/-- The inputs of tile `t`, cut out of the six operands: its 1024 rows, and the first layer of the weights. -/
def insOf (X : Vec F S32768x1024 .f32) (Y : Vec F S65536x1024 .f32) (G : Vec F S1x1024 .f32) (W : Vec F S2x1024x5632 .bf16) (U : Vec F S2x2816x1024 .bf16) (H : Vec F S1x1024 .f32)
    (t : Fin 96) : Ins F where
  x := fun y => rows X Y ⟨1024 * t.val + (y 0).val, by have h : (y 0).val < 1024 := (y 0).isLt; have := t.isLt; omega⟩ (y 1)
  g := G
  wi := fun y => W (ix3 (0 : Fin 2) (y 1 : Fin 1024) (y 2 : Fin 5632))
  wo := fun y => U (ix3 (0 : Fin 2) (y 1 : Fin 2816) (y 2 : Fin 1024))
  go := H

/-- The result, of the six operands. -/
def ffnOut (X : Vec F S32768x1024 .f32) (Y : Vec F S65536x1024 .f32) (G : Vec F S1x1024 .f32) (W : Vec F S2x1024x5632 .bf16) (U : Vec F S2x2816x1024 .bf16) (H : Vec F S1x1024 .f32) :
    Vec F S98304x1024 .f32 :=
  fun z => outV (insOf X Y G W U H ⟨(z 0).val / 1024, by have h : (z 0).val < 98304 := (z 0).isLt; omega⟩)
    (ix2 (⟨(z 0).val % 1024, Nat.mod_lt _ (by decide)⟩ : Fin 1024) (z 1 : Fin 1024))

/-- The result on the region's arrays. -/
def result (c : Dev nD) : Buf (Elt F) ((c : Thread nD τ).loc main_v10) :=
  ffnOut (V m c main_v0) (V m c main_v9) (V m c main_v3) (V m c main_v4) (V m c main_v5) (V m c main_v8)

theorem index0 : ∀ t : Fin grid0.N, (cc0_transform_0 (grid0.coords t) : Fin 2 → ℕ) = ![min t.val 31, 0] := by decide +kernel
theorem index1 : ∀ t : Fin grid0.N, (cc0_transform_1 (grid0.coords t) : Fin 2 → ℕ) = ![t.val - 32, 0] := by decide +kernel
theorem index2 : ∀ t : Fin grid0.N, (cc0_transform_2 (grid0.coords t) : Fin 2 → ℕ) = ![0, 0] := by decide +kernel
theorem index3 : ∀ t : Fin grid0.N, (cc0_transform_3 (grid0.coords t) : Fin 3 → ℕ) = ![0, 0, 0] := by decide +kernel
theorem index4 : ∀ t : Fin grid0.N, (cc0_transform_4 (grid0.coords t) : Fin 3 → ℕ) = ![0, 0, 0] := by decide +kernel
theorem index5 : ∀ t : Fin grid0.N, (cc0_transform_5 (grid0.coords t) : Fin 2 → ℕ) = ![0, 0] := by decide +kernel
theorem index6 : ∀ t : Fin grid0.N, (cc0_transform_6 (grid0.coords t) : Fin 2 → ℕ) = ![t.val, 0] := by decide +kernel
/-- The first 32 tiles are in the first array. -/
theorem from_first : ∀ t : Fin grid0.N, fromFirst (grid0.coords t) = if t.val < 32 then 1 else 0 := by decide +kernel

/-- The tile of a point. -/
def tileOf (t : Fin cfg0.N) : Fin 96 := ⟨t.val, by have h : t.val < grid0.N := t.isLt; rw [N_0] at h; omega⟩

theorem iblk0_eq (c : Dev nD) (t : Fin cfg0.N) : (iblk m c 0 t : Vec F S1024x1024 .f32)
    = fun y => (V m c main_v0 : Vec F S32768x1024 .f32) (ix2 (⟨1024 * (min (tileOf t).val 31) + (y 0).val, by have h : (y 0).val < 1024 := (y 0).isLt; have := (tileOf t).isLt; omega⟩ : Fin 32768) (y 1 : Fin 1024)) := by
  funext y
  have e := index0 t
  refine congrArg (V m c main_v0 : Vec F S32768x1024 .f32) (funext fun a => Fin.ext ?_)
  match a with
  | ⟨0, _⟩ =>
    show (cc0_transform_0 (grid0.coords t) : Fin 2 → ℕ) 0 * 1024 + 1 * (y 0).val = 1024 * (min t.val 31) + (y 0).val
    rw [e]; show (min t.val 31) * 1024 + 1 * (y 0).val = 1024 * (min t.val 31) + (y 0).val; omega
  | ⟨1, _⟩ =>
    show (cc0_transform_0 (grid0.coords t) : Fin 2 → ℕ) 1 * 1024 + 1 * (y 1).val = (y 1).val
    rw [e]; show 0 * 1024 + 1 * (y 1).val = (y 1).val; omega

theorem iblk1_eq (c : Dev nD) (t : Fin cfg0.N) : (iblk m c 1 t : Vec F S1024x1024 .f32)
    = fun y => (V m c main_v9 : Vec F S65536x1024 .f32) (ix2 (⟨1024 * ((tileOf t).val - 32) + (y 0).val, by have h : (y 0).val < 1024 := (y 0).isLt; have := (tileOf t).isLt; omega⟩ : Fin 65536) (y 1 : Fin 1024)) := by
  funext y
  have e := index1 t
  refine congrArg (V m c main_v9 : Vec F S65536x1024 .f32) (funext fun a => Fin.ext ?_)
  match a with
  | ⟨0, _⟩ =>
    show (cc0_transform_1 (grid0.coords t) : Fin 2 → ℕ) 0 * 1024 + 1 * (y 0).val = 1024 * (t.val - 32) + (y 0).val
    rw [e]; show (t.val - 32) * 1024 + 1 * (y 0).val = 1024 * (t.val - 32) + (y 0).val; omega
  | ⟨1, _⟩ =>
    show (cc0_transform_1 (grid0.coords t) : Fin 2 → ℕ) 1 * 1024 + 1 * (y 1).val = (y 1).val
    rw [e]; show 0 * 1024 + 1 * (y 1).val = (y 1).val; omega

theorem iblk2_eq (c : Dev nD) (t : Fin cfg0.N) : (iblk m c 2 t : Vec F S1x1024 .f32) = (V m c main_v3 : Vec F S1x1024 .f32) := by
  funext y
  have e := index2 t
  refine congrArg (V m c main_v3 : Vec F S1x1024 .f32) (funext fun a => Fin.ext ?_)
  match a with
  | ⟨0, _⟩ =>
    show (cc0_transform_2 (grid0.coords t) : Fin 2 → ℕ) 0 * 1 + 1 * (y 0).val = (y 0).val
    rw [e]; show 0 * 1 + 1 * (y 0).val = (y 0).val; omega
  | ⟨1, _⟩ =>
    show (cc0_transform_2 (grid0.coords t) : Fin 2 → ℕ) 1 * 1024 + 1 * (y 1).val = (y 1).val
    rw [e]; show 0 * 1024 + 1 * (y 1).val = (y 1).val; omega

theorem iblk3_eq (c : Dev nD) (t : Fin cfg0.N) : (iblk m c 3 t : Vec F S1x1024x5632 .bf16)
    = fun y => (V m c main_v4 : Vec F S2x1024x5632 .bf16) (ix3 (0 : Fin 2) (y 1 : Fin 1024) (y 2 : Fin 5632)) := by
  funext y
  have e := index3 t
  have h0 : (y 0).val < 1 := (y 0).isLt
  refine congrArg (V m c main_v4 : Vec F S2x1024x5632 .bf16) (funext fun a => Fin.ext ?_)
  match a with
  | ⟨0, _⟩ =>
    show (cc0_transform_3 (grid0.coords t) : Fin 3 → ℕ) 0 * 1 + 1 * (y 0).val = 0
    rw [e]; show 0 * 1 + 1 * (y 0).val = 0; omega
  | ⟨1, _⟩ =>
    show (cc0_transform_3 (grid0.coords t) : Fin 3 → ℕ) 1 * 1024 + 1 * (y 1).val = (y 1).val
    rw [e]; show 0 * 1024 + 1 * (y 1).val = (y 1).val; omega
  | ⟨2, _⟩ =>
    show (cc0_transform_3 (grid0.coords t) : Fin 3 → ℕ) 2 * 5632 + 1 * (y 2).val = (y 2).val
    rw [e]; show 0 * 5632 + 1 * (y 2).val = (y 2).val; omega

theorem iblk4_eq (c : Dev nD) (t : Fin cfg0.N) : (iblk m c 4 t : Vec F S1x2816x1024 .bf16)
    = fun y => (V m c main_v5 : Vec F S2x2816x1024 .bf16) (ix3 (0 : Fin 2) (y 1 : Fin 2816) (y 2 : Fin 1024)) := by
  funext y
  have e := index4 t
  have h0 : (y 0).val < 1 := (y 0).isLt
  refine congrArg (V m c main_v5 : Vec F S2x2816x1024 .bf16) (funext fun a => Fin.ext ?_)
  match a with
  | ⟨0, _⟩ =>
    show (cc0_transform_4 (grid0.coords t) : Fin 3 → ℕ) 0 * 1 + 1 * (y 0).val = 0
    rw [e]; show 0 * 1 + 1 * (y 0).val = 0; omega
  | ⟨1, _⟩ =>
    show (cc0_transform_4 (grid0.coords t) : Fin 3 → ℕ) 1 * 2816 + 1 * (y 1).val = (y 1).val
    rw [e]; show 0 * 2816 + 1 * (y 1).val = (y 1).val; omega
  | ⟨2, _⟩ =>
    show (cc0_transform_4 (grid0.coords t) : Fin 3 → ℕ) 2 * 1024 + 1 * (y 2).val = (y 2).val
    rw [e]; show 0 * 1024 + 1 * (y 2).val = (y 2).val; omega

theorem iblk5_eq (c : Dev nD) (t : Fin cfg0.N) : (iblk m c 5 t : Vec F S1x1024 .f32) = (V m c main_v8 : Vec F S1x1024 .f32) := by
  funext y
  have e := index5 t
  refine congrArg (V m c main_v8 : Vec F S1x1024 .f32) (funext fun a => Fin.ext ?_)
  match a with
  | ⟨0, _⟩ =>
    show (cc0_transform_5 (grid0.coords t) : Fin 2 → ℕ) 0 * 1 + 1 * (y 0).val = (y 0).val
    rw [e]; show 0 * 1 + 1 * (y 0).val = (y 0).val; omega
  | ⟨1, _⟩ =>
    show (cc0_transform_5 (grid0.coords t) : Fin 2 → ℕ) 1 * 1024 + 1 * (y 1).val = (y 1).val
    rw [e]; show 0 * 1024 + 1 * (y 1).val = (y 1).val; omega

/-- The tokens a point takes are its rows of the two arrays. -/
theorem taken_eq (c : Dev nD) (t : Fin cfg0.N) : Scalar.select (fromFirst (grid0.coords t)) (iblk m c 0 t : Vec F S1024x1024 .f32) (iblk m c 1 t)
    = fun y => rows (V m c main_v0) (V m c main_v9) ⟨1024 * (tileOf t).val + (y 0).val, by have h : (y 0).val < 1024 := (y 0).isLt; have := (tileOf t).isLt; omega⟩ (y 1) := by
  rw [iblk0_eq, iblk1_eq, from_first t]
  funext y
  have h0 : (y 0).val < 1024 := (y 0).isLt
  have ht : (tileOf t).val = t.val := rfl
  unfold rows
  generalize (V m c main_v0 : Vec F S32768x1024 .f32) = X
  generalize (V m c main_v9 : Vec F S65536x1024 .f32) = Y
  by_cases h : t.val < 32
  · rw [if_pos h, dif_pos (show 1024 * (tileOf t).val + (y 0).val < 32768 by omega)]
    refine congrArg X (funext fun a => Fin.ext ?_)
    match a with
    | ⟨0, _⟩ => show 1024 * (min (tileOf t).val 31) + (y 0).val = 1024 * (tileOf t).val + (y 0).val; omega
    | ⟨1, _⟩ => rfl
  · rw [if_neg h, dif_neg (show ¬ 1024 * (tileOf t).val + (y 0).val < 32768 by omega)]
    refine congrArg Y (funext fun a => Fin.ext ?_)
    match a with
    | ⟨0, _⟩ => show 1024 * ((tileOf t).val - 32) + (y 0).val = 1024 * (tileOf t).val + (y 0).val - 32768; omega
    | ⟨1, _⟩ => rfl

/-- A point's inputs are cut out of the six operands. -/
theorem insAt_eq (c : Dev nD) (t : Fin cfg0.N) :
    (insAt m c t).ins = insOf (V m c main_v0) (V m c main_v9) (V m c main_v3) (V m c main_v4) (V m c main_v5) (V m c main_v8) (tileOf t) := by
  unfold insAt Two.ins insOf
  rw [taken_eq, iblk2_eq, iblk3_eq, iblk4_eq, iblk5_eq]
  rfl

/-- What a point writes back is its block of the result. -/
theorem flushed_eq (c : Dev nD) (t : Fin cfg0.N) (hf : (cfg0.win 6).flush t = true) :
    (dats m 0 c).flushed 6 t = ((cfg0.win 6).blk t).view.read (Elt F) (result m c) := by
  show (cfg0.win 6).cut (grid0.coords t) ((dats m 0 c).after 6 t) = _
  rw [after_6, insAt_eq]
  funext y
  have e := index6 t
  have h0 : (y 0).val < 1024 := (y 0).isLt
  have ht := (tileOf t).isLt
  have hz : ((cfg0.win 6).blk t).view.read (Elt F) (result m c) y
      = result m c (ix2 (⟨1024 * (tileOf t).val + (y 0).val, by omega⟩ : Fin 98304) (y 1 : Fin 1024)) := by
    refine congrArg (result m c) (funext fun a => Fin.ext ?_)
    match a with
    | ⟨0, _⟩ =>
      show (cc0_transform_6 (grid0.coords t) : Fin 2 → ℕ) 0 * 1024 + 1 * (y 0).val = 1024 * t.val + (y 0).val
      rw [e]; show t.val * 1024 + 1 * (y 0).val = 1024 * t.val + (y 0).val; omega
    | ⟨1, _⟩ =>
      show (cc0_transform_6 (grid0.coords t) : Fin 2 → ℕ) 1 * 1024 + 1 * (y 1).val = (y 1).val
      rw [e]; show 0 * 1024 + 1 * (y 1).val = (y 1).val; omega
  rw [hz]
  unfold result ffnOut
  generalize V m c main_v0 = X
  generalize V m c main_v9 = Y
  generalize V m c main_v3 = G
  generalize V m c main_v4 = W
  generalize V m c main_v5 = U
  generalize V m c main_v8 = H
  have ep : (⟨(1024 * (tileOf t).val + (y 0).val) / 1024, by omega⟩ : Fin 96) = tileOf t := Fin.ext (by show (1024 * (tileOf t).val + (y 0).val) / 1024 = _; omega)
  have el : (⟨(1024 * (tileOf t).val + (y 0).val) % 1024, Nat.mod_lt _ (by decide)⟩ : Fin 1024) = y 0 := Fin.ext (by show (1024 * (tileOf t).val + (y 0).val) % 1024 = _; omega)
  show outV (insOf X Y G W U H (tileOf t)) y = outV (insOf X Y G W U H ⟨(1024 * (tileOf t).val + (y 0).val) / 1024, _⟩)
    (ix2 (⟨(1024 * (tileOf t).val + (y 0).val) % 1024, _⟩ : Fin 1024) (y 1 : Fin 1024))
  rw [ep, el]
  refine congrArg (outV (insOf X Y G W U H (tileOf t))) (funext fun a => ?_)
  match a with
  | ⟨0, _⟩ => rfl
  | ⟨1, _⟩ => rfl

/-- The result array at the end. -/
theorem final_result (c : Dev nD) : (dats m 0 c).arrAt 6 cfg0.N = result m c :=
  (dats m 0 c).arrAt_eq_of_cover 6 (result m c) (flushed_eq m c) fun i => by
    have h0 : (i 0 : ℕ) < 98304 := (i 0).isLt
    have h1 : (i 1 : ℕ) < 1024 := (i 1).isLt
    have hN : grid0.N = 96 := N_0
    let t : Fin grid0.N := ⟨(i 0 : ℕ) / 1024, by omega⟩
    refine ⟨t, flush0_6 t, ?_⟩
    show i ∈ ((View.whole main_v10).slice (win0_6.rect t)).set
    rw [View.set_slice_whole, Rect.mem_set_unit]
    have e := index6 t
    have ht : t.val = (i 0 : ℕ) / 1024 := rfl
    intro a
    match a with
    | ⟨0, _⟩ =>
      show (cc0_transform_6 (grid0.coords t) : Fin 2 → ℕ) 0 * 1024 ≤ (i 0 : ℕ) ∧ (i 0 : ℕ) < (cc0_transform_6 (grid0.coords t) : Fin 2 → ℕ) 0 * 1024 + 1024
      rw [e]; show t.val * 1024 ≤ (i 0 : ℕ) ∧ (i 0 : ℕ) < t.val * 1024 + 1024; omega
    | ⟨1, _⟩ =>
      show (cc0_transform_6 (grid0.coords t) : Fin 2 → ℕ) 1 * 1024 ≤ (i 1 : ℕ) ∧ (i 1 : ℕ) < (cc0_transform_6 (grid0.coords t) : Fin 2 → ℕ) 1 * 1024 + 1024
      rw [e]; show 0 * 1024 ≤ (i 1 : ℕ) ∧ (i 1 : ℕ) < 0 * 1024 + 1024; omega

/-- The run, read: the result array at `result`, the arguments unchanged. -/
theorem run : θ_run defs (onTc (τ := τ) (main (F := F))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1.1 c).1 6).trans (final_result m c), (h.2.1 c)⟩)
    (θ_run_and (run_main_quiescent m ρ) (frame m ρ))

end Cert.Kernel5Ideal.Ffn
end
-- ==== Proof.FfnBoth.Operands.lean ====
module

public import proofs.«01_k».proof.Proof.FfnBoth.Array
public import proofs.«01_k».proof.Proof.Ffn.Operands
public import Idealize.ShloMosaic.Lib.StableHlo.RunRead

/-!
# The operands the host prepares

When the kernel starts, its operands are the rows, the first layer's gains, and the two weights.
-/

@[expose] public section

set_option maxRecDepth 16384

noncomputable section

namespace Cert.Kernel5Ideal.Ffn

open Cert.Kernel5Ideal Cert.Kernel5Ideal.Gen
open Idealize.ShloMosaic Idealize.ShloMosaic.TcCoe
open Idealize.ShloMosaic.ValueIdx

variable (m : (ℓ : Loc nD τ sig) → Buf (Elt Ideal) ℓ)

/-- The first layer's gains as one row. -/
def row0 (G : FVec Ideal S2x1024 .f32) : FVec Ideal S1x1024 .f32 :=
  shapeCast S1x1024 (shapeCast S1024 (extractStridedSlice S1x1024 ![0, 0] G slices_S2x1024_S1x1024_0_0) shapeCasts_S1x1024_S1024) shapeCasts_S1024_S1x1024

theorem row0_apply (G : FVec Ideal S2x1024 .f32) (k : Fin 1024) : row0 G (ix2 (0 : Fin 1) k) = G (ix2 (0 : Fin 2) k) := by
  unfold row0
  rw [shapeCast_apply _ shapeCasts_S1024_S1x1024 (ix2 (0 : Fin 1) k) (ix1 k)
    (by rewrite [Shape.rowMajor_val_two, Shape.rowMajor_val_one]; show k.val = 0 * 1024 + k.val; omega)]
  rw [shapeCast_apply _ shapeCasts_S1x1024_S1024 (ix1 k) (ix2 (0 : Fin 1) k)
    (by rewrite [Shape.rowMajor_val_two, Shape.rowMajor_val_one]; show 0 * 1024 + k.val = k.val; omega)]
  exact extractStridedSlice_apply ![0, 0] G slices_S2x1024_S1x1024_0_0 (ix2 (0 : Fin 1) k) (ix2 (0 : Fin 2) k) (fun a => match a with
    | ⟨0, _⟩ => rfl
    | ⟨1, _⟩ => by show k.val = 0 + k.val; omega)

theorem V_prompt (c : Dev nD) : V m c main_v0 = shapeCast S32768x1024 (m ((c : Thread nD τ).loc main_arg0)) shapeCasts_S4x8192x1024_S32768x1024 := by
  unfold V hostOps0
  after_reads_simp
  rfl

theorem V_sample (c : Dev nD) : V m c main_v9 = shapeCast S65536x1024 (m ((c : Thread nD τ).loc main_arg1)) shapeCasts_S8x8192x1024_S65536x1024 := by
  unfold V hostOps0
  after_reads_simp
  rfl

theorem V_gain (c : Dev nD) : V m c main_v3 = row0 (m ((c : Thread nD τ).loc main_arg2)) := by
  unfold V hostOps0
  after_reads_simp
  rfl

theorem V_wIn (c : Dev nD) : V m c main_v4 = (m ((c : Thread nD τ).loc main_arg3) : FVec Ideal S2x1024x5632 .f32) := by
  unfold V hostOps0
  after_reads_simp
  rfl

theorem V_wOut (c : Dev nD) : V m c main_v5 = (m ((c : Thread nD τ).loc main_arg4) : FVec Ideal S2x2816x1024 .f32) := by
  unfold V hostOps0
  after_reads_simp
  rfl

theorem V_gainOut (c : Dev nD) : V m c main_v8 = row0 (m ((c : Thread nD τ).loc main_arg5)) := by
  unfold V hostOps0
  after_reads_simp
  rfl

end Cert.Kernel5Ideal.Ffn
end
-- ==== Proof.FfnBoth.RefValue.lean ====
module

public import proofs.«01_k».proof.Proof.Gen.Reference5Ideal.Read
public import proofs.«01_k».proof.Proof.Ffn.RefValue
public import Idealize.ShloMosaic.Lib.Pipeline.Value

/-! # What the reference of the feed-forward call on two arrays computes -/

@[expose] public section

set_option maxRecDepth 16384

noncomputable section

namespace Cert.Reference5Ideal.Ffn

open Cert.Reference5Ideal Cert.Reference5Ideal.Gen Cert.Reference5Ideal.Read
open Idealize.ShloMosaic Idealize.ShloMosaic.ValueIdx

open Cert.Reference2Ideal.Ffn (zero32 one32 ext2 ext3)

variable (X : FVec Ideal S4x8192x1024 .f32) (Y : FVec Ideal S8x8192x1024 .f32) (G : FVec Ideal S2x1024 .f32) (W : FVec Ideal S2x1024x5632 .f32) (U : FVec Ideal S2x2816x1024 .f32)
  (r : Fin 98304)

/-- Token `r`. -/
def token : Fin 1024 → EReal := fun k => val_main_v2 (F := Ideal) X Y (ix2 r k)

/-- The first layer's gains. -/
def row : Fin 1024 → EReal := fun k => G (ix2 (0 : Fin 2) k)
/-- The first layer's first weights. -/
def wIn : Fin 1024 → Fin 5632 → EReal := fun k f => W (ix3 (0 : Fin 2) k f)
/-- The first layer's second weights. -/
def wOut : Fin 2816 → Fin 1024 → EReal := fun f j => U (ix3 (0 : Fin 2) f j)

/-- A token of the first array. -/
theorem token_left (h : r.val < 32768) (k : Fin 1024) : token X Y r k = val_main_v0 (F := Ideal) X (ix2 (⟨r.val, h⟩ : Fin 32768) k) := by
  unfold token val_main_v2
  exact concatenate_pair_apply_left (t := S98304x1024) (s₁ := S32768x1024) (s₂ := S65536x1024) 0 _ _ _ (ix2 r k) rfl
    (ix2 (⟨r.val, h⟩ : Fin 32768) k) (fun b => match b with
    | ⟨0, _⟩ => rfl
    | ⟨1, _⟩ => rfl)

/-- A token of the second array. -/
theorem token_right (h : ¬ r.val < 32768) (k : Fin 1024) :
    token X Y r k = val_main_v1 (F := Ideal) Y (ix2 (⟨r.val - 32768, by omega⟩ : Fin 65536) k) := by
  unfold token val_main_v2
  exact concatenate_pair_apply_right (t := S98304x1024) (s₁ := S32768x1024) (s₂ := S65536x1024) 0 _ _ _ (ix2 r k) rfl rfl
    (ix2 (⟨r.val - 32768, by omega⟩ : Fin 65536) k) (fun b hb => match b, hb with
    | ⟨0, _⟩, hb => absurd rfl hb
    | ⟨1, _⟩, _ => rfl)
    (by show r.val - 32768 + 32768 = r.val; omega)

theorem v16_at (k : Fin 1024) : val_main_v16 (F := Ideal) G (ix2 r k) = row G k := by
  rw [val_main_v16_apply, val_main_v15_apply, val_main_v4_apply, val_main_v3_apply]
  exact congrArg G (ext2 _ _ rfl (Nat.mod_eq_of_lt k.isLt))

theorem v19_at (k : Fin 1024) (f : Fin 5632) : val_main_v19 (F := Ideal) W (ix2 k f) = wIn W k f := by
  rw [val_main_v19_apply, val_main_v18_apply]
  refine congrArg W (ext3 _ _ rfl ?_ ?_)
  · show (k.val * 5632 + f.val) / 5632 % 1024 = k.val
    omega
  · show (k.val * 5632 + f.val) % 5632 = f.val
    omega

theorem v21_at (f : Fin 2816) (j : Fin 1024) : val_main_v21 (F := Ideal) U (ix2 f j) = wOut U f j := by
  rw [val_main_v21_apply, val_main_v20_apply]
  refine congrArg U (ext3 _ _ rfl ?_ ?_)
  · show (f.val * 1024 + j.val) / 1024 % 2816 = f.val
    omega
  · show (f.val * 1024 + j.val) % 1024 = j.val
    omega

/-- The sum of a token's squares. -/
theorem v6_at : val_main_v6 (F := Ideal) X Y (ix1 r) = ∑ k : Fin 1024, token X Y r k * token X Y r k := by
  rw [val_main_v6_apply, val_main_cst_apply, zero32, zero_add]
  refine Finset.sum_congr rfl fun k _ => ?_
  have e : idx_main_v6 (ix1 r) k = ix2 r k := ext2 _ _ rfl rfl
  rw [e, val_main_v5_apply]
  rfl

/-- The factor that normalises a token. -/
theorem v13_at (k : Fin 1024) : val_main_v13 (F := Ideal) X Y (ix2 r k)
    = Ideal.rsqrt (Ideal.div (∑ k : Fin 1024, token X Y r k * token X Y r k) Cert.Ffn.count + Cert.Ffn.small) := by
  rw [val_main_v13_apply, val_main_v12_apply, val_main_v11_apply, val_main_v10_apply, val_main_v9_apply, val_main_v8_apply, val_main_v7_apply]
  have e : idx_main_v7 (idx_main_v13 (ix2 r k)) = ix1 r := funext fun a => Fin.ext (match a with | ⟨0, _⟩ => rfl)
  rw [e, v6_at]
  rfl

/-- A normalised token. -/
theorem v17_at (k : Fin 1024) : val_main_v17 (F := Ideal) X Y G (ix2 r k) = Cert.Ffn.rms (token X Y r) (row G) k := by
  rw [val_main_v17_apply, val_main_v14_apply, v13_at, v16_at]
  rfl

/-- The first product. -/
theorem v22_at (f : Fin 5632) : val_main_v22 (F := Ideal) X Y G W (ix2 r f) = Cert.Ffn.proj (Cert.Ffn.rms (token X Y r) (row G)) (wIn W) f := by
  rw [val_main_v22_apply]
  unfold Cert.Ffn.proj
  refine Finset.sum_congr rfl fun k _ => ?_
  have e : lidx_main_v22 (ix2 r f) k = ix2 r k := ext2 _ _ rfl rfl
  have e' : ridx_main_v22 (ix2 r f) k = ix2 k f := ext2 _ _ rfl rfl
  rw [e, e', v17_at, v19_at]

theorem v23_at (f : Fin 2816) : val_main_v23 (F := Ideal) X Y G W (ix2 r f)
    = Cert.Ffn.proj (Cert.Ffn.rms (token X Y r) (row G)) (wIn W) ⟨f.val, by omega⟩ := by
  rw [val_main_v23_apply]
  have e : idx_main_v23 (ix2 r f) = ix2 r (⟨f.val, by omega⟩ : Fin 5632) := ext2 _ _ rfl rfl
  rw [e, v22_at]

theorem v24_at (f : Fin 2816) : val_main_v24 (F := Ideal) X Y G W (ix2 r f)
    = Cert.Ffn.proj (Cert.Ffn.rms (token X Y r) (row G)) (wIn W) ⟨2816 + f.val, by omega⟩ := by
  rw [val_main_v24_apply]
  have e : idx_main_v24 (ix2 r f) = ix2 r (⟨2816 + f.val, by omega⟩ : Fin 5632) := ext2 _ _ rfl rfl
  rw [e, v22_at]

/-- The gate. -/
theorem gate_at (f : Fin 2816) : val_main_call0_v5 (F := Ideal) X Y G W (ix2 r f)
    = Ideal.logistic (Cert.Ffn.proj (Cert.Ffn.rms (token X Y r) (row G)) (wIn W) ⟨f.val, by omega⟩) := by
  rw [val_main_call0_v5_apply, val_main_call0_v4_apply, val_main_call0_v3_apply, val_main_call0_v2_apply, val_main_call0_v1_apply,
    val_main_call0_v0_apply, val_main_call0_cst_apply, val_main_call0_cst_0_apply, one32, v23_at]
  rfl

/-- The gated activation. -/
theorem v26_at (f : Fin 2816) : val_main_v26 (F := Ideal) X Y G W (ix2 r f) = Cert.Ffn.act (Cert.Ffn.rms (token X Y r) (row G)) (wIn W) f := by
  rw [val_main_v26_apply, val_main_v25_apply, v23_at, v24_at, gate_at]
  rfl

/-- The second product. -/
theorem v27_at (j : Fin 1024) : val_main_v27 (F := Ideal) X Y G W U (ix2 r j)
    = ∑ f : Fin 2816, Cert.Ffn.act (Cert.Ffn.rms (token X Y r) (row G)) (wIn W) f * wOut U f j := by
  rw [val_main_v27_apply]
  refine Finset.sum_congr rfl fun f _ => ?_
  have e : lidx_main_v27 (ix2 r j) f = ix2 r f := ext2 _ _ rfl rfl
  have e' : ridx_main_v27 (ix2 r j) f = ix2 f j := ext2 _ _ rfl rfl
  rw [e, e', v26_at, v21_at]

/-- The residual sum. -/
theorem v30_at (j : Fin 1024) : val_main_v30 (F := Ideal) X Y G W U (ix2 r j) = Cert.Ffn.res (token X Y r) (row G) (wIn W) (wOut U) j := by
  rw [val_main_v30_apply, val_main_v29_apply, val_main_v28_apply, v27_at]
  rfl

end Cert.Reference5Ideal.Ffn
end
-- ==== Proof.FfnBoth.Equation.lean ====
module

public import proofs.«01_k».proof.Proof.FfnBoth.Array
public import proofs.«01_k».proof.Proof.FfnBoth.Operands
public import proofs.«01_k».proof.Proof.FfnFirst.Value
public import proofs.«01_k».proof.Proof.FfnBoth.RefValue

/-! # The result of the feed-forward call on two arrays is its reference's -/

@[expose] public section

set_option maxRecDepth 16384

noncomputable section

namespace Cert.Kernel5Ideal.Ffn

open Cert.Kernel5Ideal Cert.Kernel5Ideal.Gen
open Idealize.ShloMosaic Idealize.ShloMosaic.ValueIdx
open Cert.Kernel2Ideal.Ffn (tokenAt gain wIn wOut)
open Cert.Kernel3Ideal.Ffn (outV outH_apply)

/-- The first array's rows. -/
def flatA (X : FVec Ideal S4x8192x1024 .f32) : FVec Ideal S32768x1024 .f32 := shapeCast S32768x1024 X shapeCasts_S4x8192x1024_S32768x1024
/-- The second array's rows. -/
def flatB (Y : FVec Ideal S8x8192x1024 .f32) : FVec Ideal S65536x1024 .f32 := shapeCast S65536x1024 Y shapeCasts_S8x8192x1024_S65536x1024

/-- The rows of the two arrays are the reference's tokens. -/
theorem rows_eq (X : FVec Ideal S4x8192x1024 .f32) (Y : FVec Ideal S8x8192x1024 .f32) (r : Fin 98304) (k : Fin 1024) : rows (F := Ideal) (flatA X) (flatB Y) r k = Cert.Reference5Ideal.Ffn.token X Y r k := by
  unfold rows
  by_cases h : r.val < 32768
  · rw [dif_pos h, Cert.Reference5Ideal.Ffn.token_left X Y r h k]
    rfl
  · rw [dif_neg h, Cert.Reference5Ideal.Ffn.token_right X Y r h k]
    rfl

/-- An element of the call's result, of its operands. -/
theorem ffnOut_apply (X : FVec Ideal S4x8192x1024 .f32) (Y : FVec Ideal S8x8192x1024 .f32) (G H : FVec Ideal S2x1024 .f32) (W : FVec Ideal S2x1024x5632 .f32) (U : FVec Ideal S2x2816x1024 .f32)
    (r : Fin 98304) (j : Fin 1024) :
    ffnOut (F := Ideal) (flatA X) (flatB Y) (row0 G) W U (row0 H) (ix2 r j)
      = Cert.Ffn.res (Cert.Reference5Ideal.Ffn.token X Y r) (Cert.Reference5Ideal.Ffn.row G) (Cert.Reference5Ideal.Ffn.wIn W)
          (Cert.Reference5Ideal.Ffn.wOut U) j := by
  unfold ffnOut outV
  refine (outH_apply _ _ _ _).trans ?_
  have et : tokenAt (insOf (F := Ideal) (flatA X) (flatB Y) (row0 G) W U (row0 H) ⟨r.val / 1024, by omega⟩) ⟨r.val % 1024 / 512, by omega⟩ ⟨r.val % 1024 % 512, by omega⟩
      = Cert.Reference5Ideal.Ffn.token X Y r := funext fun k => by
    refine Eq.trans ?_ (rows_eq X Y r k)
    refine congrArg (fun q => rows (F := Ideal) (flatA X) (flatB Y) q k) (Fin.ext ?_)
    show 1024 * (r.val / 1024) + (512 * (r.val % 1024 / 512) + r.val % 1024 % 512) = r.val
    omega
  have eg : gain (insOf (F := Ideal) (flatA X) (flatB Y) (row0 G) W U (row0 H) ⟨r.val / 1024, by omega⟩) = Cert.Reference5Ideal.Ffn.row G := funext fun k => row0_apply G k
  have ew : wIn (insOf (F := Ideal) (flatA X) (flatB Y) (row0 G) W U (row0 H) ⟨r.val / 1024, by omega⟩) = Cert.Reference5Ideal.Ffn.wIn W := rfl
  have eu : wOut (insOf (F := Ideal) (flatA X) (flatB Y) (row0 G) W U (row0 H) ⟨r.val / 1024, by omega⟩) = Cert.Reference5Ideal.Ffn.wOut U := rfl
  rw [← et, ← eg, ← ew, ← eu]

/-- The call's result is the reference's. -/
theorem ffnOut_eq (X : FVec Ideal S4x8192x1024 .f32) (Y : FVec Ideal S8x8192x1024 .f32) (G H : FVec Ideal S2x1024 .f32) (W : FVec Ideal S2x1024x5632 .f32) (U : FVec Ideal S2x2816x1024 .f32) :
    ffnOut (F := Ideal) (flatA X) (flatB Y) (row0 G) W U (row0 H) = Cert.Reference5Ideal.Read.val_main_v30 (F := Ideal) X Y G W U := by
  funext z
  have e : z = ix2 (z 0 : Fin 98304) (z 1 : Fin 1024) := Cert.Reference2Ideal.Ffn.ext2 _ _ rfl rfl
  rw [e]
  exact (ffnOut_apply X Y G H W U (z 0) (z 1)).trans (Cert.Reference5Ideal.Ffn.v30_at X Y G W U (z 0) (z 1)).symm

end Cert.Kernel5Ideal.Ffn
end
-- ==== Proof.FfnSamples.RefValue.lean ====
module

public import proofs.«01_k».proof.Proof.Gen.Reference4Ideal.Read
public import proofs.«01_k».proof.Proof.Ffn.RefValue

/-! # What the reference of the last feed-forward call for the samples computes -/

@[expose] public section

set_option maxRecDepth 16384

noncomputable section

namespace Cert.Reference4Ideal.Ffn

open Cert.Reference4Ideal Cert.Reference4Ideal.Gen Cert.Reference4Ideal.Read
open Idealize.ShloMosaic Idealize.ShloMosaic.ValueIdx

open Cert.Reference2Ideal.Ffn (row wIn wOut zero32 one32 ext2 ext3)

variable (X : FVec Ideal S98304x1024 .f32) (G : FVec Ideal S2x1024 .f32) (W : FVec Ideal S2x1024x5632 .f32) (U : FVec Ideal S2x2816x1024 .f32)
  (H : FVec Ideal S2x1024 .f32) (r : Fin 65536)

/-- Token `r`. -/
def token : Fin 1024 → EReal := fun k => X (ix2 (⟨32768 + r.val, by omega⟩ : Fin 98304) k)
theorem v0_at (k : Fin 1024) : val_main_v0 (F := Ideal) X (ix2 r k) = token X r k := by
  rw [val_main_v0_apply]
  exact congrArg X (ext2 _ _ rfl rfl)

theorem v14_at (k : Fin 1024) : val_main_v14 (F := Ideal) G (ix2 r k) = row G k := by
  rw [val_main_v14_apply, val_main_v13_apply, val_main_v2_apply, val_main_v1_apply]
  exact congrArg G (ext2 _ _ rfl (Nat.mod_eq_of_lt k.isLt))

theorem v42_at (k : Fin 1024) : val_main_v42 (F := Ideal) H (ix2 r k) = row H k := by
  rw [val_main_v42_apply, val_main_v41_apply, val_main_v30_apply, val_main_v29_apply]
  exact congrArg H (ext2 _ _ rfl (Nat.mod_eq_of_lt k.isLt))

theorem v17_at (k : Fin 1024) (f : Fin 5632) : val_main_v17 (F := Ideal) W (ix2 k f) = wIn W k f := by
  rw [val_main_v17_apply, val_main_v16_apply]
  refine congrArg W (ext3 _ _ rfl ?_ ?_)
  · show (k.val * 5632 + f.val) / 5632 % 1024 = k.val
    omega
  · show (k.val * 5632 + f.val) % 5632 = f.val
    omega

theorem v19_at (f : Fin 2816) (j : Fin 1024) : val_main_v19 (F := Ideal) U (ix2 f j) = wOut U f j := by
  rw [val_main_v19_apply, val_main_v18_apply]
  refine congrArg U (ext3 _ _ rfl ?_ ?_)
  · show (f.val * 1024 + j.val) / 1024 % 2816 = f.val
    omega
  · show (f.val * 1024 + j.val) % 1024 = j.val
    omega

/-- The sum of a token's squares. -/
theorem v4_at : val_main_v4 (F := Ideal) X (ix1 r) = ∑ k : Fin 1024, token X r k * token X r k := by
  rw [val_main_v4_apply, val_main_cst_apply, zero32, zero_add]
  refine Finset.sum_congr rfl fun k _ => ?_
  have e : idx_main_v4 (ix1 r) k = ix2 r k := ext2 _ _ rfl rfl
  rw [e, val_main_v3_apply, v0_at]
  rfl

/-- The factor that normalises a token. -/
theorem v11_at (k : Fin 1024) : val_main_v11 (F := Ideal) X (ix2 r k)
    = Ideal.rsqrt (Ideal.div (∑ k : Fin 1024, token X r k * token X r k) Cert.Ffn.count + Cert.Ffn.small) := by
  rw [val_main_v11_apply, val_main_v10_apply, val_main_v9_apply, val_main_v8_apply, val_main_v7_apply, val_main_v6_apply, val_main_v5_apply]
  have e : idx_main_v5 (idx_main_v11 (ix2 r k)) = ix1 r := funext fun a => Fin.ext (match a with | ⟨0, _⟩ => rfl)
  rw [e, v4_at]
  rfl

/-- A normalised token. -/
theorem v15_at (k : Fin 1024) : val_main_v15 (F := Ideal) X G (ix2 r k) = Cert.Ffn.rms (token X r) (row G) k := by
  rw [val_main_v15_apply, val_main_v12_apply, v0_at, v11_at, v14_at]
  rfl

/-- The first product. -/
theorem v20_at (f : Fin 5632) : val_main_v20 (F := Ideal) X G W (ix2 r f) = Cert.Ffn.proj (Cert.Ffn.rms (token X r) (row G)) (wIn W) f := by
  rw [val_main_v20_apply]
  unfold Cert.Ffn.proj
  refine Finset.sum_congr rfl fun k _ => ?_
  have e : lidx_main_v20 (ix2 r f) k = ix2 r k := ext2 _ _ rfl rfl
  have e' : ridx_main_v20 (ix2 r f) k = ix2 k f := ext2 _ _ rfl rfl
  rw [e, e', v15_at, v17_at]

theorem v21_at (f : Fin 2816) : val_main_v21 (F := Ideal) X G W (ix2 r f)
    = Cert.Ffn.proj (Cert.Ffn.rms (token X r) (row G)) (wIn W) ⟨f.val, by omega⟩ := by
  rw [val_main_v21_apply]
  have e : idx_main_v21 (ix2 r f) = ix2 r (⟨f.val, by omega⟩ : Fin 5632) := ext2 _ _ rfl rfl
  rw [e, v20_at]

theorem v22_at (f : Fin 2816) : val_main_v22 (F := Ideal) X G W (ix2 r f)
    = Cert.Ffn.proj (Cert.Ffn.rms (token X r) (row G)) (wIn W) ⟨2816 + f.val, by omega⟩ := by
  rw [val_main_v22_apply]
  have e : idx_main_v22 (ix2 r f) = ix2 r (⟨2816 + f.val, by omega⟩ : Fin 5632) := ext2 _ _ rfl rfl
  rw [e, v20_at]

/-- The gate. -/
theorem gate_at (f : Fin 2816) : val_main_call0_v5 (F := Ideal) X G W (ix2 r f)
    = Ideal.logistic (Cert.Ffn.proj (Cert.Ffn.rms (token X r) (row G)) (wIn W) ⟨f.val, by omega⟩) := by
  rw [val_main_call0_v5_apply, val_main_call0_v4_apply, val_main_call0_v3_apply, val_main_call0_v2_apply, val_main_call0_v1_apply,
    val_main_call0_v0_apply, val_main_call0_cst_apply, val_main_call0_cst_0_apply, one32, v21_at]
  rfl

/-- The gated activation. -/
theorem v24_at (f : Fin 2816) : val_main_v24 (F := Ideal) X G W (ix2 r f) = Cert.Ffn.act (Cert.Ffn.rms (token X r) (row G)) (wIn W) f := by
  rw [val_main_v24_apply, val_main_v23_apply, v21_at, v22_at, gate_at]
  rfl

/-- The second product. -/
theorem v25_at (j : Fin 1024) : val_main_v25 (F := Ideal) X G W U (ix2 r j)
    = ∑ f : Fin 2816, Cert.Ffn.act (Cert.Ffn.rms (token X r) (row G)) (wIn W) f * wOut U f j := by
  rw [val_main_v25_apply]
  refine Finset.sum_congr rfl fun f _ => ?_
  have e : lidx_main_v25 (ix2 r j) f = ix2 r f := ext2 _ _ rfl rfl
  have e' : ridx_main_v25 (ix2 r j) f = ix2 f j := ext2 _ _ rfl rfl
  rw [e, e', v24_at, v19_at]

/-- The residual sum. -/
theorem v28_at (j : Fin 1024) : val_main_v28 (F := Ideal) X G W U (ix2 r j) = Cert.Ffn.res (token X r) (row G) (wIn W) (wOut U) j := by
  rw [val_main_v28_apply, val_main_v27_apply, val_main_v26_apply, v0_at, v25_at]
  rfl

/-- The sum of its squares. -/
theorem v32_at : val_main_v32 (F := Ideal) X G W U (ix1 r)
    = ∑ k : Fin 1024, Cert.Ffn.res (token X r) (row G) (wIn W) (wOut U) k * Cert.Ffn.res (token X r) (row G) (wIn W) (wOut U) k := by
  rw [val_main_v32_apply, val_main_cst_3_apply, zero32, zero_add]
  refine Finset.sum_congr rfl fun k _ => ?_
  have e : idx_main_v32 (ix1 r) k = ix2 r k := ext2 _ _ rfl rfl
  rw [e, val_main_v31_apply, v28_at]
  rfl

/-- The factor that normalises it. -/
theorem v39_at (k : Fin 1024) : val_main_v39 (F := Ideal) X G W U (ix2 r k)
    = Ideal.rsqrt (Ideal.div (∑ k : Fin 1024, Cert.Ffn.res (token X r) (row G) (wIn W) (wOut U) k * Cert.Ffn.res (token X r) (row G) (wIn W) (wOut U) k)
        Cert.Ffn.count + Cert.Ffn.small) := by
  rw [val_main_v39_apply, val_main_v38_apply, val_main_v37_apply, val_main_v36_apply, val_main_v35_apply, val_main_v34_apply, val_main_v33_apply]
  have e : idx_main_v33 (idx_main_v39 (ix2 r k)) = ix1 r := funext fun a => Fin.ext (match a with | ⟨0, _⟩ => rfl)
  rw [e, v32_at]
  rfl

/-- An element of the reference's result. -/
theorem v43_at (j : Fin 1024) : val_main_v43 (F := Ideal) X G W U H (ix2 r j)
    = Cert.Ffn.tok (token X r) (row G) (wIn W) (wOut U) (row H) j := by
  rw [val_main_v43_apply, val_main_v40_apply, v28_at, v39_at, v42_at]
  rfl

end Cert.Reference4Ideal.Ffn
end
-- ==== Proof.FfnSamples.Equation.lean ====
module

public import proofs.«01_k».proof.Proof.Ffn.Value
public import proofs.«01_k».proof.Proof.FfnSamples.Operands
public import proofs.«01_k».proof.Proof.FfnSamples.RefValue

/-! # The result of the last feed-forward call for the samples is its reference's -/

@[expose] public section

set_option maxRecDepth 16384

noncomputable section

namespace Cert.Kernel4Ideal.Ffn

open Cert.Kernel4Ideal Cert.Kernel4Ideal.Gen
open Idealize.ShloMosaic Idealize.ShloMosaic.ValueIdx
open Cert.Kernel2Ideal.Ffn (row1 row1_apply tokenAt gain wIn wOut gainOut outV outH_apply)

/-- An element of the call's result, of its operands. -/
theorem ffnOut_apply (X : FVec Ideal S98304x1024 .f32) (G H : FVec Ideal S2x1024 .f32) (W : FVec Ideal S2x1024x5632 .f32) (U : FVec Ideal S2x2816x1024 .f32)
    (r : Fin 65536) (j : Fin 1024) :
    ffnOut (F := Ideal) X (row1 G) W U (row1 H) (ix2 r j)
      = Cert.Ffn.tok (Cert.Reference4Ideal.Ffn.token X r) (Cert.Reference2Ideal.Ffn.row G) (Cert.Reference2Ideal.Ffn.wIn W)
          (Cert.Reference2Ideal.Ffn.wOut U) (Cert.Reference2Ideal.Ffn.row H) j := by
  unfold ffnOut Cert.Kernel2Ideal.Ffn.outV
  refine (outH_apply _ _ _ _).trans ?_
  have et : tokenAt (insOf (F := Ideal) X (row1 G) W U (row1 H) ⟨r.val / 1024, by omega⟩) ⟨r.val % 1024 / 512, by omega⟩ ⟨r.val % 1024 % 512, by omega⟩
      = Cert.Reference4Ideal.Ffn.token X r := funext fun k => by
    refine congrArg X (Cert.Reference2Ideal.Ffn.ext2 _ _ ?_ rfl)
    show 1024 * (r.val / 1024 + 32) + (512 * (r.val % 1024 / 512) + r.val % 1024 % 512) = 32768 + r.val
    omega
  have eg : gain (insOf (F := Ideal) X (row1 G) W U (row1 H) ⟨r.val / 1024, by omega⟩) = Cert.Reference2Ideal.Ffn.row G := funext fun k => row1_apply G k
  have eh : gainOut (insOf (F := Ideal) X (row1 G) W U (row1 H) ⟨r.val / 1024, by omega⟩) = Cert.Reference2Ideal.Ffn.row H := funext fun k => row1_apply H k
  have ew : wIn (insOf (F := Ideal) X (row1 G) W U (row1 H) ⟨r.val / 1024, by omega⟩) = Cert.Reference2Ideal.Ffn.wIn W := rfl
  have eu : wOut (insOf (F := Ideal) X (row1 G) W U (row1 H) ⟨r.val / 1024, by omega⟩) = Cert.Reference2Ideal.Ffn.wOut U := rfl
  rw [← et, ← eg, ← eh, ← ew, ← eu]

/-- The call's result is the reference's. -/
theorem ffnOut_eq (X : FVec Ideal S98304x1024 .f32) (G H : FVec Ideal S2x1024 .f32) (W : FVec Ideal S2x1024x5632 .f32) (U : FVec Ideal S2x2816x1024 .f32) :
    ffnOut (F := Ideal) X (row1 G) W U (row1 H) = Cert.Reference4Ideal.Read.val_main_v43 (F := Ideal) X G W U H := by
  funext z
  have e : z = ix2 (z 0 : Fin 65536) (z 1 : Fin 1024) := Cert.Reference2Ideal.Ffn.ext2 _ _ rfl rfl
  rw [e]
  exact (ffnOut_apply X G H W U (z 0) (z 1)).trans (Cert.Reference4Ideal.Ffn.v43_at X G W U H (z 0) (z 1)).symm

end Cert.Kernel4Ideal.Ffn
end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Na.Run
public import proofs.«01_k».proof.Proof.Na.KernelFrame
public import proofs.«01_k».proof.Proof.Na.Operands
public import proofs.«01_k».proof.Proof.Na.Equation
public import proofs.«01_k».proof.Proof.Na.Finite
public import proofs.«01_k».proof.Proof.Ffn.Run
public import proofs.«01_k».proof.Proof.Ffn.Operands
public import proofs.«01_k».proof.Proof.Ffn.Equation
public import proofs.«01_k».proof.Proof.FfnFirst.Run
public import proofs.«01_k».proof.Proof.FfnFirst.Operands
public import proofs.«01_k».proof.Proof.FfnFirst.Equation
public import proofs.«01_k».proof.Proof.FfnSamples.Run
public import proofs.«01_k».proof.Proof.FfnSamples.Operands
public import proofs.«01_k».proof.Proof.FfnBoth.Equation
public import proofs.«01_k».proof.Proof.FfnSamples.Equation
public import Idealize.ShloMosaic.Adequacy
public import Idealize.ShloMosaic.Init

/-!
# The certificate

The frames of the programs, and the value claims: over the extended reals the attention kernel's result is its
reference's on every input whose queries, keys and biases are real numbers, and the result of each
feed-forward call is its reference's on every input.
-/

@[expose] public section

noncomputable section

namespace Cert.Proof

open Idealize.ShloMosaic Idealize.SL.Sem

/-- The reference leaves its arguments unchanged and declares no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result, of its arguments. -/
theorem result_eq (m : (ℓ : Loc Cert.KernelIdeal.nD Cert.KernelIdeal.τ Cert.KernelIdeal.sig) → Buf (Elt Ideal) ℓ) (h : Cert.Pre_KernelIdeal_finite m) (c : Dev Cert.KernelIdeal.nD) :
    Cert.KernelIdeal.Na.result m c
      = Cert.ReferenceIdeal.Read.val_main_v92 (F := Ideal) (m (c.tc.loc Cert.KernelIdeal.main_arg0)) (m (c.tc.loc Cert.KernelIdeal.main_arg1))
          (m (c.tc.loc Cert.KernelIdeal.main_arg2)) (m (c.tc.loc Cert.KernelIdeal.main_arg3)) := by
  have hr := Cert.Pre_finite.Na.real_args _ _ _ _ (h c)
  unfold Cert.KernelIdeal.Na.result
  rw [Cert.KernelIdeal.Na.V_queries, Cert.KernelIdeal.Na.V_table, Cert.KernelIdeal.Gen.V_main_arg1, Cert.KernelIdeal.Gen.V_main_arg2]
  exact Cert.KernelIdeal.Na.naOut_eq _ _ _ _ hr.1 hr.2.1 hr.2.2

/-- The kernel and the reference compute the same function. -/
theorem value : Cert.algebraic_KernelIdeal_ReferenceIdeal_pre_finite := fun m g m' g' hm hagree =>
  ⟨fun c => Cert.KernelIdeal.Na.result m c, Cert.KernelIdeal.Na.run (F := Ideal) m g,
    (θ_run Cert.ReferenceIdeal.defs _ _).mono (fun r h c => ⟨by
        refine (h c).1.trans ?_
        rw [Cert.ReferenceIdeal.Read.val_main_v92_eq, (hagree c).1, (hagree c).2.1, (hagree c).2.2.1, (hagree c).2.2.2]
        exact (result_eq m hm c).symm, (h c).2⟩)
      (Cert.ReferenceIdeal.Value.run (F := Ideal) m' g')⟩

/-- The feed-forward's reference leaves its arguments unchanged and declares no counter. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel's result, of its arguments. -/
theorem result2_eq (m : (ℓ : Loc Cert.Kernel2Ideal.nD Cert.Kernel2Ideal.τ Cert.Kernel2Ideal.sig) → Buf (Elt Ideal) ℓ) (c : Dev Cert.Kernel2Ideal.nD) :
    Cert.Kernel2Ideal.Ffn.result m c
      = Cert.Reference2Ideal.Read.val_main_v43 (F := Ideal) (m (c.tc.loc Cert.Kernel2Ideal.main_arg0)) (m (c.tc.loc Cert.Kernel2Ideal.main_arg1))
          (m (c.tc.loc Cert.Kernel2Ideal.main_arg2)) (m (c.tc.loc Cert.Kernel2Ideal.main_arg3)) (m (c.tc.loc Cert.Kernel2Ideal.main_arg4)) := by
  unfold Cert.Kernel2Ideal.Ffn.result
  rw [Cert.Kernel2Ideal.Gen.V_main_arg0, Cert.Kernel2Ideal.Ffn.V_gain, Cert.Kernel2Ideal.Ffn.V_wIn, Cert.Kernel2Ideal.Ffn.V_wOut, Cert.Kernel2Ideal.Ffn.V_gainOut]
  exact Cert.Kernel2Ideal.Ffn.ffnOut_eq _ _ _ _ _

/-- The feed-forward kernel and its reference compute the same function. -/
theorem value2 : Cert.algebraic_Kernel2Ideal_Reference2Ideal := fun m g m' g' _ hagree =>
  ⟨fun c => Cert.Kernel2Ideal.Ffn.result m c, Cert.Kernel2Ideal.Ffn.run (F := Ideal) m g,
    (θ_run Cert.Reference2Ideal.defs _ _).mono (fun r h c => ⟨by
        refine (h c).1.trans ?_
        rw [Cert.Reference2Ideal.Read.val_main_v43_eq, (hagree c).1, (hagree c).2.1, (hagree c).2.2.1, (hagree c).2.2.2.1, (hagree c).2.2.2.2]
        exact (result2_eq m c).symm, (h c).2⟩)
      (Cert.Reference2Ideal.Value.run (F := Ideal) m' g')⟩

/-- The reference of the first feed-forward call leaves its arguments unchanged and declares no counter. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The first feed-forward call's result, of its arguments. -/
theorem result3_eq (m : (ℓ : Loc Cert.Kernel3Ideal.nD Cert.Kernel3Ideal.τ Cert.Kernel3Ideal.sig) → Buf (Elt Ideal) ℓ) (c : Dev Cert.Kernel3Ideal.nD) :
    Cert.Kernel3Ideal.Ffn.result m c
      = Cert.Reference3Ideal.Read.val_main_v27 (F := Ideal) (m (c.tc.loc Cert.Kernel3Ideal.main_arg0)) (m (c.tc.loc Cert.Kernel3Ideal.main_arg1))
          (m (c.tc.loc Cert.Kernel3Ideal.main_arg2)) (m (c.tc.loc Cert.Kernel3Ideal.main_arg3)) := by
  unfold Cert.Kernel3Ideal.Ffn.result
  rw [Cert.Kernel3Ideal.Gen.V_main_arg0, Cert.Kernel3Ideal.Ffn.V_gain, Cert.Kernel3Ideal.Ffn.V_wIn, Cert.Kernel3Ideal.Ffn.V_wOut, Cert.Kernel3Ideal.Ffn.V_gainOut]
  exact Cert.Kernel3Ideal.Ffn.ffnOut_eq _ _ _ _ _

/-- The first feed-forward call and its reference compute the same function. -/
theorem value3 : Cert.algebraic_Kernel3Ideal_Reference3Ideal := fun m g m' g' _ hagree =>
  ⟨fun c => Cert.Kernel3Ideal.Ffn.result m c, Cert.Kernel3Ideal.Ffn.run (F := Ideal) m g,
    (θ_run Cert.Reference3Ideal.defs _ _).mono (fun r h c => ⟨by
        refine (h c).1.trans ?_
        rw [Cert.Reference3Ideal.Read.val_main_v27_eq, (hagree c).1, (hagree c).2.1, (hagree c).2.2.1, (hagree c).2.2.2.1]
        exact (result3_eq m c).symm, (h c).2⟩)
      (Cert.Reference3Ideal.Value.run (F := Ideal) m' g')⟩

/-- The samples' reference leaves its arguments unchanged and declares no counter. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The samples' feed-forward call's result, of its arguments. -/
theorem result4_eq (m : (ℓ : Loc Cert.Kernel4Ideal.nD Cert.Kernel4Ideal.τ Cert.Kernel4Ideal.sig) → Buf (Elt Ideal) ℓ) (c : Dev Cert.Kernel4Ideal.nD) :
    Cert.Kernel4Ideal.Ffn.result m c
      = Cert.Reference4Ideal.Read.val_main_v43 (F := Ideal) (m (c.tc.loc Cert.Kernel4Ideal.main_arg0)) (m (c.tc.loc Cert.Kernel4Ideal.main_arg1))
          (m (c.tc.loc Cert.Kernel4Ideal.main_arg2)) (m (c.tc.loc Cert.Kernel4Ideal.main_arg3)) (m (c.tc.loc Cert.Kernel4Ideal.main_arg4)) := by
  unfold Cert.Kernel4Ideal.Ffn.result
  rw [Cert.Kernel4Ideal.Gen.V_main_arg0, Cert.Kernel4Ideal.Ffn.V_gain, Cert.Kernel4Ideal.Ffn.V_wIn, Cert.Kernel4Ideal.Ffn.V_wOut, Cert.Kernel4Ideal.Ffn.V_gainOut]
  exact Cert.Kernel4Ideal.Ffn.ffnOut_eq _ _ _ _ _

/-- The samples' feed-forward call and its reference compute the same function. -/
theorem value4 : Cert.algebraic_Kernel4Ideal_Reference4Ideal := fun m g m' g' _ hagree =>
  ⟨fun c => Cert.Kernel4Ideal.Ffn.result m c, Cert.Kernel4Ideal.Ffn.run (F := Ideal) m g,
    (θ_run Cert.Reference4Ideal.defs _ _).mono (fun r h c => ⟨by
        refine (h c).1.trans ?_
        rw [Cert.Reference4Ideal.Read.val_main_v43_eq, (hagree c).1, (hagree c).2.1, (hagree c).2.2.1, (hagree c).2.2.2.1, (hagree c).2.2.2.2]
        exact (result4_eq m c).symm, (h c).2⟩)
      (Cert.Reference4Ideal.Value.run (F := Ideal) m' g')⟩

/-- The reference of the feed-forward call on two arrays leaves its arguments unchanged and declares no counter. -/
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The result of the feed-forward call on two arrays, of its arguments. -/
theorem result5_eq (m : (ℓ : Loc Cert.Kernel5Ideal.nD Cert.Kernel5Ideal.τ Cert.Kernel5Ideal.sig) → Buf (Elt Ideal) ℓ) (c : Dev Cert.Kernel5Ideal.nD) :
    Cert.Kernel5Ideal.Ffn.result m c
      = Cert.Reference5Ideal.Read.val_main_v30 (F := Ideal) (m (c.tc.loc Cert.Kernel5Ideal.main_arg0)) (m (c.tc.loc Cert.Kernel5Ideal.main_arg1))
          (m (c.tc.loc Cert.Kernel5Ideal.main_arg2)) (m (c.tc.loc Cert.Kernel5Ideal.main_arg3)) (m (c.tc.loc Cert.Kernel5Ideal.main_arg4)) := by
  unfold Cert.Kernel5Ideal.Ffn.result
  rw [Cert.Kernel5Ideal.Ffn.V_prompt, Cert.Kernel5Ideal.Ffn.V_sample, Cert.Kernel5Ideal.Ffn.V_gain, Cert.Kernel5Ideal.Ffn.V_wIn, Cert.Kernel5Ideal.Ffn.V_wOut,
    Cert.Kernel5Ideal.Ffn.V_gainOut]
  exact Cert.Kernel5Ideal.Ffn.ffnOut_eq _ _ _ _ _ _

/-- The feed-forward call on two arrays and its reference compute the same function. -/
theorem value5 : Cert.algebraic_Kernel5Ideal_Reference5Ideal := fun m g m' g' _ hagree =>
  ⟨fun c => Cert.Kernel5Ideal.Ffn.result m c, Cert.Kernel5Ideal.Ffn.run (F := Ideal) m g,
    (θ_run Cert.Reference5Ideal.defs _ _).mono (fun r h c => ⟨by
        refine (h c).1.trans ?_
        rw [Cert.Reference5Ideal.Read.val_main_v30_eq, (hagree c).1, (hagree c).2.1, (hagree c).2.2.1, (hagree c).2.2.2.1, (hagree c).2.2.2.2.1]
        exact (result5_eq m c).symm, (h c).2⟩)
      (Cert.Reference5Ideal.Value.run (F := Ideal) m' g')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts,
    fun m ρ _ => Cert.Kernel.Na.frame m ρ, fun m ρ _ => Cert.KernelIdeal.Na.frame m ρ, fun m ρ _ => Cert.KernelIdeal.Na.frame m ρ,
    reference_frame, fun m ρ _ => reference_frame m ρ trivial,
    fun m ρ _ => Cert.Kernel2.Gen.frame m ρ, fun m ρ _ => Cert.Kernel2Ideal.Ffn.frame m ρ, reference2_frame,
    fun m ρ _ => Cert.Kernel3.Gen.frame m ρ, fun m ρ _ => Cert.Kernel3Ideal.Ffn.frame m ρ, reference3_frame,
    fun m ρ _ => Cert.Kernel4.Gen.frame m ρ, fun m ρ _ => Cert.Kernel4Ideal.Ffn.frame m ρ, reference4_frame,
    fun m ρ _ => Cert.Kernel5.Gen.frame m ρ, fun m ρ _ => Cert.Kernel5Ideal.Ffn.frame m ρ, reference5_frame,
    trivial, value, trivial, value2, trivial, value3, trivial, value4, trivial, value5⟩

end Cert.Proof

end
